-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Forget (m : (ℓ : Loc Cert.Forget.nD Cert.Forget.τ Cert.Forget.sig) → Buf (Elt Bits) ℓ) : Prop :=
  True

def Pre_ForgetIdeal (m : (ℓ : Loc Cert.ForgetIdeal.nD Cert.ForgetIdeal.τ Cert.ForgetIdeal.sig) → Buf (Elt Ideal) ℓ) : Prop :=
  True

def Pre_ForgetRefIdeal (m : (ℓ : Loc Cert.ForgetRefIdeal.nD Cert.ForgetRefIdeal.τ Cert.ForgetRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.2 = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleIdeal_finite_ple [hPre_finite_ple : Cert.Pre_finite_ple.Facts] (m : (ℓ : Loc Cert.PleIdeal.nD Cert.PleIdeal.τ Cert.PleIdeal.sig) → Buf (Elt Ideal) ℓ) : Prop :=
  ∀ c : Dev Cert.PleIdeal.nD,
    (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7))).1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7))).2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7))).2.2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7))).2.2.2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7))).2.2.2.2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7))).2.2.2.2.2 = (fun _ => 1#1)

def Pre_PleRefIdeal (m : (ℓ : Loc Cert.PleRefIdeal.nD Cert.PleRefIdeal.τ Cert.PleRefIdeal.sig) → Buf (Elt Ideal) ℓ) : Prop :=
  True

def Pre_PleRefIdeal_finite_ple [hPre_finite_ple : Cert.Pre_finite_ple.Facts] (m : (ℓ : Loc Cert.PleRefIdeal.nD Cert.PleRefIdeal.τ Cert.PleRefIdeal.sig) → Buf (Elt Ideal) ℓ) : Prop :=
  ∀ c : Dev Cert.PleRefIdeal.nD,
    (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7))).1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7))).2.1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7))).2.2.1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7))).2.2.2.1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7))).2.2.2.2.1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7))).2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.2 = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_attn_fwd [hPre_finite_attn_fwd : Cert.Pre_finite_attn_fwd.Facts] (m : (ℓ : Loc Cert.FwdIdeal.nD Cert.FwdIdeal.τ Cert.FwdIdeal.sig) → Buf (Elt Ideal) ℓ) : Prop :=
  ∀ c : Dev Cert.FwdIdeal.nD,
    (Cert.Pre_finite_attn_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3))).1 = (fun _ => 1#1)
    ∧ (Cert.Pre_finite_attn_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3))).2.1 = (fun _ => 1#1)
    ∧ (Cert.Pre_finite_attn_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3))).2.2 = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_attn_fwd [hPre_finite_attn_fwd : Cert.Pre_finite_attn_fwd.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_attn_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3))).1 = (fun _ => 1#1)
    ∧ (Cert.Pre_finite_attn_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3))).2.1 = (fun _ => 1#1)
    ∧ (Cert.Pre_finite_attn_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3))).2.2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Cum (m : (ℓ : Loc Cert.Cum.nD Cert.Cum.τ Cert.Cum.sig) → Buf (Elt Bits) ℓ) : Prop :=
  True

def Pre_CumIdeal (m : (ℓ : Loc Cert.CumIdeal.nD Cert.CumIdeal.τ Cert.CumIdeal.sig) → Buf (Elt Ideal) ℓ) : Prop :=
  True

def Pre_CumRefIdeal (m : (ℓ : Loc Cert.CumRefIdeal.nD Cert.CumRefIdeal.τ Cert.CumRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Ffw (m : (ℓ : Loc Cert.Ffw.nD Cert.Ffw.τ Cert.Ffw.sig) → Buf (Elt Bits) ℓ) : Prop :=
  True

def Pre_FfwIdeal (m : (ℓ : Loc Cert.FfwIdeal.nD Cert.FfwIdeal.τ Cert.FfwIdeal.sig) → Buf (Elt Ideal) ℓ) : Prop :=
  True

def Pre_FfwRefIdeal (m : (ℓ : Loc Cert.FfwRefIdeal.nD Cert.FfwRefIdeal.τ Cert.FfwRefIdeal.sig) → Buf (Elt Ideal) ℓ) : Prop :=
  True

def Pre_Mtf (m : (ℓ : Loc Cert.Mtf.nD Cert.Mtf.τ Cert.Mtf.sig) → Buf (Elt Bits) ℓ) : Prop :=
  True

def Pre_MtfIdeal (m : (ℓ : Loc Cert.MtfIdeal.nD Cert.MtfIdeal.τ Cert.MtfIdeal.sig) → Buf (Elt Ideal) ℓ) : Prop :=
  True

def Pre_MtfRefIdeal (m : (ℓ : Loc Cert.MtfRefIdeal.nD Cert.MtfRefIdeal.τ Cert.MtfRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Tok (m : (ℓ : Loc Cert.Tok.nD Cert.Tok.τ Cert.Tok.sig) → Buf (Elt Bits) ℓ) : Prop :=
  True

def Pre_TokIdeal (m : (ℓ : Loc Cert.TokIdeal.nD Cert.TokIdeal.τ Cert.TokIdeal.sig) → Buf (Elt Ideal) ℓ) : Prop :=
  True

def Pre_TokRefIdeal (m : (ℓ : Loc Cert.TokRefIdeal.nD Cert.TokRefIdeal.τ Cert.TokRefIdeal.sig) → Buf (Elt Ideal) ℓ) : Prop :=
  True

def Pre_Wgt (m : (ℓ : Loc Cert.Wgt.nD Cert.Wgt.τ Cert.Wgt.sig) → Buf (Elt Bits) ℓ) : Prop :=
  True

def Pre_WgtIdeal (m : (ℓ : Loc Cert.WgtIdeal.nD Cert.WgtIdeal.τ Cert.WgtIdeal.sig) → Buf (Elt Ideal) ℓ) : Prop :=
  True

def Pre_WgtRefIdeal (m : (ℓ : Loc Cert.WgtRefIdeal.nD Cert.WgtRefIdeal.τ Cert.WgtRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Forget [hForget : Cert.Forget.Facts] : Prop :=
  ∀ (m : (ℓ : Loc Cert.Forget.nD Cert.Forget.τ Cert.Forget.sig) → Buf (Elt Bits) ℓ) (g : Dev Cert.Forget.nD → PrngReg), Pre_Forget m →
    θ_run (Cert.Forget.defs (F := Bits)) (onTc (τ := Cert.Forget.τ) (Cert.Forget.main (F := Bits))) ⟨m, fun _ => 0, g⟩ (fun r => (∀ c : Dev Cert.Forget.nD,
      r.2.mem ((c.tc : Thread Cert.Forget.nD Cert.Forget.τ).loc Cert.Forget.main_arg0) = m ((c.tc : Thread Cert.Forget.nD Cert.Forget.τ).loc Cert.Forget.main_arg0)
      ∧ r.2.mem ((c.tc : Thread Cert.Forget.nD Cert.Forget.τ).loc Cert.Forget.main_arg1) = m ((c.tc : Thread Cert.Forget.nD Cert.Forget.τ).loc Cert.Forget.main_arg1)
      ∧ r.2.mem ((c.tc : Thread Cert.Forget.nD Cert.Forget.τ).loc Cert.Forget.main_arg2) = m ((c.tc : Thread Cert.Forget.nD Cert.Forget.τ).loc Cert.Forget.main_arg2)
      ∧ r.2.mem ((c.tc : Thread Cert.Forget.nD Cert.Forget.τ).loc Cert.Forget.main_arg3) = m ((c.tc : Thread Cert.Forget.nD Cert.Forget.τ).loc Cert.Forget.main_arg3))
      ∧ r.2.sem = fun _ => 0)

def quiescent_ForgetIdeal [hForgetIdeal : Cert.ForgetIdeal.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
      ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2)
      ∧ r.2.mem ((c.tc : Thread Cert.ForgetIdeal.nD Cert.ForgetIdeal.τ).loc Cert.ForgetIdeal.main_arg3) = m ((c.tc : Thread Cert.ForgetIdeal.nD Cert.ForgetIdeal.τ).loc Cert.ForgetIdeal.main_arg3))
      ∧ r.2.sem = fun _ => 0)

def quiescent_ForgetRefIdeal [hForgetRefIdeal : Cert.ForgetRefIdeal.Facts] : Prop :=
  ∀ (m : (ℓ : Loc Cert.ForgetRefIdeal.nD Cert.ForgetRefIdeal.τ Cert.ForgetRefIdeal.sig) → Buf (Elt Ideal) ℓ) (g : Dev Cert.ForgetRefIdeal.nD → PrngReg), Pre_ForgetRefIdeal m →
    θ_run (Cert.ForgetRefIdeal.defs (F := Ideal)) (onTc (τ := Cert.ForgetRefIdeal.τ) (Cert.ForgetRefIdeal.main (F := Ideal))) ⟨m, fun _ => 0, g⟩ (fun r => (∀ c : Dev Cert.ForgetRefIdeal.nD,
      r.2.mem ((c.tc : Thread Cert.ForgetRefIdeal.nD Cert.ForgetRefIdeal.τ).loc Cert.ForgetRefIdeal.main_arg0) = m ((c.tc : Thread Cert.ForgetRefIdeal.nD Cert.ForgetRefIdeal.τ).loc Cert.ForgetRefIdeal.main_arg0)
      ∧ r.2.mem ((c.tc : Thread Cert.ForgetRefIdeal.nD Cert.ForgetRefIdeal.τ).loc Cert.ForgetRefIdeal.main_arg1) = m ((c.tc : Thread Cert.ForgetRefIdeal.nD Cert.ForgetRefIdeal.τ).loc Cert.ForgetRefIdeal.main_arg1)
      ∧ r.2.mem ((c.tc : Thread Cert.ForgetRefIdeal.nD Cert.ForgetRefIdeal.τ).loc Cert.ForgetRefIdeal.main_arg2) = m ((c.tc : Thread Cert.ForgetRefIdeal.nD Cert.ForgetRefIdeal.τ).loc Cert.ForgetRefIdeal.main_arg2)
      ∧ r.2.mem ((c.tc : Thread Cert.ForgetRefIdeal.nD Cert.ForgetRefIdeal.τ).loc Cert.ForgetRefIdeal.main_arg3) = m ((c.tc : Thread Cert.ForgetRefIdeal.nD Cert.ForgetRefIdeal.τ).loc Cert.ForgetRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6)
      ∧ r.2.mem ((c.tc : Thread Cert.Ple.nD Cert.Ple.τ).loc Cert.Ple.main_arg7) = m ((c.tc : Thread Cert.Ple.nD Cert.Ple.τ).loc Cert.Ple.main_arg7))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
      ∧ r.2.mem ((c.tc : Thread Cert.PleIdeal.nD Cert.PleIdeal.τ).loc Cert.PleIdeal.main_arg7) = m ((c.tc : Thread Cert.PleIdeal.nD Cert.PleIdeal.τ).loc Cert.PleIdeal.main_arg7))
      ∧ r.2.sem = fun _ => 0)

def quiescent_PleIdeal_pre_finite_ple [hPleIdeal : Cert.PleIdeal.Facts] [hPre_finite_ple : Cert.Pre_finite_ple.Facts] : Prop :=
  ∀ (m : (ℓ : Loc Cert.PleIdeal.nD Cert.PleIdeal.τ Cert.PleIdeal.sig) → Buf (Elt Ideal) ℓ) (g : Dev Cert.PleIdeal.nD → PrngReg), Pre_PleIdeal_finite_ple m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
      ∧ r.2.mem ((c.tc : Thread Cert.PleIdeal.nD Cert.PleIdeal.τ).loc Cert.PleIdeal.main_arg7) = m ((c.tc : Thread Cert.PleIdeal.nD Cert.PleIdeal.τ).loc Cert.PleIdeal.main_arg7))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6)
      ∧ r.2.mem ((c.tc : Thread Cert.PleRefIdeal.nD Cert.PleRefIdeal.τ).loc Cert.PleRefIdeal.main_arg7) = m ((c.tc : Thread Cert.PleRefIdeal.nD Cert.PleRefIdeal.τ).loc Cert.PleRefIdeal.main_arg7))
      ∧ r.2.sem = fun _ => 0)

def quiescent_PleRefIdeal_pre_finite_ple [hPleRefIdeal : Cert.PleRefIdeal.Facts] [hPre_finite_ple : Cert.Pre_finite_ple.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal_finite_ple m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6)
      ∧ r.2.mem ((c.tc : Thread Cert.PleRefIdeal.nD Cert.PleRefIdeal.τ).loc Cert.PleRefIdeal.main_arg7) = m ((c.tc : Thread Cert.PleRefIdeal.nD Cert.PleRefIdeal.τ).loc Cert.PleRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_FwdIdeal_pre_finite_attn_fwd [hFwdIdeal : Cert.FwdIdeal.Facts] [hPre_finite_attn_fwd : Cert.Pre_finite_attn_fwd.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_attn_fwd m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3))
      ∧ r.2.sem = fun _ => 0)

def quiescent_FwdRefIdeal_pre_finite_attn_fwd [hFwdRefIdeal : Cert.FwdRefIdeal.Facts] [hPre_finite_attn_fwd : Cert.Pre_finite_attn_fwd.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_attn_fwd m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_Cum [hCum : Cert.Cum.Facts] : Prop :=
  ∀ (m : (ℓ : Loc Cert.Cum.nD Cert.Cum.τ Cert.Cum.sig) → Buf (Elt Bits) ℓ) (g : Dev Cert.Cum.nD → PrngReg), Pre_Cum m →
    θ_run (Cert.Cum.defs (F := Bits)) (onTc (τ := Cert.Cum.τ) (Cert.Cum.main (F := Bits))) ⟨m, fun _ => 0, g⟩ (fun r => (∀ c : Dev Cert.Cum.nD,
      r.2.mem ((c.tc : Thread Cert.Cum.nD Cert.Cum.τ).loc Cert.Cum.main_arg0) = m ((c.tc : Thread Cert.Cum.nD Cert.Cum.τ).loc Cert.Cum.main_arg0)
      ∧ r.2.mem ((c.tc : Thread Cert.Cum.nD Cert.Cum.τ).loc Cert.Cum.main_arg1) = m ((c.tc : Thread Cert.Cum.nD Cert.Cum.τ).loc Cert.Cum.main_arg1))
      ∧ r.2.sem = fun _ => 0)

def quiescent_CumIdeal [hCumIdeal : Cert.CumIdeal.Facts] : Prop :=
  ∀ (m : (ℓ : Loc Cert.CumIdeal.nD Cert.CumIdeal.τ Cert.CumIdeal.sig) → Buf (Elt Ideal) ℓ) (g : Dev Cert.CumIdeal.nD → PrngReg), Pre_CumIdeal m →
    θ_run (Cert.CumIdeal.defs (F := Ideal)) (onTc (τ := Cert.CumIdeal.τ) (Cert.CumIdeal.main (F := Ideal))) ⟨m, fun _ => 0, g⟩ (fun r => (∀ c : Dev Cert.CumIdeal.nD,
      r.2.mem ((c.tc : Thread Cert.CumIdeal.nD Cert.CumIdeal.τ).loc Cert.CumIdeal.main_arg0) = m ((c.tc : Thread Cert.CumIdeal.nD Cert.CumIdeal.τ).loc Cert.CumIdeal.main_arg0)
      ∧ r.2.mem ((c.tc : Thread Cert.CumIdeal.nD Cert.CumIdeal.τ).loc Cert.CumIdeal.main_arg1) = m ((c.tc : Thread Cert.CumIdeal.nD Cert.CumIdeal.τ).loc Cert.CumIdeal.main_arg1))
      ∧ r.2.sem = fun _ => 0)

def quiescent_CumRefIdeal [hCumRefIdeal : Cert.CumRefIdeal.Facts] : Prop :=
  ∀ (m : (ℓ : Loc Cert.CumRefIdeal.nD Cert.CumRefIdeal.τ Cert.CumRefIdeal.sig) → Buf (Elt Ideal) ℓ) (g : Dev Cert.CumRefIdeal.nD → PrngReg), Pre_CumRefIdeal m →
    θ_run (Cert.CumRefIdeal.defs (F := Ideal)) (onTc (τ := Cert.CumRefIdeal.τ) (Cert.CumRefIdeal.main (F := Ideal))) ⟨m, fun _ => 0, g⟩ (fun r => (∀ c : Dev Cert.CumRefIdeal.nD,
      r.2.mem ((c.tc : Thread Cert.CumRefIdeal.nD Cert.CumRefIdeal.τ).loc Cert.CumRefIdeal.main_arg0) = m ((c.tc : Thread Cert.CumRefIdeal.nD Cert.CumRefIdeal.τ).loc Cert.CumRefIdeal.main_arg0)
      ∧ r.2.mem ((c.tc : Thread Cert.CumRefIdeal.nD Cert.CumRefIdeal.τ).loc Cert.CumRefIdeal.main_arg1) = m ((c.tc : Thread Cert.CumRefIdeal.nD Cert.CumRefIdeal.τ).loc Cert.CumRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4))
      ∧ r.2.sem = fun _ => 0)

def quiescent_Ffw [hFfw : Cert.Ffw.Facts] : Prop :=
  ∀ (m : (ℓ : Loc Cert.Ffw.nD Cert.Ffw.τ Cert.Ffw.sig) → Buf (Elt Bits) ℓ) (g : Dev Cert.Ffw.nD → PrngReg), Pre_Ffw m →
    θ_run (Cert.Ffw.defs (F := Bits)) (onTc (τ := Cert.Ffw.τ) (Cert.Ffw.main (F := Bits))) ⟨m, fun _ => 0, g⟩ (fun r => (∀ c : Dev Cert.Ffw.nD,
      r.2.mem ((c.tc : Thread Cert.Ffw.nD Cert.Ffw.τ).loc Cert.Ffw.main_arg0) = m ((c.tc : Thread Cert.Ffw.nD Cert.Ffw.τ).loc Cert.Ffw.main_arg0)
      ∧ r.2.mem ((c.tc : Thread Cert.Ffw.nD Cert.Ffw.τ).loc Cert.Ffw.main_arg1) = m ((c.tc : Thread Cert.Ffw.nD Cert.Ffw.τ).loc Cert.Ffw.main_arg1)
      ∧ r.2.mem ((c.tc : Thread Cert.Ffw.nD Cert.Ffw.τ).loc Cert.Ffw.main_arg2) = m ((c.tc : Thread Cert.Ffw.nD Cert.Ffw.τ).loc Cert.Ffw.main_arg2)
      ∧ r.2.mem ((c.tc : Thread Cert.Ffw.nD Cert.Ffw.τ).loc Cert.Ffw.main_arg3) = m ((c.tc : Thread Cert.Ffw.nD Cert.Ffw.τ).loc Cert.Ffw.main_arg3)
      ∧ r.2.mem ((c.tc : Thread Cert.Ffw.nD Cert.Ffw.τ).loc Cert.Ffw.main_arg4) = m ((c.tc : Thread Cert.Ffw.nD Cert.Ffw.τ).loc Cert.Ffw.main_arg4))
      ∧ r.2.sem = fun _ => 0)

def quiescent_FfwIdeal [hFfwIdeal : Cert.FfwIdeal.Facts] : Prop :=
  ∀ (m : (ℓ : Loc Cert.FfwIdeal.nD Cert.FfwIdeal.τ Cert.FfwIdeal.sig) → Buf (Elt Ideal) ℓ) (g : Dev Cert.FfwIdeal.nD → PrngReg), Pre_FfwIdeal m →
    θ_run (Cert.FfwIdeal.defs (F := Ideal)) (onTc (τ := Cert.FfwIdeal.τ) (Cert.FfwIdeal.main (F := Ideal))) ⟨m, fun _ => 0, g⟩ (fun r => (∀ c : Dev Cert.FfwIdeal.nD,
      r.2.mem ((c.tc : Thread Cert.FfwIdeal.nD Cert.FfwIdeal.τ).loc Cert.FfwIdeal.main_arg0) = m ((c.tc : Thread Cert.FfwIdeal.nD Cert.FfwIdeal.τ).loc Cert.FfwIdeal.main_arg0)
      ∧ r.2.mem ((c.tc : Thread Cert.FfwIdeal.nD Cert.FfwIdeal.τ).loc Cert.FfwIdeal.main_arg1) = m ((c.tc : Thread Cert.FfwIdeal.nD Cert.FfwIdeal.τ).loc Cert.FfwIdeal.main_arg1)
      ∧ r.2.mem ((c.tc : Thread Cert.FfwIdeal.nD Cert.FfwIdeal.τ).loc Cert.FfwIdeal.main_arg2) = m ((c.tc : Thread Cert.FfwIdeal.nD Cert.FfwIdeal.τ).loc Cert.FfwIdeal.main_arg2)
      ∧ r.2.mem ((c.tc : Thread Cert.FfwIdeal.nD Cert.FfwIdeal.τ).loc Cert.FfwIdeal.main_arg3) = m ((c.tc : Thread Cert.FfwIdeal.nD Cert.FfwIdeal.τ).loc Cert.FfwIdeal.main_arg3)
      ∧ r.2.mem ((c.tc : Thread Cert.FfwIdeal.nD Cert.FfwIdeal.τ).loc Cert.FfwIdeal.main_arg4) = m ((c.tc : Thread Cert.FfwIdeal.nD Cert.FfwIdeal.τ).loc Cert.FfwIdeal.main_arg4))
      ∧ r.2.sem = fun _ => 0)

def quiescent_FfwRefIdeal [hFfwRefIdeal : Cert.FfwRefIdeal.Facts] : Prop :=
  ∀ (m : (ℓ : Loc Cert.FfwRefIdeal.nD Cert.FfwRefIdeal.τ Cert.FfwRefIdeal.sig) → Buf (Elt Ideal) ℓ) (g : Dev Cert.FfwRefIdeal.nD → PrngReg), Pre_FfwRefIdeal m →
    θ_run (Cert.FfwRefIdeal.defs (F := Ideal)) (onTc (τ := Cert.FfwRefIdeal.τ) (Cert.FfwRefIdeal.main (F := Ideal))) ⟨m, fun _ => 0, g⟩ (fun r => (∀ c : Dev Cert.FfwRefIdeal.nD,
      r.2.mem ((c.tc : Thread Cert.FfwRefIdeal.nD Cert.FfwRefIdeal.τ).loc Cert.FfwRefIdeal.main_arg0) = m ((c.tc : Thread Cert.FfwRefIdeal.nD Cert.FfwRefIdeal.τ).loc Cert.FfwRefIdeal.main_arg0)
      ∧ r.2.mem ((c.tc : Thread Cert.FfwRefIdeal.nD Cert.FfwRefIdeal.τ).loc Cert.FfwRefIdeal.main_arg1) = m ((c.tc : Thread Cert.FfwRefIdeal.nD Cert.FfwRefIdeal.τ).loc Cert.FfwRefIdeal.main_arg1)
      ∧ r.2.mem ((c.tc : Thread Cert.FfwRefIdeal.nD Cert.FfwRefIdeal.τ).loc Cert.FfwRefIdeal.main_arg2) = m ((c.tc : Thread Cert.FfwRefIdeal.nD Cert.FfwRefIdeal.τ).loc Cert.FfwRefIdeal.main_arg2)
      ∧ r.2.mem ((c.tc : Thread Cert.FfwRefIdeal.nD Cert.FfwRefIdeal.τ).loc Cert.FfwRefIdeal.main_arg3) = m ((c.tc : Thread Cert.FfwRefIdeal.nD Cert.FfwRefIdeal.τ).loc Cert.FfwRefIdeal.main_arg3)
      ∧ r.2.mem ((c.tc : Thread Cert.FfwRefIdeal.nD Cert.FfwRefIdeal.τ).loc Cert.FfwRefIdeal.main_arg4) = m ((c.tc : Thread Cert.FfwRefIdeal.nD Cert.FfwRefIdeal.τ).loc Cert.FfwRefIdeal.main_arg4))
      ∧ r.2.sem = fun _ => 0)

def quiescent_Mtf [hMtf : Cert.Mtf.Facts] : Prop :=
  ∀ (m : (ℓ : Loc Cert.Mtf.nD Cert.Mtf.τ Cert.Mtf.sig) → Buf (Elt Bits) ℓ) (g : Dev Cert.Mtf.nD → PrngReg), Pre_Mtf m →
    θ_run (Cert.Mtf.defs (F := Bits)) (onTc (τ := Cert.Mtf.τ) (Cert.Mtf.main (F := Bits))) ⟨m, fun _ => 0, g⟩ (fun r => (∀ c : Dev Cert.Mtf.nD,
      r.2.mem ((c.tc : Thread Cert.Mtf.nD Cert.Mtf.τ).loc Cert.Mtf.main_arg0) = m ((c.tc : Thread Cert.Mtf.nD Cert.Mtf.τ).loc Cert.Mtf.main_arg0)
      ∧ r.2.mem ((c.tc : Thread Cert.Mtf.nD Cert.Mtf.τ).loc Cert.Mtf.main_arg1) = m ((c.tc : Thread Cert.Mtf.nD Cert.Mtf.τ).loc Cert.Mtf.main_arg1)
      ∧ r.2.mem ((c.tc : Thread Cert.Mtf.nD Cert.Mtf.τ).loc Cert.Mtf.main_arg2) = m ((c.tc : Thread Cert.Mtf.nD Cert.Mtf.τ).loc Cert.Mtf.main_arg2)
      ∧ r.2.mem ((c.tc : Thread Cert.Mtf.nD Cert.Mtf.τ).loc Cert.Mtf.main_arg3) = m ((c.tc : Thread Cert.Mtf.nD Cert.Mtf.τ).loc Cert.Mtf.main_arg3)
      ∧ r.2.mem ((c.tc : Thread Cert.Mtf.nD Cert.Mtf.τ).loc Cert.Mtf.main_arg4) = m ((c.tc : Thread Cert.Mtf.nD Cert.Mtf.τ).loc Cert.Mtf.main_arg4)
      ∧ r.2.mem ((c.tc : Thread Cert.Mtf.nD Cert.Mtf.τ).loc Cert.Mtf.main_arg5) = m ((c.tc : Thread Cert.Mtf.nD Cert.Mtf.τ).loc Cert.Mtf.main_arg5)
      ∧ r.2.mem ((c.tc : Thread Cert.Mtf.nD Cert.Mtf.τ).loc Cert.Mtf.main_arg6) = m ((c.tc : Thread Cert.Mtf.nD Cert.Mtf.τ).loc Cert.Mtf.main_arg6)
      ∧ r.2.mem ((c.tc : Thread Cert.Mtf.nD Cert.Mtf.τ).loc Cert.Mtf.main_arg7) = m ((c.tc : Thread Cert.Mtf.nD Cert.Mtf.τ).loc Cert.Mtf.main_arg7)
      ∧ r.2.mem ((c.tc : Thread Cert.Mtf.nD Cert.Mtf.τ).loc Cert.Mtf.main_arg8) = m ((c.tc : Thread Cert.Mtf.nD Cert.Mtf.τ).loc Cert.Mtf.main_arg8))
      ∧ r.2.sem = fun _ => 0)

def quiescent_MtfIdeal [hMtfIdeal : Cert.MtfIdeal.Facts] : Prop :=
  ∀ (m : (ℓ : Loc Cert.MtfIdeal.nD Cert.MtfIdeal.τ Cert.MtfIdeal.sig) → Buf (Elt Ideal) ℓ) (g : Dev Cert.MtfIdeal.nD → PrngReg), Pre_MtfIdeal m →
    θ_run (Cert.MtfIdeal.defs (F := Ideal)) (onTc (τ := Cert.MtfIdeal.τ) (Cert.MtfIdeal.main (F := Ideal))) ⟨m, fun _ => 0, g⟩ (fun r => (∀ c : Dev Cert.MtfIdeal.nD,
      r.2.mem ((c.tc : Thread Cert.MtfIdeal.nD Cert.MtfIdeal.τ).loc Cert.MtfIdeal.main_arg0) = m ((c.tc : Thread Cert.MtfIdeal.nD Cert.MtfIdeal.τ).loc Cert.MtfIdeal.main_arg0)
      ∧ r.2.mem ((c.tc : Thread Cert.MtfIdeal.nD Cert.MtfIdeal.τ).loc Cert.MtfIdeal.main_arg1) = m ((c.tc : Thread Cert.MtfIdeal.nD Cert.MtfIdeal.τ).loc Cert.MtfIdeal.main_arg1)
      ∧ r.2.mem ((c.tc : Thread Cert.MtfIdeal.nD Cert.MtfIdeal.τ).loc Cert.MtfIdeal.main_arg2) = m ((c.tc : Thread Cert.MtfIdeal.nD Cert.MtfIdeal.τ).loc Cert.MtfIdeal.main_arg2)
      ∧ r.2.mem ((c.tc : Thread Cert.MtfIdeal.nD Cert.MtfIdeal.τ).loc Cert.MtfIdeal.main_arg3) = m ((c.tc : Thread Cert.MtfIdeal.nD Cert.MtfIdeal.τ).loc Cert.MtfIdeal.main_arg3)
      ∧ r.2.mem ((c.tc : Thread Cert.MtfIdeal.nD Cert.MtfIdeal.τ).loc Cert.MtfIdeal.main_arg4) = m ((c.tc : Thread Cert.MtfIdeal.nD Cert.MtfIdeal.τ).loc Cert.MtfIdeal.main_arg4)
      ∧ r.2.mem ((c.tc : Thread Cert.MtfIdeal.nD Cert.MtfIdeal.τ).loc Cert.MtfIdeal.main_arg5) = m ((c.tc : Thread Cert.MtfIdeal.nD Cert.MtfIdeal.τ).loc Cert.MtfIdeal.main_arg5)
      ∧ r.2.mem ((c.tc : Thread Cert.MtfIdeal.nD Cert.MtfIdeal.τ).loc Cert.MtfIdeal.main_arg6) = m ((c.tc : Thread Cert.MtfIdeal.nD Cert.MtfIdeal.τ).loc Cert.MtfIdeal.main_arg6)
      ∧ r.2.mem ((c.tc : Thread Cert.MtfIdeal.nD Cert.MtfIdeal.τ).loc Cert.MtfIdeal.main_arg7) = m ((c.tc : Thread Cert.MtfIdeal.nD Cert.MtfIdeal.τ).loc Cert.MtfIdeal.main_arg7)
      ∧ r.2.mem ((c.tc : Thread Cert.MtfIdeal.nD Cert.MtfIdeal.τ).loc Cert.MtfIdeal.main_arg8) = m ((c.tc : Thread Cert.MtfIdeal.nD Cert.MtfIdeal.τ).loc Cert.MtfIdeal.main_arg8))
      ∧ r.2.sem = fun _ => 0)

def quiescent_MtfRefIdeal [hMtfRefIdeal : Cert.MtfRefIdeal.Facts] : Prop :=
  ∀ (m : (ℓ : Loc Cert.MtfRefIdeal.nD Cert.MtfRefIdeal.τ Cert.MtfRefIdeal.sig) → Buf (Elt Ideal) ℓ) (g : Dev Cert.MtfRefIdeal.nD → PrngReg), Pre_MtfRefIdeal m →
    θ_run (Cert.MtfRefIdeal.defs (F := Ideal)) (onTc (τ := Cert.MtfRefIdeal.τ) (Cert.MtfRefIdeal.main (F := Ideal))) ⟨m, fun _ => 0, g⟩ (fun r => (∀ c : Dev Cert.MtfRefIdeal.nD,
      r.2.mem ((c.tc : Thread Cert.MtfRefIdeal.nD Cert.MtfRefIdeal.τ).loc Cert.MtfRefIdeal.main_arg0) = m ((c.tc : Thread Cert.MtfRefIdeal.nD Cert.MtfRefIdeal.τ).loc Cert.MtfRefIdeal.main_arg0)
      ∧ r.2.mem ((c.tc : Thread Cert.MtfRefIdeal.nD Cert.MtfRefIdeal.τ).loc Cert.MtfRefIdeal.main_arg1) = m ((c.tc : Thread Cert.MtfRefIdeal.nD Cert.MtfRefIdeal.τ).loc Cert.MtfRefIdeal.main_arg1)
      ∧ r.2.mem ((c.tc : Thread Cert.MtfRefIdeal.nD Cert.MtfRefIdeal.τ).loc Cert.MtfRefIdeal.main_arg2) = m ((c.tc : Thread Cert.MtfRefIdeal.nD Cert.MtfRefIdeal.τ).loc Cert.MtfRefIdeal.main_arg2)
      ∧ r.2.mem ((c.tc : Thread Cert.MtfRefIdeal.nD Cert.MtfRefIdeal.τ).loc Cert.MtfRefIdeal.main_arg3) = m ((c.tc : Thread Cert.MtfRefIdeal.nD Cert.MtfRefIdeal.τ).loc Cert.MtfRefIdeal.main_arg3)
      ∧ r.2.mem ((c.tc : Thread Cert.MtfRefIdeal.nD Cert.MtfRefIdeal.τ).loc Cert.MtfRefIdeal.main_arg4) = m ((c.tc : Thread Cert.MtfRefIdeal.nD Cert.MtfRefIdeal.τ).loc Cert.MtfRefIdeal.main_arg4)
      ∧ r.2.mem ((c.tc : Thread Cert.MtfRefIdeal.nD Cert.MtfRefIdeal.τ).loc Cert.MtfRefIdeal.main_arg5) = m ((c.tc : Thread Cert.MtfRefIdeal.nD Cert.MtfRefIdeal.τ).loc Cert.MtfRefIdeal.main_arg5)
      ∧ r.2.mem ((c.tc : Thread Cert.MtfRefIdeal.nD Cert.MtfRefIdeal.τ).loc Cert.MtfRefIdeal.main_arg6) = m ((c.tc : Thread Cert.MtfRefIdeal.nD Cert.MtfRefIdeal.τ).loc Cert.MtfRefIdeal.main_arg6)
      ∧ r.2.mem ((c.tc : Thread Cert.MtfRefIdeal.nD Cert.MtfRefIdeal.τ).loc Cert.MtfRefIdeal.main_arg7) = m ((c.tc : Thread Cert.MtfRefIdeal.nD Cert.MtfRefIdeal.τ).loc Cert.MtfRefIdeal.main_arg7)
      ∧ r.2.mem ((c.tc : Thread Cert.MtfRefIdeal.nD Cert.MtfRefIdeal.τ).loc Cert.MtfRefIdeal.main_arg8) = m ((c.tc : Thread Cert.MtfRefIdeal.nD Cert.MtfRefIdeal.τ).loc Cert.MtfRefIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Tok [hTok : Cert.Tok.Facts] : Prop :=
  ∀ (m : (ℓ : Loc Cert.Tok.nD Cert.Tok.τ Cert.Tok.sig) → Buf (Elt Bits) ℓ) (g : Dev Cert.Tok.nD → PrngReg), Pre_Tok m →
    θ_run (Cert.Tok.defs (F := Bits)) (onTc (τ := Cert.Tok.τ) (Cert.Tok.main (F := Bits))) ⟨m, fun _ => 0, g⟩ (fun r => (∀ c : Dev Cert.Tok.nD,
      r.2.mem ((c.tc : Thread Cert.Tok.nD Cert.Tok.τ).loc Cert.Tok.main_arg0) = m ((c.tc : Thread Cert.Tok.nD Cert.Tok.τ).loc Cert.Tok.main_arg0)
      ∧ r.2.mem ((c.tc : Thread Cert.Tok.nD Cert.Tok.τ).loc Cert.Tok.main_arg1) = m ((c.tc : Thread Cert.Tok.nD Cert.Tok.τ).loc Cert.Tok.main_arg1))
      ∧ r.2.sem = fun _ => 0)

def quiescent_TokIdeal [hTokIdeal : Cert.TokIdeal.Facts] : Prop :=
  ∀ (m : (ℓ : Loc Cert.TokIdeal.nD Cert.TokIdeal.τ Cert.TokIdeal.sig) → Buf (Elt Ideal) ℓ) (g : Dev Cert.TokIdeal.nD → PrngReg), Pre_TokIdeal m →
    θ_run (Cert.TokIdeal.defs (F := Ideal)) (onTc (τ := Cert.TokIdeal.τ) (Cert.TokIdeal.main (F := Ideal))) ⟨m, fun _ => 0, g⟩ (fun r => (∀ c : Dev Cert.TokIdeal.nD,
      r.2.mem ((c.tc : Thread Cert.TokIdeal.nD Cert.TokIdeal.τ).loc Cert.TokIdeal.main_arg0) = m ((c.tc : Thread Cert.TokIdeal.nD Cert.TokIdeal.τ).loc Cert.TokIdeal.main_arg0)
      ∧ r.2.mem ((c.tc : Thread Cert.TokIdeal.nD Cert.TokIdeal.τ).loc Cert.TokIdeal.main_arg1) = m ((c.tc : Thread Cert.TokIdeal.nD Cert.TokIdeal.τ).loc Cert.TokIdeal.main_arg1))
      ∧ r.2.sem = fun _ => 0)

def quiescent_TokRefIdeal [hTokRefIdeal : Cert.TokRefIdeal.Facts] : Prop :=
  ∀ (m : (ℓ : Loc Cert.TokRefIdeal.nD Cert.TokRefIdeal.τ Cert.TokRefIdeal.sig) → Buf (Elt Ideal) ℓ) (g : Dev Cert.TokRefIdeal.nD → PrngReg), Pre_TokRefIdeal m →
    θ_run (Cert.TokRefIdeal.defs (F := Ideal)) (onTc (τ := Cert.TokRefIdeal.τ) (Cert.TokRefIdeal.main (F := Ideal))) ⟨m, fun _ => 0, g⟩ (fun r => (∀ c : Dev Cert.TokRefIdeal.nD,
      r.2.mem ((c.tc : Thread Cert.TokRefIdeal.nD Cert.TokRefIdeal.τ).loc Cert.TokRefIdeal.main_arg0) = m ((c.tc : Thread Cert.TokRefIdeal.nD Cert.TokRefIdeal.τ).loc Cert.TokRefIdeal.main_arg0)
      ∧ r.2.mem ((c.tc : Thread Cert.TokRefIdeal.nD Cert.TokRefIdeal.τ).loc Cert.TokRefIdeal.main_arg1) = m ((c.tc : Thread Cert.TokRefIdeal.nD Cert.TokRefIdeal.τ).loc Cert.TokRefIdeal.main_arg1))
      ∧ r.2.sem = fun _ => 0)

def quiescent_Wgt [hWgt : Cert.Wgt.Facts] : Prop :=
  ∀ (m : (ℓ : Loc Cert.Wgt.nD Cert.Wgt.τ Cert.Wgt.sig) → Buf (Elt Bits) ℓ) (g : Dev Cert.Wgt.nD → PrngReg), Pre_Wgt m →
    θ_run (Cert.Wgt.defs (F := Bits)) (onTc (τ := Cert.Wgt.τ) (Cert.Wgt.main (F := Bits))) ⟨m, fun _ => 0, g⟩ (fun r => (∀ c : Dev Cert.Wgt.nD,
      r.2.mem ((c.tc : Thread Cert.Wgt.nD Cert.Wgt.τ).loc Cert.Wgt.main_arg0) = m ((c.tc : Thread Cert.Wgt.nD Cert.Wgt.τ).loc Cert.Wgt.main_arg0)
      ∧ r.2.mem ((c.tc : Thread Cert.Wgt.nD Cert.Wgt.τ).loc Cert.Wgt.main_arg1) = m ((c.tc : Thread Cert.Wgt.nD Cert.Wgt.τ).loc Cert.Wgt.main_arg1))
      ∧ r.2.sem = fun _ => 0)

def quiescent_WgtIdeal [hWgtIdeal : Cert.WgtIdeal.Facts] : Prop :=
  ∀ (m : (ℓ : Loc Cert.WgtIdeal.nD Cert.WgtIdeal.τ Cert.WgtIdeal.sig) → Buf (Elt Ideal) ℓ) (g : Dev Cert.WgtIdeal.nD → PrngReg), Pre_WgtIdeal m →
    θ_run (Cert.WgtIdeal.defs (F := Ideal)) (onTc (τ := Cert.WgtIdeal.τ) (Cert.WgtIdeal.main (F := Ideal))) ⟨m, fun _ => 0, g⟩ (fun r => (∀ c : Dev Cert.WgtIdeal.nD,
      r.2.mem ((c.tc : Thread Cert.WgtIdeal.nD Cert.WgtIdeal.τ).loc Cert.WgtIdeal.main_arg0) = m ((c.tc : Thread Cert.WgtIdeal.nD Cert.WgtIdeal.τ).loc Cert.WgtIdeal.main_arg0)
      ∧ r.2.mem ((c.tc : Thread Cert.WgtIdeal.nD Cert.WgtIdeal.τ).loc Cert.WgtIdeal.main_arg1) = m ((c.tc : Thread Cert.WgtIdeal.nD Cert.WgtIdeal.τ).loc Cert.WgtIdeal.main_arg1))
      ∧ r.2.sem = fun _ => 0)

def quiescent_WgtRefIdeal [hWgtRefIdeal : Cert.WgtRefIdeal.Facts] : Prop :=
  ∀ (m : (ℓ : Loc Cert.WgtRefIdeal.nD Cert.WgtRefIdeal.τ Cert.WgtRefIdeal.sig) → Buf (Elt Ideal) ℓ) (g : Dev Cert.WgtRefIdeal.nD → PrngReg), Pre_WgtRefIdeal m →
    θ_run (Cert.WgtRefIdeal.defs (F := Ideal)) (onTc (τ := Cert.WgtRefIdeal.τ) (Cert.WgtRefIdeal.main (F := Ideal))) ⟨m, fun _ => 0, g⟩ (fun r => (∀ c : Dev Cert.WgtRefIdeal.nD,
      r.2.mem ((c.tc : Thread Cert.WgtRefIdeal.nD Cert.WgtRefIdeal.τ).loc Cert.WgtRefIdeal.main_arg0) = m ((c.tc : Thread Cert.WgtRefIdeal.nD Cert.WgtRefIdeal.τ).loc Cert.WgtRefIdeal.main_arg0)
      ∧ r.2.mem ((c.tc : Thread Cert.WgtRefIdeal.nD Cert.WgtRefIdeal.τ).loc Cert.WgtRefIdeal.main_arg1) = m ((c.tc : Thread Cert.WgtRefIdeal.nD Cert.WgtRefIdeal.τ).loc Cert.WgtRefIdeal.main_arg1))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v4_0)) (v1 : (c : Dev Cert.ConvIdeal.nD) → Buf (Elt Ideal) ((c.tc : Thread Cert.ConvIdeal.nD Cert.ConvIdeal.τ).loc Cert.ConvIdeal.main_v4_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v4_0) = v0 c
          ∧ r.2.mem ((c.tc : Thread Cert.ConvIdeal.nD Cert.ConvIdeal.τ).loc Cert.ConvIdeal.main_v4_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v66) = v0 c
          ∧ r.2.mem ((c.tc : Thread Cert.ConvRefIdeal.nD Cert.ConvRefIdeal.τ).loc Cert.ConvRefIdeal.main_v67) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Forget_ForgetIdeal : Prop :=
  True

def algebraic_ForgetIdeal_ForgetRefIdeal [hForgetIdeal : Cert.ForgetIdeal.Facts] [hForgetRefIdeal : Cert.ForgetRefIdeal.Facts] : Prop :=
  ∀ (m : (ℓ : Loc Cert.ForgetIdeal.nD Cert.ForgetIdeal.τ Cert.ForgetIdeal.sig) → Buf (Elt Ideal) ℓ) (g : Dev Cert.ForgetIdeal.nD → PrngReg)
    (m' : (ℓ : Loc Cert.ForgetRefIdeal.nD Cert.ForgetRefIdeal.τ Cert.ForgetRefIdeal.sig) → Buf (Elt Ideal) ℓ) (g' : Dev Cert.ForgetRefIdeal.nD → PrngReg), Pre_ForgetIdeal m →
    (∀ c : Dev Cert.ForgetIdeal.nD,
      m' ((c.tc : Thread Cert.ForgetRefIdeal.nD Cert.ForgetRefIdeal.τ).loc Cert.ForgetRefIdeal.main_arg0) = m ((c.tc : Thread Cert.ForgetIdeal.nD Cert.ForgetIdeal.τ).loc Cert.ForgetIdeal.main_arg0)
      ∧ m' ((c.tc : Thread Cert.ForgetRefIdeal.nD Cert.ForgetRefIdeal.τ).loc Cert.ForgetRefIdeal.main_arg1) = m ((c.tc : Thread Cert.ForgetIdeal.nD Cert.ForgetIdeal.τ).loc Cert.ForgetIdeal.main_arg1)
      ∧ m' ((c.tc : Thread Cert.ForgetRefIdeal.nD Cert.ForgetRefIdeal.τ).loc Cert.ForgetRefIdeal.main_arg2) = m ((c.tc : Thread Cert.ForgetIdeal.nD Cert.ForgetIdeal.τ).loc Cert.ForgetIdeal.main_arg2)
      ∧ m' ((c.tc : Thread Cert.ForgetRefIdeal.nD Cert.ForgetRefIdeal.τ).loc Cert.ForgetRefIdeal.main_arg3) = m ((c.tc : Thread Cert.ForgetIdeal.nD Cert.ForgetIdeal.τ).loc Cert.ForgetIdeal.main_arg3)) →
    ∃ (v0 : (c : Dev Cert.ForgetIdeal.nD) → Buf (Elt Ideal) ((c.tc : Thread Cert.ForgetIdeal.nD Cert.ForgetIdeal.τ).loc Cert.ForgetIdeal.main_v18_0)) (v1 : (c : Dev Cert.ForgetIdeal.nD) → Buf (Elt Ideal) ((c.tc : Thread Cert.ForgetIdeal.nD Cert.ForgetIdeal.τ).loc Cert.ForgetIdeal.main_v18_1)),
      θ_run (Cert.ForgetIdeal.defs (F := Ideal)) (onTc (τ := Cert.ForgetIdeal.τ) (Cert.ForgetIdeal.main (F := Ideal))) ⟨m, fun _ => 0, g⟩ (fun r => ∀ c : Dev Cert.ForgetIdeal.nD,
          r.2.mem ((c.tc : Thread Cert.ForgetIdeal.nD Cert.ForgetIdeal.τ).loc Cert.ForgetIdeal.main_v18_0) = v0 c
          ∧ r.2.mem ((c.tc : Thread Cert.ForgetIdeal.nD Cert.ForgetIdeal.τ).loc Cert.ForgetIdeal.main_v18_1) = v1 c
          ∧ r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
          ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
          ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2)
          ∧ r.2.mem ((c.tc : Thread Cert.ForgetIdeal.nD Cert.ForgetIdeal.τ).loc Cert.ForgetIdeal.main_arg3) = m ((c.tc : Thread Cert.ForgetIdeal.nD Cert.ForgetIdeal.τ).loc Cert.ForgetIdeal.main_arg3))
      ∧ θ_run (Cert.ForgetRefIdeal.defs (F := Ideal)) (onTc (τ := Cert.ForgetRefIdeal.τ) (Cert.ForgetRefIdeal.main (F := Ideal))) ⟨m', fun _ => 0, g'⟩ (fun r => ∀ c : Dev Cert.ForgetRefIdeal.nD,
          r.2.mem ((c.tc : Thread Cert.ForgetRefIdeal.nD Cert.ForgetRefIdeal.τ).loc Cert.ForgetRefIdeal.main_v11) = v0 c
          ∧ r.2.mem ((c.tc : Thread Cert.ForgetRefIdeal.nD Cert.ForgetRefIdeal.τ).loc Cert.ForgetRefIdeal.main_v12) = v1 c
          ∧ r.2.mem ((c.tc : Thread Cert.ForgetRefIdeal.nD Cert.ForgetRefIdeal.τ).loc Cert.ForgetRefIdeal.main_arg0) = m' ((c.tc : Thread Cert.ForgetRefIdeal.nD Cert.ForgetRefIdeal.τ).loc Cert.ForgetRefIdeal.main_arg0)
          ∧ r.2.mem ((c.tc : Thread Cert.ForgetRefIdeal.nD Cert.ForgetRefIdeal.τ).loc Cert.ForgetRefIdeal.main_arg1) = m' ((c.tc : Thread Cert.ForgetRefIdeal.nD Cert.ForgetRefIdeal.τ).loc Cert.ForgetRefIdeal.main_arg1)
          ∧ r.2.mem ((c.tc : Thread Cert.ForgetRefIdeal.nD Cert.ForgetRefIdeal.τ).loc Cert.ForgetRefIdeal.main_arg2) = m' ((c.tc : Thread Cert.ForgetRefIdeal.nD Cert.ForgetRefIdeal.τ).loc Cert.ForgetRefIdeal.main_arg2)
          ∧ r.2.mem ((c.tc : Thread Cert.ForgetRefIdeal.nD Cert.ForgetRefIdeal.τ).loc Cert.ForgetRefIdeal.main_arg3) = m' ((c.tc : Thread Cert.ForgetRefIdeal.nD Cert.ForgetRefIdeal.τ).loc Cert.ForgetRefIdeal.main_arg3))

def preserves_Attn_AttnIdeal : Prop :=
  IdealRules.named_const.Statement Cert.AttnIdeal.κ "mask" .f32 0xF149F2CA#32 ⊥
  ∧ IdealRules.named_const.Statement Cert.AttnIdeal.κ "ln2" .f32 0x3F317218#32 ((Real.log 2 : ℝ) : EReal)

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v65_0)) (v1 : (c : Dev Cert.AttnIdeal.nD) → Buf (Elt Ideal) ((c.tc : Thread Cert.AttnIdeal.nD Cert.AttnIdeal.τ).loc Cert.AttnIdeal.main_v65_1)) (v2 : (c : Dev Cert.AttnIdeal.nD) → Buf (Elt Ideal) ((c.tc : Thread Cert.AttnIdeal.nD Cert.AttnIdeal.τ).loc Cert.AttnIdeal.main_v65_2)) (v3 : (c : Dev Cert.AttnIdeal.nD) → Buf (Elt Ideal) ((c.tc : Thread Cert.AttnIdeal.nD Cert.AttnIdeal.τ).loc Cert.AttnIdeal.main_v65_3)) (v4 : (c : Dev Cert.AttnIdeal.nD) → Buf (Elt Ideal) ((c.tc : Thread Cert.AttnIdeal.nD Cert.AttnIdeal.τ).loc Cert.AttnIdeal.main_v65_4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v65_0) = v0 c
          ∧ r.2.mem ((c.tc : Thread Cert.AttnIdeal.nD Cert.AttnIdeal.τ).loc Cert.AttnIdeal.main_v65_1) = v1 c
          ∧ r.2.mem ((c.tc : Thread Cert.AttnIdeal.nD Cert.AttnIdeal.τ).loc Cert.AttnIdeal.main_v65_2) = v2 c
          ∧ r.2.mem ((c.tc : Thread Cert.AttnIdeal.nD Cert.AttnIdeal.τ).loc Cert.AttnIdeal.main_v65_3) = v3 c
          ∧ r.2.mem ((c.tc : Thread Cert.AttnIdeal.nD Cert.AttnIdeal.τ).loc Cert.AttnIdeal.main_v65_4) = v4 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v107) = v0 c
          ∧ r.2.mem ((c.tc : Thread Cert.AttnRefIdeal.nD Cert.AttnRefIdeal.τ).loc Cert.AttnRefIdeal.main_v109) = v1 c
          ∧ r.2.mem ((c.tc : Thread Cert.AttnRefIdeal.nD Cert.AttnRefIdeal.τ).loc Cert.AttnRefIdeal.main_v111) = v2 c
          ∧ r.2.mem ((c.tc : Thread Cert.AttnRefIdeal.nD Cert.AttnRefIdeal.τ).loc Cert.AttnRefIdeal.main_v103) = v3 c
          ∧ r.2.mem ((c.tc : Thread Cert.AttnRefIdeal.nD Cert.AttnRefIdeal.τ).loc Cert.AttnRefIdeal.main_v106) = v4 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Ple_PleIdeal : Prop :=
  True

def algebraic_PleIdeal_PleRefIdeal_pre_finite_ple [hPleIdeal : Cert.PleIdeal.Facts] [hPleRefIdeal : Cert.PleRefIdeal.Facts] [hPre_finite_ple : Cert.Pre_finite_ple.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal_finite_ple m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)
      ∧ m' ((c.tc : Thread Cert.PleRefIdeal.nD Cert.PleRefIdeal.τ).loc Cert.PleRefIdeal.main_arg7) = m ((c.tc : Thread Cert.PleIdeal.nD Cert.PleIdeal.τ).loc Cert.PleIdeal.main_arg7)) →
    ∃ (v0 : (c : Dev Cert.PleIdeal.nD) → Buf (Elt Ideal) ((c.tc : Thread Cert.PleIdeal.nD Cert.PleIdeal.τ).loc Cert.PleIdeal.main_v2_0)) (v1 : (c : Dev Cert.PleIdeal.nD) → Buf (Elt Ideal) ((c.tc : Thread Cert.PleIdeal.nD Cert.PleIdeal.τ).loc Cert.PleIdeal.main_v2_1)) (v2 : (c : Dev Cert.PleIdeal.nD) → Buf (Elt Ideal) ((c.tc : Thread Cert.PleIdeal.nD Cert.PleIdeal.τ).loc Cert.PleIdeal.main_v2_2)) (v3 : (c : Dev Cert.PleIdeal.nD) → Buf (Elt Ideal) ((c.tc : Thread Cert.PleIdeal.nD Cert.PleIdeal.τ).loc Cert.PleIdeal.main_v2_3)) (v4 : (c : Dev Cert.PleIdeal.nD) → Buf (Elt Ideal) ((c.tc : Thread Cert.PleIdeal.nD Cert.PleIdeal.τ).loc Cert.PleIdeal.main_v2_4)) (v5 : (c : Dev Cert.PleIdeal.nD) → Buf (Elt Ideal) ((c.tc : Thread Cert.PleIdeal.nD Cert.PleIdeal.τ).loc Cert.PleIdeal.main_v2_5)) (v6 : (c : Dev Cert.PleIdeal.nD) → Buf (Elt Ideal) ((c.tc : Thread Cert.PleIdeal.nD Cert.PleIdeal.τ).loc Cert.PleIdeal.main_v2_6)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v2_0) = v0 c
          ∧ r.2.mem ((c.tc : Thread Cert.PleIdeal.nD Cert.PleIdeal.τ).loc Cert.PleIdeal.main_v2_1) = v1 c
          ∧ r.2.mem ((c.tc : Thread Cert.PleIdeal.nD Cert.PleIdeal.τ).loc Cert.PleIdeal.main_v2_2) = v2 c
          ∧ r.2.mem ((c.tc : Thread Cert.PleIdeal.nD Cert.PleIdeal.τ).loc Cert.PleIdeal.main_v2_3) = v3 c
          ∧ r.2.mem ((c.tc : Thread Cert.PleIdeal.nD Cert.PleIdeal.τ).loc Cert.PleIdeal.main_v2_4) = v4 c
          ∧ r.2.mem ((c.tc : Thread Cert.PleIdeal.nD Cert.PleIdeal.τ).loc Cert.PleIdeal.main_v2_5) = v5 c
          ∧ r.2.mem ((c.tc : Thread Cert.PleIdeal.nD Cert.PleIdeal.τ).loc Cert.PleIdeal.main_v2_6) = v6 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
          ∧ r.2.mem ((c.tc : Thread Cert.PleIdeal.nD Cert.PleIdeal.τ).loc Cert.PleIdeal.main_arg7) = m ((c.tc : Thread Cert.PleIdeal.nD Cert.PleIdeal.τ).loc Cert.PleIdeal.main_arg7))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v95) = v0 c
          ∧ r.2.mem ((c.tc : Thread Cert.PleRefIdeal.nD Cert.PleRefIdeal.τ).loc Cert.PleRefIdeal.main_v96) = v1 c
          ∧ r.2.mem ((c.tc : Thread Cert.PleRefIdeal.nD Cert.PleRefIdeal.τ).loc Cert.PleRefIdeal.main_v97) = v2 c
          ∧ r.2.mem ((c.tc : Thread Cert.PleRefIdeal.nD Cert.PleRefIdeal.τ).loc Cert.PleRefIdeal.main_v98) = v3 c
          ∧ r.2.mem ((c.tc : Thread Cert.PleRefIdeal.nD Cert.PleRefIdeal.τ).loc Cert.PleRefIdeal.main_v62) = v4 c
          ∧ r.2.mem ((c.tc : Thread Cert.PleRefIdeal.nD Cert.PleRefIdeal.τ).loc Cert.PleRefIdeal.main_v59) = v5 c
          ∧ r.2.mem ((c.tc : Thread Cert.PleRefIdeal.nD Cert.PleRefIdeal.τ).loc Cert.PleRefIdeal.main_v93) = v6 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6)
          ∧ r.2.mem ((c.tc : Thread Cert.PleRefIdeal.nD Cert.PleRefIdeal.τ).loc Cert.PleRefIdeal.main_arg7) = m' ((c.tc : Thread Cert.PleRefIdeal.nD Cert.PleRefIdeal.τ).loc Cert.PleRefIdeal.main_arg7))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v23_0)) (v1 : (c : Dev Cert.FfnIdeal.nD) → Buf (Elt Ideal) ((c.tc : Thread Cert.FfnIdeal.nD Cert.FfnIdeal.τ).loc Cert.FfnIdeal.main_v23_1)) (v2 : (c : Dev Cert.FfnIdeal.nD) → Buf (Elt Ideal) ((c.tc : Thread Cert.FfnIdeal.nD Cert.FfnIdeal.τ).loc Cert.FfnIdeal.main_v23_2)) (v3 : (c : Dev Cert.FfnIdeal.nD) → Buf (Elt Ideal) ((c.tc : Thread Cert.FfnIdeal.nD Cert.FfnIdeal.τ).loc Cert.FfnIdeal.main_v23_3)) (v4 : (c : Dev Cert.FfnIdeal.nD) → Buf (Elt Ideal) ((c.tc : Thread Cert.FfnIdeal.nD Cert.FfnIdeal.τ).loc Cert.FfnIdeal.main_v23_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v23_0) = v0 c
          ∧ r.2.mem ((c.tc : Thread Cert.FfnIdeal.nD Cert.FfnIdeal.τ).loc Cert.FfnIdeal.main_v23_1) = v1 c
          ∧ r.2.mem ((c.tc : Thread Cert.FfnIdeal.nD Cert.FfnIdeal.τ).loc Cert.FfnIdeal.main_v23_2) = v2 c
          ∧ r.2.mem ((c.tc : Thread Cert.FfnIdeal.nD Cert.FfnIdeal.τ).loc Cert.FfnIdeal.main_v23_3) = v3 c
          ∧ r.2.mem ((c.tc : Thread Cert.FfnIdeal.nD Cert.FfnIdeal.τ).loc Cert.FfnIdeal.main_v23_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v78) = v0 c
          ∧ r.2.mem ((c.tc : Thread Cert.FfnRefIdeal.nD Cert.FfnRefIdeal.τ).loc Cert.FfnRefIdeal.main_v79) = v1 c
          ∧ r.2.mem ((c.tc : Thread Cert.FfnRefIdeal.nD Cert.FfnRefIdeal.τ).loc Cert.FfnRefIdeal.main_v80) = v2 c
          ∧ r.2.mem ((c.tc : Thread Cert.FfnRefIdeal.nD Cert.FfnRefIdeal.τ).loc Cert.FfnRefIdeal.main_v43) = v3 c
          ∧ r.2.mem ((c.tc : Thread Cert.FfnRefIdeal.nD Cert.FfnRefIdeal.τ).loc Cert.FfnRefIdeal.main_v40) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Fwd_FwdIdeal : Prop :=
  IdealRules.named_const.Statement Cert.FwdIdeal.κ "mask" .f32 0xF149F2CA#32 ⊥
  ∧ IdealRules.named_const.Statement Cert.FwdIdeal.κ "log2e" .f32 0x3FB8AA3B#32 (((Real.log 2)⁻¹ : ℝ) : EReal)

def algebraic_FwdIdeal_FwdRefIdeal_pre_finite_attn_fwd [hFwdIdeal : Cert.FwdIdeal.Facts] [hFwdRefIdeal : Cert.FwdRefIdeal.Facts] [hPre_finite_attn_fwd : Cert.Pre_finite_attn_fwd.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_attn_fwd m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)) →
    ∃ (v0 : (c : Dev Cert.FwdIdeal.nD) → Buf (Elt Ideal) ((c.tc : Thread Cert.FwdIdeal.nD Cert.FwdIdeal.τ).loc Cert.FwdIdeal.main_v47_0)) (v1 : (c : Dev Cert.FwdIdeal.nD) → Buf (Elt Ideal) ((c.tc : Thread Cert.FwdIdeal.nD Cert.FwdIdeal.τ).loc Cert.FwdIdeal.main_v47_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v47_0) = v0 c
          ∧ r.2.mem ((c.tc : Thread Cert.FwdIdeal.nD Cert.FwdIdeal.τ).loc Cert.FwdIdeal.main_v47_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v70) = v0 c
          ∧ r.2.mem ((c.tc : Thread Cert.FwdRefIdeal.nD Cert.FwdRefIdeal.τ).loc Cert.FwdRefIdeal.main_v32) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v14)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v14) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v17) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_Cum_CumIdeal : Prop :=
  IdealRules.named_const.Statement Cert.CumIdeal.κ "log2e" .f32 0x3FB8AA3B#32 (((Real.log 2)⁻¹ : ℝ) : EReal)

def algebraic_CumIdeal_CumRefIdeal [hCumIdeal : Cert.CumIdeal.Facts] [hCumRefIdeal : Cert.CumRefIdeal.Facts] : Prop :=
  ∀ (m : (ℓ : Loc Cert.CumIdeal.nD Cert.CumIdeal.τ Cert.CumIdeal.sig) → Buf (Elt Ideal) ℓ) (g : Dev Cert.CumIdeal.nD → PrngReg)
    (m' : (ℓ : Loc Cert.CumRefIdeal.nD Cert.CumRefIdeal.τ Cert.CumRefIdeal.sig) → Buf (Elt Ideal) ℓ) (g' : Dev Cert.CumRefIdeal.nD → PrngReg), Pre_CumIdeal m →
    (∀ c : Dev Cert.CumIdeal.nD,
      m' ((c.tc : Thread Cert.CumRefIdeal.nD Cert.CumRefIdeal.τ).loc Cert.CumRefIdeal.main_arg0) = m ((c.tc : Thread Cert.CumIdeal.nD Cert.CumIdeal.τ).loc Cert.CumIdeal.main_arg0)
      ∧ m' ((c.tc : Thread Cert.CumRefIdeal.nD Cert.CumRefIdeal.τ).loc Cert.CumRefIdeal.main_arg1) = m ((c.tc : Thread Cert.CumIdeal.nD Cert.CumIdeal.τ).loc Cert.CumIdeal.main_arg1)) →
    ∃ (v0 : (c : Dev Cert.CumIdeal.nD) → Buf (Elt Ideal) ((c.tc : Thread Cert.CumIdeal.nD Cert.CumIdeal.τ).loc Cert.CumIdeal.main_v5)),
      θ_run (Cert.CumIdeal.defs (F := Ideal)) (onTc (τ := Cert.CumIdeal.τ) (Cert.CumIdeal.main (F := Ideal))) ⟨m, fun _ => 0, g⟩ (fun r => ∀ c : Dev Cert.CumIdeal.nD,
          r.2.mem ((c.tc : Thread Cert.CumIdeal.nD Cert.CumIdeal.τ).loc Cert.CumIdeal.main_v5) = v0 c
          ∧ r.2.mem ((c.tc : Thread Cert.CumIdeal.nD Cert.CumIdeal.τ).loc Cert.CumIdeal.main_arg0) = m ((c.tc : Thread Cert.CumIdeal.nD Cert.CumIdeal.τ).loc Cert.CumIdeal.main_arg0)
          ∧ r.2.mem ((c.tc : Thread Cert.CumIdeal.nD Cert.CumIdeal.τ).loc Cert.CumIdeal.main_arg1) = m ((c.tc : Thread Cert.CumIdeal.nD Cert.CumIdeal.τ).loc Cert.CumIdeal.main_arg1))
      ∧ θ_run (Cert.CumRefIdeal.defs (F := Ideal)) (onTc (τ := Cert.CumRefIdeal.τ) (Cert.CumRefIdeal.main (F := Ideal))) ⟨m', fun _ => 0, g'⟩ (fun r => ∀ c : Dev Cert.CumRefIdeal.nD,
          r.2.mem ((c.tc : Thread Cert.CumRefIdeal.nD Cert.CumRefIdeal.τ).loc Cert.CumRefIdeal.main_v10) = v0 c
          ∧ r.2.mem ((c.tc : Thread Cert.CumRefIdeal.nD Cert.CumRefIdeal.τ).loc Cert.CumRefIdeal.main_arg0) = m' ((c.tc : Thread Cert.CumRefIdeal.nD Cert.CumRefIdeal.τ).loc Cert.CumRefIdeal.main_arg0)
          ∧ r.2.mem ((c.tc : Thread Cert.CumRefIdeal.nD Cert.CumRefIdeal.τ).loc Cert.CumRefIdeal.main_arg1) = m' ((c.tc : Thread Cert.CumRefIdeal.nD Cert.CumRefIdeal.τ).loc Cert.CumRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)) →
    ∃ (v0 : (c : Dev Cert.AdamIdeal.nD) → Buf (Elt Ideal) ((c.tc : Thread Cert.AdamIdeal.nD Cert.AdamIdeal.τ).loc Cert.AdamIdeal.main_v17_0)) (v1 : (c : Dev Cert.AdamIdeal.nD) → Buf (Elt Ideal) ((c.tc : Thread Cert.AdamIdeal.nD Cert.AdamIdeal.τ).loc Cert.AdamIdeal.main_v17_1)) (v2 : (c : Dev Cert.AdamIdeal.nD) → Buf (Elt Ideal) ((c.tc : Thread Cert.AdamIdeal.nD Cert.AdamIdeal.τ).loc Cert.AdamIdeal.main_v17_2)) (v3 : (c : Dev Cert.AdamIdeal.nD) → Buf (Elt Ideal) ((c.tc : Thread Cert.AdamIdeal.nD Cert.AdamIdeal.τ).loc Cert.AdamIdeal.main_v17_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v17_0) = v0 c
          ∧ r.2.mem ((c.tc : Thread Cert.AdamIdeal.nD Cert.AdamIdeal.τ).loc Cert.AdamIdeal.main_v17_1) = v1 c
          ∧ r.2.mem ((c.tc : Thread Cert.AdamIdeal.nD Cert.AdamIdeal.τ).loc Cert.AdamIdeal.main_v17_2) = v2 c
          ∧ r.2.mem ((c.tc : Thread Cert.AdamIdeal.nD Cert.AdamIdeal.τ).loc Cert.AdamIdeal.main_v17_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v1) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v6) = v2 c
          ∧ r.2.mem ((c.tc : Thread Cert.AdamRefIdeal.nD Cert.AdamRefIdeal.τ).loc Cert.AdamRefIdeal.main_v12) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4))

def preserves_Ffw_FfwIdeal : Prop :=
  True

def algebraic_FfwIdeal_FfwRefIdeal [hFfwIdeal : Cert.FfwIdeal.Facts] [hFfwRefIdeal : Cert.FfwRefIdeal.Facts] : Prop :=
  ∀ (m : (ℓ : Loc Cert.FfwIdeal.nD Cert.FfwIdeal.τ Cert.FfwIdeal.sig) → Buf (Elt Ideal) ℓ) (g : Dev Cert.FfwIdeal.nD → PrngReg)
    (m' : (ℓ : Loc Cert.FfwRefIdeal.nD Cert.FfwRefIdeal.τ Cert.FfwRefIdeal.sig) → Buf (Elt Ideal) ℓ) (g' : Dev Cert.FfwRefIdeal.nD → PrngReg), Pre_FfwIdeal m →
    (∀ c : Dev Cert.FfwIdeal.nD,
      m' ((c.tc : Thread Cert.FfwRefIdeal.nD Cert.FfwRefIdeal.τ).loc Cert.FfwRefIdeal.main_arg0) = m ((c.tc : Thread Cert.FfwIdeal.nD Cert.FfwIdeal.τ).loc Cert.FfwIdeal.main_arg0)
      ∧ m' ((c.tc : Thread Cert.FfwRefIdeal.nD Cert.FfwRefIdeal.τ).loc Cert.FfwRefIdeal.main_arg1) = m ((c.tc : Thread Cert.FfwIdeal.nD Cert.FfwIdeal.τ).loc Cert.FfwIdeal.main_arg1)
      ∧ m' ((c.tc : Thread Cert.FfwRefIdeal.nD Cert.FfwRefIdeal.τ).loc Cert.FfwRefIdeal.main_arg2) = m ((c.tc : Thread Cert.FfwIdeal.nD Cert.FfwIdeal.τ).loc Cert.FfwIdeal.main_arg2)
      ∧ m' ((c.tc : Thread Cert.FfwRefIdeal.nD Cert.FfwRefIdeal.τ).loc Cert.FfwRefIdeal.main_arg3) = m ((c.tc : Thread Cert.FfwIdeal.nD Cert.FfwIdeal.τ).loc Cert.FfwIdeal.main_arg3)
      ∧ m' ((c.tc : Thread Cert.FfwRefIdeal.nD Cert.FfwRefIdeal.τ).loc Cert.FfwRefIdeal.main_arg4) = m ((c.tc : Thread Cert.FfwIdeal.nD Cert.FfwIdeal.τ).loc Cert.FfwIdeal.main_arg4)) →
    ∃ (v0 : (c : Dev Cert.FfwIdeal.nD) → Buf (Elt Ideal) ((c.tc : Thread Cert.FfwIdeal.nD Cert.FfwIdeal.τ).loc Cert.FfwIdeal.main_v2_0)) (v1 : (c : Dev Cert.FfwIdeal.nD) → Buf (Elt Ideal) ((c.tc : Thread Cert.FfwIdeal.nD Cert.FfwIdeal.τ).loc Cert.FfwIdeal.main_v2_1)) (v2 : (c : Dev Cert.FfwIdeal.nD) → Buf (Elt Ideal) ((c.tc : Thread Cert.FfwIdeal.nD Cert.FfwIdeal.τ).loc Cert.FfwIdeal.main_v2_2)) (v3 : (c : Dev Cert.FfwIdeal.nD) → Buf (Elt Ideal) ((c.tc : Thread Cert.FfwIdeal.nD Cert.FfwIdeal.τ).loc Cert.FfwIdeal.main_v2_3)) (v4 : (c : Dev Cert.FfwIdeal.nD) → Buf (Elt Ideal) ((c.tc : Thread Cert.FfwIdeal.nD Cert.FfwIdeal.τ).loc Cert.FfwIdeal.main_v2_4)),
      θ_run (Cert.FfwIdeal.defs (F := Ideal)) (onTc (τ := Cert.FfwIdeal.τ) (Cert.FfwIdeal.main (F := Ideal))) ⟨m, fun _ => 0, g⟩ (fun r => ∀ c : Dev Cert.FfwIdeal.nD,
          r.2.mem ((c.tc : Thread Cert.FfwIdeal.nD Cert.FfwIdeal.τ).loc Cert.FfwIdeal.main_v2_0) = v0 c
          ∧ r.2.mem ((c.tc : Thread Cert.FfwIdeal.nD Cert.FfwIdeal.τ).loc Cert.FfwIdeal.main_v2_1) = v1 c
          ∧ r.2.mem ((c.tc : Thread Cert.FfwIdeal.nD Cert.FfwIdeal.τ).loc Cert.FfwIdeal.main_v2_2) = v2 c
          ∧ r.2.mem ((c.tc : Thread Cert.FfwIdeal.nD Cert.FfwIdeal.τ).loc Cert.FfwIdeal.main_v2_3) = v3 c
          ∧ r.2.mem ((c.tc : Thread Cert.FfwIdeal.nD Cert.FfwIdeal.τ).loc Cert.FfwIdeal.main_v2_4) = v4 c
          ∧ r.2.mem ((c.tc : Thread Cert.FfwIdeal.nD Cert.FfwIdeal.τ).loc Cert.FfwIdeal.main_arg0) = m ((c.tc : Thread Cert.FfwIdeal.nD Cert.FfwIdeal.τ).loc Cert.FfwIdeal.main_arg0)
          ∧ r.2.mem ((c.tc : Thread Cert.FfwIdeal.nD Cert.FfwIdeal.τ).loc Cert.FfwIdeal.main_arg1) = m ((c.tc : Thread Cert.FfwIdeal.nD Cert.FfwIdeal.τ).loc Cert.FfwIdeal.main_arg1)
          ∧ r.2.mem ((c.tc : Thread Cert.FfwIdeal.nD Cert.FfwIdeal.τ).loc Cert.FfwIdeal.main_arg2) = m ((c.tc : Thread Cert.FfwIdeal.nD Cert.FfwIdeal.τ).loc Cert.FfwIdeal.main_arg2)
          ∧ r.2.mem ((c.tc : Thread Cert.FfwIdeal.nD Cert.FfwIdeal.τ).loc Cert.FfwIdeal.main_arg3) = m ((c.tc : Thread Cert.FfwIdeal.nD Cert.FfwIdeal.τ).loc Cert.FfwIdeal.main_arg3)
          ∧ r.2.mem ((c.tc : Thread Cert.FfwIdeal.nD Cert.FfwIdeal.τ).loc Cert.FfwIdeal.main_arg4) = m ((c.tc : Thread Cert.FfwIdeal.nD Cert.FfwIdeal.τ).loc Cert.FfwIdeal.main_arg4))
      ∧ θ_run (Cert.FfwRefIdeal.defs (F := Ideal)) (onTc (τ := Cert.FfwRefIdeal.τ) (Cert.FfwRefIdeal.main (F := Ideal))) ⟨m', fun _ => 0, g'⟩ (fun r => ∀ c : Dev Cert.FfwRefIdeal.nD,
          r.2.mem ((c.tc : Thread Cert.FfwRefIdeal.nD Cert.FfwRefIdeal.τ).loc Cert.FfwRefIdeal.main_v30) = v0 c
          ∧ r.2.mem ((c.tc : Thread Cert.FfwRefIdeal.nD Cert.FfwRefIdeal.τ).loc Cert.FfwRefIdeal.main_v10) = v1 c
          ∧ r.2.mem ((c.tc : Thread Cert.FfwRefIdeal.nD Cert.FfwRefIdeal.τ).loc Cert.FfwRefIdeal.main_v31) = v2 c
          ∧ r.2.mem ((c.tc : Thread Cert.FfwRefIdeal.nD Cert.FfwRefIdeal.τ).loc Cert.FfwRefIdeal.main_v32) = v3 c
          ∧ r.2.mem ((c.tc : Thread Cert.FfwRefIdeal.nD Cert.FfwRefIdeal.τ).loc Cert.FfwRefIdeal.main_v33) = v4 c
          ∧ r.2.mem ((c.tc : Thread Cert.FfwRefIdeal.nD Cert.FfwRefIdeal.τ).loc Cert.FfwRefIdeal.main_arg0) = m' ((c.tc : Thread Cert.FfwRefIdeal.nD Cert.FfwRefIdeal.τ).loc Cert.FfwRefIdeal.main_arg0)
          ∧ r.2.mem ((c.tc : Thread Cert.FfwRefIdeal.nD Cert.FfwRefIdeal.τ).loc Cert.FfwRefIdeal.main_arg1) = m' ((c.tc : Thread Cert.FfwRefIdeal.nD Cert.FfwRefIdeal.τ).loc Cert.FfwRefIdeal.main_arg1)
          ∧ r.2.mem ((c.tc : Thread Cert.FfwRefIdeal.nD Cert.FfwRefIdeal.τ).loc Cert.FfwRefIdeal.main_arg2) = m' ((c.tc : Thread Cert.FfwRefIdeal.nD Cert.FfwRefIdeal.τ).loc Cert.FfwRefIdeal.main_arg2)
          ∧ r.2.mem ((c.tc : Thread Cert.FfwRefIdeal.nD Cert.FfwRefIdeal.τ).loc Cert.FfwRefIdeal.main_arg3) = m' ((c.tc : Thread Cert.FfwRefIdeal.nD Cert.FfwRefIdeal.τ).loc Cert.FfwRefIdeal.main_arg3)
          ∧ r.2.mem ((c.tc : Thread Cert.FfwRefIdeal.nD Cert.FfwRefIdeal.τ).loc Cert.FfwRefIdeal.main_arg4) = m' ((c.tc : Thread Cert.FfwRefIdeal.nD Cert.FfwRefIdeal.τ).loc Cert.FfwRefIdeal.main_arg4))

def preserves_Mtf_MtfIdeal : Prop :=
  True

def algebraic_MtfIdeal_MtfRefIdeal [hMtfIdeal : Cert.MtfIdeal.Facts] [hMtfRefIdeal : Cert.MtfRefIdeal.Facts] : Prop :=
  ∀ (m : (ℓ : Loc Cert.MtfIdeal.nD Cert.MtfIdeal.τ Cert.MtfIdeal.sig) → Buf (Elt Ideal) ℓ) (g : Dev Cert.MtfIdeal.nD → PrngReg)
    (m' : (ℓ : Loc Cert.MtfRefIdeal.nD Cert.MtfRefIdeal.τ Cert.MtfRefIdeal.sig) → Buf (Elt Ideal) ℓ) (g' : Dev Cert.MtfRefIdeal.nD → PrngReg), Pre_MtfIdeal m →
    (∀ c : Dev Cert.MtfIdeal.nD,
      m' ((c.tc : Thread Cert.MtfRefIdeal.nD Cert.MtfRefIdeal.τ).loc Cert.MtfRefIdeal.main_arg0) = m ((c.tc : Thread Cert.MtfIdeal.nD Cert.MtfIdeal.τ).loc Cert.MtfIdeal.main_arg0)
      ∧ m' ((c.tc : Thread Cert.MtfRefIdeal.nD Cert.MtfRefIdeal.τ).loc Cert.MtfRefIdeal.main_arg1) = m ((c.tc : Thread Cert.MtfIdeal.nD Cert.MtfIdeal.τ).loc Cert.MtfIdeal.main_arg1)
      ∧ m' ((c.tc : Thread Cert.MtfRefIdeal.nD Cert.MtfRefIdeal.τ).loc Cert.MtfRefIdeal.main_arg2) = m ((c.tc : Thread Cert.MtfIdeal.nD Cert.MtfIdeal.τ).loc Cert.MtfIdeal.main_arg2)
      ∧ m' ((c.tc : Thread Cert.MtfRefIdeal.nD Cert.MtfRefIdeal.τ).loc Cert.MtfRefIdeal.main_arg3) = m ((c.tc : Thread Cert.MtfIdeal.nD Cert.MtfIdeal.τ).loc Cert.MtfIdeal.main_arg3)
      ∧ m' ((c.tc : Thread Cert.MtfRefIdeal.nD Cert.MtfRefIdeal.τ).loc Cert.MtfRefIdeal.main_arg4) = m ((c.tc : Thread Cert.MtfIdeal.nD Cert.MtfIdeal.τ).loc Cert.MtfIdeal.main_arg4)
      ∧ m' ((c.tc : Thread Cert.MtfRefIdeal.nD Cert.MtfRefIdeal.τ).loc Cert.MtfRefIdeal.main_arg5) = m ((c.tc : Thread Cert.MtfIdeal.nD Cert.MtfIdeal.τ).loc Cert.MtfIdeal.main_arg5)
      ∧ m' ((c.tc : Thread Cert.MtfRefIdeal.nD Cert.MtfRefIdeal.τ).loc Cert.MtfRefIdeal.main_arg6) = m ((c.tc : Thread Cert.MtfIdeal.nD Cert.MtfIdeal.τ).loc Cert.MtfIdeal.main_arg6)
      ∧ m' ((c.tc : Thread Cert.MtfRefIdeal.nD Cert.MtfRefIdeal.τ).loc Cert.MtfRefIdeal.main_arg7) = m ((c.tc : Thread Cert.MtfIdeal.nD Cert.MtfIdeal.τ).loc Cert.MtfIdeal.main_arg7)
      ∧ m' ((c.tc : Thread Cert.MtfRefIdeal.nD Cert.MtfRefIdeal.τ).loc Cert.MtfRefIdeal.main_arg8) = m ((c.tc : Thread Cert.MtfIdeal.nD Cert.MtfIdeal.τ).loc Cert.MtfIdeal.main_arg8)) →
    ∃ (v0 : (c : Dev Cert.MtfIdeal.nD) → Buf (Elt Ideal) ((c.tc : Thread Cert.MtfIdeal.nD Cert.MtfIdeal.τ).loc Cert.MtfIdeal.main_v5_0)) (v1 : (c : Dev Cert.MtfIdeal.nD) → Buf (Elt Ideal) ((c.tc : Thread Cert.MtfIdeal.nD Cert.MtfIdeal.τ).loc Cert.MtfIdeal.main_v5_1)) (v2 : (c : Dev Cert.MtfIdeal.nD) → Buf (Elt Ideal) ((c.tc : Thread Cert.MtfIdeal.nD Cert.MtfIdeal.τ).loc Cert.MtfIdeal.main_v5_2)),
      θ_run (Cert.MtfIdeal.defs (F := Ideal)) (onTc (τ := Cert.MtfIdeal.τ) (Cert.MtfIdeal.main (F := Ideal))) ⟨m, fun _ => 0, g⟩ (fun r => ∀ c : Dev Cert.MtfIdeal.nD,
          r.2.mem ((c.tc : Thread Cert.MtfIdeal.nD Cert.MtfIdeal.τ).loc Cert.MtfIdeal.main_v5_0) = v0 c
          ∧ r.2.mem ((c.tc : Thread Cert.MtfIdeal.nD Cert.MtfIdeal.τ).loc Cert.MtfIdeal.main_v5_1) = v1 c
          ∧ r.2.mem ((c.tc : Thread Cert.MtfIdeal.nD Cert.MtfIdeal.τ).loc Cert.MtfIdeal.main_v5_2) = v2 c
          ∧ r.2.mem ((c.tc : Thread Cert.MtfIdeal.nD Cert.MtfIdeal.τ).loc Cert.MtfIdeal.main_arg0) = m ((c.tc : Thread Cert.MtfIdeal.nD Cert.MtfIdeal.τ).loc Cert.MtfIdeal.main_arg0)
          ∧ r.2.mem ((c.tc : Thread Cert.MtfIdeal.nD Cert.MtfIdeal.τ).loc Cert.MtfIdeal.main_arg1) = m ((c.tc : Thread Cert.MtfIdeal.nD Cert.MtfIdeal.τ).loc Cert.MtfIdeal.main_arg1)
          ∧ r.2.mem ((c.tc : Thread Cert.MtfIdeal.nD Cert.MtfIdeal.τ).loc Cert.MtfIdeal.main_arg2) = m ((c.tc : Thread Cert.MtfIdeal.nD Cert.MtfIdeal.τ).loc Cert.MtfIdeal.main_arg2)
          ∧ r.2.mem ((c.tc : Thread Cert.MtfIdeal.nD Cert.MtfIdeal.τ).loc Cert.MtfIdeal.main_arg3) = m ((c.tc : Thread Cert.MtfIdeal.nD Cert.MtfIdeal.τ).loc Cert.MtfIdeal.main_arg3)
          ∧ r.2.mem ((c.tc : Thread Cert.MtfIdeal.nD Cert.MtfIdeal.τ).loc Cert.MtfIdeal.main_arg4) = m ((c.tc : Thread Cert.MtfIdeal.nD Cert.MtfIdeal.τ).loc Cert.MtfIdeal.main_arg4)
          ∧ r.2.mem ((c.tc : Thread Cert.MtfIdeal.nD Cert.MtfIdeal.τ).loc Cert.MtfIdeal.main_arg5) = m ((c.tc : Thread Cert.MtfIdeal.nD Cert.MtfIdeal.τ).loc Cert.MtfIdeal.main_arg5)
          ∧ r.2.mem ((c.tc : Thread Cert.MtfIdeal.nD Cert.MtfIdeal.τ).loc Cert.MtfIdeal.main_arg6) = m ((c.tc : Thread Cert.MtfIdeal.nD Cert.MtfIdeal.τ).loc Cert.MtfIdeal.main_arg6)
          ∧ r.2.mem ((c.tc : Thread Cert.MtfIdeal.nD Cert.MtfIdeal.τ).loc Cert.MtfIdeal.main_arg7) = m ((c.tc : Thread Cert.MtfIdeal.nD Cert.MtfIdeal.τ).loc Cert.MtfIdeal.main_arg7)
          ∧ r.2.mem ((c.tc : Thread Cert.MtfIdeal.nD Cert.MtfIdeal.τ).loc Cert.MtfIdeal.main_arg8) = m ((c.tc : Thread Cert.MtfIdeal.nD Cert.MtfIdeal.τ).loc Cert.MtfIdeal.main_arg8))
      ∧ θ_run (Cert.MtfRefIdeal.defs (F := Ideal)) (onTc (τ := Cert.MtfRefIdeal.τ) (Cert.MtfRefIdeal.main (F := Ideal))) ⟨m', fun _ => 0, g'⟩ (fun r => ∀ c : Dev Cert.MtfRefIdeal.nD,
          r.2.mem ((c.tc : Thread Cert.MtfRefIdeal.nD Cert.MtfRefIdeal.τ).loc Cert.MtfRefIdeal.main_v75) = v0 c
          ∧ r.2.mem ((c.tc : Thread Cert.MtfRefIdeal.nD Cert.MtfRefIdeal.τ).loc Cert.MtfRefIdeal.main_v55) = v1 c
          ∧ r.2.mem ((c.tc : Thread Cert.MtfRefIdeal.nD Cert.MtfRefIdeal.τ).loc Cert.MtfRefIdeal.main_v76) = v2 c
          ∧ r.2.mem ((c.tc : Thread Cert.MtfRefIdeal.nD Cert.MtfRefIdeal.τ).loc Cert.MtfRefIdeal.main_arg0) = m' ((c.tc : Thread Cert.MtfRefIdeal.nD Cert.MtfRefIdeal.τ).loc Cert.MtfRefIdeal.main_arg0)
          ∧ r.2.mem ((c.tc : Thread Cert.MtfRefIdeal.nD Cert.MtfRefIdeal.τ).loc Cert.MtfRefIdeal.main_arg1) = m' ((c.tc : Thread Cert.MtfRefIdeal.nD Cert.MtfRefIdeal.τ).loc Cert.MtfRefIdeal.main_arg1)
          ∧ r.2.mem ((c.tc : Thread Cert.MtfRefIdeal.nD Cert.MtfRefIdeal.τ).loc Cert.MtfRefIdeal.main_arg2) = m' ((c.tc : Thread Cert.MtfRefIdeal.nD Cert.MtfRefIdeal.τ).loc Cert.MtfRefIdeal.main_arg2)
          ∧ r.2.mem ((c.tc : Thread Cert.MtfRefIdeal.nD Cert.MtfRefIdeal.τ).loc Cert.MtfRefIdeal.main_arg3) = m' ((c.tc : Thread Cert.MtfRefIdeal.nD Cert.MtfRefIdeal.τ).loc Cert.MtfRefIdeal.main_arg3)
          ∧ r.2.mem ((c.tc : Thread Cert.MtfRefIdeal.nD Cert.MtfRefIdeal.τ).loc Cert.MtfRefIdeal.main_arg4) = m' ((c.tc : Thread Cert.MtfRefIdeal.nD Cert.MtfRefIdeal.τ).loc Cert.MtfRefIdeal.main_arg4)
          ∧ r.2.mem ((c.tc : Thread Cert.MtfRefIdeal.nD Cert.MtfRefIdeal.τ).loc Cert.MtfRefIdeal.main_arg5) = m' ((c.tc : Thread Cert.MtfRefIdeal.nD Cert.MtfRefIdeal.τ).loc Cert.MtfRefIdeal.main_arg5)
          ∧ r.2.mem ((c.tc : Thread Cert.MtfRefIdeal.nD Cert.MtfRefIdeal.τ).loc Cert.MtfRefIdeal.main_arg6) = m' ((c.tc : Thread Cert.MtfRefIdeal.nD Cert.MtfRefIdeal.τ).loc Cert.MtfRefIdeal.main_arg6)
          ∧ r.2.mem ((c.tc : Thread Cert.MtfRefIdeal.nD Cert.MtfRefIdeal.τ).loc Cert.MtfRefIdeal.main_arg7) = m' ((c.tc : Thread Cert.MtfRefIdeal.nD Cert.MtfRefIdeal.τ).loc Cert.MtfRefIdeal.main_arg7)
          ∧ r.2.mem ((c.tc : Thread Cert.MtfRefIdeal.nD Cert.MtfRefIdeal.τ).loc Cert.MtfRefIdeal.main_arg8) = m' ((c.tc : Thread Cert.MtfRefIdeal.nD Cert.MtfRefIdeal.τ).loc Cert.MtfRefIdeal.main_arg8))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v6) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v4) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Tok_TokIdeal : Prop :=
  True

def algebraic_TokIdeal_TokRefIdeal [hTokIdeal : Cert.TokIdeal.Facts] [hTokRefIdeal : Cert.TokRefIdeal.Facts] : Prop :=
  ∀ (m : (ℓ : Loc Cert.TokIdeal.nD Cert.TokIdeal.τ Cert.TokIdeal.sig) → Buf (Elt Ideal) ℓ) (g : Dev Cert.TokIdeal.nD → PrngReg)
    (m' : (ℓ : Loc Cert.TokRefIdeal.nD Cert.TokRefIdeal.τ Cert.TokRefIdeal.sig) → Buf (Elt Ideal) ℓ) (g' : Dev Cert.TokRefIdeal.nD → PrngReg), Pre_TokIdeal m →
    (∀ c : Dev Cert.TokIdeal.nD,
      m' ((c.tc : Thread Cert.TokRefIdeal.nD Cert.TokRefIdeal.τ).loc Cert.TokRefIdeal.main_arg0) = m ((c.tc : Thread Cert.TokIdeal.nD Cert.TokIdeal.τ).loc Cert.TokIdeal.main_arg0)
      ∧ m' ((c.tc : Thread Cert.TokRefIdeal.nD Cert.TokRefIdeal.τ).loc Cert.TokRefIdeal.main_arg1) = m ((c.tc : Thread Cert.TokIdeal.nD Cert.TokIdeal.τ).loc Cert.TokIdeal.main_arg1)) →
    ∃ (v0 : (c : Dev Cert.TokIdeal.nD) → Buf (Elt Ideal) ((c.tc : Thread Cert.TokIdeal.nD Cert.TokIdeal.τ).loc Cert.TokIdeal.main_v1)),
      θ_run (Cert.TokIdeal.defs (F := Ideal)) (onTc (τ := Cert.TokIdeal.τ) (Cert.TokIdeal.main (F := Ideal))) ⟨m, fun _ => 0, g⟩ (fun r => ∀ c : Dev Cert.TokIdeal.nD,
          r.2.mem ((c.tc : Thread Cert.TokIdeal.nD Cert.TokIdeal.τ).loc Cert.TokIdeal.main_v1) = v0 c
          ∧ r.2.mem ((c.tc : Thread Cert.TokIdeal.nD Cert.TokIdeal.τ).loc Cert.TokIdeal.main_arg0) = m ((c.tc : Thread Cert.TokIdeal.nD Cert.TokIdeal.τ).loc Cert.TokIdeal.main_arg0)
          ∧ r.2.mem ((c.tc : Thread Cert.TokIdeal.nD Cert.TokIdeal.τ).loc Cert.TokIdeal.main_arg1) = m ((c.tc : Thread Cert.TokIdeal.nD Cert.TokIdeal.τ).loc Cert.TokIdeal.main_arg1))
      ∧ θ_run (Cert.TokRefIdeal.defs (F := Ideal)) (onTc (τ := Cert.TokRefIdeal.τ) (Cert.TokRefIdeal.main (F := Ideal))) ⟨m', fun _ => 0, g'⟩ (fun r => ∀ c : Dev Cert.TokRefIdeal.nD,
          r.2.mem ((c.tc : Thread Cert.TokRefIdeal.nD Cert.TokRefIdeal.τ).loc Cert.TokRefIdeal.main_v4) = v0 c
          ∧ r.2.mem ((c.tc : Thread Cert.TokRefIdeal.nD Cert.TokRefIdeal.τ).loc Cert.TokRefIdeal.main_arg0) = m' ((c.tc : Thread Cert.TokRefIdeal.nD Cert.TokRefIdeal.τ).loc Cert.TokRefIdeal.main_arg0)
          ∧ r.2.mem ((c.tc : Thread Cert.TokRefIdeal.nD Cert.TokRefIdeal.τ).loc Cert.TokRefIdeal.main_arg1) = m' ((c.tc : Thread Cert.TokRefIdeal.nD Cert.TokRefIdeal.τ).loc Cert.TokRefIdeal.main_arg1))

def preserves_Wgt_WgtIdeal : Prop :=
  True

def algebraic_WgtIdeal_WgtRefIdeal [hWgtIdeal : Cert.WgtIdeal.Facts] [hWgtRefIdeal : Cert.WgtRefIdeal.Facts] : Prop :=
  ∀ (m : (ℓ : Loc Cert.WgtIdeal.nD Cert.WgtIdeal.τ Cert.WgtIdeal.sig) → Buf (Elt Ideal) ℓ) (g : Dev Cert.WgtIdeal.nD → PrngReg)
    (m' : (ℓ : Loc Cert.WgtRefIdeal.nD Cert.WgtRefIdeal.τ Cert.WgtRefIdeal.sig) → Buf (Elt Ideal) ℓ) (g' : Dev Cert.WgtRefIdeal.nD → PrngReg), Pre_WgtIdeal m →
    (∀ c : Dev Cert.WgtIdeal.nD,
      m' ((c.tc : Thread Cert.WgtRefIdeal.nD Cert.WgtRefIdeal.τ).loc Cert.WgtRefIdeal.main_arg0) = m ((c.tc : Thread Cert.WgtIdeal.nD Cert.WgtIdeal.τ).loc Cert.WgtIdeal.main_arg0)
      ∧ m' ((c.tc : Thread Cert.WgtRefIdeal.nD Cert.WgtRefIdeal.τ).loc Cert.WgtRefIdeal.main_arg1) = m ((c.tc : Thread Cert.WgtIdeal.nD Cert.WgtIdeal.τ).loc Cert.WgtIdeal.main_arg1)) →
    ∃ (v0 : (c : Dev Cert.WgtIdeal.nD) → Buf (Elt Ideal) ((c.tc : Thread Cert.WgtIdeal.nD Cert.WgtIdeal.τ).loc Cert.WgtIdeal.main_v1)),
      θ_run (Cert.WgtIdeal.defs (F := Ideal)) (onTc (τ := Cert.WgtIdeal.τ) (Cert.WgtIdeal.main (F := Ideal))) ⟨m, fun _ => 0, g⟩ (fun r => ∀ c : Dev Cert.WgtIdeal.nD,
          r.2.mem ((c.tc : Thread Cert.WgtIdeal.nD Cert.WgtIdeal.τ).loc Cert.WgtIdeal.main_v1) = v0 c
          ∧ r.2.mem ((c.tc : Thread Cert.WgtIdeal.nD Cert.WgtIdeal.τ).loc Cert.WgtIdeal.main_arg0) = m ((c.tc : Thread Cert.WgtIdeal.nD Cert.WgtIdeal.τ).loc Cert.WgtIdeal.main_arg0)
          ∧ r.2.mem ((c.tc : Thread Cert.WgtIdeal.nD Cert.WgtIdeal.τ).loc Cert.WgtIdeal.main_arg1) = m ((c.tc : Thread Cert.WgtIdeal.nD Cert.WgtIdeal.τ).loc Cert.WgtIdeal.main_arg1))
      ∧ θ_run (Cert.WgtRefIdeal.defs (F := Ideal)) (onTc (τ := Cert.WgtRefIdeal.τ) (Cert.WgtRefIdeal.main (F := Ideal))) ⟨m', fun _ => 0, g'⟩ (fun r => ∀ c : Dev Cert.WgtRefIdeal.nD,
          r.2.mem ((c.tc : Thread Cert.WgtRefIdeal.nD Cert.WgtRefIdeal.τ).loc Cert.WgtRefIdeal.main_v5) = v0 c
          ∧ r.2.mem ((c.tc : Thread Cert.WgtRefIdeal.nD Cert.WgtRefIdeal.τ).loc Cert.WgtRefIdeal.main_arg0) = m' ((c.tc : Thread Cert.WgtRefIdeal.nD Cert.WgtRefIdeal.τ).loc Cert.WgtRefIdeal.main_arg0)
          ∧ r.2.mem ((c.tc : Thread Cert.WgtRefIdeal.nD Cert.WgtRefIdeal.τ).loc Cert.WgtRefIdeal.main_arg1) = m' ((c.tc : Thread Cert.WgtRefIdeal.nD Cert.WgtRefIdeal.τ).loc Cert.WgtRefIdeal.main_arg1))

def Claim : Prop :=
  ∃ (hConv : Cert.Conv.Facts) (hConvIdeal : Cert.ConvIdeal.Facts) (hConvRefIdeal : Cert.ConvRefIdeal.Facts) (hForget : Cert.Forget.Facts) (hForgetIdeal : Cert.ForgetIdeal.Facts) (hForgetRefIdeal : Cert.ForgetRefIdeal.Facts) (hAttn : Cert.Attn.Facts) (hAttnIdeal : Cert.AttnIdeal.Facts) (hAttnRefIdeal : Cert.AttnRefIdeal.Facts) (hPle : Cert.Ple.Facts) (hPleIdeal : Cert.PleIdeal.Facts) (hPleRefIdeal : Cert.PleRefIdeal.Facts) (hFfn : Cert.Ffn.Facts) (hFfnIdeal : Cert.FfnIdeal.Facts) (hFfnRefIdeal : Cert.FfnRefIdeal.Facts) (hFwd : Cert.Fwd.Facts) (hFwdIdeal : Cert.FwdIdeal.Facts) (hFwdRefIdeal : Cert.FwdRefIdeal.Facts) (hMix : Cert.Mix.Facts) (hMixIdeal : Cert.MixIdeal.Facts) (hMixRefIdeal : Cert.MixRefIdeal.Facts) (hCum : Cert.Cum.Facts) (hCumIdeal : Cert.CumIdeal.Facts) (hCumRefIdeal : Cert.CumRefIdeal.Facts) (hAdam : Cert.Adam.Facts) (hAdamIdeal : Cert.AdamIdeal.Facts) (hAdamRefIdeal : Cert.AdamRefIdeal.Facts) (hFfw : Cert.Ffw.Facts) (hFfwIdeal : Cert.FfwIdeal.Facts) (hFfwRefIdeal : Cert.FfwRefIdeal.Facts) (hMtf : Cert.Mtf.Facts) (hMtfIdeal : Cert.MtfIdeal.Facts) (hMtfRefIdeal : Cert.MtfRefIdeal.Facts) (hProj : Cert.Proj.Facts) (hProjIdeal : Cert.ProjIdeal.Facts) (hProjRefIdeal : Cert.ProjRefIdeal.Facts) (hTok : Cert.Tok.Facts) (hTokIdeal : Cert.TokIdeal.Facts) (hTokRefIdeal : Cert.TokRefIdeal.Facts) (hWgt : Cert.Wgt.Facts) (hWgtIdeal : Cert.WgtIdeal.Facts) (hWgtRefIdeal : Cert.WgtRefIdeal.Facts) (hPre_finite_attn : Cert.Pre_finite_attn.Facts) (hPre_finite_ple : Cert.Pre_finite_ple.Facts) (hPre_finite_ffn : Cert.Pre_finite_ffn.Facts) (hPre_finite_attn_fwd : Cert.Pre_finite_attn_fwd.Facts),
    quiescent_Conv (hConv := hConv)
    ∧ quiescent_ConvIdeal (hConvIdeal := hConvIdeal)
    ∧ quiescent_ConvRefIdeal (hConvRefIdeal := hConvRefIdeal)
    ∧ quiescent_Forget (hForget := hForget)
    ∧ quiescent_ForgetIdeal (hForgetIdeal := hForgetIdeal)
    ∧ quiescent_ForgetRefIdeal (hForgetRefIdeal := hForgetRefIdeal)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Ple (hPle := hPle)
    ∧ quiescent_PleIdeal (hPleIdeal := hPleIdeal)
    ∧ quiescent_PleIdeal_pre_finite_ple (hPleIdeal := hPleIdeal) (hPre_finite_ple := hPre_finite_ple)
    ∧ quiescent_PleRefIdeal (hPleRefIdeal := hPleRefIdeal)
    ∧ quiescent_PleRefIdeal_pre_finite_ple (hPleRefIdeal := hPleRefIdeal) (hPre_finite_ple := hPre_finite_ple)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Fwd (hFwd := hFwd)
    ∧ quiescent_FwdIdeal (hFwdIdeal := hFwdIdeal)
    ∧ quiescent_FwdIdeal_pre_finite_attn_fwd (hFwdIdeal := hFwdIdeal) (hPre_finite_attn_fwd := hPre_finite_attn_fwd)
    ∧ quiescent_FwdRefIdeal (hFwdRefIdeal := hFwdRefIdeal)
    ∧ quiescent_FwdRefIdeal_pre_finite_attn_fwd (hFwdRefIdeal := hFwdRefIdeal) (hPre_finite_attn_fwd := hPre_finite_attn_fwd)
    ∧ quiescent_Mix (hMix := hMix)
    ∧ quiescent_MixIdeal (hMixIdeal := hMixIdeal)
    ∧ quiescent_MixRefIdeal (hMixRefIdeal := hMixRefIdeal)
    ∧ quiescent_Cum (hCum := hCum)
    ∧ quiescent_CumIdeal (hCumIdeal := hCumIdeal)
    ∧ quiescent_CumRefIdeal (hCumRefIdeal := hCumRefIdeal)
    ∧ quiescent_Adam (hAdam := hAdam)
    ∧ quiescent_AdamIdeal (hAdamIdeal := hAdamIdeal)
    ∧ quiescent_AdamRefIdeal (hAdamRefIdeal := hAdamRefIdeal)
    ∧ quiescent_Ffw (hFfw := hFfw)
    ∧ quiescent_FfwIdeal (hFfwIdeal := hFfwIdeal)
    ∧ quiescent_FfwRefIdeal (hFfwRefIdeal := hFfwRefIdeal)
    ∧ quiescent_Mtf (hMtf := hMtf)
    ∧ quiescent_MtfIdeal (hMtfIdeal := hMtfIdeal)
    ∧ quiescent_MtfRefIdeal (hMtfRefIdeal := hMtfRefIdeal)
    ∧ quiescent_Proj (hProj := hProj)
    ∧ quiescent_ProjIdeal (hProjIdeal := hProjIdeal)
    ∧ quiescent_ProjRefIdeal (hProjRefIdeal := hProjRefIdeal)
    ∧ quiescent_Tok (hTok := hTok)
    ∧ quiescent_TokIdeal (hTokIdeal := hTokIdeal)
    ∧ quiescent_TokRefIdeal (hTokRefIdeal := hTokRefIdeal)
    ∧ quiescent_Wgt (hWgt := hWgt)
    ∧ quiescent_WgtIdeal (hWgtIdeal := hWgtIdeal)
    ∧ quiescent_WgtRefIdeal (hWgtRefIdeal := hWgtRefIdeal)
    ∧ preserves_Conv_ConvIdeal
    ∧ algebraic_ConvIdeal_ConvRefIdeal (hConvIdeal := hConvIdeal) (hConvRefIdeal := hConvRefIdeal)
    ∧ preserves_Forget_ForgetIdeal
    ∧ algebraic_ForgetIdeal_ForgetRefIdeal (hForgetIdeal := hForgetIdeal) (hForgetRefIdeal := hForgetRefIdeal)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Ple_PleIdeal
    ∧ algebraic_PleIdeal_PleRefIdeal_pre_finite_ple (hPleIdeal := hPleIdeal) (hPleRefIdeal := hPleRefIdeal) (hPre_finite_ple := hPre_finite_ple)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Fwd_FwdIdeal
    ∧ algebraic_FwdIdeal_FwdRefIdeal_pre_finite_attn_fwd (hFwdIdeal := hFwdIdeal) (hFwdRefIdeal := hFwdRefIdeal) (hPre_finite_attn_fwd := hPre_finite_attn_fwd)
    ∧ preserves_Mix_MixIdeal
    ∧ algebraic_MixIdeal_MixRefIdeal (hMixIdeal := hMixIdeal) (hMixRefIdeal := hMixRefIdeal)
    ∧ preserves_Cum_CumIdeal
    ∧ algebraic_CumIdeal_CumRefIdeal (hCumIdeal := hCumIdeal) (hCumRefIdeal := hCumRefIdeal)
    ∧ preserves_Adam_AdamIdeal
    ∧ algebraic_AdamIdeal_AdamRefIdeal (hAdamIdeal := hAdamIdeal) (hAdamRefIdeal := hAdamRefIdeal)
    ∧ preserves_Ffw_FfwIdeal
    ∧ algebraic_FfwIdeal_FfwRefIdeal (hFfwIdeal := hFfwIdeal) (hFfwRefIdeal := hFfwRefIdeal)
    ∧ preserves_Mtf_MtfIdeal
    ∧ algebraic_MtfIdeal_MtfRefIdeal (hMtfIdeal := hMtfIdeal) (hMtfRefIdeal := hMtfRefIdeal)
    ∧ preserves_Proj_ProjIdeal
    ∧ algebraic_ProjIdeal_ProjRefIdeal (hProjIdeal := hProjIdeal) (hProjRefIdeal := hProjRefIdeal)
    ∧ preserves_Tok_TokIdeal
    ∧ algebraic_TokIdeal_TokRefIdeal (hTokIdeal := hTokIdeal) (hTokRefIdeal := hTokRefIdeal)
    ∧ preserves_Wgt_WgtIdeal
    ∧ algebraic_WgtIdeal_WgtRefIdeal (hWgtIdeal := hWgtIdeal) (hWgtRefIdeal := hWgtRefIdeal)
-- ==== Pre_finite_attn.lean ====
abbrev S16384x512 : Shape := ⟨2, ![16384, 512]⟩
abbrev S16384x8 : Shape := ⟨2, ![16384, 8]⟩
abbrev S_ : Shape := ⟨0, ![]⟩

class Facts : Prop where
  bcast_S_S16384x512 : S_.BroadcastsInDim S16384x512 (![] : Fin 0 → Fin S16384x512.rank)
  bcast_S_S16384x8 : S_.BroadcastsInDim S16384x8 (![] : Fin 0 → Fin S16384x8.rank)

variable [Facts]

def fn {F : FTy → Type} [FloatOps F] (main_arg0 : FVec F S16384x512 .f32) (main_arg1 : FVec F S16384x512 .f32) (main_arg2 : FVec F S16384x512 .f32) (main_arg3 : FVec F S16384x8 .f32) (main_arg4 : FVec F S16384x512 .f32) : IVec S16384x512 1 × IVec S16384x512 1 × IVec S16384x512 1 × IVec S16384x8 1 × IVec S16384x512 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x512 .f32 := Host.absf main_arg1
  let main_cst_0 : FVec F S_ .f32 := constant S_ .f32 0x7F800000#32
  let main_v4 : FVec F S16384x512 .f32 := broadcastInDim S16384x512 ![] bcast_S_S16384x512 main_cst_0
  let main_v5 : IVec S16384x512 1 := cmpf .olt main_v3 main_v4
  let main_v6 : FVec F S16384x512 .f32 := Host.absf main_arg2
  let main_cst_1 : FVec F S_ .f32 := constant S_ .f32 0x7F800000#32
  let main_v7 : FVec F S16384x512 .f32 := broadcastInDim S16384x512 ![] bcast_S_S16384x512 main_cst_1
  let main_v8 : IVec S16384x512 1 := cmpf .olt main_v6 main_v7
  let main_v9 : FVec F S16384x8 .f32 := Host.absf main_arg3
  let main_cst_2 : FVec F S_ .f32 := constant S_ .f32 0x7F800000#32
  let main_v10 : FVec F S16384x8 .f32 := broadcastInDim S16384x8 ![] bcast_S_S16384x8 main_cst_2
  let main_v11 : IVec S16384x8 1 := cmpf .olt main_v9 main_v10
  let main_v12 : FVec F S16384x512 .f32 := Host.absf main_arg4
  let main_cst_3 : FVec F S_ .f32 := constant S_ .f32 0x7F800000#32
  let main_v13 : FVec F S16384x512 .f32 := broadcastInDim S16384x512 ![] bcast_S_S16384x512 main_cst_3
  let main_v14 : IVec S16384x512 1 := cmpf .olt main_v12 main_v13
  (main_v2, main_v5, main_v8, main_v11, main_v14)
-- ==== Pre_finite_attn_fwd.lean ====
abbrev S16384x512 : Shape := ⟨2, ![16384, 512]⟩
abbrev S16384x8 : Shape := ⟨2, ![16384, 8]⟩
abbrev S_ : Shape := ⟨0, ![]⟩

class Facts : Prop where
  bcast_S_S16384x512 : S_.BroadcastsInDim S16384x512 (![] : Fin 0 → Fin S16384x512.rank)
  bcast_S_S16384x8 : S_.BroadcastsInDim S16384x8 (![] : Fin 0 → Fin S16384x8.rank)

variable [Facts]

def fn {F : FTy → Type} [FloatOps F] (main_arg0 : FVec F S16384x512 .f32) (main_arg1 : FVec F S16384x512 .f32) (main_arg2 : FVec F S16384x512 .f32) (main_arg3 : FVec F S16384x8 .f32) : IVec S16384x512 1 × IVec S16384x512 1 × IVec S16384x8 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x512 .f32 := Host.absf main_arg1
  let main_cst_0 : FVec F S_ .f32 := constant S_ .f32 0x7F800000#32
  let main_v4 : FVec F S16384x512 .f32 := broadcastInDim S16384x512 ![] bcast_S_S16384x512 main_cst_0
  let main_v5 : IVec S16384x512 1 := cmpf .olt main_v3 main_v4
  let main_v6 : FVec F S16384x8 .f32 := Host.absf main_arg3
  let main_cst_1 : FVec F S_ .f32 := constant S_ .f32 0x7F800000#32
  let main_v7 : FVec F S16384x8 .f32 := broadcastInDim S16384x8 ![] bcast_S_S16384x8 main_cst_1
  let main_v8 : IVec S16384x8 1 := cmpf .olt main_v6 main_v7
  (main_v2, main_v5, main_v8)
-- ==== Pre_finite_ffn.lean ====
abbrev S16384x1024 : Shape := ⟨2, ![16384, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)
  bcast_S_S1x1024 : S_.BroadcastsInDim S1x1024 (![] : Fin 0 → Fin S1x1024.rank)

variable [Facts]

def fn {F : FTy → Type} [FloatOps F] (main_arg0 : FVec F S16384x1024 .f32) (main_arg1 : FVec F S1024x5632 .f32) (main_arg2 : FVec F S2816x1024 .f32) (main_arg3 : FVec F S1x1024 .f32) (main_arg4 : FVec F S1x1024 .f32) (main_arg5 : FVec F S16384x1024 .f32) : IVec S16384x1024 1 × IVec S1024x5632 1 × IVec S2816x1024 1 × IVec S1x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S16384x1024 .f32 := Host.absf main_arg5
  let main_cst_3 : FVec F S_ .f32 := constant S_ .f32 0x7F800000#32
  let main_v13 : FVec F S16384x1024 .f32 := broadcastInDim S16384x1024 ![] bcast_S_S16384x1024 main_cst_3
  let main_v14 : IVec S16384x1024 1 := cmpf .olt main_v12 main_v13
  (main_v2, main_v5, main_v8, main_v11, main_v14)
-- ==== Pre_finite_ple.lean ====
abbrev S16384x1024 : Shape := ⟨2, ![16384, 1024]⟩
abbrev S16384x256 : Shape := ⟨2, ![16384, 256]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  bcast_S_S16384x256 : S_.BroadcastsInDim S16384x256 (![] : Fin 0 → Fin S16384x256.rank)
  bcast_S_S256x1024 : S_.BroadcastsInDim S256x1024 (![] : Fin 0 → Fin S256x1024.rank)
  bcast_S_S1x1024 : S_.BroadcastsInDim S1x1024 (![] : Fin 0 → Fin S1x1024.rank)

variable [Facts]

def fn {F : FTy → Type} [FloatOps F] (main_arg0 : FVec F S16384x1024 .f32) (main_arg1 : FVec F S16384x256 .f32) (main_arg2 : FVec F S16384x1024 .f32) (main_arg3 : FVec F S1024x1024 .f32) (main_arg4 : FVec F S256x1024 .f32) (main_arg5 : FVec F S1x1024 .f32) (main_arg6 : FVec F S1x1024 .f32) (main_arg7 : FVec F S1x1024 .f32) : IVec S16384x1024 1 × IVec S16384x256 1 × IVec S16384x1024 1 × IVec S256x1024 1 × IVec S1x1024 1 × IVec S1x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x256 .f32 := Host.absf main_arg1
  let main_cst_0 : FVec F S_ .f32 := constant S_ .f32 0x7F800000#32
  let main_v4 : FVec F S16384x256 .f32 := broadcastInDim S16384x256 ![] bcast_S_S16384x256 main_cst_0
  let main_v5 : IVec S16384x256 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  let main_v9 : FVec F S256x1024 .f32 := Host.absf main_arg4
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_v12 : FVec F S1x1024 .f32 := Host.absf main_arg6
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg7
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Conv.lean ====
abbrev S16384x3080 : Shape := ⟨2, ![16384, 3080]⟩
abbrev S3x512 : Shape := ⟨2, ![3, 512]⟩
abbrev S16384x512 : Shape := ⟨2, ![16384, 512]⟩
abbrev S16384x1536 : Shape := ⟨2, ![16384, 1536]⟩
abbrev S16384x8 : Shape := ⟨2, ![16384, 8]⟩
abbrev S_ : Shape := ⟨0, ![]⟩
abbrev S16384x128 : Shape := ⟨2, ![16384, 128]⟩
abbrev S16384x1664 : Shape := ⟨2, ![16384, 1664]⟩
abbrev S8x512 : Shape := ⟨2, ![8, 512]⟩
abbrev S512x512 : Shape := ⟨2, ![512, 512]⟩
abbrev S512x1536 : Shape := ⟨2, ![512, 1536]⟩
abbrev S512x1 : Shape := ⟨2, ![512, 1]⟩
abbrev S1x512 : Shape := ⟨2, ![1, 512]⟩
abbrev S512 : Shape := ⟨1, ![512]⟩

abbrev nBuf : Space → Nat
  | .hbm => 11
  | .vmem => 20
  | .smem => 0
  | _ => 0

abbrev bufTy : (tb : Table) → Fin (tcTables nBuf tb) → BufTy
  | .hbm, ⟨0, _⟩ => ⟨S16384x3080, .f32⟩
  | .hbm, ⟨1, _⟩ => ⟨S3x512, .f32⟩
  | .hbm, ⟨2, _⟩ => ⟨S16384x512, .f32⟩
  | .hbm, ⟨3, _⟩ => ⟨S16384x1536, .f32⟩
  | .hbm, ⟨4, _⟩ => ⟨S16384x8, .f32⟩
  | .hbm, ⟨5, _⟩ => ⟨S_, .i32⟩
  | .hbm, ⟨6, _⟩ => ⟨S_, .f32⟩
  | .hbm, ⟨7, _⟩ => ⟨S16384x128, .f32⟩
  | .hbm, ⟨8, _⟩ => ⟨S16384x1664, .f32⟩
  | .hbm, ⟨9, _⟩ => ⟨S16384x1536, .bf16⟩
  | .hbm, ⟨10, _⟩ => ⟨S8x512, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S3x512, .f32⟩
  | .local _ .vmem, ⟨17, _⟩ => ⟨S512x1536, .bf16⟩
  | .local _ .vmem, ⟨18, _⟩ => ⟨S512x1536, .bf16⟩
  | .local _ .vmem, ⟨19, _⟩ => ⟨S8x512, .f32⟩
  | _, _ => ⟨S16384x3080, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ConvRefIdeal.lean ====
abbrev S16384x3080 : Shape := ⟨2, ![16384, 3080]⟩
abbrev S3x512 : Shape := ⟨2, ![3, 512]⟩
abbrev S16384x512 : Shape := ⟨2, ![16384, 512]⟩
abbrev S_ : Shape := ⟨0, ![]⟩
abbrev S2x512 : Shape := ⟨2, ![2, 512]⟩
abbrev S16386x512 : Shape := ⟨2, ![16386, 512]⟩
abbrev S1x512 : Shape := ⟨2, ![1, 512]⟩
abbrev S512 : Shape := ⟨1, ![512]⟩
abbrev S16384x1536 : Shape := ⟨2, ![16384, 1536]⟩
abbrev S8x512 : Shape := ⟨2, ![8, 512]⟩

abbrev nBuf : Space → Nat
  | .hbm => 87
  | .vmem => 0
  | .smem => 0
  | _ => 0

abbrev bufTy : (tb : Table) → Fin (tcTables nBuf tb) → BufTy
  | .hbm, ⟨0, _⟩ => ⟨S16384x3080, .f32⟩
  | .hbm, ⟨1, _⟩ => ⟨S3x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S_, .f32⟩
  | .hbm, ⟨8, _⟩ => ⟨S2x512, .f32⟩
  | .hbm, ⟨9, _⟩ => ⟨S16386x512, .f32⟩
  | .hbm, ⟨10, _⟩ => ⟨S_, .f32⟩
  | .hbm, ⟨11, _⟩ => ⟨S2x512, .f32⟩
  | .hbm, ⟨12, _⟩ => ⟨S1x512, .f32⟩
  | .hbm, ⟨13, _⟩ => ⟨S512, .f32⟩
  | .hbm, ⟨14, _⟩ => ⟨S16384x512, .f32⟩
  | .hbm, ⟨15, _⟩ => ⟨S1x512, .f32⟩
  | .hbm, ⟨16, _⟩ => ⟨S16384x512, .f32⟩
  | .hbm, ⟨17, _⟩ => ⟨S16384x512, .f32⟩
  | .hbm, ⟨18, _⟩ => ⟨S1x512, .f32⟩
  | .hbm, ⟨19, _⟩ => ⟨S512, .f32⟩
  | .hbm, ⟨20, _⟩ => ⟨S16384x512, .f32⟩
  | .hbm, ⟨21, _⟩ => ⟨S1x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S1x512, .f32⟩
  | .hbm, ⟨26, _⟩ => ⟨S512, .f32⟩
  | .hbm, ⟨27, _⟩ => ⟨S16384x512, .f32⟩
  | .hbm, ⟨28, _⟩ => ⟨S1x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S_, .f32⟩
  | .hbm, ⟨39, _⟩ => ⟨S512, .f32⟩
  | .hbm, ⟨40, _⟩ => ⟨S1x512, .f32⟩
  | .hbm, ⟨41, _⟩ => ⟨S_, .f32⟩
  | .hbm, ⟨42, _⟩ => ⟨S512, .f32⟩
  | .hbm, ⟨43, _⟩ => ⟨S_, .f32⟩
  | .hbm, ⟨44, _⟩ => ⟨S16386x512, .f32⟩
  | .hbm, ⟨45, _⟩ => ⟨S1x512, .f32⟩
  | .hbm, ⟨46, _⟩ => ⟨S_, .f32⟩
  | .hbm, ⟨47, _⟩ => ⟨S3x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S_, .f32⟩
  | .hbm, ⟨52, _⟩ => ⟨S512, .f32⟩
  | .hbm, ⟨53, _⟩ => ⟨S1x512, .f32⟩
  | .hbm, ⟨54, _⟩ => ⟨S_, .f32⟩
  | .hbm, ⟨55, _⟩ => ⟨S512, .f32⟩
  | .hbm, ⟨56, _⟩ => ⟨S_, .f32⟩
  | .hbm, ⟨57, _⟩ => ⟨S16386x512, .f32⟩
  | .hbm, ⟨58, _⟩ => ⟨S16386x512, .f32⟩
  | .hbm, ⟨59, _⟩ => ⟨S1x512, .f32⟩
  | .hbm, ⟨60, _⟩ => ⟨S_, .f32⟩
  | .hbm, ⟨61, _⟩ => ⟨S3x512, .f32⟩
  | .hbm, ⟨62, _⟩ => ⟨S3x512, .f32⟩
  | .hbm, ⟨63, _⟩ => ⟨S16384x512, .f32⟩
  | .hbm, ⟨64, _⟩ => ⟨S16384x512, .f32⟩
  | .hbm, ⟨65, _⟩ => ⟨S16384x512, .f32⟩
  | .hbm, ⟨66, _⟩ => ⟨S_, .f32⟩
  | .hbm, ⟨67, _⟩ => ⟨S512, .f32⟩
  | .hbm, ⟨68, _⟩ => ⟨S1x512, .f32⟩
  | .hbm, ⟨69, _⟩ => ⟨S_, .f32⟩
  | .hbm, ⟨70, _⟩ => ⟨S512, .f32⟩
  | .hbm, ⟨71, _⟩ => ⟨S_, .f32⟩
  | .hbm, ⟨72, _⟩ => ⟨S16386x512, .f32⟩
  | .hbm, ⟨73, _⟩ => ⟨S16386x512, .f32⟩
  | .hbm, ⟨74, _⟩ => ⟨S1x512, .f32⟩
  | .hbm, ⟨75, _⟩ => ⟨S_, .f32⟩
  | .hbm, ⟨76, _⟩ => ⟨S3x512, .f32⟩
  | .hbm, ⟨77, _⟩ => ⟨S3x512, .f32⟩
  | .hbm, ⟨78, _⟩ => ⟨S2x512, .f32⟩
  | .hbm, ⟨79, _⟩ => ⟨S16384x512, .f32⟩
  | .hbm, ⟨80, _⟩ => ⟨S16384x512, .f32⟩
  | .hbm, ⟨81, _⟩ => ⟨S16384x512, .f32⟩
  | .hbm, ⟨82, _⟩ => ⟨S16384x1536, .f32⟩
  | .hbm, ⟨83, _⟩ => ⟨S16384x1536, .bf16⟩
  | .hbm, ⟨84, _⟩ => ⟨S_, .i32⟩
  | .hbm, ⟨85, _⟩ => ⟨S_, .f32⟩
  | .hbm, ⟨86, _⟩ => ⟨S8x512, .f32⟩
  | _, _ => ⟨S16384x3080, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_c : Ref sig .tc := ⟨.hbm, 84, rfl⟩
abbrev main_call0_v0 : Ref sig .tc := ⟨.hbm, 85, rfl⟩
abbrev main_v67 : Ref sig .tc := ⟨.hbm, 86, rfl⟩

abbrev nD : Nat := 1
abbrev τ : Topo := Topo.v7x

variable {F : FTy → Type} [FloatOps F]
-- ==== Forget.lean ====
abbrev S16384x3080 : Shape := ⟨2, ![16384, 3080]⟩
abbrev S1x8 : Shape := ⟨2, ![1, 8]⟩
abbrev S16384x8 : Shape := ⟨2, ![16384, 8]⟩
abbrev S16384x1536 : Shape := ⟨2, ![16384, 1536]⟩
abbrev S_ : Shape := ⟨0, ![]⟩
abbrev S16384x128 : Shape := ⟨2, ![16384, 128]⟩
abbrev S16384x1664 : Shape := ⟨2, ![16384, 1664]⟩
abbrev S1x128 : Shape := ⟨2, ![1, 128]⟩
abbrev S4x16384x128 : Shape := ⟨3, ![4, 16384, 128]⟩
abbrev S1x16384x128 : Shape := ⟨3, ![1, 16384, 128]⟩
abbrev S1x512x128 : Shape := ⟨3, ![1, 512, 128]⟩
abbrev S512x128 : Shape := ⟨2, ![512, 128]⟩
abbrev S512x512 : Shape := ⟨2, ![512, 512]⟩
abbrev S128 : Shape := ⟨1, ![128]⟩

abbrev nBuf : Space → Nat
  | .hbm => 38
  | .vmem => 17
  | .smem => 0
  | _ => 0

abbrev bufTy : (tb : Table) → Fin (tcTables nBuf tb) → BufTy
  | .hbm, ⟨0, _⟩ => ⟨S16384x3080, .f32⟩
  | .hbm, ⟨1, _⟩ => ⟨S1x8, .f32⟩
  | .hbm, ⟨2, _⟩ => ⟨S16384x8, .f32⟩
  | .hbm, ⟨3, _⟩ => ⟨S16384x8, .f32⟩
  | .hbm, ⟨4, _⟩ => ⟨S16384x1536, .f32⟩
  | .hbm, ⟨5, _⟩ => ⟨S16384x8, .f32⟩
  | .hbm, ⟨6, _⟩ => ⟨S_, .i32⟩
  | .hbm, ⟨7, _⟩ => ⟨S_, .f32⟩
  | .hbm, ⟨8, _⟩ => ⟨S16384x128, .f32⟩
  | .hbm, ⟨9, _⟩ => ⟨S16384x1664, .f32⟩
  | .hbm, ⟨10, _⟩ => ⟨S_, .i32⟩
  | .hbm, ⟨11, _⟩ => ⟨S_, .f32⟩
  | .hbm, ⟨12, _⟩ => ⟨S1x128, .f32⟩
  | .hbm, ⟨13, _⟩ => ⟨S4x16384x128, .i32⟩
  | .hbm, ⟨14, _⟩ => ⟨S4x16384x128, .i32⟩
  | .hbm, ⟨15, _⟩ => ⟨S_, .i32⟩
  | .hbm, ⟨16, _⟩ => ⟨S4x16384x128, .i32⟩
  | .hbm, ⟨17, _⟩ => ⟨S4x16384x128, .i32⟩
  | .hbm, ⟨18, _⟩ => ⟨S4x16384x128, .i1⟩
  | .hbm, ⟨19, _⟩ => ⟨S_, .i32⟩
  | .hbm, ⟨20, _⟩ => ⟨S4x16384x128, .i32⟩
  | .hbm, ⟨21, _⟩ => ⟨S4x16384x128, .i32⟩
  | .hbm, ⟨22, _⟩ => ⟨S4x16384x128, .i1⟩
  | .hbm, ⟨23, _⟩ => ⟨S4x16384x128, .i1⟩
  | .hbm, ⟨24, _⟩ => ⟨S_, .i32⟩
  | .hbm, ⟨25, _⟩ => ⟨S_, .f32⟩
  | .hbm, ⟨26, _⟩ => ⟨S16384x128, .f32⟩
  | .hbm, ⟨27, _⟩ => ⟨S1x16384x128, .f32⟩
  | .hbm, ⟨28, _⟩ => ⟨S_, .f32⟩
  | .hbm, ⟨29, _⟩ => ⟨S_, .f32⟩
  | .hbm, ⟨30, _⟩ => ⟨S4x16384x128, .f32⟩
  | .hbm, ⟨31, _⟩ => ⟨S4x16384x128, .f32⟩
  | .hbm, ⟨32, _⟩ => ⟨S4x16384x128, .f32⟩
  | .hbm, ⟨33, _⟩ => ⟨S_, .i32⟩
  | .hbm, ⟨34, _⟩ => ⟨S_, .f32⟩
  | .hbm, ⟨35, _⟩ => ⟨S16384x128, .f32⟩
  | .hbm, ⟨36, _⟩ => ⟨S16384x128, .bf16⟩
  | .hbm, ⟨37, _⟩ => ⟨S1x128, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x128, .f32⟩
  | .local _ .vmem, ⟨13, _⟩ => ⟨S512x128, .bf16⟩
  | .local _ .vmem, ⟨14, _⟩ => ⟨S512x128, .bf16⟩
  | .local _ .vmem, ⟨15, _⟩ => ⟨S1x128, .f32⟩
  | .local _ .vmem, ⟨16, _⟩ => ⟨S1x128, .f32⟩
  | _, _ => ⟨S16384x3080, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_call2_v0 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_call3_v0 : Ref sig .tc := ⟨.hbm, 29, rfl⟩
abbrev main_call3_v1 : Ref sig .tc := ⟨.hbm, 30, rfl⟩
abbrev main_call3_v2 : Ref sig .tc := ⟨.hbm, 31, rfl⟩
abbrev main_v16 : Ref sig .tc := ⟨.hbm, 32, rfl⟩
abbrev main_c_4 : Ref sig .tc := ⟨.hbm, 33, rfl⟩
abbrev main_call4_v0 : Ref sig .tc := ⟨.hbm, 34, rfl⟩
abbrev main_v17 : Ref sig .tc := ⟨.hbm, 35, rfl⟩
abbrev main_v18_0 : Ref sig .tc := ⟨.hbm, 36, rfl⟩
abbrev main_v18_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  let c0_i32_0 : BitVec 32 := 0#32
  ![c1_i32.toNat, v0.toNat, c0_i32.toNat]

def cc0_transform_2 (i : grid0.Coords) : Fin 3 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  let c0_i32_0 : BitVec 32 := 0#32
  ![c2_i32.toNat, v0.toNat, c0_i32.toNat]

def cc0_transform_3 (i : grid0.Coords) : Fin 3 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  let c0_i32_0 : BitVec 32 := 0#32
  ![c3_i32.toNat, v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c12_i32 : BitVec 32 := 12#32
  let c0_i32 : BitVec 32 := 0#32
  ![v0.toNat, c12_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ForgetRefIdeal.lean ====
abbrev S16384x3080 : Shape := ⟨2, ![16384, 3080]⟩
abbrev S1x8 : Shape := ⟨2, ![1, 8]⟩
abbrev S16384x8 : Shape := ⟨2, ![16384, 8]⟩
abbrev S_ : Shape := ⟨0, ![]⟩
abbrev S8 : Shape := ⟨1, ![8]⟩
abbrev S16384x128 : Shape := ⟨2, ![16384, 128]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S16384x3080, .f32⟩
  | .hbm, ⟨1, _⟩ => ⟨S1x8, .f32⟩
  | .hbm, ⟨2, _⟩ => ⟨S16384x8, .f32⟩
  | .hbm, ⟨3, _⟩ => ⟨S16384x8, .f32⟩
  | .hbm, ⟨4, _⟩ => ⟨S16384x8, .f32⟩
  | .hbm, ⟨5, _⟩ => ⟨S16384x8, .f32⟩
  | .hbm, ⟨6, _⟩ => ⟨S16384x8, .f32⟩
  | .hbm, ⟨7, _⟩ => ⟨S16384x8, .f32⟩
  | .hbm, ⟨8, _⟩ => ⟨S_, .f32⟩
  | .hbm, ⟨9, _⟩ => ⟨S16384x8, .f32⟩
  | .hbm, ⟨10, _⟩ => ⟨S16384x8, .f32⟩
  | .hbm, ⟨11, _⟩ => ⟨S16384x8, .f32⟩
  | .hbm, ⟨12, _⟩ => ⟨S16384x8, .f32⟩
  | .hbm, ⟨13, _⟩ => ⟨S16384x8, .i1⟩
  | .hbm, ⟨14, _⟩ => ⟨S16384x8, .f32⟩
  | .hbm, ⟨15, _⟩ => ⟨S16384x8, .f32⟩
  | .hbm, ⟨16, _⟩ => ⟨S16384x8, .f32⟩
  | .hbm, ⟨17, _⟩ => ⟨S16384x8, .f32⟩
  | .hbm, ⟨18, _⟩ => ⟨S16384x8, .f32⟩
  | .hbm, ⟨19, _⟩ => ⟨S16384x8, .f32⟩
  | .hbm, ⟨20, _⟩ => ⟨S16384x8, .f32⟩
  | .hbm, ⟨21, _⟩ => ⟨S16384x8, .f32⟩
  | .hbm, ⟨22, _⟩ => ⟨S_, .f32⟩
  | .hbm, ⟨23, _⟩ => ⟨S16384x8, .f32⟩
  | .hbm, ⟨24, _⟩ => ⟨S16384x8, .i1⟩
  | .hbm, ⟨25, _⟩ => ⟨S_, .f32⟩
  | .hbm, ⟨26, _⟩ => ⟨S16384x8, .f32⟩
  | .hbm, ⟨27, _⟩ => ⟨S16384x8, .f32⟩
  | .hbm, ⟨28, _⟩ => ⟨S_, .f32⟩
  | .hbm, ⟨29, _⟩ => ⟨S16384x8, .f32⟩
  | .hbm, ⟨30, _⟩ => ⟨S16384x8, .i1⟩
  | .hbm, ⟨31, _⟩ => ⟨S_, .f32⟩
  | .hbm, ⟨32, _⟩ => ⟨S16384x8, .f32⟩
  | .hbm, ⟨33, _⟩ => ⟨S16384x8, .f32⟩
  | .hbm, ⟨34, _⟩ => ⟨S16384x8, .f32⟩
  | .hbm, ⟨35, _⟩ => ⟨S16384x8, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S16384x8, .f32⟩
  | .hbm, ⟨44, _⟩ => ⟨S16384x8, .i1⟩
  | .hbm, ⟨45, _⟩ => ⟨S_, .f32⟩
  | .hbm, ⟨46, _⟩ => ⟨S16384x8, .f32⟩
  | .hbm, ⟨47, _⟩ => ⟨S16384x8, .f32⟩
  | .hbm, ⟨48, _⟩ => ⟨S16384x8, .f32⟩
  | .hbm, ⟨49, _⟩ => ⟨S16384x8, .f32⟩
  | .hbm, ⟨50, _⟩ => ⟨S16384x8, .f32⟩
  | .hbm, ⟨51, _⟩ => ⟨S_, .f32⟩
  | .hbm, ⟨52, _⟩ => ⟨S16384x8, .f32⟩
  | .hbm, ⟨53, _⟩ => ⟨S16384x8, .f32⟩
  | .hbm, ⟨54, _⟩ => ⟨S16384x8, .f32⟩
  | .hbm, ⟨55, _⟩ => ⟨S_, .f32⟩
  | .hbm, ⟨56, _⟩ => ⟨S_, .f32⟩
  | .hbm, ⟨57, _⟩ => ⟨S16384x8, .f32⟩
  | .hbm, ⟨58, _⟩ => ⟨S16384x8, .f32⟩
  | .hbm, ⟨59, _⟩ => ⟨S_, .f32⟩
  | .hbm, ⟨60, _⟩ => ⟨S_, .f32⟩
  | .hbm, ⟨61, _⟩ => ⟨S16384x8, .f32⟩
  | .hbm, ⟨62, _⟩ => ⟨S16384x8, .f32⟩
  | .hbm, ⟨63, _⟩ => ⟨S16384x8, .f32⟩
  | .hbm, ⟨64, _⟩ => ⟨S16384x8, .f32⟩
  | .hbm, ⟨65, _⟩ => ⟨S_, .f32⟩
  | .hbm, ⟨66, _⟩ => ⟨S8, .f32⟩
  | .hbm, ⟨67, _⟩ => ⟨S1x8, .f32⟩
  | .hbm, ⟨68, _⟩ => ⟨S_, .i32⟩
  | .hbm, ⟨69, _⟩ => ⟨S_, .f32⟩
  | .hbm, ⟨70, _⟩ => ⟨S16384x128, .f32⟩
  | .hbm, ⟨71, _⟩ => ⟨S16384x128, .bf16⟩
  | .hbm, ⟨72, _⟩ => ⟨S_, .i32⟩
  | .hbm, ⟨73, _⟩ => ⟨S_, .f32⟩
  | .hbm, ⟨74, _⟩ => ⟨S1x128, .f32⟩
  | _, _ => ⟨S16384x3080, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v3_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v3_2 : Ref sig .tc := ⟨.hbm, 53, rfl⟩
abbrev main_v3_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v4 : Ref sig .tc := ⟨.hbm, 57, rfl⟩
abbrev main_v5 : Ref sig .tc := ⟨.hbm, 58, rfl⟩
abbrev main_call2_call0_cst : Ref sig .tc := ⟨.hbm, 59, rfl⟩
abbrev main_call2_call0_v0 : Ref sig .tc := ⟨.hbm, 60, rfl⟩
abbrev main_v6 : Ref sig .tc := ⟨.hbm, 61, rfl⟩
abbrev main_call3_v0 : Ref sig .tc := ⟨.hbm, 62, rfl⟩
abbrev main_call3_v1 : Ref sig .tc := ⟨.hbm, 63, rfl⟩
abbrev main_v7 : Ref sig .tc := ⟨.hbm, 64, rfl⟩
abbrev main_cst : Ref sig .tc := ⟨.hbm, 65, rfl⟩
abbrev main_v8 : Ref sig .tc := ⟨.hbm, 66, rfl⟩
abbrev main_v9 : Ref sig .tc := ⟨.hbm, 67, rfl⟩
abbrev main_c : Ref sig .tc := ⟨.hbm, 68, rfl⟩
abbrev main_call4_v0 : Ref sig .tc := ⟨.hbm, 69, rfl⟩
abbrev main_v10 : Ref sig .tc := ⟨.hbm, 70, rfl⟩
abbrev main_v11 : Ref sig .tc := ⟨.hbm, 71, rfl⟩
abbrev main_c_0 : Ref sig .tc := ⟨.hbm, 72, rfl⟩
abbrev main_call5_v0 : Ref sig .tc := ⟨.hbm, 73, rfl⟩
abbrev main_v12 : Ref sig .tc := ⟨.hbm, 74, rfl⟩

abbrev nD : Nat := 1
abbrev τ : Topo := Topo.v7x

variable {F : FTy → Type} [FloatOps F]
-- ==== Attn.lean ====
abbrev S16384x512 : Shape := ⟨2, ![16384, 512]⟩
abbrev S16384x8 : Shape := ⟨2, ![16384, 8]⟩
abbrev S_ : Shape := ⟨0, ![]⟩
abbrev S16384x1536 : Shape := ⟨2, ![16384, 1536]⟩
abbrev S16384x128 : Shape := ⟨2, ![16384, 128]⟩
abbrev S16384x8x64 : Shape := ⟨3, ![16384, 8, 64]⟩
abbrev S8x16384x64 : Shape := ⟨3, ![8, 16384, 64]⟩
abbrev S8x16384x16384 : Shape := ⟨3, ![8, 16384, 16384]⟩
abbrev S8x16384 : Shape := ⟨2, ![8, 16384]⟩
abbrev S8x1x16384 : Shape := ⟨3, ![8, 1, 16384]⟩
abbrev S16384x16384 : Shape := ⟨2, ![16384, 16384]⟩
abbrev S1x16384x16384 : Shape := ⟨3, ![1, 16384, 16384]⟩
abbrev S8x16384x1 : Shape := ⟨3, ![8, 16384, 1]⟩
abbrev S1536x16384 : Shape := ⟨2, ![1536, 16384]⟩
abbrev S512x16384 : Shape := ⟨2, ![512, 16384]⟩
abbrev S4x2x16384 : Shape := ⟨3, ![4, 2, 16384]⟩
abbrev S4x8x16384 : Shape := ⟨3, ![4, 8, 16384]⟩
abbrev S4x16384x128 : Shape := ⟨3, ![4, 16384, 128]⟩
abbrev S512x128 : Shape := ⟨2, ![512, 128]⟩
abbrev S128x16384 : Shape := ⟨2, ![128, 16384]⟩
abbrev S128x512 : Shape := ⟨2, ![128, 512]⟩
abbrev S1x8x16384 : Shape := ⟨3, ![1, 8, 16384]⟩
abbrev S1x512x128 : Shape := ⟨3, ![1, 512, 128]⟩
abbrev S2x128x512 : Shape := ⟨3, ![2, 128, 512]⟩
abbrev S2x512x1 : Shape := ⟨3, ![2, 512, 1]⟩
abbrev S1x128 : Shape := ⟨2, ![1, 128]⟩
abbrev S128x1 : Shape := ⟨2, ![128, 1]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩
abbrev S256x128 : Shape := ⟨2, ![256, 128]⟩
abbrev S256x512 : Shape := ⟨2, ![256, 512]⟩
abbrev S256x1 : Shape := ⟨2, ![256, 1]⟩
abbrev S1x128x256 : Shape := ⟨3, ![1, 128, 256]⟩
abbrev S128x256 : Shape := ⟨2, ![128, 256]⟩
abbrev S1x256x1 : Shape := ⟨3, ![1, 256, 1]⟩
abbrev S256 : Shape := ⟨1, ![256]⟩
abbrev S1x1x256 : Shape := ⟨3, ![1, 1, 256]⟩
abbrev S1x256 : Shape := ⟨2, ![1, 256]⟩
abbrev S256x256 : Shape := ⟨2, ![256, 256]⟩
abbrev S512x512 : Shape := ⟨2, ![512, 512]⟩
abbrev S1x128x512 : Shape := ⟨3, ![1, 128, 512]⟩
abbrev S1x512x1 : Shape := ⟨3, ![1, 512, 1]⟩

abbrev nBuf : Space → Nat
  | .hbm => 97
  | .vmem => 27
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x8, .f32⟩
  | .hbm, ⟨4, _⟩ => ⟨S16384x512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x512, .f32⟩
  | .hbm, ⟨10, _⟩ => ⟨S16384x512, .f32⟩
  | .hbm, ⟨11, _⟩ => ⟨S_, .i32⟩
  | .hbm, ⟨12, _⟩ => ⟨S_, .f32⟩
  | .hbm, ⟨13, _⟩ => ⟨S16384x1536, .f32⟩
  | .hbm, ⟨14, _⟩ => ⟨S_, .i32⟩
  | .hbm, ⟨15, _⟩ => ⟨S_, .f32⟩
  | .hbm, ⟨16, _⟩ => ⟨S16384x1536, .f32⟩
  | .hbm, ⟨17, _⟩ => ⟨S16384x1536, .f32⟩
  | .hbm, ⟨18, _⟩ => ⟨S_, .i32⟩
  | .hbm, ⟨19, _⟩ => ⟨S_, .f32⟩
  | .hbm, ⟨20, _⟩ => ⟨S16384x1536, .f32⟩
  | .hbm, ⟨21, _⟩ => ⟨S16384x1536, .f32⟩
  | .hbm, ⟨22, _⟩ => ⟨S16384x1536, .bf16⟩
  | .hbm, ⟨23, _⟩ => ⟨S16384x8, .f32⟩
  | .hbm, ⟨24, _⟩ => ⟨S16384x8, .f32⟩
  | .hbm, ⟨25, _⟩ => ⟨S_, .i32⟩
  | .hbm, ⟨26, _⟩ => ⟨S_, .f32⟩
  | .hbm, ⟨27, _⟩ => ⟨S16384x128, .f32⟩
  | .hbm, ⟨28, _⟩ => ⟨S16384x512, .bf16⟩
  | .hbm, ⟨29, _⟩ => ⟨S16384x8x64, .bf16⟩
  | .hbm, ⟨30, _⟩ => ⟨S8x16384x64, .bf16⟩
  | .hbm, ⟨31, _⟩ => ⟨S16384x512, .bf16⟩
  | .hbm, ⟨32, _⟩ => ⟨S16384x8x64, .bf16⟩
  | .hbm, ⟨33, _⟩ => ⟨S8x16384x64, .bf16⟩
  | .hbm, ⟨34, _⟩ => ⟨S16384x512, .bf16⟩
  | .hbm, ⟨35, _⟩ => ⟨S16384x8x64, .bf16⟩
  | .hbm, ⟨36, _⟩ => ⟨S8x16384x64, .bf16⟩
  | .hbm, ⟨37, _⟩ => ⟨S8x16384x16384, .f32⟩
  | .hbm, ⟨38, _⟩ => ⟨S16384x8, .f32⟩
  | .hbm, ⟨39, _⟩ => ⟨S8x16384, .f32⟩
  | .hbm, ⟨40, _⟩ => ⟨S8x1x16384, .f32⟩
  | .hbm, ⟨41, _⟩ => ⟨S8x16384x16384, .f32⟩
  | .hbm, ⟨42, _⟩ => ⟨S8x16384x16384, .f32⟩
  | .hbm, ⟨43, _⟩ => ⟨S16384x16384, .i32⟩
  | .hbm, ⟨44, _⟩ => ⟨S16384x16384, .i32⟩
  | .hbm, ⟨45, _⟩ => ⟨S16384x16384, .i1⟩
  | .hbm, ⟨46, _⟩ => ⟨S1x16384x16384, .i1⟩
  | .hbm, ⟨47, _⟩ => ⟨S_, .f32⟩
  | .hbm, ⟨48, _⟩ => ⟨S_, .f32⟩
  | .hbm, ⟨49, _⟩ => ⟨S8x16384x16384, .i1⟩
  | .hbm, ⟨50, _⟩ => ⟨S8x16384x16384, .f32⟩
  | .hbm, ⟨51, _⟩ => ⟨S8x16384x16384, .f32⟩
  | .hbm, ⟨52, _⟩ => ⟨S_, .f32⟩
  | .hbm, ⟨53, _⟩ => ⟨S8x16384, .f32⟩
  | .hbm, ⟨54, _⟩ => ⟨S8x16384x1, .f32⟩
  | .hbm, ⟨55, _⟩ => ⟨S8x16384x16384, .f32⟩
  | .hbm, ⟨56, _⟩ => ⟨S8x16384x16384, .f32⟩
  | .hbm, ⟨57, _⟩ => ⟨S8x16384x16384, .f32⟩
  | .hbm, ⟨58, _⟩ => ⟨S8x16384x16384, .f32⟩
  | .hbm, ⟨59, _⟩ => ⟨S8x16384x16384, .f32⟩
  | .hbm, ⟨60, _⟩ => ⟨S_, .f32⟩
  | .hbm, ⟨61, _⟩ => ⟨S8x16384, .f32⟩
  | .hbm, ⟨62, _⟩ => ⟨S8x16384x1, .f32⟩
  | .hbm, ⟨63, _⟩ => ⟨S8x16384x16384, .bf16⟩
  | .hbm, ⟨64, _⟩ => ⟨S8x16384x64, .f32⟩
  | .hbm, ⟨65, _⟩ => ⟨S_, .f32⟩
  | .hbm, ⟨66, _⟩ => ⟨S8x16384x1, .f32⟩
  | .hbm, ⟨67, _⟩ => ⟨S8x16384x1, .f32⟩
  | .hbm, ⟨68, _⟩ => ⟨S8x16384x64, .f32⟩
  | .hbm, ⟨69, _⟩ => ⟨S8x16384x64, .f32⟩
  | .hbm, ⟨70, _⟩ => ⟨S8x16384x1, .f32⟩
  | .hbm, ⟨71, _⟩ => ⟨S8x16384x1, .f32⟩
  | .hbm, ⟨72, _⟩ => ⟨S8x16384x1, .f32⟩
  | .hbm, ⟨73, _⟩ => ⟨S8x16384x1, .f32⟩
  | .hbm, ⟨74, _⟩ => ⟨S8x16384x1, .f32⟩
  | .hbm, ⟨75, _⟩ => ⟨S16384x8x64, .f32⟩
  | .hbm, ⟨76, _⟩ => ⟨S8x16384x64, .f32⟩
  | .hbm, ⟨77, _⟩ => ⟨S8x16384x64, .f32⟩
  | .hbm, ⟨78, _⟩ => ⟨S_, .f32⟩
  | .hbm, ⟨79, _⟩ => ⟨S8x16384, .f32⟩
  | .hbm, ⟨80, _⟩ => ⟨S1536x16384, .bf16⟩
  | .hbm, ⟨81, _⟩ => ⟨S512x16384, .f32⟩
  | .hbm, ⟨82, _⟩ => ⟨S512x16384, .bf16⟩
  | .hbm, ⟨83, _⟩ => ⟨S8x16384, .f32⟩
  | .hbm, ⟨84, _⟩ => ⟨S4x2x16384, .f32⟩
  | .hbm, ⟨85, _⟩ => ⟨S_, .i32⟩
  | .hbm, ⟨86, _⟩ => ⟨S_, .f32⟩
  | .hbm, ⟨87, _⟩ => ⟨S4x8x16384, .f32⟩
  | .hbm, ⟨88, _⟩ => ⟨S4x2x16384, .f32⟩
  | .hbm, ⟨89, _⟩ => ⟨S_, .i32⟩
  | .hbm, ⟨90, _⟩ => ⟨S_, .f32⟩
  | .hbm, ⟨91, _⟩ => ⟨S4x8x16384, .f32⟩
  | .hbm, ⟨92, _⟩ => ⟨S512x16384, .f32⟩
  | .hbm, ⟨93, _⟩ => ⟨S512x16384, .bf16⟩
  | .hbm, ⟨94, _⟩ => ⟨S512x16384, .bf16⟩
  | .hbm, ⟨95, _⟩ => ⟨S4x16384x128, .f32⟩
  | .hbm, ⟨96, _⟩ => ⟨S4x8x16384, .f32⟩
  | .local _ .vmem, ⟨0, _⟩ => ⟨S512x128, .bf16⟩
  | .local _ .vmem, ⟨1, _⟩ => ⟨S512x128, .bf16⟩
  | .local _ .vmem, ⟨2, _⟩ => ⟨S128x16384, .bf16⟩
  | .local _ .vmem, ⟨3, _⟩ => ⟨S128x16384, .bf16⟩
  | .local _ .vmem, ⟨4, _⟩ => ⟨S128x512, .bf16⟩
  | .local _ .vmem, ⟨5, _⟩ => ⟨S128x512, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S1x8x16384, .f32⟩
  | .local _ .vmem, ⟨11, _⟩ => ⟨S1x8x16384, .f32⟩
  | .local _ .vmem, ⟨12, _⟩ => ⟨S1x8x16384, .f32⟩
  | .local _ .vmem, ⟨13, _⟩ => ⟨S1x8x16384, .f32⟩
  | .local _ .vmem, ⟨14, _⟩ => ⟨S128x16384, .f32⟩
  | .local _ .vmem, ⟨15, _⟩ => ⟨S128x16384, .f32⟩
  | .local _ .vmem, ⟨16, _⟩ => ⟨S128x512, .bf16⟩
  | .local _ .vmem, ⟨17, _⟩ => ⟨S128x512, .bf16⟩
  | .local _ .vmem, ⟨18, _⟩ => ⟨S128x512, .bf16⟩
  | .local _ .vmem, ⟨19, _⟩ => ⟨S128x512, .bf16⟩
  | .local _ .vmem, ⟨20, _⟩ => ⟨S1x512x128, .f32⟩
  | .local _ .vmem, ⟨21, _⟩ => ⟨S1x512x128, .f32⟩
  | .local _ .vmem, ⟨22, _⟩ => ⟨S1x8x16384, .f32⟩
  | .local _ .vmem, ⟨23, _⟩ => ⟨S1x8x16384, .f32⟩
  | .local _ .vmem, ⟨24, _⟩ => ⟨S2x128x512, .f32⟩
  | .local _ .vmem, ⟨25, _⟩ => ⟨S2x128x512, .f32⟩
  | .local _ .vmem, ⟨26, _⟩ => ⟨S2x512x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_c_1 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_call2_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_call3_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_call4_v0 : Ref sig .tc := ⟨.hbm, 48, rfl⟩
abbrev main_call4_v1 : Ref sig .tc := ⟨.hbm, 49, rfl⟩
abbrev main_call4_v2 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_8 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_9 : Ref sig .tc := ⟨.hbm, 85, rfl⟩
abbrev main_call5_v0 : Ref sig .tc := ⟨.hbm, 86, rfl⟩
abbrev main_v62 : Ref sig .tc := ⟨.hbm, 87, rfl⟩
abbrev main_v63 : Ref sig .tc := ⟨.hbm, 88, rfl⟩
abbrev main_c_10 : Ref sig .tc := ⟨.hbm, 89, rfl⟩
abbrev main_call6_v0 : Ref sig .tc := ⟨.hbm, 90, rfl⟩
abbrev main_v64 : Ref sig .tc := ⟨.hbm, 91, rfl⟩
abbrev main_v65_0 : Ref sig .tc := ⟨.hbm, 92, rfl⟩
abbrev main_v65_1 : Ref sig .tc := ⟨.hbm, 93, rfl⟩
abbrev main_v65_2 : Ref sig .tc := ⟨.hbm, 94, rfl⟩
abbrev main_v65_3 : Ref sig .tc := ⟨.hbm, 95, rfl⟩
abbrev main_v65_4 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let c31_i32 : BitVec 32 := 31#32
  let arg1 : BitVec 32 := BitVec.ofNat 32 (i 1).val
  let v72 : BitVec 32 := Scalar.subi c31_i32 arg1
  let c4_i32 : BitVec 32 := 4#32
  let c0_i32_30 : BitVec 32 := 0#32
  let v73 : BitVec 1 := Scalar.cmpi .eq c4_i32 c0_i32_30
  let c1_i32_31 : BitVec 32 := 1#32
  let v74 : BitVec 32 := Scalar.select v73 c1_i32_31 c4_i32
  let v75 : BitVec 32 := Scalar.remsi v72 v74
  let c0_i32_33 : BitVec 32 := 0#32
  let v77 : BitVec 1 := Scalar.cmpi .slt v75 c0_i32_33
  let c0_i32_34 : BitVec 32 := 0#32
  let v78 : BitVec 1 := Scalar.cmpi .slt v74 c0_i32_34
  let v79 : BitVec 1 := Scalar.xori v77 v78
  let c0_i32_32 : BitVec 32 := 0#32
  let v76 : BitVec 1 := Scalar.cmpi .ne v75 c0_i32_32
  let v80 : BitVec 1 := Scalar.andi v79 v76
  let v81 : BitVec 32 := Scalar.addi v75 v74
  let v82 : BitVec 32 := Scalar.select v80 v81 v75
  let c0_i32_35 : BitVec 32 := 0#32
  let v83 : BitVec 1 := Scalar.cmpi .eq v82 c0_i32_35
  let v84 : BitVec 32 := Scalar.extui v83
  let c0_i32_36 : BitVec 32 := 0#32
  let v85 : BitVec 1 := Scalar.cmpi .ne v84 c0_i32_36
  v85

def k0_mult1 (i : grid0.Coords) : BitVec 32 :=
  let arg1 : BitVec 32 := BitVec.ofNat 32 (i 1).val
  let c0_i32_104 : BitVec 32 := 0#32
  let v199 : BitVec 32 := Scalar.addi arg1 c0_i32_104
  let c512_i32 : BitVec 32 := 512#32
  let v200 : BitVec 32 := Scalar.muli v199 c512_i32
  let c0_i32_105 : BitVec 32 := 0#32
  let v201 : BitVec 32 := Scalar.addi v200 c0_i32_105
  v201
def k0_off1 (i : grid0.Coords) : Fin 2 → Nat :=
  let c0_106 : Index := 0#32
  let arg1 : BitVec 32 := BitVec.ofNat 32 (i 1).val
  let c0_i32_104 : BitVec 32 := 0#32
  let v199 : BitVec 32 := Scalar.addi arg1 c0_i32_104
  let c512_i32 : BitVec 32 := 512#32
  let v200 : BitVec 32 := Scalar.muli v199 c512_i32
  let c0_i32_105 : BitVec 32 := 0#32
  let v201 : BitVec 32 := Scalar.addi v200 c0_i32_105
  let v202 : BitVec 32 := v201
  let v203 : Index := Scalar.indexCast v202
  ![0, v203.toNat]
def k0_off2 (i : grid0.Coords) : Fin 3 → Nat :=
  let c0_108 : Index := 0#32
  let c0_109 : Index := 0#32
  let arg1 : BitVec 32 := BitVec.ofNat 32 (i 1).val
  let c0_i32_104 : BitVec 32 := 0#32
  let v199 : BitVec 32 := Scalar.addi arg1 c0_i32_104
  let c512_i32 : BitVec 32 := 512#32
  let v200 : BitVec 32 := Scalar.muli v199 c512_i32
  let c0_i32_105 : BitVec 32 := 0#32
  let v201 : BitVec 32 := Scalar.addi v200 c0_i32_105
  let v202 : BitVec 32 := v201
  let v209 : Index := Scalar.indexCast v202
  ![0, 0, v209.toNat]
def k0_off3 (i : grid0.Coords) : Fin 3 → Nat :=
  let c0_144 : Index := 0#32
  let c1_145 : Index := 1#32
  let arg1 : BitVec 32 := BitVec.ofNat 32 (i 1).val
  let c0_i32_104 : BitVec 32 := 0#32
  let v199 : BitVec 32 := Scalar.addi arg1 c0_i32_104
  let c512_i32 : BitVec 32 := 512#32
  let v200 : BitVec 32 := Scalar.muli v199 c512_i32
  let c0_i32_105 : BitVec 32 := 0#32
  let v201 : BitVec 32 := Scalar.addi v200 c0_i32_105
  let v202 : BitVec 32 := v201
  let v275 : Index := Scalar.indexCast v202
  ![0, 1, v275.toNat]
def k0_mult2 (i : grid0.Coords) : BitVec 32 :=
  let arg1 : BitVec 32 := BitVec.ofNat 32 (i 1).val
  let c0_i32_104 : BitVec 32 := 0#32
  let v199 : BitVec 32 := Scalar.addi arg1 c0_i32_104
  let c512_i32_180 : BitVec 32 := 512#32
  let v341 : BitVec 32 := Scalar.muli v199 c512_i32_180
  let c256_i32 : BitVec 32 := 256#32
  let v342 : BitVec 32 := Scalar.addi v341 c256_i32
  v342
def k0_off4 (i : grid0.Coords) : Fin 2 → Nat :=
  let c0_181 : Index := 0#32
  let arg1 : BitVec 32 := BitVec.ofNat 32 (i 1).val
  let c0_i32_104 : BitVec 32 := 0#32
  let v199 : BitVec 32 := Scalar.addi arg1 c0_i32_104
  let c512_i32_180 : BitVec 32 := 512#32
  let v341 : BitVec 32 := Scalar.muli v199 c512_i32_180
  let c256_i32 : BitVec 32 := 256#32
  let v342 : BitVec 32 := Scalar.addi v341 c256_i32
  let v343 : BitVec 32 := v342
  let v344 : Index := Scalar.indexCast v343
  ![0, v344.toNat]
def k0_off5 (i : grid0.Coords) : Fin 3 → Nat :=
  let c0_183 : Index := 0#32
  let c0_184 : Index := 0#32
  let arg1 : BitVec 32 := BitVec.ofNat 32 (i 1).val
  let c0_i32_104 : BitVec 32 := 0#32
  let v199 : BitVec 32 := Scalar.addi arg1 c0_i32_104
  let c512_i32_180 : BitVec 32 := 512#32
  let v341 : BitVec 32 := Scalar.muli v199 c512_i32_180
  let c256_i32 : BitVec 32 := 256#32
  let v342 : BitVec 32 := Scalar.addi v341 c256_i32
  let v343 : BitVec 32 := v342
  let v350 : Index := Scalar.indexCast v343
  ![0, 0, v350.toNat]
def k0_off6 (i : grid0.Coords) : Fin 3 → Nat :=
  let c0_218 : Index := 0#32
  let c1_219 : Index := 1#32
  let arg1 : BitVec 32 := BitVec.ofNat 32 (i 1).val
  let c0_i32_104 : BitVec 32 := 0#32
  let v199 : BitVec 32 := Scalar.addi arg1 c0_i32_104
  let c512_i32_180 : BitVec 32 := 512#32
  let v341 : BitVec 32 := Scalar.muli v199 c512_i32_180
  let c256_i32 : BitVec 32 := 256#32
  let v342 : BitVec 32 := Scalar.addi v341 c256_i32
  let v343 : BitVec 32 := v342
  let v416 : Index := Scalar.indexCast v343
  ![0, 1, v416.toNat]
def k0_cond3 (i : grid0.Coords) : BitVec 1 :=
  let c31_i32 : BitVec 32 := 31#32
  let arg1 : BitVec 32 := BitVec.ofNat 32 (i 1).val
  let v72 : BitVec 32 := Scalar.subi c31_i32 arg1
  let c4_i32_37 : BitVec 32 := 4#32
  let c0_i32_38 : BitVec 32 := 0#32
  let v86 : BitVec 1 := Scalar.cmpi .eq c4_i32_37 c0_i32_38
  let c1_i32_39 : BitVec 32 := 1#32
  let v87 : BitVec 32 := Scalar.select v86 c1_i32_39 c4_i32_37
  let v88 : BitVec 32 := Scalar.remsi v72 v87
  let c0_i32_41 : BitVec 32 := 0#32
  let v90 : BitVec 1 := Scalar.cmpi .slt v88 c0_i32_41
  let c0_i32_42 : BitVec 32 := 0#32
  let v91 : BitVec 1 := Scalar.cmpi .slt v87 c0_i32_42
  let v92 : BitVec 1 := Scalar.xori v90 v91
  let c0_i32_40 : BitVec 32 := 0#32
  let v89 : BitVec 1 := Scalar.cmpi .ne v88 c0_i32_40
  let v93 : BitVec 1 := Scalar.andi v92 v89
  let v94 : BitVec 32 := Scalar.addi v88 v87
  let v95 : BitVec 32 := Scalar.select v93 v94 v88
  let c1_i32_43 : BitVec 32 := 1#32
  let v96 : BitVec 1 := Scalar.cmpi .eq v95 c1_i32_43
  let v97 : BitVec 32 := Scalar.extui v96
  let c0_i32_44 : BitVec 32 := 0#32
  let v98 : BitVec 1 := Scalar.cmpi .ne v97 c0_i32_44
  v98

def k0_mult3 (i : grid0.Coords) : BitVec 32 :=
  let arg1 : BitVec 32 := BitVec.ofNat 32 (i 1).val
  let c0_i32_104 : BitVec 32 := 0#32
  let v199 : BitVec 32 := Scalar.addi arg1 c0_i32_104
  let c512_i32 : BitVec 32 := 512#32
  let v200 : BitVec 32 := Scalar.muli v199 c512_i32
  let c0_i32_105 : BitVec 32 := 0#32
  let v201 : BitVec 32 := Scalar.addi v200 c0_i32_105
  v201
def k0_off7 (i : grid0.Coords) (c0_i32_104 : BitVec 32) : Fin 2 → Nat :=
  let c0_106 : Index := 0#32
  let arg1 : BitVec 32 := BitVec.ofNat 32 (i 1).val
  let v199 : BitVec 32 := Scalar.addi arg1 c0_i32_104
  let c512_i32 : BitVec 32 := 512#32
  let v200 : BitVec 32 := Scalar.muli v199 c512_i32
  let c0_i32_105 : BitVec 32 := 0#32
  let v201 : BitVec 32 := Scalar.addi v200 c0_i32_105
  let v202 : BitVec 32 := v201
  let v203 : Index := Scalar.indexCast v202
  ![0, v203.toNat]
def k0_off8 (i : grid0.Coords) (c0_i32_104 : BitVec 32) : Fin 3 → Nat :=
  let c0_108 : Index := 0#32
  let c0_109 : Index := 0#32
  let arg1 : BitVec 32 := BitVec.ofNat 32 (i 1).val
  let v199 : BitVec 32 := Scalar.addi arg1 c0_i32_104
  let c512_i32 : BitVec 32 := 512#32
  let v200 : BitVec 32 := Scalar.muli v199 c512_i32
  let c0_i32_105 : BitVec 32 := 0#32
  let v201 : BitVec 32 := Scalar.addi v200 c0_i32_105
  let v202 : BitVec 32 := v201
  let v209 : Index := Scalar.indexCast v202
  ![0, 0, v209.toNat]
def k0_off9 (i : grid0.Coords) (c0_i32_104 : BitVec 32) : Fin 3 → Nat :=
  let c0_144 : Index := 0#32
  let c1_145 : Index := 1#32
  let arg1 : BitVec 32 := BitVec.ofNat 32 (i 1).val
  let v199 : BitVec 32 := Scalar.addi arg1 c0_i32_104
  let c512_i32 : BitVec 32 := 512#32
  let v200 : BitVec 32 := Scalar.muli v199 c512_i32
  let c0_i32_105 : BitVec 32 := 0#32
  let v201 : BitVec 32 := Scalar.addi v200 c0_i32_105
  let v202 : BitVec 32 := v201
  let v275 : Index := Scalar.indexCast v202
  ![0, 1, v275.toNat]
def k0_mult4 (i : grid0.Coords) : BitVec 32 :=
  let arg1 : BitVec 32 := BitVec.ofNat 32 (i 1).val
  let c0_i32_104 : BitVec 32 := 0#32
  let v199 : BitVec 32 := Scalar.addi arg1 c0_i32_104
  let c512_i32_180 : BitVec 32 := 512#32
  let v341 : BitVec 32 := Scalar.muli v199 c512_i32_180
  let c256_i32 : BitVec 32 := 256#32
  let v342 : BitVec 32 := Scalar.addi v341 c256_i32
  v342
def k0_off10 (i : grid0.Coords) : Fin 2 → Nat :=
  let c0_181 : Index := 0#32
  let arg1 : BitVec 32 := BitVec.ofNat 32 (i 1).val
  let c0_i32_104 : BitVec 32 := 0#32
  let v199 : BitVec 32 := Scalar.addi arg1 c0_i32_104
  let c512_i32_180 : BitVec 32 := 512#32
  let v341 : BitVec 32 := Scalar.muli v199 c512_i32_180
  let c256_i32 : BitVec 32 := 256#32
  let v342 : BitVec 32 := Scalar.addi v341 c256_i32
  let v343 : BitVec 32 := v342
  let v344 : Index := Scalar.indexCast v343
  ![0, v344.toNat]
def k0_off11 (i : grid0.Coords) : Fin 3 → Nat :=
  let c0_183 : Index := 0#32
  let c0_184 : Index := 0#32
  let arg1 : BitVec 32 := BitVec.ofNat 32 (i 1).val
  let c0_i32_104 : BitVec 32 := 0#32
  let v199 : BitVec 32 := Scalar.addi arg1 c0_i32_104
  let c512_i32_180 : BitVec 32 := 512#32
  let v341 : BitVec 32 := Scalar.muli v199 c512_i32_180
  let c256_i32 : BitVec 32 := 256#32
  let v342 : BitVec 32 := Scalar.addi v341 c256_i32
  let v343 : BitVec 32 := v342
  let v350 : Index := Scalar.indexCast v343
  ![0, 0, v350.toNat]
def k0_off12 (i : grid0.Coords) : Fin 3 → Nat :=
  let c0_218 : Index := 0#32
  let c1_219 : Index := 1#32
  let arg1 : BitVec 32 := BitVec.ofNat 32 (i 1).val
  let c0_i32_104 : BitVec 32 := 0#32
  let v199 : BitVec 32 := Scalar.addi arg1 c0_i32_104
  let c512_i32_180 : BitVec 32 := 512#32
  let v341 : BitVec 32 := Scalar.muli v199 c512_i32_180
  let c256_i32 : BitVec 32 := 256#32
  let v342 : BitVec 32 := Scalar.addi v341 c256_i32
  let v343 : BitVec 32 := v342
  let v416 : Index := Scalar.indexCast v343
  ![0, 1, v416.toNat]
def k0_mult5 (i : grid0.Coords) : BitVec 32 :=
  let arg1 : BitVec 32 := BitVec.ofNat 32 (i 1).val
  let c1_i32_254 : BitVec 32 := 1#32
  let v482 : BitVec 32 := Scalar.addi arg1 c1_i32_254
  let c512_i32_255 : BitVec 32 := 512#32
  let v483 : BitVec 32 := Scalar.muli v482 c512_i32_255
  let c0_i32_256 : BitVec 32 := 0#32
  let v484 : BitVec 32 := Scalar.addi v483 c0_i32_256
  v484
def k0_cond4 (i : grid0.Coords) : BitVec 1 :=
  let c31_i32 : BitVec 32 := 31#32
  let arg1 : BitVec 32 := BitVec.ofNat 32 (i 1).val
  let v72 : BitVec 32 := Scalar.subi c31_i32 arg1
  let c4_i32_45 : BitVec 32 := 4#32
  let c0_i32_46 : BitVec 32 := 0#32
  let v99 : BitVec 1 := Scalar.cmpi .eq c4_i32_45 c0_i32_46
  let c1_i32_47 : BitVec 32 := 1#32
  let v100 : BitVec 32 := Scalar.select v99 c1_i32_47 c4_i32_45
  let v101 : BitVec 32 := Scalar.remsi v72 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let c2_i32_51 : BitVec 32 := 2#32
  let v109 : BitVec 1 := Scalar.cmpi .eq v108 c2_i32_51
  let v110 : BitVec 32 := Scalar.extui v109
  let c0_i32_52 : BitVec 32 := 0#32
  let v111 : BitVec 1 := Scalar.cmpi .ne v110 c0_i32_52
  v111

def k0_mult6 (i : grid0.Coords) : BitVec 32 :=
  let arg1 : BitVec 32 := BitVec.ofNat 32 (i 1).val
  let c0_i32_104 : BitVec 32 := 0#32
  let v199 : BitVec 32 := Scalar.addi arg1 c0_i32_104
  let c512_i32 : BitVec 32 := 512#32
  let v200 : BitVec 32 := Scalar.muli v199 c512_i32
  let c0_i32_105 : BitVec 32 := 0#32
  let v201 : BitVec 32 := Scalar.addi v200 c0_i32_105
  v201
def k0_off13 (i : grid0.Coords) (c0_i32_104 : BitVec 32) : Fin 2 → Nat :=
  let c0_106 : Index := 0#32
  let arg1 : BitVec 32 := BitVec.ofNat 32 (i 1).val
  let v199 : BitVec 32 := Scalar.addi arg1 c0_i32_104
  let c512_i32 : BitVec 32 := 512#32
  let v200 : BitVec 32 := Scalar.muli v199 c512_i32
  let c0_i32_105 : BitVec 32 := 0#32
  let v201 : BitVec 32 := Scalar.addi v200 c0_i32_105
  let v202 : BitVec 32 := v201
  let v203 : Index := Scalar.indexCast v202
  ![0, v203.toNat]
def k0_off14 (i : grid0.Coords) (c0_i32_104 : BitVec 32) : Fin 3 → Nat :=
  let c0_108 : Index := 0#32
  let c0_109 : Index := 0#32
  let arg1 : BitVec 32 := BitVec.ofNat 32 (i 1).val
  let v199 : BitVec 32 := Scalar.addi arg1 c0_i32_104
  let c512_i32 : BitVec 32 := 512#32
  let v200 : BitVec 32 := Scalar.muli v199 c512_i32
  let c0_i32_105 : BitVec 32 := 0#32
  let v201 : BitVec 32 := Scalar.addi v200 c0_i32_105
  let v202 : BitVec 32 := v201
  let v209 : Index := Scalar.indexCast v202
  ![0, 0, v209.toNat]
def k0_off15 (i : grid0.Coords) (c0_i32_104 : BitVec 32) : Fin 3 → Nat :=
  let c0_144 : Index := 0#32
  let c1_145 : Index := 1#32
  let arg1 : BitVec 32 := BitVec.ofNat 32 (i 1).val
  let v199 : BitVec 32 := Scalar.addi arg1 c0_i32_104
  let c512_i32 : BitVec 32 := 512#32
  let v200 : BitVec 32 := Scalar.muli v199 c512_i32
  let c0_i32_105 : BitVec 32 := 0#32
  let v201 : BitVec 32 := Scalar.addi v200 c0_i32_105
  let v202 : BitVec 32 := v201
  let v275 : Index := Scalar.indexCast v202
  ![0, 1, v275.toNat]
def k0_mult7 (i : grid0.Coords) : BitVec 32 :=
  let arg1 : BitVec 32 := BitVec.ofNat 32 (i 1).val
  let c0_i32_104 : BitVec 32 := 0#32
  let v199 : BitVec 32 := Scalar.addi arg1 c0_i32_104
  let c512_i32_180 : BitVec 32 := 512#32
  let v341 : BitVec 32 := Scalar.muli v199 c512_i32_180
  let c256_i32 : BitVec 32 := 256#32
  let v342 : BitVec 32 := Scalar.addi v341 c256_i32
  v342
def k0_off16 (i : grid0.Coords) : Fin 2 → Nat :=
  let c0_181 : Index := 0#32
  let arg1 : BitVec 32 := BitVec.ofNat 32 (i 1).val
  let c0_i32_104 : BitVec 32 := 0#32
  let v199 : BitVec 32 := Scalar.addi arg1 c0_i32_104
  let c512_i32_180 : BitVec 32 := 512#32
  let v341 : BitVec 32 := Scalar.muli v199 c512_i32_180
  let c256_i32 : BitVec 32 := 256#32
  let v342 : BitVec 32 := Scalar.addi v341 c256_i32
  let v343 : BitVec 32 := v342
  let v344 : Index := Scalar.indexCast v343
  ![0, v344.toNat]
def k0_off17 (i : grid0.Coords) : Fin 3 → Nat :=
  let c0_183 : Index := 0#32
  let c0_184 : Index := 0#32
  let arg1 : BitVec 32 := BitVec.ofNat 32 (i 1).val
  let c0_i32_104 : BitVec 32 := 0#32
  let v199 : BitVec 32 := Scalar.addi arg1 c0_i32_104
  let c512_i32_180 : BitVec 32 := 512#32
  let v341 : BitVec 32 := Scalar.muli v199 c512_i32_180
  let c256_i32 : BitVec 32 := 256#32
  let v342 : BitVec 32 := Scalar.addi v341 c256_i32
  let v343 : BitVec 32 := v342
  let v350 : Index := Scalar.indexCast v343
  ![0, 0, v350.toNat]
def k0_off18 (i : grid0.Coords) : Fin 3 → Nat :=
  let c0_218 : Index := 0#32
  let c1_219 : Index := 1#32
  let arg1 : BitVec 32 := BitVec.ofNat 32 (i 1).val
  let c0_i32_104 : BitVec 32 := 0#32
  let v199 : BitVec 32 := Scalar.addi arg1 c0_i32_104
  let c512_i32_180 : BitVec 32 := 512#32
  let v341 : BitVec 32 := Scalar.muli v199 c512_i32_180
  let c256_i32 : BitVec 32 := 256#32
  let v342 : BitVec 32 := Scalar.addi v341 c256_i32
  let v343 : BitVec 32 := v342
  let v416 : Index := Scalar.indexCast v343
  ![0, 1, v416.toNat]
def k0_mult8 (i : grid0.Coords) : BitVec 32 :=
  let arg1 : BitVec 32 := BitVec.ofNat 32 (i 1).val
  let c1_i32_254 : BitVec 32 := 1#32
  let v482 : BitVec 32 := Scalar.addi arg1 c1_i32_254
  let c512_i32_255 : BitVec 32 := 512#32
  let v483 : BitVec 32 := Scalar.muli v482 c512_i32_255
  let c0_i32_256 : BitVec 32 := 0#32
  let v484 : BitVec 32 := Scalar.addi v483 c0_i32_256
  v484
def k0_mult9 (i : grid0.Coords) : BitVec 32 :=
  let arg1 : BitVec 32 := BitVec.ofNat 32 (i 1).val
  let c2_i32_329 : BitVec 32 := 2#32
  let v606 : BitVec 32 := Scalar.addi arg1 c2_i32_329
  let c512_i32_330 : BitVec 32 := 512#32
  let v607 : BitVec 32 := Scalar.muli v606 c512_i32_330
  let c0_i32_331 : BitVec 32 := 0#32
  let v608 : BitVec 32 := Scalar.addi v607 c0_i32_331
  v608
def k0_cond5 (i : grid0.Coords) : BitVec 1 :=
  let c31_i32 : BitVec 32 := 31#32
  let arg1 : BitVec 32 := BitVec.ofNat 32 (i 1).val
  let v72 : BitVec 32 := Scalar.subi c31_i32 arg1
  let c4_i32_53 : BitVec 32 := 4#32
  let c0_i32_54 : BitVec 32 := 0#32
  let v112 : BitVec 1 := Scalar.cmpi .eq c4_i32_53 c0_i32_54
  let c1_i32_55 : BitVec 32 := 1#32
  let v113 : BitVec 32 := Scalar.select v112 c1_i32_55 c4_i32_53
  let v114 : BitVec 32 := Scalar.remsi v72 v113
  let c0_i32_57 : BitVec 32 := 0#32
  let v116 : BitVec 1 := Scalar.cmpi .slt v114 c0_i32_57
  let c0_i32_58 : BitVec 32 := 0#32
  let v117 : BitVec 1 := Scalar.cmpi .slt v113 c0_i32_58
  let v118 : BitVec 1 := Scalar.xori v116 v117
  let c0_i32_56 : BitVec 32 := 0#32
  let v115 : BitVec 1 := Scalar.cmpi .ne v114 c0_i32_56
  let v119 : BitVec 1 := Scalar.andi v118 v115
  let v120 : BitVec 32 := Scalar.addi v114 v113
  let v121 : BitVec 32 := Scalar.select v119 v120 v114
  let c3_i32 : BitVec 32 := 3#32
  let v122 : BitVec 1 := Scalar.cmpi .eq v121 c3_i32
  let v123 : BitVec 32 := Scalar.extui v122
  let c0_i32_59 : BitVec 32 := 0#32
  let v124 : BitVec 1 := Scalar.cmpi .ne v123 c0_i32_59
  v124

def k0_mult10 (i : grid0.Coords) : BitVec 32 :=
  let arg1 : BitVec 32 := BitVec.ofNat 32 (i 1).val
  let c0_i32_104 : BitVec 32 := 0#32
  let v199 : BitVec 32 := Scalar.addi arg1 c0_i32_104
  let c512_i32 : BitVec 32 := 512#32
  let v200 : BitVec 32 := Scalar.muli v199 c512_i32
  let c0_i32_105 : BitVec 32 := 0#32
  let v201 : BitVec 32 := Scalar.addi v200 c0_i32_105
  v201
def k0_off19 (i : grid0.Coords) (c0_i32_104 : BitVec 32) : Fin 2 → Nat :=
  let c0_106 : Index := 0#32
  let arg1 : BitVec 32 := BitVec.ofNat 32 (i 1).val
  let v199 : BitVec 32 := Scalar.addi arg1 c0_i32_104
  let c512_i32 : BitVec 32 := 512#32
  let v200 : BitVec 32 := Scalar.muli v199 c512_i32
  let c0_i32_105 : BitVec 32 := 0#32
  let v201 : BitVec 32 := Scalar.addi v200 c0_i32_105
  let v202 : BitVec 32 := v201
  let v203 : Index := Scalar.indexCast v202
  ![0, v203.toNat]
def k0_off20 (i : grid0.Coords) (c0_i32_104 : BitVec 32) : Fin 3 → Nat :=
  let c0_108 : Index := 0#32
  let c0_109 : Index := 0#32
  let arg1 : BitVec 32 := BitVec.ofNat 32 (i 1).val
  let v199 : BitVec 32 := Scalar.addi arg1 c0_i32_104
  let c512_i32 : BitVec 32 := 512#32
  let v200 : BitVec 32 := Scalar.muli v199 c512_i32
  let c0_i32_105 : BitVec 32 := 0#32
  let v201 : BitVec 32 := Scalar.addi v200 c0_i32_105
  let v202 : BitVec 32 := v201
  let v209 : Index := Scalar.indexCast v202
  ![0, 0, v209.toNat]
def k0_off21 (i : grid0.Coords) (c0_i32_104 : BitVec 32) : Fin 3 → Nat :=
  let c0_144 : Index := 0#32
  let c1_145 : Index := 1#32
  let arg1 : BitVec 32 := BitVec.ofNat 32 (i 1).val
  let v199 : BitVec 32 := Scalar.addi arg1 c0_i32_104
  let c512_i32 : BitVec 32 := 512#32
  let v200 : BitVec 32 := Scalar.muli v199 c512_i32
  let c0_i32_105 : BitVec 32 := 0#32
  let v201 : BitVec 32 := Scalar.addi v200 c0_i32_105
  let v202 : BitVec 32 := v201
  let v275 : Index := Scalar.indexCast v202
  ![0, 1, v275.toNat]
def k0_mult11 (i : grid0.Coords) : BitVec 32 :=
  let arg1 : BitVec 32 := BitVec.ofNat 32 (i 1).val
  let c0_i32_104 : BitVec 32 := 0#32
  let v199 : BitVec 32 := Scalar.addi arg1 c0_i32_104
  let c512_i32_180 : BitVec 32 := 512#32
  let v341 : BitVec 32 := Scalar.muli v199 c512_i32_180
  let c256_i32 : BitVec 32 := 256#32
  let v342 : BitVec 32 := Scalar.addi v341 c256_i32
  v342
def k0_off22 (i : grid0.Coords) : Fin 2 → Nat :=
  let c0_181 : Index := 0#32
  let arg1 : BitVec 32 := BitVec.ofNat 32 (i 1).val
  let c0_i32_104 : BitVec 32 := 0#32
  let v199 : BitVec 32 := Scalar.addi arg1 c0_i32_104
  let c512_i32_180 : BitVec 32 := 512#32
  let v341 : BitVec 32 := Scalar.muli v199 c512_i32_180
  let c256_i32 : BitVec 32 := 256#32
  let v342 : BitVec 32 := Scalar.addi v341 c256_i32
  let v343 : BitVec 32 := v342
  let v344 : Index := Scalar.indexCast v343
  ![0, v344.toNat]
def k0_off23 (i : grid0.Coords) : Fin 3 → Nat :=
  let c0_183 : Index := 0#32
  let c0_184 : Index := 0#32
  let arg1 : BitVec 32 := BitVec.ofNat 32 (i 1).val
  let c0_i32_104 : BitVec 32 := 0#32
  let v199 : BitVec 32 := Scalar.addi arg1 c0_i32_104
  let c512_i32_180 : BitVec 32 := 512#32
  let v341 : BitVec 32 := Scalar.muli v199 c512_i32_180
  let c256_i32 : BitVec 32 := 256#32
  let v342 : BitVec 32 := Scalar.addi v341 c256_i32
  let v343 : BitVec 32 := v342
  let v350 : Index := Scalar.indexCast v343
  ![0, 0, v350.toNat]
def k0_off24 (i : grid0.Coords) : Fin 3 → Nat :=
  let c0_218 : Index := 0#32
  let c1_219 : Index := 1#32
  let arg1 : BitVec 32 := BitVec.ofNat 32 (i 1).val
  let c0_i32_104 : BitVec 32 := 0#32
  let v199 : BitVec 32 := Scalar.addi arg1 c0_i32_104
  let c512_i32_180 : BitVec 32 := 512#32
  let v341 : BitVec 32 := Scalar.muli v199 c512_i32_180
  let c256_i32 : BitVec 32 := 256#32
  let v342 : BitVec 32 := Scalar.addi v341 c256_i32
  let v343 : BitVec 32 := v342
  let v416 : Index := Scalar.indexCast v343
  ![0, 1, v416.toNat]
def k0_mult12 (i : grid0.Coords) : BitVec 32 :=
  let arg1 : BitVec 32 := BitVec.ofNat 32 (i 1).val
  let c1_i32_254 : BitVec 32 := 1#32
  let v482 : BitVec 32 := Scalar.addi arg1 c1_i32_254
  let c512_i32_255 : BitVec 32 := 512#32
  let v483 : BitVec 32 := Scalar.muli v482 c512_i32_255
  let c0_i32_256 : BitVec 32 := 0#32
  let v484 : BitVec 32 := Scalar.addi v483 c0_i32_256
  v484
def k0_mult13 (i : grid0.Coords) : BitVec 32 :=
  let arg1 : BitVec 32 := BitVec.ofNat 32 (i 1).val
  let c2_i32_329 : BitVec 32 := 2#32
  let v606 : BitVec 32 := Scalar.addi arg1 c2_i32_329
  let c512_i32_330 : BitVec 32 := 512#32
  let v607 : BitVec 32 := Scalar.muli v606 c512_i32_330
  let c0_i32_331 : BitVec 32 := 0#32
  let v608 : BitVec 32 := Scalar.addi v607 c0_i32_331
  v608
def k0_mult14 (i : grid0.Coords) : BitVec 32 :=
  let arg1 : BitVec 32 := BitVec.ofNat 32 (i 1).val
  let c3_i32_404 : BitVec 32 := 3#32
  let v730 : BitVec 32 := Scalar.addi arg1 c3_i32_404
  let c512_i32_405 : BitVec 32 := 512#32
  let v731 : BitVec 32 := Scalar.muli v730 c512_i32_405
  let c0_i32_406 : BitVec 32 := 0#32
  let v732 : BitVec 32 := Scalar.addi v731 c0_i32_406
  v732
@[reducible] def k0_t1_loop (i : grid0.Coords) : Scf.Loop 32 :=
  let c0_i32_68 : BitVec 32 := 0#32
  let c31_i32 : BitVec 32 := 31#32
  let arg1 : BitVec 32 := BitVec.ofNat 32 (i 1).val
  let v72 : BitVec 32 := Scalar.subi c31_i32 arg1
  let c0_i32_61 : BitVec 32 := 0#32
  let v126 : BitVec 1 := Scalar.cmpi .sgt v72 c0_i32_61
  let v127 : BitVec 32 := Scalar.extui v126
  let c0_i32_62 : BitVec 32 := 0#32
  let v128 : BitVec 1 := Scalar.cmpi .slt v72 c0_i32_62
  let v129 : BitVec 32 := Scalar.extui v128
  let v130 : BitVec 32 := Scalar.subi v127 v129
  let c4_i32_60 : BitVec 32 := 4#32
  let c0_i32_63 : BitVec 32 := 0#32
  let v131 : BitVec 1 := Scalar.cmpi .sgt c4_i32_60 c0_i32_63
  let v132 : BitVec 32 := Scalar.extui v131
  let c0_i32_64 : BitVec 32 := 0#32
  let v133 : BitVec 1 := Scalar.cmpi .slt c4_i32_60 c0_i32_64
  let v134 : BitVec 32 := Scalar.extui v133
  let v135 : BitVec 32 := Scalar.subi v132 v134
  let v136 : BitVec 1 := Scalar.cmpi .ne v130 v135
  let v137 : BitVec 32 := Scalar.remsi v72 c4_i32_60
  let c0_i32_65 : BitVec 32 := 0#32
  let v138 : BitVec 1 := Scalar.cmpi .ne v137 c0_i32_65
  let v139 : BitVec 1 := Scalar.andi v136 v138
  let v125 : BitVec 32 := Scalar.divsi v72 c4_i32_60
  let c1_i32_66 : BitVec 32 := 1#32
  let v140 : BitVec 32 := Scalar.subi v125 c1_i32_66
  let v141 : BitVec 32 := Scalar.select v139 v140 v125
  let v142 : BitVec 32 := Scalar.subi v141 c0_i32_68
  let c1_i32_69 : BitVec 32 := 1#32
  let v144 : BitVec 32 := Scalar.divsi v142 c1_i32_69
  let v145 : BitVec 32 := Scalar.muli v144 c1_i32_69
  let v146 : BitVec 32 := Scalar.addi c0_i32_68 v145
  let c1_i32_70 : BitVec 32 := 1#32
  ⟨c0_i32_68, v146, c1_i32_70⟩
def k0_mult15 (i : grid0.Coords) (k0_t1 : Fin (k0_t1_loop i).trips) : BitVec 32 :=
  let arg1 : BitVec 32 := BitVec.ofNat 32 (i 1).val
  let c1_i32_104 : BitVec 32 := 1#32
  let v199 : BitVec 32 := Scalar.addi arg1 c1_i32_104
  let c31_i32 : BitVec 32 := 31#32
  let v72 : BitVec 32 := Scalar.subi c31_i32 arg1
  let c4_i32_105 : BitVec 32 := 4#32
  let c0_i32_106 : BitVec 32 := 0#32
  let v200 : BitVec 1 := Scalar.cmpi .eq c4_i32_105 c0_i32_106
  let c1_i32_107 : BitVec 32 := 1#32
  let v201 : BitVec 32 := Scalar.select v200 c1_i32_107 c4_i32_105
  let v202 : BitVec 32 := Scalar.remsi v72 v201
  let c0_i32_109 : BitVec 32 := 0#32
  let v204 : BitVec 1 := Scalar.cmpi .slt v202 c0_i32_109
  let c0_i32_110 : BitVec 32 := 0#32
  let v205 : BitVec 1 := Scalar.cmpi .slt v201 c0_i32_110
  let v206 : BitVec 1 := Scalar.xori v204 v205
  let c0_i32_108 : BitVec 32 := 0#32
  let v203 : BitVec 1 := Scalar.cmpi .ne v202 c0_i32_108
  let v207 : BitVec 1 := Scalar.andi v206 v203
  let v208 : BitVec 32 := Scalar.addi v202 v201
  let v209 : BitVec 32 := Scalar.select v207 v208 v202
  let v210 : BitVec 32 := Scalar.addi v199 v209
  let c4_i32_111 : BitVec 32 := 4#32
  let c0_i32_68 : BitVec 32 := 0#32
  let c1_i32_70 : BitVec 32 := 1#32
  let arg18 : BitVec 32 := Scf.iv c0_i32_68 c1_i32_70 k0_t1
  let v211 : BitVec 32 := Scalar.muli c4_i32_111 arg18
  let v212 : BitVec 32 := Scalar.addi v210 v211
  let c0_i32_112 : BitVec 32 := 0#32
  let v213 : BitVec 32 := Scalar.addi v212 c0_i32_112
  let c512_i32 : BitVec 32 := 512#32
  let v214 : BitVec 32 := Scalar.muli v213 c512_i32
  let c0_i32_113 : BitVec 32 := 0#32
  let v215 : BitVec 32 := Scalar.addi v214 c0_i32_113
  v215
def k0_off25 (i : grid0.Coords) (k0_t1 : Fin (k0_t1_loop i).trips) (c0_i32_112 : BitVec 32) : Fin 2 → Nat :=
  let c0_114 : Index := 0#32
  let arg1 : BitVec 32 := BitVec.ofNat 32 (i 1).val
  let c1_i32_104 : BitVec 32 := 1#32
  let v199 : BitVec 32 := Scalar.addi arg1 c1_i32_104
  let c31_i32 : BitVec 32 := 31#32
  let v72 : BitVec 32 := Scalar.subi c31_i32 arg1
  let c4_i32_105 : BitVec 32 := 4#32
  let c0_i32_106 : BitVec 32 := 0#32
  let v200 : BitVec 1 := Scalar.cmpi .eq c4_i32_105 c0_i32_106
  let c1_i32_107 : BitVec 32 := 1#32
  let v201 : BitVec 32 := Scalar.select v200 c1_i32_107 c4_i32_105
  let v202 : BitVec 32 := Scalar.remsi v72 v201
  let c0_i32_109 : BitVec 32 := 0#32
  let v204 : BitVec 1 := Scalar.cmpi .slt v202 c0_i32_109
  let c0_i32_110 : BitVec 32 := 0#32
  let v205 : BitVec 1 := Scalar.cmpi .slt v201 c0_i32_110
  let v206 : BitVec 1 := Scalar.xori v204 v205
  let c0_i32_108 : BitVec 32 := 0#32
  let v203 : BitVec 1 := Scalar.cmpi .ne v202 c0_i32_108
  let v207 : BitVec 1 := Scalar.andi v206 v203
  let v208 : BitVec 32 := Scalar.addi v202 v201
  let v209 : BitVec 32 := Scalar.select v207 v208 v202
  let v210 : BitVec 32 := Scalar.addi v199 v209
  let c4_i32_111 : BitVec 32 := 4#32
  let c0_i32_68 : BitVec 32 := 0#32
  let c1_i32_70 : BitVec 32 := 1#32
  let arg18 : BitVec 32 := Scf.iv c0_i32_68 c1_i32_70 k0_t1
  let v211 : BitVec 32 := Scalar.muli c4_i32_111 arg18
  let v212 : BitVec 32 := Scalar.addi v210 v211
  let v213 : BitVec 32 := Scalar.addi v212 c0_i32_112
  let c512_i32 : BitVec 32 := 512#32
  let v214 : BitVec 32 := Scalar.muli v213 c512_i32
  let c0_i32_113 : BitVec 32 := 0#32
  let v215 : BitVec 32 := Scalar.addi v214 c0_i32_113
  let v216 : BitVec 32 := v215
  let v217 : Index := Scalar.indexCast v216
  ![0, v217.toNat]
def k0_off26 (i : grid0.Coords) (k0_t1 : Fin (k0_t1_loop i).trips) (c0_i32_112 : BitVec 32) : Fin 3 → Nat :=
  let c0_116 : Index := 0#32
  let c0_117 : Index := 0#32
  let arg1 : BitVec 32 := BitVec.ofNat 32 (i 1).val
  let c1_i32_104 : BitVec 32 := 1#32
  let v199 : BitVec 32 := Scalar.addi arg1 c1_i32_104
  let c31_i32 : BitVec 32 := 31#32
  let v72 : BitVec 32 := Scalar.subi c31_i32 arg1
  let c4_i32_105 : BitVec 32 := 4#32
  let c0_i32_106 : BitVec 32 := 0#32
  let v200 : BitVec 1 := Scalar.cmpi .eq c4_i32_105 c0_i32_106
  let c1_i32_107 : BitVec 32 := 1#32
  let v201 : BitVec 32 := Scalar.select v200 c1_i32_107 c4_i32_105
  let v202 : BitVec 32 := Scalar.remsi v72 v201
  let c0_i32_109 : BitVec 32 := 0#32
  let v204 : BitVec 1 := Scalar.cmpi .slt v202 c0_i32_109
  let c0_i32_110 : BitVec 32 := 0#32
  let v205 : BitVec 1 := Scalar.cmpi .slt v201 c0_i32_110
  let v206 : BitVec 1 := Scalar.xori v204 v205
  let c0_i32_108 : BitVec 32 := 0#32
  let v203 : BitVec 1 := Scalar.cmpi .ne v202 c0_i32_108
  let v207 : BitVec 1 := Scalar.andi v206 v203
  let v208 : BitVec 32 := Scalar.addi v202 v201
  let v209 : BitVec 32 := Scalar.select v207 v208 v202
  let v210 : BitVec 32 := Scalar.addi v199 v209
  let c4_i32_111 : BitVec 32 := 4#32
  let c0_i32_68 : BitVec 32 := 0#32
  let c1_i32_70 : BitVec 32 := 1#32
  let arg18 : BitVec 32 := Scf.iv c0_i32_68 c1_i32_70 k0_t1
  let v211 : BitVec 32 := Scalar.muli c4_i32_111 arg18
  let v212 : BitVec 32 := Scalar.addi v210 v211
  let v213 : BitVec 32 := Scalar.addi v212 c0_i32_112
  let c512_i32 : BitVec 32 := 512#32
  let v214 : BitVec 32 := Scalar.muli v213 c512_i32
  let c0_i32_113 : BitVec 32 := 0#32
  let v215 : BitVec 32 := Scalar.addi v214 c0_i32_113
  let v216 : BitVec 32 := v215
  let v223 : Index := Scalar.indexCast v216
  ![0, 0, v223.toNat]
def k0_off27 (i : grid0.Coords) (k0_t1 : Fin (k0_t1_loop i).trips) (c0_i32_112 : BitVec 32) : Fin 3 → Nat :=
  let c0_151 : Index := 0#32
  let c1_152 : Index := 1#32
  let arg1 : BitVec 32 := BitVec.ofNat 32 (i 1).val
  let c1_i32_104 : BitVec 32 := 1#32
  let v199 : BitVec 32 := Scalar.addi arg1 c1_i32_104
  let c31_i32 : BitVec 32 := 31#32
  let v72 : BitVec 32 := Scalar.subi c31_i32 arg1
  let c4_i32_105 : BitVec 32 := 4#32
  let c0_i32_106 : BitVec 32 := 0#32
  let v200 : BitVec 1 := Scalar.cmpi .eq c4_i32_105 c0_i32_106
  let c1_i32_107 : BitVec 32 := 1#32
  let v201 : BitVec 32 := Scalar.select v200 c1_i32_107 c4_i32_105
  let v202 : BitVec 32 := Scalar.remsi v72 v201
  let c0_i32_109 : BitVec 32 := 0#32
  let v204 : BitVec 1 := Scalar.cmpi .slt v202 c0_i32_109
  let c0_i32_110 : BitVec 32 := 0#32
  let v205 : BitVec 1 := Scalar.cmpi .slt v201 c0_i32_110
  let v206 : BitVec 1 := Scalar.xori v204 v205
  let c0_i32_108 : BitVec 32 := 0#32
  let v203 : BitVec 1 := Scalar.cmpi .ne v202 c0_i32_108
  let v207 : BitVec 1 := Scalar.andi v206 v203
  let v208 : BitVec 32 := Scalar.addi v202 v201
  let v209 : BitVec 32 := Scalar.select v207 v208 v202
  let v210 : BitVec 32 := Scalar.addi v199 v209
  let c4_i32_111 : BitVec 32 := 4#32
  let c0_i32_68 : BitVec 32 := 0#32
  let c1_i32_70 : BitVec 32 := 1#32
  let arg18 : BitVec 32 := Scf.iv c0_i32_68 c1_i32_70 k0_t1
  let v211 : BitVec 32 := Scalar.muli c4_i32_111 arg18
  let v212 : BitVec 32 := Scalar.addi v210 v211
  let v213 : BitVec 32 := Scalar.addi v212 c0_i32_112
  let c512_i32 : BitVec 32 := 512#32
  let v214 : BitVec 32 := Scalar.muli v213 c512_i32
  let c0_i32_113 : BitVec 32 := 0#32
  let v215 : BitVec 32 := Scalar.addi v214 c0_i32_113
  let v216 : BitVec 32 := v215
  let v280 : Index := Scalar.indexCast v216
  ![0, 1, v280.toNat]
def k0_mult16 (i : grid0.Coords) (k0_t1 : Fin (k0_t1_loop i).trips) : BitVec 32 :=
  let arg1 : BitVec 32 := BitVec.ofNat 32 (i 1).val
  let c1_i32_186 : BitVec 32 := 1#32
  let v337 : BitVec 32 := Scalar.addi arg1 c1_i32_186
  let c31_i32 : BitVec 32 := 31#32
  let v72 : BitVec 32 := Scalar.subi c31_i32 arg1
  let c4_i32_187 : BitVec 32 := 4#32
  let c0_i32_188 : BitVec 32 := 0#32
  let v338 : BitVec 1 := Scalar.cmpi .eq c4_i32_187 c0_i32_188
  let c1_i32_189 : BitVec 32 := 1#32
  let v339 : BitVec 32 := Scalar.select v338 c1_i32_189 c4_i32_187
  let v340 : BitVec 32 := Scalar.remsi v72 v339
  let c0_i32_191 : BitVec 32 := 0#32
  let v342 : BitVec 1 := Scalar.cmpi .slt v340 c0_i32_191
  let c0_i32_192 : BitVec 32 := 0#32
  let v343 : BitVec 1 := Scalar.cmpi .slt v339 c0_i32_192
  let v344 : BitVec 1 := Scalar.xori v342 v343
  let c0_i32_190 : BitVec 32 := 0#32
  let v341 : BitVec 1 := Scalar.cmpi .ne v340 c0_i32_190
  let v345 : BitVec 1 := Scalar.andi v344 v341
  let v346 : BitVec 32 := Scalar.addi v340 v339
  let v347 : BitVec 32 := Scalar.select v345 v346 v340
  let v348 : BitVec 32 := Scalar.addi v337 v347
  let c4_i32_193 : BitVec 32 := 4#32
  let c0_i32_68 : BitVec 32 := 0#32
  let c1_i32_70 : BitVec 32 := 1#32
  let arg18 : BitVec 32 := Scf.iv c0_i32_68 c1_i32_70 k0_t1
  let v349 : BitVec 32 := Scalar.muli c4_i32_193 arg18
  let v350 : BitVec 32 := Scalar.addi v348 v349
  let c1_i32_194 : BitVec 32 := 1#32
  let v351 : BitVec 32 := Scalar.addi v350 c1_i32_194
  let c512_i32_195 : BitVec 32 := 512#32
  let v352 : BitVec 32 := Scalar.muli v351 c512_i32_195
  let c0_i32_196 : BitVec 32 := 0#32
  let v353 : BitVec 32 := Scalar.addi v352 c0_i32_196
  v353
def k0_mult17 (i : grid0.Coords) (k0_t1 : Fin (k0_t1_loop i).trips) : BitVec 32 :=
  let arg1 : BitVec 32 := BitVec.ofNat 32 (i 1).val
  let c1_i32_269 : BitVec 32 := 1#32
  let v475 : BitVec 32 := Scalar.addi arg1 c1_i32_269
  let c31_i32 : BitVec 32 := 31#32
  let v72 : BitVec 32 := Scalar.subi c31_i32 arg1
  let c4_i32_270 : BitVec 32 := 4#32
  let c0_i32_271 : BitVec 32 := 0#32
  let v476 : BitVec 1 := Scalar.cmpi .eq c4_i32_270 c0_i32_271
  let c1_i32_272 : BitVec 32 := 1#32
  let v477 : BitVec 32 := Scalar.select v476 c1_i32_272 c4_i32_270
  let v478 : BitVec 32 := Scalar.remsi v72 v477
  let c0_i32_274 : BitVec 32 := 0#32
  let v480 : BitVec 1 := Scalar.cmpi .slt v478 c0_i32_274
  let c0_i32_275 : BitVec 32 := 0#32
  let v481 : BitVec 1 := Scalar.cmpi .slt v477 c0_i32_275
  let v482 : BitVec 1 := Scalar.xori v480 v481
  let c0_i32_273 : BitVec 32 := 0#32
  let v479 : BitVec 1 := Scalar.cmpi .ne v478 c0_i32_273
  let v483 : BitVec 1 := Scalar.andi v482 v479
  let v484 : BitVec 32 := Scalar.addi v478 v477
  let v485 : BitVec 32 := Scalar.select v483 v484 v478
  let v486 : BitVec 32 := Scalar.addi v475 v485
  let c4_i32_276 : BitVec 32 := 4#32
  let c0_i32_68 : BitVec 32 := 0#32
  let c1_i32_70 : BitVec 32 := 1#32
  let arg18 : BitVec 32 := Scf.iv c0_i32_68 c1_i32_70 k0_t1
  let v487 : BitVec 32 := Scalar.muli c4_i32_276 arg18
  let v488 : BitVec 32 := Scalar.addi v486 v487
  let c2_i32_277 : BitVec 32 := 2#32
  let v489 : BitVec 32 := Scalar.addi v488 c2_i32_277
  let c512_i32_278 : BitVec 32 := 512#32
  let v490 : BitVec 32 := Scalar.muli v489 c512_i32_278
  let c0_i32_279 : BitVec 32 := 0#32
  let v491 : BitVec 32 := Scalar.addi v490 c0_i32_279
  v491
def k0_mult18 (i : grid0.Coords) (k0_t1 : Fin (k0_t1_loop i).trips) : BitVec 32 :=
  let arg1 : BitVec 32 := BitVec.ofNat 32 (i 1).val
  let c1_i32_352 : BitVec 32 := 1#32
  let v613 : BitVec 32 := Scalar.addi arg1 c1_i32_352
  let c31_i32 : BitVec 32 := 31#32
  let v72 : BitVec 32 := Scalar.subi c31_i32 arg1
  let c4_i32_353 : BitVec 32 := 4#32
  let c0_i32_354 : BitVec 32 := 0#32
  let v614 : BitVec 1 := Scalar.cmpi .eq c4_i32_353 c0_i32_354
  let c1_i32_355 : BitVec 32 := 1#32
  let v615 : BitVec 32 := Scalar.select v614 c1_i32_355 c4_i32_353
  let v616 : BitVec 32 := Scalar.remsi v72 v615
  let c0_i32_357 : BitVec 32 := 0#32
  let v618 : BitVec 1 := Scalar.cmpi .slt v616 c0_i32_357
  let c0_i32_358 : BitVec 32 := 0#32
  let v619 : BitVec 1 := Scalar.cmpi .slt v615 c0_i32_358
  let v620 : BitVec 1 := Scalar.xori v618 v619
  let c0_i32_356 : BitVec 32 := 0#32
  let v617 : BitVec 1 := Scalar.cmpi .ne v616 c0_i32_356
  let v621 : BitVec 1 := Scalar.andi v620 v617
  let v622 : BitVec 32 := Scalar.addi v616 v615
  let v623 : BitVec 32 := Scalar.select v621 v622 v616
  let v624 : BitVec 32 := Scalar.addi v613 v623
  let c4_i32_359 : BitVec 32 := 4#32
  let c0_i32_68 : BitVec 32 := 0#32
  let c1_i32_70 : BitVec 32 := 1#32
  let arg18 : BitVec 32 := Scf.iv c0_i32_68 c1_i32_70 k0_t1
  let v625 : BitVec 32 := Scalar.muli c4_i32_359 arg18
  let v626 : BitVec 32 := Scalar.addi v624 v625
  let c3_i32_360 : BitVec 32 := 3#32
  let v627 : BitVec 32 := Scalar.addi v626 c3_i32_360
  let c512_i32_361 : BitVec 32 := 512#32
  let v628 : BitVec 32 := Scalar.muli v627 c512_i32_361
  let c0_i32_362 : BitVec 32 := 0#32
  let v629 : BitVec 32 := Scalar.addi v628 c0_i32_362
  v629
@[reducible] def k0_t2_loop (i : grid0.Coords) : Scf.Loop 32 :=
  let c0_i32_68 : BitVec 32 := 0#32
  let c31_i32 : BitVec 32 := 31#32
  let arg1 : BitVec 32 := BitVec.ofNat 32 (i 1).val
  let v72 : BitVec 32 := Scalar.subi c31_i32 arg1
  let c0_i32_61 : BitVec 32 := 0#32
  let v126 : BitVec 1 := Scalar.cmpi .sgt v72 c0_i32_61
  let v127 : BitVec 32 := Scalar.extui v126
  let c0_i32_62 : BitVec 32 := 0#32
  let v128 : BitVec 1 := Scalar.cmpi .slt v72 c0_i32_62
  let v129 : BitVec 32 := Scalar.extui v128
  let v130 : BitVec 32 := Scalar.subi v127 v129
  let c4_i32_60 : BitVec 32 := 4#32
  let c0_i32_63 : BitVec 32 := 0#32
  let v131 : BitVec 1 := Scalar.cmpi .sgt c4_i32_60 c0_i32_63
  let v132 : BitVec 32 := Scalar.extui v131
  let c0_i32_64 : BitVec 32 := 0#32
  let v133 : BitVec 1 := Scalar.cmpi .slt c4_i32_60 c0_i32_64
  let v134 : BitVec 32 := Scalar.extui v133
  let v135 : BitVec 32 := Scalar.subi v132 v134
  let v136 : BitVec 1 := Scalar.cmpi .ne v130 v135
  let v137 : BitVec 32 := Scalar.remsi v72 c4_i32_60
  let c0_i32_65 : BitVec 32 := 0#32
  let v138 : BitVec 1 := Scalar.cmpi .ne v137 c0_i32_65
  let v139 : BitVec 1 := Scalar.andi v136 v138
  let v125 : BitVec 32 := Scalar.divsi v72 c4_i32_60
  let c1_i32_66 : BitVec 32 := 1#32
  let v140 : BitVec 32 := Scalar.subi v125 c1_i32_66
  let v141 : BitVec 32 := Scalar.select v139 v140 v125
  let v142 : BitVec 32 := Scalar.subi v141 c0_i32_68
  let c1_i32_69 : BitVec 32 := 1#32
  let v144 : BitVec 32 := Scalar.divsi v142 c1_i32_69
  let v145 : BitVec 32 := Scalar.muli v144 c1_i32_69
  let v146 : BitVec 32 := Scalar.addi c0_i32_68 v145
  let v143 : BitVec 32 := Scalar.addi c0_i32_68 v142
  let c1_i32_71 : BitVec 32 := 1#32
  ⟨v146, v143, c1_i32_71⟩
def k0_mult19 (i : grid0.Coords) (k0_t2 : Fin (k0_t2_loop i).trips) : BitVec 32 :=
  let arg1 : BitVec 32 := BitVec.ofNat 32 (i 1).val
  let c1_i32_104 : BitVec 32 := 1#32
  let v199 : BitVec 32 := Scalar.addi arg1 c1_i32_104
  let c31_i32 : BitVec 32 := 31#32
  let v72 : BitVec 32 := Scalar.subi c31_i32 arg1
  let c4_i32_105 : BitVec 32 := 4#32
  let c0_i32_106 : BitVec 32 := 0#32
  let v200 : BitVec 1 := Scalar.cmpi .eq c4_i32_105 c0_i32_106
  let c1_i32_107 : BitVec 32 := 1#32
  let v201 : BitVec 32 := Scalar.select v200 c1_i32_107 c4_i32_105
  let v202 : BitVec 32 := Scalar.remsi v72 v201
  let c0_i32_109 : BitVec 32 := 0#32
  let v204 : BitVec 1 := Scalar.cmpi .slt v202 c0_i32_109
  let c0_i32_110 : BitVec 32 := 0#32
  let v205 : BitVec 1 := Scalar.cmpi .slt v201 c0_i32_110
  let v206 : BitVec 1 := Scalar.xori v204 v205
  let c0_i32_108 : BitVec 32 := 0#32
  let v203 : BitVec 1 := Scalar.cmpi .ne v202 c0_i32_108
  let v207 : BitVec 1 := Scalar.andi v206 v203
  let v208 : BitVec 32 := Scalar.addi v202 v201
  let v209 : BitVec 32 := Scalar.select v207 v208 v202
  let v210 : BitVec 32 := Scalar.addi v199 v209
  let c4_i32_111 : BitVec 32 := 4#32
  let c0_i32_68 : BitVec 32 := 0#32
  let c0_i32_61 : BitVec 32 := 0#32
  let v126 : BitVec 1 := Scalar.cmpi .sgt v72 c0_i32_61
  let v127 : BitVec 32 := Scalar.extui v126
  let c0_i32_62 : BitVec 32 := 0#32
  let v128 : BitVec 1 := Scalar.cmpi .slt v72 c0_i32_62
  let v129 : BitVec 32 := Scalar.extui v128
  let v130 : BitVec 32 := Scalar.subi v127 v129
  let c4_i32_60 : BitVec 32 := 4#32
  let c0_i32_63 : BitVec 32 := 0#32
  let v131 : BitVec 1 := Scalar.cmpi .sgt c4_i32_60 c0_i32_63
  let v132 : BitVec 32 := Scalar.extui v131
  let c0_i32_64 : BitVec 32 := 0#32
  let v133 : BitVec 1 := Scalar.cmpi .slt c4_i32_60 c0_i32_64
  let v134 : BitVec 32 := Scalar.extui v133
  let v135 : BitVec 32 := Scalar.subi v132 v134
  let v136 : BitVec 1 := Scalar.cmpi .ne v130 v135
  let v137 : BitVec 32 := Scalar.remsi v72 c4_i32_60
  let c0_i32_65 : BitVec 32 := 0#32
  let v138 : BitVec 1 := Scalar.cmpi .ne v137 c0_i32_65
  let v139 : BitVec 1 := Scalar.andi v136 v138
  let v125 : BitVec 32 := Scalar.divsi v72 c4_i32_60
  let c1_i32_66 : BitVec 32 := 1#32
  let v140 : BitVec 32 := Scalar.subi v125 c1_i32_66
  let v141 : BitVec 32 := Scalar.select v139 v140 v125
  let v142 : BitVec 32 := Scalar.subi v141 c0_i32_68
  let c1_i32_69 : BitVec 32 := 1#32
  let v144 : BitVec 32 := Scalar.divsi v142 c1_i32_69
  let v145 : BitVec 32 := Scalar.muli v144 c1_i32_69
  let v146 : BitVec 32 := Scalar.addi c0_i32_68 v145
  let c1_i32_71 : BitVec 32 := 1#32
  let arg18 : BitVec 32 := Scf.iv v146 c1_i32_71 k0_t2
  let v211 : BitVec 32 := Scalar.muli c4_i32_111 arg18
  let v212 : BitVec 32 := Scalar.addi v210 v211
  let c0_i32_112 : BitVec 32 := 0#32
  let v213 : BitVec 32 := Scalar.addi v212 c0_i32_112
  let c512_i32 : BitVec 32 := 512#32
  let v214 : BitVec 32 := Scalar.muli v213 c512_i32
  let c0_i32_113 : BitVec 32 := 0#32
  let v215 : BitVec 32 := Scalar.addi v214 c0_i32_113
  v215
def k0_off28 (i : grid0.Coords) (k0_t2 : Fin (k0_t2_loop i).trips) (c0_i32_112 : BitVec 32) : Fin 2 → Nat :=
  let c0_114 : Index := 0#32
  let arg1 : BitVec 32 := BitVec.ofNat 32 (i 1).val
  let c1_i32_104 : BitVec 32 := 1#32
  let v199 : BitVec 32 := Scalar.addi arg1 c1_i32_104
  let c31_i32 : BitVec 32 := 31#32
  let v72 : BitVec 32 := Scalar.subi c31_i32 arg1
  let c4_i32_105 : BitVec 32 := 4#32
  let c0_i32_106 : BitVec 32 := 0#32
  let v200 : BitVec 1 := Scalar.cmpi .eq c4_i32_105 c0_i32_106
  let c1_i32_107 : BitVec 32 := 1#32
  let v201 : BitVec 32 := Scalar.select v200 c1_i32_107 c4_i32_105
  let v202 : BitVec 32 := Scalar.remsi v72 v201
  let c0_i32_109 : BitVec 32 := 0#32
  let v204 : BitVec 1 := Scalar.cmpi .slt v202 c0_i32_109
  let c0_i32_110 : BitVec 32 := 0#32
  let v205 : BitVec 1 := Scalar.cmpi .slt v201 c0_i32_110
  let v206 : BitVec 1 := Scalar.xori v204 v205
  let c0_i32_108 : BitVec 32 := 0#32
  let v203 : BitVec 1 := Scalar.cmpi .ne v202 c0_i32_108
  let v207 : BitVec 1 := Scalar.andi v206 v203
  let v208 : BitVec 32 := Scalar.addi v202 v201
  let v209 : BitVec 32 := Scalar.select v207 v208 v202
  let v210 : BitVec 32 := Scalar.addi v199 v209
  let c4_i32_111 : BitVec 32 := 4#32
  let c0_i32_68 : BitVec 32 := 0#32
  let c0_i32_61 : BitVec 32 := 0#32
  let v126 : BitVec 1 := Scalar.cmpi .sgt v72 c0_i32_61
  let v127 : BitVec 32 := Scalar.extui v126
  let c0_i32_62 : BitVec 32 := 0#32
  let v128 : BitVec 1 := Scalar.cmpi .slt v72 c0_i32_62
  let v129 : BitVec 32 := Scalar.extui v128
  let v130 : BitVec 32 := Scalar.subi v127 v129
  let c4_i32_60 : BitVec 32 := 4#32
  let c0_i32_63 : BitVec 32 := 0#32
  let v131 : BitVec 1 := Scalar.cmpi .sgt c4_i32_60 c0_i32_63
  let v132 : BitVec 32 := Scalar.extui v131
  let c0_i32_64 : BitVec 32 := 0#32
  let v133 : BitVec 1 := Scalar.cmpi .slt c4_i32_60 c0_i32_64
  let v134 : BitVec 32 := Scalar.extui v133
  let v135 : BitVec 32 := Scalar.subi v132 v134
  let v136 : BitVec 1 := Scalar.cmpi .ne v130 v135
  let v137 : BitVec 32 := Scalar.remsi v72 c4_i32_60
  let c0_i32_65 : BitVec 32 := 0#32
  let v138 : BitVec 1 := Scalar.cmpi .ne v137 c0_i32_65
  let v139 : BitVec 1 := Scalar.andi v136 v138
  let v125 : BitVec 32 := Scalar.divsi v72 c4_i32_60
  let c1_i32_66 : BitVec 32 := 1#32
  let v140 : BitVec 32 := Scalar.subi v125 c1_i32_66
  let v141 : BitVec 32 := Scalar.select v139 v140 v125
  let v142 : BitVec 32 := Scalar.subi v141 c0_i32_68
  let c1_i32_69 : BitVec 32 := 1#32
  let v144 : BitVec 32 := Scalar.divsi v142 c1_i32_69
  let v145 : BitVec 32 := Scalar.muli v144 c1_i32_69
  let v146 : BitVec 32 := Scalar.addi c0_i32_68 v145
  let c1_i32_71 : BitVec 32 := 1#32
  let arg18 : BitVec 32 := Scf.iv v146 c1_i32_71 k0_t2
  let v211 : BitVec 32 := Scalar.muli c4_i32_111 arg18
  let v212 : BitVec 32 := Scalar.addi v210 v211
  let v213 : BitVec 32 := Scalar.addi v212 c0_i32_112
  let c512_i32 : BitVec 32 := 512#32
  let v214 : BitVec 32 := Scalar.muli v213 c512_i32
  let c0_i32_113 : BitVec 32 := 0#32
  let v215 : BitVec 32 := Scalar.addi v214 c0_i32_113
  let v216 : BitVec 32 := v215
  let v217 : Index := Scalar.indexCast v216
  ![0, v217.toNat]
def k0_off29 (i : grid0.Coords) (k0_t2 : Fin (k0_t2_loop i).trips) (c0_i32_112 : BitVec 32) : Fin 3 → Nat :=
  let c0_116 : Index := 0#32
  let c0_117 : Index := 0#32
  let arg1 : BitVec 32 := BitVec.ofNat 32 (i 1).val
  let c1_i32_104 : BitVec 32 := 1#32
  let v199 : BitVec 32 := Scalar.addi arg1 c1_i32_104
  let c31_i32 : BitVec 32 := 31#32
  let v72 : BitVec 32 := Scalar.subi c31_i32 arg1
  let c4_i32_105 : BitVec 32 := 4#32
  let c0_i32_106 : BitVec 32 := 0#32
  let v200 : BitVec 1 := Scalar.cmpi .eq c4_i32_105 c0_i32_106
  let c1_i32_107 : BitVec 32 := 1#32
  let v201 : BitVec 32 := Scalar.select v200 c1_i32_107 c4_i32_105
  let v202 : BitVec 32 := Scalar.remsi v72 v201
  let c0_i32_109 : BitVec 32 := 0#32
  let v204 : BitVec 1 := Scalar.cmpi .slt v202 c0_i32_109
  let c0_i32_110 : BitVec 32 := 0#32
  let v205 : BitVec 1 := Scalar.cmpi .slt v201 c0_i32_110
  let v206 : BitVec 1 := Scalar.xori v204 v205
  let c0_i32_108 : BitVec 32 := 0#32
  let v203 : BitVec 1 := Scalar.cmpi .ne v202 c0_i32_108
  let v207 : BitVec 1 := Scalar.andi v206 v203
  let v208 : BitVec 32 := Scalar.addi v202 v201
  let v209 : BitVec 32 := Scalar.select v207 v208 v202
  let v210 : BitVec 32 := Scalar.addi v199 v209
  let c4_i32_111 : BitVec 32 := 4#32
  let c0_i32_68 : BitVec 32 := 0#32
  let c0_i32_61 : BitVec 32 := 0#32
  let v126 : BitVec 1 := Scalar.cmpi .sgt v72 c0_i32_61
  let v127 : BitVec 32 := Scalar.extui v126
  let c0_i32_62 : BitVec 32 := 0#32
  let v128 : BitVec 1 := Scalar.cmpi .slt v72 c0_i32_62
  let v129 : BitVec 32 := Scalar.extui v128
  let v130 : BitVec 32 := Scalar.subi v127 v129
  let c4_i32_60 : BitVec 32 := 4#32
  let c0_i32_63 : BitVec 32 := 0#32
  let v131 : BitVec 1 := Scalar.cmpi .sgt c4_i32_60 c0_i32_63
  let v132 : BitVec 32 := Scalar.extui v131
  let c0_i32_64 : BitVec 32 := 0#32
  let v133 : BitVec 1 := Scalar.cmpi .slt c4_i32_60 c0_i32_64
  let v134 : BitVec 32 := Scalar.extui v133
  let v135 : BitVec 32 := Scalar.subi v132 v134
  let v136 : BitVec 1 := Scalar.cmpi .ne v130 v135
  let v137 : BitVec 32 := Scalar.remsi v72 c4_i32_60
  let c0_i32_65 : BitVec 32 := 0#32
  let v138 : BitVec 1 := Scalar.cmpi .ne v137 c0_i32_65
  let v139 : BitVec 1 := Scalar.andi v136 v138
  let v125 : BitVec 32 := Scalar.divsi v72 c4_i32_60
  let c1_i32_66 : BitVec 32 := 1#32
  let v140 : BitVec 32 := Scalar.subi v125 c1_i32_66
  let v141 : BitVec 32 := Scalar.select v139 v140 v125
  let v142 : BitVec 32 := Scalar.subi v141 c0_i32_68
  let c1_i32_69 : BitVec 32 := 1#32
  let v144 : BitVec 32 := Scalar.divsi v142 c1_i32_69
  let v145 : BitVec 32 := Scalar.muli v144 c1_i32_69
  let v146 : BitVec 32 := Scalar.addi c0_i32_68 v145
  let c1_i32_71 : BitVec 32 := 1#32
  let arg18 : BitVec 32 := Scf.iv v146 c1_i32_71 k0_t2
  let v211 : BitVec 32 := Scalar.muli c4_i32_111 arg18
  let v212 : BitVec 32 := Scalar.addi v210 v211
  let v213 : BitVec 32 := Scalar.addi v212 c0_i32_112
  let c512_i32 : BitVec 32 := 512#32
  let v214 : BitVec 32 := Scalar.muli v213 c512_i32
  let c0_i32_113 : BitVec 32 := 0#32
  let v215 : BitVec 32 := Scalar.addi v214 c0_i32_113
  let v216 : BitVec 32 := v215
  let v223 : Index := Scalar.indexCast v216
  ![0, 0, v223.toNat]
def k0_off30 (i : grid0.Coords) (k0_t2 : Fin (k0_t2_loop i).trips) (c0_i32_112 : BitVec 32) : Fin 3 → Nat :=
  let c0_151 : Index := 0#32
  let c1_152 : Index := 1#32
  let arg1 : BitVec 32 := BitVec.ofNat 32 (i 1).val
  let c1_i32_104 : BitVec 32 := 1#32
  let v199 : BitVec 32 := Scalar.addi arg1 c1_i32_104
  let c31_i32 : BitVec 32 := 31#32
  let v72 : BitVec 32 := Scalar.subi c31_i32 arg1
  let c4_i32_105 : BitVec 32 := 4#32
  let c0_i32_106 : BitVec 32 := 0#32
  let v200 : BitVec 1 := Scalar.cmpi .eq c4_i32_105 c0_i32_106
  let c1_i32_107 : BitVec 32 := 1#32
  let v201 : BitVec 32 := Scalar.select v200 c1_i32_107 c4_i32_105
  let v202 : BitVec 32 := Scalar.remsi v72 v201
  let c0_i32_109 : BitVec 32 := 0#32
  let v204 : BitVec 1 := Scalar.cmpi .slt v202 c0_i32_109
  let c0_i32_110 : BitVec 32 := 0#32
  let v205 : BitVec 1 := Scalar.cmpi .slt v201 c0_i32_110
  let v206 : BitVec 1 := Scalar.xori v204 v205
  let c0_i32_108 : BitVec 32 := 0#32
  let v203 : BitVec 1 := Scalar.cmpi .ne v202 c0_i32_108
  let v207 : BitVec 1 := Scalar.andi v206 v203
  let v208 : BitVec 32 := Scalar.addi v202 v201
  let v209 : BitVec 32 := Scalar.select v207 v208 v202
  let v210 : BitVec 32 := Scalar.addi v199 v209
  let c4_i32_111 : BitVec 32 := 4#32
  let c0_i32_68 : BitVec 32 := 0#32
  let c0_i32_61 : BitVec 32 := 0#32
  let v126 : BitVec 1 := Scalar.cmpi .sgt v72 c0_i32_61
  let v127 : BitVec 32 := Scalar.extui v126
  let c0_i32_62 : BitVec 32 := 0#32
  let v128 : BitVec 1 := Scalar.cmpi .slt v72 c0_i32_62
  let v129 : BitVec 32 := Scalar.extui v128
  let v130 : BitVec 32 := Scalar.subi v127 v129
  let c4_i32_60 : BitVec 32 := 4#32
  let c0_i32_63 : BitVec 32 := 0#32
  let v131 : BitVec 1 := Scalar.cmpi .sgt c4_i32_60 c0_i32_63
  let v132 : BitVec 32 := Scalar.extui v131
  let c0_i32_64 : BitVec 32 := 0#32
  let v133 : BitVec 1 := Scalar.cmpi .slt c4_i32_60 c0_i32_64
  let v134 : BitVec 32 := Scalar.extui v133
  let v135 : BitVec 32 := Scalar.subi v132 v134
  let v136 : BitVec 1 := Scalar.cmpi .ne v130 v135
  let v137 : BitVec 32 := Scalar.remsi v72 c4_i32_60
  let c0_i32_65 : BitVec 32 := 0#32
  let v138 : BitVec 1 := Scalar.cmpi .ne v137 c0_i32_65
  let v139 : BitVec 1 := Scalar.andi v136 v138
  let v125 : BitVec 32 := Scalar.divsi v72 c4_i32_60
  let c1_i32_66 : BitVec 32 := 1#32
  let v140 : BitVec 32 := Scalar.subi v125 c1_i32_66
  let v141 : BitVec 32 := Scalar.select v139 v140 v125
  let v142 : BitVec 32 := Scalar.subi v141 c0_i32_68
  let c1_i32_69 : BitVec 32 := 1#32
  let v144 : BitVec 32 := Scalar.divsi v142 c1_i32_69
  let v145 : BitVec 32 := Scalar.muli v144 c1_i32_69
  let v146 : BitVec 32 := Scalar.addi c0_i32_68 v145
  let c1_i32_71 : BitVec 32 := 1#32
  let arg18 : BitVec 32 := Scf.iv v146 c1_i32_71 k0_t2
  let v211 : BitVec 32 := Scalar.muli c4_i32_111 arg18
  let v212 : BitVec 32 := Scalar.addi v210 v211
  let v213 : BitVec 32 := Scalar.addi v212 c0_i32_112
  let c512_i32 : BitVec 32 := 512#32
  let v214 : BitVec 32 := Scalar.muli v213 c512_i32
  let c0_i32_113 : BitVec 32 := 0#32
  let v215 : BitVec 32 := Scalar.addi v214 c0_i32_113
  let v216 : BitVec 32 := v215
  let v280 : Index := Scalar.indexCast v216
  ![0, 1, v280.toNat]
def k0_mult20 (i : grid0.Coords) (k0_t2 : Fin (k0_t2_loop i).trips) : BitVec 32 :=
  let arg1 : BitVec 32 := BitVec.ofNat 32 (i 1).val
  let c1_i32_186 : BitVec 32 := 1#32
  let v337 : BitVec 32 := Scalar.addi arg1 c1_i32_186
  let c31_i32 : BitVec 32 := 31#32
  let v72 : BitVec 32 := Scalar.subi c31_i32 arg1
  let c4_i32_187 : BitVec 32 := 4#32
  let c0_i32_188 : BitVec 32 := 0#32
  let v338 : BitVec 1 := Scalar.cmpi .eq c4_i32_187 c0_i32_188
  let c1_i32_189 : BitVec 32 := 1#32
  let v339 : BitVec 32 := Scalar.select v338 c1_i32_189 c4_i32_187
  let v340 : BitVec 32 := Scalar.remsi v72 v339
  let c0_i32_191 : BitVec 32 := 0#32
  let v342 : BitVec 1 := Scalar.cmpi .slt v340 c0_i32_191
  let c0_i32_192 : BitVec 32 := 0#32
  let v343 : BitVec 1 := Scalar.cmpi .slt v339 c0_i32_192
  let v344 : BitVec 1 := Scalar.xori v342 v343
  let c0_i32_190 : BitVec 32 := 0#32
  let v341 : BitVec 1 := Scalar.cmpi .ne v340 c0_i32_190
  let v345 : BitVec 1 := Scalar.andi v344 v341
  let v346 : BitVec 32 := Scalar.addi v340 v339
  let v347 : BitVec 32 := Scalar.select v345 v346 v340
  let v348 : BitVec 32 := Scalar.addi v337 v347
  let c4_i32_193 : BitVec 32 := 4#32
  let c0_i32_68 : BitVec 32 := 0#32
  let c0_i32_61 : BitVec 32 := 0#32
  let v126 : BitVec 1 := Scalar.cmpi .sgt v72 c0_i32_61
  let v127 : BitVec 32 := Scalar.extui v126
  let c0_i32_62 : BitVec 32 := 0#32
  let v128 : BitVec 1 := Scalar.cmpi .slt v72 c0_i32_62
  let v129 : BitVec 32 := Scalar.extui v128
  let v130 : BitVec 32 := Scalar.subi v127 v129
  let c4_i32_60 : BitVec 32 := 4#32
  let c0_i32_63 : BitVec 32 := 0#32
  let v131 : BitVec 1 := Scalar.cmpi .sgt c4_i32_60 c0_i32_63
  let v132 : BitVec 32 := Scalar.extui v131
  let c0_i32_64 : BitVec 32 := 0#32
  let v133 : BitVec 1 := Scalar.cmpi .slt c4_i32_60 c0_i32_64
  let v134 : BitVec 32 := Scalar.extui v133
  let v135 : BitVec 32 := Scalar.subi v132 v134
  let v136 : BitVec 1 := Scalar.cmpi .ne v130 v135
  let v137 : BitVec 32 := Scalar.remsi v72 c4_i32_60
  let c0_i32_65 : BitVec 32 := 0#32
  let v138 : BitVec 1 := Scalar.cmpi .ne v137 c0_i32_65
  let v139 : BitVec 1 := Scalar.andi v136 v138
  let v125 : BitVec 32 := Scalar.divsi v72 c4_i32_60
  let c1_i32_66 : BitVec 32 := 1#32
  let v140 : BitVec 32 := Scalar.subi v125 c1_i32_66
  let v141 : BitVec 32 := Scalar.select v139 v140 v125
  let v142 : BitVec 32 := Scalar.subi v141 c0_i32_68
  let c1_i32_69 : BitVec 32 := 1#32
  let v144 : BitVec 32 := Scalar.divsi v142 c1_i32_69
  let v145 : BitVec 32 := Scalar.muli v144 c1_i32_69
  let v146 : BitVec 32 := Scalar.addi c0_i32_68 v145
  let c1_i32_71 : BitVec 32 := 1#32
  let arg18 : BitVec 32 := Scf.iv v146 c1_i32_71 k0_t2
  let v349 : BitVec 32 := Scalar.muli c4_i32_193 arg18
  let v350 : BitVec 32 := Scalar.addi v348 v349
  let c1_i32_194 : BitVec 32 := 1#32
  let v351 : BitVec 32 := Scalar.addi v350 c1_i32_194
  let c512_i32_195 : BitVec 32 := 512#32
  let v352 : BitVec 32 := Scalar.muli v351 c512_i32_195
  let c0_i32_196 : BitVec 32 := 0#32
  let v353 : BitVec 32 := Scalar.addi v352 c0_i32_196
  v353
def k0_mult21 (i : grid0.Coords) (k0_t2 : Fin (k0_t2_loop i).trips) : BitVec 32 :=
  let arg1 : BitVec 32 := BitVec.ofNat 32 (i 1).val
  let c1_i32_269 : BitVec 32 := 1#32
  let v475 : BitVec 32 := Scalar.addi arg1 c1_i32_269
  let c31_i32 : BitVec 32 := 31#32
  let v72 : BitVec 32 := Scalar.subi c31_i32 arg1
  let c4_i32_270 : BitVec 32 := 4#32
  let c0_i32_271 : BitVec 32 := 0#32
  let v476 : BitVec 1 := Scalar.cmpi .eq c4_i32_270 c0_i32_271
  let c1_i32_272 : BitVec 32 := 1#32
  let v477 : BitVec 32 := Scalar.select v476 c1_i32_272 c4_i32_270
  let v478 : BitVec 32 := Scalar.remsi v72 v477
  let c0_i32_274 : BitVec 32 := 0#32
  let v480 : BitVec 1 := Scalar.cmpi .slt v478 c0_i32_274
  let c0_i32_275 : BitVec 32 := 0#32
  let v481 : BitVec 1 := Scalar.cmpi .slt v477 c0_i32_275
  let v482 : BitVec 1 := Scalar.xori v480 v481
  let c0_i32_273 : BitVec 32 := 0#32
  let v479 : BitVec 1 := Scalar.cmpi .ne v478 c0_i32_273
  let v483 : BitVec 1 := Scalar.andi v482 v479
  let v484 : BitVec 32 := Scalar.addi v478 v477
  let v485 : BitVec 32 := Scalar.select v483 v484 v478
  let v486 : BitVec 32 := Scalar.addi v475 v485
  let c4_i32_276 : BitVec 32 := 4#32
  let c0_i32_68 : BitVec 32 := 0#32
  let c0_i32_61 : BitVec 32 := 0#32
  let v126 : BitVec 1 := Scalar.cmpi .sgt v72 c0_i32_61
  let v127 : BitVec 32 := Scalar.extui v126
  let c0_i32_62 : BitVec 32 := 0#32
  let v128 : BitVec 1 := Scalar.cmpi .slt v72 c0_i32_62
  let v129 : BitVec 32 := Scalar.extui v128
  let v130 : BitVec 32 := Scalar.subi v127 v129
  let c4_i32_60 : BitVec 32 := 4#32
  let c0_i32_63 : BitVec 32 := 0#32
  let v131 : BitVec 1 := Scalar.cmpi .sgt c4_i32_60 c0_i32_63
  let v132 : BitVec 32 := Scalar.extui v131
  let c0_i32_64 : BitVec 32 := 0#32
  let v133 : BitVec 1 := Scalar.cmpi .slt c4_i32_60 c0_i32_64
  let v134 : BitVec 32 := Scalar.extui v133
  let v135 : BitVec 32 := Scalar.subi v132 v134
  let v136 : BitVec 1 := Scalar.cmpi .ne v130 v135
  let v137 : BitVec 32 := Scalar.remsi v72 c4_i32_60
  let c0_i32_65 : BitVec 32 := 0#32
  let v138 : BitVec 1 := Scalar.cmpi .ne v137 c0_i32_65
  let v139 : BitVec 1 := Scalar.andi v136 v138
  let v125 : BitVec 32 := Scalar.divsi v72 c4_i32_60
  let c1_i32_66 : BitVec 32 := 1#32
  let v140 : BitVec 32 := Scalar.subi v125 c1_i32_66
  let v141 : BitVec 32 := Scalar.select v139 v140 v125
  let v142 : BitVec 32 := Scalar.subi v141 c0_i32_68
  let c1_i32_69 : BitVec 32 := 1#32
  let v144 : BitVec 32 := Scalar.divsi v142 c1_i32_69
  let v145 : BitVec 32 := Scalar.muli v144 c1_i32_69
  let v146 : BitVec 32 := Scalar.addi c0_i32_68 v145
  let c1_i32_71 : BitVec 32 := 1#32
  let arg18 : BitVec 32 := Scf.iv v146 c1_i32_71 k0_t2
  let v487 : BitVec 32 := Scalar.muli c4_i32_276 arg18
  let v488 : BitVec 32 := Scalar.addi v486 v487
  let c2_i32_277 : BitVec 32 := 2#32
  let v489 : BitVec 32 := Scalar.addi v488 c2_i32_277
  let c512_i32_278 : BitVec 32 := 512#32
  let v490 : BitVec 32 := Scalar.muli v489 c512_i32_278
  let c0_i32_279 : BitVec 32 := 0#32
  let v491 : BitVec 32 := Scalar.addi v490 c0_i32_279
  v491
def k0_mult22 (i : grid0.Coords) (k0_t2 : Fin (k0_t2_loop i).trips) : BitVec 32 :=
  let arg1 : BitVec 32 := BitVec.ofNat 32 (i 1).val
  let c1_i32_352 : BitVec 32 := 1#32
  let v613 : BitVec 32 := Scalar.addi arg1 c1_i32_352
  let c31_i32 : BitVec 32 := 31#32
  let v72 : BitVec 32 := Scalar.subi c31_i32 arg1
  let c4_i32_353 : BitVec 32 := 4#32
  let c0_i32_354 : BitVec 32 := 0#32
  let v614 : BitVec 1 := Scalar.cmpi .eq c4_i32_353 c0_i32_354
  let c1_i32_355 : BitVec 32 := 1#32
  let v615 : BitVec 32 := Scalar.select v614 c1_i32_355 c4_i32_353
  let v616 : BitVec 32 := Scalar.remsi v72 v615
  let c0_i32_357 : BitVec 32 := 0#32
  let v618 : BitVec 1 := Scalar.cmpi .slt v616 c0_i32_357
  let c0_i32_358 : BitVec 32 := 0#32
  let v619 : BitVec 1 := Scalar.cmpi .slt v615 c0_i32_358
  let v620 : BitVec 1 := Scalar.xori v618 v619
  let c0_i32_356 : BitVec 32 := 0#32
  let v617 : BitVec 1 := Scalar.cmpi .ne v616 c0_i32_356
  let v621 : BitVec 1 := Scalar.andi v620 v617
  let v622 : BitVec 32 := Scalar.addi v616 v615
  let v623 : BitVec 32 := Scalar.select v621 v622 v616
  let v624 : BitVec 32 := Scalar.addi v613 v623
  let c4_i32_359 : BitVec 32 := 4#32
  let c0_i32_68 : BitVec 32 := 0#32
  let c0_i32_61 : BitVec 32 := 0#32
  let v126 : BitVec 1 := Scalar.cmpi .sgt v72 c0_i32_61
  let v127 : BitVec 32 := Scalar.extui v126
  let c0_i32_62 : BitVec 32 := 0#32
  let v128 : BitVec 1 := Scalar.cmpi .slt v72 c0_i32_62
  let v129 : BitVec 32 := Scalar.extui v128
  let v130 : BitVec 32 := Scalar.subi v127 v129
  let c4_i32_60 : BitVec 32 := 4#32
  let c0_i32_63 : BitVec 32 := 0#32
  let v131 : BitVec 1 := Scalar.cmpi .sgt c4_i32_60 c0_i32_63
  let v132 : BitVec 32 := Scalar.extui v131
  let c0_i32_64 : BitVec 32 := 0#32
  let v133 : BitVec 1 := Scalar.cmpi .slt c4_i32_60 c0_i32_64
  let v134 : BitVec 32 := Scalar.extui v133
  let v135 : BitVec 32 := Scalar.subi v132 v134
  let v136 : BitVec 1 := Scalar.cmpi .ne v130 v135
  let v137 : BitVec 32 := Scalar.remsi v72 c4_i32_60
  let c0_i32_65 : BitVec 32 := 0#32
  let v138 : BitVec 1 := Scalar.cmpi .ne v137 c0_i32_65
  let v139 : BitVec 1 := Scalar.andi v136 v138
  let v125 : BitVec 32 := Scalar.divsi v72 c4_i32_60
  let c1_i32_66 : BitVec 32 := 1#32
  let v140 : BitVec 32 := Scalar.subi v125 c1_i32_66
  let v141 : BitVec 32 := Scalar.select v139 v140 v125
  let v142 : BitVec 32 := Scalar.subi v141 c0_i32_68
  let c1_i32_69 : BitVec 32 := 1#32
  let v144 : BitVec 32 := Scalar.divsi v142 c1_i32_69
  let v145 : BitVec 32 := Scalar.muli v144 c1_i32_69
  let v146 : BitVec 32 := Scalar.addi c0_i32_68 v145
  let c1_i32_71 : BitVec 32 := 1#32
  let arg18 : BitVec 32 := Scf.iv v146 c1_i32_71 k0_t2
  let v625 : BitVec 32 := Scalar.muli c4_i32_359 arg18
  let v626 : BitVec 32 := Scalar.addi v624 v625
  let c3_i32_360 : BitVec 32 := 3#32
  let v627 : BitVec 32 := Scalar.addi v626 c3_i32_360
  let c512_i32_361 : BitVec 32 := 512#32
  let v628 : BitVec 32 := Scalar.muli v627 c512_i32_361
  let c0_i32_362 : BitVec 32 := 0#32
  let v629 : BitVec 32 := Scalar.addi v628 c0_i32_362
  v629
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x8x16384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x16384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x16384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x16384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== AttnIdeal.lean ====
variable {F : FTy → Type} [FloatOps F] [Named F]
def κ : String → Option EReal := fun
  | "ln2" => some ((Real.log 2 : ℝ) : EReal)
  | "mask" => some ⊥
  | _ => none
-- ==== AttnRefIdeal.lean ====
abbrev S16384x512 : Shape := ⟨2, ![16384, 512]⟩
abbrev S16384x8 : Shape := ⟨2, ![16384, 8]⟩
abbrev S16384x8x64 : Shape := ⟨3, ![16384, 8, 64]⟩
abbrev S8x16384x64 : Shape := ⟨3, ![8, 16384, 64]⟩
abbrev S8x16384x16384 : Shape := ⟨3, ![8, 16384, 16384]⟩
abbrev S_ : Shape := ⟨0, ![]⟩
abbrev S8x16384 : Shape := ⟨2, ![8, 16384]⟩
abbrev S8x16384x1 : Shape := ⟨3, ![8, 16384, 1]⟩
abbrev S8x1x16384 : Shape := ⟨3, ![8, 1, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S8x64x16384 : Shape := ⟨3, ![8, 64, 16384]⟩
abbrev S4x16384x128 : Shape := ⟨3, ![4, 16384, 128]⟩
abbrev S16384x128 : Shape := ⟨2, ![16384, 128]⟩
abbrev S1x16384x128 : Shape := ⟨3, ![1, 16384, 128]⟩
abbrev S4x2x16384 : Shape := ⟨3, ![4, 2, 16384]⟩
abbrev S4x8x16384 : Shape := ⟨3, ![4, 8, 16384]⟩
abbrev S512x16384 : Shape := ⟨2, ![512, 16384]⟩

abbrev nBuf : Space → Nat
  | .hbm => 153
  | .vmem => 0
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S16384x8, .f32⟩
  | 4 => ⟨S16384x512, .f32⟩
  | 5 => ⟨S16384x8x64, .f32⟩
  | 6 => ⟨S8x16384x64, .f32⟩
  | 7 => ⟨S16384x8x64, .f32⟩
  | 8 => ⟨S8x16384x64, .f32⟩
  | 9 => ⟨S8x16384x16384, .f32⟩
  | 10 => ⟨S_, .f32⟩
  | 11 => ⟨S8x16384x16384, .f32⟩
  | 12 => ⟨S8x16384x16384, .f32⟩
  | 13 => ⟨S8x16384, .f32⟩
  | 14 => ⟨S8x16384x1, .f32⟩
  | 15 => ⟨S8x16384x16384, .f32⟩
  | 16 => ⟨S8x16384x16384, .f32⟩
  | 17 => ⟨S8x16384, .f32⟩
  | 18 => ⟨S8x1x16384, .f32⟩
  | 19 => ⟨S8x16384x16384, .f32⟩
  | 20 => ⟨S8x16384x16384, .f32⟩
  | 21 => ⟨S16384, .i32⟩
  | 22 => ⟨S16384x1, .i32⟩
  | 23 => ⟨S1x16384, .i32⟩
  | 24 => ⟨S16384x16384, .i32⟩
  | 25 => ⟨S16384x16384, .i32⟩
  | 26 => ⟨S16384x16384, .i1⟩
  | 27 => ⟨S_, .f32⟩
  | 28 => ⟨S_, .f32⟩
  | 29 => ⟨S8x16384x16384, .i1⟩
  | 30 => ⟨S8x16384x16384, .f32⟩
  | 31 => ⟨S8x16384x16384, .f32⟩
  | 32 => ⟨S_, .f32⟩
  | 33 => ⟨S8x16384x16384, .f32⟩
  | 34 => ⟨S_, .f32⟩
  | 35 => ⟨S8x16384, .f32⟩
  | 36 => ⟨S8x16384x1, .f32⟩
  | 37 => ⟨S8x16384x16384, .f32⟩
  | 38 => ⟨S8x16384x16384, .i1⟩
  | 39 => ⟨S8x16384x16384, .f32⟩
  | 40 => ⟨S_, .f32⟩
  | 41 => ⟨S8x16384, .f32⟩
  | 42 => ⟨S_, .f32⟩
  | 43 => ⟨S8x16384, .f32⟩
  | 44 => ⟨S8x16384, .f32⟩
  | 45 => ⟨S_, .f32⟩
  | 46 => ⟨S8x16384, .f32⟩
  | 47 => ⟨S8x16384, .i1⟩
  | 48 => ⟨S_, .f32⟩
  | 49 => ⟨S8x16384, .f32⟩
  | 50 => ⟨S8x16384, .i1⟩
  | 51 => ⟨S_, .f32⟩
  | 52 => ⟨S8x16384, .f32⟩
  | 53 => ⟨S_, .f32⟩
  | 54 => ⟨S8x16384, .f32⟩
  | 55 => ⟨S_, .f32⟩
  | 56 => ⟨S8x16384, .f32⟩
  | 57 => ⟨S8x16384, .f32⟩
  | 58 => ⟨S8x16384, .f32⟩
  | 59 => ⟨S8x16384x1, .f32⟩
  | 60 => ⟨S8x16384x16384, .f32⟩
  | 61 => ⟨S8x16384x16384, .f32⟩
  | 62 => ⟨S8x16384x16384, .f32⟩
  | 63 => ⟨S_, .f32⟩
  | 64 => ⟨S8x16384, .f32⟩
  | 65 => ⟨S8x16384x1, .f32⟩
  | 66 => ⟨S8x16384x16384, .f32⟩
  | 67 => ⟨S8x16384x16384, .f32⟩
  | 68 => ⟨S8x16384x1, .f32⟩
  | 69 => ⟨S_, .f32⟩
  | 70 => ⟨S8x16384x1, .f32⟩
  | 71 => ⟨S8x16384x1, .f32⟩
  | 72 => ⟨S16384x8x64, .f32⟩
  | 73 => ⟨S8x16384x64, .f32⟩
  | 74 => ⟨S8x16384x64, .f32⟩
  | 75 => ⟨S16384x8x64, .f32⟩
  | 76 => ⟨S16384x512, .f32⟩
  | 77 => ⟨S16384x8x64, .f32⟩
  | 78 => ⟨S8x16384x64, .f32⟩
  | 79 => ⟨S8x64x16384, .f32⟩
  | 80 => ⟨S8x16384x64, .f32⟩
  | 81 => ⟨S8x16384x16384, .f32⟩
  | 82 => ⟨S16384x8x64, .f32⟩
  | 83 => ⟨S16384x512, .f32⟩
  | 84 => ⟨S8x16384x16384, .f32⟩
  | 85 => ⟨S8x16384x16384, .f32⟩
  | 86 => ⟨S8x16384x16384, .f32⟩
  | 87 => ⟨S_, .f32⟩
  | 88 => ⟨S8x16384, .f32⟩
  | 89 => ⟨S8x16384x1, .f32⟩
  | 90 => ⟨S8x16384x1, .f32⟩
  | 91 => ⟨S8x16384x16384, .f32⟩
  | 92 => ⟨S8x16384x16384, .f32⟩
  | 93 => ⟨S_, .f32⟩
  | 94 => ⟨S8x16384, .f32⟩
  | 95 => ⟨S8x16384x16384, .f32⟩
  | 96 => ⟨S8x16384x16384, .f32⟩
  | 97 => ⟨S8x16384x16384, .f32⟩
  | 98 => ⟨S_, .f32⟩
  | 99 => ⟨S8x16384x16384, .f32⟩
  | 100 => ⟨S8x16384x16384, .f32⟩
  | 101 => ⟨S8x16384x16384, .f32⟩
  | 102 => ⟨S_, .f32⟩
  | 103 => ⟨S8x16384, .f32⟩
  | 104 => ⟨S8x1x16384, .f32⟩
  | 105 => ⟨S_, .f32⟩
  | 106 => ⟨S8x16384, .f32⟩
  | 107 => ⟨S16384x8, .f32⟩
  | 108 => ⟨S_, .f32⟩
  | 109 => ⟨S8x16384, .f32⟩
  | 110 => ⟨S8x16384x1, .f32⟩
  | 111 => ⟨S_, .f32⟩
  | 112 => ⟨S8x16384, .f32⟩
  | 113 => ⟨S16384x8, .f32⟩
  | 114 => ⟨S_, .f32⟩
  | 115 => ⟨S8x16384x16384, .f32⟩
  | 116 => ⟨S8x16384x16384, .f32⟩
  | 117 => ⟨S8x16384x64, .f32⟩
  | 118 => ⟨S8x16384x64, .f32⟩
  | 119 => ⟨S16384x8x64, .f32⟩
  | 120 => ⟨S16384x512, .f32⟩
  | 121 => ⟨S16384x8x64, .f32⟩
  | 122 => ⟨S16384x512, .f32⟩
  | 123 => ⟨S4x16384x128, .i32⟩
  | 124 => ⟨S_, .i32⟩
  | 125 => ⟨S4x16384x128, .i32⟩
  | 126 => ⟨S4x16384x128, .i32⟩
  | 127 => ⟨S4x16384x128, .i32⟩
  | _ => ⟨S16384x512, .f32⟩

abbrev hbmTy0_1 (i : Nat) : BufTy := match i % 128 with
  | 0 => ⟨S4x16384x128, .i1⟩
  | 1 => ⟨S_, .i32⟩
  | 2 => ⟨S4x16384x128, .i32⟩
  | 3 => ⟨S4x16384x128, .i32⟩
  | 4 => ⟨S4x16384x128, .i1⟩
  | 5 => ⟨S4x16384x128, .i1⟩
  | 6 => ⟨S_, .i32⟩
  | 7 => ⟨S_, .f32⟩
  | 8 => ⟨S16384x128, .f32⟩
  | 9 => ⟨S1x16384x128, .f32⟩
  | 10 => ⟨S_, .f32⟩
  | 11 => ⟨S_, .f32⟩
  | 12 => ⟨S4x16384x128, .f32⟩
  | 13 => ⟨S4x16384x128, .f32⟩
  | 14 => ⟨S4x16384x128, .f32⟩
  | 15 => ⟨S8x16384, .f32⟩
  | 16 => ⟨S4x2x16384, .f32⟩
  | 17 => ⟨S_, .i32⟩
  | 18 => ⟨S_, .f32⟩
  | 19 => ⟨S4x8x16384, .f32⟩
  | 20 => ⟨S512x16384, .f32⟩
  | 21 => ⟨S512x16384, .f32⟩
  | 22 => ⟨S512x16384, .bf16⟩
  | 23 => ⟨S512x16384, .f32⟩
  | 24 => ⟨S512x16384, .bf16⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_v21_1 : Ref sig .tc := ⟨.hbm, 29, rfl⟩
abbrev main_call0_v2 : Ref sig .tc := ⟨.hbm, 30, rfl⟩
abbrev main_v21_0 : Ref sig .tc := ⟨.hbm, 31, rfl⟩
abbrev main_call0_cst : Ref sig .tc := ⟨.hbm, 32, rfl⟩
abbrev main_v21_2 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_12 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_call1_cst : Ref sig .tc := ⟨.hbm, 98, rfl⟩
abbrev main_call1_v0 : Ref sig .tc := ⟨.hbm, 99, rfl⟩
abbrev main_v74 : Ref sig .tc := ⟨.hbm, 100, rfl⟩
abbrev main_v75 : Ref sig .tc := ⟨.hbm, 101, rfl⟩
abbrev main_cst_13 : Ref sig .tc := ⟨.hbm, 102, rfl⟩
abbrev main_v76 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩
abbrev main_v79 : Ref sig .tc := ⟨.hbm, 107, rfl⟩
abbrev main_cst_15 : Ref sig .tc := ⟨.hbm, 108, rfl⟩
abbrev main_v80 : Ref sig .tc := ⟨.hbm, 109, rfl⟩
abbrev main_v81 : Ref sig .tc := ⟨.hbm, 110, rfl⟩
abbrev main_cst_16 : Ref sig .tc := ⟨.hbm, 111, rfl⟩
abbrev main_v82 : Ref sig .tc := ⟨.hbm, 112, rfl⟩
abbrev main_v83 : Ref sig .tc := ⟨.hbm, 113, rfl⟩
abbrev main_cst_17 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_c_18 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_19 : Ref sig .tc := ⟨.hbm, 134, rfl⟩
abbrev main_call2_v0 : Ref sig .tc := ⟨.hbm, 135, rfl⟩
abbrev main_v101 : Ref sig .tc := ⟨.hbm, 136, rfl⟩
abbrev main_v102 : Ref sig .tc := ⟨.hbm, 137, rfl⟩
abbrev main_cst_20 : Ref sig .tc := ⟨.hbm, 138, rfl⟩
abbrev main_call3_v0 : Ref sig .tc := ⟨.hbm, 139, rfl⟩
abbrev main_call3_v1 : Ref sig .tc := ⟨.hbm, 140, rfl⟩
abbrev main_call3_v2 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_c_21 : Ref sig .tc := ⟨.hbm, 145, rfl⟩
abbrev main_call4_v0 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩

abbrev nD : Nat := 1
abbrev τ : Topo := Topo.v7x

variable {F : FTy → Type} [FloatOps F]
-- ==== Ple.lean ====
abbrev S16384x1024 : Shape := ⟨2, ![16384, 1024]⟩
abbrev S16384x256 : Shape := ⟨2, ![16384, 256]⟩
abbrev S1024x1024 : Shape := ⟨2, ![1024, 1024]⟩
abbrev S256x1024 : Shape := ⟨2, ![256, 1024]⟩
abbrev S1x1024 : Shape := ⟨2, ![1, 1024]⟩
abbrev S1x128 : Shape := ⟨2, ![1, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 17
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x1024, .f32⟩
  | .hbm, ⟨3, _⟩ => ⟨S1024x1024, .f32⟩
  | .hbm, ⟨4, _⟩ => ⟨S256x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1024x1024, .bf16⟩
  | .hbm, ⟨9, _⟩ => ⟨S256x1024, .bf16⟩
  | .hbm, ⟨10, _⟩ => ⟨S16384x1024, .f32⟩
  | .hbm, ⟨11, _⟩ => ⟨S16384x1024, .bf16⟩
  | .hbm, ⟨12, _⟩ => ⟨S16384x1024, .bf16⟩
  | .hbm, ⟨13, _⟩ => ⟨S1x128, .f32⟩
  | .hbm, ⟨14, _⟩ => ⟨S1x1024, .f32⟩
  | .hbm, ⟨15, _⟩ => ⟨S1x1024, .f32⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1x128, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev main_v2_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== PleRefIdeal.lean ====
abbrev S16384x1024 : Shape := ⟨2, ![16384, 1024]⟩
abbrev S16384x256 : Shape := ⟨2, ![16384, 256]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x128 : Shape := ⟨2, ![1, 128]⟩

abbrev nBuf : Space → Nat
  | .hbm => 136
  | .vmem => 0
  | .smem => 0
  | _ => 0

abbrev hbmTy0_0 (i : Nat) : BufTy := match i % 128 with
  | 0 => ⟨S16384x1024, .f32⟩
  | 1 => ⟨S16384x256, .f32⟩
  | 2 => ⟨S16384x1024, .f32⟩
  | 3 => ⟨S1024x1024, .f32⟩
  | 4 => ⟨S256x1024, .f32⟩
  | 5 => ⟨S1x1024, .f32⟩
  | 6 => ⟨S1x1024, .f32⟩
  | 7 => ⟨S1x1024, .f32⟩
  | 8 => ⟨S_, .f32⟩
  | 9 => ⟨S16384x1024, .f32⟩
  | 10 => ⟨S16384x1024, .f32⟩
  | 11 => ⟨S16384x1024, .f32⟩
  | 12 => ⟨S16384x1024, .f32⟩
  | 13 => ⟨S16384x1024, .f32⟩
  | 14 => ⟨S16384x1024, .f32⟩
  | 15 => ⟨S16384x1024, .f32⟩
  | 16 => ⟨S_, .f32⟩
  | 17 => ⟨S16384x1024, .f32⟩
  | 18 => ⟨S16384x1024, .f32⟩
  | 19 => ⟨S16384x1024, .f32⟩
  | 20 => ⟨S16384x1024, .f32⟩
  | 21 => ⟨S_, .f32⟩
  | 22 => ⟨S16384x1024, .f32⟩
  | 23 => ⟨S16384x1024, .f32⟩
  | 24 => ⟨S_, .f32⟩
  | 25 => ⟨S16384x1024, .f32⟩
  | 26 => ⟨S16384x1024, .f32⟩
  | 27 => ⟨S_, .f32⟩
  | 28 => ⟨S16384x1024, .f32⟩
  | 29 => ⟨S16384x1024, .f32⟩
  | 30 => ⟨S16384x1024, .f32⟩
  | 31 => ⟨S16384x1024, .f32⟩
  | 32 => ⟨S16384x1024, .f32⟩
  | 33 => ⟨S_, .f32⟩
  | 34 => ⟨S16384, .f32⟩
  | 35 => ⟨S16384x1, .f32⟩
  | 36 => ⟨S_, .f32⟩
  | 37 => ⟨S16384x1, .f32⟩
  | 38 => ⟨S16384x1, .f32⟩
  | 39 => ⟨S16384x1024, .f32⟩
  | 40 => ⟨S16384x1024, .f32⟩
  | 41 => ⟨S16384x1024, .f32⟩
  | 42 => ⟨S_, .f32⟩
  | 43 => ⟨S16384, .f32⟩
  | 44 => ⟨S16384x1, .f32⟩
  | 45 => ⟨S_, .f32⟩
  | 46 => ⟨S16384x1, .f32⟩
  | 47 => ⟨S16384x1, .f32⟩
  | 48 => ⟨S_, .f32⟩
  | 49 => ⟨S16384x1, .f32⟩
  | 50 => ⟨S16384x1, .f32⟩
  | 51 => ⟨S16384x1, .f32⟩
  | 52 => ⟨S16384x1, .f32⟩
  | 53 => ⟨S_, .f32⟩
  | 54 => ⟨S16384x1, .f32⟩
  | 55 => ⟨S16384x1, .f32⟩
  | 56 => ⟨S16384x1024, .f32⟩
  | 57 => ⟨S16384x1024, .f32⟩
  | 58 => ⟨S16384x1024, .f32⟩
  | 59 => ⟨S16384x1024, .f32⟩
  | 60 => ⟨S16384x1024, .f32⟩
  | 61 => ⟨S16384x1024, .f32⟩
  | 62 => ⟨S16384x1024, .f32⟩
  | 63 => ⟨S16384x1024, .f32⟩
  | 64 => ⟨S_, .f32⟩
  | 65 => ⟨S16384x1024, .f32⟩
  | 66 => ⟨S16384x1024, .f32⟩
  | 67 => ⟨S_, .f32⟩
  | 68 => ⟨S16384, .f32⟩
  | 69 => ⟨S_, .f32⟩
  | 70 => ⟨S16384, .f32⟩
  | 71 => ⟨S16384, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S16384, .f32⟩
  | 80 => ⟨S_, .f32⟩
  | 81 => ⟨S16384, .f32⟩
  | 82 => ⟨S16384, .f32⟩
  | 83 => ⟨S16384x1024, .f32⟩
  | 84 => ⟨S16384x1024, .f32⟩
  | 85 => ⟨S_, .f32⟩
  | 86 => ⟨S1024, .f32⟩
  | 87 => ⟨S1x1024, .f32⟩
  | 88 => ⟨S16384x1024, .f32⟩
  | 89 => ⟨S_, .f32⟩
  | 90 => ⟨S1024, .f32⟩
  | 91 => ⟨S1x1024, .f32⟩
  | 92 => ⟨S16384x1024, .f32⟩
  | 93 => ⟨S16384x1024, .f32⟩
  | 94 => ⟨S16384x1024, .f32⟩
  | 95 => ⟨S_, .f32⟩
  | 96 => ⟨S16384, .f32⟩
  | 97 => ⟨S16384x1, .f32⟩
  | 98 => ⟨S16384x1024, .f32⟩
  | 99 => ⟨S16384x1024, .f32⟩
  | 100 => ⟨S16384x1, .f32⟩
  | 101 => ⟨S_, .f32⟩
  | 102 => ⟨S16384x1, .f32⟩
  | 103 => ⟨S16384x1, .f32⟩
  | 104 => ⟨S_, .f32⟩
  | 105 => ⟨S16384, .f32⟩
  | 106 => ⟨S16384x1024, .f32⟩
  | 107 => ⟨S16384x1024, .f32⟩
  | 108 => ⟨S16384x1024, .f32⟩
  | 109 => ⟨S16384x1024, .f32⟩
  | 110 => ⟨S16384x1024, .f32⟩
  | 111 => ⟨S16384x1024, .f32⟩
  | 112 => ⟨S_, .f32⟩
  | 113 => ⟨S16384, .f32⟩
  | 114 => ⟨S16384x1, .f32⟩
  | 115 => ⟨S_, .f32⟩
  | 116 => ⟨S16384x1, .f32⟩
  | 117 => ⟨S16384x1, .f32⟩
  | 118 => ⟨S_, .f32⟩
  | 119 => ⟨S16384, .f32⟩
  | 120 => ⟨S16384x1024, .f32⟩
  | 121 => ⟨S16384x1024, .f32⟩
  | 122 => ⟨S16384x1024, .f32⟩
  | 123 => ⟨S16384x1024, .f32⟩
  | 124 => ⟨S16384x1024, .f32⟩
  | 125 => ⟨S_, .f32⟩
  | 126 => ⟨S16384x1024, .f32⟩
  | 127 => ⟨S16384x1024, .f32⟩
  | _ => ⟨S16384x1024, .f32⟩

abbrev hbmTy0_1 (i : Nat) : BufTy := match i % 128 with
  | 0 => ⟨S_, .f32⟩
  | 1 => ⟨S1024, .f32⟩
  | 2 => ⟨S1x1024, .f32⟩
  | 3 => ⟨S16384x1024, .f32⟩
  | 4 => ⟨S16384x1024, .f32⟩
  | 5 => ⟨S16384x1024, .bf16⟩
  | 6 => ⟨S16384x1024, .bf16⟩
  | 7 => ⟨S1x128, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_cst_13 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_cst_15 : Ref sig .tc := ⟨.hbm, 76, rfl⟩
abbrev main_cst_16 : Ref sig .tc := ⟨.hbm, 77, rfl⟩
abbrev main_v52 : Ref sig .tc := ⟨.hbm, 78, rfl⟩
abbrev main_v53 : Ref sig .tc := ⟨.hbm, 79, rfl⟩
abbrev main_cst_17 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_18 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_19 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_20 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_21 : Ref sig .tc := ⟨.hbm, 101, rfl⟩
abbrev main_v71 : Ref sig .tc := ⟨.hbm, 102, rfl⟩
abbrev main_v72 : Ref sig .tc := ⟨.hbm, 103, rfl⟩
abbrev main_cst_22 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_23 : Ref sig .tc := ⟨.hbm, 112, rfl⟩
abbrev main_v80 : Ref sig .tc := ⟨.hbm, 113, rfl⟩
abbrev main_v81 : Ref sig .tc := ⟨.hbm, 114, rfl⟩
abbrev main_cst_24 : Ref sig .tc := ⟨.hbm, 115, rfl⟩
abbrev main_v82 : Ref sig .tc := ⟨.hbm, 116, rfl⟩
abbrev main_v83 : Ref sig .tc := ⟨.hbm, 117, rfl⟩
abbrev main_cst_25 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_26 : Ref sig .tc := ⟨.hbm, 125, rfl⟩
abbrev main_v90 : Ref sig .tc := ⟨.hbm, 126, rfl⟩
abbrev main_v91 : Ref sig .tc := ⟨.hbm, 127, rfl⟩
abbrev main_cst_27 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩

abbrev nD : Nat := 1
abbrev τ : Topo := Topo.v7x

variable {F : FTy → Type} [FloatOps F]
-- ==== Ffn.lean ====
abbrev S16384x1024 : Shape := ⟨2, ![16384, 1024]⟩
abbrev S1024x5632 : Shape := ⟨2, ![1024, 5632]⟩
abbrev S2816x1024 : Shape := ⟨2, ![2816, 1024]⟩
abbrev S1x1024 : Shape := ⟨2, ![1, 1024]⟩
abbrev S16384x5632 : Shape := ⟨2, ![16384, 5632]⟩
abbrev S16384x2816 : Shape := ⟨2, ![16384, 2816]⟩
abbrev S_ : Shape := ⟨0, ![]⟩
abbrev S256x1024 : Shape := ⟨2, ![256, 1024]⟩
abbrev S256x2816 : Shape := ⟨2, ![256, 2816]⟩
abbrev S256x5632 : Shape := ⟨2, ![256, 5632]⟩
abbrev S256 : Shape := ⟨1, ![256]⟩
abbrev S256x1 : Shape := ⟨2, ![256, 1]⟩
abbrev S1024 : Shape := ⟨1, ![1024]⟩
abbrev S256x256 : Shape := ⟨2, ![256, 256]⟩
abbrev S1024x256 : Shape := ⟨2, ![1024, 256]⟩

abbrev nBuf : Space → Nat
  | .hbm => 38
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S1x1024, .f32⟩
  | .hbm, ⟨4, _⟩ => ⟨S1x1024, .f32⟩
  | .hbm, ⟨5, _⟩ => ⟨S16384x1024, .f32⟩
  | .hbm, ⟨6, _⟩ => ⟨S16384x1024, .bf16⟩
  | .hbm, ⟨7, _⟩ => ⟨S1024x5632, .bf16⟩
  | .hbm, ⟨8, _⟩ => ⟨S2816x1024, .bf16⟩
  | .hbm, ⟨9, _⟩ => ⟨S16384x5632, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x2816, .f32⟩
  | .hbm, ⟨16, _⟩ => ⟨S16384x2816, .f32⟩
  | .hbm, ⟨17, _⟩ => ⟨S_, .f32⟩
  | .hbm, ⟨18, _⟩ => ⟨S16384x2816, .f32⟩
  | .hbm, ⟨19, _⟩ => ⟨S16384x2816, .f32⟩
  | .hbm, ⟨20, _⟩ => ⟨S_, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .bf16⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x2816, .bf16⟩
  | .hbm, ⟨32, _⟩ => ⟨S16384x2816, .bf16⟩
  | .hbm, ⟨33, _⟩ => ⟨S16384x1024, .f32⟩
  | .hbm, ⟨34, _⟩ => ⟨S16384x5632, .bf16⟩
  | .hbm, ⟨35, _⟩ => ⟨S16384x1024, .bf16⟩
  | .hbm, ⟨36, _⟩ => ⟨S1x1024, .f32⟩
  | .hbm, ⟨37, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S1024x5632, .bf16⟩
  | .local _ .vmem, ⟨9, _⟩ => ⟨S2816x1024, .bf16⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x5632, .bf16⟩
  | .local _ .vmem, ⟨14, _⟩ => ⟨S256x5632, .bf16⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev main_v23_3 : Ref sig .tc := ⟨.hbm, 36, rfl⟩
abbrev main_v23_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnRefIdeal.lean ====
abbrev S16384x1024 : Shape := ⟨2, ![16384, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S16384x5632 : Shape := ⟨2, ![16384, 5632]⟩
abbrev S16384x2816 : Shape := ⟨2, ![16384, 2816]⟩
abbrev S16384 : Shape := ⟨1, ![16384]⟩
abbrev S16384x1 : Shape := ⟨2, ![16384, 1]⟩
abbrev S1024 : Shape := ⟨1, ![1024]⟩

abbrev nBuf : Space → Nat
  | .hbm => 122
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S1x1024, .f32⟩
  | .hbm, ⟨4, _⟩ => ⟨S1x1024, .f32⟩
  | .hbm, ⟨5, _⟩ => ⟨S16384x1024, .f32⟩
  | .hbm, ⟨6, _⟩ => ⟨S_, .f32⟩
  | .hbm, ⟨7, _⟩ => ⟨S16384x5632, .f32⟩
  | .hbm, ⟨8, _⟩ => ⟨S_, .f32⟩
  | .hbm, ⟨9, _⟩ => ⟨S16384x1024, .f32⟩
  | .hbm, ⟨10, _⟩ => ⟨S16384x5632, .f32⟩
  | .hbm, ⟨11, _⟩ => ⟨S16384x5632, .f32⟩
  | .hbm, ⟨12, _⟩ => ⟨S16384x2816, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S_, .f32⟩
  | .hbm, ⟨17, _⟩ => ⟨S16384x2816, .f32⟩
  | .hbm, ⟨18, _⟩ => ⟨S16384x2816, .f32⟩
  | .hbm, ⟨19, _⟩ => ⟨S_, .f32⟩
  | .hbm, ⟨20, _⟩ => ⟨S16384x2816, .f32⟩
  | .hbm, ⟨21, _⟩ => ⟨S16384x2816, .f32⟩
  | .hbm, ⟨22, _⟩ => ⟨S_, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S16384x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S_, .f32⟩
  | .hbm, ⟨78, _⟩ => ⟨S16384, .f32⟩
  | .hbm, ⟨79, _⟩ => ⟨S16384x1, .f32⟩
  | .hbm, ⟨80, _⟩ => ⟨S16384x1024, .f32⟩
  | .hbm, ⟨81, _⟩ => ⟨S16384x1024, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S_, .f32⟩
  | .hbm, ⟨87, _⟩ => ⟨S16384, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S_, .f32⟩
  | .hbm, ⟨95, _⟩ => ⟨S16384, .f32⟩
  | .hbm, ⟨96, _⟩ => ⟨S16384x1, .f32⟩
  | .hbm, ⟨97, _⟩ => ⟨S_, .f32⟩
  | .hbm, ⟨98, _⟩ => ⟨S16384x1, .f32⟩
  | .hbm, ⟨99, _⟩ => ⟨S16384x1, .f32⟩
  | .hbm, ⟨100, _⟩ => ⟨S_, .f32⟩
  | .hbm, ⟨101, _⟩ => ⟨S16384, .f32⟩
  | .hbm, ⟨102, _⟩ => ⟨S16384x1024, .f32⟩
  | .hbm, ⟨103, _⟩ => ⟨S16384x1024, .f32⟩
  | .hbm, ⟨104, _⟩ => ⟨S_, .f32⟩
  | .hbm, ⟨105, _⟩ => ⟨S16384x1024, .f32⟩
  | .hbm, ⟨106, _⟩ => ⟨S16384x1024, .f32⟩
  | .hbm, ⟨107, _⟩ => ⟨S_, .f32⟩
  | .hbm, ⟨108, _⟩ => ⟨S16384x1024, .f32⟩
  | .hbm, ⟨109, _⟩ => ⟨S16384x1024, .f32⟩
  | .hbm, ⟨110, _⟩ => ⟨S16384x2816, .f32⟩
  | .hbm, ⟨111, _⟩ => ⟨S16384x2816, .f32⟩
  | .hbm, ⟨112, _⟩ => ⟨S16384x2816, .f32⟩
  | .hbm, ⟨113, _⟩ => ⟨S16384x2816, .f32⟩
  | .hbm, ⟨114, _⟩ => ⟨S16384x2816, .f32⟩
  | .hbm, ⟨115, _⟩ => ⟨S16384x2816, .f32⟩
  | .hbm, ⟨116, _⟩ => ⟨S16384x2816, .f32⟩
  | .hbm, ⟨117, _⟩ => ⟨S16384x5632, .f32⟩
  | .hbm, ⟨118, _⟩ => ⟨S16384x1024, .f32⟩
  | .hbm, ⟨119, _⟩ => ⟨S16384x1024, .f32⟩
  | .hbm, ⟨120, _⟩ => ⟨S16384x5632, .bf16⟩
  | .hbm, ⟨121, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v6_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v6_1 : Ref sig .tc := ⟨.hbm, 25, rfl⟩
abbrev main_v6_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_v11 : Ref sig .tc := ⟨.hbm, 32, rfl⟩
abbrev main_cst_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_3 : Ref sig .tc := ⟨.hbm, 37, rfl⟩
abbrev main_v15 : Ref sig .tc := ⟨.hbm, 38, rfl⟩
abbrev main_v16 : Ref sig .tc := ⟨.hbm, 39, rfl⟩
abbrev main_cst_4 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_5 : Ref sig .tc := ⟨.hbm, 46, rfl⟩
abbrev main_v22 : Ref sig .tc := ⟨.hbm, 47, rfl⟩
abbrev main_v23 : Ref sig .tc := ⟨.hbm, 48, rfl⟩
abbrev main_cst_6 : Ref sig .tc := ⟨.hbm, 49, rfl⟩
abbrev main_v24 : Ref sig .tc := ⟨.hbm, 50, rfl⟩
abbrev main_v25 : Ref sig .tc := ⟨.hbm, 51, rfl⟩
abbrev main_cst_7 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_8 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_9 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_10 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_11 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_12 : Ref sig .tc := ⟨.hbm, 83, rfl⟩
abbrev main_v52 : Ref sig .tc := ⟨.hbm, 84, rfl⟩
abbrev main_v53 : Ref sig .tc := ⟨.hbm, 85, rfl⟩
abbrev main_cst_13 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_14 : Ref sig .tc := ⟨.hbm, 94, rfl⟩
abbrev main_v61 : Ref sig .tc := ⟨.hbm, 95, rfl⟩
abbrev main_v62 : Ref sig .tc := ⟨.hbm, 96, rfl⟩
abbrev main_cst_15 : Ref sig .tc := ⟨.hbm, 97, rfl⟩
abbrev main_v63 : Ref sig .tc := ⟨.hbm, 98, rfl⟩
abbrev main_v64 : Ref sig .tc := ⟨.hbm, 99, rfl⟩
abbrev main_cst_16 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_17 : Ref sig .tc := ⟨.hbm, 104, rfl⟩
abbrev main_v68 : Ref sig .tc := ⟨.hbm, 105, rfl⟩
abbrev main_v69 : Ref sig .tc := ⟨.hbm, 106, rfl⟩
abbrev main_cst_18 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩

abbrev nD : Nat := 1
abbrev τ : Topo := Topo.v7x

variable {F : FTy → Type} [FloatOps F]
-- ==== Fwd.lean ====
abbrev S16384x512 : Shape := ⟨2, ![16384, 512]⟩
abbrev S16384x8 : Shape := ⟨2, ![16384, 8]⟩
abbrev S_ : Shape := ⟨0, ![]⟩
abbrev S16384x1536 : Shape := ⟨2, ![16384, 1536]⟩
abbrev S1536x16384 : Shape := ⟨2, ![1536, 16384]⟩
abbrev S16384x4x2x128 : Shape := ⟨4, ![16384, 4, 2, 128]⟩
abbrev S16384x4x1x128 : Shape := ⟨4, ![16384, 4, 1, 128]⟩
abbrev S16384x4x2x1 : Shape := ⟨4, ![16384, 4, 2, 1]⟩
abbrev S16384x1024 : Shape := ⟨2, ![16384, 1024]⟩
abbrev S4x8x16384 : Shape := ⟨3, ![4, 8, 16384]⟩
abbrev S128x512 : Shape := ⟨2, ![128, 512]⟩
abbrev S16384x128 : Shape := ⟨2, ![16384, 128]⟩
abbrev S128x16384 : Shape := ⟨2, ![128, 16384]⟩
abbrev S512x128 : Shape := ⟨2, ![512, 128]⟩
abbrev S1x8x512 : Shape := ⟨3, ![1, 8, 512]⟩
abbrev S2x1x512 : Shape := ⟨3, ![2, 1, 512]⟩
abbrev S2x128x512 : Shape := ⟨3, ![2, 128, 512]⟩
abbrev S128x1 : Shape := ⟨2, ![128, 1]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩
abbrev S1x128x512 : Shape := ⟨3, ![1, 128, 512]⟩
abbrev S6x512 : Shape := ⟨2, ![6, 512]⟩
abbrev S1x6x512 : Shape := ⟨3, ![1, 6, 512]⟩

abbrev nBuf : Space → Nat
  | .hbm => 69
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16384x512, .f32⟩
  | .hbm, ⟨9, _⟩ => ⟨S16384x512, .f32⟩
  | .hbm, ⟨10, _⟩ => ⟨S_, .i32⟩
  | .hbm, ⟨11, _⟩ => ⟨S_, .f32⟩
  | .hbm, ⟨12, _⟩ => ⟨S16384x1536, .f32⟩
  | .hbm, ⟨13, _⟩ => ⟨S_, .i32⟩
  | .hbm, ⟨14, _⟩ => ⟨S_, .f32⟩
  | .hbm, ⟨15, _⟩ => ⟨S16384x1536, .f32⟩
  | .hbm, ⟨16, _⟩ => ⟨S16384x1536, .f32⟩
  | .hbm, ⟨17, _⟩ => ⟨S_, .i32⟩
  | .hbm, ⟨18, _⟩ => ⟨S_, .f32⟩
  | .hbm, ⟨19, _⟩ => ⟨S16384x1536, .f32⟩
  | .hbm, ⟨20, _⟩ => ⟨S16384x1536, .f32⟩
  | .hbm, ⟨21, _⟩ => ⟨S16384x1536, .bf16⟩
  | .hbm, ⟨22, _⟩ => ⟨S1536x16384, .bf16⟩
  | .hbm, ⟨23, _⟩ => ⟨S16384x512, .bf16⟩
  | .hbm, ⟨24, _⟩ => ⟨S16384x8, .f32⟩
  | .hbm, ⟨25, _⟩ => ⟨S16384x8, .f32⟩
  | .hbm, ⟨26, _⟩ => ⟨S16384x8, .bf16⟩
  | .hbm, ⟨27, _⟩ => ⟨S16384x8, .f32⟩
  | .hbm, ⟨28, _⟩ => ⟨S16384x8, .f32⟩
  | .hbm, ⟨29, _⟩ => ⟨S16384x8, .bf16⟩
  | .hbm, ⟨30, _⟩ => ⟨S16384x8, .f32⟩
  | .hbm, ⟨31, _⟩ => ⟨S16384x8, .f32⟩
  | .hbm, ⟨32, _⟩ => ⟨S16384x8, .bf16⟩
  | .hbm, ⟨33, _⟩ => ⟨S16384x8, .f32⟩
  | .hbm, ⟨34, _⟩ => ⟨S16384x8, .f32⟩
  | .hbm, ⟨35, _⟩ => ⟨S16384x4x2x128, .i32⟩
  | .hbm, ⟨36, _⟩ => ⟨S16384x4x2x128, .i32⟩
  | .hbm, ⟨37, _⟩ => ⟨S_, .i32⟩
  | .hbm, ⟨38, _⟩ => ⟨S16384x4x2x128, .i32⟩
  | .hbm, ⟨39, _⟩ => ⟨S16384x4x2x128, .i32⟩
  | .hbm, ⟨40, _⟩ => ⟨S_, .i32⟩
  | .hbm, ⟨41, _⟩ => ⟨S16384x4x2x128, .i32⟩
  | .hbm, ⟨42, _⟩ => ⟨S16384x4x2x128, .i32⟩
  | .hbm, ⟨43, _⟩ => ⟨S16384x4x1x128, .bf16⟩
  | .hbm, ⟨44, _⟩ => ⟨S16384x4x2x128, .bf16⟩
  | .hbm, ⟨45, _⟩ => ⟨S_, .i32⟩
  | .hbm, ⟨46, _⟩ => ⟨S16384x4x2x128, .i32⟩
  | .hbm, ⟨47, _⟩ => ⟨S16384x4x2x128, .i32⟩
  | .hbm, ⟨48, _⟩ => ⟨S16384x4x2x128, .i1⟩
  | .hbm, ⟨49, _⟩ => ⟨S16384x4x2x1, .bf16⟩
  | .hbm, ⟨50, _⟩ => ⟨S16384x4x2x128, .bf16⟩
  | .hbm, ⟨51, _⟩ => ⟨S16384x4x2x128, .bf16⟩
  | .hbm, ⟨52, _⟩ => ⟨S_, .i32⟩
  | .hbm, ⟨53, _⟩ => ⟨S16384x4x2x128, .i32⟩
  | .hbm, ⟨54, _⟩ => ⟨S16384x4x2x128, .i32⟩
  | .hbm, ⟨55, _⟩ => ⟨S16384x4x2x128, .i1⟩
  | .hbm, ⟨56, _⟩ => ⟨S16384x4x2x1, .bf16⟩
  | .hbm, ⟨57, _⟩ => ⟨S16384x4x2x128, .bf16⟩
  | .hbm, ⟨58, _⟩ => ⟨S16384x4x2x128, .bf16⟩
  | .hbm, ⟨59, _⟩ => ⟨S_, .i32⟩
  | .hbm, ⟨60, _⟩ => ⟨S16384x4x2x128, .i32⟩
  | .hbm, ⟨61, _⟩ => ⟨S16384x4x2x128, .i32⟩
  | .hbm, ⟨62, _⟩ => ⟨S16384x4x2x128, .i1⟩
  | .hbm, ⟨63, _⟩ => ⟨S16384x4x2x1, .bf16⟩
  | .hbm, ⟨64, _⟩ => ⟨S16384x4x2x128, .bf16⟩
  | .hbm, ⟨65, _⟩ => ⟨S16384x4x2x128, .bf16⟩
  | .hbm, ⟨66, _⟩ => ⟨S16384x1024, .bf16⟩
  | .hbm, ⟨67, _⟩ => ⟨S16384x512, .f32⟩
  | .hbm, ⟨68, _⟩ => ⟨S4x8x16384, .f32⟩
  | .local _ .vmem, ⟨0, _⟩ => ⟨S128x512, .bf16⟩
  | .local _ .vmem, ⟨1, _⟩ => ⟨S128x512, .bf16⟩
  | .local _ .vmem, ⟨2, _⟩ => ⟨S16384x128, .bf16⟩
  | .local _ .vmem, ⟨3, _⟩ => ⟨S16384x128, .bf16⟩
  | .local _ .vmem, ⟨4, _⟩ => ⟨S128x16384, .bf16⟩
  | .local _ .vmem, ⟨5, _⟩ => ⟨S512x128, .f32⟩
  | .local _ .vmem, ⟨6, _⟩ => ⟨S512x128, .f32⟩
  | .local _ .vmem, ⟨7, _⟩ => ⟨S1x8x512, .f32⟩
  | .local _ .vmem, ⟨8, _⟩ => ⟨S1x8x512, .f32⟩
  | .local _ .vmem, ⟨9, _⟩ => ⟨S2x1x512, .f32⟩
  | .local _ .vmem, ⟨10, _⟩ => ⟨S2x1x512, .f32⟩
  | .local _ .vmem, ⟨11, _⟩ => ⟨S2x128x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_c_1 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_call2_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call3_v0 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call4_v0 : Ref sig .tc := ⟨.hbm, 57, rfl⟩
abbrev main_v40 : Ref sig .tc := ⟨.hbm, 58, rfl⟩
abbrev main_c_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call5_v0 : Ref sig .tc := ⟨.hbm, 64, rfl⟩
abbrev main_v45 : Ref sig .tc := ⟨.hbm, 65, rfl⟩
abbrev main_v46 : Ref sig .tc := ⟨.hbm, 66, rfl⟩
abbrev main_v47_0 : Ref sig .tc := ⟨.hbm, 67, rfl⟩
abbrev main_v47_1 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 32], ![false, false]⟩

@[reducible] def k0_t1_loop (i : grid0.Coords) : Scf.Loop 32 :=
  let c0_i32_22 : BitVec 32 := 0#32
  let arg1 : BitVec 32 := BitVec.ofNat 32 (i 1).val
  let c0_i32_16 : BitVec 32 := 0#32
  let v45 : BitVec 1 := Scalar.cmpi .sgt arg1 c0_i32_16
  let v46 : BitVec 32 := Scalar.extui v45
  let c0_i32_17 : BitVec 32 := 0#32
  let v47 : BitVec 1 := Scalar.cmpi .slt arg1 c0_i32_17
  let v48 : BitVec 32 := Scalar.extui v47
  let v49 : BitVec 32 := Scalar.subi v46 v48
  let c8_i32 : BitVec 32 := 8#32
  let c0_i32_18 : BitVec 32 := 0#32
  let v50 : BitVec 1 := Scalar.cmpi .sgt c8_i32 c0_i32_18
  let v51 : BitVec 32 := Scalar.extui v50
  let c0_i32_19 : BitVec 32 := 0#32
  let v52 : BitVec 1 := Scalar.cmpi .slt c8_i32 c0_i32_19
  let v53 : BitVec 32 := Scalar.extui v52
  let v54 : BitVec 32 := Scalar.subi v51 v53
  let v55 : BitVec 1 := Scalar.cmpi .ne v49 v54
  let v56 : BitVec 32 := Scalar.remsi arg1 c8_i32
  let c0_i32_20 : BitVec 32 := 0#32
  let v57 : BitVec 1 := Scalar.cmpi .ne v56 c0_i32_20
  let v58 : BitVec 1 := Scalar.andi v55 v57
  let v44 : BitVec 32 := Scalar.divsi arg1 c8_i32
  let c1_i32 : BitVec 32 := 1#32
  let v59 : BitVec 32 := Scalar.subi v44 c1_i32
  let v60 : BitVec 32 := Scalar.select v58 v59 v44
  let v61 : BitVec 32 := Scalar.subi v60 c0_i32_22
  let c1_i32_23 : BitVec 32 := 1#32
  let v63 : BitVec 32 := Scalar.divsi v61 c1_i32_23
  let v64 : BitVec 32 := Scalar.muli v63 c1_i32_23
  let v65 : BitVec 32 := Scalar.addi c0_i32_22 v64
  let c1_i32_24 : BitVec 32 := 1#32
  ⟨c0_i32_22, v65, c1_i32_24⟩
def k0_mult1 (i : grid0.Coords) (k0_t1 : Fin (k0_t1_loop i).trips) : BitVec 32 :=
  let c8_i32_120 : BitVec 32 := 8#32
  let c0_i32_22 : BitVec 32 := 0#32
  let c1_i32_24 : BitVec 32 := 1#32
  let arg11 : BitVec 32 := Scf.iv c0_i32_22 c1_i32_24 k0_t1
  let v220 : BitVec 32 := Scalar.muli c8_i32_120 arg11
  let c0_i32_121 : BitVec 32 := 0#32
  let v221 : BitVec 32 := Scalar.addi v220 c0_i32_121
  let c512_i32 : BitVec 32 := 512#32
  let v222 : BitVec 32 := Scalar.muli v221 c512_i32
  v222
def k0_off1 (i : grid0.Coords) (k0_t1 : Fin (k0_t1_loop i).trips) (c0_i32_121 : BitVec 32) : Fin 2 → Nat :=
  let c8_i32_120 : BitVec 32 := 8#32
  let c0_i32_22 : BitVec 32 := 0#32
  let c1_i32_24 : BitVec 32 := 1#32
  let arg11 : BitVec 32 := Scf.iv c0_i32_22 c1_i32_24 k0_t1
  let v220 : BitVec 32 := Scalar.muli c8_i32_120 arg11
  let v221 : BitVec 32 := Scalar.addi v220 c0_i32_121
  let c512_i32 : BitVec 32 := 512#32
  let v222 : BitVec 32 := Scalar.muli v221 c512_i32
  let v223 : BitVec 32 := v222
  let v224 : Index := Scalar.indexCast v223
  let c0_122 : Index := 0#32
  ![v224.toNat, 0]
def k0_mult2 (i : grid0.Coords) (k0_t1 : Fin (k0_t1_loop i).trips) : BitVec 32 :=
  let c8_i32_120 : BitVec 32 := 8#32
  let c0_i32_22 : BitVec 32 := 0#32
  let c1_i32_24 : BitVec 32 := 1#32
  let arg11 : BitVec 32 := Scf.iv c0_i32_22 c1_i32_24 k0_t1
  let v220 : BitVec 32 := Scalar.muli c8_i32_120 arg11
  let c1_i32_126 : BitVec 32 := 1#32
  let v232 : BitVec 32 := Scalar.addi v220 c1_i32_126
  let c512_i32_127 : BitVec 32 := 512#32
  let v233 : BitVec 32 := Scalar.muli v232 c512_i32_127
  v233
def k0_mult3 (i : grid0.Coords) (k0_t1 : Fin (k0_t1_loop i).trips) : BitVec 32 :=
  let c8_i32_120 : BitVec 32 := 8#32
  let c0_i32_22 : BitVec 32 := 0#32
  let c1_i32_24 : BitVec 32 := 1#32
  let arg11 : BitVec 32 := Scf.iv c0_i32_22 c1_i32_24 k0_t1
  let v220 : BitVec 32 := Scalar.muli c8_i32_120 arg11
  let c2_i32_132 : BitVec 32 := 2#32
  let v243 : BitVec 32 := Scalar.addi v220 c2_i32_132
  let c512_i32_133 : BitVec 32 := 512#32
  let v244 : BitVec 32 := Scalar.muli v243 c512_i32_133
  v244
def k0_mult4 (i : grid0.Coords) (k0_t1 : Fin (k0_t1_loop i).trips) : BitVec 32 :=
  let c8_i32_120 : BitVec 32 := 8#32
  let c0_i32_22 : BitVec 32 := 0#32
  let c1_i32_24 : BitVec 32 := 1#32
  let arg11 : BitVec 32 := Scf.iv c0_i32_22 c1_i32_24 k0_t1
  let v220 : BitVec 32 := Scalar.muli c8_i32_120 arg11
  let c3_i32_138 : BitVec 32 := 3#32
  let v254 : BitVec 32 := Scalar.addi v220 c3_i32_138
  let c512_i32_139 : BitVec 32 := 512#32
  let v255 : BitVec 32 := Scalar.muli v254 c512_i32_139
  v255
def k0_mult5 (i : grid0.Coords) (k0_t1 : Fin (k0_t1_loop i).trips) : BitVec 32 :=
  let c8_i32_120 : BitVec 32 := 8#32
  let c0_i32_22 : BitVec 32 := 0#32
  let c1_i32_24 : BitVec 32 := 1#32
  let arg11 : BitVec 32 := Scf.iv c0_i32_22 c1_i32_24 k0_t1
  let v220 : BitVec 32 := Scalar.muli c8_i32_120 arg11
  let c4_i32_144 : BitVec 32 := 4#32
  let v265 : BitVec 32 := Scalar.addi v220 c4_i32_144
  let c512_i32_145 : BitVec 32 := 512#32
  let v266 : BitVec 32 := Scalar.muli v265 c512_i32_145
  v266
def k0_mult6 (i : grid0.Coords) (k0_t1 : Fin (k0_t1_loop i).trips) : BitVec 32 :=
  let c8_i32_120 : BitVec 32 := 8#32
  let c0_i32_22 : BitVec 32 := 0#32
  let c1_i32_24 : BitVec 32 := 1#32
  let arg11 : BitVec 32 := Scf.iv c0_i32_22 c1_i32_24 k0_t1
  let v220 : BitVec 32 := Scalar.muli c8_i32_120 arg11
  let c5_i32_150 : BitVec 32 := 5#32
  let v276 : BitVec 32 := Scalar.addi v220 c5_i32_150
  let c512_i32_151 : BitVec 32 := 512#32
  let v277 : BitVec 32 := Scalar.muli v276 c512_i32_151
  v277
def k0_mult7 (i : grid0.Coords) (k0_t1 : Fin (k0_t1_loop i).trips) : BitVec 32 :=
  let c8_i32_120 : BitVec 32 := 8#32
  let c0_i32_22 : BitVec 32 := 0#32
  let c1_i32_24 : BitVec 32 := 1#32
  let arg11 : BitVec 32 := Scf.iv c0_i32_22 c1_i32_24 k0_t1
  let v220 : BitVec 32 := Scalar.muli c8_i32_120 arg11
  let c6_i32_156 : BitVec 32 := 6#32
  let v287 : BitVec 32 := Scalar.addi v220 c6_i32_156
  let c512_i32_157 : BitVec 32 := 512#32
  let v288 : BitVec 32 := Scalar.muli v287 c512_i32_157
  v288
def k0_mult8 (i : grid0.Coords) (k0_t1 : Fin (k0_t1_loop i).trips) : BitVec 32 :=
  let c8_i32_120 : BitVec 32 := 8#32
  let c0_i32_22 : BitVec 32 := 0#32
  let c1_i32_24 : BitVec 32 := 1#32
  let arg11 : BitVec 32 := Scf.iv c0_i32_22 c1_i32_24 k0_t1
  let v220 : BitVec 32 := Scalar.muli c8_i32_120 arg11
  let c7_i32_162 : BitVec 32 := 7#32
  let v298 : BitVec 32 := Scalar.addi v220 c7_i32_162
  let c512_i32_163 : BitVec 32 := 512#32
  let v299 : BitVec 32 := Scalar.muli v298 c512_i32_163
  v299
def k0_mult9 (i : grid0.Coords) (k0_t1 : Fin (k0_t1_loop i).trips) : BitVec 32 :=
  let c8_i32_120 : BitVec 32 := 8#32
  let c0_i32_22 : BitVec 32 := 0#32
  let c1_i32_24 : BitVec 32 := 1#32
  let arg11 : BitVec 32 := Scf.iv c0_i32_22 c1_i32_24 k0_t1
  let v220 : BitVec 32 := Scalar.muli c8_i32_120 arg11
  let c0_i32_168 : BitVec 32 := 0#32
  let v309 : BitVec 32 := Scalar.addi v220 c0_i32_168
  let c512_i32_169 : BitVec 32 := 512#32
  let v310 : BitVec 32 := Scalar.muli v309 c512_i32_169
  v310
def k0_off2 (i : grid0.Coords) (k0_t1 : Fin (k0_t1_loop i).trips) (c0_i32_168 : BitVec 32) : Fin 2 → Nat :=
  let c0_170 : Index := 0#32
  let c8_i32_120 : BitVec 32 := 8#32
  let c0_i32_22 : BitVec 32 := 0#32
  let c1_i32_24 : BitVec 32 := 1#32
  let arg11 : BitVec 32 := Scf.iv c0_i32_22 c1_i32_24 k0_t1
  let v220 : BitVec 32 := Scalar.muli c8_i32_120 arg11
  let v309 : BitVec 32 := Scalar.addi v220 c0_i32_168
  let c512_i32_169 : BitVec 32 := 512#32
  let v310 : BitVec 32 := Scalar.muli v309 c512_i32_169
  let v311 : BitVec 32 := v310
  let v312 : Index := Scalar.indexCast v311
  ![0, v312.toNat]
def k0_mult10 (i : grid0.Coords) (k0_t1 : Fin (k0_t1_loop i).trips) : BitVec 32 :=
  let c8_i32_120 : BitVec 32 := 8#32
  let c0_i32_22 : BitVec 32 := 0#32
  let c1_i32_24 : BitVec 32 := 1#32
  let arg11 : BitVec 32 := Scf.iv c0_i32_22 c1_i32_24 k0_t1
  let v220 : BitVec 32 := Scalar.muli c8_i32_120 arg11
  let c1_i32_213 : BitVec 32 := 1#32
  let v379 : BitVec 32 := Scalar.addi v220 c1_i32_213
  let c512_i32_214 : BitVec 32 := 512#32
  let v380 : BitVec 32 := Scalar.muli v379 c512_i32_214
  v380
def k0_mult11 (i : grid0.Coords) (k0_t1 : Fin (k0_t1_loop i).trips) : BitVec 32 :=
  let c8_i32_120 : BitVec 32 := 8#32
  let c0_i32_22 : BitVec 32 := 0#32
  let c1_i32_24 : BitVec 32 := 1#32
  let arg11 : BitVec 32 := Scf.iv c0_i32_22 c1_i32_24 k0_t1
  let v220 : BitVec 32 := Scalar.muli c8_i32_120 arg11
  let c2_i32_258 : BitVec 32 := 2#32
  let v449 : BitVec 32 := Scalar.addi v220 c2_i32_258
  let c512_i32_259 : BitVec 32 := 512#32
  let v450 : BitVec 32 := Scalar.muli v449 c512_i32_259
  v450
def k0_mult12 (i : grid0.Coords) (k0_t1 : Fin (k0_t1_loop i).trips) : BitVec 32 :=
  let c8_i32_120 : BitVec 32 := 8#32
  let c0_i32_22 : BitVec 32 := 0#32
  let c1_i32_24 : BitVec 32 := 1#32
  let arg11 : BitVec 32 := Scf.iv c0_i32_22 c1_i32_24 k0_t1
  let v220 : BitVec 32 := Scalar.muli c8_i32_120 arg11
  let c3_i32_303 : BitVec 32 := 3#32
  let v519 : BitVec 32 := Scalar.addi v220 c3_i32_303
  let c512_i32_304 : BitVec 32 := 512#32
  let v520 : BitVec 32 := Scalar.muli v519 c512_i32_304
  v520
def k0_mult13 (i : grid0.Coords) (k0_t1 : Fin (k0_t1_loop i).trips) : BitVec 32 :=
  let c8_i32_120 : BitVec 32 := 8#32
  let c0_i32_22 : BitVec 32 := 0#32
  let c1_i32_24 : BitVec 32 := 1#32
  let arg11 : BitVec 32 := Scf.iv c0_i32_22 c1_i32_24 k0_t1
  let v220 : BitVec 32 := Scalar.muli c8_i32_120 arg11
  let c4_i32_348 : BitVec 32 := 4#32
  let v589 : BitVec 32 := Scalar.addi v220 c4_i32_348
  let c512_i32_349 : BitVec 32 := 512#32
  let v590 : BitVec 32 := Scalar.muli v589 c512_i32_349
  v590
def k0_mult14 (i : grid0.Coords) (k0_t1 : Fin (k0_t1_loop i).trips) : BitVec 32 :=
  let c8_i32_120 : BitVec 32 := 8#32
  let c0_i32_22 : BitVec 32 := 0#32
  let c1_i32_24 : BitVec 32 := 1#32
  let arg11 : BitVec 32 := Scf.iv c0_i32_22 c1_i32_24 k0_t1
  let v220 : BitVec 32 := Scalar.muli c8_i32_120 arg11
  let c5_i32_393 : BitVec 32 := 5#32
  let v659 : BitVec 32 := Scalar.addi v220 c5_i32_393
  let c512_i32_394 : BitVec 32 := 512#32
  let v660 : BitVec 32 := Scalar.muli v659 c512_i32_394
  v660
def k0_mult15 (i : grid0.Coords) (k0_t1 : Fin (k0_t1_loop i).trips) : BitVec 32 :=
  let c8_i32_120 : BitVec 32 := 8#32
  let c0_i32_22 : BitVec 32 := 0#32
  let c1_i32_24 : BitVec 32 := 1#32
  let arg11 : BitVec 32 := Scf.iv c0_i32_22 c1_i32_24 k0_t1
  let v220 : BitVec 32 := Scalar.muli c8_i32_120 arg11
  let c6_i32_438 : BitVec 32 := 6#32
  let v729 : BitVec 32 := Scalar.addi v220 c6_i32_438
  let c512_i32_439 : BitVec 32 := 512#32
  let v730 : BitVec 32 := Scalar.muli v729 c512_i32_439
  v730
def k0_mult16 (i : grid0.Coords) (k0_t1 : Fin (k0_t1_loop i).trips) : BitVec 32 :=
  let c8_i32_120 : BitVec 32 := 8#32
  let c0_i32_22 : BitVec 32 := 0#32
  let c1_i32_24 : BitVec 32 := 1#32
  let arg11 : BitVec 32 := Scf.iv c0_i32_22 c1_i32_24 k0_t1
  let v220 : BitVec 32 := Scalar.muli c8_i32_120 arg11
  let c7_i32_483 : BitVec 32 := 7#32
  let v799 : BitVec 32 := Scalar.addi v220 c7_i32_483
  let c512_i32_484 : BitVec 32 := 512#32
  let v800 : BitVec 32 := Scalar.muli v799 c512_i32_484
  v800
@[reducible] def k0_t2_loop (i : grid0.Coords) : Scf.Loop 32 :=
  let c0_i32_22 : BitVec 32 := 0#32
  let arg1 : BitVec 32 := BitVec.ofNat 32 (i 1).val
  let c0_i32_16 : BitVec 32 := 0#32
  let v45 : BitVec 1 := Scalar.cmpi .sgt arg1 c0_i32_16
  let v46 : BitVec 32 := Scalar.extui v45
  let c0_i32_17 : BitVec 32 := 0#32
  let v47 : BitVec 1 := Scalar.cmpi .slt arg1 c0_i32_17
  let v48 : BitVec 32 := Scalar.extui v47
  let v49 : BitVec 32 := Scalar.subi v46 v48
  let c8_i32 : BitVec 32 := 8#32
  let c0_i32_18 : BitVec 32 := 0#32
  let v50 : BitVec 1 := Scalar.cmpi .sgt c8_i32 c0_i32_18
  let v51 : BitVec 32 := Scalar.extui v50
  let c0_i32_19 : BitVec 32 := 0#32
  let v52 : BitVec 1 := Scalar.cmpi .slt c8_i32 c0_i32_19
  let v53 : BitVec 32 := Scalar.extui v52
  let v54 : BitVec 32 := Scalar.subi v51 v53
  let v55 : BitVec 1 := Scalar.cmpi .ne v49 v54
  let v56 : BitVec 32 := Scalar.remsi arg1 c8_i32
  let c0_i32_20 : BitVec 32 := 0#32
  let v57 : BitVec 1 := Scalar.cmpi .ne v56 c0_i32_20
  let v58 : BitVec 1 := Scalar.andi v55 v57
  let v44 : BitVec 32 := Scalar.divsi arg1 c8_i32
  let c1_i32 : BitVec 32 := 1#32
  let v59 : BitVec 32 := Scalar.subi v44 c1_i32
  let v60 : BitVec 32 := Scalar.select v58 v59 v44
  let v61 : BitVec 32 := Scalar.subi v60 c0_i32_22
  let c1_i32_23 : BitVec 32 := 1#32
  let v63 : BitVec 32 := Scalar.divsi v61 c1_i32_23
  let v64 : BitVec 32 := Scalar.muli v63 c1_i32_23
  let v65 : BitVec 32 := Scalar.addi c0_i32_22 v64
  let v62 : BitVec 32 := Scalar.addi c0_i32_22 v61
  let c1_i32_25 : BitVec 32 := 1#32
  ⟨v65, v62, c1_i32_25⟩
def k0_mult17 (i : grid0.Coords) (k0_t2 : Fin (k0_t2_loop i).trips) : BitVec 32 :=
  let c8_i32_120 : BitVec 32 := 8#32
  let c0_i32_22 : BitVec 32 := 0#32
  let arg1 : BitVec 32 := BitVec.ofNat 32 (i 1).val
  let c0_i32_16 : BitVec 32 := 0#32
  let v45 : BitVec 1 := Scalar.cmpi .sgt arg1 c0_i32_16
  let v46 : BitVec 32 := Scalar.extui v45
  let c0_i32_17 : BitVec 32 := 0#32
  let v47 : BitVec 1 := Scalar.cmpi .slt arg1 c0_i32_17
  let v48 : BitVec 32 := Scalar.extui v47
  let v49 : BitVec 32 := Scalar.subi v46 v48
  let c8_i32 : BitVec 32 := 8#32
  let c0_i32_18 : BitVec 32 := 0#32
  let v50 : BitVec 1 := Scalar.cmpi .sgt c8_i32 c0_i32_18
  let v51 : BitVec 32 := Scalar.extui v50
  let c0_i32_19 : BitVec 32 := 0#32
  let v52 : BitVec 1 := Scalar.cmpi .slt c8_i32 c0_i32_19
  let v53 : BitVec 32 := Scalar.extui v52
  let v54 : BitVec 32 := Scalar.subi v51 v53
  let v55 : BitVec 1 := Scalar.cmpi .ne v49 v54
  let v56 : BitVec 32 := Scalar.remsi arg1 c8_i32
  let c0_i32_20 : BitVec 32 := 0#32
  let v57 : BitVec 1 := Scalar.cmpi .ne v56 c0_i32_20
  let v58 : BitVec 1 := Scalar.andi v55 v57
  let v44 : BitVec 32 := Scalar.divsi arg1 c8_i32
  let c1_i32 : BitVec 32 := 1#32
  let v59 : BitVec 32 := Scalar.subi v44 c1_i32
  let v60 : BitVec 32 := Scalar.select v58 v59 v44
  let v61 : BitVec 32 := Scalar.subi v60 c0_i32_22
  let c1_i32_23 : BitVec 32 := 1#32
  let v63 : BitVec 32 := Scalar.divsi v61 c1_i32_23
  let v64 : BitVec 32 := Scalar.muli v63 c1_i32_23
  let v65 : BitVec 32 := Scalar.addi c0_i32_22 v64
  let c1_i32_25 : BitVec 32 := 1#32
  let arg11 : BitVec 32 := Scf.iv v65 c1_i32_25 k0_t2
  let v220 : BitVec 32 := Scalar.muli c8_i32_120 arg11
  let c0_i32_121 : BitVec 32 := 0#32
  let v221 : BitVec 32 := Scalar.addi v220 c0_i32_121
  let c512_i32 : BitVec 32 := 512#32
  let v222 : BitVec 32 := Scalar.muli v221 c512_i32
  v222
def k0_off3 (i : grid0.Coords) (k0_t2 : Fin (k0_t2_loop i).trips) (c0_i32_121 : BitVec 32) : Fin 2 → Nat :=
  let c8_i32_120 : BitVec 32 := 8#32
  let c0_i32_22 : BitVec 32 := 0#32
  let arg1 : BitVec 32 := BitVec.ofNat 32 (i 1).val
  let c0_i32_16 : BitVec 32 := 0#32
  let v45 : BitVec 1 := Scalar.cmpi .sgt arg1 c0_i32_16
  let v46 : BitVec 32 := Scalar.extui v45
  let c0_i32_17 : BitVec 32 := 0#32
  let v47 : BitVec 1 := Scalar.cmpi .slt arg1 c0_i32_17
  let v48 : BitVec 32 := Scalar.extui v47
  let v49 : BitVec 32 := Scalar.subi v46 v48
  let c8_i32 : BitVec 32 := 8#32
  let c0_i32_18 : BitVec 32 := 0#32
  let v50 : BitVec 1 := Scalar.cmpi .sgt c8_i32 c0_i32_18
  let v51 : BitVec 32 := Scalar.extui v50
  let c0_i32_19 : BitVec 32 := 0#32
  let v52 : BitVec 1 := Scalar.cmpi .slt c8_i32 c0_i32_19
  let v53 : BitVec 32 := Scalar.extui v52
  let v54 : BitVec 32 := Scalar.subi v51 v53
  let v55 : BitVec 1 := Scalar.cmpi .ne v49 v54
  let v56 : BitVec 32 := Scalar.remsi arg1 c8_i32
  let c0_i32_20 : BitVec 32 := 0#32
  let v57 : BitVec 1 := Scalar.cmpi .ne v56 c0_i32_20
  let v58 : BitVec 1 := Scalar.andi v55 v57
  let v44 : BitVec 32 := Scalar.divsi arg1 c8_i32
  let c1_i32 : BitVec 32 := 1#32
  let v59 : BitVec 32 := Scalar.subi v44 c1_i32
  let v60 : BitVec 32 := Scalar.select v58 v59 v44
  let v61 : BitVec 32 := Scalar.subi v60 c0_i32_22
  let c1_i32_23 : BitVec 32 := 1#32
  let v63 : BitVec 32 := Scalar.divsi v61 c1_i32_23
  let v64 : BitVec 32 := Scalar.muli v63 c1_i32_23
  let v65 : BitVec 32 := Scalar.addi c0_i32_22 v64
  let c1_i32_25 : BitVec 32 := 1#32
  let arg11 : BitVec 32 := Scf.iv v65 c1_i32_25 k0_t2
  let v220 : BitVec 32 := Scalar.muli c8_i32_120 arg11
  let v221 : BitVec 32 := Scalar.addi v220 c0_i32_121
  let c512_i32 : BitVec 32 := 512#32
  let v222 : BitVec 32 := Scalar.muli v221 c512_i32
  let v223 : BitVec 32 := v222
  let v224 : Index := Scalar.indexCast v223
  let c0_122 : Index := 0#32
  ![v224.toNat, 0]
def k0_mult18 (i : grid0.Coords) (k0_t2 : Fin (k0_t2_loop i).trips) : BitVec 32 :=
  let c8_i32_120 : BitVec 32 := 8#32
  let c0_i32_22 : BitVec 32 := 0#32
  let arg1 : BitVec 32 := BitVec.ofNat 32 (i 1).val
  let c0_i32_16 : BitVec 32 := 0#32
  let v45 : BitVec 1 := Scalar.cmpi .sgt arg1 c0_i32_16
  let v46 : BitVec 32 := Scalar.extui v45
  let c0_i32_17 : BitVec 32 := 0#32
  let v47 : BitVec 1 := Scalar.cmpi .slt arg1 c0_i32_17
  let v48 : BitVec 32 := Scalar.extui v47
  let v49 : BitVec 32 := Scalar.subi v46 v48
  let c8_i32 : BitVec 32 := 8#32
  let c0_i32_18 : BitVec 32 := 0#32
  let v50 : BitVec 1 := Scalar.cmpi .sgt c8_i32 c0_i32_18
  let v51 : BitVec 32 := Scalar.extui v50
  let c0_i32_19 : BitVec 32 := 0#32
  let v52 : BitVec 1 := Scalar.cmpi .slt c8_i32 c0_i32_19
  let v53 : BitVec 32 := Scalar.extui v52
  let v54 : BitVec 32 := Scalar.subi v51 v53
  let v55 : BitVec 1 := Scalar.cmpi .ne v49 v54
  let v56 : BitVec 32 := Scalar.remsi arg1 c8_i32
  let c0_i32_20 : BitVec 32 := 0#32
  let v57 : BitVec 1 := Scalar.cmpi .ne v56 c0_i32_20
  let v58 : BitVec 1 := Scalar.andi v55 v57
  let v44 : BitVec 32 := Scalar.divsi arg1 c8_i32
  let c1_i32 : BitVec 32 := 1#32
  let v59 : BitVec 32 := Scalar.subi v44 c1_i32
  let v60 : BitVec 32 := Scalar.select v58 v59 v44
  let v61 : BitVec 32 := Scalar.subi v60 c0_i32_22
  let c1_i32_23 : BitVec 32 := 1#32
  let v63 : BitVec 32 := Scalar.divsi v61 c1_i32_23
  let v64 : BitVec 32 := Scalar.muli v63 c1_i32_23
  let v65 : BitVec 32 := Scalar.addi c0_i32_22 v64
  let c1_i32_25 : BitVec 32 := 1#32
  let arg11 : BitVec 32 := Scf.iv v65 c1_i32_25 k0_t2
  let v220 : BitVec 32 := Scalar.muli c8_i32_120 arg11
  let c1_i32_126 : BitVec 32 := 1#32
  let v232 : BitVec 32 := Scalar.addi v220 c1_i32_126
  let c512_i32_127 : BitVec 32 := 512#32
  let v233 : BitVec 32 := Scalar.muli v232 c512_i32_127
  v233
def k0_mult19 (i : grid0.Coords) (k0_t2 : Fin (k0_t2_loop i).trips) : BitVec 32 :=
  let c8_i32_120 : BitVec 32 := 8#32
  let c0_i32_22 : BitVec 32 := 0#32
  let arg1 : BitVec 32 := BitVec.ofNat 32 (i 1).val
  let c0_i32_16 : BitVec 32 := 0#32
  let v45 : BitVec 1 := Scalar.cmpi .sgt arg1 c0_i32_16
  let v46 : BitVec 32 := Scalar.extui v45
  let c0_i32_17 : BitVec 32 := 0#32
  let v47 : BitVec 1 := Scalar.cmpi .slt arg1 c0_i32_17
  let v48 : BitVec 32 := Scalar.extui v47
  let v49 : BitVec 32 := Scalar.subi v46 v48
  let c8_i32 : BitVec 32 := 8#32
  let c0_i32_18 : BitVec 32 := 0#32
  let v50 : BitVec 1 := Scalar.cmpi .sgt c8_i32 c0_i32_18
  let v51 : BitVec 32 := Scalar.extui v50
  let c0_i32_19 : BitVec 32 := 0#32
  let v52 : BitVec 1 := Scalar.cmpi .slt c8_i32 c0_i32_19
  let v53 : BitVec 32 := Scalar.extui v52
  let v54 : BitVec 32 := Scalar.subi v51 v53
  let v55 : BitVec 1 := Scalar.cmpi .ne v49 v54
  let v56 : BitVec 32 := Scalar.remsi arg1 c8_i32
  let c0_i32_20 : BitVec 32 := 0#32
  let v57 : BitVec 1 := Scalar.cmpi .ne v56 c0_i32_20
  let v58 : BitVec 1 := Scalar.andi v55 v57
  let v44 : BitVec 32 := Scalar.divsi arg1 c8_i32
  let c1_i32 : BitVec 32 := 1#32
  let v59 : BitVec 32 := Scalar.subi v44 c1_i32
  let v60 : BitVec 32 := Scalar.select v58 v59 v44
  let v61 : BitVec 32 := Scalar.subi v60 c0_i32_22
  let c1_i32_23 : BitVec 32 := 1#32
  let v63 : BitVec 32 := Scalar.divsi v61 c1_i32_23
  let v64 : BitVec 32 := Scalar.muli v63 c1_i32_23
  let v65 : BitVec 32 := Scalar.addi c0_i32_22 v64
  let c1_i32_25 : BitVec 32 := 1#32
  let arg11 : BitVec 32 := Scf.iv v65 c1_i32_25 k0_t2
  let v220 : BitVec 32 := Scalar.muli c8_i32_120 arg11
  let c2_i32_132 : BitVec 32 := 2#32
  let v243 : BitVec 32 := Scalar.addi v220 c2_i32_132
  let c512_i32_133 : BitVec 32 := 512#32
  let v244 : BitVec 32 := Scalar.muli v243 c512_i32_133
  v244
def k0_mult20 (i : grid0.Coords) (k0_t2 : Fin (k0_t2_loop i).trips) : BitVec 32 :=
  let c8_i32_120 : BitVec 32 := 8#32
  let c0_i32_22 : BitVec 32 := 0#32
  let arg1 : BitVec 32 := BitVec.ofNat 32 (i 1).val
  let c0_i32_16 : BitVec 32 := 0#32
  let v45 : BitVec 1 := Scalar.cmpi .sgt arg1 c0_i32_16
  let v46 : BitVec 32 := Scalar.extui v45
  let c0_i32_17 : BitVec 32 := 0#32
  let v47 : BitVec 1 := Scalar.cmpi .slt arg1 c0_i32_17
  let v48 : BitVec 32 := Scalar.extui v47
  let v49 : BitVec 32 := Scalar.subi v46 v48
  let c8_i32 : BitVec 32 := 8#32
  let c0_i32_18 : BitVec 32 := 0#32
  let v50 : BitVec 1 := Scalar.cmpi .sgt c8_i32 c0_i32_18
  let v51 : BitVec 32 := Scalar.extui v50
  let c0_i32_19 : BitVec 32 := 0#32
  let v52 : BitVec 1 := Scalar.cmpi .slt c8_i32 c0_i32_19
  let v53 : BitVec 32 := Scalar.extui v52
  let v54 : BitVec 32 := Scalar.subi v51 v53
  let v55 : BitVec 1 := Scalar.cmpi .ne v49 v54
  let v56 : BitVec 32 := Scalar.remsi arg1 c8_i32
  let c0_i32_20 : BitVec 32 := 0#32
  let v57 : BitVec 1 := Scalar.cmpi .ne v56 c0_i32_20
  let v58 : BitVec 1 := Scalar.andi v55 v57
  let v44 : BitVec 32 := Scalar.divsi arg1 c8_i32
  let c1_i32 : BitVec 32 := 1#32
  let v59 : BitVec 32 := Scalar.subi v44 c1_i32
  let v60 : BitVec 32 := Scalar.select v58 v59 v44
  let v61 : BitVec 32 := Scalar.subi v60 c0_i32_22
  let c1_i32_23 : BitVec 32 := 1#32
  let v63 : BitVec 32 := Scalar.divsi v61 c1_i32_23
  let v64 : BitVec 32 := Scalar.muli v63 c1_i32_23
  let v65 : BitVec 32 := Scalar.addi c0_i32_22 v64
  let c1_i32_25 : BitVec 32 := 1#32
  let arg11 : BitVec 32 := Scf.iv v65 c1_i32_25 k0_t2
  let v220 : BitVec 32 := Scalar.muli c8_i32_120 arg11
  let c3_i32_138 : BitVec 32 := 3#32
  let v254 : BitVec 32 := Scalar.addi v220 c3_i32_138
  let c512_i32_139 : BitVec 32 := 512#32
  let v255 : BitVec 32 := Scalar.muli v254 c512_i32_139
  v255
def k0_mult21 (i : grid0.Coords) (k0_t2 : Fin (k0_t2_loop i).trips) : BitVec 32 :=
  let c8_i32_120 : BitVec 32 := 8#32
  let c0_i32_22 : BitVec 32 := 0#32
  let arg1 : BitVec 32 := BitVec.ofNat 32 (i 1).val
  let c0_i32_16 : BitVec 32 := 0#32
  let v45 : BitVec 1 := Scalar.cmpi .sgt arg1 c0_i32_16
  let v46 : BitVec 32 := Scalar.extui v45
  let c0_i32_17 : BitVec 32 := 0#32
  let v47 : BitVec 1 := Scalar.cmpi .slt arg1 c0_i32_17
  let v48 : BitVec 32 := Scalar.extui v47
  let v49 : BitVec 32 := Scalar.subi v46 v48
  let c8_i32 : BitVec 32 := 8#32
  let c0_i32_18 : BitVec 32 := 0#32
  let v50 : BitVec 1 := Scalar.cmpi .sgt c8_i32 c0_i32_18
  let v51 : BitVec 32 := Scalar.extui v50
  let c0_i32_19 : BitVec 32 := 0#32
  let v52 : BitVec 1 := Scalar.cmpi .slt c8_i32 c0_i32_19
  let v53 : BitVec 32 := Scalar.extui v52
  let v54 : BitVec 32 := Scalar.subi v51 v53
  let v55 : BitVec 1 := Scalar.cmpi .ne v49 v54
  let v56 : BitVec 32 := Scalar.remsi arg1 c8_i32
  let c0_i32_20 : BitVec 32 := 0#32
  let v57 : BitVec 1 := Scalar.cmpi .ne v56 c0_i32_20
  let v58 : BitVec 1 := Scalar.andi v55 v57
  let v44 : BitVec 32 := Scalar.divsi arg1 c8_i32
  let c1_i32 : BitVec 32 := 1#32
  let v59 : BitVec 32 := Scalar.subi v44 c1_i32
  let v60 : BitVec 32 := Scalar.select v58 v59 v44
  let v61 : BitVec 32 := Scalar.subi v60 c0_i32_22
  let c1_i32_23 : BitVec 32 := 1#32
  let v63 : BitVec 32 := Scalar.divsi v61 c1_i32_23
  let v64 : BitVec 32 := Scalar.muli v63 c1_i32_23
  let v65 : BitVec 32 := Scalar.addi c0_i32_22 v64
  let c1_i32_25 : BitVec 32 := 1#32
  let arg11 : BitVec 32 := Scf.iv v65 c1_i32_25 k0_t2
  let v220 : BitVec 32 := Scalar.muli c8_i32_120 arg11
  let c4_i32_144 : BitVec 32 := 4#32
  let v265 : BitVec 32 := Scalar.addi v220 c4_i32_144
  let c512_i32_145 : BitVec 32 := 512#32
  let v266 : BitVec 32 := Scalar.muli v265 c512_i32_145
  v266
def k0_mult22 (i : grid0.Coords) (k0_t2 : Fin (k0_t2_loop i).trips) : BitVec 32 :=
  let c8_i32_120 : BitVec 32 := 8#32
  let c0_i32_22 : BitVec 32 := 0#32
  let arg1 : BitVec 32 := BitVec.ofNat 32 (i 1).val
  let c0_i32_16 : BitVec 32 := 0#32
  let v45 : BitVec 1 := Scalar.cmpi .sgt arg1 c0_i32_16
  let v46 : BitVec 32 := Scalar.extui v45
  let c0_i32_17 : BitVec 32 := 0#32
  let v47 : BitVec 1 := Scalar.cmpi .slt arg1 c0_i32_17
  let v48 : BitVec 32 := Scalar.extui v47
  let v49 : BitVec 32 := Scalar.subi v46 v48
  let c8_i32 : BitVec 32 := 8#32
  let c0_i32_18 : BitVec 32 := 0#32
  let v50 : BitVec 1 := Scalar.cmpi .sgt c8_i32 c0_i32_18
  let v51 : BitVec 32 := Scalar.extui v50
  let c0_i32_19 : BitVec 32 := 0#32
  let v52 : BitVec 1 := Scalar.cmpi .slt c8_i32 c0_i32_19
  let v53 : BitVec 32 := Scalar.extui v52
  let v54 : BitVec 32 := Scalar.subi v51 v53
  let v55 : BitVec 1 := Scalar.cmpi .ne v49 v54
  let v56 : BitVec 32 := Scalar.remsi arg1 c8_i32
  let c0_i32_20 : BitVec 32 := 0#32
  let v57 : BitVec 1 := Scalar.cmpi .ne v56 c0_i32_20
  let v58 : BitVec 1 := Scalar.andi v55 v57
  let v44 : BitVec 32 := Scalar.divsi arg1 c8_i32
  let c1_i32 : BitVec 32 := 1#32
  let v59 : BitVec 32 := Scalar.subi v44 c1_i32
  let v60 : BitVec 32 := Scalar.select v58 v59 v44
  let v61 : BitVec 32 := Scalar.subi v60 c0_i32_22
  let c1_i32_23 : BitVec 32 := 1#32
  let v63 : BitVec 32 := Scalar.divsi v61 c1_i32_23
  let v64 : BitVec 32 := Scalar.muli v63 c1_i32_23
  let v65 : BitVec 32 := Scalar.addi c0_i32_22 v64
  let c1_i32_25 : BitVec 32 := 1#32
  let arg11 : BitVec 32 := Scf.iv v65 c1_i32_25 k0_t2
  let v220 : BitVec 32 := Scalar.muli c8_i32_120 arg11
  let c5_i32_150 : BitVec 32 := 5#32
  let v276 : BitVec 32 := Scalar.addi v220 c5_i32_150
  let c512_i32_151 : BitVec 32 := 512#32
  let v277 : BitVec 32 := Scalar.muli v276 c512_i32_151
  v277
def k0_mult23 (i : grid0.Coords) (k0_t2 : Fin (k0_t2_loop i).trips) : BitVec 32 :=
  let c8_i32_120 : BitVec 32 := 8#32
  let c0_i32_22 : BitVec 32 := 0#32
  let arg1 : BitVec 32 := BitVec.ofNat 32 (i 1).val
  let c0_i32_16 : BitVec 32 := 0#32
  let v45 : BitVec 1 := Scalar.cmpi .sgt arg1 c0_i32_16
  let v46 : BitVec 32 := Scalar.extui v45
  let c0_i32_17 : BitVec 32 := 0#32
  let v47 : BitVec 1 := Scalar.cmpi .slt arg1 c0_i32_17
  let v48 : BitVec 32 := Scalar.extui v47
  let v49 : BitVec 32 := Scalar.subi v46 v48
  let c8_i32 : BitVec 32 := 8#32
  let c0_i32_18 : BitVec 32 := 0#32
  let v50 : BitVec 1 := Scalar.cmpi .sgt c8_i32 c0_i32_18
  let v51 : BitVec 32 := Scalar.extui v50
  let c0_i32_19 : BitVec 32 := 0#32
  let v52 : BitVec 1 := Scalar.cmpi .slt c8_i32 c0_i32_19
  let v53 : BitVec 32 := Scalar.extui v52
  let v54 : BitVec 32 := Scalar.subi v51 v53
  let v55 : BitVec 1 := Scalar.cmpi .ne v49 v54
  let v56 : BitVec 32 := Scalar.remsi arg1 c8_i32
  let c0_i32_20 : BitVec 32 := 0#32
  let v57 : BitVec 1 := Scalar.cmpi .ne v56 c0_i32_20
  let v58 : BitVec 1 := Scalar.andi v55 v57
  let v44 : BitVec 32 := Scalar.divsi arg1 c8_i32
  let c1_i32 : BitVec 32 := 1#32
  let v59 : BitVec 32 := Scalar.subi v44 c1_i32
  let v60 : BitVec 32 := Scalar.select v58 v59 v44
  let v61 : BitVec 32 := Scalar.subi v60 c0_i32_22
  let c1_i32_23 : BitVec 32 := 1#32
  let v63 : BitVec 32 := Scalar.divsi v61 c1_i32_23
  let v64 : BitVec 32 := Scalar.muli v63 c1_i32_23
  let v65 : BitVec 32 := Scalar.addi c0_i32_22 v64
  let c1_i32_25 : BitVec 32 := 1#32
  let arg11 : BitVec 32 := Scf.iv v65 c1_i32_25 k0_t2
  let v220 : BitVec 32 := Scalar.muli c8_i32_120 arg11
  let c6_i32_156 : BitVec 32 := 6#32
  let v287 : BitVec 32 := Scalar.addi v220 c6_i32_156
  let c512_i32_157 : BitVec 32 := 512#32
  let v288 : BitVec 32 := Scalar.muli v287 c512_i32_157
  v288
def k0_mult24 (i : grid0.Coords) (k0_t2 : Fin (k0_t2_loop i).trips) : BitVec 32 :=
  let c8_i32_120 : BitVec 32 := 8#32
  let c0_i32_22 : BitVec 32 := 0#32
  let arg1 : BitVec 32 := BitVec.ofNat 32 (i 1).val
  let c0_i32_16 : BitVec 32 := 0#32
  let v45 : BitVec 1 := Scalar.cmpi .sgt arg1 c0_i32_16
  let v46 : BitVec 32 := Scalar.extui v45
  let c0_i32_17 : BitVec 32 := 0#32
  let v47 : BitVec 1 := Scalar.cmpi .slt arg1 c0_i32_17
  let v48 : BitVec 32 := Scalar.extui v47
  let v49 : BitVec 32 := Scalar.subi v46 v48
  let c8_i32 : BitVec 32 := 8#32
  let c0_i32_18 : BitVec 32 := 0#32
  let v50 : BitVec 1 := Scalar.cmpi .sgt c8_i32 c0_i32_18
  let v51 : BitVec 32 := Scalar.extui v50
  let c0_i32_19 : BitVec 32 := 0#32
  let v52 : BitVec 1 := Scalar.cmpi .slt c8_i32 c0_i32_19
  let v53 : BitVec 32 := Scalar.extui v52
  let v54 : BitVec 32 := Scalar.subi v51 v53
  let v55 : BitVec 1 := Scalar.cmpi .ne v49 v54
  let v56 : BitVec 32 := Scalar.remsi arg1 c8_i32
  let c0_i32_20 : BitVec 32 := 0#32
  let v57 : BitVec 1 := Scalar.cmpi .ne v56 c0_i32_20
  let v58 : BitVec 1 := Scalar.andi v55 v57
  let v44 : BitVec 32 := Scalar.divsi arg1 c8_i32
  let c1_i32 : BitVec 32 := 1#32
  let v59 : BitVec 32 := Scalar.subi v44 c1_i32
  let v60 : BitVec 32 := Scalar.select v58 v59 v44
  let v61 : BitVec 32 := Scalar.subi v60 c0_i32_22
  let c1_i32_23 : BitVec 32 := 1#32
  let v63 : BitVec 32 := Scalar.divsi v61 c1_i32_23
  let v64 : BitVec 32 := Scalar.muli v63 c1_i32_23
  let v65 : BitVec 32 := Scalar.addi c0_i32_22 v64
  let c1_i32_25 : BitVec 32 := 1#32
  let arg11 : BitVec 32 := Scf.iv v65 c1_i32_25 k0_t2
  let v220 : BitVec 32 := Scalar.muli c8_i32_120 arg11
  let c7_i32_162 : BitVec 32 := 7#32
  let v298 : BitVec 32 := Scalar.addi v220 c7_i32_162
  let c512_i32_163 : BitVec 32 := 512#32
  let v299 : BitVec 32 := Scalar.muli v298 c512_i32_163
  v299
def k0_mult25 (i : grid0.Coords) (k0_t2 : Fin (k0_t2_loop i).trips) : BitVec 32 :=
  let c8_i32_120 : BitVec 32 := 8#32
  let c0_i32_22 : BitVec 32 := 0#32
  let arg1 : BitVec 32 := BitVec.ofNat 32 (i 1).val
  let c0_i32_16 : BitVec 32 := 0#32
  let v45 : BitVec 1 := Scalar.cmpi .sgt arg1 c0_i32_16
  let v46 : BitVec 32 := Scalar.extui v45
  let c0_i32_17 : BitVec 32 := 0#32
  let v47 : BitVec 1 := Scalar.cmpi .slt arg1 c0_i32_17
  let v48 : BitVec 32 := Scalar.extui v47
  let v49 : BitVec 32 := Scalar.subi v46 v48
  let c8_i32 : BitVec 32 := 8#32
  let c0_i32_18 : BitVec 32 := 0#32
  let v50 : BitVec 1 := Scalar.cmpi .sgt c8_i32 c0_i32_18
  let v51 : BitVec 32 := Scalar.extui v50
  let c0_i32_19 : BitVec 32 := 0#32
  let v52 : BitVec 1 := Scalar.cmpi .slt c8_i32 c0_i32_19
  let v53 : BitVec 32 := Scalar.extui v52
  let v54 : BitVec 32 := Scalar.subi v51 v53
  let v55 : BitVec 1 := Scalar.cmpi .ne v49 v54
  let v56 : BitVec 32 := Scalar.remsi arg1 c8_i32
  let c0_i32_20 : BitVec 32 := 0#32
  let v57 : BitVec 1 := Scalar.cmpi .ne v56 c0_i32_20
  let v58 : BitVec 1 := Scalar.andi v55 v57
  let v44 : BitVec 32 := Scalar.divsi arg1 c8_i32
  let c1_i32 : BitVec 32 := 1#32
  let v59 : BitVec 32 := Scalar.subi v44 c1_i32
  let v60 : BitVec 32 := Scalar.select v58 v59 v44
  let v61 : BitVec 32 := Scalar.subi v60 c0_i32_22
  let c1_i32_23 : BitVec 32 := 1#32
  let v63 : BitVec 32 := Scalar.divsi v61 c1_i32_23
  let v64 : BitVec 32 := Scalar.muli v63 c1_i32_23
  let v65 : BitVec 32 := Scalar.addi c0_i32_22 v64
  let c1_i32_25 : BitVec 32 := 1#32
  let arg11 : BitVec 32 := Scf.iv v65 c1_i32_25 k0_t2
  let v220 : BitVec 32 := Scalar.muli c8_i32_120 arg11
  let c0_i32_168 : BitVec 32 := 0#32
  let v309 : BitVec 32 := Scalar.addi v220 c0_i32_168
  let c512_i32_169 : BitVec 32 := 512#32
  let v310 : BitVec 32 := Scalar.muli v309 c512_i32_169
  v310
def k0_off4 (i : grid0.Coords) (k0_t2 : Fin (k0_t2_loop i).trips) (c0_i32_168 : BitVec 32) : Fin 2 → Nat :=
  let c0_170 : Index := 0#32
  let c8_i32_120 : BitVec 32 := 8#32
  let c0_i32_22 : BitVec 32 := 0#32
  let arg1 : BitVec 32 := BitVec.ofNat 32 (i 1).val
  let c0_i32_16 : BitVec 32 := 0#32
  let v45 : BitVec 1 := Scalar.cmpi .sgt arg1 c0_i32_16
  let v46 : BitVec 32 := Scalar.extui v45
  let c0_i32_17 : BitVec 32 := 0#32
  let v47 : BitVec 1 := Scalar.cmpi .slt arg1 c0_i32_17
  let v48 : BitVec 32 := Scalar.extui v47
  let v49 : BitVec 32 := Scalar.subi v46 v48
  let c8_i32 : BitVec 32 := 8#32
  let c0_i32_18 : BitVec 32 := 0#32
  let v50 : BitVec 1 := Scalar.cmpi .sgt c8_i32 c0_i32_18
  let v51 : BitVec 32 := Scalar.extui v50
  let c0_i32_19 : BitVec 32 := 0#32
  let v52 : BitVec 1 := Scalar.cmpi .slt c8_i32 c0_i32_19
  let v53 : BitVec 32 := Scalar.extui v52
  let v54 : BitVec 32 := Scalar.subi v51 v53
  let v55 : BitVec 1 := Scalar.cmpi .ne v49 v54
  let v56 : BitVec 32 := Scalar.remsi arg1 c8_i32
  let c0_i32_20 : BitVec 32 := 0#32
  let v57 : BitVec 1 := Scalar.cmpi .ne v56 c0_i32_20
  let v58 : BitVec 1 := Scalar.andi v55 v57
  let v44 : BitVec 32 := Scalar.divsi arg1 c8_i32
  let c1_i32 : BitVec 32 := 1#32
  let v59 : BitVec 32 := Scalar.subi v44 c1_i32
  let v60 : BitVec 32 := Scalar.select v58 v59 v44
  let v61 : BitVec 32 := Scalar.subi v60 c0_i32_22
  let c1_i32_23 : BitVec 32 := 1#32
  let v63 : BitVec 32 := Scalar.divsi v61 c1_i32_23
  let v64 : BitVec 32 := Scalar.muli v63 c1_i32_23
  let v65 : BitVec 32 := Scalar.addi c0_i32_22 v64
  let c1_i32_25 : BitVec 32 := 1#32
  let arg11 : BitVec 32 := Scf.iv v65 c1_i32_25 k0_t2
  let v220 : BitVec 32 := Scalar.muli c8_i32_120 arg11
  let v309 : BitVec 32 := Scalar.addi v220 c0_i32_168
  let c512_i32_169 : BitVec 32 := 512#32
  let v310 : BitVec 32 := Scalar.muli v309 c512_i32_169
  let v311 : BitVec 32 := v310
  let v312 : Index := Scalar.indexCast v311
  ![0, v312.toNat]
def k0_mult26 (i : grid0.Coords) (k0_t2 : Fin (k0_t2_loop i).trips) : BitVec 32 :=
  let c8_i32_120 : BitVec 32 := 8#32
  let c0_i32_22 : BitVec 32 := 0#32
  let arg1 : BitVec 32 := BitVec.ofNat 32 (i 1).val
  let c0_i32_16 : BitVec 32 := 0#32
  let v45 : BitVec 1 := Scalar.cmpi .sgt arg1 c0_i32_16
  let v46 : BitVec 32 := Scalar.extui v45
  let c0_i32_17 : BitVec 32 := 0#32
  let v47 : BitVec 1 := Scalar.cmpi .slt arg1 c0_i32_17
  let v48 : BitVec 32 := Scalar.extui v47
  let v49 : BitVec 32 := Scalar.subi v46 v48
  let c8_i32 : BitVec 32 := 8#32
  let c0_i32_18 : BitVec 32 := 0#32
  let v50 : BitVec 1 := Scalar.cmpi .sgt c8_i32 c0_i32_18
  let v51 : BitVec 32 := Scalar.extui v50
  let c0_i32_19 : BitVec 32 := 0#32
  let v52 : BitVec 1 := Scalar.cmpi .slt c8_i32 c0_i32_19
  let v53 : BitVec 32 := Scalar.extui v52
  let v54 : BitVec 32 := Scalar.subi v51 v53
  let v55 : BitVec 1 := Scalar.cmpi .ne v49 v54
  let v56 : BitVec 32 := Scalar.remsi arg1 c8_i32
  let c0_i32_20 : BitVec 32 := 0#32
  let v57 : BitVec 1 := Scalar.cmpi .ne v56 c0_i32_20
  let v58 : BitVec 1 := Scalar.andi v55 v57
  let v44 : BitVec 32 := Scalar.divsi arg1 c8_i32
  let c1_i32 : BitVec 32 := 1#32
  let v59 : BitVec 32 := Scalar.subi v44 c1_i32
  let v60 : BitVec 32 := Scalar.select v58 v59 v44
  let v61 : BitVec 32 := Scalar.subi v60 c0_i32_22
  let c1_i32_23 : BitVec 32 := 1#32
  let v63 : BitVec 32 := Scalar.divsi v61 c1_i32_23
  let v64 : BitVec 32 := Scalar.muli v63 c1_i32_23
  let v65 : BitVec 32 := Scalar.addi c0_i32_22 v64
  let c1_i32_25 : BitVec 32 := 1#32
  let arg11 : BitVec 32 := Scf.iv v65 c1_i32_25 k0_t2
  let v220 : BitVec 32 := Scalar.muli c8_i32_120 arg11
  let c1_i32_213 : BitVec 32 := 1#32
  let v379 : BitVec 32 := Scalar.addi v220 c1_i32_213
  let c512_i32_214 : BitVec 32 := 512#32
  let v380 : BitVec 32 := Scalar.muli v379 c512_i32_214
  v380
def k0_mult27 (i : grid0.Coords) (k0_t2 : Fin (k0_t2_loop i).trips) : BitVec 32 :=
  let c8_i32_120 : BitVec 32 := 8#32
  let c0_i32_22 : BitVec 32 := 0#32
  let arg1 : BitVec 32 := BitVec.ofNat 32 (i 1).val
  let c0_i32_16 : BitVec 32 := 0#32
  let v45 : BitVec 1 := Scalar.cmpi .sgt arg1 c0_i32_16
  let v46 : BitVec 32 := Scalar.extui v45
  let c0_i32_17 : BitVec 32 := 0#32
  let v47 : BitVec 1 := Scalar.cmpi .slt arg1 c0_i32_17
  let v48 : BitVec 32 := Scalar.extui v47
  let v49 : BitVec 32 := Scalar.subi v46 v48
  let c8_i32 : BitVec 32 := 8#32
  let c0_i32_18 : BitVec 32 := 0#32
  let v50 : BitVec 1 := Scalar.cmpi .sgt c8_i32 c0_i32_18
  let v51 : BitVec 32 := Scalar.extui v50
  let c0_i32_19 : BitVec 32 := 0#32
  let v52 : BitVec 1 := Scalar.cmpi .slt c8_i32 c0_i32_19
  let v53 : BitVec 32 := Scalar.extui v52
  let v54 : BitVec 32 := Scalar.subi v51 v53
  let v55 : BitVec 1 := Scalar.cmpi .ne v49 v54
  let v56 : BitVec 32 := Scalar.remsi arg1 c8_i32
  let c0_i32_20 : BitVec 32 := 0#32
  let v57 : BitVec 1 := Scalar.cmpi .ne v56 c0_i32_20
  let v58 : BitVec 1 := Scalar.andi v55 v57
  let v44 : BitVec 32 := Scalar.divsi arg1 c8_i32
  let c1_i32 : BitVec 32 := 1#32
  let v59 : BitVec 32 := Scalar.subi v44 c1_i32
  let v60 : BitVec 32 := Scalar.select v58 v59 v44
  let v61 : BitVec 32 := Scalar.subi v60 c0_i32_22
  let c1_i32_23 : BitVec 32 := 1#32
  let v63 : BitVec 32 := Scalar.divsi v61 c1_i32_23
  let v64 : BitVec 32 := Scalar.muli v63 c1_i32_23
  let v65 : BitVec 32 := Scalar.addi c0_i32_22 v64
  let c1_i32_25 : BitVec 32 := 1#32
  let arg11 : BitVec 32 := Scf.iv v65 c1_i32_25 k0_t2
  let v220 : BitVec 32 := Scalar.muli c8_i32_120 arg11
  let c2_i32_258 : BitVec 32 := 2#32
  let v449 : BitVec 32 := Scalar.addi v220 c2_i32_258
  let c512_i32_259 : BitVec 32 := 512#32
  let v450 : BitVec 32 := Scalar.muli v449 c512_i32_259
  v450
def k0_mult28 (i : grid0.Coords) (k0_t2 : Fin (k0_t2_loop i).trips) : BitVec 32 :=
  let c8_i32_120 : BitVec 32 := 8#32
  let c0_i32_22 : BitVec 32 := 0#32
  let arg1 : BitVec 32 := BitVec.ofNat 32 (i 1).val
  let c0_i32_16 : BitVec 32 := 0#32
  let v45 : BitVec 1 := Scalar.cmpi .sgt arg1 c0_i32_16
  let v46 : BitVec 32 := Scalar.extui v45
  let c0_i32_17 : BitVec 32 := 0#32
  let v47 : BitVec 1 := Scalar.cmpi .slt arg1 c0_i32_17
  let v48 : BitVec 32 := Scalar.extui v47
  let v49 : BitVec 32 := Scalar.subi v46 v48
  let c8_i32 : BitVec 32 := 8#32
  let c0_i32_18 : BitVec 32 := 0#32
  let v50 : BitVec 1 := Scalar.cmpi .sgt c8_i32 c0_i32_18
  let v51 : BitVec 32 := Scalar.extui v50
  let c0_i32_19 : BitVec 32 := 0#32
  let v52 : BitVec 1 := Scalar.cmpi .slt c8_i32 c0_i32_19
  let v53 : BitVec 32 := Scalar.extui v52
  let v54 : BitVec 32 := Scalar.subi v51 v53
  let v55 : BitVec 1 := Scalar.cmpi .ne v49 v54
  let v56 : BitVec 32 := Scalar.remsi arg1 c8_i32
  let c0_i32_20 : BitVec 32 := 0#32
  let v57 : BitVec 1 := Scalar.cmpi .ne v56 c0_i32_20
  let v58 : BitVec 1 := Scalar.andi v55 v57
  let v44 : BitVec 32 := Scalar.divsi arg1 c8_i32
  let c1_i32 : BitVec 32 := 1#32
  let v59 : BitVec 32 := Scalar.subi v44 c1_i32
  let v60 : BitVec 32 := Scalar.select v58 v59 v44
  let v61 : BitVec 32 := Scalar.subi v60 c0_i32_22
  let c1_i32_23 : BitVec 32 := 1#32
  let v63 : BitVec 32 := Scalar.divsi v61 c1_i32_23
  let v64 : BitVec 32 := Scalar.muli v63 c1_i32_23
  let v65 : BitVec 32 := Scalar.addi c0_i32_22 v64
  let c1_i32_25 : BitVec 32 := 1#32
  let arg11 : BitVec 32 := Scf.iv v65 c1_i32_25 k0_t2
  let v220 : BitVec 32 := Scalar.muli c8_i32_120 arg11
  let c3_i32_303 : BitVec 32 := 3#32
  let v519 : BitVec 32 := Scalar.addi v220 c3_i32_303
  let c512_i32_304 : BitVec 32 := 512#32
  let v520 : BitVec 32 := Scalar.muli v519 c512_i32_304
  v520
def k0_mult29 (i : grid0.Coords) (k0_t2 : Fin (k0_t2_loop i).trips) : BitVec 32 :=
  let c8_i32_120 : BitVec 32 := 8#32
  let c0_i32_22 : BitVec 32 := 0#32
  let arg1 : BitVec 32 := BitVec.ofNat 32 (i 1).val
  let c0_i32_16 : BitVec 32 := 0#32
  let v45 : BitVec 1 := Scalar.cmpi .sgt arg1 c0_i32_16
  let v46 : BitVec 32 := Scalar.extui v45
  let c0_i32_17 : BitVec 32 := 0#32
  let v47 : BitVec 1 := Scalar.cmpi .slt arg1 c0_i32_17
  let v48 : BitVec 32 := Scalar.extui v47
  let v49 : BitVec 32 := Scalar.subi v46 v48
  let c8_i32 : BitVec 32 := 8#32
  let c0_i32_18 : BitVec 32 := 0#32
  let v50 : BitVec 1 := Scalar.cmpi .sgt c8_i32 c0_i32_18
  let v51 : BitVec 32 := Scalar.extui v50
  let c0_i32_19 : BitVec 32 := 0#32
  let v52 : BitVec 1 := Scalar.cmpi .slt c8_i32 c0_i32_19
  let v53 : BitVec 32 := Scalar.extui v52
  let v54 : BitVec 32 := Scalar.subi v51 v53
  let v55 : BitVec 1 := Scalar.cmpi .ne v49 v54
  let v56 : BitVec 32 := Scalar.remsi arg1 c8_i32
  let c0_i32_20 : BitVec 32 := 0#32
  let v57 : BitVec 1 := Scalar.cmpi .ne v56 c0_i32_20
  let v58 : BitVec 1 := Scalar.andi v55 v57
  let v44 : BitVec 32 := Scalar.divsi arg1 c8_i32
  let c1_i32 : BitVec 32 := 1#32
  let v59 : BitVec 32 := Scalar.subi v44 c1_i32
  let v60 : BitVec 32 := Scalar.select v58 v59 v44
  let v61 : BitVec 32 := Scalar.subi v60 c0_i32_22
  let c1_i32_23 : BitVec 32 := 1#32
  let v63 : BitVec 32 := Scalar.divsi v61 c1_i32_23
  let v64 : BitVec 32 := Scalar.muli v63 c1_i32_23
  let v65 : BitVec 32 := Scalar.addi c0_i32_22 v64
  let c1_i32_25 : BitVec 32 := 1#32
  let arg11 : BitVec 32 := Scf.iv v65 c1_i32_25 k0_t2
  let v220 : BitVec 32 := Scalar.muli c8_i32_120 arg11
  let c4_i32_348 : BitVec 32 := 4#32
  let v589 : BitVec 32 := Scalar.addi v220 c4_i32_348
  let c512_i32_349 : BitVec 32 := 512#32
  let v590 : BitVec 32 := Scalar.muli v589 c512_i32_349
  v590
def k0_mult30 (i : grid0.Coords) (k0_t2 : Fin (k0_t2_loop i).trips) : BitVec 32 :=
  let c8_i32_120 : BitVec 32 := 8#32
  let c0_i32_22 : BitVec 32 := 0#32
  let arg1 : BitVec 32 := BitVec.ofNat 32 (i 1).val
  let c0_i32_16 : BitVec 32 := 0#32
  let v45 : BitVec 1 := Scalar.cmpi .sgt arg1 c0_i32_16
  let v46 : BitVec 32 := Scalar.extui v45
  let c0_i32_17 : BitVec 32 := 0#32
  let v47 : BitVec 1 := Scalar.cmpi .slt arg1 c0_i32_17
  let v48 : BitVec 32 := Scalar.extui v47
  let v49 : BitVec 32 := Scalar.subi v46 v48
  let c8_i32 : BitVec 32 := 8#32
  let c0_i32_18 : BitVec 32 := 0#32
  let v50 : BitVec 1 := Scalar.cmpi .sgt c8_i32 c0_i32_18
  let v51 : BitVec 32 := Scalar.extui v50
  let c0_i32_19 : BitVec 32 := 0#32
  let v52 : BitVec 1 := Scalar.cmpi .slt c8_i32 c0_i32_19
  let v53 : BitVec 32 := Scalar.extui v52
  let v54 : BitVec 32 := Scalar.subi v51 v53
  let v55 : BitVec 1 := Scalar.cmpi .ne v49 v54
  let v56 : BitVec 32 := Scalar.remsi arg1 c8_i32
  let c0_i32_20 : BitVec 32 := 0#32
  let v57 : BitVec 1 := Scalar.cmpi .ne v56 c0_i32_20
  let v58 : BitVec 1 := Scalar.andi v55 v57
  let v44 : BitVec 32 := Scalar.divsi arg1 c8_i32
  let c1_i32 : BitVec 32 := 1#32
  let v59 : BitVec 32 := Scalar.subi v44 c1_i32
  let v60 : BitVec 32 := Scalar.select v58 v59 v44
  let v61 : BitVec 32 := Scalar.subi v60 c0_i32_22
  let c1_i32_23 : BitVec 32 := 1#32
  let v63 : BitVec 32 := Scalar.divsi v61 c1_i32_23
  let v64 : BitVec 32 := Scalar.muli v63 c1_i32_23
  let v65 : BitVec 32 := Scalar.addi c0_i32_22 v64
  let c1_i32_25 : BitVec 32 := 1#32
  let arg11 : BitVec 32 := Scf.iv v65 c1_i32_25 k0_t2
  let v220 : BitVec 32 := Scalar.muli c8_i32_120 arg11
  let c5_i32_393 : BitVec 32 := 5#32
  let v659 : BitVec 32 := Scalar.addi v220 c5_i32_393
  let c512_i32_394 : BitVec 32 := 512#32
  let v660 : BitVec 32 := Scalar.muli v659 c512_i32_394
  v660
def k0_mult31 (i : grid0.Coords) (k0_t2 : Fin (k0_t2_loop i).trips) : BitVec 32 :=
  let c8_i32_120 : BitVec 32 := 8#32
  let c0_i32_22 : BitVec 32 := 0#32
  let arg1 : BitVec 32 := BitVec.ofNat 32 (i 1).val
  let c0_i32_16 : BitVec 32 := 0#32
  let v45 : BitVec 1 := Scalar.cmpi .sgt arg1 c0_i32_16
  let v46 : BitVec 32 := Scalar.extui v45
  let c0_i32_17 : BitVec 32 := 0#32
  let v47 : BitVec 1 := Scalar.cmpi .slt arg1 c0_i32_17
  let v48 : BitVec 32 := Scalar.extui v47
  let v49 : BitVec 32 := Scalar.subi v46 v48
  let c8_i32 : BitVec 32 := 8#32
  let c0_i32_18 : BitVec 32 := 0#32
  let v50 : BitVec 1 := Scalar.cmpi .sgt c8_i32 c0_i32_18
  let v51 : BitVec 32 := Scalar.extui v50
  let c0_i32_19 : BitVec 32 := 0#32
  let v52 : BitVec 1 := Scalar.cmpi .slt c8_i32 c0_i32_19
  let v53 : BitVec 32 := Scalar.extui v52
  let v54 : BitVec 32 := Scalar.subi v51 v53
  let v55 : BitVec 1 := Scalar.cmpi .ne v49 v54
  let v56 : BitVec 32 := Scalar.remsi arg1 c8_i32
  let c0_i32_20 : BitVec 32 := 0#32
  let v57 : BitVec 1 := Scalar.cmpi .ne v56 c0_i32_20
  let v58 : BitVec 1 := Scalar.andi v55 v57
  let v44 : BitVec 32 := Scalar.divsi arg1 c8_i32
  let c1_i32 : BitVec 32 := 1#32
  let v59 : BitVec 32 := Scalar.subi v44 c1_i32
  let v60 : BitVec 32 := Scalar.select v58 v59 v44
  let v61 : BitVec 32 := Scalar.subi v60 c0_i32_22
  let c1_i32_23 : BitVec 32 := 1#32
  let v63 : BitVec 32 := Scalar.divsi v61 c1_i32_23
  let v64 : BitVec 32 := Scalar.muli v63 c1_i32_23
  let v65 : BitVec 32 := Scalar.addi c0_i32_22 v64
  let c1_i32_25 : BitVec 32 := 1#32
  let arg11 : BitVec 32 := Scf.iv v65 c1_i32_25 k0_t2
  let v220 : BitVec 32 := Scalar.muli c8_i32_120 arg11
  let c6_i32_438 : BitVec 32 := 6#32
  let v729 : BitVec 32 := Scalar.addi v220 c6_i32_438
  let c512_i32_439 : BitVec 32 := 512#32
  let v730 : BitVec 32 := Scalar.muli v729 c512_i32_439
  v730
def k0_mult32 (i : grid0.Coords) (k0_t2 : Fin (k0_t2_loop i).trips) : BitVec 32 :=
  let c8_i32_120 : BitVec 32 := 8#32
  let c0_i32_22 : BitVec 32 := 0#32
  let arg1 : BitVec 32 := BitVec.ofNat 32 (i 1).val
  let c0_i32_16 : BitVec 32 := 0#32
  let v45 : BitVec 1 := Scalar.cmpi .sgt arg1 c0_i32_16
  let v46 : BitVec 32 := Scalar.extui v45
  let c0_i32_17 : BitVec 32 := 0#32
  let v47 : BitVec 1 := Scalar.cmpi .slt arg1 c0_i32_17
  let v48 : BitVec 32 := Scalar.extui v47
  let v49 : BitVec 32 := Scalar.subi v46 v48
  let c8_i32 : BitVec 32 := 8#32
  let c0_i32_18 : BitVec 32 := 0#32
  let v50 : BitVec 1 := Scalar.cmpi .sgt c8_i32 c0_i32_18
  let v51 : BitVec 32 := Scalar.extui v50
  let c0_i32_19 : BitVec 32 := 0#32
  let v52 : BitVec 1 := Scalar.cmpi .slt c8_i32 c0_i32_19
  let v53 : BitVec 32 := Scalar.extui v52
  let v54 : BitVec 32 := Scalar.subi v51 v53
  let v55 : BitVec 1 := Scalar.cmpi .ne v49 v54
  let v56 : BitVec 32 := Scalar.remsi arg1 c8_i32
  let c0_i32_20 : BitVec 32 := 0#32
  let v57 : BitVec 1 := Scalar.cmpi .ne v56 c0_i32_20
  let v58 : BitVec 1 := Scalar.andi v55 v57
  let v44 : BitVec 32 := Scalar.divsi arg1 c8_i32
  let c1_i32 : BitVec 32 := 1#32
  let v59 : BitVec 32 := Scalar.subi v44 c1_i32
  let v60 : BitVec 32 := Scalar.select v58 v59 v44
  let v61 : BitVec 32 := Scalar.subi v60 c0_i32_22
  let c1_i32_23 : BitVec 32 := 1#32
  let v63 : BitVec 32 := Scalar.divsi v61 c1_i32_23
  let v64 : BitVec 32 := Scalar.muli v63 c1_i32_23
  let v65 : BitVec 32 := Scalar.addi c0_i32_22 v64
  let c1_i32_25 : BitVec 32 := 1#32
  let arg11 : BitVec 32 := Scf.iv v65 c1_i32_25 k0_t2
  let v220 : BitVec 32 := Scalar.muli c8_i32_120 arg11
  let c7_i32_483 : BitVec 32 := 7#32
  let v799 : BitVec 32 := Scalar.addi v220 c7_i32_483
  let c512_i32_484 : BitVec 32 := 512#32
  let v800 : BitVec 32 := Scalar.muli v799 c512_i32_484
  v800
def k0_cond1 (i : grid0.Coords) : BitVec 1 :=
  let arg1 : BitVec 32 := BitVec.ofNat 32 (i 1).val
  let c8_i32_26 : BitVec 32 := 8#32
  let c0_i32_27 : BitVec 32 := 0#32
  let v66 : BitVec 1 := Scalar.cmpi .eq c8_i32_26 c0_i32_27
  let c1_i32_28 : BitVec 32 := 1#32
  let v67 : BitVec 32 := Scalar.select v66 c1_i32_28 c8_i32_26
  let v68 : BitVec 32 := Scalar.remsi arg1 v67
  let c0_i32_30 : BitVec 32 := 0#32
  let v70 : BitVec 1 := Scalar.cmpi .slt v68 c0_i32_30
  let c0_i32_31 : BitVec 32 := 0#32
  let v71 : BitVec 1 := Scalar.cmpi .slt v67 c0_i32_31
  let v72 : BitVec 1 := Scalar.xori v70 v71
  let c0_i32_29 : BitVec 32 := 0#32
  let v69 : BitVec 1 := Scalar.cmpi .ne v68 c0_i32_29
  let v73 : BitVec 1 := Scalar.andi v72 v69
  let v74 : BitVec 32 := Scalar.addi v68 v67
  let v75 : BitVec 32 := Scalar.select v73 v74 v68
  let c0_i32_32 : BitVec 32 := 0#32
  let v76 : BitVec 1 := Scalar.cmpi .eq v75 c0_i32_32
  let v77 : BitVec 32 := Scalar.extui v76
  let c0_i32_33 : BitVec 32 := 0#32
  let v78 : BitVec 1 := Scalar.cmpi .ne v77 c0_i32_33
  v78

def k0_mult33 (i : grid0.Coords) : BitVec 32 :=
  let arg1 : BitVec 32 := BitVec.ofNat 32 (i 1).val
  let c0_i32_120 : BitVec 32 := 0#32
  let v220 : BitVec 32 := Scalar.subi arg1 c0_i32_120
  let c0_i32_121 : BitVec 32 := 0#32
  let v221 : BitVec 32 := Scalar.addi v220 c0_i32_121
  let c512_i32 : BitVec 32 := 512#32
  let v222 : BitVec 32 := Scalar.muli v221 c512_i32
  v222
def k0_off5 (i : grid0.Coords) : Fin 2 → Nat :=
  let arg1 : BitVec 32 := BitVec.ofNat 32 (i 1).val
  let c0_i32_120 : BitVec 32 := 0#32
  let v220 : BitVec 32 := Scalar.subi arg1 c0_i32_120
  let c0_i32_121 : BitVec 32 := 0#32
  let v221 : BitVec 32 := Scalar.addi v220 c0_i32_121
  let c512_i32 : BitVec 32 := 512#32
  let v222 : BitVec 32 := Scalar.muli v221 c512_i32
  let v223 : BitVec 32 := v222
  let v224 : Index := Scalar.indexCast v223
  let c0_122 : Index := 0#32
  ![v224.toNat, 0]
def k0_mult34 (i : grid0.Coords) : BitVec 32 :=
  let arg1 : BitVec 32 := BitVec.ofNat 32 (i 1).val
  let c0_i32_120 : BitVec 32 := 0#32
  let v220 : BitVec 32 := Scalar.subi arg1 c0_i32_120
  let c0_i32_126 : BitVec 32 := 0#32
  let v232 : BitVec 32 := Scalar.addi v220 c0_i32_126
  let c512_i32_127 : BitVec 32 := 512#32
  let v233 : BitVec 32 := Scalar.muli v232 c512_i32_127
  v233
def k0_off6 (i : grid0.Coords) : Fin 2 → Nat :=
  let c0_128 : Index := 0#32
  let arg1 : BitVec 32 := BitVec.ofNat 32 (i 1).val
  let c0_i32_120 : BitVec 32 := 0#32
  let v220 : BitVec 32 := Scalar.subi arg1 c0_i32_120
  let c0_i32_126 : BitVec 32 := 0#32
  let v232 : BitVec 32 := Scalar.addi v220 c0_i32_126
  let c512_i32_127 : BitVec 32 := 512#32
  let v233 : BitVec 32 := Scalar.muli v232 c512_i32_127
  let v234 : BitVec 32 := v233
  let v235 : Index := Scalar.indexCast v234
  ![0, v235.toNat]
def k0_cond2 (i : grid0.Coords) : BitVec 1 :=
  let arg1 : BitVec 32 := BitVec.ofNat 32 (i 1).val
  let c8_i32_34 : BitVec 32 := 8#32
  let c0_i32_35 : BitVec 32 := 0#32
  let v79 : BitVec 1 := Scalar.cmpi .eq c8_i32_34 c0_i32_35
  let c1_i32_36 : BitVec 32 := 1#32
  let v80 : BitVec 32 := Scalar.select v79 c1_i32_36 c8_i32_34
  let v81 : BitVec 32 := Scalar.remsi arg1 v80
  let c0_i32_38 : BitVec 32 := 0#32
  let v83 : BitVec 1 := Scalar.cmpi .slt v81 c0_i32_38
  let c0_i32_39 : BitVec 32 := 0#32
  let v84 : BitVec 1 := Scalar.cmpi .slt v80 c0_i32_39
  let v85 : BitVec 1 := Scalar.xori v83 v84
  let c0_i32_37 : BitVec 32 := 0#32
  let v82 : BitVec 1 := Scalar.cmpi .ne v81 c0_i32_37
  let v86 : BitVec 1 := Scalar.andi v85 v82
  let v87 : BitVec 32 := Scalar.addi v81 v80
  let v88 : BitVec 32 := Scalar.select v86 v87 v81
  let c1_i32_40 : BitVec 32 := 1#32
  let v89 : BitVec 1 := Scalar.cmpi .eq v88 c1_i32_40
  let v90 : BitVec 32 := Scalar.extui v89
  let c0_i32_41 : BitVec 32 := 0#32
  let v91 : BitVec 1 := Scalar.cmpi .ne v90 c0_i32_41
  v91

def k0_mult35 (i : grid0.Coords) : BitVec 32 :=
  let arg1 : BitVec 32 := BitVec.ofNat 32 (i 1).val
  let c1_i32_120 : BitVec 32 := 1#32
  let v220 : BitVec 32 := Scalar.subi arg1 c1_i32_120
  let c0_i32_121 : BitVec 32 := 0#32
  let v221 : BitVec 32 := Scalar.addi v220 c0_i32_121
  let c512_i32 : BitVec 32 := 512#32
  let v222 : BitVec 32 := Scalar.muli v221 c512_i32
  v222
def k0_off7 (i : grid0.Coords) (c0_i32_121 : BitVec 32) : Fin 2 → Nat :=
  let arg1 : BitVec 32 := BitVec.ofNat 32 (i 1).val
  let c1_i32_120 : BitVec 32 := 1#32
  let v220 : BitVec 32 := Scalar.subi arg1 c1_i32_120
  let v221 : BitVec 32 := Scalar.addi v220 c0_i32_121
  let c512_i32 : BitVec 32 := 512#32
  let v222 : BitVec 32 := Scalar.muli v221 c512_i32
  let v223 : BitVec 32 := v222
  let v224 : Index := Scalar.indexCast v223
  let c0_122 : Index := 0#32
  ![v224.toNat, 0]
def k0_mult36 (i : grid0.Coords) : BitVec 32 :=
  let arg1 : BitVec 32 := BitVec.ofNat 32 (i 1).val
  let c1_i32_120 : BitVec 32 := 1#32
  let v220 : BitVec 32 := Scalar.subi arg1 c1_i32_120
  let c1_i32_126 : BitVec 32 := 1#32
  let v232 : BitVec 32 := Scalar.addi v220 c1_i32_126
  let c512_i32_127 : BitVec 32 := 512#32
  let v233 : BitVec 32 := Scalar.muli v232 c512_i32_127
  v233
def k0_mult37 (i : grid0.Coords) : BitVec 32 :=
  let arg1 : BitVec 32 := BitVec.ofNat 32 (i 1).val
  let c1_i32_120 : BitVec 32 := 1#32
  let v220 : BitVec 32 := Scalar.subi arg1 c1_i32_120
  let c0_i32_132 : BitVec 32 := 0#32
  let v243 : BitVec 32 := Scalar.addi v220 c0_i32_132
  let c512_i32_133 : BitVec 32 := 512#32
  let v244 : BitVec 32 := Scalar.muli v243 c512_i32_133
  v244
def k0_off8 (i : grid0.Coords) (c0_i32_132 : BitVec 32) : Fin 2 → Nat :=
  let c0_134 : Index := 0#32
  let arg1 : BitVec 32 := BitVec.ofNat 32 (i 1).val
  let c1_i32_120 : BitVec 32 := 1#32
  let v220 : BitVec 32 := Scalar.subi arg1 c1_i32_120
  let v243 : BitVec 32 := Scalar.addi v220 c0_i32_132
  let c512_i32_133 : BitVec 32 := 512#32
  let v244 : BitVec 32 := Scalar.muli v243 c512_i32_133
  let v245 : BitVec 32 := v244
  let v246 : Index := Scalar.indexCast v245
  ![0, v246.toNat]
def k0_mult38 (i : grid0.Coords) : BitVec 32 :=
  let arg1 : BitVec 32 := BitVec.ofNat 32 (i 1).val
  let c1_i32_120 : BitVec 32 := 1#32
  let v220 : BitVec 32 := Scalar.subi arg1 c1_i32_120
  let c1_i32_177 : BitVec 32 := 1#32
  let v313 : BitVec 32 := Scalar.addi v220 c1_i32_177
  let c512_i32_178 : BitVec 32 := 512#32
  let v314 : BitVec 32 := Scalar.muli v313 c512_i32_178
  v314
def k0_cond3 (i : grid0.Coords) : BitVec 1 :=
  let arg1 : BitVec 32 := BitVec.ofNat 32 (i 1).val
  let c8_i32_42 : BitVec 32 := 8#32
  let c0_i32_43 : BitVec 32 := 0#32
  let v92 : BitVec 1 := Scalar.cmpi .eq c8_i32_42 c0_i32_43
  let c1_i32_44 : BitVec 32 := 1#32
  let v93 : BitVec 32 := Scalar.select v92 c1_i32_44 c8_i32_42
  let v94 : BitVec 32 := Scalar.remsi arg1 v93
  let c0_i32_46 : BitVec 32 := 0#32
  let v96 : BitVec 1 := Scalar.cmpi .slt v94 c0_i32_46
  let c0_i32_47 : BitVec 32 := 0#32
  let v97 : BitVec 1 := Scalar.cmpi .slt v93 c0_i32_47
  let v98 : BitVec 1 := Scalar.xori v96 v97
  let c0_i32_45 : BitVec 32 := 0#32
  let v95 : BitVec 1 := Scalar.cmpi .ne v94 c0_i32_45
  let v99 : BitVec 1 := Scalar.andi v98 v95
  let v100 : BitVec 32 := Scalar.addi v94 v93
  let v101 : BitVec 32 := Scalar.select v99 v100 v94
  let c2_i32 : BitVec 32 := 2#32
  let v102 : BitVec 1 := Scalar.cmpi .eq v101 c2_i32
  let v103 : BitVec 32 := Scalar.extui v102
  let c0_i32_48 : BitVec 32 := 0#32
  let v104 : BitVec 1 := Scalar.cmpi .ne v103 c0_i32_48
  v104

def k0_mult39 (i : grid0.Coords) : BitVec 32 :=
  let arg1 : BitVec 32 := BitVec.ofNat 32 (i 1).val
  let c2_i32_120 : BitVec 32 := 2#32
  let v220 : BitVec 32 := Scalar.subi arg1 c2_i32_120
  let c0_i32_121 : BitVec 32 := 0#32
  let v221 : BitVec 32 := Scalar.addi v220 c0_i32_121
  let c512_i32 : BitVec 32 := 512#32
  let v222 : BitVec 32 := Scalar.muli v221 c512_i32
  v222
def k0_off9 (i : grid0.Coords) (c0_i32_121 : BitVec 32) : Fin 2 → Nat :=
  let arg1 : BitVec 32 := BitVec.ofNat 32 (i 1).val
  let c2_i32_120 : BitVec 32 := 2#32
  let v220 : BitVec 32 := Scalar.subi arg1 c2_i32_120
  let v221 : BitVec 32 := Scalar.addi v220 c0_i32_121
  let c512_i32 : BitVec 32 := 512#32
  let v222 : BitVec 32 := Scalar.muli v221 c512_i32
  let v223 : BitVec 32 := v222
  let v224 : Index := Scalar.indexCast v223
  let c0_122 : Index := 0#32
  ![v224.toNat, 0]
def k0_mult40 (i : grid0.Coords) : BitVec 32 :=
  let arg1 : BitVec 32 := BitVec.ofNat 32 (i 1).val
  let c2_i32_120 : BitVec 32 := 2#32
  let v220 : BitVec 32 := Scalar.subi arg1 c2_i32_120
  let c1_i32_126 : BitVec 32 := 1#32
  let v232 : BitVec 32 := Scalar.addi v220 c1_i32_126
  let c512_i32_127 : BitVec 32 := 512#32
  let v233 : BitVec 32 := Scalar.muli v232 c512_i32_127
  v233
def k0_mult41 (i : grid0.Coords) : BitVec 32 :=
  let arg1 : BitVec 32 := BitVec.ofNat 32 (i 1).val
  let c2_i32_120 : BitVec 32 := 2#32
  let v220 : BitVec 32 := Scalar.subi arg1 c2_i32_120
  let c2_i32_132 : BitVec 32 := 2#32
  let v243 : BitVec 32 := Scalar.addi v220 c2_i32_132
  let c512_i32_133 : BitVec 32 := 512#32
  let v244 : BitVec 32 := Scalar.muli v243 c512_i32_133
  v244
def k0_mult42 (i : grid0.Coords) : BitVec 32 :=
  let arg1 : BitVec 32 := BitVec.ofNat 32 (i 1).val
  let c2_i32_120 : BitVec 32 := 2#32
  let v220 : BitVec 32 := Scalar.subi arg1 c2_i32_120
  let c0_i32_138 : BitVec 32 := 0#32
  let v254 : BitVec 32 := Scalar.addi v220 c0_i32_138
  let c512_i32_139 : BitVec 32 := 512#32
  let v255 : BitVec 32 := Scalar.muli v254 c512_i32_139
  v255
def k0_off10 (i : grid0.Coords) (c0_i32_138 : BitVec 32) : Fin 2 → Nat :=
  let c0_140 : Index := 0#32
  let arg1 : BitVec 32 := BitVec.ofNat 32 (i 1).val
  let c2_i32_120 : BitVec 32 := 2#32
  let v220 : BitVec 32 := Scalar.subi arg1 c2_i32_120
  let v254 : BitVec 32 := Scalar.addi v220 c0_i32_138
  let c512_i32_139 : BitVec 32 := 512#32
  let v255 : BitVec 32 := Scalar.muli v254 c512_i32_139
  let v256 : BitVec 32 := v255
  let v257 : Index := Scalar.indexCast v256
  ![0, v257.toNat]
def k0_mult43 (i : grid0.Coords) : BitVec 32 :=
  let arg1 : BitVec 32 := BitVec.ofNat 32 (i 1).val
  let c2_i32_120 : BitVec 32 := 2#32
  let v220 : BitVec 32 := Scalar.subi arg1 c2_i32_120
  let c1_i32_183 : BitVec 32 := 1#32
  let v324 : BitVec 32 := Scalar.addi v220 c1_i32_183
  let c512_i32_184 : BitVec 32 := 512#32
  let v325 : BitVec 32 := Scalar.muli v324 c512_i32_184
  v325
def k0_mult44 (i : grid0.Coords) : BitVec 32 :=
  let arg1 : BitVec 32 := BitVec.ofNat 32 (i 1).val
  let c2_i32_120 : BitVec 32 := 2#32
  let v220 : BitVec 32 := Scalar.subi arg1 c2_i32_120
  let c2_i32_228 : BitVec 32 := 2#32
  let v394 : BitVec 32 := Scalar.addi v220 c2_i32_228
  let c512_i32_229 : BitVec 32 := 512#32
  let v395 : BitVec 32 := Scalar.muli v394 c512_i32_229
  v395
def k0_cond4 (i : grid0.Coords) : BitVec 1 :=
  let arg1 : BitVec 32 := BitVec.ofNat 32 (i 1).val
  let c8_i32_49 : BitVec 32 := 8#32
  let c0_i32_50 : BitVec 32 := 0#32
  let v105 : BitVec 1 := Scalar.cmpi .eq c8_i32_49 c0_i32_50
  let c1_i32_51 : BitVec 32 := 1#32
  let v106 : BitVec 32 := Scalar.select v105 c1_i32_51 c8_i32_49
  let v107 : BitVec 32 := Scalar.remsi arg1 v106
  let c0_i32_53 : BitVec 32 := 0#32
  let v109 : BitVec 1 := Scalar.cmpi .slt v107 c0_i32_53
  let c0_i32_54 : BitVec 32 := 0#32
  let v110 : BitVec 1 := Scalar.cmpi .slt v106 c0_i32_54
  let v111 : BitVec 1 := Scalar.xori v109 v110
  let c0_i32_52 : BitVec 32 := 0#32
  let v108 : BitVec 1 := Scalar.cmpi .ne v107 c0_i32_52
  let v112 : BitVec 1 := Scalar.andi v111 v108
  let v113 : BitVec 32 := Scalar.addi v107 v106
  let v114 : BitVec 32 := Scalar.select v112 v113 v107
  let c3_i32_55 : BitVec 32 := 3#32
  let v115 : BitVec 1 := Scalar.cmpi .eq v114 c3_i32_55
  let v116 : BitVec 32 := Scalar.extui v115
  let c0_i32_56 : BitVec 32 := 0#32
  let v117 : BitVec 1 := Scalar.cmpi .ne v116 c0_i32_56
  v117

def k0_mult45 (i : grid0.Coords) : BitVec 32 :=
  let arg1 : BitVec 32 := BitVec.ofNat 32 (i 1).val
  let c3_i32_120 : BitVec 32 := 3#32
  let v220 : BitVec 32 := Scalar.subi arg1 c3_i32_120
  let c0_i32_121 : BitVec 32 := 0#32
  let v221 : BitVec 32 := Scalar.addi v220 c0_i32_121
  let c512_i32 : BitVec 32 := 512#32
  let v222 : BitVec 32 := Scalar.muli v221 c512_i32
  v222
def k0_off11 (i : grid0.Coords) (c0_i32_121 : BitVec 32) : Fin 2 → Nat :=
  let arg1 : BitVec 32 := BitVec.ofNat 32 (i 1).val
  let c3_i32_120 : BitVec 32 := 3#32
  let v220 : BitVec 32 := Scalar.subi arg1 c3_i32_120
  let v221 : BitVec 32 := Scalar.addi v220 c0_i32_121
  let c512_i32 : BitVec 32 := 512#32
  let v222 : BitVec 32 := Scalar.muli v221 c512_i32
  let v223 : BitVec 32 := v222
  let v224 : Index := Scalar.indexCast v223
  let c0_122 : Index := 0#32
  ![v224.toNat, 0]
def k0_mult46 (i : grid0.Coords) : BitVec 32 :=
  let arg1 : BitVec 32 := BitVec.ofNat 32 (i 1).val
  let c3_i32_120 : BitVec 32 := 3#32
  let v220 : BitVec 32 := Scalar.subi arg1 c3_i32_120
  let c1_i32_126 : BitVec 32 := 1#32
  let v232 : BitVec 32 := Scalar.addi v220 c1_i32_126
  let c512_i32_127 : BitVec 32 := 512#32
  let v233 : BitVec 32 := Scalar.muli v232 c512_i32_127
  v233
def k0_mult47 (i : grid0.Coords) : BitVec 32 :=
  let arg1 : BitVec 32 := BitVec.ofNat 32 (i 1).val
  let c3_i32_120 : BitVec 32 := 3#32
  let v220 : BitVec 32 := Scalar.subi arg1 c3_i32_120
  let c2_i32_132 : BitVec 32 := 2#32
  let v243 : BitVec 32 := Scalar.addi v220 c2_i32_132
  let c512_i32_133 : BitVec 32 := 512#32
  let v244 : BitVec 32 := Scalar.muli v243 c512_i32_133
  v244
def k0_mult48 (i : grid0.Coords) : BitVec 32 :=
  let arg1 : BitVec 32 := BitVec.ofNat 32 (i 1).val
  let c3_i32_120 : BitVec 32 := 3#32
  let v220 : BitVec 32 := Scalar.subi arg1 c3_i32_120
  let c3_i32_138 : BitVec 32 := 3#32
  let v254 : BitVec 32 := Scalar.addi v220 c3_i32_138
  let c512_i32_139 : BitVec 32 := 512#32
  let v255 : BitVec 32 := Scalar.muli v254 c512_i32_139
  v255
def k0_mult49 (i : grid0.Coords) : BitVec 32 :=
  let arg1 : BitVec 32 := BitVec.ofNat 32 (i 1).val
  let c3_i32_120 : BitVec 32 := 3#32
  let v220 : BitVec 32 := Scalar.subi arg1 c3_i32_120
  let c0_i32_144 : BitVec 32 := 0#32
  let v265 : BitVec 32 := Scalar.addi v220 c0_i32_144
  let c512_i32_145 : BitVec 32 := 512#32
  let v266 : BitVec 32 := Scalar.muli v265 c512_i32_145
  v266
def k0_off12 (i : grid0.Coords) (c0_i32_144 : BitVec 32) : Fin 2 → Nat :=
  let c0_146 : Index := 0#32
  let arg1 : BitVec 32 := BitVec.ofNat 32 (i 1).val
  let c3_i32_120 : BitVec 32 := 3#32
  let v220 : BitVec 32 := Scalar.subi arg1 c3_i32_120
  let v265 : BitVec 32 := Scalar.addi v220 c0_i32_144
  let c512_i32_145 : BitVec 32 := 512#32
  let v266 : BitVec 32 := Scalar.muli v265 c512_i32_145
  let v267 : BitVec 32 := v266
  let v268 : Index := Scalar.indexCast v267
  ![0, v268.toNat]
def k0_mult50 (i : grid0.Coords) : BitVec 32 :=
  let arg1 : BitVec 32 := BitVec.ofNat 32 (i 1).val
  let c3_i32_120 : BitVec 32 := 3#32
  let v220 : BitVec 32 := Scalar.subi arg1 c3_i32_120
  let c1_i32_189 : BitVec 32 := 1#32
  let v335 : BitVec 32 := Scalar.addi v220 c1_i32_189
  let c512_i32_190 : BitVec 32 := 512#32
  let v336 : BitVec 32 := Scalar.muli v335 c512_i32_190
  v336
def k0_mult51 (i : grid0.Coords) : BitVec 32 :=
  let arg1 : BitVec 32 := BitVec.ofNat 32 (i 1).val
  let c3_i32_120 : BitVec 32 := 3#32
  let v220 : BitVec 32 := Scalar.subi arg1 c3_i32_120
  let c2_i32_234 : BitVec 32 := 2#32
  let v405 : BitVec 32 := Scalar.addi v220 c2_i32_234
  let c512_i32_235 : BitVec 32 := 512#32
  let v406 : BitVec 32 := Scalar.muli v405 c512_i32_235
  v406
def k0_mult52 (i : grid0.Coords) : BitVec 32 :=
  let arg1 : BitVec 32 := BitVec.ofNat 32 (i 1).val
  let c3_i32_120 : BitVec 32 := 3#32
  let v220 : BitVec 32 := Scalar.subi arg1 c3_i32_120
  let c3_i32_279 : BitVec 32 := 3#32
  let v475 : BitVec 32 := Scalar.addi v220 c3_i32_279
  let c512_i32_280 : BitVec 32 := 512#32
  let v476 : BitVec 32 := Scalar.muli v475 c512_i32_280
  v476
def k0_cond5 (i : grid0.Coords) : BitVec 1 :=
  let arg1 : BitVec 32 := BitVec.ofNat 32 (i 1).val
  let c8_i32_57 : BitVec 32 := 8#32
  let c0_i32_58 : BitVec 32 := 0#32
  let v118 : BitVec 1 := Scalar.cmpi .eq c8_i32_57 c0_i32_58
  let c1_i32_59 : BitVec 32 := 1#32
  let v119 : BitVec 32 := Scalar.select v118 c1_i32_59 c8_i32_57
  let v120 : BitVec 32 := Scalar.remsi arg1 v119
  let c0_i32_61 : BitVec 32 := 0#32
  let v122 : BitVec 1 := Scalar.cmpi .slt v120 c0_i32_61
  let c0_i32_62 : BitVec 32 := 0#32
  let v123 : BitVec 1 := Scalar.cmpi .slt v119 c0_i32_62
  let v124 : BitVec 1 := Scalar.xori v122 v123
  let c0_i32_60 : BitVec 32 := 0#32
  let v121 : BitVec 1 := Scalar.cmpi .ne v120 c0_i32_60
  let v125 : BitVec 1 := Scalar.andi v124 v121
  let v126 : BitVec 32 := Scalar.addi v120 v119
  let v127 : BitVec 32 := Scalar.select v125 v126 v120
  let c4_i32 : BitVec 32 := 4#32
  let v128 : BitVec 1 := Scalar.cmpi .eq v127 c4_i32
  let v129 : BitVec 32 := Scalar.extui v128
  let c0_i32_63 : BitVec 32 := 0#32
  let v130 : BitVec 1 := Scalar.cmpi .ne v129 c0_i32_63
  v130

def k0_mult53 (i : grid0.Coords) : BitVec 32 :=
  let arg1 : BitVec 32 := BitVec.ofNat 32 (i 1).val
  let c4_i32_120 : BitVec 32 := 4#32
  let v220 : BitVec 32 := Scalar.subi arg1 c4_i32_120
  let c0_i32_121 : BitVec 32 := 0#32
  let v221 : BitVec 32 := Scalar.addi v220 c0_i32_121
  let c512_i32 : BitVec 32 := 512#32
  let v222 : BitVec 32 := Scalar.muli v221 c512_i32
  v222
def k0_off13 (i : grid0.Coords) (c0_i32_121 : BitVec 32) : Fin 2 → Nat :=
  let arg1 : BitVec 32 := BitVec.ofNat 32 (i 1).val
  let c4_i32_120 : BitVec 32 := 4#32
  let v220 : BitVec 32 := Scalar.subi arg1 c4_i32_120
  let v221 : BitVec 32 := Scalar.addi v220 c0_i32_121
  let c512_i32 : BitVec 32 := 512#32
  let v222 : BitVec 32 := Scalar.muli v221 c512_i32
  let v223 : BitVec 32 := v222
  let v224 : Index := Scalar.indexCast v223
  let c0_122 : Index := 0#32
  ![v224.toNat, 0]
def k0_mult54 (i : grid0.Coords) : BitVec 32 :=
  let arg1 : BitVec 32 := BitVec.ofNat 32 (i 1).val
  let c4_i32_120 : BitVec 32 := 4#32
  let v220 : BitVec 32 := Scalar.subi arg1 c4_i32_120
  let c1_i32_126 : BitVec 32 := 1#32
  let v232 : BitVec 32 := Scalar.addi v220 c1_i32_126
  let c512_i32_127 : BitVec 32 := 512#32
  let v233 : BitVec 32 := Scalar.muli v232 c512_i32_127
  v233
def k0_mult55 (i : grid0.Coords) : BitVec 32 :=
  let arg1 : BitVec 32 := BitVec.ofNat 32 (i 1).val
  let c4_i32_120 : BitVec 32 := 4#32
  let v220 : BitVec 32 := Scalar.subi arg1 c4_i32_120
  let c2_i32_132 : BitVec 32 := 2#32
  let v243 : BitVec 32 := Scalar.addi v220 c2_i32_132
  let c512_i32_133 : BitVec 32 := 512#32
  let v244 : BitVec 32 := Scalar.muli v243 c512_i32_133
  v244
def k0_mult56 (i : grid0.Coords) : BitVec 32 :=
  let arg1 : BitVec 32 := BitVec.ofNat 32 (i 1).val
  let c4_i32_120 : BitVec 32 := 4#32
  let v220 : BitVec 32 := Scalar.subi arg1 c4_i32_120
  let c3_i32_138 : BitVec 32 := 3#32
  let v254 : BitVec 32 := Scalar.addi v220 c3_i32_138
  let c512_i32_139 : BitVec 32 := 512#32
  let v255 : BitVec 32 := Scalar.muli v254 c512_i32_139
  v255
def k0_mult57 (i : grid0.Coords) : BitVec 32 :=
  let arg1 : BitVec 32 := BitVec.ofNat 32 (i 1).val
  let c4_i32_120 : BitVec 32 := 4#32
  let v220 : BitVec 32 := Scalar.subi arg1 c4_i32_120
  let c4_i32_144 : BitVec 32 := 4#32
  let v265 : BitVec 32 := Scalar.addi v220 c4_i32_144
  let c512_i32_145 : BitVec 32 := 512#32
  let v266 : BitVec 32 := Scalar.muli v265 c512_i32_145
  v266
def k0_mult58 (i : grid0.Coords) : BitVec 32 :=
  let arg1 : BitVec 32 := BitVec.ofNat 32 (i 1).val
  let c4_i32_120 : BitVec 32 := 4#32
  let v220 : BitVec 32 := Scalar.subi arg1 c4_i32_120
  let c0_i32_150 : BitVec 32 := 0#32
  let v276 : BitVec 32 := Scalar.addi v220 c0_i32_150
  let c512_i32_151 : BitVec 32 := 512#32
  let v277 : BitVec 32 := Scalar.muli v276 c512_i32_151
  v277
def k0_off14 (i : grid0.Coords) (c0_i32_150 : BitVec 32) : Fin 2 → Nat :=
  let c0_152 : Index := 0#32
  let arg1 : BitVec 32 := BitVec.ofNat 32 (i 1).val
  let c4_i32_120 : BitVec 32 := 4#32
  let v220 : BitVec 32 := Scalar.subi arg1 c4_i32_120
  let v276 : BitVec 32 := Scalar.addi v220 c0_i32_150
  let c512_i32_151 : BitVec 32 := 512#32
  let v277 : BitVec 32 := Scalar.muli v276 c512_i32_151
  let v278 : BitVec 32 := v277
  let v279 : Index := Scalar.indexCast v278
  ![0, v279.toNat]
def k0_mult59 (i : grid0.Coords) : BitVec 32 :=
  let arg1 : BitVec 32 := BitVec.ofNat 32 (i 1).val
  let c4_i32_120 : BitVec 32 := 4#32
  let v220 : BitVec 32 := Scalar.subi arg1 c4_i32_120
  let c1_i32_195 : BitVec 32 := 1#32
  let v346 : BitVec 32 := Scalar.addi v220 c1_i32_195
  let c512_i32_196 : BitVec 32 := 512#32
  let v347 : BitVec 32 := Scalar.muli v346 c512_i32_196
  v347
def k0_mult60 (i : grid0.Coords) : BitVec 32 :=
  let arg1 : BitVec 32 := BitVec.ofNat 32 (i 1).val
  let c4_i32_120 : BitVec 32 := 4#32
  let v220 : BitVec 32 := Scalar.subi arg1 c4_i32_120
  let c2_i32_240 : BitVec 32 := 2#32
  let v416 : BitVec 32 := Scalar.addi v220 c2_i32_240
  let c512_i32_241 : BitVec 32 := 512#32
  let v417 : BitVec 32 := Scalar.muli v416 c512_i32_241
  v417
def k0_mult61 (i : grid0.Coords) : BitVec 32 :=
  let arg1 : BitVec 32 := BitVec.ofNat 32 (i 1).val
  let c4_i32_120 : BitVec 32 := 4#32
  let v220 : BitVec 32 := Scalar.subi arg1 c4_i32_120
  let c3_i32_285 : BitVec 32 := 3#32
  let v486 : BitVec 32 := Scalar.addi v220 c3_i32_285
  let c512_i32_286 : BitVec 32 := 512#32
  let v487 : BitVec 32 := Scalar.muli v486 c512_i32_286
  v487
def k0_mult62 (i : grid0.Coords) : BitVec 32 :=
  let arg1 : BitVec 32 := BitVec.ofNat 32 (i 1).val
  let c4_i32_120 : BitVec 32 := 4#32
  let v220 : BitVec 32 := Scalar.subi arg1 c4_i32_120
  let c4_i32_330 : BitVec 32 := 4#32
  let v556 : BitVec 32 := Scalar.addi v220 c4_i32_330
  let c512_i32_331 : BitVec 32 := 512#32
  let v557 : BitVec 32 := Scalar.muli v556 c512_i32_331
  v557
def k0_cond6 (i : grid0.Coords) : BitVec 1 :=
  let arg1 : BitVec 32 := BitVec.ofNat 32 (i 1).val
  let c8_i32_64 : BitVec 32 := 8#32
  let c0_i32_65 : BitVec 32 := 0#32
  let v131 : BitVec 1 := Scalar.cmpi .eq c8_i32_64 c0_i32_65
  let c1_i32_66 : BitVec 32 := 1#32
  let v132 : BitVec 32 := Scalar.select v131 c1_i32_66 c8_i32_64
  let v133 : BitVec 32 := Scalar.remsi arg1 v132
  let c0_i32_68 : BitVec 32 := 0#32
  let v135 : BitVec 1 := Scalar.cmpi .slt v133 c0_i32_68
  let c0_i32_69 : BitVec 32 := 0#32
  let v136 : BitVec 1 := Scalar.cmpi .slt v132 c0_i32_69
  let v137 : BitVec 1 := Scalar.xori v135 v136
  let c0_i32_67 : BitVec 32 := 0#32
  let v134 : BitVec 1 := Scalar.cmpi .ne v133 c0_i32_67
  let v138 : BitVec 1 := Scalar.andi v137 v134
  let v139 : BitVec 32 := Scalar.addi v133 v132
  let v140 : BitVec 32 := Scalar.select v138 v139 v133
  let c5_i32 : BitVec 32 := 5#32
  let v141 : BitVec 1 := Scalar.cmpi .eq v140 c5_i32
  let v142 : BitVec 32 := Scalar.extui v141
  let c0_i32_70 : BitVec 32 := 0#32
  let v143 : BitVec 1 := Scalar.cmpi .ne v142 c0_i32_70
  v143

def k0_mult63 (i : grid0.Coords) : BitVec 32 :=
  let arg1 : BitVec 32 := BitVec.ofNat 32 (i 1).val
  let c5_i32_120 : BitVec 32 := 5#32
  let v220 : BitVec 32 := Scalar.subi arg1 c5_i32_120
  let c0_i32_121 : BitVec 32 := 0#32
  let v221 : BitVec 32 := Scalar.addi v220 c0_i32_121
  let c512_i32 : BitVec 32 := 512#32
  let v222 : BitVec 32 := Scalar.muli v221 c512_i32
  v222
def k0_off15 (i : grid0.Coords) (c0_i32_121 : BitVec 32) : Fin 2 → Nat :=
  let arg1 : BitVec 32 := BitVec.ofNat 32 (i 1).val
  let c5_i32_120 : BitVec 32 := 5#32
  let v220 : BitVec 32 := Scalar.subi arg1 c5_i32_120
  let v221 : BitVec 32 := Scalar.addi v220 c0_i32_121
  let c512_i32 : BitVec 32 := 512#32
  let v222 : BitVec 32 := Scalar.muli v221 c512_i32
  let v223 : BitVec 32 := v222
  let v224 : Index := Scalar.indexCast v223
  let c0_122 : Index := 0#32
  ![v224.toNat, 0]
def k0_mult64 (i : grid0.Coords) : BitVec 32 :=
  let arg1 : BitVec 32 := BitVec.ofNat 32 (i 1).val
  let c5_i32_120 : BitVec 32 := 5#32
  let v220 : BitVec 32 := Scalar.subi arg1 c5_i32_120
  let c1_i32_126 : BitVec 32 := 1#32
  let v232 : BitVec 32 := Scalar.addi v220 c1_i32_126
  let c512_i32_127 : BitVec 32 := 512#32
  let v233 : BitVec 32 := Scalar.muli v232 c512_i32_127
  v233
def k0_mult65 (i : grid0.Coords) : BitVec 32 :=
  let arg1 : BitVec 32 := BitVec.ofNat 32 (i 1).val
  let c5_i32_120 : BitVec 32 := 5#32
  let v220 : BitVec 32 := Scalar.subi arg1 c5_i32_120
  let c2_i32_132 : BitVec 32 := 2#32
  let v243 : BitVec 32 := Scalar.addi v220 c2_i32_132
  let c512_i32_133 : BitVec 32 := 512#32
  let v244 : BitVec 32 := Scalar.muli v243 c512_i32_133
  v244
def k0_mult66 (i : grid0.Coords) : BitVec 32 :=
  let arg1 : BitVec 32 := BitVec.ofNat 32 (i 1).val
  let c5_i32_120 : BitVec 32 := 5#32
  let v220 : BitVec 32 := Scalar.subi arg1 c5_i32_120
  let c3_i32_138 : BitVec 32 := 3#32
  let v254 : BitVec 32 := Scalar.addi v220 c3_i32_138
  let c512_i32_139 : BitVec 32 := 512#32
  let v255 : BitVec 32 := Scalar.muli v254 c512_i32_139
  v255
def k0_mult67 (i : grid0.Coords) : BitVec 32 :=
  let arg1 : BitVec 32 := BitVec.ofNat 32 (i 1).val
  let c5_i32_120 : BitVec 32 := 5#32
  let v220 : BitVec 32 := Scalar.subi arg1 c5_i32_120
  let c4_i32_144 : BitVec 32 := 4#32
  let v265 : BitVec 32 := Scalar.addi v220 c4_i32_144
  let c512_i32_145 : BitVec 32 := 512#32
  let v266 : BitVec 32 := Scalar.muli v265 c512_i32_145
  v266
def k0_mult68 (i : grid0.Coords) : BitVec 32 :=
  let arg1 : BitVec 32 := BitVec.ofNat 32 (i 1).val
  let c5_i32_120 : BitVec 32 := 5#32
  let v220 : BitVec 32 := Scalar.subi arg1 c5_i32_120
  let c5_i32_150 : BitVec 32 := 5#32
  let v276 : BitVec 32 := Scalar.addi v220 c5_i32_150
  let c512_i32_151 : BitVec 32 := 512#32
  let v277 : BitVec 32 := Scalar.muli v276 c512_i32_151
  v277
def k0_mult69 (i : grid0.Coords) : BitVec 32 :=
  let arg1 : BitVec 32 := BitVec.ofNat 32 (i 1).val
  let c5_i32_120 : BitVec 32 := 5#32
  let v220 : BitVec 32 := Scalar.subi arg1 c5_i32_120
  let c0_i32_156 : BitVec 32 := 0#32
  let v287 : BitVec 32 := Scalar.addi v220 c0_i32_156
  let c512_i32_157 : BitVec 32 := 512#32
  let v288 : BitVec 32 := Scalar.muli v287 c512_i32_157
  v288
def k0_off16 (i : grid0.Coords) (c0_i32_156 : BitVec 32) : Fin 2 → Nat :=
  let c0_158 : Index := 0#32
  let arg1 : BitVec 32 := BitVec.ofNat 32 (i 1).val
  let c5_i32_120 : BitVec 32 := 5#32
  let v220 : BitVec 32 := Scalar.subi arg1 c5_i32_120
  let v287 : BitVec 32 := Scalar.addi v220 c0_i32_156
  let c512_i32_157 : BitVec 32 := 512#32
  let v288 : BitVec 32 := Scalar.muli v287 c512_i32_157
  let v289 : BitVec 32 := v288
  let v290 : Index := Scalar.indexCast v289
  ![0, v290.toNat]
def k0_mult70 (i : grid0.Coords) : BitVec 32 :=
  let arg1 : BitVec 32 := BitVec.ofNat 32 (i 1).val
  let c5_i32_120 : BitVec 32 := 5#32
  let v220 : BitVec 32 := Scalar.subi arg1 c5_i32_120
  let c1_i32_201 : BitVec 32 := 1#32
  let v357 : BitVec 32 := Scalar.addi v220 c1_i32_201
  let c512_i32_202 : BitVec 32 := 512#32
  let v358 : BitVec 32 := Scalar.muli v357 c512_i32_202
  v358
def k0_mult71 (i : grid0.Coords) : BitVec 32 :=
  let arg1 : BitVec 32 := BitVec.ofNat 32 (i 1).val
  let c5_i32_120 : BitVec 32 := 5#32
  let v220 : BitVec 32 := Scalar.subi arg1 c5_i32_120
  let c2_i32_246 : BitVec 32 := 2#32
  let v427 : BitVec 32 := Scalar.addi v220 c2_i32_246
  let c512_i32_247 : BitVec 32 := 512#32
  let v428 : BitVec 32 := Scalar.muli v427 c512_i32_247
  v428
def k0_mult72 (i : grid0.Coords) : BitVec 32 :=
  let arg1 : BitVec 32 := BitVec.ofNat 32 (i 1).val
  let c5_i32_120 : BitVec 32 := 5#32
  let v220 : BitVec 32 := Scalar.subi arg1 c5_i32_120
  let c3_i32_291 : BitVec 32 := 3#32
  let v497 : BitVec 32 := Scalar.addi v220 c3_i32_291
  let c512_i32_292 : BitVec 32 := 512#32
  let v498 : BitVec 32 := Scalar.muli v497 c512_i32_292
  v498
def k0_mult73 (i : grid0.Coords) : BitVec 32 :=
  let arg1 : BitVec 32 := BitVec.ofNat 32 (i 1).val
  let c5_i32_120 : BitVec 32 := 5#32
  let v220 : BitVec 32 := Scalar.subi arg1 c5_i32_120
  let c4_i32_336 : BitVec 32 := 4#32
  let v567 : BitVec 32 := Scalar.addi v220 c4_i32_336
  let c512_i32_337 : BitVec 32 := 512#32
  let v568 : BitVec 32 := Scalar.muli v567 c512_i32_337
  v568
def k0_mult74 (i : grid0.Coords) : BitVec 32 :=
  let arg1 : BitVec 32 := BitVec.ofNat 32 (i 1).val
  let c5_i32_120 : BitVec 32 := 5#32
  let v220 : BitVec 32 := Scalar.subi arg1 c5_i32_120
  let c5_i32_381 : BitVec 32 := 5#32
  let v637 : BitVec 32 := Scalar.addi v220 c5_i32_381
  let c512_i32_382 : BitVec 32 := 512#32
  let v638 : BitVec 32 := Scalar.muli v637 c512_i32_382
  v638
def k0_cond7 (i : grid0.Coords) : BitVec 1 :=
  let arg1 : BitVec 32 := BitVec.ofNat 32 (i 1).val
  let c8_i32_71 : BitVec 32 := 8#32
  let c0_i32_72 : BitVec 32 := 0#32
  let v144 : BitVec 1 := Scalar.cmpi .eq c8_i32_71 c0_i32_72
  let c1_i32_73 : BitVec 32 := 1#32
  let v145 : BitVec 32 := Scalar.select v144 c1_i32_73 c8_i32_71
  let v146 : BitVec 32 := Scalar.remsi arg1 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c6_i32 : BitVec 32 := 6#32
  let v154 : BitVec 1 := Scalar.cmpi .eq v153 c6_i32
  let v155 : BitVec 32 := Scalar.extui v154
  let c0_i32_77 : BitVec 32 := 0#32
  let v156 : BitVec 1 := Scalar.cmpi .ne v155 c0_i32_77
  v156

def k0_mult75 (i : grid0.Coords) : BitVec 32 :=
  let arg1 : BitVec 32 := BitVec.ofNat 32 (i 1).val
  let c6_i32_120 : BitVec 32 := 6#32
  let v220 : BitVec 32 := Scalar.subi arg1 c6_i32_120
  let c0_i32_121 : BitVec 32 := 0#32
  let v221 : BitVec 32 := Scalar.addi v220 c0_i32_121
  let c512_i32 : BitVec 32 := 512#32
  let v222 : BitVec 32 := Scalar.muli v221 c512_i32
  v222
def k0_off17 (i : grid0.Coords) (c0_i32_121 : BitVec 32) : Fin 2 → Nat :=
  let arg1 : BitVec 32 := BitVec.ofNat 32 (i 1).val
  let c6_i32_120 : BitVec 32 := 6#32
  let v220 : BitVec 32 := Scalar.subi arg1 c6_i32_120
  let v221 : BitVec 32 := Scalar.addi v220 c0_i32_121
  let c512_i32 : BitVec 32 := 512#32
  let v222 : BitVec 32 := Scalar.muli v221 c512_i32
  let v223 : BitVec 32 := v222
  let v224 : Index := Scalar.indexCast v223
  let c0_122 : Index := 0#32
  ![v224.toNat, 0]
def k0_mult76 (i : grid0.Coords) : BitVec 32 :=
  let arg1 : BitVec 32 := BitVec.ofNat 32 (i 1).val
  let c6_i32_120 : BitVec 32 := 6#32
  let v220 : BitVec 32 := Scalar.subi arg1 c6_i32_120
  let c1_i32_126 : BitVec 32 := 1#32
  let v232 : BitVec 32 := Scalar.addi v220 c1_i32_126
  let c512_i32_127 : BitVec 32 := 512#32
  let v233 : BitVec 32 := Scalar.muli v232 c512_i32_127
  v233
def k0_mult77 (i : grid0.Coords) : BitVec 32 :=
  let arg1 : BitVec 32 := BitVec.ofNat 32 (i 1).val
  let c6_i32_120 : BitVec 32 := 6#32
  let v220 : BitVec 32 := Scalar.subi arg1 c6_i32_120
  let c2_i32_132 : BitVec 32 := 2#32
  let v243 : BitVec 32 := Scalar.addi v220 c2_i32_132
  let c512_i32_133 : BitVec 32 := 512#32
  let v244 : BitVec 32 := Scalar.muli v243 c512_i32_133
  v244
def k0_mult78 (i : grid0.Coords) : BitVec 32 :=
  let arg1 : BitVec 32 := BitVec.ofNat 32 (i 1).val
  let c6_i32_120 : BitVec 32 := 6#32
  let v220 : BitVec 32 := Scalar.subi arg1 c6_i32_120
  let c3_i32_138 : BitVec 32 := 3#32
  let v254 : BitVec 32 := Scalar.addi v220 c3_i32_138
  let c512_i32_139 : BitVec 32 := 512#32
  let v255 : BitVec 32 := Scalar.muli v254 c512_i32_139
  v255
def k0_mult79 (i : grid0.Coords) : BitVec 32 :=
  let arg1 : BitVec 32 := BitVec.ofNat 32 (i 1).val
  let c6_i32_120 : BitVec 32 := 6#32
  let v220 : BitVec 32 := Scalar.subi arg1 c6_i32_120
  let c4_i32_144 : BitVec 32 := 4#32
  let v265 : BitVec 32 := Scalar.addi v220 c4_i32_144
  let c512_i32_145 : BitVec 32 := 512#32
  let v266 : BitVec 32 := Scalar.muli v265 c512_i32_145
  v266
def k0_mult80 (i : grid0.Coords) : BitVec 32 :=
  let arg1 : BitVec 32 := BitVec.ofNat 32 (i 1).val
  let c6_i32_120 : BitVec 32 := 6#32
  let v220 : BitVec 32 := Scalar.subi arg1 c6_i32_120
  let c5_i32_150 : BitVec 32 := 5#32
  let v276 : BitVec 32 := Scalar.addi v220 c5_i32_150
  let c512_i32_151 : BitVec 32 := 512#32
  let v277 : BitVec 32 := Scalar.muli v276 c512_i32_151
  v277
def k0_mult81 (i : grid0.Coords) : BitVec 32 :=
  let arg1 : BitVec 32 := BitVec.ofNat 32 (i 1).val
  let c6_i32_120 : BitVec 32 := 6#32
  let v220 : BitVec 32 := Scalar.subi arg1 c6_i32_120
  let c6_i32_156 : BitVec 32 := 6#32
  let v287 : BitVec 32 := Scalar.addi v220 c6_i32_156
  let c512_i32_157 : BitVec 32 := 512#32
  let v288 : BitVec 32 := Scalar.muli v287 c512_i32_157
  v288
def k0_mult82 (i : grid0.Coords) : BitVec 32 :=
  let arg1 : BitVec 32 := BitVec.ofNat 32 (i 1).val
  let c6_i32_120 : BitVec 32 := 6#32
  let v220 : BitVec 32 := Scalar.subi arg1 c6_i32_120
  let c0_i32_162 : BitVec 32 := 0#32
  let v298 : BitVec 32 := Scalar.addi v220 c0_i32_162
  let c512_i32_163 : BitVec 32 := 512#32
  let v299 : BitVec 32 := Scalar.muli v298 c512_i32_163
  v299
def k0_off18 (i : grid0.Coords) (c0_i32_162 : BitVec 32) : Fin 2 → Nat :=
  let c0_164 : Index := 0#32
  let arg1 : BitVec 32 := BitVec.ofNat 32 (i 1).val
  let c6_i32_120 : BitVec 32 := 6#32
  let v220 : BitVec 32 := Scalar.subi arg1 c6_i32_120
  let v298 : BitVec 32 := Scalar.addi v220 c0_i32_162
  let c512_i32_163 : BitVec 32 := 512#32
  let v299 : BitVec 32 := Scalar.muli v298 c512_i32_163
  let v300 : BitVec 32 := v299
  let v301 : Index := Scalar.indexCast v300
  ![0, v301.toNat]
def k0_mult83 (i : grid0.Coords) : BitVec 32 :=
  let arg1 : BitVec 32 := BitVec.ofNat 32 (i 1).val
  let c6_i32_120 : BitVec 32 := 6#32
  let v220 : BitVec 32 := Scalar.subi arg1 c6_i32_120
  let c1_i32_207 : BitVec 32 := 1#32
  let v368 : BitVec 32 := Scalar.addi v220 c1_i32_207
  let c512_i32_208 : BitVec 32 := 512#32
  let v369 : BitVec 32 := Scalar.muli v368 c512_i32_208
  v369
def k0_mult84 (i : grid0.Coords) : BitVec 32 :=
  let arg1 : BitVec 32 := BitVec.ofNat 32 (i 1).val
  let c6_i32_120 : BitVec 32 := 6#32
  let v220 : BitVec 32 := Scalar.subi arg1 c6_i32_120
  let c2_i32_252 : BitVec 32 := 2#32
  let v438 : BitVec 32 := Scalar.addi v220 c2_i32_252
  let c512_i32_253 : BitVec 32 := 512#32
  let v439 : BitVec 32 := Scalar.muli v438 c512_i32_253
  v439
def k0_mult85 (i : grid0.Coords) : BitVec 32 :=
  let arg1 : BitVec 32 := BitVec.ofNat 32 (i 1).val
  let c6_i32_120 : BitVec 32 := 6#32
  let v220 : BitVec 32 := Scalar.subi arg1 c6_i32_120
  let c3_i32_297 : BitVec 32 := 3#32
  let v508 : BitVec 32 := Scalar.addi v220 c3_i32_297
  let c512_i32_298 : BitVec 32 := 512#32
  let v509 : BitVec 32 := Scalar.muli v508 c512_i32_298
  v509
def k0_mult86 (i : grid0.Coords) : BitVec 32 :=
  let arg1 : BitVec 32 := BitVec.ofNat 32 (i 1).val
  let c6_i32_120 : BitVec 32 := 6#32
  let v220 : BitVec 32 := Scalar.subi arg1 c6_i32_120
  let c4_i32_342 : BitVec 32 := 4#32
  let v578 : BitVec 32 := Scalar.addi v220 c4_i32_342
  let c512_i32_343 : BitVec 32 := 512#32
  let v579 : BitVec 32 := Scalar.muli v578 c512_i32_343
  v579
def k0_mult87 (i : grid0.Coords) : BitVec 32 :=
  let arg1 : BitVec 32 := BitVec.ofNat 32 (i 1).val
  let c6_i32_120 : BitVec 32 := 6#32
  let v220 : BitVec 32 := Scalar.subi arg1 c6_i32_120
  let c5_i32_387 : BitVec 32 := 5#32
  let v648 : BitVec 32 := Scalar.addi v220 c5_i32_387
  let c512_i32_388 : BitVec 32 := 512#32
  let v649 : BitVec 32 := Scalar.muli v648 c512_i32_388
  v649
def k0_mult88 (i : grid0.Coords) : BitVec 32 :=
  let arg1 : BitVec 32 := BitVec.ofNat 32 (i 1).val
  let c6_i32_120 : BitVec 32 := 6#32
  let v220 : BitVec 32 := Scalar.subi arg1 c6_i32_120
  let c6_i32_432 : BitVec 32 := 6#32
  let v718 : BitVec 32 := Scalar.addi v220 c6_i32_432
  let c512_i32_433 : BitVec 32 := 512#32
  let v719 : BitVec 32 := Scalar.muli v718 c512_i32_433
  v719
def k0_cond8 (i : grid0.Coords) : BitVec 1 :=
  let arg1 : BitVec 32 := BitVec.ofNat 32 (i 1).val
  let c8_i32_78 : BitVec 32 := 8#32
  let c0_i32_79 : BitVec 32 := 0#32
  let v157 : BitVec 1 := Scalar.cmpi .eq c8_i32_78 c0_i32_79
  let c1_i32_80 : BitVec 32 := 1#32
  let v158 : BitVec 32 := Scalar.select v157 c1_i32_80 c8_i32_78
  let v159 : BitVec 32 := Scalar.remsi arg1 v158
  let c0_i32_82 : BitVec 32 := 0#32
  let v161 : BitVec 1 := Scalar.cmpi .slt v159 c0_i32_82
  let c0_i32_83 : BitVec 32 := 0#32
  let v162 : BitVec 1 := Scalar.cmpi .slt v158 c0_i32_83
  let v163 : BitVec 1 := Scalar.xori v161 v162
  let c0_i32_81 : BitVec 32 := 0#32
  let v160 : BitVec 1 := Scalar.cmpi .ne v159 c0_i32_81
  let v164 : BitVec 1 := Scalar.andi v163 v160
  let v165 : BitVec 32 := Scalar.addi v159 v158
  let v166 : BitVec 32 := Scalar.select v164 v165 v159
  let c7_i32 : BitVec 32 := 7#32
  let v167 : BitVec 1 := Scalar.cmpi .eq v166 c7_i32
  let v168 : BitVec 32 := Scalar.extui v167
  let c0_i32_84 : BitVec 32 := 0#32
  let v169 : BitVec 1 := Scalar.cmpi .ne v168 c0_i32_84
  v169

def k0_mult89 (i : grid0.Coords) : BitVec 32 :=
  let arg1 : BitVec 32 := BitVec.ofNat 32 (i 1).val
  let c7_i32_120 : BitVec 32 := 7#32
  let v220 : BitVec 32 := Scalar.subi arg1 c7_i32_120
  let c0_i32_121 : BitVec 32 := 0#32
  let v221 : BitVec 32 := Scalar.addi v220 c0_i32_121
  let c512_i32 : BitVec 32 := 512#32
  let v222 : BitVec 32 := Scalar.muli v221 c512_i32
  v222
def k0_off19 (i : grid0.Coords) (c0_i32_121 : BitVec 32) : Fin 2 → Nat :=
  let arg1 : BitVec 32 := BitVec.ofNat 32 (i 1).val
  let c7_i32_120 : BitVec 32 := 7#32
  let v220 : BitVec 32 := Scalar.subi arg1 c7_i32_120
  let v221 : BitVec 32 := Scalar.addi v220 c0_i32_121
  let c512_i32 : BitVec 32 := 512#32
  let v222 : BitVec 32 := Scalar.muli v221 c512_i32
  let v223 : BitVec 32 := v222
  let v224 : Index := Scalar.indexCast v223
  let c0_122 : Index := 0#32
  ![v224.toNat, 0]
def k0_mult90 (i : grid0.Coords) : BitVec 32 :=
  let arg1 : BitVec 32 := BitVec.ofNat 32 (i 1).val
  let c7_i32_120 : BitVec 32 := 7#32
  let v220 : BitVec 32 := Scalar.subi arg1 c7_i32_120
  let c1_i32_126 : BitVec 32 := 1#32
  let v232 : BitVec 32 := Scalar.addi v220 c1_i32_126
  let c512_i32_127 : BitVec 32 := 512#32
  let v233 : BitVec 32 := Scalar.muli v232 c512_i32_127
  v233
def k0_mult91 (i : grid0.Coords) : BitVec 32 :=
  let arg1 : BitVec 32 := BitVec.ofNat 32 (i 1).val
  let c7_i32_120 : BitVec 32 := 7#32
  let v220 : BitVec 32 := Scalar.subi arg1 c7_i32_120
  let c2_i32_132 : BitVec 32 := 2#32
  let v243 : BitVec 32 := Scalar.addi v220 c2_i32_132
  let c512_i32_133 : BitVec 32 := 512#32
  let v244 : BitVec 32 := Scalar.muli v243 c512_i32_133
  v244
def k0_mult92 (i : grid0.Coords) : BitVec 32 :=
  let arg1 : BitVec 32 := BitVec.ofNat 32 (i 1).val
  let c7_i32_120 : BitVec 32 := 7#32
  let v220 : BitVec 32 := Scalar.subi arg1 c7_i32_120
  let c3_i32_138 : BitVec 32 := 3#32
  let v254 : BitVec 32 := Scalar.addi v220 c3_i32_138
  let c512_i32_139 : BitVec 32 := 512#32
  let v255 : BitVec 32 := Scalar.muli v254 c512_i32_139
  v255
def k0_mult93 (i : grid0.Coords) : BitVec 32 :=
  let arg1 : BitVec 32 := BitVec.ofNat 32 (i 1).val
  let c7_i32_120 : BitVec 32 := 7#32
  let v220 : BitVec 32 := Scalar.subi arg1 c7_i32_120
  let c4_i32_144 : BitVec 32 := 4#32
  let v265 : BitVec 32 := Scalar.addi v220 c4_i32_144
  let c512_i32_145 : BitVec 32 := 512#32
  let v266 : BitVec 32 := Scalar.muli v265 c512_i32_145
  v266
def k0_mult94 (i : grid0.Coords) : BitVec 32 :=
  let arg1 : BitVec 32 := BitVec.ofNat 32 (i 1).val
  let c7_i32_120 : BitVec 32 := 7#32
  let v220 : BitVec 32 := Scalar.subi arg1 c7_i32_120
  let c5_i32_150 : BitVec 32 := 5#32
  let v276 : BitVec 32 := Scalar.addi v220 c5_i32_150
  let c512_i32_151 : BitVec 32 := 512#32
  let v277 : BitVec 32 := Scalar.muli v276 c512_i32_151
  v277
def k0_mult95 (i : grid0.Coords) : BitVec 32 :=
  let arg1 : BitVec 32 := BitVec.ofNat 32 (i 1).val
  let c7_i32_120 : BitVec 32 := 7#32
  let v220 : BitVec 32 := Scalar.subi arg1 c7_i32_120
  let c6_i32_156 : BitVec 32 := 6#32
  let v287 : BitVec 32 := Scalar.addi v220 c6_i32_156
  let c512_i32_157 : BitVec 32 := 512#32
  let v288 : BitVec 32 := Scalar.muli v287 c512_i32_157
  v288
def k0_mult96 (i : grid0.Coords) : BitVec 32 :=
  let arg1 : BitVec 32 := BitVec.ofNat 32 (i 1).val
  let c7_i32_120 : BitVec 32 := 7#32
  let v220 : BitVec 32 := Scalar.subi arg1 c7_i32_120
  let c7_i32_162 : BitVec 32 := 7#32
  let v298 : BitVec 32 := Scalar.addi v220 c7_i32_162
  let c512_i32_163 : BitVec 32 := 512#32
  let v299 : BitVec 32 := Scalar.muli v298 c512_i32_163
  v299
def k0_mult97 (i : grid0.Coords) : BitVec 32 :=
  let arg1 : BitVec 32 := BitVec.ofNat 32 (i 1).val
  let c7_i32_120 : BitVec 32 := 7#32
  let v220 : BitVec 32 := Scalar.subi arg1 c7_i32_120
  let c0_i32_168 : BitVec 32 := 0#32
  let v309 : BitVec 32 := Scalar.addi v220 c0_i32_168
  let c512_i32_169 : BitVec 32 := 512#32
  let v310 : BitVec 32 := Scalar.muli v309 c512_i32_169
  v310
def k0_off20 (i : grid0.Coords) (c0_i32_168 : BitVec 32) : Fin 2 → Nat :=
  let c0_170 : Index := 0#32
  let arg1 : BitVec 32 := BitVec.ofNat 32 (i 1).val
  let c7_i32_120 : BitVec 32 := 7#32
  let v220 : BitVec 32 := Scalar.subi arg1 c7_i32_120
  let v309 : BitVec 32 := Scalar.addi v220 c0_i32_168
  let c512_i32_169 : BitVec 32 := 512#32
  let v310 : BitVec 32 := Scalar.muli v309 c512_i32_169
  let v311 : BitVec 32 := v310
  let v312 : Index := Scalar.indexCast v311
  ![0, v312.toNat]
def k0_mult98 (i : grid0.Coords) : BitVec 32 :=
  let arg1 : BitVec 32 := BitVec.ofNat 32 (i 1).val
  let c7_i32_120 : BitVec 32 := 7#32
  let v220 : BitVec 32 := Scalar.subi arg1 c7_i32_120
  let c1_i32_213 : BitVec 32 := 1#32
  let v379 : BitVec 32 := Scalar.addi v220 c1_i32_213
  let c512_i32_214 : BitVec 32 := 512#32
  let v380 : BitVec 32 := Scalar.muli v379 c512_i32_214
  v380
def k0_mult99 (i : grid0.Coords) : BitVec 32 :=
  let arg1 : BitVec 32 := BitVec.ofNat 32 (i 1).val
  let c7_i32_120 : BitVec 32 := 7#32
  let v220 : BitVec 32 := Scalar.subi arg1 c7_i32_120
  let c2_i32_258 : BitVec 32 := 2#32
  let v449 : BitVec 32 := Scalar.addi v220 c2_i32_258
  let c512_i32_259 : BitVec 32 := 512#32
  let v450 : BitVec 32 := Scalar.muli v449 c512_i32_259
  v450
def k0_mult100 (i : grid0.Coords) : BitVec 32 :=
  let arg1 : BitVec 32 := BitVec.ofNat 32 (i 1).val
  let c7_i32_120 : BitVec 32 := 7#32
  let v220 : BitVec 32 := Scalar.subi arg1 c7_i32_120
  let c3_i32_303 : BitVec 32 := 3#32
  let v519 : BitVec 32 := Scalar.addi v220 c3_i32_303
  let c512_i32_304 : BitVec 32 := 512#32
  let v520 : BitVec 32 := Scalar.muli v519 c512_i32_304
  v520
def k0_mult101 (i : grid0.Coords) : BitVec 32 :=
  let arg1 : BitVec 32 := BitVec.ofNat 32 (i 1).val
  let c7_i32_120 : BitVec 32 := 7#32
  let v220 : BitVec 32 := Scalar.subi arg1 c7_i32_120
  let c4_i32_348 : BitVec 32 := 4#32
  let v589 : BitVec 32 := Scalar.addi v220 c4_i32_348
  let c512_i32_349 : BitVec 32 := 512#32
  let v590 : BitVec 32 := Scalar.muli v589 c512_i32_349
  v590
def k0_mult102 (i : grid0.Coords) : BitVec 32 :=
  let arg1 : BitVec 32 := BitVec.ofNat 32 (i 1).val
  let c7_i32_120 : BitVec 32 := 7#32
  let v220 : BitVec 32 := Scalar.subi arg1 c7_i32_120
  let c5_i32_393 : BitVec 32 := 5#32
  let v659 : BitVec 32 := Scalar.addi v220 c5_i32_393
  let c512_i32_394 : BitVec 32 := 512#32
  let v660 : BitVec 32 := Scalar.muli v659 c512_i32_394
  v660
def k0_mult103 (i : grid0.Coords) : BitVec 32 :=
  let arg1 : BitVec 32 := BitVec.ofNat 32 (i 1).val
  let c7_i32_120 : BitVec 32 := 7#32
  let v220 : BitVec 32 := Scalar.subi arg1 c7_i32_120
  let c6_i32_438 : BitVec 32 := 6#32
  let v729 : BitVec 32 := Scalar.addi v220 c6_i32_438
  let c512_i32_439 : BitVec 32 := 512#32
  let v730 : BitVec 32 := Scalar.muli v729 c512_i32_439
  v730
def k0_mult104 (i : grid0.Coords) : BitVec 32 :=
  let arg1 : BitVec 32 := BitVec.ofNat 32 (i 1).val
  let c7_i32_120 : BitVec 32 := 7#32
  let v220 : BitVec 32 := Scalar.subi arg1 c7_i32_120
  let c7_i32_483 : BitVec 32 := 7#32
  let v799 : BitVec 32 := Scalar.addi v220 c7_i32_483
  let c512_i32_484 : BitVec 32 := 512#32
  let v800 : BitVec 32 := Scalar.muli v799 c512_i32_484
  v800
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S16384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S128x16384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FwdIdeal.lean ====
variable {F : FTy → Type} [FloatOps F] [Named F]
def κ : String → Option EReal := fun
  | "log2e" => some (((Real.log 2)⁻¹ : ℝ) : EReal)
  | "mask" => some ⊥
  | _ => none
-- ==== FwdRefIdeal.lean ====
abbrev S16384x512 : Shape := ⟨2, ![16384, 512]⟩
abbrev S16384x8 : Shape := ⟨2, ![16384, 8]⟩
abbrev S16384x8x64 : Shape := ⟨3, ![16384, 8, 64]⟩
abbrev S8x16384x64 : Shape := ⟨3, ![8, 16384, 64]⟩
abbrev S8x16384x16384 : Shape := ⟨3, ![8, 16384, 16384]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S8x16384 : Shape := ⟨2, ![8, 16384]⟩
abbrev S8x1x16384 : Shape := ⟨3, ![8, 1, 16384]⟩
abbrev S8x16384x1 : Shape := ⟨3, ![8, 16384, 1]⟩
abbrev S4x2x16384 : Shape := ⟨3, ![4, 2, 16384]⟩
abbrev S4x8x16384 : Shape := ⟨3, ![4, 8, 16384]⟩

abbrev nBuf : Space → Nat
  | .hbm => 93
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x8, .f32⟩
  | .hbm, ⟨4, _⟩ => ⟨S16384x8x64, .f32⟩
  | .hbm, ⟨5, _⟩ => ⟨S8x16384x64, .f32⟩
  | .hbm, ⟨6, _⟩ => ⟨S16384x8x64, .f32⟩
  | .hbm, ⟨7, _⟩ => ⟨S8x16384x64, .f32⟩
  | .hbm, ⟨8, _⟩ => ⟨S8x16384x16384, .f32⟩
  | .hbm, ⟨9, _⟩ => ⟨S_, .f32⟩
  | .hbm, ⟨10, _⟩ => ⟨S8x16384x16384, .f32⟩
  | .hbm, ⟨11, _⟩ => ⟨S8x16384x16384, .f32⟩
  | .hbm, ⟨12, _⟩ => ⟨S16384, .i32⟩
  | .hbm, ⟨13, _⟩ => ⟨S16384x1, .i32⟩
  | .hbm, ⟨14, _⟩ => ⟨S1x16384, .i32⟩
  | .hbm, ⟨15, _⟩ => ⟨S16384x16384, .i32⟩
  | .hbm, ⟨16, _⟩ => ⟨S16384x16384, .i32⟩
  | .hbm, ⟨17, _⟩ => ⟨S16384x16384, .i1⟩
  | .hbm, ⟨18, _⟩ => ⟨S8x16384, .f32⟩
  | .hbm, ⟨19, _⟩ => ⟨S8x1x16384, .f32⟩
  | .hbm, ⟨20, _⟩ => ⟨S8x16384x16384, .f32⟩
  | .hbm, ⟨21, _⟩ => ⟨S8x16384x16384, .f32⟩
  | .hbm, ⟨22, _⟩ => ⟨S_, .f32⟩
  | .hbm, ⟨23, _⟩ => ⟨S_, .f32⟩
  | .hbm, ⟨24, _⟩ => ⟨S8x16384x16384, .i1⟩
  | .hbm, ⟨25, _⟩ => ⟨S8x16384x16384, .f32⟩
  | .hbm, ⟨26, _⟩ => ⟨S8x16384x16384, .f32⟩
  | .hbm, ⟨27, _⟩ => ⟨S_, .f32⟩
  | .hbm, ⟨28, _⟩ => ⟨S8x16384, .f32⟩
  | .hbm, ⟨29, _⟩ => ⟨S8x16384x1, .f32⟩
  | .hbm, ⟨30, _⟩ => ⟨S8x16384x16384, .f32⟩
  | .hbm, ⟨31, _⟩ => ⟨S8x16384x16384, .f32⟩
  | .hbm, ⟨32, _⟩ => ⟨S8x16384x16384, .f32⟩
  | .hbm, ⟨33, _⟩ => ⟨S_, .f32⟩
  | .hbm, ⟨34, _⟩ => ⟨S8x16384, .f32⟩
  | .hbm, ⟨35, _⟩ => ⟨S8x16384x1, .f32⟩
  | .hbm, ⟨36, _⟩ => ⟨S8x16384x1, .f32⟩
  | .hbm, ⟨37, _⟩ => ⟨S8x16384x1, .f32⟩
  | .hbm, ⟨38, _⟩ => ⟨S8x16384x1, .f32⟩
  | .hbm, ⟨39, _⟩ => ⟨S_, .f32⟩
  | .hbm, ⟨40, _⟩ => ⟨S_, .f32⟩
  | .hbm, ⟨41, _⟩ => ⟨S8x16384x1, .f32⟩
  | .hbm, ⟨42, _⟩ => ⟨S8x16384x1, .f32⟩
  | .hbm, ⟨43, _⟩ => ⟨S4x2x16384, .f32⟩
  | .hbm, ⟨44, _⟩ => ⟨S_, .i32⟩
  | .hbm, ⟨45, _⟩ => ⟨S_, .f32⟩
  | .hbm, ⟨46, _⟩ => ⟨S4x8x16384, .f32⟩
  | .hbm, ⟨47, _⟩ => ⟨S16384x8x64, .f32⟩
  | .hbm, ⟨48, _⟩ => ⟨S8x16384x64, .f32⟩
  | .hbm, ⟨49, _⟩ => ⟨S16384x8x64, .f32⟩
  | .hbm, ⟨50, _⟩ => ⟨S8x16384x64, .f32⟩
  | .hbm, ⟨51, _⟩ => ⟨S8x16384x16384, .f32⟩
  | .hbm, ⟨52, _⟩ => ⟨S_, .f32⟩
  | .hbm, ⟨53, _⟩ => ⟨S8x16384x16384, .f32⟩
  | .hbm, ⟨54, _⟩ => ⟨S8x16384x16384, .f32⟩
  | .hbm, ⟨55, _⟩ => ⟨S8x16384, .f32⟩
  | .hbm, ⟨56, _⟩ => ⟨S8x16384x1, .f32⟩
  | .hbm, ⟨57, _⟩ => ⟨S8x16384x16384, .f32⟩
  | .hbm, ⟨58, _⟩ => ⟨S8x16384x16384, .f32⟩
  | .hbm, ⟨59, _⟩ => ⟨S8x16384, .f32⟩
  | .hbm, ⟨60, _⟩ => ⟨S8x1x16384, .f32⟩
  | .hbm, ⟨61, _⟩ => ⟨S8x16384x16384, .f32⟩
  | .hbm, ⟨62, _⟩ => ⟨S8x16384x16384, .f32⟩
  | .hbm, ⟨63, _⟩ => ⟨S16384, .i32⟩
  | .hbm, ⟨64, _⟩ => ⟨S16384x1, .i32⟩
  | .hbm, ⟨65, _⟩ => ⟨S1x16384, .i32⟩
  | .hbm, ⟨66, _⟩ => ⟨S16384x16384, .i32⟩
  | .hbm, ⟨67, _⟩ => ⟨S16384x16384, .i32⟩
  | .hbm, ⟨68, _⟩ => ⟨S16384x16384, .i1⟩
  | .hbm, ⟨69, _⟩ => ⟨S_, .f32⟩
  | .hbm, ⟨70, _⟩ => ⟨S_, .f32⟩
  | .hbm, ⟨71, _⟩ => ⟨S8x16384x16384, .i1⟩
  | .hbm, ⟨72, _⟩ => ⟨S8x16384x16384, .f32⟩
  | .hbm, ⟨73, _⟩ => ⟨S8x16384x16384, .f32⟩
  | .hbm, ⟨74, _⟩ => ⟨S_, .f32⟩
  | .hbm, ⟨75, _⟩ => ⟨S8x16384, .f32⟩
  | .hbm, ⟨76, _⟩ => ⟨S_, .f32⟩
  | .hbm, ⟨77, _⟩ => ⟨S8x16384, .f32⟩
  | .hbm, ⟨78, _⟩ => ⟨S8x16384, .f32⟩
  | .hbm, ⟨79, _⟩ => ⟨S8x16384x1, .f32⟩
  | .hbm, ⟨80, _⟩ => ⟨S8x16384x16384, .f32⟩
  | .hbm, ⟨81, _⟩ => ⟨S8x16384x16384, .f32⟩
  | .hbm, ⟨82, _⟩ => ⟨S8x16384x16384, .f32⟩
  | .hbm, ⟨83, _⟩ => ⟨S_, .f32⟩
  | .hbm, ⟨84, _⟩ => ⟨S8x16384, .f32⟩
  | .hbm, ⟨85, _⟩ => ⟨S8x16384x1, .f32⟩
  | .hbm, ⟨86, _⟩ => ⟨S8x16384x16384, .f32⟩
  | .hbm, ⟨87, _⟩ => ⟨S8x16384x16384, .f32⟩
  | .hbm, ⟨88, _⟩ => ⟨S16384x8x64, .f32⟩
  | .hbm, ⟨89, _⟩ => ⟨S8x16384x64, .f32⟩
  | .hbm, ⟨90, _⟩ => ⟨S8x16384x64, .f32⟩
  | .hbm, ⟨91, _⟩ => ⟨S16384x8x64, .f32⟩
  | .hbm, ⟨92, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_call1_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_5 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v54 : Ref sig .tc := ⟨.hbm, 73, rfl⟩
abbrev main_cst_6 : Ref sig .tc := ⟨.hbm, 74, rfl⟩
abbrev main_v55 : Ref sig .tc := ⟨.hbm, 75, rfl⟩
abbrev main_cst_7 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_8 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩

abbrev nD : Nat := 1
abbrev τ : Topo := Topo.v7x

variable {F : FTy → Type} [FloatOps F]
-- ==== Mix.lean ====
abbrev S16384x1024 : Shape := ⟨2, ![16384, 1024]⟩
abbrev S16384x512 : Shape := ⟨2, ![16384, 512]⟩
abbrev S16384x8 : Shape := ⟨2, ![16384, 8]⟩
abbrev S16384x1536 : Shape := ⟨2, ![16384, 1536]⟩
abbrev S1024x3080 : Shape := ⟨2, ![1024, 3080]⟩
abbrev S1024x1536 : Shape := ⟨2, ![1024, 1536]⟩
abbrev S1024x8 : Shape := ⟨2, ![1024, 8]⟩
abbrev S_ : Shape := ⟨0, ![]⟩
abbrev S1024x128 : Shape := ⟨2, ![1024, 128]⟩
abbrev S16384x128 : Shape := ⟨2, ![16384, 128]⟩
abbrev S512x16384 : Shape := ⟨2, ![512, 16384]⟩
abbrev S1536x1024 : Shape := ⟨2, ![1536, 1024]⟩
abbrev S512x1024 : Shape := ⟨2, ![512, 1024]⟩
abbrev S512x512 : Shape := ⟨2, ![512, 512]⟩
abbrev S512x1536 : Shape := ⟨2, ![512, 1536]⟩
abbrev S512x128 : Shape := ⟨2, ![512, 128]⟩

abbrev nBuf : Space → Nat
  | .hbm => 26
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x8, .f32⟩
  | .hbm, ⟨5, _⟩ => ⟨S16384x1536, .f32⟩
  | .hbm, ⟨6, _⟩ => ⟨S1024x3080, .f32⟩
  | .hbm, ⟨7, _⟩ => ⟨S1024x1536, .f32⟩
  | .hbm, ⟨8, _⟩ => ⟨S1024x1536, .bf16⟩
  | .hbm, ⟨9, _⟩ => ⟨S1024x8, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1024x1536, .f32⟩
  | .hbm, ⟨15, _⟩ => ⟨S1024x1536, .bf16⟩
  | .hbm, ⟨16, _⟩ => ⟨S_, .i32⟩
  | .hbm, ⟨17, _⟩ => ⟨S_, .f32⟩
  | .hbm, ⟨18, _⟩ => ⟨S16384x128, .f32⟩
  | .hbm, ⟨19, _⟩ => ⟨S16384x128, .bf16⟩
  | .hbm, ⟨20, _⟩ => ⟨S512x16384, .f32⟩
  | .hbm, ⟨21, _⟩ => ⟨S512x16384, .f32⟩
  | .hbm, ⟨22, _⟩ => ⟨S512x16384, .f32⟩
  | .hbm, ⟨23, _⟩ => ⟨S16384x1536, .bf16⟩
  | .hbm, ⟨24, _⟩ => ⟨S1536x1024, .bf16⟩
  | .hbm, ⟨25, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1536, .bf16⟩
  | .local _ .vmem, ⟨9, _⟩ => ⟨S512x1536, .bf16⟩
  | .local _ .vmem, ⟨10, _⟩ => ⟨S512x128, .bf16⟩
  | .local _ .vmem, ⟨11, _⟩ => ⟨S512x128, .bf16⟩
  | .local _ .vmem, ⟨12, _⟩ => ⟨S1536x1024, .bf16⟩
  | .local _ .vmem, ⟨13, _⟩ => ⟨S1024x1536, .bf16⟩
  | .local _ .vmem, ⟨14, _⟩ => ⟨S1024x128, .bf16⟩
  | .local _ .vmem, ⟨15, _⟩ => ⟨S512x1024, .f32⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1536x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixRefIdeal.lean ====
abbrev S16384x1024 : Shape := ⟨2, ![16384, 1024]⟩
abbrev S16384x512 : Shape := ⟨2, ![16384, 512]⟩
abbrev S16384x8 : Shape := ⟨2, ![16384, 8]⟩
abbrev S16384x1536 : Shape := ⟨2, ![16384, 1536]⟩
abbrev S1024x3080 : Shape := ⟨2, ![1024, 3080]⟩
abbrev S_ : Shape := ⟨0, ![]⟩
abbrev S16384x3080 : Shape := ⟨2, ![16384, 3080]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x8, .f32⟩
  | .hbm, ⟨5, _⟩ => ⟨S16384x1536, .f32⟩
  | .hbm, ⟨6, _⟩ => ⟨S1024x3080, .f32⟩
  | .hbm, ⟨7, _⟩ => ⟨S_, .f32⟩
  | .hbm, ⟨8, _⟩ => ⟨S16384x1024, .f32⟩
  | .hbm, ⟨9, _⟩ => ⟨S16384x3080, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x8, .f32⟩
  | .hbm, ⟨14, _⟩ => ⟨S16384x1536, .f32⟩
  | .hbm, ⟨15, _⟩ => ⟨S_, .f32⟩
  | .hbm, ⟨16, _⟩ => ⟨S16384x3080, .f32⟩
  | .hbm, ⟨17, _⟩ => ⟨S_, .f32⟩
  | .hbm, ⟨18, _⟩ => ⟨S16384x3080, .f32⟩
  | .hbm, ⟨19, _⟩ => ⟨S16384x3080, .f32⟩
  | .hbm, ⟨20, _⟩ => ⟨S_, .f32⟩
  | .hbm, ⟨21, _⟩ => ⟨S16384x3080, .f32⟩
  | .hbm, ⟨22, _⟩ => ⟨S16384x3080, .f32⟩
  | .hbm, ⟨23, _⟩ => ⟨S_, .f32⟩
  | .hbm, ⟨24, _⟩ => ⟨S16384x3080, .f32⟩
  | .hbm, ⟨25, _⟩ => ⟨S16384x3080, .f32⟩
  | .hbm, ⟨26, _⟩ => ⟨S_, .f32⟩
  | .hbm, ⟨27, _⟩ => ⟨S16384x3080, .f32⟩
  | .hbm, ⟨28, _⟩ => ⟨S16384x3080, .f32⟩
  | .hbm, ⟨29, _⟩ => ⟨S16384x1024, .f32⟩
  | .hbm, ⟨30, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]
-- ==== Cum.lean ====
abbrev S16384x3080 : Shape := ⟨2, ![16384, 3080]⟩
abbrev S1x8 : Shape := ⟨2, ![1, 8]⟩
abbrev S16384x1536 : Shape := ⟨2, ![16384, 1536]⟩
abbrev S16384x8 : Shape := ⟨2, ![16384, 8]⟩
abbrev S_ : Shape := ⟨0, ![]⟩
abbrev S16384x128 : Shape := ⟨2, ![16384, 128]⟩
abbrev S16384x1664 : Shape := ⟨2, ![16384, 1664]⟩
abbrev S1x128 : Shape := ⟨2, ![1, 128]⟩
abbrev S512x128 : Shape := ⟨2, ![512, 128]⟩
abbrev S512x512 : Shape := ⟨2, ![512, 512]⟩

abbrev nBuf : Space → Nat
  | .hbm => 12
  | .vmem => 6
  | .smem => 0
  | _ => 0

abbrev bufTy : (tb : Table) → Fin (tcTables nBuf tb) → BufTy
  | .hbm, ⟨0, _⟩ => ⟨S16384x3080, .f32⟩
  | .hbm, ⟨1, _⟩ => ⟨S1x8, .f32⟩
  | .hbm, ⟨2, _⟩ => ⟨S16384x1536, .f32⟩
  | .hbm, ⟨3, _⟩ => ⟨S16384x8, .f32⟩
  | .hbm, ⟨4, _⟩ => ⟨S_, .i32⟩
  | .hbm, ⟨5, _⟩ => ⟨S_, .f32⟩
  | .hbm, ⟨6, _⟩ => ⟨S16384x128, .f32⟩
  | .hbm, ⟨7, _⟩ => ⟨S16384x1664, .f32⟩
  | .hbm, ⟨8, _⟩ => ⟨S_, .i32⟩
  | .hbm, ⟨9, _⟩ => ⟨S_, .f32⟩
  | .hbm, ⟨10, _⟩ => ⟨S1x128, .f32⟩
  | .hbm, ⟨11, _⟩ => ⟨S16384x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S1x128, .f32⟩
  | _, _ => ⟨S16384x3080, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CumIdeal.lean ====
variable {F : FTy → Type} [FloatOps F] [Named F]
def κ : String → Option EReal := fun
  | "log2e" => some (((Real.log 2)⁻¹ : ℝ) : EReal)
  | _ => none
-- ==== CumRefIdeal.lean ====
abbrev S16384x3080 : Shape := ⟨2, ![16384, 3080]⟩
abbrev S1x8 : Shape := ⟨2, ![1, 8]⟩
abbrev S16384x8 : Shape := ⟨2, ![16384, 8]⟩
abbrev S_ : Shape := ⟨0, ![]⟩
abbrev S16384x128 : Shape := ⟨2, ![16384, 128]⟩
abbrev S1x128 : Shape := ⟨2, ![1, 128]⟩

abbrev nBuf : Space → Nat
  | .hbm => 36
  | .vmem => 0
  | .smem => 0
  | _ => 0

abbrev bufTy : (tb : Table) → Fin (tcTables nBuf tb) → BufTy
  | .hbm, ⟨0, _⟩ => ⟨S16384x3080, .f32⟩
  | .hbm, ⟨1, _⟩ => ⟨S1x8, .f32⟩
  | .hbm, ⟨2, _⟩ => ⟨S16384x8, .f32⟩
  | .hbm, ⟨3, _⟩ => ⟨S_, .i32⟩
  | .hbm, ⟨4, _⟩ => ⟨S_, .f32⟩
  | .hbm, ⟨5, _⟩ => ⟨S16384x128, .f32⟩
  | .hbm, ⟨6, _⟩ => ⟨S_, .i32⟩
  | .hbm, ⟨7, _⟩ => ⟨S_, .f32⟩
  | .hbm, ⟨8, _⟩ => ⟨S1x128, .f32⟩
  | .hbm, ⟨9, _⟩ => ⟨S16384x128, .f32⟩
  | .hbm, ⟨10, _⟩ => ⟨S16384x128, .f32⟩
  | .hbm, ⟨11, _⟩ => ⟨S16384x128, .f32⟩
  | .hbm, ⟨12, _⟩ => ⟨S_, .f32⟩
  | .hbm, ⟨13, _⟩ => ⟨S16384x128, .f32⟩
  | .hbm, ⟨14, _⟩ => ⟨S16384x128, .f32⟩
  | .hbm, ⟨15, _⟩ => ⟨S16384x128, .f32⟩
  | .hbm, ⟨16, _⟩ => ⟨S16384x128, .f32⟩
  | .hbm, ⟨17, _⟩ => ⟨S16384x128, .i1⟩
  | .hbm, ⟨18, _⟩ => ⟨S16384x128, .f32⟩
  | .hbm, ⟨19, _⟩ => ⟨S16384x128, .f32⟩
  | .hbm, ⟨20, _⟩ => ⟨S16384x128, .f32⟩
  | .hbm, ⟨21, _⟩ => ⟨S16384x128, .f32⟩
  | .hbm, ⟨22, _⟩ => ⟨S16384x128, .f32⟩
  | .hbm, ⟨23, _⟩ => ⟨S16384x128, .f32⟩
  | .hbm, ⟨24, _⟩ => ⟨S16384x128, .f32⟩
  | .hbm, ⟨25, _⟩ => ⟨S16384x128, .f32⟩
  | .hbm, ⟨26, _⟩ => ⟨S16384x128, .f32⟩
  | .hbm, ⟨27, _⟩ => ⟨S_, .f32⟩
  | .hbm, ⟨28, _⟩ => ⟨S_, .f32⟩
  | .hbm, ⟨29, _⟩ => ⟨S16384x128, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S16384x128, .f32⟩
  | .hbm, ⟨35, _⟩ => ⟨S16384x128, .f32⟩
  | _, _ => ⟨S16384x3080, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call2_v0 : Ref sig .tc := ⟨.hbm, 11, rfl⟩
abbrev main_call2_call0_cst : Ref sig .tc := ⟨.hbm, 12, rfl⟩
abbrev main_call2_call0_v0 : Ref sig .tc := ⟨.hbm, 13, rfl⟩
abbrev main_call2_call0_v1 : Ref sig .tc := ⟨.hbm, 14, rfl⟩
abbrev main_call2_call0_v2 : Ref sig .tc := ⟨.hbm, 15, rfl⟩
abbrev main_call2_call0_v3 : Ref sig .tc := ⟨.hbm, 16, rfl⟩
abbrev main_call2_call0_v4 : Ref sig .tc := ⟨.hbm, 17, rfl⟩
abbrev main_call2_call0_v5 : Ref sig .tc := ⟨.hbm, 18, rfl⟩
abbrev main_call2_call0_v6 : Ref sig .tc := ⟨.hbm, 19, rfl⟩
abbrev main_call2_call0_v7 : Ref sig .tc := ⟨.hbm, 20, rfl⟩
abbrev main_call2_call0_v8 : Ref sig .tc := ⟨.hbm, 21, rfl⟩
abbrev main_call2_call0_v9 : Ref sig .tc := ⟨.hbm, 22, rfl⟩
abbrev main_call2_call0_v10 : Ref sig .tc := ⟨.hbm, 23, rfl⟩
abbrev main_call2_call0_v11 : Ref sig .tc := ⟨.hbm, 24, rfl⟩
abbrev main_call2_v1 : Ref sig .tc := ⟨.hbm, 25, rfl⟩
abbrev main_v5 : Ref sig .tc := ⟨.hbm, 26, rfl⟩
abbrev main_call3_call0_cst : Ref sig .tc := ⟨.hbm, 27, rfl⟩
abbrev main_call3_call0_v0 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩

abbrev nD : Nat := 1
abbrev τ : Topo := Topo.v7x

variable {F : FTy → Type} [FloatOps F]
-- ==== Adam.lean ====
abbrev S1024x1408 : Shape := ⟨2, ![1024, 1408]⟩
abbrev S1 : Shape := ⟨1, ![1]⟩
abbrev S_ : Shape := ⟨0, ![]⟩
abbrev S2x512x1408 : Shape := ⟨3, ![2, 512, 1408]⟩
abbrev S1x512x1408 : Shape := ⟨3, ![1, 512, 1408]⟩
abbrev S512x1408 : Shape := ⟨2, ![512, 1408]⟩
abbrev S128x1408 : Shape := ⟨2, ![128, 1408]⟩

abbrev nBuf : Space → Nat
  | .hbm => 29
  | .vmem => 18
  | .smem => 1
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1, .i32⟩
  | .hbm, ⟨5, _⟩ => ⟨S_, .i32⟩
  | .hbm, ⟨6, _⟩ => ⟨S1, .i32⟩
  | .hbm, ⟨7, _⟩ => ⟨S1, .i32⟩
  | .hbm, ⟨8, _⟩ => ⟨S2x512x1408, .f32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S1x512x1408, .f32⟩
  | .hbm, ⟨13, _⟩ => ⟨S512x1408, .f32⟩
  | .hbm, ⟨14, _⟩ => ⟨S1x512x1408, .f32⟩
  | .hbm, ⟨15, _⟩ => ⟨S512x1408, .f32⟩
  | .hbm, ⟨16, _⟩ => ⟨S512x1408, .f32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S1x512x1408, .f32⟩
  | .hbm, ⟨21, _⟩ => ⟨S512x1408, .f32⟩
  | .hbm, ⟨22, _⟩ => ⟨S1x512x1408, .f32⟩
  | .hbm, ⟨23, _⟩ => ⟨S512x1408, .f32⟩
  | .hbm, ⟨24, _⟩ => ⟨S512x1408, .f32⟩
  | .hbm, ⟨25, _⟩ => ⟨S1024x1408, .f32⟩
  | .hbm, ⟨26, _⟩ => ⟨S1024x1408, .f32⟩
  | .hbm, ⟨27, _⟩ => ⟨S1024x1408, .f32⟩
  | .hbm, ⟨28, _⟩ => ⟨S1024x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | .local _ .vmem, ⟨16, _⟩ => ⟨S128x1408, .f32⟩
  | .local _ .vmem, ⟨17, _⟩ => ⟨S128x1408, .f32⟩
  | .local _ .smem, ⟨0, _⟩ => ⟨S1, .i32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev main_v17_3 : Ref sig .tc := ⟨.hbm, 28, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamRefIdeal.lean ====
abbrev S1024x1408 : Shape := ⟨2, ![1024, 1408]⟩
abbrev S1 : Shape := ⟨1, ![1]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1, .i32⟩
  | .hbm, ⟨5, _⟩ => ⟨S_, .f32⟩
  | .hbm, ⟨6, _⟩ => ⟨S1024x1408, .f32⟩
  | .hbm, ⟨7, _⟩ => ⟨S1024x1408, .f32⟩
  | .hbm, ⟨8, _⟩ => ⟨S_, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S1024x1408, .f32⟩
  | .hbm, ⟨23, _⟩ => ⟨S_, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | .hbm, ⟨37, _⟩ => ⟨S1024x1408, .f32⟩
  | .hbm, ⟨38, _⟩ => ⟨S_, .f32⟩
  | .hbm, ⟨39, _⟩ => ⟨S1024x1408, .f32⟩
  | .hbm, ⟨40, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Ffw.lean ====
abbrev S16384x1024 : Shape := ⟨2, ![16384, 1024]⟩
abbrev S1024x5632 : Shape := ⟨2, ![1024, 5632]⟩
abbrev S2816x1024 : Shape := ⟨2, ![2816, 1024]⟩
abbrev S1x1024 : Shape := ⟨2, ![1, 1024]⟩
abbrev S16384x2816 : Shape := ⟨2, ![16384, 2816]⟩
abbrev S512x1024 : Shape := ⟨2, ![512, 1024]⟩
abbrev S512x2816 : Shape := ⟨2, ![512, 2816]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S1x1024, .f32⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S16384x1024, .f32⟩
  | .hbm, ⟨8, _⟩ => ⟨S16384x1024, .f32⟩
  | .hbm, ⟨9, _⟩ => ⟨S16384x2816, .bf16⟩
  | .hbm, ⟨10, _⟩ => ⟨S16384x2816, .bf16⟩
  | .hbm, ⟨11, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfwRefIdeal.lean ====
abbrev S16384x1024 : Shape := ⟨2, ![16384, 1024]⟩
abbrev S1024x5632 : Shape := ⟨2, ![1024, 5632]⟩
abbrev S2816x1024 : Shape := ⟨2, ![2816, 1024]⟩
abbrev S1x1024 : Shape := ⟨2, ![1, 1024]⟩
abbrev S16384x5632 : Shape := ⟨2, ![16384, 5632]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S1x1024, .f32⟩
  | .hbm, ⟨4, _⟩ => ⟨S1x1024, .f32⟩
  | .hbm, ⟨5, _⟩ => ⟨S16384x5632, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x2816, .bf16⟩
  | .hbm, ⟨52, _⟩ => ⟨S16384x2816, .bf16⟩
  | .hbm, ⟨53, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩

abbrev nD : Nat := 1
abbrev τ : Topo := Topo.v7x

variable {F : FTy → Type} [FloatOps F]
-- ==== Mtf.lean ====
abbrev S16384x512 : Shape := ⟨2, ![16384, 512]⟩
abbrev S16384x3080 : Shape := ⟨2, ![16384, 3080]⟩
abbrev S3x512 : Shape := ⟨2, ![3, 512]⟩
abbrev S1x512 : Shape := ⟨2, ![1, 512]⟩
abbrev S1024x1024 : Shape := ⟨2, ![1024, 1024]⟩
abbrev S16384x1024 : Shape := ⟨2, ![16384, 1024]⟩
abbrev S1x1024 : Shape := ⟨2, ![1, 1024]⟩
abbrev S16384x1536 : Shape := ⟨2, ![16384, 1536]⟩
abbrev S16384x8 : Shape := ⟨2, ![16384, 8]⟩
abbrev S_ : Shape := ⟨0, ![]⟩
abbrev S16384x128 : Shape := ⟨2, ![16384, 128]⟩
abbrev S16384x1664 : Shape := ⟨2, ![16384, 1664]⟩
abbrev S512x512 : Shape := ⟨2, ![512, 512]⟩
abbrev S8x512 : Shape := ⟨2, ![8, 512]⟩
abbrev S512x1024 : Shape := ⟨2, ![512, 1024]⟩
abbrev S512x1 : Shape := ⟨2, ![512, 1]⟩
abbrev S512 : Shape := ⟨1, ![512]⟩

abbrev nBuf : Space → Nat
  | .hbm => 19
  | .vmem => 26
  | .smem => 0
  | _ => 0

abbrev bufTy : (tb : Table) → Fin (tcTables nBuf tb) → BufTy
  | .hbm, ⟨0, _⟩ => ⟨S16384x512, .f32⟩
  | .hbm, ⟨1, _⟩ => ⟨S16384x3080, .f32⟩
  | .hbm, ⟨2, _⟩ => ⟨S3x512, .f32⟩
  | .hbm, ⟨3, _⟩ => ⟨S1x512, .f32⟩
  | .hbm, ⟨4, _⟩ => ⟨S1x512, .f32⟩
  | .hbm, ⟨5, _⟩ => ⟨S1024x1024, .f32⟩
  | .hbm, ⟨6, _⟩ => ⟨S16384x1024, .f32⟩
  | .hbm, ⟨7, _⟩ => ⟨S1x1024, .f32⟩
  | .hbm, ⟨8, _⟩ => ⟨S1x1024, .f32⟩
  | .hbm, ⟨9, _⟩ => ⟨S16384x1536, .f32⟩
  | .hbm, ⟨10, _⟩ => ⟨S16384x8, .f32⟩
  | .hbm, ⟨11, _⟩ => ⟨S_, .i32⟩
  | .hbm, ⟨12, _⟩ => ⟨S_, .f32⟩
  | .hbm, ⟨13, _⟩ => ⟨S16384x128, .f32⟩
  | .hbm, ⟨14, _⟩ => ⟨S16384x1664, .f32⟩
  | .hbm, ⟨15, _⟩ => ⟨S1024x1024, .bf16⟩
  | .hbm, ⟨16, _⟩ => ⟨S16384x1024, .f32⟩
  | .hbm, ⟨17, _⟩ => ⟨S16384x1024, .f32⟩
  | .hbm, ⟨18, _⟩ => ⟨S16384x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S3x512, .f32⟩
  | .local _ .vmem, ⟨13, _⟩ => ⟨S1x512, .f32⟩
  | .local _ .vmem, ⟨14, _⟩ => ⟨S1x512, .f32⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MtfRefIdeal.lean ====
abbrev S16384x512 : Shape := ⟨2, ![16384, 512]⟩
abbrev S16384x3080 : Shape := ⟨2, ![16384, 3080]⟩
abbrev S3x512 : Shape := ⟨2, ![3, 512]⟩
abbrev S1x512 : Shape := ⟨2, ![1, 512]⟩
abbrev S1024x1024 : Shape := ⟨2, ![1024, 1024]⟩
abbrev S16384x1024 : Shape := ⟨2, ![16384, 1024]⟩
abbrev S1x1024 : Shape := ⟨2, ![1, 1024]⟩
abbrev S_ : Shape := ⟨0, ![]⟩
abbrev S2x512 : Shape := ⟨2, ![2, 512]⟩
abbrev S16386x512 : Shape := ⟨2, ![16386, 512]⟩
abbrev S512 : Shape := ⟨1, ![512]⟩
abbrev S16384 : Shape := ⟨1, ![16384]⟩
abbrev S16384x1 : Shape := ⟨2, ![16384, 1]⟩

abbrev nBuf : Space → Nat
  | .hbm => 99
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x3080, .f32⟩
  | .hbm, ⟨2, _⟩ => ⟨S3x512, .f32⟩
  | .hbm, ⟨3, _⟩ => ⟨S1x512, .f32⟩
  | .hbm, ⟨4, _⟩ => ⟨S1x512, .f32⟩
  | .hbm, ⟨5, _⟩ => ⟨S1024x1024, .f32⟩
  | .hbm, ⟨6, _⟩ => ⟨S16384x1024, .f32⟩
  | .hbm, ⟨7, _⟩ => ⟨S1x1024, .f32⟩
  | .hbm, ⟨8, _⟩ => ⟨S1x1024, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S2x512, .f32⟩
  | .hbm, ⟨15, _⟩ => ⟨S16386x512, .f32⟩
  | .hbm, ⟨16, _⟩ => ⟨S1x512, .f32⟩
  | .hbm, ⟨17, _⟩ => ⟨S512, .f32⟩
  | .hbm, ⟨18, _⟩ => ⟨S16384x512, .f32⟩
  | .hbm, ⟨19, _⟩ => ⟨S1x512, .f32⟩
  | .hbm, ⟨20, _⟩ => ⟨S16384x512, .f32⟩
  | .hbm, ⟨21, _⟩ => ⟨S16384x512, .f32⟩
  | .hbm, ⟨22, _⟩ => ⟨S1x512, .f32⟩
  | .hbm, ⟨23, _⟩ => ⟨S512, .f32⟩
  | .hbm, ⟨24, _⟩ => ⟨S16384x512, .f32⟩
  | .hbm, ⟨25, _⟩ => ⟨S1x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S1x512, .f32⟩
  | .hbm, ⟨30, _⟩ => ⟨S512, .f32⟩
  | .hbm, ⟨31, _⟩ => ⟨S16384x512, .f32⟩
  | .hbm, ⟨32, _⟩ => ⟨S1x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S16384x512, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x1, .f32⟩
  | .hbm, ⟨63, _⟩ => ⟨S16384x512, .f32⟩
  | .hbm, ⟨64, _⟩ => ⟨S16384x512, .f32⟩
  | .hbm, ⟨65, _⟩ => ⟨S16384x512, .f32⟩
  | .hbm, ⟨66, _⟩ => ⟨S16384x512, .f32⟩
  | .hbm, ⟨67, _⟩ => ⟨S16384x1024, .f32⟩
  | .hbm, ⟨68, _⟩ => ⟨S_, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S_, .f32⟩
  | .hbm, ⟨83, _⟩ => ⟨S16384, .f32⟩
  | .hbm, ⟨84, _⟩ => ⟨S16384x1, .f32⟩
  | .hbm, ⟨85, _⟩ => ⟨S_, .f32⟩
  | .hbm, ⟨86, _⟩ => ⟨S16384x1, .f32⟩
  | .hbm, ⟨87, _⟩ => ⟨S16384x1, .f32⟩
  | .hbm, ⟨88, _⟩ => ⟨S_, .f32⟩
  | .hbm, ⟨89, _⟩ => ⟨S16384x1, .f32⟩
  | .hbm, ⟨90, _⟩ => ⟨S16384x1, .f32⟩
  | .hbm, ⟨91, _⟩ => ⟨S16384x1, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S16384x1024, .f32⟩
  | .hbm, ⟨96, _⟩ => ⟨S16384x1024, .f32⟩
  | .hbm, ⟨97, _⟩ => ⟨S16384x1024, .f32⟩
  | .hbm, ⟨98, _⟩ => ⟨S16384x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_9 : Ref sig .tc := ⟨.hbm, 82, rfl⟩
abbrev main_v63 : Ref sig .tc := ⟨.hbm, 83, rfl⟩
abbrev main_v64 : Ref sig .tc := ⟨.hbm, 84, rfl⟩
abbrev main_cst_10 : Ref sig .tc := ⟨.hbm, 85, rfl⟩
abbrev main_v65 : Ref sig .tc := ⟨.hbm, 86, rfl⟩
abbrev main_v66 : Ref sig .tc := ⟨.hbm, 87, rfl⟩
abbrev main_cst_11 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩

abbrev nD : Nat := 1
abbrev τ : Topo := Topo.v7x

variable {F : FTy → Type} [FloatOps F]
-- ==== Proj.lean ====
abbrev S16384x1024 : Shape := ⟨2, ![16384, 1024]⟩
abbrev S1024x3080 : Shape := ⟨2, ![1024, 3080]⟩
abbrev S1024x1536 : Shape := ⟨2, ![1024, 1536]⟩
abbrev S1024x8 : Shape := ⟨2, ![1024, 8]⟩
abbrev S_ : Shape := ⟨0, ![]⟩
abbrev S1024x128 : Shape := ⟨2, ![1024, 128]⟩
abbrev S1024x1664 : Shape := ⟨2, ![1024, 1664]⟩
abbrev S1x1664 : Shape := ⟨2, ![1, 1664]⟩
abbrev S16384x1664 : Shape := ⟨2, ![16384, 1664]⟩
abbrev S512x1024 : Shape := ⟨2, ![512, 1024]⟩
abbrev S512x1664 : Shape := ⟨2, ![512, 1664]⟩

abbrev nBuf : Space → Nat
  | .hbm => 12
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x3080, .f32⟩
  | .hbm, ⟨2, _⟩ => ⟨S1024x1536, .f32⟩
  | .hbm, ⟨3, _⟩ => ⟨S1024x8, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S1024x1664, .f32⟩
  | .hbm, ⟨8, _⟩ => ⟨S1024x1664, .bf16⟩
  | .hbm, ⟨9, _⟩ => ⟨S_, .f32⟩
  | .hbm, ⟨10, _⟩ => ⟨S1x1664, .f32⟩
  | .hbm, ⟨11, _⟩ => ⟨S16384x1664, .f32⟩
  | .local _ .vmem, ⟨0, _⟩ => ⟨S512x1024, .f32⟩
  | .local _ .vmem, ⟨1, _⟩ => ⟨S512x1024, .f32⟩
  | .local _ .vmem, ⟨2, _⟩ => ⟨S1024x1664, .bf16⟩
  | .local _ .vmem, ⟨3, _⟩ => ⟨S1x1664, .f32⟩
  | .local _ .vmem, ⟨4, _⟩ => ⟨S512x1664, .f32⟩
  | .local _ .vmem, ⟨5, _⟩ => ⟨S512x1664, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1664 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjRefIdeal.lean ====
abbrev S16384x1024 : Shape := ⟨2, ![16384, 1024]⟩
abbrev S1024x3080 : Shape := ⟨2, ![1024, 3080]⟩
abbrev S16384x3080 : Shape := ⟨2, ![16384, 3080]⟩
abbrev S16384x1536 : Shape := ⟨2, ![16384, 1536]⟩
abbrev S16384x8 : Shape := ⟨2, ![16384, 8]⟩
abbrev S16384x1544 : Shape := ⟨2, ![16384, 1544]⟩
abbrev S_ : Shape := ⟨0, ![]⟩
abbrev S16384x1664 : Shape := ⟨2, ![16384, 1664]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3080, .f32⟩
  | .hbm, ⟨2, _⟩ => ⟨S16384x3080, .f32⟩
  | .hbm, ⟨3, _⟩ => ⟨S16384x1536, .f32⟩
  | .hbm, ⟨4, _⟩ => ⟨S16384x8, .f32⟩
  | .hbm, ⟨5, _⟩ => ⟨S16384x1544, .f32⟩
  | .hbm, ⟨6, _⟩ => ⟨S_, .i32⟩
  | .hbm, ⟨7, _⟩ => ⟨S_, .f32⟩
  | .hbm, ⟨8, _⟩ => ⟨S16384x1664, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Tok.lean ====
abbrev S16384x512 : Shape := ⟨2, ![16384, 512]⟩
abbrev S16384x1024 : Shape := ⟨2, ![16384, 1024]⟩
abbrev S512x16384 : Shape := ⟨2, ![512, 16384]⟩
abbrev S512x1024 : Shape := ⟨2, ![512, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S512x16384, .f32⟩
  | .hbm, ⟨3, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== TokRefIdeal.lean ====
abbrev S16384x512 : Shape := ⟨2, ![16384, 512]⟩
abbrev S16384x1024 : Shape := ⟨2, ![16384, 1024]⟩
abbrev S_ : Shape := ⟨0, ![]⟩
abbrev S1024x512 : Shape := ⟨2, ![1024, 512]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S_, .f32⟩
  | .hbm, ⟨3, _⟩ => ⟨S1024x512, .f32⟩
  | .hbm, ⟨4, _⟩ => ⟨S16384x512, .f32⟩
  | .hbm, ⟨5, _⟩ => ⟨S512x1024, .f32⟩
  | .hbm, ⟨6, _⟩ => ⟨S1024x512, .f32⟩
  | .hbm, ⟨7, _⟩ => ⟨S512x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Wgt.lean ====
abbrev S16384x1024 : Shape := ⟨2, ![16384, 1024]⟩
abbrev S16384x5632 : Shape := ⟨2, ![16384, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x5632, .f32⟩
  | .hbm, ⟨2, _⟩ => ⟨S16384x5632, .bf16⟩
  | .hbm, ⟨3, _⟩ => ⟨S4x1024x1408, .f32⟩
  | .local _ .vmem, ⟨0, _⟩ => ⟨S2048x1024, .f32⟩
  | .local _ .vmem, ⟨1, _⟩ => ⟨S2048x1024, .f32⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgtRefIdeal.lean ====
abbrev S16384x1024 : Shape := ⟨2, ![16384, 1024]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x5632, .f32⟩
  | .hbm, ⟨2, _⟩ => ⟨S_, .f32⟩
  | .hbm, ⟨3, _⟩ => ⟨S1024x5632, .f32⟩
  | .hbm, ⟨4, _⟩ => ⟨S16384x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Conv.Spec.lean ====
/- The gradient of the gated short convolution, in the words both programs are read in. `P` is the projection,
   whose columns 1544, 2056 and 2568 start the gates `b`, `c` and the value `h`; `W` the three taps; `D` the
   gradient of the convolution's result. A row number is a natural number, and a row outside the sequence counts
   as zero. -/
module

public import Idealize.ShloMosaic.Lib.Pointwise

@[expose] public section

noncomputable section

namespace Cert.Step.Conv

variable (P : Fin 16384 → Fin 3080 → EReal) (W : Fin 3 → Fin 512 → EReal) (D : Fin 16384 → Fin 512 → EReal)

/-- The convolution's input, `c · h`. -/
def u (n : ℕ) (l : Fin 512) : EReal :=
  if h : n < 16384 then P ⟨n, h⟩ ⟨2056 + l.val, by omega⟩ * P ⟨n, h⟩ ⟨2568 + l.val, by omega⟩ else 0

/-- The input `k` rows back. -/
def back (k n : ℕ) (l : Fin 512) : EReal := if n < k then 0 else u P (n - k) l

/-- The gradient of the convolution before its output gate, `D · b`. -/
def dy (n : ℕ) (l : Fin 512) : EReal :=
  if h : n < 16384 then D ⟨n, h⟩ l * P ⟨n, h⟩ ⟨1544 + l.val, by omega⟩ else 0

/-- The convolution's value. -/
def conv (n : ℕ) (l : Fin 512) : EReal := W 0 l * back P 2 n l + W 1 l * back P 1 n l + W 2 l * u P n l

/-- The gradient of the convolution's input. -/
def du (n : ℕ) (l : Fin 512) : EReal := W 2 l * dy P D n l + W 1 l * dy P D (n + 1) l + W 0 l * dy P D (n + 2) l

/-- The three gradients side by side: of `b`, of `c`, of `h`. -/
def dbch (n : Fin 16384) (j : Fin 1536) : EReal :=
  if h : j.val < 512 then D n ⟨j.val, h⟩ * conv P W n ⟨j.val, h⟩
  else if h' : j.val < 1024 then du P W D n ⟨j.val - 512, by omega⟩ * P n ⟨2568 + (j.val - 512), by omega⟩
  else du P W D n ⟨j.val - 1024, by omega⟩ * P n ⟨2056 + (j.val - 1024), by omega⟩

variable {P W D} in
/-- A column of the first third. -/
theorem dbch_b {n n' : Fin 16384} {j : Fin 1536} {l : Fin 512} (hn : n.val = n'.val) (hj : j.val = l.val) :
    dbch P W D n j = D n' l * conv P W n' l := by
  obtain rfl := Fin.ext hn
  have h : j.val < 512 := by omega
  rw [dbch, dif_pos h, show (⟨j.val, h⟩ : Fin 512) = l from Fin.ext hj]

variable {P W D} in
/-- A column of the second third. -/
theorem dbch_c {n n' : Fin 16384} {j : Fin 1536} {l : Fin 512} (hn : n.val = n'.val) (hj : j.val = 512 + l.val) :
    dbch P W D n j = du P W D n' l * P n' ⟨2568 + l.val, by omega⟩ := by
  obtain rfl := Fin.ext hn
  have e : j.val - 512 = l.val := by omega
  rw [dbch, dif_neg (by omega), dif_pos (by omega)]
  simp only [e]

variable {P W D} in
/-- A column of the last third. -/
theorem dbch_h {n n' : Fin 16384} {j : Fin 1536} {l : Fin 512} (hn : n.val = n'.val) (hj : j.val = 1024 + l.val) :
    dbch P W D n j = du P W D n' l * P n' ⟨2056 + l.val, by omega⟩ := by
  obtain rfl := Fin.ext hn
  have e : j.val - 1024 = l.val := by omega
  rw [dbch, dif_neg (by omega), dif_neg (by omega)]
  simp only [e]

/-- A row's share in the gradient of tap `k`. -/
def term (k : Fin 8) (n : ℕ) (l : Fin 512) : EReal :=
  if k.val = 0 then dy P D n l * back P 2 n l
  else if k.val = 1 then dy P D n l * back P 1 n l
  else if k.val = 2 then dy P D n l * u P n l
  else 0

variable {P D} in
/-- The rows below the third get nothing. -/
theorem term_zero {k : Fin 8} (hk : 3 ≤ k.val) (n : ℕ) (l : Fin 512) : term P D k n l = 0 := by
  rw [term, if_neg (by omega), if_neg (by omega), if_neg (by omega)]

/-- The gradient of the taps, under five rows of zeros. -/
def dw (k : Fin 8) (l : Fin 512) : EReal := ∑ n : Fin 16384, term P D k n l

end Cert.Step.Conv

end
-- ==== Proof.Words.lean ====
/- Selections by a comparison of two small words, read as a choice between two natural numbers' orders. -/
module

public import Idealize.ShloMosaic.Lib.Pointwise
public import Idealize.ShloMosaic.Lib.Affine

@[expose] public section

namespace Cert.Step

open Idealize.ShloMosaic

/-- A word below 2³¹, read as a signed number, is the number it was made from. -/
theorem toInt_ofNat {n : ℕ} (h : n < 2 ^ 31) : (BitVec.ofNat 32 n).toInt = n := by
  rw [BitVec.toInt_eq_toNat_of_lt (by rw [BitVec.toNat_ofNat]; omega), BitVec.toNat_ofNat]
  omega

/-- A selection by two conditions together. -/
theorem sel_and {α : Type} (p q : BitVec 1) (x y : α) :
    Scalar.select (IntOp.andi p q) x y = Scalar.select p (Scalar.select q x y) y := by
  have h : ∀ p q : BitVec 1, (IntOp.andi p q = 1) = (p = 1 ∧ q = 1) := by decide
  simp only [Scalar.select, h]
  split_ifs <;> simp_all

variable {α : Type} (a b : ℕ) (ha : a < 2 ^ 31) (hb : b < 2 ^ 31) (x y : α)
include ha hb

/-- A selection by `a < b`. -/
theorem sel_slt : Scalar.select (IntOp.cmpi .slt (BitVec.ofNat 32 a) (BitVec.ofNat 32 b)) x y = if a < b then x else y := by
  have e : (IntOp.cmpi .slt (BitVec.ofNat 32 a) (BitVec.ofNat 32 b) = 1) = (a < b) := by
    rw [show (1 : BitVec 1) = 1#1 from rfl, IntOp.cmpi_slt, toInt_ofNat ha, toInt_ofNat hb]; simp
  simp only [Scalar.select, e]

/-- A selection by `b ≤ a`. -/
theorem sel_sge : Scalar.select (IntOp.cmpi .sge (BitVec.ofNat 32 a) (BitVec.ofNat 32 b)) x y = if b ≤ a then x else y := by
  have e : (IntOp.cmpi .sge (BitVec.ofNat 32 a) (BitVec.ofNat 32 b) = 1) = (b ≤ a) := by
    rw [show (1 : BitVec 1) = 1#1 from rfl, IntOp.cmpi_sge, toInt_ofNat ha, toInt_ofNat hb]; simp
  simp only [Scalar.select, e]

/-- A selection by `a = b`. -/
theorem sel_eq : Scalar.select (IntOp.cmpi .eq (BitVec.ofNat 32 a) (BitVec.ofNat 32 b)) x y = if a = b then x else y := by
  have e : (IntOp.cmpi .eq (BitVec.ofNat 32 a) (BitVec.ofNat 32 b) = 1) = (a = b) := by
    rw [show (1 : BitVec 1) = 1#1 from rfl, IntOp.cmpi_eq, ← BitVec.toInt_inj, toInt_ofNat ha, toInt_ofNat hb]; simp
  simp only [Scalar.select, e]

/-- A selection by `a = b`, compared as scalars. -/
theorem sel_eq' : Scalar.select (Scalar.cmpi .eq (BitVec.ofNat 32 a) (BitVec.ofNat 32 b)) x y = if a = b then x else y :=
  sel_eq a b ha hb x y

end Cert.Step
-- ==== Proof.Pieces.lean ====
module
public import Idealize.ShloMosaic.Lib.Pipeline.FrameBody
public import Idealize.ShloMosaic.Lib.WritesUnit
@[expose] public section

/-!
# Reading a list of stored rectangles at one index

The contents that a list of stores leaves, the last store first. An index in the first rectangle reads its payload;
an index that misses the first rectangle on some axis reads the rest of the list. Both are given with the offsets and
the position in plain numbers.
-/

namespace Cert.Step

open Idealize.ShloMosaic Idealize.SL.Sem

variable {Val : EltTy → Type} {s : Shape} {e : EltTy} [∀ e, Nonempty (Val e)]

/-- An index in the rectangle stored last reads that payload. -/
theorem canon_in {off size : Fin s.rank → ℕ} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact View.canon_cons_emb _ w L x

/-- An index off the rectangle stored last reads the stores before it. -/
theorem canon_off {off size : Fin s.rank → ℕ} (inb : ∀ a, off a + size a ≤ s.size a)
    (w : (Rect.unit off size inb).shape.Idx → Val e) (L : List (View.Piece Val s e)) (y : s.Idx)
    (a : Fin s.rank) (ha : (y a).val < off a ∨ off a + size a ≤ (y a).val) :
    View.canon ((⟨Rect.unit off size inb, w⟩ : View.Piece Val s e) :: L) y = View.canon L y := by
  refine View.canon_cons_of_not_mem _ L ?_
  show y ∉ (Rect.unit off size inb).set
  rw [Rect.mem_set_unit]
  intro hall
  have := hall a
  omega

end Cert.Step
end
-- ==== Proof.Steps.lean ====
module
public import Idealize.ShloMosaic.Lib.Pipeline.ValueKit
@[expose] public section

/-!
# A value carried over the steps of a grid

A value set at step 0 and changed by adding a step's share at every later step is the sum of the shares so far; when a
step's share is itself a sum over the rows of the step's block, the value after the last step is the sum over all rows.
-/

namespace Cert.Step

variable {M : Type*} [AddCommMonoid M]

/-- The value after step `n` is the sum of the shares of steps `0 … n`. -/
theorem carried {N : ℕ} (o : ∀ n, n < N → M) (f : ℕ → M) (h0 : ∀ h, o 0 h = f 0)
    (hs : ∀ n (h : n + 1 < N), o (n + 1) h = o n (Nat.lt_of_succ_lt h) + f (n + 1)) :
    ∀ n (h : n < N), o n h = ∑ i ∈ Finset.range (n + 1), f i
  | 0, h => by rw [h0 h, Finset.sum_range_one]
  | n + 1, h => by rw [hs n h, carried o f h0 hs n _, Finset.sum_range_succ _ (n + 1)]

/-- Over `S` steps of `n` rows each, the sum of the steps' shares is the sum over all rows. -/
theorem sum_steps {L : ℕ} (S n : ℕ) (g : ℕ → M) (hL : L = S * n) :
    ∑ i ∈ Finset.range S, ∑ r : Fin n, g (i * n + r.val) = ∑ l : Fin L, g l.val := by
  rw [Finset.sum_range]
  exact Fin.sum_mul_add_congr (fun _ _ _ => rfl) hL

end Cert.Step
end
-- ==== Proof.Conv.Kern.lean ====
module

public import proofs.«01_k».proof.Proof.Gen.ConvIdeal.Value
public import proofs.«01_k».proof.Proof.Conv.Spec
public import proofs.«01_k».proof.Proof.Words
public import proofs.«01_k».proof.Proof.Pieces
public import proofs.«01_k».proof.Proof.Steps
public import Idealize.ShloMosaic.Lib.WritesUnit
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.ConvIdeal.Sem

open Cert.ConvIdeal Cert.ConvIdeal.Gen Idealize.ShloMosaic Idealize.ShloMosaic.TcCoe Idealize.SL.Sem
open Idealize.ShloMosaic.Pipeline (Dat)
open Cert.Step Cert.Step.Conv

/-- Sixty-four copies of one eight-row tile, laid one under the other, at a row: the tile at that row modulo eight. -/
theorem copies (v : FVec Ideal S8x512 .f32)
    (h : Shape.Concatenates ((List.replicate 64 (⟨S8x512, v⟩ : (s : Shape) × (s.Idx → Ideal .f32))).map (·.1)) S512x512 0)
    (r : Fin 512) (l : Fin 512) :
    concatenate S512x512 0 (List.replicate 64 (⟨S8x512, v⟩ : (s : Shape) × (s.Idx → Ideal .f32))) h (ix2 r l)
      = v (ix2 ⟨r.val % 8, by omega⟩ l) :=
  concatenate_replicate_apply (t := S512x512) (s₁ := S8x512) 0 64 v h rfl (ix2 r l) (ix2 ⟨r.val % 8, by omega⟩ l) rfl
    (fun b hb => by fin_cases b; · exact absurd rfl hb
                    · rfl)

/-- The sixty-four copies fill the tile's rows. -/
theorem fills : Shape.Concatenates (List.replicate 64 S8x512) S512x512 0 := by decide

/-- The numbers of the rows of a tile, against a row. -/
def rows (p : CmpIPredicate) (k : BitVec 32) : IVec S512x512 1 :=
  broadcastTo S512x512 (shapeCast S512x1 (cmpi p (iota .tc S512x1 32 [0] iota_S512x1_d0_w32) (broadcast S512x1 k)) shapeCasts_S512x1_S512x1) broadcasts_S512x1_S512x512

/-- A tile turned by `a` rows, its edge rows taken from the eight-row halo turned by `b`. -/
def turned (p : CmpIPredicate) (k a b : BitVec 32) (A : FVec Ideal S512x512 .f32) (C : FVec Ideal S8x512 .f32) : FVec Ideal S512x512 .f32 :=
  select (rows p k)
    (concatenate S512x512 0 (List.replicate 64 (⟨S8x512, dynamicRotate 0 b none C rotates_S8x512_d0⟩ : (s : Shape) × (s.Idx → Ideal .f32))) fills)
    (dynamicRotate 0 a none A rotates_S512x512_d0)

/-- The tile 1 row(s) back. -/
theorem pay7_at (i : grid0.Coords) (A B : FVec Ideal S512x512 .f32) (C D : FVec Ideal S8x512 .f32) (r : Fin 512) (l : Fin 512) :
    k0_pay7 (F := Ideal) i A B C D (ix2 r l)
      = if r.val < 1 then k0_pay6 (F := Ideal) i C D (ix2 ⟨(r.val % 8 + 8 - 1) % 8, by omega⟩ l) else k0_pay5 (F := Ideal) A B (ix2 ⟨(r.val + 512 - 1) % 512, by omega⟩ l) := by
  have e : k0_pay7 (F := Ideal) i A B C D = turned .slt 1#32 1#32 1#32 (k0_pay5 A B) (k0_pay6 i C D) := rfl
  rw [e, turned, rows]
  pointwise [copies]
  rw [sel_slt _ _ (by omega) (by omega)]
/-- The tile 2 row(s) back. -/
theorem pay8_at (i : grid0.Coords) (A B : FVec Ideal S512x512 .f32) (C D : FVec Ideal S8x512 .f32) (r : Fin 512) (l : Fin 512) :
    k0_pay8 (F := Ideal) i A B C D (ix2 r l)
      = if r.val < 2 then k0_pay6 (F := Ideal) i C D (ix2 ⟨(r.val % 8 + 8 - 2) % 8, by omega⟩ l) else k0_pay5 (F := Ideal) A B (ix2 ⟨(r.val + 512 - 2) % 512, by omega⟩ l) := by
  have e : k0_pay8 (F := Ideal) i A B C D = turned .slt 2#32 2#32 2#32 (k0_pay5 A B) (k0_pay6 i C D) := rfl
  rw [e, turned, rows]
  pointwise [copies]
  rw [sel_slt _ _ (by omega) (by omega)]
/-- The tile 1 row(s) on. -/
theorem pay13_at (i : BitVec 32) (A B : FVec Ideal S512x512 .f32) (C D : FVec Ideal S8x512 .f32) (r : Fin 512) (l : Fin 512) :
    k0_pay13 (F := Ideal) i A B C D (ix2 r l)
      = if 511 ≤ r.val then k0_pay12 (F := Ideal) i C D (ix2 ⟨(r.val % 8 + 8 - 7) % 8, by omega⟩ l) else k0_pay11 (F := Ideal) A B (ix2 ⟨(r.val + 512 - 511) % 512, by omega⟩ l) := by
  have e : k0_pay13 (F := Ideal) i A B C D = turned .sge 511#32 511#32 7#32 (k0_pay11 A B) (k0_pay12 i C D) := rfl
  rw [e, turned, rows]
  pointwise [copies]
  rw [sel_sge _ _ (by omega) (by omega)]
/-- The tile 2 row(s) on. -/
theorem pay14_at (i : BitVec 32) (A B : FVec Ideal S512x512 .f32) (C D : FVec Ideal S8x512 .f32) (r : Fin 512) (l : Fin 512) :
    k0_pay14 (F := Ideal) i A B C D (ix2 r l)
      = if 510 ≤ r.val then k0_pay12 (F := Ideal) i C D (ix2 ⟨(r.val % 8 + 8 - 6) % 8, by omega⟩ l) else k0_pay11 (F := Ideal) A B (ix2 ⟨(r.val + 512 - 510) % 512, by omega⟩ l) := by
  have e : k0_pay14 (F := Ideal) i A B C D = turned .sge 510#32 510#32 6#32 (k0_pay11 A B) (k0_pay12 i C D) := rfl
  rw [e, turned, rows]
  pointwise [copies]
  rw [sel_sge _ _ (by omega) (by omega)]

variable (m : (ℓ : Loc nD τ sig) → Buf (Elt Ideal) ℓ) (c : Dev nD)

/-- The projection. -/
def P (n : Fin 16384) (j : Fin 3080) : EReal := m ((c : Thread nD τ).loc main_arg0) (ix2 n j)
/-- The taps. -/
def W (n : Fin 3) (j : Fin 512) : EReal := m ((c : Thread nD τ).loc main_arg1) (ix2 n j)
/-- The gradient of the convolution's result. -/
def D (n : Fin 16384) (j : Fin 512) : EReal := m ((c : Thread nD τ).loc main_arg2) (ix2 n j)

theorem N32 : cfg0.N = 32 := by decide +kernel

theorem lt32 (t : Fin cfg0.N) : t.val < 32 := lt_of_lt_of_eq t.isLt N32

theorem idx : ∀ t : Fin cfg0.N, win0_0.index t = ![t.val, 0] ∧ win0_1.index t = ![min (t.val * 64 + 64) 2047, 0] ∧ win0_2.index t = ![t.val, 0] ∧ win0_3.index t = ![min (t.val * 64 + 64) 2047, 0]  ∧ win0_4.index t = ![t.val, 1] ∧ win0_5.index t = ![t.val, 2] ∧ win0_6.index t = ![t.val * 64 - 1, 1] ∧ win0_7.index t = ![t.val * 64 - 1, 2] ∧ win0_8.index t = ![0, 0] ∧ win0_9.index t = ![t.val, 0] ∧ win0_10.index t = ![0, 0] :=
  (by decide +kernel : ∀ t : Fin grid0.N, _)

/-- The buffer the windows read: the three column ranges of the projection, from column 1544 on. -/
theorem V3_at (n : Fin 16384) (j : Fin 1664) (hj : j.val < 1536) :
    V m c main_v3 (ix2 n j) = P m c n ⟨1544 + j.val, by omega⟩ := by
  simp only [V, hostOps0, hostOps0_1, hostOps0_2, List.flatten_cons, List.flatten_nil, List.cons_append, List.nil_append, List.append_nil]
  entry_read
  pointwise
  rw [dif_pos hj]
  rfl

/-- Window 2's tile: rows from `512 t` on, columns from 1544 on. -/
theorem X2_at (t : Fin cfg0.N) (r l : Fin 512) :
    X0_2 m c t (ix2 r l) = P m c ⟨t.val * 512 + r.val, by have := lt32 t; omega⟩ ⟨1544 + l.val, by omega⟩ := by
  have ht := lt32 t
  unfold X0_2 Pipeline.Window.fill
  rw [dif_pos (moved0_2 t _)]
  blk_simp [iblk]
  refine (congrArg _ (show _ = (ix2 ⟨t.val * 512 + r.val, by omega⟩ ⟨0 + l.val, by omega⟩ : S16384x1664.Idx) from ?_)).trans ?_
  · blk_ext [idx t]
  · rw [V3_at _ _ _ _ (by show 0 + l.val < 1536; omega)]
    simp only [← Nat.add_assoc, Nat.reduceAdd]
/-- Window 4's tile: rows from `512 t` on, columns from 2056 on. -/
theorem X4_at (t : Fin cfg0.N) (r l : Fin 512) :
    X0_4 m c t (ix2 r l) = P m c ⟨t.val * 512 + r.val, by have := lt32 t; omega⟩ ⟨2056 + l.val, by omega⟩ := by
  have ht := lt32 t
  unfold X0_4 Pipeline.Window.fill
  rw [dif_pos (moved0_4 t _)]
  blk_simp [iblk]
  refine (congrArg _ (show _ = (ix2 ⟨t.val * 512 + r.val, by omega⟩ ⟨512 + l.val, by omega⟩ : S16384x1664.Idx) from ?_)).trans ?_
  · blk_ext [idx t]
  · rw [V3_at _ _ _ _ (by show 512 + l.val < 1536; omega)]
    simp only [← Nat.add_assoc, Nat.reduceAdd]
/-- Window 5's tile: rows from `512 t` on, columns from 2568 on. -/
theorem X5_at (t : Fin cfg0.N) (r l : Fin 512) :
    X0_5 m c t (ix2 r l) = P m c ⟨t.val * 512 + r.val, by have := lt32 t; omega⟩ ⟨2568 + l.val, by omega⟩ := by
  have ht := lt32 t
  unfold X0_5 Pipeline.Window.fill
  rw [dif_pos (moved0_5 t _)]
  blk_simp [iblk]
  refine (congrArg _ (show _ = (ix2 ⟨t.val * 512 + r.val, by omega⟩ ⟨1024 + l.val, by omega⟩ : S16384x1664.Idx) from ?_)).trans ?_
  · blk_ext [idx t]
  · rw [V3_at _ _ _ _ (by show 1024 + l.val < 1536; omega)]
    simp only [← Nat.add_assoc, Nat.reduceAdd]
/-- Window 3's eight rows: columns from 1544 on. -/
theorem X3_at (t : Fin cfg0.N) (r : Fin 8) (l : Fin 512) :
    X0_3 m c t (ix2 r l) = P m c ⟨min (t.val * 64 + 64) 2047 * 8 + r.val, by have := lt32 t; omega⟩ ⟨1544 + l.val, by omega⟩ := by
  have ht := lt32 t
  unfold X0_3 Pipeline.Window.fill
  rw [dif_pos (moved0_3 t _)]
  blk_simp [iblk]
  refine (congrArg _ (show _ = (ix2 ⟨min (t.val * 64 + 64) 2047 * 8 + r.val, by omega⟩ ⟨0 + l.val, by omega⟩ : S16384x1664.Idx) from ?_)).trans ?_
  · blk_ext [idx t]
  · rw [V3_at _ _ _ _ (by show 0 + l.val < 1536; omega)]
    simp only [← Nat.add_assoc, Nat.reduceAdd]
/-- Window 6's eight rows: columns from 2056 on. -/
theorem X6_at (t : Fin cfg0.N) (r : Fin 8) (l : Fin 512) :
    X0_6 m c t (ix2 r l) = P m c ⟨(t.val * 64 - 1) * 8 + r.val, by have := lt32 t; omega⟩ ⟨2056 + l.val, by omega⟩ := by
  have ht := lt32 t
  unfold X0_6 Pipeline.Window.fill
  rw [dif_pos (moved0_6 t _)]
  blk_simp [iblk]
  refine (congrArg _ (show _ = (ix2 ⟨(t.val * 64 - 1) * 8 + r.val, by omega⟩ ⟨512 + l.val, by omega⟩ : S16384x1664.Idx) from ?_)).trans ?_
  · blk_ext [idx t]
  · rw [V3_at _ _ _ _ (by show 512 + l.val < 1536; omega)]
    simp only [← Nat.add_assoc, Nat.reduceAdd]
/-- Window 7's eight rows: columns from 2568 on. -/
theorem X7_at (t : Fin cfg0.N) (r : Fin 8) (l : Fin 512) :
    X0_7 m c t (ix2 r l) = P m c ⟨(t.val * 64 - 1) * 8 + r.val, by have := lt32 t; omega⟩ ⟨2568 + l.val, by omega⟩ := by
  have ht := lt32 t
  unfold X0_7 Pipeline.Window.fill
  rw [dif_pos (moved0_7 t _)]
  blk_simp [iblk]
  refine (congrArg _ (show _ = (ix2 ⟨(t.val * 64 - 1) * 8 + r.val, by omega⟩ ⟨1024 + l.val, by omega⟩ : S16384x1664.Idx) from ?_)).trans ?_
  · blk_ext [idx t]
  · rw [V3_at _ _ _ _ (by show 1024 + l.val < 1536; omega)]
    simp only [← Nat.add_assoc, Nat.reduceAdd]
/-- The tile of the result's gradient. -/
theorem X0_at (t : Fin cfg0.N) (r l : Fin 512) :
    iblk m c 0 t (ix2 r l) = D m c ⟨t.val * 512 + r.val, by have := lt32 t; omega⟩ l := by
  unfold D
  blk_point [iblk, V, idx t]
/-- The eight rows after it. -/
theorem X1_at (t : Fin cfg0.N) (r : Fin 8) (l : Fin 512) :
    iblk m c 1 t (ix2 r l) = D m c ⟨min (t.val * 64 + 64) 2047 * 8 + r.val, by have := lt32 t; omega⟩ l := by
  unfold D
  blk_point [iblk, V, idx t]
/-- The taps. -/
theorem X8_at (t : Fin cfg0.N) (k : Fin 3) (l : Fin 512) :
    iblk m c 8 t (ix2 k l) = W m c k l := by
  unfold W
  blk_point [iblk, V, idx t]

/-- The grid has one axis: the point's coordinate is its number. -/
theorem crd (t : Fin cfg0.N) : (grid0.coords t 0).val = t.val :=
  (by decide +kernel : ∀ t : Fin grid0.N, (grid0.coords t 0).val = t.val) t

variable (t : Fin cfg0.N) (r : Fin 512) (l : Fin 512)

/-- The tile of the convolution's input. -/
theorem u_at : k0_pay5 (F := Ideal) (X0_4 m c t) (X0_5 m c t) (ix2 r l) = u (P m c) (t.val * 512 + r.val) l := by
  have ht := lt32 t
  have hr : t.val * 512 + r.val < 16384 := by omega
  pointwise [k0_pay5, k0_pay4, k0_pay3, X4_at, X5_at]
  simp only [u, hr, dite_true]

/-- The eight rows before the tile, zero before the first. -/
theorem before_at (k : Fin 8) : k0_pay6 (F := Ideal) (grid0.coords t) (X0_6 m c t) (X0_7 m c t) (ix2 k l)
    = if t.val = 0 then 0 else u (P m c) (t.val * 512 + k.val - 8) l := by
  have ht := lt32 t
  pointwise [k0_pay6, X6_at, X7_at]
  rw [crd t, sel_eq' _ _ (by omega) (by omega)]
  split_ifs with h
  · rfl
  · have hr : t.val * 512 + k.val - 8 < 16384 := by omega
    have e : (t.val * 64 - 1) * 8 + k.val = t.val * 512 + k.val - 8 := by omega
    simp only [u, hr, e, dite_true]

/-- The input one row back. -/
theorem back1_at : k0_pay7 (F := Ideal) (grid0.coords t) (X0_4 m c t) (X0_5 m c t) (X0_6 m c t) (X0_7 m c t) (ix2 r l)
    = back (P m c) 1 (t.val * 512 + r.val) l := by
  have ht := lt32 t
  rw [pay7_at, before_at, u_at, back]
  split_ifs <;> first | rfl | omega | (congr 1; dsimp only; omega)
/-- The input two rows back. -/
theorem back2_at : k0_pay8 (F := Ideal) (grid0.coords t) (X0_4 m c t) (X0_5 m c t) (X0_6 m c t) (X0_7 m c t) (ix2 r l)
    = back (P m c) 2 (t.val * 512 + r.val) l := by
  have ht := lt32 t
  rw [pay8_at, before_at, u_at, back]
  split_ifs <;> first | rfl | omega | (congr 1; dsimp only; omega)

/-- The tile of the gradient before the output gate. -/
theorem dy_at : k0_pay11 (F := Ideal) (iblk m c 0 t) (X0_2 m c t) (ix2 r l) = dy (P m c) (D m c) (t.val * 512 + r.val) l := by
  have ht := lt32 t
  have hr : t.val * 512 + r.val < 16384 := by omega
  pointwise [k0_pay11, X0_at, X2_at]
  simp only [dy, hr, dite_true]

/-- The eight rows after the tile, zero after the last. -/
theorem after_at (k : Fin 8) : k0_pay12 (F := Ideal) (BitVec.ofNat 32 (grid0.coords t 0).val) (iblk m c 1 t) (X0_3 m c t) (ix2 k l)
    = dy (P m c) (D m c) (t.val * 512 + 512 + k.val) l := by
  have ht := lt32 t
  pointwise [k0_pay12, X1_at, X3_at]
  rw [crd t, sel_eq' _ _ (by omega) (by omega)]
  split_ifs with h
  · have hr : ¬ t.val * 512 + 512 + k.val < 16384 := by omega
    simp only [dy, hr, dite_false]
  · have hr : t.val * 512 + 512 + k.val < 16384 := by omega
    have e : min (t.val * 64 + 64) 2047 * 8 + k.val = t.val * 512 + 512 + k.val := by omega
    simp only [dy, hr, e, dite_true]

/-- The gradient one row on. -/
theorem on1_at : k0_pay13 (F := Ideal) (BitVec.ofNat 32 (grid0.coords t 0).val) (iblk m c 0 t) (X0_2 m c t) (iblk m c 1 t) (X0_3 m c t) (ix2 r l)
    = dy (P m c) (D m c) (t.val * 512 + r.val + 1) l := by
  rw [pay13_at, after_at, dy_at]
  split_ifs <;> (congr 1; dsimp only; omega)
/-- The gradient two rows on. -/
theorem on2_at : k0_pay14 (F := Ideal) (BitVec.ofNat 32 (grid0.coords t 0).val) (iblk m c 0 t) (X0_2 m c t) (iblk m c 1 t) (X0_3 m c t) (ix2 r l)
    = dy (P m c) (D m c) (t.val * 512 + r.val + 2) l := by
  rw [pay14_at, after_at, dy_at]
  split_ifs <;> (congr 1; dsimp only; omega)

/-- What a point leaves in the block of the three gradients. -/
theorem out9 (y : S512x1536.Idx) : (outsAt0 m c t.val t.isLt).1 y
    = dbch (P m c) (W m c) (D m c) ⟨t.val * 512 + (y 0).val, by have := lt32 t; have := (y 0).isLt; simp at this; omega⟩ (y 1) := by
  have hx (x0 : Fin 512) (e : (y 0).val = x0.val) : t.val * 512 + (y 0).val = t.val * 512 + x0.val := by rw [e]
  by_cases h : t.val % 32 = 0
  · rw [outsAt0_A m c t h]
    frame_out
    canon_tiles x g
    all_goals idx_vars x
    case piece0 =>
      pointwise [k0_pay19, k0_pay16, k0_pay15, on1_at, on2_at, dy_at, X4_at, X8_at]
      rw [dbch_h (n' := ⟨t.val * 512 + x0.val, by have := lt32 t; omega⟩) (hx x0 g0) g1, k0_pay3, shapeCast_self, X4_at, du]
    case piece1 =>
      pointwise [k0_pay18, k0_pay16, k0_pay15, k0_pay4, on1_at, on2_at, dy_at, X5_at, X8_at]
      rw [dbch_c (n' := ⟨t.val * 512 + x0.val, by have := lt32 t; omega⟩) (hx x0 g0) g1, du]
    case piece2 =>
      pointwise [k0_pay17, k0_pay10, k0_pay9, back1_at, back2_at, u_at, X0_at, X8_at]
      rw [dbch_b (n' := ⟨t.val * 512 + x0.val, by have := lt32 t; omega⟩) (hx x0 g0) g1, conv]
  · rw [outsAt0_B m c t h]
    frame_out
    canon_tiles x g
    all_goals idx_vars x
    case piece0 =>
      pointwise [k0_pay19, k0_pay16, k0_pay15, on1_at, on2_at, dy_at, X4_at, X8_at]
      rw [dbch_h (n' := ⟨t.val * 512 + x0.val, by have := lt32 t; omega⟩) (hx x0 g0) g1, k0_pay3, shapeCast_self, X4_at, du]
    case piece1 =>
      pointwise [k0_pay18, k0_pay16, k0_pay15, k0_pay4, on1_at, on2_at, dy_at, X5_at, X8_at]
      rw [dbch_c (n' := ⟨t.val * 512 + x0.val, by have := lt32 t; omega⟩) (hx x0 g0) g1, du]
    case piece2 =>
      pointwise [k0_pay17, k0_pay10, k0_pay9, back1_at, back2_at, u_at, X0_at, X8_at]
      rw [dbch_b (n' := ⟨t.val * 512 + x0.val, by have := lt32 t; omega⟩) (hx x0 g0) g1, conv]

/-- The first step's rows of the taps' gradient, summed over zeros. -/
theorem out10_A (h : t.val % 32 = 0) (k : Fin 8) : (outsAt0 m c t.val t.isLt).2 (ix2 k l)
    = 0 + ∑ r : Fin 512, term (P m c) (D m c) k (t.val * 512 + r.val) l := by
  rw [outsAt0_A m c t h]
  frame_out
  simp (disch := decide) only [↓ View.readCov_skip, ↓ View.readCov_cons_toLoadRect, ↓ View.readCov_fill]
  have hk : k.val = 0 ∨ k.val = 1 ∨ k.val = 2 ∨ 3 ≤ k.val := by omega
  rcases hk with hk | hk | hk | hk
  · obtain rfl : k = 0 := Fin.ext hk
    rw [canon_off _ _ _ _ 0 (Or.inl (show 0 < 2 by decide))]
    rw [canon_off _ _ _ _ 0 (Or.inl (show 0 < 1 by decide))]
    rw [canon_in _ _ _ _ (ix2 (0 : Fin 1) l) (fun a => by fin_cases a <;> simp)]
    pointwise [k0_pay20, k0_pay2, k0_pay10, k0_pay9, u_at, back1_at, back2_at, dy_at]
    simp [term, mul_comm]
  · obtain rfl : k = 1 := Fin.ext hk
    rw [canon_off _ _ _ _ 0 (Or.inl (show 1 < 2 by decide))]
    rw [canon_in _ _ _ _ (ix2 (0 : Fin 1) l) (fun a => by fin_cases a <;> simp)]
    pointwise [k0_pay21, k0_pay2, k0_pay10, k0_pay9, u_at, back1_at, back2_at, dy_at]
    simp [term, mul_comm]
  · obtain rfl : k = 2 := Fin.ext hk
    rw [canon_in _ _ _ _ (ix2 (0 : Fin 1) l) (fun a => by fin_cases a <;> simp)]
    pointwise [k0_pay1, k0_pay2, k0_pay10, k0_pay9, u_at, back1_at, back2_at, dy_at]
    simp [term, mul_comm]
  · skip
    rw [canon_off _ _ _ _ 0 (Or.inr (show 2 + 1 ≤ k.val by omega))]
    rw [canon_off _ _ _ _ 0 (Or.inr (show 1 + 1 ≤ k.val by omega))]
    rw [canon_off _ _ _ _ 0 (Or.inr (show 0 + 1 ≤ k.val by omega))]
    rw [View.canon_unit_zero (by funext a; fin_cases a <;> rfl)]
    pointwise [k0_pay2]
    simp only [term_zero hk, Finset.sum_const_zero]

/-- A later step adds its rows to what the step before left. -/
theorem out10_B (h : ¬ t.val % 32 = 0) (k : Fin 8) : (outsAt0 m c t.val t.isLt).2 (ix2 k l)
    = (outsAt0 m c (t.val - 1) (by omega)).2 (ix2 k l) + ∑ r : Fin 512, term (P m c) (D m c) k (t.val * 512 + r.val) l := by
  rw [outsAt0_B m c t h]
  frame_out
  have hk : k.val = 0 ∨ k.val = 1 ∨ k.val = 2 ∨ 3 ≤ k.val := by omega
  rcases hk with hk | hk | hk | hk
  · obtain rfl : k = 0 := Fin.ext hk
    rw [View.read_writes_cons_unit_of_not_mem _ _ _ _ _ _ rfl 0 (Or.inl (show 0 < 2 by decide))]
    rw [View.read_writes_cons_unit_of_not_mem _ _ _ _ _ _ rfl 0 (Or.inl (show 0 < 1 by decide))]
    rw [View.read_writes_cons_unit_of_mem _ _ _ _ _ _ (ix2 (0 : Fin 1) l) rfl (fun a => by fin_cases a <;> simp)]
    pointwise [k0_pay20, k0_pay2, k0_pay10, k0_pay9, u_at, back1_at, back2_at, dy_at]
    simp [term, mul_comm]
  · obtain rfl : k = 1 := Fin.ext hk
    rw [View.read_writes_cons_unit_of_not_mem _ _ _ _ _ _ rfl 0 (Or.inl (show 1 < 2 by decide))]
    rw [View.read_writes_cons_unit_of_mem _ _ _ _ _ _ (ix2 (0 : Fin 1) l) rfl (fun a => by fin_cases a <;> simp)]
    pointwise [k0_pay21, k0_pay2, k0_pay10, k0_pay9, u_at, back1_at, back2_at, dy_at]
    simp [term, mul_comm]
  · obtain rfl : k = 2 := Fin.ext hk
    rw [View.read_writes_cons_unit_of_mem _ _ _ _ _ _ (ix2 (0 : Fin 1) l) rfl (fun a => by fin_cases a <;> simp)]
    pointwise [k0_pay1, k0_pay2, k0_pay10, k0_pay9, u_at, back1_at, back2_at, dy_at]
    simp [term, mul_comm]
  · skip
    rw [View.read_writes_cons_unit_of_not_mem _ _ _ _ _ _ rfl 0 (Or.inr (show 2 + 1 ≤ k.val by omega))]
    rw [View.read_writes_cons_unit_of_not_mem _ _ _ _ _ _ rfl 0 (Or.inr (show 1 + 1 ≤ k.val by omega))]
    rw [View.read_writes_cons_unit_of_not_mem _ _ _ _ _ _ rfl 0 (Or.inr (show 0 + 1 ≤ k.val by omega))]
    refine (congrFun (Memref.IsWhole.read_unread _ _) _).trans ?_
    simp only [term_zero hk, Finset.sum_const_zero, add_zero]

/-- After the run the first result is the three gradients side by side. -/
theorem final9 : (dats m 0 c).arrAt 9 cfg0.N = fun i => dbch (P m c) (W m c) (D m c) (i 0) (i 1) := by
  refine (dats m 0 c).arrAt_eq_of_covers 9 _ (by decide +kernel) fun t hf y => ?_
  blk_simp
  rw [after0_9]
  refine (out9 m c t y).trans (congrArg₂ (dbch (P m c) (W m c) (D m c)) (Fin.ext ?_) (Fin.ext ?_))
  · blk_ext [idx t]
  · blk_ext [idx t]

/-- After a step the second result holds the sums over the rows so far. -/
theorem out10 (k : Fin 8) : ∀ n (h : n < cfg0.N), (outsAt0 m c n h).2 (ix2 k l)
    = ∑ i ∈ Finset.range (n + 1), ∑ r : Fin 512, term (P m c) (D m c) k (i * 512 + r.val) l :=
  carried (fun n h => (outsAt0 m c n h).2 (ix2 k l)) (fun i => ∑ r : Fin 512, term (P m c) (D m c) k (i * 512 + r.val) l)
    (fun h => (out10_A m c ⟨0, h⟩ l rfl k).trans (zero_add _))
    (fun n h => out10_B m c ⟨n + 1, h⟩ l (by have := lt32 ⟨n + 1, h⟩; simp only at this ⊢; omega) k)

/-- After the run the second result is the gradient of the taps. -/
theorem final10 : (dats m 0 c).arrAt 10 cfg0.N = fun i => dw (P m c) (D m c) (i 0) (i 1) := by
  refine (dats m 0 c).arrAt_eq_of_covers 10 _ (by decide +kernel) fun t hf y => ?_
  have ht : t.val = 31 := by
    have := (flush0_10 t).mp hf
    have := lt32 t
    omega
  blk_simp
  rw [after0_10]
  idx_vars y
  refine (out10 m c y1 y0 t.val t.isLt).trans ?_
  rw [ht, sum_steps (L := 16384) 32 512 (fun n => term (P m c) (D m c) y0 n y1) rfl]
  refine congrArg₂ (dw (P m c) (D m c)) (Fin.ext ?_) (Fin.ext ?_)
  · blk_ext [idx t]
  · blk_ext [idx t]

end Cert.ConvIdeal.Sem
end
-- ==== Proof.Conv.Ref.lean ====
module

public import proofs.«01_k».proof.Proof.Gen.ConvRefIdeal.Read
public import proofs.«01_k».proof.Proof.Conv.Spec
public import Idealize.ShloMosaic.Lib.Pointwise

@[expose] public section

set_option maxRecDepth 16384

noncomputable section

namespace Cert.ConvRefIdeal.Sem

open Cert.ConvRefIdeal Cert.ConvRefIdeal.Gen Cert.ConvRefIdeal.Read Idealize.ShloMosaic
open Cert.Step.Conv

variable (P : FVec Ideal S16384x3080 .f32) (W : FVec Ideal S3x512 .f32) (D : FVec Ideal S16384x512 .f32)

/-- The gradient of `b`. -/
theorem db_at (n : Fin 16384) (l : Fin 512) :
    val_main_v29 (F := Ideal) P W D (ix2 n l)
      = D (ix2 n l) * conv (fun a b => P (ix2 a b)) (fun a b => W (ix2 a b)) n l := by
  pointwise [val_main_v29, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v5, val_main_v4, val_main_cst, val_main_v3, val_main_v2, val_main_v1]
  rcases n with ⟨n, hn⟩
  have e : 1 + n - 2 = n - 1 := by omega
  have l2 : n - 2 < 16384 := by omega
  have l1 : n - 1 < 16384 := by omega
  have g : (1 + n < 2) = (n < 1) := propext (by omega)
  simp only [conv, back, u, hn, e, l1, l2, g, dite_true]
  rfl

/-- The gradient of the convolution's input. -/
theorem du_at (n : Fin 16384) (l : Fin 512) :
    val_main_v62 (F := Ideal) P W D (ix2 n l)
      = du (fun a b => P (ix2 a b)) (fun a b => W (ix2 a b)) (fun a b => D (ix2 a b)) n l := by
  pointwise [val_main_v62, val_main_v57, val_main_v56, val_main_v51, val_main_v50, val_main_v46, val_main_v45, val_main_v40, val_main_v39, val_main_v36, val_main_v31, val_main_v30, val_main_v28, val_main_v23, val_main_v21, val_main_v20, val_main_v16, val_main_v14, val_main_v13, val_main_v10, val_main_v8, val_main_v7, val_main_v0, val_main_cst_3, val_main_cst_7, val_main_cst_11]
  rcases n with ⟨n, hn⟩
  simp only [du, dy, hn, dite_true]
  congr 1; congr 1
  · rw [mul_comm (D _)]
  · have e : 2 + n - 1 = n + 1 := by omega
    have g : 1 ≤ 2 + n := by omega
    by_cases h : n + 1 < 16384
    · simp only [e, g, h, and_self, dite_true]; rw [mul_comm (D _)]
    · simp only [e, g, h, and_false, dite_false, mul_zero]
  · have e : 2 + n = n + 2 := by omega
    by_cases h : n + 2 < 16384
    · simp only [e, h, dite_true]; rw [mul_comm (D _)]
    · simp only [e, h, dite_false, mul_zero]

/-- The three gradients side by side. -/
theorem dbch_at (n : Fin 16384) (j : Fin 1536) :
    val_main_v66 (F := Ideal) P W D (ix2 n j)
      = dbch (fun a b => P (ix2 a b)) (fun a b => W (ix2 a b)) (fun a b => D (ix2 a b)) n j := by
  pointwise [val_main_v66, val_main_v65, val_main_v64, val_main_v63, val_main_v2, val_main_v1, db_at, du_at]
  simp only [dbch]
  by_cases h : j.val < 512
  · simp only [h, dite_true]
  · by_cases h' : j.val - 512 < 512
    · have h'' : j.val < 1024 := by omega
      simp only [h, h', h'', dite_true, dite_false]
    · have h'' : ¬ j.val < 1024 := by omega
      have e : j.val - 512 - 512 = j.val - 1024 := by omega
      simp only [h, h', h'', e, dite_false]
      rw [mul_comm]

/-- The gradient before the output gate, at a row of the sequence. -/
theorem v28_at (n : Fin 16384) (l : Fin 512) :
    val_main_v28 (F := Ideal) P D (ix2 n l) = dy (fun a b => P (ix2 a b)) (fun a b => D (ix2 a b)) n l := by
  pointwise [val_main_v28, val_main_v0]
  simp only [dy, n.isLt, dite_true]
  rw [mul_comm]
/-- The input two rows back. -/
theorem v9_at (n : Fin 16384) (l : Fin 512) :
    val_main_v9 (F := Ideal) P (ix2 n l) = back (fun a b => P (ix2 a b)) 2 n l := by
  pointwise [val_main_v9, val_main_v8, val_main_v7, val_main_v5, val_main_v4, val_main_cst, val_main_v3, val_main_v2, val_main_v1]
  rcases n with ⟨n, hn⟩
  have l2 : n - 2 < 16384 := by omega
  simp only [back, u, l2, dite_true]
  rfl
/-- The input one row back. -/
theorem v15_at (n : Fin 16384) (l : Fin 512) :
    val_main_v15 (F := Ideal) P (ix2 n l) = back (fun a b => P (ix2 a b)) 1 n l := by
  pointwise [val_main_v15, val_main_v8, val_main_v7, val_main_v5, val_main_v4, val_main_cst, val_main_v3, val_main_v2, val_main_v1]
  rcases n with ⟨n, hn⟩
  have e : 1 + n - 2 = n - 1 := by omega
  have l1 : n - 1 < 16384 := by omega
  have g : (1 + n < 2) = (n < 1) := propext (by omega)
  simp only [back, u, e, g, l1, dite_true]
  rfl
/-- The input itself. -/
theorem v22_at (n : Fin 16384) (l : Fin 512) :
    val_main_v22 (F := Ideal) P (ix2 n l) = u (fun a b => P (ix2 a b)) n l := by
  pointwise [val_main_v22, val_main_v8, val_main_v7, val_main_v5, val_main_v4, val_main_cst, val_main_v3, val_main_v2, val_main_v1]
  rcases n with ⟨n, hn⟩
  simp only [u, hn, dite_true]

/-- The gradient of the taps. -/
theorem dw_at (k : Fin 8) (l : Fin 512) : val_main_v67 (F := Ideal) P D (ix2 k l)
      = dw (fun a b => P (ix2 a b)) (fun a b => D (ix2 a b)) k l := by
  pointwise [val_main_v67, val_main_v60, val_main_v59, val_main_v58, val_main_v55, val_main_v54, val_main_v53, val_main_v52, val_main_v49, val_main_v48, val_main_v47, val_main_v44, val_main_v43, val_main_v42, val_main_v41, val_main_v38, val_main_v37, val_main_v35, val_main_v34, val_main_v33, val_main_v32, val_main_c, val_main_call0_v0, val_main_cst_1, val_main_cst_2, val_main_cst_4, val_main_cst_5, val_main_cst_6, val_main_cst_8, val_main_cst_9, val_main_cst_10, val_main_cst_12, v28_at, v9_at, v15_at, v22_at]
  have z : (FloatOps.sitofp (F := Ideal) .f32 0#32 : EReal) = 0 := by
    show ((((0#32 : BitVec 32).toInt : ℝ)) : EReal) = 0
    simp
  fin_vals k with hk
  all_goals simp [hk, dw, term, z]
end Cert.ConvRefIdeal.Sem
end
-- ==== Proof.Conv.Claim.lean ====
module
public import proofs.«01_k».proof.Defs
public import proofs.«01_k».proof.Proof.Gen.Conv
public import proofs.«01_k».proof.Proof.Gen.Conv.Frame
public import proofs.«01_k».proof.Proof.Gen.ConvIdeal
public import proofs.«01_k».proof.Proof.Gen.ConvRefIdeal
public import proofs.«01_k».proof.Proof.Gen.ConvRefIdeal.Run
public import proofs.«01_k».proof.Proof.Conv.Kern
public import proofs.«01_k».proof.Proof.Conv.Ref
@[expose] public section

/-!
# The claim of the short gated convolution's gradient

Both programs leave the three gradients side by side, and the gradient of the taps, of the same arguments.
-/

noncomputable section

namespace Cert.Step.Conv

open Idealize.ShloMosaic Idealize.SL.Sem

theorem algebraic : Cert.algebraic_ConvIdeal_ConvRefIdeal (hConvIdeal := Cert.ConvIdeal.Gen.facts)
    (hConvRefIdeal := Cert.ConvRefIdeal.Gen.facts) := by
  pair_intro
  · run_from Cert.ConvIdeal.Value.run_blocks m g
  · run_from Cert.ConvRefIdeal.Value.run m' g'
    · rw [Cert.ConvIdeal.Sem.final9, Cert.ConvRefIdeal.Read.val_main_v66_eq]
      obtain ⟨a0, a1, a2⟩ := hagree c
      rw [a0, a1, a2]
      funext i
      exact (congrArg _ (ix2_eta i).symm).trans (Cert.ConvRefIdeal.Sem.dbch_at _ _ _ (i 0) (i 1))
    · rw [Cert.ConvIdeal.Sem.final10]
      refine (Cert.ConvRefIdeal.Read.val_main_v67_eq _ _).trans ?_
      funext i
      exact (congrArg _ (ix2_eta i).symm).trans (Cert.ConvRefIdeal.Sem.dw_at _ _ (i 0) (i 1))

end Cert.Step.Conv
end
-- ==== Proof.Forget.Spec.lean ====
module
public import Idealize.ShloMosaic.Lib.Pointwise
@[expose] public section

/-!
# The gradient of the forget gate's cumulative log

The bias `c` at a row is the sum of the log-sigmoids of the gate up to that row, so the gradient of the gate at a row is the
sum of the gradients of `c` from that row on, times the sigmoid of minus the gate.
-/

noncomputable section

namespace Cert.Step.Forget

open Idealize.ShloMosaic

variable (f g : ℕ → EReal)

/-- The sum from row `n` to the last of 16384. -/
def suffix (n : ℕ) : EReal := ∑ i ∈ Finset.Ico n 16384, g i

/-- The gradient of the gate at row `n`: the suffix sum times the sigmoid of minus the gate. -/
def dz (n : ℕ) : EReal := suffix g n * Ideal.logistic (-(f n))

/-- A block's rows before a suffix. -/
theorem suffix_split {a b : ℕ} (h : a ≤ b) (hb : b ≤ 16384) : (∑ i ∈ Finset.Ico a b, g i) + suffix g b = suffix g a :=
  Finset.sum_Ico_consecutive g h hb

theorem suffix_last : suffix g 16384 = 0 := by simp [suffix]

/-- Within a block of `L` rows from `s` on, the rows from the `r`-th on, picked by a mask. -/
theorem masked (s L r : ℕ) : (∑ k : Fin L, if r ≤ k.val then g (s + k.val) else 0) = ∑ i ∈ Finset.Ico (s + r) (s + L), g i := by
  rw [show s + r = r + s from Nat.add_comm _ _, show s + L = L + s from Nat.add_comm _ _, ← Finset.sum_Ico_add g r L s, Fin.sum_univ_eq_sum_range (fun k => if r ≤ k then g (s + k) else 0) L, ← Finset.sum_filter]
  congr 1
  ext k
  simp only [Finset.mem_filter, Finset.mem_range, Finset.mem_Ico]
  omega

/-- The gate of a head's lane at a row, with its bias; zero past the eight heads. -/
def gate (P : Fin 16384 → Fin 3080 → EReal) (B : Fin 8 → EReal) (l : Fin 128) (n : ℕ) : EReal :=
  if h : n < 16384 ∧ l.val < 8 then P ⟨n, h.1⟩ ⟨1536 + l.val, by omega⟩ + B ⟨l.val, h.2⟩ else 0

/-- The gradient of the bias `c` of a head's lane at a row: as a key and as a query; zero past the eight heads. -/
def grad (K Q : Fin 16384 → Fin 8 → EReal) (l : Fin 128) (n : ℕ) : EReal :=
  if h : n < 16384 ∧ l.val < 8 then K ⟨n, h.1⟩ ⟨l.val, h.2⟩ + Q ⟨n, h.1⟩ ⟨l.val, h.2⟩ else 0

/-- Past the eight heads the gradient is zero. -/
theorem dz_zero (f : ℕ → EReal) (K Q : Fin 16384 → Fin 8 → EReal) (l : Fin 128) (hl : ¬ l.val < 8) (n : ℕ) :
    dz f (grad K Q l) n = 0 := by
  have e : suffix (grad K Q l) n = 0 := Finset.sum_eq_zero fun i _ => dif_neg fun h => hl h.2
  rw [dz, e, zero_mul]

end Cert.Step.Forget
end
-- ==== Proof.Forget.Kern.lean ====
module

public import proofs.«01_k».proof.Proof.Gen.ForgetIdeal.Value
public import proofs.«01_k».proof.Proof.Forget.Spec
public import proofs.«01_k».proof.Proof.Words
public import proofs.«01_k».proof.Proof.Pieces
public import proofs.«01_k».proof.Proof.Steps
public import Idealize.ShloMosaic.Lib.WritesUnit
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.ForgetIdeal.Sem

open Cert.ForgetIdeal Cert.ForgetIdeal.Gen Idealize.ShloMosaic Idealize.ShloMosaic.TcCoe Idealize.SL.Sem
open Idealize.ShloMosaic.Pipeline (Dat)
open Cert.Step Cert.Step.Forget

variable (m : (ℓ : Loc nD τ sig) → Buf (Elt Ideal) ℓ) (c : Dev nD)

/-- The projection. -/
def P (n : Fin 16384) (j : Fin 3080) : EReal := m ((c : Thread nD τ).loc main_arg0) (ix2 n j)
/-- The gate's bias. -/
def B (j : Fin 8) : EReal := m ((c : Thread nD τ).loc main_arg1) (ix2 0 j)
/-- The gradient of the bias `c` as a key. -/
def K (n : Fin 16384) (j : Fin 8) : EReal := m ((c : Thread nD τ).loc main_arg2) (ix2 n j)
/-- The gradient of the bias `c` as a query. -/
def Q (n : Fin 16384) (j : Fin 8) : EReal := m ((c : Thread nD τ).loc main_arg3) (ix2 n j)

theorem N32 : cfg0.N = 32 := by decide +kernel

theorem lt32 (t : Fin cfg0.N) : t.val < 32 := lt_of_lt_of_eq t.isLt N32

theorem idx : ∀ t : Fin cfg0.N, win0_0.index t = ![0, 31 - t.val, 0] ∧ win0_1.index t = ![1, 31 - t.val, 0] ∧ win0_2.index t = ![2, 31 - t.val, 0] ∧ win0_3.index t = ![3, 31 - t.val, 0] ∧ win0_4.index t = ![31 - t.val, 0] ∧ win0_5.index t = ![31 - t.val, 12] ∧ win0_6.index t = ![0, 0] ∧ win0_7.index t = ![31 - t.val, 0] ∧ win0_8.index t = ![0, 0] :=
  (by decide +kernel : ∀ t : Fin grid0.N, _)

theorem zero32 : FloatOps.sitofp (F := Ideal) .f32 (0#32) = (0 : EReal) := by
  show ((((0#32 : BitVec 32).toInt : ℝ)) : EReal) = 0
  simp

set_option maxHeartbeats 2000000 in
/-- The four pairs of heads, each in its own lanes of its own slab. -/
theorem slabs_at (j : Fin 4) (n : Fin 16384) (l : Fin 128) :
    V m c main_v16 (ix3 j n l) = if h : 2 * j.val ≤ l.val ∧ l.val < 2 * j.val + 2 then K m c n ⟨l.val, by omega⟩ else 0 := by
  simp only [V, hostOps0, hostOps0_1, hostOps0_2, hostOps0_3, hostOps0_4, hostOps0_5, hostOps0_6, hostOps0_7, hostOps0_8, hostOps0_9, List.flatten_cons, List.flatten_nil, List.cons_append, List.nil_append, List.append_nil]
  entry_read
  simp -implicitDefEqProofs only [StableHlo.TRef.toBuf, StableHlo.TRef.ofBuf, cast_cast, cast_eq]
  pointwise [zero32]
  have e : IntOp.muli (2#32) (BitVec.ofNat 32 j.val) = BitVec.ofNat 32 (2 * j.val) := by fin_cases j <;> rfl
  have e' : IntOp.addi (BitVec.ofNat 32 (2 * j.val)) (2#32) = BitVec.ofNat 32 (2 * j.val + 2) := by fin_cases j <;> rfl
  rw [e, e', sel_and, sel_sge _ _ (by omega) (by omega), sel_slt _ _ (by omega) (by omega)]
  by_cases h1 : 2 * j.val ≤ l.val
  · by_cases h2 : l.val < 2 * j.val + 2
    · have h3 : l.val < 8 := by omega
      simp only [h1, h2, h3, and_self, if_true, dite_true]
      rfl
    · simp only [h1, h2, and_false, if_true, if_false, dite_false]
  · simp only [h1, false_and, if_false, dite_false]

theorem query_at (n : Fin 16384) (l : Fin 128) :
    V m c main_v17 (ix2 n l) = if h : l.val < 8 then Q m c n ⟨l.val, h⟩ else 0 := by
  simp only [V, hostOps0, hostOps0_1, hostOps0_2, hostOps0_3, hostOps0_4, hostOps0_5, hostOps0_6, hostOps0_7, hostOps0_8, hostOps0_9, List.flatten_cons, List.flatten_nil, List.cons_append, List.nil_append, List.append_nil]
  entry_read
  simp -implicitDefEqProofs only [StableHlo.TRef.toBuf, StableHlo.TRef.ofBuf, cast_cast, cast_eq]
  pointwise [zero32]
  rfl

theorem gate_at (n : Fin 16384) (l : Fin 128) :
    V m c main_v3 (ix2 n ⟨1536 + l.val, by omega⟩) = if h : l.val < 8 then P m c n ⟨1536 + l.val, by omega⟩ else 0 := by
  simp only [V, hostOps0, hostOps0_1, hostOps0_2, hostOps0_3, hostOps0_4, hostOps0_5, hostOps0_6, hostOps0_7, hostOps0_8, hostOps0_9, List.flatten_cons, List.flatten_nil, List.cons_append, List.nil_append, List.append_nil]
  entry_read
  simp -implicitDefEqProofs only [StableHlo.TRef.toBuf, StableHlo.TRef.ofBuf, cast_cast, cast_eq]
  pointwise [zero32]
  rfl

theorem bias_at (l : Fin 128) :
    V m c main_v4 (ix2 0 l) = if h : l.val < 8 then B m c ⟨l.val, h⟩ else 0 := by
  simp only [V, hostOps0, hostOps0_1, hostOps0_2, hostOps0_3, hostOps0_4, hostOps0_5, hostOps0_6, hostOps0_7, hostOps0_8, hostOps0_9, List.flatten_cons, List.flatten_nil, List.cons_append, List.nil_append, List.append_nil]
  entry_read
  simp -implicitDefEqProofs only [StableHlo.TRef.toBuf, StableHlo.TRef.ofBuf, cast_cast, cast_eq]
  pointwise [zero32]
  rfl

variable (t : Fin cfg0.N) (r : Fin 512) (l : Fin 128)

/-- The first row of a point's block: the blocks are taken from the last to the first. -/
def row : ℕ := (31 - t.val) * 512

theorem row_lt : row t + r.val < 16384 := by have := lt32 t; unfold row; omega

theorem X0_at : iblk m c 0 t (ix3 0 r l) = V m c main_v16 (ix3 0 ⟨row t + r.val, row_lt t r⟩ l) := by
  unfold row
  blk_point [iblk, idx t]
theorem X1_at : iblk m c 1 t (ix3 0 r l) = V m c main_v16 (ix3 1 ⟨row t + r.val, row_lt t r⟩ l) := by
  unfold row
  blk_point [iblk, idx t]
theorem X2_at : iblk m c 2 t (ix3 0 r l) = V m c main_v16 (ix3 2 ⟨row t + r.val, row_lt t r⟩ l) := by
  unfold row
  blk_point [iblk, idx t]
theorem X3_at : iblk m c 3 t (ix3 0 r l) = V m c main_v16 (ix3 3 ⟨row t + r.val, row_lt t r⟩ l) := by
  unfold row
  blk_point [iblk, idx t]
theorem X4_at : iblk m c 4 t (ix2 r l) = V m c main_v17 (ix2 ⟨row t + r.val, row_lt t r⟩ l) := by
  unfold row
  blk_point [iblk, idx t]
theorem X5_at : iblk m c 5 t (ix2 r l) = V m c main_v3 (ix2 ⟨row t + r.val, row_lt t r⟩ ⟨1536 + l.val, by omega⟩) := by
  unfold row
  blk_point [iblk, idx t]
theorem X6_at : iblk m c 6 t (ix2 0 l) = V m c main_v4 (ix2 0 l) := by
  blk_point [iblk, idx t]

/-- The gradient of the bias at a row: the slabs' lanes and the query's. -/
theorem dc_at (a0 a1 a2 a3 q : EReal) (h0 : iblk m c 0 t (ix3 0 r l) = a0) (h1 : iblk m c 1 t (ix3 0 r l) = a1)
    (h2 : iblk m c 2 t (ix3 0 r l) = a2) (h3 : iblk m c 3 t (ix3 0 r l) = a3) (h4 : iblk m c 4 t (ix2 r l) = q) :
    a0 + a1 + (a2 + a3) + q = grad (K m c) (Q m c) l (row t + r.val) := by
  rw [X0_at, slabs_at] at h0
  rw [X1_at, slabs_at] at h1
  rw [X2_at, slabs_at] at h2
  rw [X3_at, slabs_at] at h3
  rw [X4_at, query_at] at h4
  subst h0 h1 h2 h3 h4
  simp only [grad, row_lt t r, true_and]
  have hl : l.val / 2 = 0 ∨ l.val / 2 = 1 ∨ l.val / 2 = 2 ∨ l.val / 2 = 3 ∨ 4 ≤ l.val / 2 := by omega
  split_ifs <;> simp_all <;> omega

/-- The sums from a row of the block on, over what the block after left. -/
theorem pay6_at (b : FVec Ideal S1x128 .f32) :
    k0_pay6 (F := Ideal) (iblk m c 0 t) (iblk m c 1 t) (iblk m c 2 t) (iblk m c 3 t) (iblk m c 4 t) b (ix2 r l)
      = (∑ i ∈ Finset.Ico (row t + r.val) (row t + 512), grad (K m c) (Q m c) l i) + b (ix2 0 l) := by
  pointwise [k0_pay6]
  rw [← masked (grad (K m c) (Q m c) l) (row t) 512 r.val]
  refine congrArg (· + _) (Finset.sum_congr rfl fun k _ => ?_)
  rw [sel_sge _ _ (by omega) (by omega)]
  exact if_congr Iff.rfl (dc_at m c t k l _ _ _ _ _ rfl rfl rfl rfl rfl) rfl

/-- The gradient of the gate, from the sums. -/
theorem pay1_at (v : FVec Ideal S512x128 .f32) (hv : v (ix2 r l) = suffix (grad (K m c) (Q m c) l) (row t + r.val)) :
    k0_pay1 (F := Ideal) v (iblk m c 5 t) (iblk m c 6 t) (ix2 r l)
      = dz (gate (P m c) (B m c) l) (grad (K m c) (Q m c) l) (row t + r.val) := by
  pointwise [k0_pay1, X5_at, X6_at, gate_at, bias_at, hv]
  rw [gate_at, bias_at, dz, Ideal.logistic, neg_neg, zero_sub, zero_sub, neg_neg]
  refine congrArg (fun z => _ * Ideal.div 1 (1 + Ideal.exp z)) ?_
  have h := row_lt t r
  by_cases hl : l.val < 8
  · simp only [gate, h, hl, and_self, dite_true]
  · simp only [gate, hl, and_false, dite_false, add_zero]

/-- The sums from a row of the block on, once the block after left its own. -/
theorem sums_at (b : FVec Ideal S1x128 .f32) (hb : b (ix2 0 l) = suffix (grad (K m c) (Q m c) l) (row t + 512)) :
    k0_pay6 (F := Ideal) (iblk m c 0 t) (iblk m c 1 t) (iblk m c 2 t) (iblk m c 3 t) (iblk m c 4 t) b (ix2 r l)
      = suffix (grad (K m c) (Q m c) l) (row t + r.val) := by
  have ht := lt32 t
  rw [pay6_at, hb]
  exact suffix_split _ (by omega) (by unfold row; omega)

/-- The first block begins with nothing. -/
theorem start (h : t.val % 32 = 0) : (k0_pay4 (F := Ideal)) (ix2 0 l) = suffix (grad (K m c) (Q m c) l) (row t + 512) := by
  have ht := lt32 t
  have e : row t + 512 = 16384 := by unfold row; omega
  rw [e, suffix_last]
  pointwise [k0_pay4]

/-- The block's rows of the gate's gradient, added up. -/
def step (i : ℕ) : EReal := ∑ r : Fin 512, dz (gate (P m c) (B m c) l) (grad (K m c) (Q m c) l) ((31 - i) * 512 + r.val)

/-- What a point leaves in its block, given what it carried in. -/
theorem block_at (b : FVec Ideal S1x128 .f32) (hb : b (ix2 0 l) = suffix (grad (K m c) (Q m c) l) (row t + 512)) :
    k0_pay2 (F := Ideal) (k0_pay6 (iblk m c 0 t) (iblk m c 1 t) (iblk m c 2 t) (iblk m c 3 t) (iblk m c 4 t) b) (iblk m c 5 t) (iblk m c 6 t) (ix2 r l)
      = dz (gate (P m c) (B m c) l) (grad (K m c) (Q m c) l) (row t + r.val) := by
  pointwise [k0_pay2]
  exact pay1_at m c t r l _ (sums_at m c t r l b hb)

/-- What a point adds to the bias's gradient, given what it carried in. -/
theorem added_at (b v : FVec Ideal S1x128 .f32) (hb : b (ix2 0 l) = suffix (grad (K m c) (Q m c) l) (row t + 512)) :
    k0_pay3 (F := Ideal) (k0_pay6 (iblk m c 0 t) (iblk m c 1 t) (iblk m c 2 t) (iblk m c 3 t) (iblk m c 4 t) b) (iblk m c 5 t) (iblk m c 6 t) v (ix2 0 l)
      = v (ix2 0 l) + step m c l t.val := by
  pointwise [k0_pay3]
  exact congrArg (_ + ·) (Finset.sum_congr rfl fun r _ => pay1_at m c t r l _ (sums_at m c t r l b hb))

/-- What a point carries out, given what it carried in. -/
theorem carry_at (b : FVec Ideal S1x128 .f32) (hb : b (ix2 0 l) = suffix (grad (K m c) (Q m c) l) (row t + 512)) :
    k0_pay7 (F := Ideal) (iblk m c 0 t) (iblk m c 1 t) (iblk m c 2 t) (iblk m c 3 t) (iblk m c 4 t) b (ix2 0 l)
      = suffix (grad (K m c) (Q m c) l) (row t) := by
  pointwise [k0_pay7]
  exact sums_at m c t 0 l b hb

/-- After a point the carry holds the sum over the rows from its block on. -/
theorem carry : ∀ n (h : n < cfg0.N), (outsAt0 m c n h).2.2 (ix2 0 l)
    = suffix (grad (K m c) (Q m c) l) (row ⟨n, h⟩)
  | 0, h => by
    rw [outsAt0_A m c ⟨0, h⟩ rfl]
    frame_out
    exact carry_at m c ⟨0, h⟩ l _ (start m c _ l rfl)
  | n + 1, h => by
    have ht := lt32 ⟨n + 1, h⟩
    rw [outsAt0_B m c ⟨n + 1, h⟩ (by simp only at ht ⊢; omega)]
    frame_out
    refine carry_at m c ⟨n + 1, h⟩ l _ ((congrFun (Memref.IsWhole.read_unread _ _) _).trans <| (carry n (Nat.lt_of_succ_lt h)).trans (congrArg _ ?_))
    simp only [row] at ht ⊢
    omega

/-- What a later point carries in. -/
theorem carried_in (h : ¬ t.val % 32 = 0) (h' : t.val - 1 < cfg0.N) :
    (outsAt0 m c (t.val - 1) h').2.2 (ix2 0 l) = suffix (grad (K m c) (Q m c) l) (row t + 512) := by
  have ht := lt32 t
  refine (carry m c l _ h').trans (congrArg _ ?_)
  simp only [row]
  omega

/-- What a point leaves in its block of the gate's gradient. -/
theorem out7 : (outsAt0 m c t.val t.isLt).1 (ix2 r l)
    = dz (gate (P m c) (B m c) l) (grad (K m c) (Q m c) l) (row t + r.val) := by
  by_cases h : t.val % 32 = 0
  · rw [outsAt0_A m c t h]
    frame_out
    exact block_at m c t r l _ (start m c t l h)
  · rw [outsAt0_B m c t h]
    frame_out
    exact block_at m c t r l _ ((congrFun (Memref.IsWhole.read_unread _ _) _).trans (carried_in m c t l h _))

/-- The first point's rows, added to zero. -/
theorem out8_A (h : t.val % 32 = 0) : (outsAt0 m c t.val t.isLt).2.1 (ix2 0 l) = 0 + step m c l t.val := by
  rw [outsAt0_A m c t h]
  frame_out
  refine (added_at m c t l _ _ (start m c t l h)).trans (congrArg (· + _) ?_)
  pointwise [k0_pay5]

/-- A later point adds its rows to what the point before left. -/
theorem out8_B (h : ¬ t.val % 32 = 0) : (outsAt0 m c t.val t.isLt).2.1 (ix2 0 l)
    = (outsAt0 m c (t.val - 1) (by omega)).2.1 (ix2 0 l) + step m c l t.val := by
  rw [outsAt0_B m c t h]
  frame_out
  exact added_at m c t l _ _ ((congrFun (Memref.IsWhole.read_unread _ _) _).trans (carried_in m c t l h _))

/-- After a point the bias's gradient holds the sums over the rows so far. -/
theorem out8 : ∀ n (h : n < cfg0.N), (outsAt0 m c n h).2.1 (ix2 0 l) = ∑ i ∈ Finset.range (n + 1), step m c l i :=
  carried (fun n h => (outsAt0 m c n h).2.1 (ix2 0 l)) (step m c l)
    (fun h => (out8_A m c ⟨0, h⟩ l rfl).trans (zero_add _))
    (fun n h => out8_B m c ⟨n + 1, h⟩ l (by have := lt32 ⟨n + 1, h⟩; simp only at this ⊢; omega))

/-- After the run the first result is the gradient of the gate before its bias. -/
theorem final7 : (dats m 0 c).arrAt 7 cfg0.N
    = fun i => dz (gate (P m c) (B m c) (i 1)) (grad (K m c) (Q m c) (i 1)) (i 0).val := by
  refine (dats m 0 c).arrAt_eq_of_covers 7 _ (by decide +kernel) fun t hf y => ?_
  blk_simp
  rw [after0_7]
  idx_vars y
  refine (out7 m c t y0 y1).trans ?_
  have e1 : ∀ (a b : Fin 128) (n k : ℕ), a = b → n = k → dz (gate (P m c) (B m c) a) (grad (K m c) (Q m c) a) n = dz (gate (P m c) (B m c) b) (grad (K m c) (Q m c) b) k := by
    rintro a _ n _ rfl rfl; rfl
  refine e1 _ _ _ _ (Fin.ext ?_) ?_
  · blk_ext [idx t]
  · unfold row
    blk_ext [idx t]

/-- After the run the second result is the gradient of the bias. -/
theorem final8 : (dats m 0 c).arrAt 8 cfg0.N
    = fun i => ∑ n : Fin 16384, dz (gate (P m c) (B m c) (i 1)) (grad (K m c) (Q m c) (i 1)) n.val := by
  refine (dats m 0 c).arrAt_eq_of_covers 8 _ (by decide +kernel) fun t hf y => ?_
  have ht : t.val = 31 := by
    have := (flush0_8 t).mp hf
    have := lt32 t
    omega
  blk_simp
  rw [after0_8]
  idx_vars y
  obtain rfl : y0 = 0 := Subsingleton.elim _ _
  refine (out8 m c y1 t.val t.isLt).trans ?_
  rw [ht]
  refine (Finset.sum_range_reflect (fun i => ∑ r : Fin 512, dz (gate (P m c) (B m c) y1) (grad (K m c) (Q m c) y1) (i * 512 + r.val)) 32).trans ?_
  rw [sum_steps (L := 16384) 32 512 (fun n => dz (gate (P m c) (B m c) y1) (grad (K m c) (Q m c) y1) n) rfl]
  have e1 : ∀ (a b : Fin 128), a = b → (∑ n : Fin 16384, dz (gate (P m c) (B m c) a) (grad (K m c) (Q m c) a) n.val) = ∑ n : Fin 16384, dz (gate (P m c) (B m c) b) (grad (K m c) (Q m c) b) n.val := by
    rintro a _ rfl; rfl
  refine e1 _ _ (Fin.ext ?_)
  blk_ext [idx t]

end Cert.ForgetIdeal.Sem
end
-- ==== Proof.Windows.lean ====
module
public import Idealize.ShloMosaic.Lib.Routing.Ops
public import Idealize.ShloMosaic.Lib.Pointwise
@[expose] public section

/-!
# Running sums along the rows of an array

A window as tall as the array, moved down row by row over an array padded with zeros, sums the rows from a row on.
-/

namespace Cert.Step

open Idealize.ShloMosaic

/-- A fold of exact additions over the numbers below `n`. -/
theorem foldl_add {n : ℕ} (f : Fin n → EReal) (a : EReal) :
    (List.finRange n).foldl (fun r k => r + f k) a = a + ∑ k : Fin n, f k := by
  have h : ∀ (L : List (Fin n)) (a : EReal), L.foldl (fun r k => r + f k) a = a + (L.map f).sum := by
    intro L
    induction L with
    | nil => intro a; simp
    | cons x L ih => intro a; rw [List.foldl_cons, ih, List.map_cons, List.sum_cons, add_assoc]
  rw [h, ← List.ofFn_eq_map, List.sum_ofFn]

/-- Rows from a row on: the window padded below. -/
theorem sum_below (N : ℕ) (g : ℕ → EReal) (j : ℕ) (hj : j < N) :
    (∑ a : Fin N, if j + a.val < N then g (j + a.val) else 0) = ∑ i ∈ Finset.Ico j N, g i := by
  rw [Finset.sum_Ico_eq_sum_range, Fin.sum_univ_eq_sum_range (fun a => if j + a < N then g (j + a) else 0) N, ← Finset.sum_filter]
  congr 1
  ext k
  simp only [Finset.mem_filter, Finset.mem_range]
  omega

/-- The host's sum over windows of `N` rows and one lane, the array padded with zeros below. -/
theorem window_below {N L : ℕ} (hi : ℕ) (hN : hi + 1 = N) (x : (⟨2, ![N, L]⟩ : Shape).Idx → EReal)
    (h : (⟨2, ![N, L]⟩ : Shape).ReduceWindows ![N, 1] ![1, 1] ![0, 0] ![hi, 0] ⟨2, ![N, L]⟩) (g : ℕ → EReal) (j : Fin N) (l : Fin L)
    (hg : ∀ n : Fin N, x (ix2 n l) = g n.val) :
    Ideal.hostReduceWindowAdd ![N, 1] ![1, 1] ![0, 0] ![hi, 0] h x 0 (ix2 j l) = ∑ i ∈ Finset.Ico j.val N, g i := by
  unfold Ideal.hostReduceWindowAdd Host.reduceWindow
  rw [foldl_add, zero_add, ← sum_below N g j.val j.isLt,
    ← Equiv.sum_comp ((⟨2, ![N, 1]⟩ : Shape).rowMajor), sum_idx2]
  simp only [Equiv.symm_apply_apply, Fin.sum_univ_one]
  refine Finset.sum_congr rfl fun a _ => ?_
  by_cases hlt : j.val + a.val < N
  · rw [if_pos hlt, dif_pos ?_]
    · refine Eq.trans (congrArg x ?_) (hg ⟨j.val + a.val, hlt⟩)
      funext b
      apply Fin.ext
      match b with
      | ⟨0, _⟩ => show j.val * 1 + a.val - 0 = j.val + a.val; omega
      | ⟨1, _⟩ => show l.val * 1 + 0 - 0 = l.val; omega
    · intro b
      match b with
      | ⟨0, _⟩ => show 0 ≤ j.val * 1 + a.val ∧ j.val * 1 + a.val - 0 < N; omega
      | ⟨1, _⟩ => show 0 ≤ l.val * 1 + 0 ∧ l.val * 1 + 0 - 0 < L; have := l.isLt; omega
  · rw [if_neg hlt, dif_neg ?_]
    intro hin
    have h0 : 0 ≤ j.val * 1 + a.val ∧ j.val * 1 + a.val - 0 < N := hin 0
    omega

end Cert.Step
end
-- ==== Proof.Softplus.lean ====
module
public import Idealize.ShloMosaic.Lib.Pointwise
@[expose] public section

/-!
# The derivative of the softplus

The host's derivative of `log (1 + eˣ)` is the exponential of `x` less the softplus, with both replaced by zero where they are
infinite; on every extended real it is the sigmoid.
-/

noncomputable section

namespace Cert.Step

open Idealize.ShloMosaic

/-- The softplus as the host computes it. -/
def softplus (x : EReal) : EReal := max x 0 + Ideal.log1p (Ideal.exp (-(max x (-x))))

theorem softplus_coe (r : ℝ) : softplus r = ((Real.log (1 + Real.exp r) : ℝ) : EReal) := by
  have h1 : 0 < 1 + Real.exp (-(max r (-r))) := by positivity
  have e : (max (r : EReal) (-(r : EReal))) = ((max r (-r) : ℝ) : EReal) := by
    rw [← EReal.coe_neg, ← EReal.coe_strictMono.monotone.map_max]
  have e0 : (max (r : EReal) 0) = ((max r 0 : ℝ) : EReal) := by
    rw [← EReal.coe_zero, ← EReal.coe_strictMono.monotone.map_max]
  rw [softplus, e, e0, ← EReal.coe_neg, Ideal.exp_coe, Ideal.log1p, ← EReal.coe_one, ← EReal.coe_add, Ideal.log_coe,
    if_neg (not_le.mpr h1), ← EReal.coe_add]
  congr 1
  have h2 : Real.exp (max r 0) * (1 + Real.exp (-(max r (-r)))) = 1 + Real.exp r := by
    rcases le_total r 0 with h | h
    · rw [max_eq_right h, max_eq_right (by linarith), Real.exp_zero, neg_neg, one_mul]
    · rw [max_eq_left h, max_eq_left (by linarith), mul_add, mul_one, ← Real.exp_add]
      simp [add_comm]
  rw [← h2, Real.log_mul (Real.exp_pos _).ne' h1.ne', Real.log_exp]

theorem softplus_bot : softplus ⊥ = 0 := by
  rw [softplus, EReal.neg_bot, max_eq_right bot_le, max_eq_right bot_le, EReal.neg_top, Ideal.exp_bot, Ideal.log1p, add_zero,
    ← EReal.coe_one, Ideal.log_coe, if_neg (by norm_num), Real.log_one]
  simp

theorem softplus_top : softplus ⊤ = ⊤ := by
  rw [softplus, EReal.neg_top, max_eq_left le_top, max_eq_left le_top, EReal.neg_top, Ideal.exp_bot, Ideal.log1p, add_zero,
    ← EReal.coe_one, Ideal.log_coe, if_neg (by norm_num), Real.log_one]
  simp

/-- The derivative of the softplus is the sigmoid. -/
theorem exp_sub_softplus (x : EReal) :
    Ideal.exp ((if x = ⊤ then 0 else x) - (if softplus x = ⊤ then 0 else softplus x)) = Ideal.logistic x := by
  induction x using EReal.rec with
  | bot => rw [softplus_bot, if_neg bot_ne_top, if_neg EReal.zero_ne_top, sub_zero, Ideal.logistic_bot, Ideal.exp_bot]
  | top =>
    rw [softplus_top, if_pos rfl, sub_zero, Ideal.logistic_top, ← EReal.coe_zero, Ideal.exp_coe, Real.exp_zero]
    rfl
  | coe r =>
    have h : 0 < 1 + Real.exp r := by positivity
    rw [softplus_coe, if_neg (EReal.coe_ne_top _), if_neg (EReal.coe_ne_top _), ← EReal.coe_sub, Ideal.exp_coe, Ideal.logistic_coe,
      Real.exp_sub, Real.exp_log h, Real.exp_neg]
    congr 1
    have := (Real.exp_pos r).ne'
    field_simp
    ring

end Cert.Step
end
-- ==== Proof.Forget.Ref.lean ====
module
public import proofs.«01_k».proof.Proof.Gen.ForgetRefIdeal.Read
public import proofs.«01_k».proof.Proof.Forget.Spec
public import proofs.«01_k».proof.Proof.Windows
public import proofs.«01_k».proof.Proof.Softplus
public import Idealize.ShloMosaic.Lib.Pointwise
@[expose] public section
set_option maxRecDepth 16384

noncomputable section

namespace Cert.ForgetRefIdeal.Sem

open Cert.ForgetRefIdeal Cert.ForgetRefIdeal.Gen Cert.ForgetRefIdeal.Read Idealize.ShloMosaic
open Cert.Step.Forget

variable (P : FVec Ideal S16384x3080 .f32) (B : FVec Ideal S1x8 .f32) (K Q : FVec Ideal S16384x8 .f32)

/-- The suffix sums. -/
theorem suf_at (n : Fin 16384) (l : Fin 8) (g : ℕ → EReal) (hg : ∀ i : Fin 16384, K (ix2 i l) + Q (ix2 i l) = g i.val) :
    val_main_v6 (F := Ideal) K Q (ix2 n l) = suffix g n.val := by
  refine Eq.trans ?_ (Cert.Step.window_below 16383 rfl (val_main_v5 (F := Ideal) K Q) reduceWindows_S16384x8_S16384x8_w16384s1p0_16383_w1s1p0_0 g n l ?_)
  · have e : val_main_call2_call0_v0 (F := Ideal) (Shape.Idx.first h_S_) = 0 := by
      rw [val_main_call2_call0_v0_apply, val_main_call2_call0_cst_apply]; exact Ideal.ofBits_zero_f32
    unfold val_main_v6 Host.reduceWindowAdd
    rw [Ideal.hostReduceWindowAdd_def, e]
  · intro i
    rw [← hg i]
    pointwise [val_main_v5]

theorem sig_at (n : Fin 16384) (l : Fin 8) :
    val_main_v3_1 (F := Ideal) P B (ix2 n l) = Ideal.logistic (-(P (ix2 n ⟨1536 + l.val, by omega⟩) + B (ix2 0 l))) := by
  pointwise [val_main_v3_1, val_main_call0_call0_v21, val_main_call0_call0_v20, val_main_call0_call0_v19, val_main_call0_call0_v18, val_main_call0_call0_v17, val_main_call0_call0_v16, val_main_call0_call0_v15, val_main_call0_call0_v14, val_main_call0_call0_v13, val_main_call0_v1_0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_v0, val_main_v2, val_main_v1, val_main_v0, val_main_call0_call0_cst, val_main_call0_call0_cst_0, val_main_call0_call0_cst_1, val_main_call0_call0_cst_2, val_main_call0_call0_cst_3]
  have top : Ideal.ofBits .f32 2139095040#32 = (⊤ : EReal) := by simp [Ideal.ofBits, Ideal.ieee]
  simp only [top, ne_eq, not_true_eq_false, if_false, Ideal.absf_def]
  exact Cert.Step.exp_sub_softplus _

/-- The gradient of the gate. -/
theorem dz_at (n : Fin 16384) (l : Fin 8) (f g : ℕ → EReal) (hg : ∀ i : Fin 16384, K (ix2 i l) + Q (ix2 i l) = g i.val)
    (hf : P (ix2 n ⟨1536 + l.val, by omega⟩) + B (ix2 0 l) = f n.val) :
    val_main_v7 (F := Ideal) P B K Q (ix2 n l) = dz f g n.val := by
  pointwise [val_main_v7, val_main_call3_v1, val_main_call3_v0, sig_at, suf_at K Q n l g hg]
  rw [hf, dz, neg_mul, neg_neg]

/-- The first result: the gradient of the gate, padded with zeros to 128 lanes. -/
theorem out_at (n : Fin 16384) (l : Fin 128) :
    val_main_v11 (F := Ideal) P B K Q (ix2 n l)
      = dz (gate (fun i j => P (ix2 i j)) (fun j => B (ix2 0 j)) l) (grad (fun i j => K (ix2 i j)) (fun i j => Q (ix2 i j)) l) n.val := by
  pointwise [val_main_v11, val_main_v10]
  have z : val_main_call4_v0 (F := Ideal) (Shape.Idx.first h_S_) = 0 := by
    show ((((0#32 : BitVec 32).toInt : ℝ)) : EReal) = 0
    simp
  split_ifs with h
  · exact dz_at P B K Q n ⟨l.val, h⟩ _ _ (fun i => by simp only [grad, i.isLt, h, and_self, dite_true])
      (by simp only [gate, n.isLt, h, and_self, dite_true])
  · rw [dz_zero _ _ _ _ h, z]

/-- The second result: the gradient of the gate's bias. -/
theorem bias_at (l : Fin 128) :
    val_main_v12 (F := Ideal) P B K Q (ix2 0 l)
      = ∑ n : Fin 16384, dz (gate (fun i j => P (ix2 i j)) (fun j => B (ix2 0 j)) l) (grad (fun i j => K (ix2 i j)) (fun i j => Q (ix2 i j)) l) n.val := by
  pointwise [val_main_v12, val_main_v9, val_main_v8]
  have z : val_main_call5_v0 (F := Ideal) (Shape.Idx.first h_S_) = 0 := by
    show ((((0#32 : BitVec 32).toInt : ℝ)) : EReal) = 0
    simp
  have z' : val_main_cst (F := Ideal) (Shape.Idx.first h_S_) = 0 := by
    rw [val_main_cst_apply]; exact Ideal.ofBits_zero_f32
  split_ifs with h
  · rw [z', zero_add]
    exact Finset.sum_congr rfl fun n _ => dz_at P B K Q n ⟨l.val, h⟩ _ _ (fun i => by simp only [grad, i.isLt, h, and_self, dite_true])
      (by simp only [gate, n.isLt, h, and_self, dite_true])
  · rw [z]
    exact (Finset.sum_eq_zero fun n _ => dz_zero _ _ _ _ h _).symm

end Cert.ForgetRefIdeal.Sem
end
-- ==== Proof.Forget.Claim.lean ====
module
public import proofs.«01_k».proof.Defs
public import proofs.«01_k».proof.Proof.Gen.Forget
public import proofs.«01_k».proof.Proof.Gen.Forget.Frame
public import proofs.«01_k».proof.Proof.Gen.ForgetIdeal
public import proofs.«01_k».proof.Proof.Gen.ForgetRefIdeal
public import proofs.«01_k».proof.Proof.Gen.ForgetRefIdeal.Run
public import proofs.«01_k».proof.Proof.Forget.Kern
public import proofs.«01_k».proof.Proof.Forget.Ref
@[expose] public section

/-!
# The claim of the forget gate's gradient

Both programs leave the gradient of the gate's logits, and the gradient of its bias, of the same arguments.
-/

noncomputable section

namespace Cert.Step.Forget

open Idealize.ShloMosaic Idealize.SL.Sem

theorem algebraic : Cert.algebraic_ForgetIdeal_ForgetRefIdeal (hForgetIdeal := Cert.ForgetIdeal.Gen.facts)
    (hForgetRefIdeal := Cert.ForgetRefIdeal.Gen.facts) := by
  pair_intro
  · run_from Cert.ForgetIdeal.Value.run_blocks m g
  · run_from Cert.ForgetRefIdeal.Value.run m' g'
    · rw [Cert.ForgetIdeal.Sem.final7, Cert.ForgetRefIdeal.Read.val_main_v11_eq]
      obtain ⟨a0, a1, a2, a3⟩ := hagree c
      rw [a0, a1, a2, a3]
      funext i
      exact (congrArg _ (ix2_eta i).symm).trans (Cert.ForgetRefIdeal.Sem.out_at _ _ _ _ (i 0) (i 1))
    · rw [Cert.ForgetIdeal.Sem.final8, Cert.ForgetRefIdeal.Read.val_main_v12_eq]
      obtain ⟨a0, a1, a2, a3⟩ := hagree c
      rw [a0, a1, a2, a3]
      funext i
      have h0 : i = ix2 (0 : Fin 1) (i 1) := (ix2_eta i).symm.trans (congrArg (fun z : Fin 1 => ix2 z (i 1)) (Subsingleton.elim _ _))
      refine (congrArg _ h0).trans ?_
      exact Cert.ForgetRefIdeal.Sem.bias_at _ _ _ _ (i 1)

end Cert.Step.Forget
end
-- ==== Proof.Cells.lean ====
/-
  Reading and updating a window of a buffer, by values. A core that owns a buffer and reads the values `X` through it
  runs a load of a window to `VecWindow.window X`, and a load–load–store of the same window (the shape of every
  accumulation of the attention kernels) to the values with the new window put in.
-/
module

public import Idealize.ShloMosaic.Lib.VecWindow
public import Idealize.ShloMosaic.Lib.Memref
public import Idealize.ShloMosaic.Rules.Step

@[expose] public section

noncomputable section

namespace Cert.Cells

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
local notation "𝕄" => MT nD τ sig Ix Val Name U Lvl
variable [Preorder Lvl] {defs : Defs nD τ sig Val Λ} (𝒱 : Variants) (c : Thread nD τ) (bd : Option 𝒱.V)
variable (E : Set Name) {s : Shape} {e : EltTy} {α : Type} {cs : CoreSpace}

/-- A load of a window. -/
def ld {p : Proc τ} (m : Memref sig p.kind cs s e) (off size : Fin s.rank → ℕ) (inb : ∀ a, off a + size a ≤ s.size a)
    (hl : m.view.LoadsAt (Rect.unit off size inb).toLoadRect) : Prog (TpuEff nD τ sig Val Λ p) ((Rect.unit off size inb).shape.Idx → Val e) :=
  Prog.lift (.load m (Rect.unit off size inb).toLoadRect hl)

/-- A store of a window. -/
def st {p : Proc τ} (m : Memref sig p.kind cs s e) (off size : Fin s.rank → ℕ) (inb : ∀ a, off a + size a ≤ s.size a)
    (w : (Rect.unit off size inb).shape.Idx → Val e) (hx : (m.access (Rect.unit off size inb)).Stores Finset.univ) :
    Prog (TpuEff nD τ sig Val Λ p) PUnit :=
  Prog.lift (.store m (Rect.unit off size inb) w Finset.univ hx (.inl rfl))

/-- The window loaded, loaded again, and stored as a function of what it held. -/
def upd {p : Proc τ} (m : Memref sig p.kind cs s e) (off size : Fin s.rank → ℕ) (inb : ∀ a, off a + size a ≤ s.size a)
    (hl : m.view.LoadsAt (Rect.unit off size inb).toLoadRect) (hx : (m.access (Rect.unit off size inb)).Stores Finset.univ)
    (f : ((Rect.unit off size inb).shape.Idx → Val e) → ((Rect.unit off size inb).shape.Idx → Val e)) :
    Prog (TpuEff nD τ sig Val Λ p) PUnit := do
  let a ← ld m off size inb hl
  let _ ← ld m off size inb hl
  st m off size inb (f a) hx

variable {m : Memref sig c.2.kind cs s e} {off size : Fin s.rank → ℕ} {inb : ∀ a, off a + size a ≤ s.size a}

theorem ld_spec {hl : m.view.LoadsAt (Rect.unit off size inb).toLoadRect} {q : PosShare TreeShare} {X : s.Idx → Val e}
    {Q : ((Rect.unit off size inb).shape.Idx → Val e) → sProp 𝕄} :
    owns c m q X ⊢ iprop((owns c m q X -∗ Q (VecWindow.window X off size inb))
      -∗ wp frame (wpE defs 𝒱 c bd) E (ld m off size inb hl) Q) := by
  unfold owns ld
  iintro ⟨%f, %hf, H⟩ HQ
  iapply (wp_load 𝒱 c bd E (hl := hl) (k := Prog.ret) (m.view.setOn_subset_set _)) $$ H
  iintro H
  rw [wp_ret]
  imodintro
  rw [show m.view.readAt Val (Rect.unit off size inb).toLoadRect f = VecWindow.window X off size inb from
    (View.readAt_unit m.view f inb rfl inb).trans (by rw [hf])]
  iapply HQ
  iexists f
  isplitr
  · ipureintro; exact hf
  iexact H

theorem st_spec {w : (Rect.unit off size inb).shape.Idx → Val e} {hx : (m.access (Rect.unit off size inb)).Stores Finset.univ}
    {X : s.Idx → Val e} {Q : PUnit → sProp 𝕄} :
    owns c m fullShare X ⊢ iprop((owns c m fullShare (VecWindow.put X off size w) -∗ Q ⟨⟩)
      -∗ wp frame (wpE defs 𝒱 c bd) E (st m off size inb w hx) Q) := by
  unfold owns st
  iintro ⟨%f, %hf, H⟩ HQ
  iapply (wp_store 𝒱 c bd E (hx := hx) (hm := .inl rfl) (k := Prog.ret) (View.set_slice_subset m.view _)) $$ H
  iintro H
  rw [wp_ret]
  imodintro
  iapply HQ
  iexists _
  isplitr
  swap
  · iexact H
  ipureintro
  refine (View.read_writes_cons_put m.view f inb w [] rfl).trans ?_
  rw [View.writes_nil, hf]

theorem upd_spec {hl : m.view.LoadsAt (Rect.unit off size inb).toLoadRect} {hx : (m.access (Rect.unit off size inb)).Stores Finset.univ}
    {f : ((Rect.unit off size inb).shape.Idx → Val e) → ((Rect.unit off size inb).shape.Idx → Val e)}
    {X : s.Idx → Val e} {Q : PUnit → sProp 𝕄} :
    owns c m fullShare X ⊢ iprop((owns c m fullShare (VecWindow.put X off size (f (VecWindow.window X off size inb))) -∗ Q ⟨⟩)
      -∗ wp frame (wpE defs 𝒱 c bd) E (upd m off size inb hl hx f) Q) := by
  unfold upd
  iintro H HQ
  rw [wp_bind]
  iapply (ld_spec 𝒱 c bd E) $$ H
  iintro H
  rw [wp_bind]
  iapply (ld_spec 𝒱 c bd E) $$ H
  iintro H
  iapply (st_spec 𝒱 c bd E) $$ H
  iexact HQ

/-! ### The whole of a buffer -/

/-- The window loaded and then stored. -/
def ovw {p : Proc τ} (m : Memref sig p.kind cs s e) (off size : Fin s.rank → ℕ) (inb : ∀ a, off a + size a ≤ s.size a)
    (hl : m.view.LoadsAt (Rect.unit off size inb).toLoadRect) (hx : (m.access (Rect.unit off size inb)).Stores Finset.univ)
    (w : (Rect.unit off size inb).shape.Idx → Val e) : Prog (TpuEff nD τ sig Val Λ p) PUnit := do
  let _ ← ld m off size inb hl
  st m off size inb w hx

theorem window_whole {γ : Type} (X : s.Idx → γ) (off : Fin s.rank → ℕ) (inb : ∀ a, off a + s.size a ≤ s.size a) :
    VecWindow.window X off s.size inb = X := by
  funext y
  refine congrArg X (funext fun a => Fin.ext ?_)
  have : ((Rect.unit off s.size inb).emb y a).val = off a + 1 * (y a).val := rfl
  have := inb a
  omega

theorem put_whole {γ : Type} (X w : s.Idx → γ) (off : Fin s.rank → ℕ) (inb : ∀ a, off a + s.size a ≤ s.size a) :
    VecWindow.put X off s.size w = w := by
  rw [← window_whole (VecWindow.put X off s.size w) off inb]
  exact VecWindow.window_put_same X off s.size inb w

theorem ld_whole {off : Fin s.rank → ℕ} {inb : ∀ a, off a + s.size a ≤ s.size a}
    {hl : m.view.LoadsAt (Rect.unit off s.size inb).toLoadRect} {q : PosShare TreeShare} {X : s.Idx → Val e}
    {Q : (s.Idx → Val e) → sProp 𝕄} :
    owns c m q X ⊢ iprop((owns c m q X -∗ Q X) -∗ wp frame (wpE defs 𝒱 c bd) E (ld m off s.size inb hl) Q) := by
  iintro H HQ
  iapply (ld_spec 𝒱 c bd E (hl := hl) (Q := Q)) $$ H
  rw [window_whole X off inb]
  iexact HQ

theorem ovw_whole {off : Fin s.rank → ℕ} {inb : ∀ a, off a + s.size a ≤ s.size a}
    {hl : m.view.LoadsAt (Rect.unit off s.size inb).toLoadRect} {hx : (m.access (Rect.unit off s.size inb)).Stores Finset.univ}
    {w X : s.Idx → Val e} {Q : PUnit → sProp 𝕄} :
    owns c m fullShare X ⊢ iprop((owns c m fullShare w -∗ Q ⟨⟩)
      -∗ wp frame (wpE defs 𝒱 c bd) E (ovw m off s.size inb hl hx w) Q) := by
  unfold ovw
  iintro H HQ
  rw [wp_bind]
  iapply (ld_spec 𝒱 c bd E) $$ H
  iintro H
  iapply (st_spec 𝒱 c bd E (w := w) (hx := hx)) $$ H
  rw [put_whole X w off inb]
  iexact HQ

theorem upd_whole {off : Fin s.rank → ℕ} {inb : ∀ a, off a + s.size a ≤ s.size a}
    {hl : m.view.LoadsAt (Rect.unit off s.size inb).toLoadRect} {hx : (m.access (Rect.unit off s.size inb)).Stores Finset.univ}
    {f : (s.Idx → Val e) → (s.Idx → Val e)} {X : s.Idx → Val e} {Q : PUnit → sProp 𝕄} :
    owns c m fullShare X ⊢ iprop((owns c m fullShare (f X) -∗ Q ⟨⟩)
      -∗ wp frame (wpE defs 𝒱 c bd) E (upd m off s.size inb hl hx f) Q) := by
  iintro H HQ
  iapply (upd_spec 𝒱 c bd E (f := f) (hx := hx) (hl := hl)) $$ H
  rw [put_whole X _ off inb, window_whole X off inb]
  iexact HQ

end Cert.Cells
-- ==== Proof.AttnIdeal.Blocks.lean ====
/-
  The attention backward kernel, a block of keys against a block of queries at a time: the arithmetic of one head of one
  block as functions of what is loaded, the block as a program of five window updates, and what the program does to the
  five accumulators.
-/
module

public import proofs.«01_k».proof.Proof.Gen.AttnIdeal.Frame
public import proofs.«01_k».proof.Proof.Cells

@[expose] public section

set_option maxRecDepth 16384

noncomputable section

namespace Cert.AttnIdeal.Body

open Cert.AttnIdeal Cert.AttnIdeal.Gen Cert.Cells
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The five accumulators: the gradients of the keys, the values and the key bias of this block of keys (both heads),
    and those of the queries and the query bias of the whole pair of heads. -/
@[ext] structure St (F : FTy → Type) where
  dk : Vec F S2x128x512 .f32
  dv : Vec F S2x128x512 .f32
  dc : Vec F S2x512x1 .f32
  dq : Vec F S128x16384 .f32
  dcq : Vec F S1x8x16384 .f32

/-! ### 512 keys against 512 queries -/

/-- The weight of each query (column) on each key (row): the power of two of the score. -/
def pU (ks : FVec F S512x128 .bf16) (cs : FVec F S512x1 .f32) (q2 : FVec F S128x512 .bf16) (al : Vec F S1x1x512 .f32) : FVec F S512x512 .f32 :=
  exp2 (addf (matmul dot_S512x128_S128x512_S512x512_1_0_0_1_n_n none ks q2 (constant S512x512 .f32 0x00000000#32))
    (subf (broadcastTo S512x512 (shapeCast S1x512 al shapeCasts_S1x1x512_S1x512) broadcasts_S1x512_S512x512) (broadcastTo S512x512 cs broadcasts_S512x1_S512x512)))

/-- The gradient of the score. -/
def dsU (p : FVec F S512x512 .f32) (vs : FVec F S512x128 .bf16) (d2 : FVec F S128x512 .bf16) (dl : Vec F S1x1x512 .f32) : FVec F S512x512 .f32 :=
  mulf p (subf (matmul dot_S512x128_S128x512_S512x512_1_0_0_1_n_n none vs d2 (constant S512x512 .f32 0x00000000#32))
    (broadcastTo S512x512 (shapeCast S1x512 dl shapeCasts_S1x1x512_S1x512) broadcasts_S1x512_S512x512))

/-- What the block adds to the gradient of the values (from `d2` and the weights) and of the keys (from the queries and the score's gradient). -/
def addTU (x : FVec F S128x512 .bf16) (y : FVec F S512x512 .f32) (a : Vec F S1x128x512 .f32) : Vec F S1x128x512 .f32 :=
  shapeCast S1x128x512 (addf (shapeCast S128x512 a shapeCasts_S1x128x512_S128x512)
    (matmul dot_S128x512_S512x512_S128x512_1_1_0_0_n_n none x (truncf .bf16 y bitsLt_bf16_f32) (constant S128x512 .f32 0x00000000#32))) shapeCasts_S128x512_S1x128x512

/-- What it adds to the gradient of the key bias. -/
def addCU (y : FVec F S512x512 .f32) (a : Vec F S1x512x1 .f32) : Vec F S1x512x1 .f32 :=
  shapeCast S1x512x1 (addf (shapeCast S512x1 a shapeCasts_S1x512x1_S512x1)
    (shapeCast S512x1 (multiReduction .add [1] S512 y 0x00000000#32 reduces_S512x512_S512 (.inl rfl) rfl) shapeCasts_S512_S512x1)) shapeCasts_S512x1_S1x512x1

/-- What it adds to the gradient of the query bias. -/
def addRU (y : FVec F S512x512 .f32) (a : Vec F S1x1x512 .f32) : Vec F S1x1x512 .f32 :=
  shapeCast S1x1x512 (addf (shapeCast S1x512 a shapeCasts_S1x1x512_S1x512)
    (shapeCast S1x512 (multiReduction .add [0] S512 y 0x00000000#32 reduces_S512x512_S512_2 (.inl rfl) rfl) shapeCasts_S512_S1x512)) shapeCasts_S1x512_S1x1x512

/-- What it adds to the gradient of the queries. -/
def addQU (kt : FVec F S128x512 .bf16) (y : FVec F S512x512 .f32) (a : Vec F S128x512 .f32) : Vec F S128x512 .f32 :=
  addf (shapeCast S128x512 a shapeCasts_S128x512_S128x512)
    (matmul dot_S128x512_S512x512_S128x512_1_0_0_1_n_n none kt (truncf .bf16 y bitsLt_bf16_f32) (constant S128x512 .f32 0x00000000#32))

section
variable (ks vs : FVec F S512x128 .bf16) (cs : FVec F S512x1 .f32) (kt : FVec F S128x512 .bf16) (q2 d2 : FVec F S128x512 .bf16)
  {o2 : Fin 2 → ℕ} (i2 : ∀ a, o2 a + S128x512.size a ≤ S128x16384.size a)
  {o3 : Fin 3 → ℕ} (i3 : ∀ a, o3 a + S1x1x512.size a ≤ S1x8x16384.size a)
  {oT : Fin 3 → ℕ} (iT : ∀ a, oT a + S1x128x512.size a ≤ S2x128x512.size a)
  {oC : Fin 3 → ℕ} (iC : ∀ a, oC a + S1x512x1.size a ≤ S2x512x1.size a)
  (x8 x9 : Vec F S1x8x16384 .f32)
  (m8 m9 m14 : Memref sig .tc .vmem S1x8x16384 .f32) (m10 : Memref sig .tc .vmem S128x16384 .f32)
  (m15 m16 : Memref sig .tc .vmem S2x128x512 .f32) (m17 : Memref sig .tc .vmem S2x512x1 .f32)

/-- One head of the block, as a program. -/
def headU : Prog (TpuEff nD τ sig (Elt F) Λ₀ .tc) PUnit := do
  let al ← ld (p := .tc) m8 o3 S1x1x512.size i3 (View.loadsAt_vmem h_S1x1x512)
  let dl ← ld (p := .tc) m9 o3 S1x1x512.size i3 (View.loadsAt_vmem h_S1x1x512)
  upd (p := .tc) m16 oT S1x128x512.size iT (View.loadsAt_vmem h_S1x128x512) (View.stores_vmem_bits_univ h_S1x128x512 rfl) (addTU d2 (pU ks cs q2 al))
  upd (p := .tc) m15 oT S1x128x512.size iT (View.loadsAt_vmem h_S1x128x512) (View.stores_vmem_bits_univ h_S1x128x512 rfl) (addTU q2 (dsU (pU ks cs q2 al) vs d2 dl))
  upd (p := .tc) m17 oC S1x512x1.size iC (View.loadsAt_vmem h_S1x512x1) (View.stores_vmem_bits_univ h_S1x512x1 rfl) (addCU (dsU (pU ks cs q2 al) vs d2 dl))
  upd (p := .tc) m14 o3 S1x1x512.size i3 (View.loadsAt_vmem h_S1x1x512) (View.stores_vmem_bits_univ h_S1x1x512 rfl) (addRU (dsU (pU ks cs q2 al) vs d2 dl))
  upd (p := .tc) m10 o2 S128x512.size i2 (View.loadsAt_vmem h_S128x512) (View.stores_vmem_bits_univ h_S128x512 rfl) (addQU kt (dsU (pU ks cs q2 al) vs d2 dl))

/-- The weights of the block's head, from the whole arrays. -/
def wU : FVec F S512x512 .f32 := pU ks cs q2 (VecWindow.window x8 o3 S1x1x512.size i3)
/-- The score's gradient, from the whole arrays. -/
def gU : FVec F S512x512 .f32 := dsU (wU ks cs q2 i3 x8) vs d2 (VecWindow.window x9 o3 S1x1x512.size i3)

/-- What the program does to the accumulators. -/
def stepU (σ : St F) : St F where
  dv := VecWindow.put σ.dv oT S1x128x512.size (addTU d2 (wU ks cs q2 i3 x8) (VecWindow.window σ.dv oT S1x128x512.size iT))
  dk := VecWindow.put σ.dk oT S1x128x512.size (addTU q2 (gU ks vs cs q2 d2 i3 x8 x9) (VecWindow.window σ.dk oT S1x128x512.size iT))
  dc := VecWindow.put σ.dc oC S1x512x1.size (addCU (gU ks vs cs q2 d2 i3 x8 x9) (VecWindow.window σ.dc oC S1x512x1.size iC))
  dcq := VecWindow.put σ.dcq o3 S1x1x512.size (addRU (gU ks vs cs q2 d2 i3 x8 x9) (VecWindow.window σ.dcq o3 S1x1x512.size i3))
  dq := VecWindow.put σ.dq o2 S128x512.size (addQU kt (gU ks vs cs q2 d2 i3 x8 x9) (VecWindow.window σ.dq o2 S128x512.size i2))
end

/-- The buffers a block reads and accumulates into, at the whole arrays `x3 x4 x8 x9` and the accumulators `σ`. -/
def Own (c : Dev nD) (m3 m4 : Memref sig .tc .vmem S128x16384 .bf16) (m8 m9 m14 : Memref sig .tc .vmem S1x8x16384 .f32)
    (m10 : Memref sig .tc .vmem S128x16384 .f32) (m15 m16 : Memref sig .tc .vmem S2x128x512 .f32) (m17 : Memref sig .tc .vmem S2x512x1 .f32)
    (x3 x4 : Vec F S128x16384 .bf16) (x8 x9 : Vec F S1x8x16384 .f32) (σ : St F) : sProp 𝕄 :=
  iprop(owns (c : Thread nD τ) m3 fullShare x3 ∗ owns (c : Thread nD τ) m4 fullShare x4 ∗ owns (c : Thread nD τ) m8 fullShare x8
    ∗ owns (c : Thread nD τ) m9 fullShare x9 ∗ owns (c : Thread nD τ) m10 fullShare σ.dq ∗ owns (c : Thread nD τ) m14 fullShare σ.dcq
    ∗ owns (c : Thread nD τ) m15 fullShare σ.dk ∗ owns (c : Thread nD τ) m16 fullShare σ.dv ∗ owns (c : Thread nD τ) m17 fullShare σ.dc)

section
variable (ks ks' vs vs' : FVec F S512x128 .bf16) (cs cs' : FVec F S512x1 .f32) (kt kt' : FVec F S128x512 .bf16)
  {o2 : Fin 2 → ℕ} (i2 : ∀ a, o2 a + S128x512.size a ≤ S128x16384.size a)
  {o3 o3' : Fin 3 → ℕ} (i3 : ∀ a, o3 a + S1x1x512.size a ≤ S1x8x16384.size a) (i3' : ∀ a, o3' a + S1x1x512.size a ≤ S1x8x16384.size a)
  {oT oT' : Fin 3 → ℕ} (iT : ∀ a, oT a + S1x128x512.size a ≤ S2x128x512.size a) (iT' : ∀ a, oT' a + S1x128x512.size a ≤ S2x128x512.size a)
  {oC oC' : Fin 3 → ℕ} (iC : ∀ a, oC a + S1x512x1.size a ≤ S2x512x1.size a) (iC' : ∀ a, oC' a + S1x512x1.size a ≤ S2x512x1.size a)
  (x3 x4 : Vec F S128x16384 .bf16) (x8 x9 : Vec F S1x8x16384 .f32)
  (m3 m4 : Memref sig .tc .vmem S128x16384 .bf16)
  (m8 m9 m14 : Memref sig .tc .vmem S1x8x16384 .f32) (m10 : Memref sig .tc .vmem S128x16384 .f32)
  (m15 m16 : Memref sig .tc .vmem S2x128x512 .f32) (m17 : Memref sig .tc .vmem S2x512x1 .f32)

/-- Both heads of the block, as a program. -/
def progU : Prog (TpuEff nD τ sig (Elt F) Λ₀ .tc) PUnit := do
  let q ← ld (p := .tc) m3 o2 S128x512.size i2 (View.loadsAt_vmem h_S128x512)
  let d ← ld (p := .tc) m4 o2 S128x512.size i2 (View.loadsAt_vmem h_S128x512)
  headU ks vs cs kt (shapeCast S128x512 q shapeCasts_S128x512_S128x512) (shapeCast S128x512 d shapeCasts_S128x512_S128x512) i2 i3 iT iC m8 m9 m14 m10 m15 m16 m17
  headU ks' vs' cs' kt' (shapeCast S128x512 q shapeCasts_S128x512_S128x512) (shapeCast S128x512 d shapeCasts_S128x512_S128x512) i2 i3' iT' iC' m8 m9 m14 m10 m15 m16 m17

/-- What both heads do to the accumulators. -/
def bothU (σ : St F) : St F :=
  stepU ks' vs' cs' kt' (shapeCast S128x512 (VecWindow.window x3 o2 S128x512.size i2) shapeCasts_S128x512_S128x512) (shapeCast S128x512 (VecWindow.window x4 o2 S128x512.size i2) shapeCasts_S128x512_S128x512) i2 i3' iT' iC' x8 x9
    (stepU ks vs cs kt (shapeCast S128x512 (VecWindow.window x3 o2 S128x512.size i2) shapeCasts_S128x512_S128x512) (shapeCast S128x512 (VecWindow.window x4 o2 S128x512.size i2) shapeCasts_S128x512_S128x512) i2 i3 iT iC x8 x9 σ)

theorem headU_spec (c : Dev nD) (q2 d2 : FVec F S128x512 .bf16) (σ : St F) (Q : PUnit → sProp 𝕄) :
    Own c m3 m4 m8 m9 m14 m10 m15 m16 m17 x3 x4 x8 x9 σ
      ⊢ iprop((Own c m3 m4 m8 m9 m14 m10 m15 m16 m17 x3 x4 x8 x9 (stepU ks vs cs kt q2 d2 i2 i3 iT iC x8 x9 σ) -∗ Q ⟨⟩)
        -∗ wp frame (wpE (defs₀ (F := F)) Variants.none c none) Set.univ (headU ks vs cs kt q2 d2 i2 i3 iT iC m8 m9 m14 m10 m15 m16 m17) Q) := by
  unfold Own headU
  iintro ⟨H3, H4, H8, H9, H10, H14, H15, H16, H17⟩ HQ
  rw [wp_bind]
  iapply (ld_spec Variants.none (c : Thread nD τ) none Set.univ) $$ H8
  iintro H8
  rw [wp_bind]
  iapply (ld_spec Variants.none (c : Thread nD τ) none Set.univ) $$ H9
  iintro H9
  rw [wp_bind]
  iapply (upd_spec Variants.none (c : Thread nD τ) none Set.univ) $$ H16
  iintro H16
  rw [wp_bind]
  iapply (upd_spec Variants.none (c : Thread nD τ) none Set.univ) $$ H15
  iintro H15
  rw [wp_bind]
  iapply (upd_spec Variants.none (c : Thread nD τ) none Set.univ) $$ H17
  iintro H17
  rw [wp_bind]
  iapply (upd_spec Variants.none (c : Thread nD τ) none Set.univ) $$ H14
  iintro H14
  iapply (upd_spec Variants.none (c : Thread nD τ) none Set.univ) $$ H10
  iintro H10
  iapply HQ
  isplitl [H3]; · iexact H3
  isplitl [H4]; · iexact H4
  isplitl [H8]; · iexact H8
  isplitl [H9]; · iexact H9
  isplitl [H10]; · iexact H10
  isplitl [H14]; · iexact H14
  isplitl [H15]; · iexact H15
  isplitl [H16]; · iexact H16
  iexact H17

theorem progU_spec (c : Dev nD) (σ : St F) (Q : PUnit → sProp 𝕄) :
    Own c m3 m4 m8 m9 m14 m10 m15 m16 m17 x3 x4 x8 x9 σ
      ⊢ iprop((Own c m3 m4 m8 m9 m14 m10 m15 m16 m17 x3 x4 x8 x9 (bothU ks ks' vs vs' cs cs' kt kt' i2 i3 i3' iT iT' iC iC' x3 x4 x8 x9 σ) -∗ Q ⟨⟩)
        -∗ wp frame (wpE (defs₀ (F := F)) Variants.none c none) Set.univ (progU ks ks' vs vs' cs cs' kt kt' i2 i3 i3' iT iT' iC iC' m3 m4 m8 m9 m14 m10 m15 m16 m17) Q) := by
  unfold progU
  iintro H HQ
  unfold Own at *
  icases H with ⟨H3, H4, H⟩
  rw [wp_bind]
  iapply (ld_spec Variants.none (c : Thread nD τ) none Set.univ) $$ H3
  iintro H3
  rw [wp_bind]
  iapply (ld_spec Variants.none (c : Thread nD τ) none Set.univ) $$ H4
  iintro H4
  rw [wp_bind]
  iapply (headU_spec ks vs cs kt i2 i3 iT iC x3 x4 x8 x9 m3 m4 m8 m9 m14 m10 m15 m16 m17 c _ _ σ _) $$ [H3 H4 H]
  · unfold Own
    isplitl [H3]; · iexact H3
    isplitl [H4]; · iexact H4
    iexact H
  iintro H
  iapply (headU_spec ks' vs' cs' kt' i2 i3' iT' iC' x3 x4 x8 x9 m3 m4 m8 m9 m14 m10 m15 m16 m17 c _ _ _ _) $$ H
  iintro H
  iapply HQ
  unfold bothU Own
  iexact H
end

/-! ### 256 keys against 512 queries, the queries before a key masked -/

/-- The weight of each query (column) on each key (row): the power of two of the score. -/
def pM1 (ks : FVec F S256x128 .bf16) (cs : FVec F S256x1 .f32) (q2 : FVec F S128x512 .bf16) (al : Vec F S1x1x512 .f32) : FVec F S256x512 .f32 :=
  exp2 (select (cmpi .sge (iota .tc S256x512 32 [1] iota_S256x512_d1_w32) (iota .tc S256x512 32 [0] iota_S256x512_d0_w32))
    (addf (matmul dot_S256x128_S128x512_S256x512_1_0_0_1_n_n none ks q2 (constant S256x512 .f32 0x00000000#32))
    (subf (broadcastTo S256x512 (shapeCast S1x512 al shapeCasts_S1x1x512_S1x512) broadcasts_S1x512_S256x512) (broadcastTo S256x512 cs broadcasts_S256x1_S256x512)))
    (broadcast S256x512 (Named.named κ "mask" 0xF149F2CA#32)))

/-- The gradient of the score. -/
def dsM1 (p : FVec F S256x512 .f32) (vs : FVec F S256x128 .bf16) (d2 : FVec F S128x512 .bf16) (dl : Vec F S1x1x512 .f32) : FVec F S256x512 .f32 :=
  mulf p (subf (matmul dot_S256x128_S128x512_S256x512_1_0_0_1_n_n none vs d2 (constant S256x512 .f32 0x00000000#32))
    (broadcastTo S256x512 (shapeCast S1x512 dl shapeCasts_S1x1x512_S1x512) broadcasts_S1x512_S256x512))

/-- What the block adds to the gradient of the values (from `d2` and the weights) and of the keys (from the queries and the score's gradient). -/
def addTM1 (x : FVec F S128x512 .bf16) (y : FVec F S256x512 .f32) (a : Vec F S1x128x256 .f32) : Vec F S1x128x256 .f32 :=
  shapeCast S1x128x256 (addf (shapeCast S128x256 a shapeCasts_S1x128x256_S128x256)
    (matmul dot_S128x512_S256x512_S128x256_1_1_0_0_n_n none x (truncf .bf16 y bitsLt_bf16_f32) (constant S128x256 .f32 0x00000000#32))) shapeCasts_S128x256_S1x128x256

/-- What it adds to the gradient of the key bias. -/
def addCM1 (y : FVec F S256x512 .f32) (a : Vec F S1x256x1 .f32) : Vec F S1x256x1 .f32 :=
  shapeCast S1x256x1 (addf (shapeCast S256x1 a shapeCasts_S1x256x1_S256x1)
    (shapeCast S256x1 (multiReduction .add [1] S256 y 0x00000000#32 reduces_S256x512_S256 (.inl rfl) rfl) shapeCasts_S256_S256x1)) shapeCasts_S256x1_S1x256x1

/-- What it adds to the gradient of the query bias. -/
def addRM1 (y : FVec F S256x512 .f32) (a : Vec F S1x1x512 .f32) : Vec F S1x1x512 .f32 :=
  shapeCast S1x1x512 (addf (shapeCast S1x512 a shapeCasts_S1x1x512_S1x512)
    (shapeCast S1x512 (multiReduction .add [0] S512 y 0x00000000#32 reduces_S256x512_S512 (.inl rfl) rfl) shapeCasts_S512_S1x512)) shapeCasts_S1x512_S1x1x512

/-- What it adds to the gradient of the queries. -/
def addQM1 (kt : FVec F S128x256 .bf16) (y : FVec F S256x512 .f32) (a : Vec F S128x512 .f32) : Vec F S128x512 .f32 :=
  addf (shapeCast S128x512 a shapeCasts_S128x512_S128x512)
    (matmul dot_S128x256_S256x512_S128x512_1_0_0_1_n_n none kt (truncf .bf16 y bitsLt_bf16_f32) (constant S128x512 .f32 0x00000000#32))

section
variable (ks vs : FVec F S256x128 .bf16) (cs : FVec F S256x1 .f32) (kt : FVec F S128x256 .bf16) (q2 d2 : FVec F S128x512 .bf16)
  {o2 : Fin 2 → ℕ} (i2 : ∀ a, o2 a + S128x512.size a ≤ S128x16384.size a)
  {o3 : Fin 3 → ℕ} (i3 : ∀ a, o3 a + S1x1x512.size a ≤ S1x8x16384.size a)
  {oT : Fin 3 → ℕ} (iT : ∀ a, oT a + S1x128x256.size a ≤ S2x128x512.size a)
  {oC : Fin 3 → ℕ} (iC : ∀ a, oC a + S1x256x1.size a ≤ S2x512x1.size a)
  (x8 x9 : Vec F S1x8x16384 .f32)
  (m8 m9 m14 : Memref sig .tc .vmem S1x8x16384 .f32) (m10 : Memref sig .tc .vmem S128x16384 .f32)
  (m15 m16 : Memref sig .tc .vmem S2x128x512 .f32) (m17 : Memref sig .tc .vmem S2x512x1 .f32)

/-- One head of the block, as a program. -/
def headM1 : Prog (TpuEff nD τ sig (Elt F) Λ₀ .tc) PUnit := do
  let al ← ld (p := .tc) m8 o3 S1x1x512.size i3 (View.loadsAt_vmem h_S1x1x512)
  let dl ← ld (p := .tc) m9 o3 S1x1x512.size i3 (View.loadsAt_vmem h_S1x1x512)
  upd (p := .tc) m16 oT S1x128x256.size iT (View.loadsAt_vmem h_S1x128x256) (View.stores_vmem_bits_univ h_S1x128x256 rfl) (addTM1 d2 (pM1 ks cs q2 al))
  upd (p := .tc) m15 oT S1x128x256.size iT (View.loadsAt_vmem h_S1x128x256) (View.stores_vmem_bits_univ h_S1x128x256 rfl) (addTM1 q2 (dsM1 (pM1 ks cs q2 al) vs d2 dl))
  upd (p := .tc) m17 oC S1x256x1.size iC (View.loadsAt_vmem h_S1x256x1) (View.stores_vmem_bits_univ h_S1x256x1 rfl) (addCM1 (dsM1 (pM1 ks cs q2 al) vs d2 dl))
  upd (p := .tc) m14 o3 S1x1x512.size i3 (View.loadsAt_vmem h_S1x1x512) (View.stores_vmem_bits_univ h_S1x1x512 rfl) (addRM1 (dsM1 (pM1 ks cs q2 al) vs d2 dl))
  upd (p := .tc) m10 o2 S128x512.size i2 (View.loadsAt_vmem h_S128x512) (View.stores_vmem_bits_univ h_S128x512 rfl) (addQM1 kt (dsM1 (pM1 ks cs q2 al) vs d2 dl))

/-- The weights of the block's head, from the whole arrays. -/
def wM1 : FVec F S256x512 .f32 := pM1 ks cs q2 (VecWindow.window x8 o3 S1x1x512.size i3)
/-- The score's gradient, from the whole arrays. -/
def gM1 : FVec F S256x512 .f32 := dsM1 (wM1 ks cs q2 i3 x8) vs d2 (VecWindow.window x9 o3 S1x1x512.size i3)

/-- What the program does to the accumulators. -/
def stepM1 (σ : St F) : St F where
  dv := VecWindow.put σ.dv oT S1x128x256.size (addTM1 d2 (wM1 ks cs q2 i3 x8) (VecWindow.window σ.dv oT S1x128x256.size iT))
  dk := VecWindow.put σ.dk oT S1x128x256.size (addTM1 q2 (gM1 ks vs cs q2 d2 i3 x8 x9) (VecWindow.window σ.dk oT S1x128x256.size iT))
  dc := VecWindow.put σ.dc oC S1x256x1.size (addCM1 (gM1 ks vs cs q2 d2 i3 x8 x9) (VecWindow.window σ.dc oC S1x256x1.size iC))
  dcq := VecWindow.put σ.dcq o3 S1x1x512.size (addRM1 (gM1 ks vs cs q2 d2 i3 x8 x9) (VecWindow.window σ.dcq o3 S1x1x512.size i3))
  dq := VecWindow.put σ.dq o2 S128x512.size (addQM1 kt (gM1 ks vs cs q2 d2 i3 x8 x9) (VecWindow.window σ.dq o2 S128x512.size i2))
end

section
variable (ks ks' vs vs' : FVec F S256x128 .bf16) (cs cs' : FVec F S256x1 .f32) (kt kt' : FVec F S128x256 .bf16)
  {o2 : Fin 2 → ℕ} (i2 : ∀ a, o2 a + S128x512.size a ≤ S128x16384.size a)
  {o3 o3' : Fin 3 → ℕ} (i3 : ∀ a, o3 a + S1x1x512.size a ≤ S1x8x16384.size a) (i3' : ∀ a, o3' a + S1x1x512.size a ≤ S1x8x16384.size a)
  {oT oT' : Fin 3 → ℕ} (iT : ∀ a, oT a + S1x128x256.size a ≤ S2x128x512.size a) (iT' : ∀ a, oT' a + S1x128x256.size a ≤ S2x128x512.size a)
  {oC oC' : Fin 3 → ℕ} (iC : ∀ a, oC a + S1x256x1.size a ≤ S2x512x1.size a) (iC' : ∀ a, oC' a + S1x256x1.size a ≤ S2x512x1.size a)
  (x3 x4 : Vec F S128x16384 .bf16) (x8 x9 : Vec F S1x8x16384 .f32)
  (m3 m4 : Memref sig .tc .vmem S128x16384 .bf16)
  (m8 m9 m14 : Memref sig .tc .vmem S1x8x16384 .f32) (m10 : Memref sig .tc .vmem S128x16384 .f32)
  (m15 m16 : Memref sig .tc .vmem S2x128x512 .f32) (m17 : Memref sig .tc .vmem S2x512x1 .f32)

/-- Both heads of the block, as a program. -/
def progM1 : Prog (TpuEff nD τ sig (Elt F) Λ₀ .tc) PUnit := do
  let q ← ld (p := .tc) m3 o2 S128x512.size i2 (View.loadsAt_vmem h_S128x512)
  let d ← ld (p := .tc) m4 o2 S128x512.size i2 (View.loadsAt_vmem h_S128x512)
  headM1 ks vs cs kt (shapeCast S128x512 q shapeCasts_S128x512_S128x512) (shapeCast S128x512 d shapeCasts_S128x512_S128x512) i2 i3 iT iC m8 m9 m14 m10 m15 m16 m17
  headM1 ks' vs' cs' kt' (shapeCast S128x512 q shapeCasts_S128x512_S128x512) (shapeCast S128x512 d shapeCasts_S128x512_S128x512) i2 i3' iT' iC' m8 m9 m14 m10 m15 m16 m17

/-- What both heads do to the accumulators. -/
def bothM1 (σ : St F) : St F :=
  stepM1 ks' vs' cs' kt' (shapeCast S128x512 (VecWindow.window x3 o2 S128x512.size i2) shapeCasts_S128x512_S128x512) (shapeCast S128x512 (VecWindow.window x4 o2 S128x512.size i2) shapeCasts_S128x512_S128x512) i2 i3' iT' iC' x8 x9
    (stepM1 ks vs cs kt (shapeCast S128x512 (VecWindow.window x3 o2 S128x512.size i2) shapeCasts_S128x512_S128x512) (shapeCast S128x512 (VecWindow.window x4 o2 S128x512.size i2) shapeCasts_S128x512_S128x512) i2 i3 iT iC x8 x9 σ)

theorem headM1_spec (c : Dev nD) (q2 d2 : FVec F S128x512 .bf16) (σ : St F) (Q : PUnit → sProp 𝕄) :
    Own c m3 m4 m8 m9 m14 m10 m15 m16 m17 x3 x4 x8 x9 σ
      ⊢ iprop((Own c m3 m4 m8 m9 m14 m10 m15 m16 m17 x3 x4 x8 x9 (stepM1 ks vs cs kt q2 d2 i2 i3 iT iC x8 x9 σ) -∗ Q ⟨⟩)
        -∗ wp frame (wpE (defs₀ (F := F)) Variants.none c none) Set.univ (headM1 ks vs cs kt q2 d2 i2 i3 iT iC m8 m9 m14 m10 m15 m16 m17) Q) := by
  unfold Own headM1
  iintro ⟨H3, H4, H8, H9, H10, H14, H15, H16, H17⟩ HQ
  rw [wp_bind]
  iapply (ld_spec Variants.none (c : Thread nD τ) none Set.univ) $$ H8
  iintro H8
  rw [wp_bind]
  iapply (ld_spec Variants.none (c : Thread nD τ) none Set.univ) $$ H9
  iintro H9
  rw [wp_bind]
  iapply (upd_spec Variants.none (c : Thread nD τ) none Set.univ) $$ H16
  iintro H16
  rw [wp_bind]
  iapply (upd_spec Variants.none (c : Thread nD τ) none Set.univ) $$ H15
  iintro H15
  rw [wp_bind]
  iapply (upd_spec Variants.none (c : Thread nD τ) none Set.univ) $$ H17
  iintro H17
  rw [wp_bind]
  iapply (upd_spec Variants.none (c : Thread nD τ) none Set.univ) $$ H14
  iintro H14
  iapply (upd_spec Variants.none (c : Thread nD τ) none Set.univ) $$ H10
  iintro H10
  iapply HQ
  isplitl [H3]; · iexact H3
  isplitl [H4]; · iexact H4
  isplitl [H8]; · iexact H8
  isplitl [H9]; · iexact H9
  isplitl [H10]; · iexact H10
  isplitl [H14]; · iexact H14
  isplitl [H15]; · iexact H15
  isplitl [H16]; · iexact H16
  iexact H17

theorem progM1_spec (c : Dev nD) (σ : St F) (Q : PUnit → sProp 𝕄) :
    Own c m3 m4 m8 m9 m14 m10 m15 m16 m17 x3 x4 x8 x9 σ
      ⊢ iprop((Own c m3 m4 m8 m9 m14 m10 m15 m16 m17 x3 x4 x8 x9 (bothM1 ks ks' vs vs' cs cs' kt kt' i2 i3 i3' iT iT' iC iC' x3 x4 x8 x9 σ) -∗ Q ⟨⟩)
        -∗ wp frame (wpE (defs₀ (F := F)) Variants.none c none) Set.univ (progM1 ks ks' vs vs' cs cs' kt kt' i2 i3 i3' iT iT' iC iC' m3 m4 m8 m9 m14 m10 m15 m16 m17) Q) := by
  unfold progM1
  iintro H HQ
  unfold Own at *
  icases H with ⟨H3, H4, H⟩
  rw [wp_bind]
  iapply (ld_spec Variants.none (c : Thread nD τ) none Set.univ) $$ H3
  iintro H3
  rw [wp_bind]
  iapply (ld_spec Variants.none (c : Thread nD τ) none Set.univ) $$ H4
  iintro H4
  rw [wp_bind]
  iapply (headM1_spec ks vs cs kt i2 i3 iT iC x3 x4 x8 x9 m3 m4 m8 m9 m14 m10 m15 m16 m17 c _ _ σ _) $$ [H3 H4 H]
  · unfold Own
    isplitl [H3]; · iexact H3
    isplitl [H4]; · iexact H4
    iexact H
  iintro H
  iapply (headM1_spec ks' vs' cs' kt' i2 i3' iT' iC' x3 x4 x8 x9 m3 m4 m8 m9 m14 m10 m15 m16 m17 c _ _ _ _) $$ H
  iintro H
  iapply HQ
  unfold bothM1 Own
  iexact H
end

/-! ### 256 keys against 256 queries, the queries before a key masked -/

/-- The weight of each query (column) on each key (row): the power of two of the score. -/
def pM2 (ks : FVec F S256x128 .bf16) (cs : FVec F S256x1 .f32) (q2 : FVec F S128x256 .bf16) (al : Vec F S1x1x256 .f32) : FVec F S256x256 .f32 :=
  exp2 (select (cmpi .sge (iota .tc S256x256 32 [1] iota_S256x256_d1_w32) (iota .tc S256x256 32 [0] iota_S256x256_d0_w32))
    (addf (matmul dot_S256x128_S128x256_S256x256_1_0_0_1_n_n none ks q2 (constant S256x256 .f32 0x00000000#32))
    (subf (broadcastTo S256x256 (shapeCast S1x256 al shapeCasts_S1x1x256_S1x256) broadcasts_S1x256_S256x256) (broadcastTo S256x256 cs broadcasts_S256x1_S256x256)))
    (broadcast S256x256 (Named.named κ "mask" 0xF149F2CA#32)))

/-- The gradient of the score. -/
def dsM2 (p : FVec F S256x256 .f32) (vs : FVec F S256x128 .bf16) (d2 : FVec F S128x256 .bf16) (dl : Vec F S1x1x256 .f32) : FVec F S256x256 .f32 :=
  mulf p (subf (matmul dot_S256x128_S128x256_S256x256_1_0_0_1_n_n none vs d2 (constant S256x256 .f32 0x00000000#32))
    (broadcastTo S256x256 (shapeCast S1x256 dl shapeCasts_S1x1x256_S1x256) broadcasts_S1x256_S256x256))

/-- What the block adds to the gradient of the values (from `d2` and the weights) and of the keys (from the queries and the score's gradient). -/
def addTM2 (x : FVec F S128x256 .bf16) (y : FVec F S256x256 .f32) (a : Vec F S1x128x256 .f32) : Vec F S1x128x256 .f32 :=
  shapeCast S1x128x256 (addf (shapeCast S128x256 a shapeCasts_S1x128x256_S128x256)
    (matmul dot_S128x256_S256x256_S128x256_1_1_0_0_n_n none x (truncf .bf16 y bitsLt_bf16_f32) (constant S128x256 .f32 0x00000000#32))) shapeCasts_S128x256_S1x128x256

/-- What it adds to the gradient of the key bias. -/
def addCM2 (y : FVec F S256x256 .f32) (a : Vec F S1x256x1 .f32) : Vec F S1x256x1 .f32 :=
  shapeCast S1x256x1 (addf (shapeCast S256x1 a shapeCasts_S1x256x1_S256x1)
    (shapeCast S256x1 (multiReduction .add [1] S256 y 0x00000000#32 reduces_S256x256_S256 (.inl rfl) rfl) shapeCasts_S256_S256x1)) shapeCasts_S256x1_S1x256x1

/-- What it adds to the gradient of the query bias. -/
def addRM2 (y : FVec F S256x256 .f32) (a : Vec F S1x1x256 .f32) : Vec F S1x1x256 .f32 :=
  shapeCast S1x1x256 (addf (shapeCast S1x256 a shapeCasts_S1x1x256_S1x256)
    (shapeCast S1x256 (multiReduction .add [0] S256 y 0x00000000#32 reduces_S256x256_S256_2 (.inl rfl) rfl) shapeCasts_S256_S1x256)) shapeCasts_S1x256_S1x1x256

/-- What it adds to the gradient of the queries. -/
def addQM2 (kt : FVec F S128x256 .bf16) (y : FVec F S256x256 .f32) (a : Vec F S128x256 .f32) : Vec F S128x256 .f32 :=
  addf (shapeCast S128x256 a shapeCasts_S128x256_S128x256)
    (matmul dot_S128x256_S256x256_S128x256_1_0_0_1_n_n none kt (truncf .bf16 y bitsLt_bf16_f32) (constant S128x256 .f32 0x00000000#32))

section
variable (ks vs : FVec F S256x128 .bf16) (cs : FVec F S256x1 .f32) (kt : FVec F S128x256 .bf16) (q2 d2 : FVec F S128x256 .bf16)
  {o2 : Fin 2 → ℕ} (i2 : ∀ a, o2 a + S128x256.size a ≤ S128x16384.size a)
  {o3 : Fin 3 → ℕ} (i3 : ∀ a, o3 a + S1x1x256.size a ≤ S1x8x16384.size a)
  {oT : Fin 3 → ℕ} (iT : ∀ a, oT a + S1x128x256.size a ≤ S2x128x512.size a)
  {oC : Fin 3 → ℕ} (iC : ∀ a, oC a + S1x256x1.size a ≤ S2x512x1.size a)
  (x8 x9 : Vec F S1x8x16384 .f32)
  (m8 m9 m14 : Memref sig .tc .vmem S1x8x16384 .f32) (m10 : Memref sig .tc .vmem S128x16384 .f32)
  (m15 m16 : Memref sig .tc .vmem S2x128x512 .f32) (m17 : Memref sig .tc .vmem S2x512x1 .f32)

/-- One head of the block, as a program. -/
def headM2 : Prog (TpuEff nD τ sig (Elt F) Λ₀ .tc) PUnit := do
  let al ← ld (p := .tc) m8 o3 S1x1x256.size i3 (View.loadsAt_vmem h_S1x1x256)
  let dl ← ld (p := .tc) m9 o3 S1x1x256.size i3 (View.loadsAt_vmem h_S1x1x256)
  upd (p := .tc) m16 oT S1x128x256.size iT (View.loadsAt_vmem h_S1x128x256) (View.stores_vmem_bits_univ h_S1x128x256 rfl) (addTM2 d2 (pM2 ks cs q2 al))
  upd (p := .tc) m15 oT S1x128x256.size iT (View.loadsAt_vmem h_S1x128x256) (View.stores_vmem_bits_univ h_S1x128x256 rfl) (addTM2 q2 (dsM2 (pM2 ks cs q2 al) vs d2 dl))
  upd (p := .tc) m17 oC S1x256x1.size iC (View.loadsAt_vmem h_S1x256x1) (View.stores_vmem_bits_univ h_S1x256x1 rfl) (addCM2 (dsM2 (pM2 ks cs q2 al) vs d2 dl))
  upd (p := .tc) m14 o3 S1x1x256.size i3 (View.loadsAt_vmem h_S1x1x256) (View.stores_vmem_bits_univ h_S1x1x256 rfl) (addRM2 (dsM2 (pM2 ks cs q2 al) vs d2 dl))
  upd (p := .tc) m10 o2 S128x256.size i2 (View.loadsAt_vmem h_S128x256) (View.stores_vmem_bits_univ h_S128x256 rfl) (addQM2 kt (dsM2 (pM2 ks cs q2 al) vs d2 dl))

/-- The weights of the block's head, from the whole arrays. -/
def wM2 : FVec F S256x256 .f32 := pM2 ks cs q2 (VecWindow.window x8 o3 S1x1x256.size i3)
/-- The score's gradient, from the whole arrays. -/
def gM2 : FVec F S256x256 .f32 := dsM2 (wM2 ks cs q2 i3 x8) vs d2 (VecWindow.window x9 o3 S1x1x256.size i3)

/-- What the program does to the accumulators. -/
def stepM2 (σ : St F) : St F where
  dv := VecWindow.put σ.dv oT S1x128x256.size (addTM2 d2 (wM2 ks cs q2 i3 x8) (VecWindow.window σ.dv oT S1x128x256.size iT))
  dk := VecWindow.put σ.dk oT S1x128x256.size (addTM2 q2 (gM2 ks vs cs q2 d2 i3 x8 x9) (VecWindow.window σ.dk oT S1x128x256.size iT))
  dc := VecWindow.put σ.dc oC S1x256x1.size (addCM2 (gM2 ks vs cs q2 d2 i3 x8 x9) (VecWindow.window σ.dc oC S1x256x1.size iC))
  dcq := VecWindow.put σ.dcq o3 S1x1x256.size (addRM2 (gM2 ks vs cs q2 d2 i3 x8 x9) (VecWindow.window σ.dcq o3 S1x1x256.size i3))
  dq := VecWindow.put σ.dq o2 S128x256.size (addQM2 kt (gM2 ks vs cs q2 d2 i3 x8 x9) (VecWindow.window σ.dq o2 S128x256.size i2))
end

section
variable (ks ks' vs vs' : FVec F S256x128 .bf16) (cs cs' : FVec F S256x1 .f32) (kt kt' : FVec F S128x256 .bf16)
  {o2 : Fin 2 → ℕ} (i2 : ∀ a, o2 a + S128x256.size a ≤ S128x16384.size a)
  {o3 o3' : Fin 3 → ℕ} (i3 : ∀ a, o3 a + S1x1x256.size a ≤ S1x8x16384.size a) (i3' : ∀ a, o3' a + S1x1x256.size a ≤ S1x8x16384.size a)
  {oT oT' : Fin 3 → ℕ} (iT : ∀ a, oT a + S1x128x256.size a ≤ S2x128x512.size a) (iT' : ∀ a, oT' a + S1x128x256.size a ≤ S2x128x512.size a)
  {oC oC' : Fin 3 → ℕ} (iC : ∀ a, oC a + S1x256x1.size a ≤ S2x512x1.size a) (iC' : ∀ a, oC' a + S1x256x1.size a ≤ S2x512x1.size a)
  (x3 x4 : Vec F S128x16384 .bf16) (x8 x9 : Vec F S1x8x16384 .f32)
  (m3 m4 : Memref sig .tc .vmem S128x16384 .bf16)
  (m8 m9 m14 : Memref sig .tc .vmem S1x8x16384 .f32) (m10 : Memref sig .tc .vmem S128x16384 .f32)
  (m15 m16 : Memref sig .tc .vmem S2x128x512 .f32) (m17 : Memref sig .tc .vmem S2x512x1 .f32)

/-- Both heads of the block, as a program. -/
def progM2 : Prog (TpuEff nD τ sig (Elt F) Λ₀ .tc) PUnit := do
  let q ← ld (p := .tc) m3 o2 S128x256.size i2 (View.loadsAt_vmem h_S128x256)
  let d ← ld (p := .tc) m4 o2 S128x256.size i2 (View.loadsAt_vmem h_S128x256)
  headM2 ks vs cs kt (shapeCast S128x256 q shapeCasts_S128x256_S128x256) (shapeCast S128x256 d shapeCasts_S128x256_S128x256) i2 i3 iT iC m8 m9 m14 m10 m15 m16 m17
  headM2 ks' vs' cs' kt' (shapeCast S128x256 q shapeCasts_S128x256_S128x256) (shapeCast S128x256 d shapeCasts_S128x256_S128x256) i2 i3' iT' iC' m8 m9 m14 m10 m15 m16 m17

/-- What both heads do to the accumulators. -/
def bothM2 (σ : St F) : St F :=
  stepM2 ks' vs' cs' kt' (shapeCast S128x256 (VecWindow.window x3 o2 S128x256.size i2) shapeCasts_S128x256_S128x256) (shapeCast S128x256 (VecWindow.window x4 o2 S128x256.size i2) shapeCasts_S128x256_S128x256) i2 i3' iT' iC' x8 x9
    (stepM2 ks vs cs kt (shapeCast S128x256 (VecWindow.window x3 o2 S128x256.size i2) shapeCasts_S128x256_S128x256) (shapeCast S128x256 (VecWindow.window x4 o2 S128x256.size i2) shapeCasts_S128x256_S128x256) i2 i3 iT iC x8 x9 σ)

theorem headM2_spec (c : Dev nD) (q2 d2 : FVec F S128x256 .bf16) (σ : St F) (Q : PUnit → sProp 𝕄) :
    Own c m3 m4 m8 m9 m14 m10 m15 m16 m17 x3 x4 x8 x9 σ
      ⊢ iprop((Own c m3 m4 m8 m9 m14 m10 m15 m16 m17 x3 x4 x8 x9 (stepM2 ks vs cs kt q2 d2 i2 i3 iT iC x8 x9 σ) -∗ Q ⟨⟩)
        -∗ wp frame (wpE (defs₀ (F := F)) Variants.none c none) Set.univ (headM2 ks vs cs kt q2 d2 i2 i3 iT iC m8 m9 m14 m10 m15 m16 m17) Q) := by
  unfold Own headM2
  iintro ⟨H3, H4, H8, H9, H10, H14, H15, H16, H17⟩ HQ
  rw [wp_bind]
  iapply (ld_spec Variants.none (c : Thread nD τ) none Set.univ) $$ H8
  iintro H8
  rw [wp_bind]
  iapply (ld_spec Variants.none (c : Thread nD τ) none Set.univ) $$ H9
  iintro H9
  rw [wp_bind]
  iapply (upd_spec Variants.none (c : Thread nD τ) none Set.univ) $$ H16
  iintro H16
  rw [wp_bind]
  iapply (upd_spec Variants.none (c : Thread nD τ) none Set.univ) $$ H15
  iintro H15
  rw [wp_bind]
  iapply (upd_spec Variants.none (c : Thread nD τ) none Set.univ) $$ H17
  iintro H17
  rw [wp_bind]
  iapply (upd_spec Variants.none (c : Thread nD τ) none Set.univ) $$ H14
  iintro H14
  iapply (upd_spec Variants.none (c : Thread nD τ) none Set.univ) $$ H10
  iintro H10
  iapply HQ
  isplitl [H3]; · iexact H3
  isplitl [H4]; · iexact H4
  isplitl [H8]; · iexact H8
  isplitl [H9]; · iexact H9
  isplitl [H10]; · iexact H10
  isplitl [H14]; · iexact H14
  isplitl [H15]; · iexact H15
  isplitl [H16]; · iexact H16
  iexact H17

theorem progM2_spec (c : Dev nD) (σ : St F) (Q : PUnit → sProp 𝕄) :
    Own c m3 m4 m8 m9 m14 m10 m15 m16 m17 x3 x4 x8 x9 σ
      ⊢ iprop((Own c m3 m4 m8 m9 m14 m10 m15 m16 m17 x3 x4 x8 x9 (bothM2 ks ks' vs vs' cs cs' kt kt' i2 i3 i3' iT iT' iC iC' x3 x4 x8 x9 σ) -∗ Q ⟨⟩)
        -∗ wp frame (wpE (defs₀ (F := F)) Variants.none c none) Set.univ (progM2 ks ks' vs vs' cs cs' kt kt' i2 i3 i3' iT iT' iC iC' m3 m4 m8 m9 m14 m10 m15 m16 m17) Q) := by
  unfold progM2
  iintro H HQ
  unfold Own at *
  icases H with ⟨H3, H4, H⟩
  rw [wp_bind]
  iapply (ld_spec Variants.none (c : Thread nD τ) none Set.univ) $$ H3
  iintro H3
  rw [wp_bind]
  iapply (ld_spec Variants.none (c : Thread nD τ) none Set.univ) $$ H4
  iintro H4
  rw [wp_bind]
  iapply (headM2_spec ks vs cs kt i2 i3 iT iC x3 x4 x8 x9 m3 m4 m8 m9 m14 m10 m15 m16 m17 c _ _ σ _) $$ [H3 H4 H]
  · unfold Own
    isplitl [H3]; · iexact H3
    isplitl [H4]; · iexact H4
    iexact H
  iintro H
  iapply (headM2_spec ks' vs' cs' kt' i2 i3' iT' iC' x3 x4 x8 x9 m3 m4 m8 m9 m14 m10 m15 m16 m17 c _ _ _ _) $$ H
  iintro H
  iapply HQ
  unfold bothM2 Own
  iexact H
end

end Cert.AttnIdeal.Body
-- ==== Proof.AttnIdeal.Sched.lean ====
/-
  The order in which a block of keys meets the blocks of queries: its own block first (in two masked halves), then the
  blocks after it one by one; where each of them lies, and how many a loop trip takes.
-/
module

public import proofs.«01_k».proof.Proof.AttnIdeal.Blocks

@[expose] public section

set_option maxRecDepth 16384

noncomputable section

namespace Cert.AttnIdeal.Body

open Cert.AttnIdeal Cert.AttnIdeal.Gen Cert.Cells
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ### Where the blocks lie -/

theorem off1_eq : ∀ (t : Fin grid0.N), k0_off1 (grid0.coords t) = ![0, 512 * (t.val % 32)] := by decide +kernel
theorem off2_eq : ∀ (t : Fin grid0.N), k0_off2 (grid0.coords t) = ![0, 0, 512 * (t.val % 32)] := by decide +kernel
theorem off3_eq : ∀ (t : Fin grid0.N), k0_off3 (grid0.coords t) = ![0, 1, 512 * (t.val % 32)] := by decide +kernel
theorem off4_eq : ∀ (t : Fin grid0.N), k0_off4 (grid0.coords t) = ![0, 512 * (t.val % 32) + 256] := by decide +kernel
theorem off5_eq : ∀ (t : Fin grid0.N), k0_off5 (grid0.coords t) = ![0, 0, 512 * (t.val % 32) + 256] := by decide +kernel
theorem off6_eq : ∀ (t : Fin grid0.N), k0_off6 (grid0.coords t) = ![0, 1, 512 * (t.val % 32) + 256] := by decide +kernel
theorem off7_eq : ∀ (t : Fin grid0.N) (r : Fin 2), k0_off7 (grid0.coords t) (BitVec.ofNat 32 r.val) = ![0, 512 * (t.val % 32 + r.val)] := by decide +kernel
theorem off8_eq : ∀ (t : Fin grid0.N) (r : Fin 2), k0_off8 (grid0.coords t) (BitVec.ofNat 32 r.val) = ![0, 0, 512 * (t.val % 32 + r.val)] := by decide +kernel
theorem off9_eq : ∀ (t : Fin grid0.N) (r : Fin 2), k0_off9 (grid0.coords t) (BitVec.ofNat 32 r.val) = ![0, 1, 512 * (t.val % 32 + r.val)] := by decide +kernel
theorem off10_eq : ∀ (t : Fin grid0.N), k0_off10 (grid0.coords t) = ![0, 512 * (t.val % 32) + 256] := by decide +kernel
theorem off11_eq : ∀ (t : Fin grid0.N), k0_off11 (grid0.coords t) = ![0, 0, 512 * (t.val % 32) + 256] := by decide +kernel
theorem off12_eq : ∀ (t : Fin grid0.N), k0_off12 (grid0.coords t) = ![0, 1, 512 * (t.val % 32) + 256] := by decide +kernel
theorem off13_eq : ∀ (t : Fin grid0.N) (r : Fin 3), k0_off13 (grid0.coords t) (BitVec.ofNat 32 r.val) = ![0, 512 * (t.val % 32 + r.val)] := by decide +kernel
theorem off14_eq : ∀ (t : Fin grid0.N) (r : Fin 3), k0_off14 (grid0.coords t) (BitVec.ofNat 32 r.val) = ![0, 0, 512 * (t.val % 32 + r.val)] := by decide +kernel
theorem off15_eq : ∀ (t : Fin grid0.N) (r : Fin 3), k0_off15 (grid0.coords t) (BitVec.ofNat 32 r.val) = ![0, 1, 512 * (t.val % 32 + r.val)] := by decide +kernel
theorem off16_eq : ∀ (t : Fin grid0.N), k0_off16 (grid0.coords t) = ![0, 512 * (t.val % 32) + 256] := by decide +kernel
theorem off17_eq : ∀ (t : Fin grid0.N), k0_off17 (grid0.coords t) = ![0, 0, 512 * (t.val % 32) + 256] := by decide +kernel
theorem off18_eq : ∀ (t : Fin grid0.N), k0_off18 (grid0.coords t) = ![0, 1, 512 * (t.val % 32) + 256] := by decide +kernel
theorem off19_eq : ∀ (t : Fin grid0.N) (r : Fin 4), k0_off19 (grid0.coords t) (BitVec.ofNat 32 r.val) = ![0, 512 * (t.val % 32 + r.val)] := by decide +kernel
theorem off20_eq : ∀ (t : Fin grid0.N) (r : Fin 4), k0_off20 (grid0.coords t) (BitVec.ofNat 32 r.val) = ![0, 0, 512 * (t.val % 32 + r.val)] := by decide +kernel
theorem off21_eq : ∀ (t : Fin grid0.N) (r : Fin 4), k0_off21 (grid0.coords t) (BitVec.ofNat 32 r.val) = ![0, 1, 512 * (t.val % 32 + r.val)] := by decide +kernel
theorem off22_eq : ∀ (t : Fin grid0.N), k0_off22 (grid0.coords t) = ![0, 512 * (t.val % 32) + 256] := by decide +kernel
theorem off23_eq : ∀ (t : Fin grid0.N), k0_off23 (grid0.coords t) = ![0, 0, 512 * (t.val % 32) + 256] := by decide +kernel
theorem off24_eq : ∀ (t : Fin grid0.N), k0_off24 (grid0.coords t) = ![0, 1, 512 * (t.val % 32) + 256] := by decide +kernel
theorem off25_eq : ∀ (t : Fin grid0.N) (k : Fin (k0_t1_loop (grid0.coords t)).trips) (r : Fin 4), k0_off25 (grid0.coords t) k (BitVec.ofNat 32 r.val) = ![0, 512 * (t.val % 32 + 1 + (31 - t.val % 32) % 4 + 4 * k.val + r.val)] := by decide +kernel
theorem off26_eq : ∀ (t : Fin grid0.N) (k : Fin (k0_t1_loop (grid0.coords t)).trips) (r : Fin 4), k0_off26 (grid0.coords t) k (BitVec.ofNat 32 r.val) = ![0, 0, 512 * (t.val % 32 + 1 + (31 - t.val % 32) % 4 + 4 * k.val + r.val)] := by decide +kernel
theorem off27_eq : ∀ (t : Fin grid0.N) (k : Fin (k0_t1_loop (grid0.coords t)).trips) (r : Fin 4), k0_off27 (grid0.coords t) k (BitVec.ofNat 32 r.val) = ![0, 1, 512 * (t.val % 32 + 1 + (31 - t.val % 32) % 4 + 4 * k.val + r.val)] := by decide +kernel

/-! ### How many -/

theorem t1_trips : ∀ t : Fin grid0.N, (k0_t1_loop (grid0.coords t)).trips = (31 - t.val % 32) / 4 := by decide +kernel
theorem t2_trips : ∀ t : Fin grid0.N, (k0_t2_loop (grid0.coords t)).trips = 0 := by decide +kernel
theorem cond2_iff : ∀ t : Fin grid0.N, k0_cond2 (grid0.coords t) = 1#1 ↔ (31 - t.val % 32) % 4 = 0 := by decide +kernel
theorem cond3_iff : ∀ t : Fin grid0.N, k0_cond3 (grid0.coords t) = 1#1 ↔ (31 - t.val % 32) % 4 = 1 := by decide +kernel
theorem cond4_iff : ∀ t : Fin grid0.N, k0_cond4 (grid0.coords t) = 1#1 ↔ (31 - t.val % 32) % 4 = 2 := by decide +kernel
theorem cond5_iff : ∀ t : Fin grid0.N, k0_cond5 (grid0.coords t) = 1#1 ↔ (31 - t.val % 32) % 4 = 3 := by decide +kernel
theorem coord1 : ∀ t : Fin grid0.N, (grid0.coords t 1).val = t.val % 32 := by decide +kernel

/-! ### The blocks one by one -/

/-- The block's keys, values, key bias and transposed keys, a head at a time (the other head's lanes zero). -/
structure Keys (F : FTy → Type) where
  k0 : FVec F S512x128 .bf16
  k1 : FVec F S512x128 .bf16
  v0 : FVec F S512x128 .bf16
  v1 : FVec F S512x128 .bf16
  c0 : FVec F S512x1 .f32
  c1 : FVec F S512x1 .f32
  t0 : FVec F S128x512 .bf16
  t1 : FVec F S128x512 .bf16

theorem in2 (q : Fin 32) : ∀ a, (![0, 512 * q.val] : Fin 2 → ℕ) a + S128x512.size a ≤ S128x16384.size a := by
  intro a; fin_cases a
  · show 0 + 128 ≤ 128; omega
  · show 512 * q.val + 512 ≤ 16384; omega
theorem in3 (h : Fin 2) (q : Fin 32) : ∀ a, (![0, h.val, 512 * q.val] : Fin 3 → ℕ) a + S1x1x512.size a ≤ S1x8x16384.size a := by
  intro a; fin_cases a
  · show 0 + 1 ≤ 1; omega
  · show h.val + 1 ≤ 8; omega
  · show 512 * q.val + 512 ≤ 16384; omega
theorem in2' (q : Fin 32) : ∀ a, (![0, 512 * q.val + 256] : Fin 2 → ℕ) a + S128x256.size a ≤ S128x16384.size a := by
  intro a; fin_cases a
  · show 0 + 128 ≤ 128; omega
  · show 512 * q.val + 256 + 256 ≤ 16384; omega
theorem in3' (h : Fin 2) (q : Fin 32) : ∀ a, (![0, h.val, 512 * q.val + 256] : Fin 3 → ℕ) a + S1x1x256.size a ≤ S1x8x16384.size a := by
  intro a; fin_cases a
  · show 0 + 1 ≤ 1; omega
  · show h.val + 1 ≤ 8; omega
  · show 512 * q.val + 256 + 256 ≤ 16384; omega

section
variable (K : Keys F) (x3 x4 : Vec F S128x16384 .bf16) (x8 x9 : Vec F S1x8x16384 .f32)

/-- The block of keys against the block of queries `q`, unmasked. -/
def tile (q : Fin 32) (σ : St F) : St F :=
  bothU K.k0 K.k1 K.v0 K.v1 K.c0 K.c1 K.t0 K.t1 (in2 q) (in3 0 q) (in3 1 q) inb_S2x128x512_S1x128x512_0_0_0 inb_S2x128x512_S1x128x512_1_0_0
    inb_S2x512x1_S1x512x1_0_0_0 inb_S2x512x1_S1x512x1_1_0_0 x3 x4 x8 x9 σ

/-- The first half of the keys against their own block of queries, masked. -/
def diagA (q : Fin 32) (σ : St F) : St F :=
  bothM1 (extractStridedSlice S256x128 ![0, 0] K.k0 slices_S512x128_o0_0_S256x128) (extractStridedSlice S256x128 ![0, 0] K.k1 slices_S512x128_o0_0_S256x128)
    (extractStridedSlice S256x128 ![0, 0] K.v0 slices_S512x128_o0_0_S256x128) (extractStridedSlice S256x128 ![0, 0] K.v1 slices_S512x128_o0_0_S256x128)
    (extractStridedSlice S256x1 ![0, 0] K.c0 slices_S512x1_o0_0_S256x1) (extractStridedSlice S256x1 ![0, 0] K.c1 slices_S512x1_o0_0_S256x1)
    (extractStridedSlice S128x256 ![0, 0] K.t0 slices_S128x512_o0_0_S128x256) (extractStridedSlice S128x256 ![0, 0] K.t1 slices_S128x512_o0_0_S128x256)
    (in2 q) (in3 0 q) (in3 1 q) inb_S2x128x512_S1x128x256_0_0_0 inb_S2x128x512_S1x128x256_1_0_0
    inb_S2x512x1_S1x256x1_0_0_0 inb_S2x512x1_S1x256x1_1_0_0 x3 x4 x8 x9 σ

/-- The second half of the keys against the second half of their own block of queries, masked. -/
def diagB (q : Fin 32) (σ : St F) : St F :=
  bothM2 (extractStridedSlice S256x128 ![256, 0] K.k0 slices_S512x128_o256_0_S256x128) (extractStridedSlice S256x128 ![256, 0] K.k1 slices_S512x128_o256_0_S256x128)
    (extractStridedSlice S256x128 ![256, 0] K.v0 slices_S512x128_o256_0_S256x128) (extractStridedSlice S256x128 ![256, 0] K.v1 slices_S512x128_o256_0_S256x128)
    (extractStridedSlice S256x1 ![256, 0] K.c0 slices_S512x1_o256_0_S256x1) (extractStridedSlice S256x1 ![256, 0] K.c1 slices_S512x1_o256_0_S256x1)
    (extractStridedSlice S128x256 ![0, 256] K.t0 slices_S128x512_o0_256_S128x256) (extractStridedSlice S128x256 ![0, 256] K.t1 slices_S128x512_o0_256_S128x256)
    (in2' q) (in3' 0 q) (in3' 1 q) inb_S2x128x512_S1x128x256_0_0_256 inb_S2x128x512_S1x128x256_1_0_256
    inb_S2x512x1_S1x256x1_0_256_0 inb_S2x512x1_S1x256x1_1_256_0 x3 x4 x8 x9 σ

/-- The block's own queries and the `n` blocks of queries after them. -/
def upto (kj : ℕ) (σ : St F) : ℕ → St F
  | 0 => diagB K x3 x4 x8 x9 ⟨kj % 32, Nat.mod_lt _ (by omega)⟩ (diagA K x3 x4 x8 x9 ⟨kj % 32, Nat.mod_lt _ (by omega)⟩ σ)
  | n + 1 => tile K x3 x4 x8 x9 ⟨(kj + 1 + n) % 32, Nat.mod_lt _ (by omega)⟩ (upto kj σ n)

variable (m3 m4 : Memref sig .tc .vmem S128x16384 .bf16)
  (m8 m9 m14 : Memref sig .tc .vmem S1x8x16384 .f32) (m10 : Memref sig .tc .vmem S128x16384 .f32)
  (m15 m16 : Memref sig .tc .vmem S2x128x512 .f32) (m17 : Memref sig .tc .vmem S2x512x1 .f32)
  {o2 : Fin 2 → ℕ} {o3 o3' : Fin 3 → ℕ}

theorem tile_spec (c : Dev nD) (i2 : ∀ a, o2 a + S128x512.size a ≤ S128x16384.size a) (i3 : ∀ a, o3 a + S1x1x512.size a ≤ S1x8x16384.size a)
    (i3' : ∀ a, o3' a + S1x1x512.size a ≤ S1x8x16384.size a) {q : ℕ} (h2 : o2 = ![0, 512 * q]) (h3 : o3 = ![0, 0, 512 * q]) (h3' : o3' = ![0, 1, 512 * q])
    (n : ℕ) (kj : ℕ) (σ : St F) (hn : (kj + 1 + n) % 32 = q) (Q : PUnit → sProp 𝕄) :
    Own c m3 m4 m8 m9 m14 m10 m15 m16 m17 x3 x4 x8 x9 (upto K x3 x4 x8 x9 kj σ n)
      ⊢ iprop((Own c m3 m4 m8 m9 m14 m10 m15 m16 m17 x3 x4 x8 x9 (upto K x3 x4 x8 x9 kj σ (n + 1)) -∗ Q ⟨⟩)
        -∗ wp frame (wpE (defs₀ (F := F)) Variants.none c none) Set.univ (progU K.k0 K.k1 K.v0 K.v1 K.c0 K.c1 K.t0 K.t1 i2 i3 i3'
          inb_S2x128x512_S1x128x512_0_0_0 inb_S2x128x512_S1x128x512_1_0_0 inb_S2x512x1_S1x512x1_0_0_0 inb_S2x512x1_S1x512x1_1_0_0
          m3 m4 m8 m9 m14 m10 m15 m16 m17) Q) := by
  subst hn; subst h2; subst h3; subst h3'
  exact progU_spec K.k0 K.k1 K.v0 K.v1 K.c0 K.c1 K.t0 K.t1 i2 i3 i3' inb_S2x128x512_S1x128x512_0_0_0 inb_S2x128x512_S1x128x512_1_0_0
    inb_S2x512x1_S1x512x1_0_0_0 inb_S2x512x1_S1x512x1_1_0_0 x3 x4 x8 x9 m3 m4 m8 m9 m14 m10 m15 m16 m17 c _ Q

/-- The block against its own queries, as a program. -/
def progD {p2 : Fin 2 → ℕ} {p3 p3' : Fin 3 → ℕ} (i2 : ∀ a, o2 a + S128x512.size a ≤ S128x16384.size a) (i3 : ∀ a, o3 a + S1x1x512.size a ≤ S1x8x16384.size a)
    (i3' : ∀ a, o3' a + S1x1x512.size a ≤ S1x8x16384.size a) (j2 : ∀ a, p2 a + S128x256.size a ≤ S128x16384.size a) (j3 : ∀ a, p3 a + S1x1x256.size a ≤ S1x8x16384.size a)
    (j3' : ∀ a, p3' a + S1x1x256.size a ≤ S1x8x16384.size a) : Prog (TpuEff nD τ sig (Elt F) Λ₀ .tc) PUnit := do
  progM1 (extractStridedSlice S256x128 ![0, 0] K.k0 slices_S512x128_o0_0_S256x128) (extractStridedSlice S256x128 ![0, 0] K.k1 slices_S512x128_o0_0_S256x128)
    (extractStridedSlice S256x128 ![0, 0] K.v0 slices_S512x128_o0_0_S256x128) (extractStridedSlice S256x128 ![0, 0] K.v1 slices_S512x128_o0_0_S256x128)
    (extractStridedSlice S256x1 ![0, 0] K.c0 slices_S512x1_o0_0_S256x1) (extractStridedSlice S256x1 ![0, 0] K.c1 slices_S512x1_o0_0_S256x1)
    (extractStridedSlice S128x256 ![0, 0] K.t0 slices_S128x512_o0_0_S128x256) (extractStridedSlice S128x256 ![0, 0] K.t1 slices_S128x512_o0_0_S128x256)
    i2 i3 i3' inb_S2x128x512_S1x128x256_0_0_0 inb_S2x128x512_S1x128x256_1_0_0
    inb_S2x512x1_S1x256x1_0_0_0 inb_S2x512x1_S1x256x1_1_0_0 m3 m4 m8 m9 m14 m10 m15 m16 m17
  progM2 (extractStridedSlice S256x128 ![256, 0] K.k0 slices_S512x128_o256_0_S256x128) (extractStridedSlice S256x128 ![256, 0] K.k1 slices_S512x128_o256_0_S256x128)
    (extractStridedSlice S256x128 ![256, 0] K.v0 slices_S512x128_o256_0_S256x128) (extractStridedSlice S256x128 ![256, 0] K.v1 slices_S512x128_o256_0_S256x128)
    (extractStridedSlice S256x1 ![256, 0] K.c0 slices_S512x1_o256_0_S256x1) (extractStridedSlice S256x1 ![256, 0] K.c1 slices_S512x1_o256_0_S256x1)
    (extractStridedSlice S128x256 ![0, 256] K.t0 slices_S128x512_o0_256_S128x256) (extractStridedSlice S128x256 ![0, 256] K.t1 slices_S128x512_o0_256_S128x256)
    j2 j3 j3' inb_S2x128x512_S1x128x256_0_0_256 inb_S2x128x512_S1x128x256_1_0_256
    inb_S2x512x1_S1x256x1_0_256_0 inb_S2x512x1_S1x256x1_1_256_0 m3 m4 m8 m9 m14 m10 m15 m16 m17

theorem diag_spec {p2 : Fin 2 → ℕ} {p3 p3' : Fin 3 → ℕ} (c : Dev nD) (i2 : ∀ a, o2 a + S128x512.size a ≤ S128x16384.size a) (i3 : ∀ a, o3 a + S1x1x512.size a ≤ S1x8x16384.size a)
    (i3' : ∀ a, o3' a + S1x1x512.size a ≤ S1x8x16384.size a) (j2 : ∀ a, p2 a + S128x256.size a ≤ S128x16384.size a) (j3 : ∀ a, p3 a + S1x1x256.size a ≤ S1x8x16384.size a)
    (j3' : ∀ a, p3' a + S1x1x256.size a ≤ S1x8x16384.size a) {q : ℕ} (h2 : o2 = ![0, 512 * q]) (h3 : o3 = ![0, 0, 512 * q]) (h3' : o3' = ![0, 1, 512 * q])
    (g2 : p2 = ![0, 512 * q + 256]) (g3 : p3 = ![0, 0, 512 * q + 256]) (g3' : p3' = ![0, 1, 512 * q + 256])
    (kj : ℕ) (σ : St F) (hn : kj % 32 = q) (Q : PUnit → sProp 𝕄) :
    Own c m3 m4 m8 m9 m14 m10 m15 m16 m17 x3 x4 x8 x9 σ
      ⊢ iprop((Own c m3 m4 m8 m9 m14 m10 m15 m16 m17 x3 x4 x8 x9 (upto K x3 x4 x8 x9 kj σ 0) -∗ Q ⟨⟩)
        -∗ wp frame (wpE (defs₀ (F := F)) Variants.none c none) Set.univ (progD K m3 m4 m8 m9 m14 m10 m15 m16 m17 i2 i3 i3' j2 j3 j3') Q) := by
  subst hn; subst h2; subst h3; subst h3'; subst g2; subst g3; subst g3'
  unfold progD
  iintro H HQ
  rw [wp_bind]
  iapply (progM1_spec _ _ _ _ _ _ _ _ i2 i3 i3' _ _ _ _ x3 x4 x8 x9 m3 m4 m8 m9 m14 m10 m15 m16 m17 c σ _) $$ H
  iintro H
  iapply (progM2_spec _ _ _ _ _ _ _ _ j2 j3 j3' _ _ _ _ x3 x4 x8 x9 m3 m4 m8 m9 m14 m10 m15 m16 m17 c _ _) $$ H
  iexact HQ
end

end Cert.AttnIdeal.Body
-- ==== Proof.AttnIdeal.Body.lean ====
/-
  The parts of the attention backward kernel's body that meet the blocks of queries, as programs over the blocks, and
  what they leave in the accumulators.
-/
module

public import proofs.«01_k».proof.Proof.AttnIdeal.Sched

@[expose] public section

set_option maxRecDepth 16384

noncomputable section

namespace Cert.AttnIdeal.Body

open Cert.AttnIdeal Cert.AttnIdeal.Gen Cert.Cells
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (t : Fin grid0.N) (arg2 : Memref sig .tc .vmem S512x128 .bf16) (harg2 : arg2.IsWhole) (arg3 : Memref sig .tc .vmem S128x16384 .bf16) (harg3 : arg3.IsWhole) (arg4 : Memref sig .tc .vmem S128x16384 .bf16) (harg4 : arg4.IsWhole) (arg5 : Memref sig .tc .vmem S128x512 .bf16) (harg5 : arg5.IsWhole) (arg6 : Memref sig .tc .vmem S512x128 .bf16) (harg6 : arg6.IsWhole) (arg7 : Memref sig .tc .vmem S512x128 .f32) (harg7 : arg7.IsWhole) (arg8 : Memref sig .tc .vmem S1x8x16384 .f32) (harg8 : arg8.IsWhole) (arg9 : Memref sig .tc .vmem S1x8x16384 .f32) (harg9 : arg9.IsWhole) (arg10 : Memref sig .tc .vmem S128x16384 .f32) (harg10 : arg10.IsWhole) (arg11 : Memref sig .tc .vmem S128x512 .bf16) (harg11 : arg11.IsWhole) (arg12 : Memref sig .tc .vmem S128x512 .bf16) (harg12 : arg12.IsWhole) (arg13 : Memref sig .tc .vmem S1x512x128 .f32) (harg13 : arg13.IsWhole) (arg14 : Memref sig .tc .vmem S1x8x16384 .f32) (harg14 : arg14.IsWhole) (arg15 : Memref sig .tc .vmem S2x128x512 .f32) (harg15 : arg15.IsWhole) (arg16 : Memref sig .tc .vmem S2x128x512 .f32) (harg16 : arg16.IsWhole) (arg17 : Memref sig .tc .vmem S2x512x1 .f32) (harg17 : arg17.IsWhole)
  (K : Keys F) (arg1 v72 c4_i32 c1_i32_31 v110 c0_i32_52 : BitVec 32) (v73 : BitVec 1)

/-- The second way: the block meets its own queries and one of the blocks after it. -/
def few1 (t : Fin grid0.N) (arg3 : Memref sig .tc .vmem S128x16384 .bf16) (arg4 : Memref sig .tc .vmem S128x16384 .bf16) (arg8 : Memref sig .tc .vmem S1x8x16384 .f32) (arg9 : Memref sig .tc .vmem S1x8x16384 .f32) (arg14 : Memref sig .tc .vmem S1x8x16384 .f32) (arg10 : Memref sig .tc .vmem S128x16384 .f32) (arg15 : Memref sig .tc .vmem S2x128x512 .f32) (arg16 : Memref sig .tc .vmem S2x128x512 .f32) (arg17 : Memref sig .tc .vmem S2x512x1 .f32) (K : Keys F) {α : Type} (r : α) : Prog (TpuEff nD τ sig (Elt F) Λ₀ .tc) α :=
  if h : k0_cond3 (grid0.coords t) = 1#1 then do
    progD K arg3 arg4 arg8 arg9 arg14 arg10 arg15 arg16 arg17 (k0_off7_inb (grid0.coords t) h 0) (k0_off8_inb (grid0.coords t) h 0) (k0_off9_inb (grid0.coords t) h 0) (k0_off10_inb (grid0.coords t) h) (k0_off11_inb (grid0.coords t) h) (k0_off12_inb (grid0.coords t) h)
    progU K.k0 K.k1 K.v0 K.v1 K.c0 K.c1 K.t0 K.t1 (k0_off7_inb (grid0.coords t) h 1) (k0_off8_inb (grid0.coords t) h 1) (k0_off9_inb (grid0.coords t) h 1) inb_S2x128x512_S1x128x512_0_0_0 inb_S2x128x512_S1x128x512_1_0_0 inb_S2x512x1_S1x512x1_0_0_0 inb_S2x512x1_S1x512x1_1_0_0 arg3 arg4 arg8 arg9 arg14 arg10 arg15 arg16 arg17
    pure r
  else pure r

/-- The first way: it meets its own queries only. -/
def few (t : Fin grid0.N) (arg3 : Memref sig .tc .vmem S128x16384 .bf16) (arg4 : Memref sig .tc .vmem S128x16384 .bf16) (arg8 : Memref sig .tc .vmem S1x8x16384 .f32) (arg9 : Memref sig .tc .vmem S1x8x16384 .f32) (arg14 : Memref sig .tc .vmem S1x8x16384 .f32) (arg10 : Memref sig .tc .vmem S128x16384 .f32) (arg15 : Memref sig .tc .vmem S2x128x512 .f32) (arg16 : Memref sig .tc .vmem S2x128x512 .f32) (arg17 : Memref sig .tc .vmem S2x512x1 .f32) (K : Keys F) {α : Type} (r : α) : Prog (TpuEff nD τ sig (Elt F) Λ₀ .tc) α :=
  if h : k0_cond2 (grid0.coords t) = 1#1 then do
    progD K arg3 arg4 arg8 arg9 arg14 arg10 arg15 arg16 arg17 (k0_off1_inb (grid0.coords t) h) (k0_off2_inb (grid0.coords t) h) (k0_off3_inb (grid0.coords t) h) (k0_off4_inb (grid0.coords t) h) (k0_off5_inb (grid0.coords t) h) (k0_off6_inb (grid0.coords t) h)
    few1 t arg3 arg4 arg8 arg9 arg14 arg10 arg15 arg16 arg17 K r
  else few1 t arg3 arg4 arg8 arg9 arg14 arg10 arg15 arg16 arg17 K r

/-- The rest of the blocks, four a trip. -/
def rest (t : Fin grid0.N) (arg3 : Memref sig .tc .vmem S128x16384 .bf16) (arg4 : Memref sig .tc .vmem S128x16384 .bf16) (arg8 : Memref sig .tc .vmem S1x8x16384 .f32) (arg9 : Memref sig .tc .vmem S1x8x16384 .f32) (arg14 : Memref sig .tc .vmem S1x8x16384 .f32) (arg10 : Memref sig .tc .vmem S128x16384 .f32) (arg15 : Memref sig .tc .vmem S2x128x512 .f32) (arg16 : Memref sig .tc .vmem S2x128x512 .f32) (arg17 : Memref sig .tc .vmem S2x512x1 .f32) (K : Keys F) : Prog (TpuEff nD τ sig (Elt F) Λ₀ .tc) PUnit := do
  Scf.Loop.for (k0_t1_loop (grid0.coords t)) (k0_t1_ok (grid0.coords t)) ⟨⟩ fun k _ => do
    progU K.k0 K.k1 K.v0 K.v1 K.c0 K.c1 K.t0 K.t1 (k0_off25_inb (grid0.coords t) k 0) (k0_off26_inb (grid0.coords t) k 0) (k0_off27_inb (grid0.coords t) k 0) inb_S2x128x512_S1x128x512_0_0_0 inb_S2x128x512_S1x128x512_1_0_0 inb_S2x512x1_S1x512x1_0_0_0 inb_S2x512x1_S1x512x1_1_0_0 arg3 arg4 arg8 arg9 arg14 arg10 arg15 arg16 arg17
    progU K.k0 K.k1 K.v0 K.v1 K.c0 K.c1 K.t0 K.t1 (k0_off25_inb (grid0.coords t) k 1) (k0_off26_inb (grid0.coords t) k 1) (k0_off27_inb (grid0.coords t) k 1) inb_S2x128x512_S1x128x512_0_0_0 inb_S2x128x512_S1x128x512_1_0_0 inb_S2x512x1_S1x512x1_0_0_0 inb_S2x512x1_S1x512x1_1_0_0 arg3 arg4 arg8 arg9 arg14 arg10 arg15 arg16 arg17
    progU K.k0 K.k1 K.v0 K.v1 K.c0 K.c1 K.t0 K.t1 (k0_off25_inb (grid0.coords t) k 2) (k0_off26_inb (grid0.coords t) k 2) (k0_off27_inb (grid0.coords t) k 2) inb_S2x128x512_S1x128x512_0_0_0 inb_S2x128x512_S1x128x512_1_0_0 inb_S2x512x1_S1x512x1_0_0_0 inb_S2x512x1_S1x512x1_1_0_0 arg3 arg4 arg8 arg9 arg14 arg10 arg15 arg16 arg17
    progU K.k0 K.k1 K.v0 K.v1 K.c0 K.c1 K.t0 K.t1 (k0_off25_inb (grid0.coords t) k 3) (k0_off26_inb (grid0.coords t) k 3) (k0_off27_inb (grid0.coords t) k 3) inb_S2x128x512_S1x128x512_0_0_0 inb_S2x128x512_S1x128x512_1_0_0 inb_S2x512x1_S1x512x1_0_0_0 inb_S2x512x1_S1x512x1_1_0_0 arg3 arg4 arg8 arg9 arg14 arg10 arg15 arg16 arg17
  Scf.Loop.for (k0_t2_loop (grid0.coords t)) (k0_t2_ok (grid0.coords t)) ⟨⟩ fun k _ => do
    progU K.k0 K.k1 K.v0 K.v1 K.c0 K.c1 K.t0 K.t1 (k0_off28_inb (grid0.coords t) k 0) (k0_off29_inb (grid0.coords t) k 0) (k0_off30_inb (grid0.coords t) k 0) inb_S2x128x512_S1x128x512_0_0_0 inb_S2x128x512_S1x128x512_1_0_0 inb_S2x512x1_S1x512x1_0_0_0 inb_S2x512x1_S1x512x1_1_0_0 arg3 arg4 arg8 arg9 arg14 arg10 arg15 arg16 arg17
    progU K.k0 K.k1 K.v0 K.v1 K.c0 K.c1 K.t0 K.t1 (k0_off28_inb (grid0.coords t) k 1) (k0_off29_inb (grid0.coords t) k 1) (k0_off30_inb (grid0.coords t) k 1) inb_S2x128x512_S1x128x512_0_0_0 inb_S2x128x512_S1x128x512_1_0_0 inb_S2x512x1_S1x512x1_0_0_0 inb_S2x512x1_S1x512x1_1_0_0 arg3 arg4 arg8 arg9 arg14 arg10 arg15 arg16 arg17
    progU K.k0 K.k1 K.v0 K.v1 K.c0 K.c1 K.t0 K.t1 (k0_off28_inb (grid0.coords t) k 2) (k0_off29_inb (grid0.coords t) k 2) (k0_off30_inb (grid0.coords t) k 2) inb_S2x128x512_S1x128x512_0_0_0 inb_S2x128x512_S1x128x512_1_0_0 inb_S2x512x1_S1x512x1_0_0_0 inb_S2x512x1_S1x512x1_1_0_0 arg3 arg4 arg8 arg9 arg14 arg10 arg15 arg16 arg17
    progU K.k0 K.k1 K.v0 K.v1 K.c0 K.c1 K.t0 K.t1 (k0_off28_inb (grid0.coords t) k 3) (k0_off29_inb (grid0.coords t) k 3) (k0_off30_inb (grid0.coords t) k 3) inb_S2x128x512_S1x128x512_0_0_0 inb_S2x128x512_S1x128x512_1_0_0 inb_S2x512x1_S1x512x1_0_0_0 inb_S2x512x1_S1x512x1_1_0_0 arg3 arg4 arg8 arg9 arg14 arg10 arg15 arg16 arg17
  pure ⟨⟩

/-- The fourth way: it meets three of the blocks after it. -/
def many1 (t : Fin grid0.N) (arg3 : Memref sig .tc .vmem S128x16384 .bf16) (arg4 : Memref sig .tc .vmem S128x16384 .bf16) (arg8 : Memref sig .tc .vmem S1x8x16384 .f32) (arg9 : Memref sig .tc .vmem S1x8x16384 .f32) (arg14 : Memref sig .tc .vmem S1x8x16384 .f32) (arg10 : Memref sig .tc .vmem S128x16384 .f32) (arg15 : Memref sig .tc .vmem S2x128x512 .f32) (arg16 : Memref sig .tc .vmem S2x128x512 .f32) (arg17 : Memref sig .tc .vmem S2x512x1 .f32) (K : Keys F) : Prog (TpuEff nD τ sig (Elt F) Λ₀ .tc) PUnit :=
  if h : k0_cond5 (grid0.coords t) = 1#1 then do
    progD K arg3 arg4 arg8 arg9 arg14 arg10 arg15 arg16 arg17 (k0_off19_inb (grid0.coords t) h 0) (k0_off20_inb (grid0.coords t) h 0) (k0_off21_inb (grid0.coords t) h 0) (k0_off22_inb (grid0.coords t) h) (k0_off23_inb (grid0.coords t) h) (k0_off24_inb (grid0.coords t) h)
    progU K.k0 K.k1 K.v0 K.v1 K.c0 K.c1 K.t0 K.t1 (k0_off19_inb (grid0.coords t) h 1) (k0_off20_inb (grid0.coords t) h 1) (k0_off21_inb (grid0.coords t) h 1) inb_S2x128x512_S1x128x512_0_0_0 inb_S2x128x512_S1x128x512_1_0_0 inb_S2x512x1_S1x512x1_0_0_0 inb_S2x512x1_S1x512x1_1_0_0 arg3 arg4 arg8 arg9 arg14 arg10 arg15 arg16 arg17
    progU K.k0 K.k1 K.v0 K.v1 K.c0 K.c1 K.t0 K.t1 (k0_off19_inb (grid0.coords t) h 2) (k0_off20_inb (grid0.coords t) h 2) (k0_off21_inb (grid0.coords t) h 2) inb_S2x128x512_S1x128x512_0_0_0 inb_S2x128x512_S1x128x512_1_0_0 inb_S2x512x1_S1x512x1_0_0_0 inb_S2x512x1_S1x512x1_1_0_0 arg3 arg4 arg8 arg9 arg14 arg10 arg15 arg16 arg17
    progU K.k0 K.k1 K.v0 K.v1 K.c0 K.c1 K.t0 K.t1 (k0_off19_inb (grid0.coords t) h 3) (k0_off20_inb (grid0.coords t) h 3) (k0_off21_inb (grid0.coords t) h 3) inb_S2x128x512_S1x128x512_0_0_0 inb_S2x128x512_S1x128x512_1_0_0 inb_S2x512x1_S1x512x1_0_0_0 inb_S2x512x1_S1x512x1_1_0_0 arg3 arg4 arg8 arg9 arg14 arg10 arg15 arg16 arg17
    rest t arg3 arg4 arg8 arg9 arg14 arg10 arg15 arg16 arg17 K
  else rest t arg3 arg4 arg8 arg9 arg14 arg10 arg15 arg16 arg17 K

/-- The third way: it meets two of them. -/
def many (t : Fin grid0.N) (arg3 : Memref sig .tc .vmem S128x16384 .bf16) (arg4 : Memref sig .tc .vmem S128x16384 .bf16) (arg8 : Memref sig .tc .vmem S1x8x16384 .f32) (arg9 : Memref sig .tc .vmem S1x8x16384 .f32) (arg14 : Memref sig .tc .vmem S1x8x16384 .f32) (arg10 : Memref sig .tc .vmem S128x16384 .f32) (arg15 : Memref sig .tc .vmem S2x128x512 .f32) (arg16 : Memref sig .tc .vmem S2x128x512 .f32) (arg17 : Memref sig .tc .vmem S2x512x1 .f32) (K : Keys F) : Prog (TpuEff nD τ sig (Elt F) Λ₀ .tc) PUnit :=
  if h : k0_cond4 (grid0.coords t) = 1#1 then do
    progD K arg3 arg4 arg8 arg9 arg14 arg10 arg15 arg16 arg17 (k0_off13_inb (grid0.coords t) h 0) (k0_off14_inb (grid0.coords t) h 0) (k0_off15_inb (grid0.coords t) h 0) (k0_off16_inb (grid0.coords t) h) (k0_off17_inb (grid0.coords t) h) (k0_off18_inb (grid0.coords t) h)
    progU K.k0 K.k1 K.v0 K.v1 K.c0 K.c1 K.t0 K.t1 (k0_off13_inb (grid0.coords t) h 1) (k0_off14_inb (grid0.coords t) h 1) (k0_off15_inb (grid0.coords t) h 1) inb_S2x128x512_S1x128x512_0_0_0 inb_S2x128x512_S1x128x512_1_0_0 inb_S2x512x1_S1x512x1_0_0_0 inb_S2x512x1_S1x512x1_1_0_0 arg3 arg4 arg8 arg9 arg14 arg10 arg15 arg16 arg17
    progU K.k0 K.k1 K.v0 K.v1 K.c0 K.c1 K.t0 K.t1 (k0_off13_inb (grid0.coords t) h 2) (k0_off14_inb (grid0.coords t) h 2) (k0_off15_inb (grid0.coords t) h 2) inb_S2x128x512_S1x128x512_0_0_0 inb_S2x128x512_S1x128x512_1_0_0 inb_S2x512x1_S1x512x1_0_0_0 inb_S2x512x1_S1x512x1_1_0_0 arg3 arg4 arg8 arg9 arg14 arg10 arg15 arg16 arg17
    many1 t arg3 arg4 arg8 arg9 arg14 arg10 arg15 arg16 arg17 K
  else many1 t arg3 arg4 arg8 arg9 arg14 arg10 arg15 arg16 arg17 K

set_option maxHeartbeats 1600000 in
theorem part83_eq : ∃ r, k0_part83 (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 K.k0 K.k1 K.v0 K.v1 K.t0 K.t1 K.c0 K.c1 v72 c4_i32 v73 c1_i32_31
    = few t arg3 arg4 arg8 arg9 arg14 arg10 arg15 arg16 arg17 K r := ⟨_, rfl⟩

set_option maxHeartbeats 1600000 in
theorem part84_eq : k0_part84 (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 K.k0 K.k1 K.v0 K.v1 K.t0 K.t1 K.c0 K.c1 v72 v110 c0_i32_52
    = many t arg3 arg4 arg8 arg9 arg14 arg10 arg15 arg16 arg17 K := rfl

variable (x3 x4 : Vec F S128x16384 .bf16) (x8 x9 : Vec F S1x8x16384 .f32)

/-- The accumulators after the first of the two parts: of its four ways the part takes the one the block's place asks
    for, if it is one of the first two. -/
def afterFew (kj : ℕ) (σ : St F) : St F :=
  if (31 - kj) % 4 = 0 then upto K x3 x4 x8 x9 kj σ 0 else if (31 - kj) % 4 = 1 then upto K x3 x4 x8 x9 kj σ 1 else σ

set_option maxHeartbeats 1600000 in
theorem few_spec {α : Type} (r : α) (c : Dev nD) (σ : St F) (Q : α → sProp 𝕄) :
    Own c arg3 arg4 arg8 arg9 arg14 arg10 arg15 arg16 arg17 x3 x4 x8 x9 σ ⊢ iprop((Own c arg3 arg4 arg8 arg9 arg14 arg10 arg15 arg16 arg17 x3 x4 x8 x9 (afterFew K x3 x4 x8 x9 (t.val % 32) σ) -∗ Q r)
        -∗ wp frame (wpE (defs₀ (F := F)) Variants.none c none) Set.univ (few t arg3 arg4 arg8 arg9 arg14 arg10 arg15 arg16 arg17 K r) Q) := by
  unfold few afterFew
  iintro H HQ
  by_cases h2 : k0_cond2 (grid0.coords t) = 1#1
  · have e2 := (cond2_iff t).mp h2
    have n3 : ¬ k0_cond3 (grid0.coords t) = 1#1 := fun h => by have := (cond3_iff t).mp h; omega
    rw [dif_pos h2, if_pos e2, wp_bind]
    iapply (diag_spec K x3 x4 x8 x9 arg3 arg4 arg8 arg9 arg14 arg10 arg15 arg16 arg17 c (k0_off1_inb (grid0.coords t) h2) (k0_off2_inb (grid0.coords t) h2) (k0_off3_inb (grid0.coords t) h2) (k0_off4_inb (grid0.coords t) h2) (k0_off5_inb (grid0.coords t) h2) (k0_off6_inb (grid0.coords t) h2) (q := t.val % 32) (off1_eq t) (off2_eq t) (off3_eq t) (off4_eq t) (off5_eq t) (off6_eq t) (t.val % 32) σ (by omega) _) $$ H
    iintro H
    unfold few1
    rw [dif_neg n3, wp_pure]
    imodintro
    iapply HQ
    iexact H
  have e2 : ¬ (31 - t.val % 32) % 4 = 0 := fun h => h2 ((cond2_iff t).mpr h)
  rw [dif_neg h2, if_neg e2]
  unfold few1
  by_cases h3 : k0_cond3 (grid0.coords t) = 1#1
  · have e3 := (cond3_iff t).mp h3
    rw [dif_pos h3, if_pos e3, wp_bind]
    iapply (diag_spec K x3 x4 x8 x9 arg3 arg4 arg8 arg9 arg14 arg10 arg15 arg16 arg17 c (k0_off7_inb (grid0.coords t) h3 0) (k0_off8_inb (grid0.coords t) h3 0) (k0_off9_inb (grid0.coords t) h3 0) (k0_off10_inb (grid0.coords t) h3) (k0_off11_inb (grid0.coords t) h3) (k0_off12_inb (grid0.coords t) h3) (q := t.val % 32) (off7_eq t 0) (off8_eq t 0) (off9_eq t 0) (off10_eq t) (off11_eq t) (off12_eq t) (t.val % 32) σ (by omega) _) $$ H
    iintro H
    rw [wp_bind]
    iapply (tile_spec K x3 x4 x8 x9 arg3 arg4 arg8 arg9 arg14 arg10 arg15 arg16 arg17 c (k0_off7_inb (grid0.coords t) h3 1) (k0_off8_inb (grid0.coords t) h3 1) (k0_off9_inb (grid0.coords t) h3 1) (q := t.val % 32 + 1) (off7_eq t 1) (off8_eq t 1) (off9_eq t 1) 0 (t.val % 32) σ (by omega) _) $$ H
    iintro H
    rw [wp_pure]
    imodintro
    iapply HQ
    iexact H
  have e3 : ¬ (31 - t.val % 32) % 4 = 1 := fun h => h3 ((cond3_iff t).mpr h)
  rw [dif_neg h3, if_neg e3, wp_pure]
  imodintro
  iapply HQ
  iexact H

theorem loop_step (c : Dev nD) (σ : St F) (k : Fin (k0_t1_loop (grid0.coords t)).trips) :
    Own c arg3 arg4 arg8 arg9 arg14 arg10 arg15 arg16 arg17 x3 x4 x8 x9 (upto K x3 x4 x8 x9 (t.val % 32) σ ((31 - t.val % 32) % 4 + 4 * k.val)) ⊢
      wp frame (wpE (defs₀ (F := F)) Variants.none c none) Set.univ (do
        progU K.k0 K.k1 K.v0 K.v1 K.c0 K.c1 K.t0 K.t1 (k0_off25_inb (grid0.coords t) k 0) (k0_off26_inb (grid0.coords t) k 0) (k0_off27_inb (grid0.coords t) k 0) inb_S2x128x512_S1x128x512_0_0_0 inb_S2x128x512_S1x128x512_1_0_0 inb_S2x512x1_S1x512x1_0_0_0 inb_S2x512x1_S1x512x1_1_0_0 arg3 arg4 arg8 arg9 arg14 arg10 arg15 arg16 arg17
        progU K.k0 K.k1 K.v0 K.v1 K.c0 K.c1 K.t0 K.t1 (k0_off25_inb (grid0.coords t) k 1) (k0_off26_inb (grid0.coords t) k 1) (k0_off27_inb (grid0.coords t) k 1) inb_S2x128x512_S1x128x512_0_0_0 inb_S2x128x512_S1x128x512_1_0_0 inb_S2x512x1_S1x512x1_0_0_0 inb_S2x512x1_S1x512x1_1_0_0 arg3 arg4 arg8 arg9 arg14 arg10 arg15 arg16 arg17
        progU K.k0 K.k1 K.v0 K.v1 K.c0 K.c1 K.t0 K.t1 (k0_off25_inb (grid0.coords t) k 2) (k0_off26_inb (grid0.coords t) k 2) (k0_off27_inb (grid0.coords t) k 2) inb_S2x128x512_S1x128x512_0_0_0 inb_S2x128x512_S1x128x512_1_0_0 inb_S2x512x1_S1x512x1_0_0_0 inb_S2x512x1_S1x512x1_1_0_0 arg3 arg4 arg8 arg9 arg14 arg10 arg15 arg16 arg17
        progU K.k0 K.k1 K.v0 K.v1 K.c0 K.c1 K.t0 K.t1 (k0_off25_inb (grid0.coords t) k 3) (k0_off26_inb (grid0.coords t) k 3) (k0_off27_inb (grid0.coords t) k 3) inb_S2x128x512_S1x128x512_0_0_0 inb_S2x128x512_S1x128x512_1_0_0 inb_S2x512x1_S1x512x1_0_0_0 inb_S2x512x1_S1x512x1_1_0_0 arg3 arg4 arg8 arg9 arg14 arg10 arg15 arg16 arg17) (fun _ => Own c arg3 arg4 arg8 arg9 arg14 arg10 arg15 arg16 arg17 x3 x4 x8 x9 (upto K x3 x4 x8 x9 (t.val % 32) σ ((31 - t.val % 32) % 4 + 4 * (k.val + 1)))) := by
  have hk : k.val < (31 - t.val % 32) / 4 := (t1_trips t) ▸ k.isLt
  iintro H
  rw [wp_bind]
  iapply (tile_spec K x3 x4 x8 x9 arg3 arg4 arg8 arg9 arg14 arg10 arg15 arg16 arg17 c (k0_off25_inb (grid0.coords t) k 0) (k0_off26_inb (grid0.coords t) k 0) (k0_off27_inb (grid0.coords t) k 0) (q := t.val % 32 + 1 + (31 - t.val % 32) % 4 + 4 * k.val + 0) (off25_eq t k 0) (off26_eq t k 0) (off27_eq t k 0) ((31 - t.val % 32) % 4 + 4 * k.val) (t.val % 32) σ (by omega) _) $$ H
  iintro H
  rw [wp_bind]
  iapply (tile_spec K x3 x4 x8 x9 arg3 arg4 arg8 arg9 arg14 arg10 arg15 arg16 arg17 c (k0_off25_inb (grid0.coords t) k 1) (k0_off26_inb (grid0.coords t) k 1) (k0_off27_inb (grid0.coords t) k 1) (q := t.val % 32 + 1 + (31 - t.val % 32) % 4 + 4 * k.val + 1) (off25_eq t k 1) (off26_eq t k 1) (off27_eq t k 1) ((31 - t.val % 32) % 4 + 4 * k.val + 1) (t.val % 32) σ (by omega) _) $$ H
  iintro H
  rw [wp_bind]
  iapply (tile_spec K x3 x4 x8 x9 arg3 arg4 arg8 arg9 arg14 arg10 arg15 arg16 arg17 c (k0_off25_inb (grid0.coords t) k 2) (k0_off26_inb (grid0.coords t) k 2) (k0_off27_inb (grid0.coords t) k 2) (q := t.val % 32 + 1 + (31 - t.val % 32) % 4 + 4 * k.val + 2) (off25_eq t k 2) (off26_eq t k 2) (off27_eq t k 2) ((31 - t.val % 32) % 4 + 4 * k.val + 2) (t.val % 32) σ (by omega) _) $$ H
  iintro H
  iapply (tile_spec K x3 x4 x8 x9 arg3 arg4 arg8 arg9 arg14 arg10 arg15 arg16 arg17 c (k0_off25_inb (grid0.coords t) k 3) (k0_off26_inb (grid0.coords t) k 3) (k0_off27_inb (grid0.coords t) k 3) (q := t.val % 32 + 1 + (31 - t.val % 32) % 4 + 4 * k.val + 3) (off25_eq t k 3) (off26_eq t k 3) (off27_eq t k 3) ((31 - t.val % 32) % 4 + 4 * k.val + 3) (t.val % 32) σ (by omega) _) $$ H
  iintro H
  iexact H

/-- The two loops, from the accumulators after the blocks before them. -/
theorem loops_spec (c : Dev nD) (σ : St F) (Q : PUnit → sProp 𝕄) :
    Own c arg3 arg4 arg8 arg9 arg14 arg10 arg15 arg16 arg17 x3 x4 x8 x9 (upto K x3 x4 x8 x9 (t.val % 32) σ ((31 - t.val % 32) % 4)) ⊢ iprop((Own c arg3 arg4 arg8 arg9 arg14 arg10 arg15 arg16 arg17 x3 x4 x8 x9 (upto K x3 x4 x8 x9 (t.val % 32) σ (31 - t.val % 32)) -∗ Q ⟨⟩)
        -∗ wp frame (wpE (defs₀ (F := F)) Variants.none c none) Set.univ (rest t arg3 arg4 arg8 arg9 arg14 arg10 arg15 arg16 arg17 K) Q) := by
  unfold rest
  iintro H HQ
  rw [wp_bind]
  iapply (Scf.wp_for frame (wpE (defs₀ (F := F)) Variants.none c none) Set.univ _ _ _ (k0_t1_ok (grid0.coords t)) ⟨⟩ _
    (fun n _ => Own c arg3 arg4 arg8 arg9 arg14 arg10 arg15 arg16 arg17 x3 x4 x8 x9 (upto K x3 x4 x8 x9 (t.val % 32) σ ((31 - t.val % 32) % 4 + 4 * n))) (fun k _ => loop_step t arg3 arg4 arg8 arg9 arg10 arg14 arg15 arg16 arg17 K x3 x4 x8 x9 c σ k))
  isplitl [H]
  · iexact H
  iintro %_ H
  rw [show (Scf.trips (k0_t1_loop (grid0.coords t)).lb (k0_t1_loop (grid0.coords t)).ub (k0_t1_loop (grid0.coords t)).st) = (31 - t.val % 32) / 4 from t1_trips t,
    show (31 - t.val % 32) % 4 + 4 * ((31 - t.val % 32) / 4) = 31 - t.val % 32 from by omega]
  rw [wp_bind]
  iapply (Scf.wp_for frame (wpE (defs₀ (F := F)) Variants.none c none) Set.univ _ _ _ (k0_t2_ok (grid0.coords t)) ⟨⟩ _
    (fun n _ => Own c arg3 arg4 arg8 arg9 arg14 arg10 arg15 arg16 arg17 x3 x4 x8 x9 (upto K x3 x4 x8 x9 (t.val % 32) σ (31 - t.val % 32))) (fun k _ => absurd (lt_of_lt_of_eq k.isLt (t2_trips t)) (Nat.not_lt_zero _)))
  isplitl [H]
  · iexact H
  iintro %_ H
  rw [wp_pure]
  imodintro
  iapply HQ
  iexact H

set_option maxHeartbeats 1600000 in
theorem many_spec (c : Dev nD) (σ : St F) (Q : PUnit → sProp 𝕄) :
    Own c arg3 arg4 arg8 arg9 arg14 arg10 arg15 arg16 arg17 x3 x4 x8 x9 (afterFew K x3 x4 x8 x9 (t.val % 32) σ) ⊢ iprop((Own c arg3 arg4 arg8 arg9 arg14 arg10 arg15 arg16 arg17 x3 x4 x8 x9 (upto K x3 x4 x8 x9 (t.val % 32) σ (31 - t.val % 32)) -∗ Q ⟨⟩)
        -∗ wp frame (wpE (defs₀ (F := F)) Variants.none c none) Set.univ (many t arg3 arg4 arg8 arg9 arg14 arg10 arg15 arg16 arg17 K) Q) := by
  unfold many afterFew
  iintro H HQ
  by_cases h4 : k0_cond4 (grid0.coords t) = 1#1
  · have e4 := (cond4_iff t).mp h4
    have n5 : ¬ k0_cond5 (grid0.coords t) = 1#1 := fun h => by have := (cond5_iff t).mp h; omega
    rw [dif_pos h4, if_neg (by omega), if_neg (by omega), wp_bind]
    iapply (diag_spec K x3 x4 x8 x9 arg3 arg4 arg8 arg9 arg14 arg10 arg15 arg16 arg17 c (k0_off13_inb (grid0.coords t) h4 0) (k0_off14_inb (grid0.coords t) h4 0) (k0_off15_inb (grid0.coords t) h4 0) (k0_off16_inb (grid0.coords t) h4) (k0_off17_inb (grid0.coords t) h4) (k0_off18_inb (grid0.coords t) h4) (q := t.val % 32) (off13_eq t 0) (off14_eq t 0) (off15_eq t 0) (off16_eq t) (off17_eq t) (off18_eq t) (t.val % 32) σ (by omega) _) $$ H
    iintro H
    rw [wp_bind]
    iapply (tile_spec K x3 x4 x8 x9 arg3 arg4 arg8 arg9 arg14 arg10 arg15 arg16 arg17 c (k0_off13_inb (grid0.coords t) h4 1) (k0_off14_inb (grid0.coords t) h4 1) (k0_off15_inb (grid0.coords t) h4 1) (q := t.val % 32 + 1) (off13_eq t 1) (off14_eq t 1) (off15_eq t 1) 0 (t.val % 32) σ (by omega) _) $$ H
    iintro H
    rw [wp_bind]
    iapply (tile_spec K x3 x4 x8 x9 arg3 arg4 arg8 arg9 arg14 arg10 arg15 arg16 arg17 c (k0_off13_inb (grid0.coords t) h4 2) (k0_off14_inb (grid0.coords t) h4 2) (k0_off15_inb (grid0.coords t) h4 2) (q := t.val % 32 + 2) (off13_eq t 2) (off14_eq t 2) (off15_eq t 2) 1 (t.val % 32) σ (by omega) _) $$ H
    iintro H
    unfold many1
    rw [dif_neg n5]
    iapply (loops_spec t arg3 arg4 arg8 arg9 arg10 arg14 arg15 arg16 arg17 K x3 x4 x8 x9 c σ Q) $$ [H]
    · rw [e4]; iexact H
    iexact HQ
  have e4 : ¬ (31 - t.val % 32) % 4 = 2 := fun h => h4 ((cond4_iff t).mpr h)
  rw [dif_neg h4]
  unfold many1
  by_cases h5 : k0_cond5 (grid0.coords t) = 1#1
  · have e5 := (cond5_iff t).mp h5
    rw [dif_pos h5, if_neg (by omega), if_neg (by omega), wp_bind]
    iapply (diag_spec K x3 x4 x8 x9 arg3 arg4 arg8 arg9 arg14 arg10 arg15 arg16 arg17 c (k0_off19_inb (grid0.coords t) h5 0) (k0_off20_inb (grid0.coords t) h5 0) (k0_off21_inb (grid0.coords t) h5 0) (k0_off22_inb (grid0.coords t) h5) (k0_off23_inb (grid0.coords t) h5) (k0_off24_inb (grid0.coords t) h5) (q := t.val % 32) (off19_eq t 0) (off20_eq t 0) (off21_eq t 0) (off22_eq t) (off23_eq t) (off24_eq t) (t.val % 32) σ (by omega) _) $$ H
    iintro H
    rw [wp_bind]
    iapply (tile_spec K x3 x4 x8 x9 arg3 arg4 arg8 arg9 arg14 arg10 arg15 arg16 arg17 c (k0_off19_inb (grid0.coords t) h5 1) (k0_off20_inb (grid0.coords t) h5 1) (k0_off21_inb (grid0.coords t) h5 1) (q := t.val % 32 + 1) (off19_eq t 1) (off20_eq t 1) (off21_eq t 1) 0 (t.val % 32) σ (by omega) _) $$ H
    iintro H
    rw [wp_bind]
    iapply (tile_spec K x3 x4 x8 x9 arg3 arg4 arg8 arg9 arg14 arg10 arg15 arg16 arg17 c (k0_off19_inb (grid0.coords t) h5 2) (k0_off20_inb (grid0.coords t) h5 2) (k0_off21_inb (grid0.coords t) h5 2) (q := t.val % 32 + 2) (off19_eq t 2) (off20_eq t 2) (off21_eq t 2) 1 (t.val % 32) σ (by omega) _) $$ H
    iintro H
    rw [wp_bind]
    iapply (tile_spec K x3 x4 x8 x9 arg3 arg4 arg8 arg9 arg14 arg10 arg15 arg16 arg17 c (k0_off19_inb (grid0.coords t) h5 3) (k0_off20_inb (grid0.coords t) h5 3) (k0_off21_inb (grid0.coords t) h5 3) (q := t.val % 32 + 3) (off19_eq t 3) (off20_eq t 3) (off21_eq t 3) 2 (t.val % 32) σ (by omega) _) $$ H
    iintro H
    iapply (loops_spec t arg3 arg4 arg8 arg9 arg10 arg14 arg15 arg16 arg17 K x3 x4 x8 x9 c σ Q) $$ [H]
    · rw [e5]; iexact H
    iexact HQ
  have e5 : ¬ (31 - t.val % 32) % 4 = 3 := fun h => h5 ((cond5_iff t).mpr h)
  rw [dif_neg h5]
  iapply (loops_spec t arg3 arg4 arg8 arg9 arg10 arg14 arg15 arg16 arg17 K x3 x4 x8 x9 c σ Q) $$ [H]
  · by_cases e2 : (31 - t.val % 32) % 4 = 0
    · rw [if_pos e2, e2]; iexact H
    · have e3 : (31 - t.val % 32) % 4 = 1 := by omega
      rw [if_neg e2, if_pos e3, e3]; iexact H
  iexact HQ
end

end Cert.AttnIdeal.Body
-- ==== Proof.AttnIdeal.Whole.lean ====
/-
  The whole body of the attention backward kernel: the block's operands, the accumulators cleared, the blocks of queries
  met, and what is written out.
-/
module

public import proofs.«01_k».proof.Proof.AttnIdeal.Body

@[expose] public section

set_option maxRecDepth 16384

noncomputable section

namespace Cert.AttnIdeal.Body

open Cert.AttnIdeal Cert.AttnIdeal.Gen Cert.Cells
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The lanes, and the dimensions, of the first head. -/
def lane0 : IVec S1x128 1 := cmpi .slt (iota .tc S1x128 32 [1] iota_S1x128_d1_w32) (broadcast S1x128 64#32)
def dim0 : IVec S128x1 1 := cmpi .slt (iota .tc S128x1 32 [0] iota_S128x1_d0_w32) (broadcast S128x1 64#32)

/-- Keys or values with the other head's lanes zero. -/
def half0 (x : Vec F S512x128 .bf16) : FVec F S512x128 .bf16 :=
  select (broadcastTo S512x128 (shapeCast S1x128 lane0 shapeCasts_S1x128_S1x128) broadcasts_S1x128_S512x128)
    (shapeCast S512x128 x shapeCasts_S512x128_S512x128) (broadcast S512x128 (Scalar.ofBits .bf16 0x0000#16))
def half1 (x : Vec F S512x128 .bf16) : FVec F S512x128 .bf16 :=
  select (broadcastTo S512x128 (shapeCast S1x128 lane0 shapeCasts_S1x128_S1x128) broadcasts_S1x128_S512x128)
    (broadcast S512x128 (Scalar.ofBits .bf16 0x0000#16)) (shapeCast S512x128 x shapeCasts_S512x128_S512x128)

/-- Transposed keys with the other head's dimensions zero. -/
def part0 (x : Vec F S128x512 .bf16) : FVec F S128x512 .bf16 :=
  select (broadcastTo S128x512 (shapeCast S128x1 dim0 shapeCasts_S128x1_S128x1) broadcasts_S128x1_S128x512)
    (shapeCast S128x512 x shapeCasts_S128x512_S128x512) (broadcast S128x512 (Scalar.ofBits .bf16 0x0000#16))
def part1 (x : Vec F S128x512 .bf16) : FVec F S128x512 .bf16 :=
  select (broadcastTo S128x512 (shapeCast S128x1 dim0 shapeCasts_S128x1_S128x1) broadcasts_S128x1_S128x512)
    (broadcast S128x512 (Scalar.ofBits .bf16 0x0000#16)) (shapeCast S128x512 x shapeCasts_S128x512_S128x512)

/-- Each lane's number, less that of the pair's first head. -/
def heads (i : grid0.Coords) : IVec S1x128 32 :=
  subi (iota .tc S1x128 32 [1] iota_S1x128_d1_w32) (broadcast S1x128 (Scalar.muli 2#32 (BitVec.ofNat 32 (i 0).val)))

/-- A head's key bias: the lane of the head, by a masked sum. -/
def bias (i : grid0.Coords) (h : BitVec 32) (x : Vec F S512x128 .f32) : FVec F S512x1 .f32 :=
  shapeCast S512x1 (multiReduction .add [1] S512
    (select (broadcastTo S512x128 (shapeCast S1x128 (cmpi .eq (heads i) (broadcast S1x128 h)) shapeCasts_S1x128_S1x128) broadcasts_S1x128_S512x128)
      (shapeCast S512x128 x shapeCasts_S512x128_S512x128) (broadcast S512x128 (Scalar.ofBits .f32 0x00000000#32)))
    0x00000000#32 reduces_S512x128_S512 (.inl rfl) rfl) shapeCasts_S512_S512x1

/-- The block's operands. -/
def keys (i : grid0.Coords) (x2 : Vec F S512x128 .bf16) (x5 : Vec F S128x512 .bf16) (x6 : Vec F S512x128 .bf16) (x7 : Vec F S512x128 .f32) : Keys F where
  k0 := half0 x2
  k1 := half1 x2
  v0 := half0 x6
  v1 := half1 x6
  c0 := bias i 0#32 x7
  c1 := bias i 1#32 x7
  t0 := part0 x5
  t1 := part1 x5

/-- The accumulators a block starts from: those of the keys cleared, and those of the queries at a pair's first block. -/
def start (kj : ℕ) (dq : Vec F S128x16384 .f32) (dcq : Vec F S1x8x16384 .f32) : St F where
  dk := shapeCast S2x128x512 (broadcast S2x128x512 (Scalar.ofBits .f32 0x00000000#32)) shapeCasts_S2x128x512_S2x128x512
  dv := shapeCast S2x128x512 (broadcast S2x128x512 (Scalar.ofBits .f32 0x00000000#32)) shapeCasts_S2x128x512_S2x128x512
  dc := shapeCast S2x512x1 (broadcast S2x512x1 (Scalar.ofBits .f32 0x00000000#32)) shapeCasts_S2x512x1_S2x512x1
  dq := if kj = 0 then broadcast S128x16384 (Scalar.ofBits .f32 0x00000000#32) else dq
  dcq := if kj = 0 then broadcast S1x8x16384 (Scalar.ofBits .f32 0x00000000#32) else dcq

/-- The two heads of an accumulator put together: the first head's dimensions of the one, the second's of the other. -/
def join (x : Vec F S2x128x512 .f32) : FVec F S128x512 .f32 :=
  select (broadcastTo S128x512 (shapeCast S128x1 dim0 shapeCasts_S128x1_S128x1) broadcasts_S128x1_S128x512)
    (shapeCast S128x512 (VecWindow.window x ![0, 0, 0] S1x128x512.size inb_S2x128x512_S1x128x512_0_0_0) shapeCasts_S1x128x512_S128x512)
    (shapeCast S128x512 (VecWindow.window x ![1, 0, 0] S1x128x512.size inb_S2x128x512_S1x128x512_1_0_0) shapeCasts_S1x128x512_S128x512)

/-- What is written out of the block's accumulators. -/
def outK (x : Vec F S2x128x512 .f32) : Vec F S128x512 .bf16 :=
  truncf .bf16 (mulf (join x) (broadcast S128x512 (Named.named κ "ln2" 0x3F317218#32))) bitsLt_bf16_f32
def outV (x : Vec F S2x128x512 .f32) : Vec F S128x512 .bf16 := truncf .bf16 (join x) bitsLt_bf16_f32
def neg0 (x : Vec F S1x512x1 .f32) : FVec F S512x1 .f32 :=
  subf (broadcast S512x1 (Scalar.ofBits .f32 0x00000000#32)) (shapeCast S512x1 x shapeCasts_S1x512x1_S512x1)
def laneIs (h : BitVec 32) : IVec S1x128 1 := cmpi .eq (iota .tc S1x128 32 [1] iota_S1x128_d1_w32) (broadcast S1x128 h)
def lay (l0 l1 : IVec S1x128 1) (a b : FVec F S512x1 .f32) : Vec F S1x512x128 .f32 :=
  shapeCast S1x512x128 (select (broadcastTo S512x128 (shapeCast S1x128 l0 shapeCasts_S1x128_S1x128) broadcasts_S1x128_S512x128)
      (broadcastTo S512x128 (shapeCast S512x1 a shapeCasts_S512x1_S512x1) broadcasts_S512x1_S512x128)
      (select (broadcastTo S512x128 (shapeCast S1x128 l1 shapeCasts_S1x128_S1x128) broadcasts_S1x128_S512x128)
        (broadcastTo S512x128 (shapeCast S512x1 b shapeCasts_S512x1_S512x1) broadcasts_S512x1_S512x128)
        (broadcast S512x128 (Scalar.ofBits .f32 0x00000000#32)))) shapeCasts_S512x128_S1x512x128
def outC (i : grid0.Coords) (x : Vec F S2x512x1 .f32) : Vec F S1x512x128 .f32 :=
  lay (laneIs (Scalar.muli 2#32 (BitVec.ofNat 32 (i 0).val))) (laneIs (Scalar.addi (Scalar.muli 2#32 (BitVec.ofNat 32 (i 0).val)) 1#32))
    (neg0 (VecWindow.window x ![0, 0, 0] S1x512x1.size inb_S2x512x1_S1x512x1_0_0_0))
    (neg0 (VecWindow.window x ![1, 0, 0] S1x512x1.size inb_S2x512x1_S1x512x1_1_0_0))
def scaleQ (x : Vec F S128x16384 .f32) : Vec F S128x16384 .f32 :=
  mulf (shapeCast S128x16384 x shapeCasts_S128x16384_S128x16384) (broadcast S128x16384 (Scalar.ofBits .f32 0x3E000000#32))
def outQ (kj : ℕ) (x : Vec F S128x16384 .f32) : Vec F S128x16384 .f32 := if kj = 31 then scaleQ x else x

section
variable (t : Fin grid0.N) (arg2 : Memref sig .tc .vmem S512x128 .bf16) (harg2 : arg2.IsWhole) (arg3 : Memref sig .tc .vmem S128x16384 .bf16) (harg3 : arg3.IsWhole) (arg4 : Memref sig .tc .vmem S128x16384 .bf16) (harg4 : arg4.IsWhole) (arg5 : Memref sig .tc .vmem S128x512 .bf16) (harg5 : arg5.IsWhole) (arg6 : Memref sig .tc .vmem S512x128 .bf16) (harg6 : arg6.IsWhole) (arg7 : Memref sig .tc .vmem S512x128 .f32) (harg7 : arg7.IsWhole) (arg8 : Memref sig .tc .vmem S1x8x16384 .f32) (harg8 : arg8.IsWhole) (arg9 : Memref sig .tc .vmem S1x8x16384 .f32) (harg9 : arg9.IsWhole) (arg10 : Memref sig .tc .vmem S128x16384 .f32) (harg10 : arg10.IsWhole) (arg11 : Memref sig .tc .vmem S128x512 .bf16) (harg11 : arg11.IsWhole) (arg12 : Memref sig .tc .vmem S128x512 .bf16) (harg12 : arg12.IsWhole) (arg13 : Memref sig .tc .vmem S1x512x128 .f32) (harg13 : arg13.IsWhole) (arg14 : Memref sig .tc .vmem S1x8x16384 .f32) (harg14 : arg14.IsWhole) (arg15 : Memref sig .tc .vmem S2x128x512 .f32) (harg15 : arg15.IsWhole) (arg16 : Memref sig .tc .vmem S2x128x512 .f32) (harg16 : arg16.IsWhole) (arg17 : Memref sig .tc .vmem S2x512x1 .f32) (harg17 : arg17.IsWhole)

def ins {α : Type} (k : Vec F S512x128 .bf16 → Vec F S512x128 .bf16 → Vec F S128x512 .bf16 → Vec F S512x128 .f32 → α) :
    Prog (TpuEff nD τ sig (Elt F) Λ₀ .tc) α := do
  let a ← ld (p := .tc) arg2 ![0, 0] S512x128.size inb_S512x128_S512x128_0_0 (View.loadsAt_vmem h_S512x128)
  let b ← ld (p := .tc) arg6 ![0, 0] S512x128.size inb_S512x128_S512x128_0_0 (View.loadsAt_vmem h_S512x128)
  let d ← ld (p := .tc) arg5 ![0, 0] S128x512.size inb_S128x512_S128x512_0_0 (View.loadsAt_vmem h_S128x512)
  let e ← ld (p := .tc) arg7 ![0, 0] S512x128.size inb_S512x128_S512x128_0_0 (View.loadsAt_vmem h_S512x128)
  pure (k a b d e)

set_option maxHeartbeats 1600000 in
theorem part81_eq : k0_part81 (F := F) (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = ins (F := F) arg2 arg5 arg6 arg7 (fun a b d e =>
    ⟨BitVec.ofNat 32 ((grid0.coords t) 0).val, BitVec.ofNat 32 ((grid0.coords t) 1).val, half0 a, half1 a, half0 b, half1 b, dim0, part0 d, part1 d, heads (grid0.coords t),
      shapeCast S512x128 e shapeCasts_S512x128_S512x128, Scalar.ofBits .f32 0x00000000#32,
      shapeCast S1x128 (cmpi .eq (heads (grid0.coords t)) (broadcast S1x128 0#32)) shapeCasts_S1x128_S1x128⟩) := rfl

/-- The clearing of the block's own accumulators. -/
def clear {α : Type} (r : α) : Prog (TpuEff nD τ sig (Elt F) Λ₀ .tc) α := do
  ovw (p := .tc) arg15 ![0, 0, 0] S2x128x512.size inb_S2x128x512_S2x128x512_0_0_0 (View.loadsAt_vmem h_S2x128x512) (View.stores_vmem_bits_univ h_S2x128x512 rfl)
    (shapeCast S2x128x512 (broadcast S2x128x512 (Scalar.ofBits .f32 0x00000000#32)) shapeCasts_S2x128x512_S2x128x512)
  ovw (p := .tc) arg16 ![0, 0, 0] S2x128x512.size inb_S2x128x512_S2x128x512_0_0_0 (View.loadsAt_vmem h_S2x128x512) (View.stores_vmem_bits_univ h_S2x128x512 rfl)
    (shapeCast S2x128x512 (broadcast S2x128x512 (Scalar.ofBits .f32 0x00000000#32)) shapeCasts_S2x128x512_S2x128x512)
  ovw (p := .tc) arg17 ![0, 0, 0] S2x512x1.size inb_S2x512x1_S2x512x1_0_0_0 (View.loadsAt_vmem h_S2x512x1) (View.stores_vmem_bits_univ h_S2x512x1 rfl)
    (shapeCast S2x512x1 (broadcast S2x512x1 (Scalar.ofBits .f32 0x00000000#32)) shapeCasts_S2x512x1_S2x512x1)
  pure r

/-- The clearing of all the accumulators that the block starts from cleared. -/
def clears (arg1 : BitVec 32) {α : Type} (r : Vec F S512x128 .f32 → α) : Prog (TpuEff nD τ sig (Elt F) Λ₀ .tc) α := do
  let e ← ld (p := .tc) arg7 ![0, 0] S512x128.size inb_S512x128_S512x128_0_0 (View.loadsAt_vmem h_S512x128)
  if h : Scalar.cmpi .ne (Scalar.extui (Scalar.cmpi .eq arg1 0#32) : BitVec 32) 0#32 = 1#1 then
    (do
      ovw (p := .tc) arg10 ![0, 0] S128x16384.size inb_S128x16384_S128x16384_0_0 (View.loadsAt_vmem h_S128x16384) (View.stores_vmem_bits_univ h_S128x16384 rfl)
        (broadcast S128x16384 (Scalar.ofBits .f32 0x00000000#32))
      ovw (p := .tc) arg14 ![0, 0, 0] S1x8x16384.size inb_S1x8x16384_S1x8x16384_0_0_0 (View.loadsAt_vmem h_S1x8x16384) (View.stores_vmem_bits_univ h_S1x8x16384 rfl)
        (broadcast S1x8x16384 (Scalar.ofBits .f32 0x00000000#32))
      clear arg15 arg16 arg17 (r e))
  else clear arg15 arg16 arg17 (r e)

set_option maxHeartbeats 1600000 in
theorem part82_eq (arg1 : BitVec 32) (d : Vec F S512x128 .f32) :
    k0_part82 (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 (heads (grid0.coords t)) (shapeCast S512x128 d shapeCasts_S512x128_S512x128) (Scalar.ofBits .f32 0x00000000#32)
      (shapeCast S1x128 (cmpi .eq (heads (grid0.coords t)) (broadcast S1x128 0#32)) shapeCasts_S1x128_S1x128)
    = clears arg7 arg10 arg14 arg15 arg16 arg17 arg1 (fun e => ⟨bias (grid0.coords t) 0#32 d, bias (grid0.coords t) 1#32 e, Scalar.subi 31#32 arg1, 4#32, Scalar.cmpi .eq (4#32) (0#32), 1#32⟩) := rfl

/-- The writing out of the gradients of the keys and the values. -/
def outs {α : Type} (d0 : IVec S128x1 1) (r : Vec F S1x512x1 .f32 → Vec F S1x512x1 .f32 → α) : Prog (TpuEff nD τ sig (Elt F) Λ₀ .tc) α := do
  let a ← ld (p := .tc) arg15 ![0, 0, 0] S1x128x512.size inb_S2x128x512_S1x128x512_0_0_0 (View.loadsAt_vmem h_S1x128x512)
  let b ← ld (p := .tc) arg15 ![1, 0, 0] S1x128x512.size inb_S2x128x512_S1x128x512_1_0_0 (View.loadsAt_vmem h_S1x128x512)
  ovw (p := .tc) arg11 ![0, 0] S128x512.size inb_S128x512_S128x512_0_0 (View.loadsAt_vmem h_S128x512)
    (View.stores_vmem h_S128x512 (harg11.storeExact_slice rfl _ packedbf16_S128x512_S128x512_0_0) (fun _ => rfl))
    (truncf .bf16 (mulf (select (broadcastTo S128x512 (shapeCast S128x1 d0 shapeCasts_S128x1_S128x1) broadcasts_S128x1_S128x512)
      (shapeCast S128x512 a shapeCasts_S1x128x512_S128x512) (shapeCast S128x512 b shapeCasts_S1x128x512_S128x512))
      (broadcast S128x512 (Named.named κ "ln2" 0x3F317218#32))) bitsLt_bf16_f32)
  let a ← ld (p := .tc) arg16 ![0, 0, 0] S1x128x512.size inb_S2x128x512_S1x128x512_0_0_0 (View.loadsAt_vmem h_S1x128x512)
  let b ← ld (p := .tc) arg16 ![1, 0, 0] S1x128x512.size inb_S2x128x512_S1x128x512_1_0_0 (View.loadsAt_vmem h_S1x128x512)
  ovw (p := .tc) arg12 ![0, 0] S128x512.size inb_S128x512_S128x512_0_0 (View.loadsAt_vmem h_S128x512)
    (View.stores_vmem h_S128x512 (harg12.storeExact_slice rfl _ packedbf16_S128x512_S128x512_0_0) (fun _ => rfl))
    (truncf .bf16 (select (broadcastTo S128x512 (shapeCast S128x1 d0 shapeCasts_S128x1_S128x1) broadcasts_S128x1_S128x512)
      (shapeCast S128x512 a shapeCasts_S1x128x512_S128x512) (shapeCast S128x512 b shapeCasts_S1x128x512_S128x512)) bitsLt_bf16_f32)
  let a ← ld (p := .tc) arg17 ![0, 0, 0] S1x512x1.size inb_S2x512x1_S1x512x1_0_0_0 (View.loadsAt_vmem h_S1x512x1)
  let b ← ld (p := .tc) arg17 ![1, 0, 0] S1x512x1.size inb_S2x512x1_S1x512x1_1_0_0 (View.loadsAt_vmem h_S1x512x1)
  pure (r a b)

set_option maxHeartbeats 1600000 in
theorem part85_eq (arg0 : BitVec 32) (d0 : IVec S128x1 1) :
    k0_part85 (F := F) (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 d0 = outs (F := F) arg11 harg11 arg12 harg12 arg15 arg16 arg17 d0
      (fun a b => ⟨laneIs (Scalar.muli 2#32 arg0), neg0 a, laneIs (Scalar.addi (Scalar.muli 2#32 arg0) 1#32), b⟩) := rfl

/-- The writing out of the gradients of the biases, and of the queries at a pair's last block. -/
def ends (arg1 : BitVec 32) (l0 : IVec S1x128 1) (a : FVec F S512x1 .f32) (l1 : IVec S1x128 1) (b : Vec F S1x512x1 .f32) : Prog (TpuEff nD τ sig (Elt F) Λ₀ .tc) PUnit := do
  ovw (p := .tc) arg13 ![0, 0, 0] S1x512x128.size inb_S1x512x128_S1x512x128_0_0_0 (View.loadsAt_vmem h_S1x512x128) (View.stores_vmem_bits_univ h_S1x512x128 rfl)
    (lay l0 l1 a (neg0 b))
  if h : Scalar.cmpi .ne (Scalar.extui (Scalar.cmpi .eq arg1 31#32) : BitVec 32) 0#32 = 1#1 then
    (do
      upd (p := .tc) arg10 ![0, 0] S128x16384.size inb_S128x16384_S128x16384_0_0 (View.loadsAt_vmem h_S128x16384) (View.stores_vmem_bits_univ h_S128x16384 rfl) scaleQ
      pure ⟨⟩)
  else pure ⟨⟩

set_option maxHeartbeats 1600000 in
theorem body_eq : cc0_attn_bwd (F := F) (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = (k0_part81 (F := F) (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 >>= fun r =>
    k0_part82 (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 r.2.1 r.2.2.2.2.2.2.2.2.2.1 r.2.2.2.2.2.2.2.2.2.2.1 r.2.2.2.2.2.2.2.2.2.2.2.1 r.2.2.2.2.2.2.2.2.2.2.2.2 >>= fun u =>
    k0_part83 (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 r.2.1 r.2.2.1 r.2.2.2.1 r.2.2.2.2.1 r.2.2.2.2.2.1 r.2.2.2.2.2.2.2.1 r.2.2.2.2.2.2.2.2.1 u.1 u.2.1 u.2.2.1 u.2.2.2.1 u.2.2.2.2.1 u.2.2.2.2.2 >>= fun w =>
    k0_part84 (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 r.2.1 r.2.2.1 r.2.2.2.1 r.2.2.2.2.1 r.2.2.2.2.2.1 r.2.2.2.2.2.2.2.1 r.2.2.2.2.2.2.2.2.1 u.1 u.2.1 u.2.2.1 w.1 w.2 >>= fun _ =>
    k0_part85 (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 r.1 r.2.2.2.2.2.2.1 >>= fun v =>
    ends arg10 arg13 r.2.1 v.1 v.2.1 v.2.2.1 v.2.2.2) := by
  unfold cc0_attn_bwd
  refine congrArg (Bind.bind _) (funext fun r => ?_)
  obtain ⟨a0, a1, a2, a3, a4, a5, a6, a7, a8, a9, a10, a11, a12⟩ := r
  dsimp only
  refine congrArg (Bind.bind _) (funext fun u => ?_)
  obtain ⟨b0, b1, b2, b3, b4, b5⟩ := u
  dsimp only
  refine congrArg (Bind.bind _) (funext fun w => ?_)
  obtain ⟨w0, w1⟩ := w
  dsimp only
  refine congrArg (Bind.bind _) (funext fun z => ?_)
  refine congrArg (Bind.bind _) (funext fun v => ?_)
  obtain ⟨v0, v1, v2, v3⟩ := v
  dsimp only
  rfl

end

theorem zero_iff : ∀ t : Fin grid0.N, Scalar.cmpi .ne (Scalar.extui (Scalar.cmpi .eq (BitVec.ofNat 32 ((grid0.coords t) 1).val) 0#32) : BitVec 32) 0#32 = 1#1 ↔ t.val % 32 = 0 := by decide +kernel
theorem last_iff : ∀ t : Fin grid0.N, Scalar.cmpi .ne (Scalar.extui (Scalar.cmpi .eq (BitVec.ofNat 32 ((grid0.coords t) 1).val) 31#32) : BitVec 32) 0#32 = 1#1 ↔ t.val % 32 = 31 := by decide +kernel

/-- The accumulators when the block has met all its blocks of queries. -/
def done (t : Fin grid0.N) (x2 : Vec F S512x128 .bf16) (x3 x4 : Vec F S128x16384 .bf16) (x5 : Vec F S128x512 .bf16) (x6 : Vec F S512x128 .bf16) (x7 : Vec F S512x128 .f32) (x8 x9 : Vec F S1x8x16384 .f32) (dq : Vec F S128x16384 .f32) (dcq : Vec F S1x8x16384 .f32) : St F :=
  upto (keys (grid0.coords t) x2 x5 x6 x7) x3 x4 x8 x9 (t.val % 32) (start (t.val % 32) dq dcq) (31 - (t.val % 32))

section
variable (t : Fin grid0.N) (arg2 : Memref sig .tc .vmem S512x128 .bf16) (harg2 : arg2.IsWhole) (arg3 : Memref sig .tc .vmem S128x16384 .bf16) (harg3 : arg3.IsWhole) (arg4 : Memref sig .tc .vmem S128x16384 .bf16) (harg4 : arg4.IsWhole) (arg5 : Memref sig .tc .vmem S128x512 .bf16) (harg5 : arg5.IsWhole) (arg6 : Memref sig .tc .vmem S512x128 .bf16) (harg6 : arg6.IsWhole) (arg7 : Memref sig .tc .vmem S512x128 .f32) (harg7 : arg7.IsWhole) (arg8 : Memref sig .tc .vmem S1x8x16384 .f32) (harg8 : arg8.IsWhole) (arg9 : Memref sig .tc .vmem S1x8x16384 .f32) (harg9 : arg9.IsWhole) (arg10 : Memref sig .tc .vmem S128x16384 .f32) (harg10 : arg10.IsWhole) (arg11 : Memref sig .tc .vmem S128x512 .bf16) (harg11 : arg11.IsWhole) (arg12 : Memref sig .tc .vmem S128x512 .bf16) (harg12 : arg12.IsWhole) (arg13 : Memref sig .tc .vmem S1x512x128 .f32) (harg13 : arg13.IsWhole) (arg14 : Memref sig .tc .vmem S1x8x16384 .f32) (harg14 : arg14.IsWhole) (arg15 : Memref sig .tc .vmem S2x128x512 .f32) (harg15 : arg15.IsWhole) (arg16 : Memref sig .tc .vmem S2x128x512 .f32) (harg16 : arg16.IsWhole) (arg17 : Memref sig .tc .vmem S2x512x1 .f32) (harg17 : arg17.IsWhole)
  (x2 : Vec F S512x128 .bf16) (x3 x4 : Vec F S128x16384 .bf16) (x5 : Vec F S128x512 .bf16) (x6 : Vec F S512x128 .bf16) (x7 : Vec F S512x128 .f32) (x8 x9 : Vec F S1x8x16384 .f32) (dq : Vec F S128x16384 .f32) (dcq : Vec F S1x8x16384 .f32) (y11 y12 : Vec F S128x512 .bf16) (y13 : Vec F S1x512x128 .f32) (z15 z16 : Vec F S2x128x512 .f32) (z17 : Vec F S2x512x1 .f32)

theorem ins_spec {α : Type} (k : Vec F S512x128 .bf16 → Vec F S512x128 .bf16 → Vec F S128x512 .bf16 → Vec F S512x128 .f32 → α) (c : Dev nD) (Q : α → sProp 𝕄) :
    iprop(owns (c : Thread nD τ) arg2 fullShare x2 ∗ owns (c : Thread nD τ) arg5 fullShare x5 ∗ owns (c : Thread nD τ) arg6 fullShare x6 ∗ owns (c : Thread nD τ) arg7 fullShare x7)
      ⊢ iprop(((owns (c : Thread nD τ) arg2 fullShare x2 ∗ owns (c : Thread nD τ) arg5 fullShare x5 ∗ owns (c : Thread nD τ) arg6 fullShare x6 ∗ owns (c : Thread nD τ) arg7 fullShare x7) -∗ Q (k x2 x6 x5 x7))
        -∗ wp frame (wpE (defs₀ (F := F)) Variants.none c none) Set.univ (ins arg2 arg5 arg6 arg7 k) Q) := by
  unfold ins
  iintro ⟨H2, H5, H6, H7⟩ HQ
  rw [wp_bind]
  iapply (ld_whole Variants.none (c : Thread nD τ) none Set.univ) $$ H2
  iintro H2
  rw [wp_bind]
  iapply (ld_whole Variants.none (c : Thread nD τ) none Set.univ) $$ H6
  iintro H6
  rw [wp_bind]
  iapply (ld_whole Variants.none (c : Thread nD τ) none Set.univ) $$ H5
  iintro H5
  rw [wp_bind]
  iapply (ld_whole Variants.none (c : Thread nD τ) none Set.univ) $$ H7
  iintro H7
  rw [wp_pure]
  imodintro
  iapply HQ
  isplitl [H2]; · iexact H2
  isplitl [H5]; · iexact H5
  isplitl [H6]; · iexact H6
  iexact H7

theorem clear_spec {α : Type} (r : α) (c : Dev nD) (Q : α → sProp 𝕄) :
    iprop(owns (c : Thread nD τ) arg15 fullShare z15 ∗ owns (c : Thread nD τ) arg16 fullShare z16 ∗ owns (c : Thread nD τ) arg17 fullShare z17)
      ⊢ iprop(((owns (c : Thread nD τ) arg15 fullShare (start (t.val % 32) dq dcq).dk ∗ owns (c : Thread nD τ) arg16 fullShare (start (t.val % 32) dq dcq).dv ∗ owns (c : Thread nD τ) arg17 fullShare (start (t.val % 32) dq dcq).dc) -∗ Q r)
        -∗ wp frame (wpE (defs₀ (F := F)) Variants.none c none) Set.univ (clear arg15 arg16 arg17 r) Q) := by
  unfold clear start
  iintro ⟨H15, H16, H17⟩ HQ
  rw [wp_bind]
  iapply (ovw_whole Variants.none (c : Thread nD τ) none Set.univ) $$ H15
  iintro H15
  rw [wp_bind]
  iapply (ovw_whole Variants.none (c : Thread nD τ) none Set.univ) $$ H16
  iintro H16
  rw [wp_bind]
  iapply (ovw_whole Variants.none (c : Thread nD τ) none Set.univ) $$ H17
  iintro H17
  rw [wp_pure]
  imodintro
  iapply HQ
  isplitl [H15]; · iexact H15
  isplitl [H16]; · iexact H16
  iexact H17

theorem clears_spec {α : Type} (r : Vec F S512x128 .f32 → α) (c : Dev nD) (Q : α → sProp 𝕄) :
    iprop(owns (c : Thread nD τ) arg7 fullShare x7 ∗ owns (c : Thread nD τ) arg10 fullShare dq ∗ owns (c : Thread nD τ) arg14 fullShare dcq ∗ owns (c : Thread nD τ) arg15 fullShare z15 ∗ owns (c : Thread nD τ) arg16 fullShare z16 ∗ owns (c : Thread nD τ) arg17 fullShare z17)
      ⊢ iprop(((owns (c : Thread nD τ) arg7 fullShare x7 ∗ owns (c : Thread nD τ) arg10 fullShare (start (t.val % 32) dq dcq).dq ∗ owns (c : Thread nD τ) arg14 fullShare (start (t.val % 32) dq dcq).dcq ∗ owns (c : Thread nD τ) arg15 fullShare (start (t.val % 32) dq dcq).dk ∗ owns (c : Thread nD τ) arg16 fullShare (start (t.val % 32) dq dcq).dv ∗ owns (c : Thread nD τ) arg17 fullShare (start (t.val % 32) dq dcq).dc) -∗ Q (r x7))
        -∗ wp frame (wpE (defs₀ (F := F)) Variants.none c none) Set.univ (clears arg7 arg10 arg14 arg15 arg16 arg17 (BitVec.ofNat 32 ((grid0.coords t) 1).val) r) Q) := by
  unfold clears
  iintro ⟨H7, H10, H14, H⟩ HQ
  rw [wp_bind]
  iapply (ld_whole Variants.none (c : Thread nD τ) none Set.univ) $$ H7
  iintro H7
  by_cases h : t.val % 32 = 0
  · rw [dif_pos ((zero_iff t).mpr h), wp_bind]
    iapply (ovw_whole Variants.none (c : Thread nD τ) none Set.univ) $$ H10
    iintro H10
    rw [wp_bind]
    iapply (ovw_whole Variants.none (c : Thread nD τ) none Set.univ) $$ H14
    iintro H14
    iapply (clear_spec t arg15 arg16 arg17 dq dcq z15 z16 z17 (r x7) c Q) $$ H
    iintro H
    iapply HQ
    isplitl [H7]; · iexact H7
    isplitl [H10]
    · unfold start; dsimp only; rw [if_pos h]; iexact H10
    isplitl [H14]
    · unfold start; dsimp only; rw [if_pos h]; iexact H14
    iexact H
  · rw [dif_neg (fun e => h ((zero_iff t).mp e))]
    iapply (clear_spec t arg15 arg16 arg17 dq dcq z15 z16 z17 (r x7) c Q) $$ H
    iintro H
    iapply HQ
    isplitl [H7]; · iexact H7
    isplitl [H10]
    · unfold start; dsimp only; rw [if_neg h]; iexact H10
    isplitl [H14]
    · unfold start; dsimp only; rw [if_neg h]; iexact H14
    iexact H

theorem outs_spec {α : Type} (r : Vec F S1x512x1 .f32 → Vec F S1x512x1 .f32 → α) (c : Dev nD) (Q : α → sProp 𝕄) :
    iprop(owns (c : Thread nD τ) arg11 fullShare y11 ∗ owns (c : Thread nD τ) arg12 fullShare y12 ∗ owns (c : Thread nD τ) arg15 fullShare z15 ∗ owns (c : Thread nD τ) arg16 fullShare z16 ∗ owns (c : Thread nD τ) arg17 fullShare z17)
      ⊢ iprop(((owns (c : Thread nD τ) arg11 fullShare (outK z15) ∗ owns (c : Thread nD τ) arg12 fullShare (outV z16) ∗ owns (c : Thread nD τ) arg15 fullShare z15 ∗ owns (c : Thread nD τ) arg16 fullShare z16 ∗ owns (c : Thread nD τ) arg17 fullShare z17)
          -∗ Q (r (VecWindow.window z17 ![0, 0, 0] S1x512x1.size inb_S2x512x1_S1x512x1_0_0_0) (VecWindow.window z17 ![1, 0, 0] S1x512x1.size inb_S2x512x1_S1x512x1_1_0_0)))
        -∗ wp frame (wpE (defs₀ (F := F)) Variants.none c none) Set.univ (outs arg11 harg11 arg12 harg12 arg15 arg16 arg17 dim0 r) Q) := by
  unfold outs
  iintro ⟨H11, H12, H15, H16, H17⟩ HQ
  rw [wp_bind]
  iapply (ld_spec Variants.none (c : Thread nD τ) none Set.univ) $$ H15
  iintro H15
  rw [wp_bind]
  iapply (ld_spec Variants.none (c : Thread nD τ) none Set.univ) $$ H15
  iintro H15
  rw [wp_bind]
  iapply (ovw_whole Variants.none (c : Thread nD τ) none Set.univ) $$ H11
  iintro H11
  rw [wp_bind]
  iapply (ld_spec Variants.none (c : Thread nD τ) none Set.univ) $$ H16
  iintro H16
  rw [wp_bind]
  iapply (ld_spec Variants.none (c : Thread nD τ) none Set.univ) $$ H16
  iintro H16
  rw [wp_bind]
  iapply (ovw_whole Variants.none (c : Thread nD τ) none Set.univ) $$ H12
  iintro H12
  rw [wp_bind]
  iapply (ld_spec Variants.none (c : Thread nD τ) none Set.univ) $$ H17
  iintro H17
  rw [wp_bind]
  iapply (ld_spec Variants.none (c : Thread nD τ) none Set.univ) $$ H17
  iintro H17
  rw [wp_pure]
  imodintro
  iapply HQ
  unfold outK outV join
  isplitl [H11]; · iexact H11
  isplitl [H12]; · iexact H12
  isplitl [H15]; · iexact H15
  isplitl [H16]; · iexact H16
  iexact H17

theorem ends_spec (l0 l1 : IVec S1x128 1) (a : FVec F S512x1 .f32) (b : Vec F S1x512x1 .f32) (c : Dev nD) (Q : PUnit → sProp 𝕄) :
    iprop(owns (c : Thread nD τ) arg10 fullShare dq ∗ owns (c : Thread nD τ) arg13 fullShare y13)
      ⊢ iprop(((owns (c : Thread nD τ) arg10 fullShare (outQ (t.val % 32) dq) ∗ owns (c : Thread nD τ) arg13 fullShare (lay l0 l1 a (neg0 b))) -∗ Q ⟨⟩)
        -∗ wp frame (wpE (defs₀ (F := F)) Variants.none c none) Set.univ (ends arg10 arg13 (BitVec.ofNat 32 ((grid0.coords t) 1).val) l0 a l1 b) Q) := by
  unfold ends outQ
  iintro ⟨H10, H13⟩ HQ
  rw [wp_bind]
  iapply (ovw_whole Variants.none (c : Thread nD τ) none Set.univ) $$ H13
  iintro H13
  by_cases h : t.val % 32 = 31
  · rw [dif_pos ((last_iff t).mpr h), if_pos h, wp_bind]
    iapply (upd_whole Variants.none (c : Thread nD τ) none Set.univ) $$ H10
    iintro H10
    rw [wp_pure]
    imodintro
    iapply HQ
    isplitl [H10]; · iexact H10
    iexact H13
  · rw [dif_neg (fun e => h ((last_iff t).mp e)), if_neg h, wp_pure]
    imodintro
    iapply HQ
    isplitl [H10]; · iexact H10
    iexact H13

set_option maxHeartbeats 1600000 in
/-- The body at a point: from the staged blocks, and the two accumulators of the pair, to what it writes out. -/
theorem body_spec (c : Dev nD) (Q : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare dq ∗ owns (c : Thread nD τ) arg11 fullShare y11 ∗ owns (c : Thread nD τ) arg12 fullShare y12 ∗ owns (c : Thread nD τ) arg13 fullShare y13 ∗ owns (c : Thread nD τ) arg14 fullShare dcq ∗ owns (c : Thread nD τ) arg15 fullShare z15 ∗ owns (c : Thread nD τ) arg16 fullShare z16 ∗ owns (c : Thread nD τ) arg17 fullShare z17)
      ⊢ iprop((iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (outQ (t.val % 32) (done t x2 x3 x4 x5 x6 x7 x8 x9 dq dcq).dq) ∗ owns (c : Thread nD τ) arg11 fullShare (outK (done t x2 x3 x4 x5 x6 x7 x8 x9 dq dcq).dk) ∗ owns (c : Thread nD τ) arg12 fullShare (outV (done t x2 x3 x4 x5 x6 x7 x8 x9 dq dcq).dv) ∗ owns (c : Thread nD τ) arg13 fullShare (outC (grid0.coords t) (done t x2 x3 x4 x5 x6 x7 x8 x9 dq dcq).dc) ∗ owns (c : Thread nD τ) arg14 fullShare (done t x2 x3 x4 x5 x6 x7 x8 x9 dq dcq).dcq ∗ owns (c : Thread nD τ) arg15 fullShare (done t x2 x3 x4 x5 x6 x7 x8 x9 dq dcq).dk ∗ owns (c : Thread nD τ) arg16 fullShare (done t x2 x3 x4 x5 x6 x7 x8 x9 dq dcq).dv ∗ owns (c : Thread nD τ) arg17 fullShare (done t x2 x3 x4 x5 x6 x7 x8 x9 dq dcq).dc) -∗ Q ⟨⟩)
        -∗ wp frame (wpE (defs₀ (F := F)) Variants.none c none) Set.univ (cc0_attn_bwd (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) Q) := by
  iintro ⟨H2, H3, H4, H5, H6, H7, H8, H9, H10, H11, H12, H13, H14, H15, H16, H17⟩ HQ
  rw [body_eq, wp_bind, part81_eq]
  iapply (ins_spec arg2 arg5 arg6 arg7 x2 x5 x6 x7 _ c _) $$ [H2 H5 H6 H7]
  · isplitl [H2]; · iexact H2
    isplitl [H5]; · iexact H5
    isplitl [H6]; · iexact H6
    iexact H7
  iintro ⟨H2, H5, H6, H7⟩
  dsimp only
  rw [wp_bind, part82_eq]
  iapply (clears_spec t arg7 arg10 arg14 arg15 arg16 arg17 x7 dq dcq z15 z16 z17 _ c _) $$ [H7 H10 H14 H15 H16 H17]
  · isplitl [H7]; · iexact H7
    isplitl [H10]; · iexact H10
    isplitl [H14]; · iexact H14
    isplitl [H15]; · iexact H15
    isplitl [H16]; · iexact H16
    iexact H17
  iintro ⟨H7, H10, H14, H15, H16, H17⟩
  dsimp only
  rw [wp_bind]
  obtain ⟨r, hr⟩ := part83_eq t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (keys (grid0.coords t) x2 x5 x6 x7) (BitVec.ofNat 32 ((grid0.coords t) 1).val) (Scalar.subi 31#32 (BitVec.ofNat 32 ((grid0.coords t) 1).val)) 4#32 1#32 (Scalar.cmpi .eq (4#32) (0#32))
  erw [hr]
  iapply (few_spec t arg3 arg4 arg8 arg9 arg10 arg14 arg15 arg16 arg17 (keys (grid0.coords t) x2 x5 x6 x7) x3 x4 x8 x9 r c (start (t.val % 32) dq dcq) _) $$ [H3 H4 H8 H9 H10 H14 H15 H16 H17]
  · unfold Own
    isplitl [H3]; · iexact H3
    isplitl [H4]; · iexact H4
    isplitl [H8]; · iexact H8
    isplitl [H9]; · iexact H9
    isplitl [H10]; · iexact H10
    isplitl [H14]; · iexact H14
    isplitl [H15]; · iexact H15
    isplitl [H16]; · iexact H16
    iexact H17
  iintro H
  rw [wp_bind]
  erw [part84_eq t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (keys (grid0.coords t) x2 x5 x6 x7)]
  iapply (many_spec t arg3 arg4 arg8 arg9 arg10 arg14 arg15 arg16 arg17 (keys (grid0.coords t) x2 x5 x6 x7) x3 x4 x8 x9 c (start (t.val % 32) dq dcq) _) $$ H
  iintro H
  rw [wp_bind, part85_eq]
  ihave H : iprop(owns (c : Thread nD τ) arg3 fullShare x3 ∗ owns (c : Thread nD τ) arg4 fullShare x4 ∗ owns (c : Thread nD τ) arg8 fullShare x8 ∗ owns (c : Thread nD τ) arg9 fullShare x9 ∗ owns (c : Thread nD τ) arg10 fullShare (done t x2 x3 x4 x5 x6 x7 x8 x9 dq dcq).dq ∗ owns (c : Thread nD τ) arg14 fullShare (done t x2 x3 x4 x5 x6 x7 x8 x9 dq dcq).dcq ∗ owns (c : Thread nD τ) arg15 fullShare (done t x2 x3 x4 x5 x6 x7 x8 x9 dq dcq).dk ∗ owns (c : Thread nD τ) arg16 fullShare (done t x2 x3 x4 x5 x6 x7 x8 x9 dq dcq).dv ∗ owns (c : Thread nD τ) arg17 fullShare (done t x2 x3 x4 x5 x6 x7 x8 x9 dq dcq).dc) $$ [H]
  · unfold Own done
    iexact H
  icases H with ⟨H3, H4, H8, H9, H10, H14, H15, H16, H17⟩
  iapply (outs_spec arg11 harg11 arg12 harg12 arg15 arg16 arg17 y11 y12 (done t x2 x3 x4 x5 x6 x7 x8 x9 dq dcq).dk (done t x2 x3 x4 x5 x6 x7 x8 x9 dq dcq).dv (done t x2 x3 x4 x5 x6 x7 x8 x9 dq dcq).dc _ c _) $$ [H11 H12 H15 H16 H17]
  · isplitl [H11]; · iexact H11
    isplitl [H12]; · iexact H12
    isplitl [H15]; · iexact H15
    isplitl [H16]; · iexact H16
    iexact H17
  iintro ⟨H11, H12, H15, H16, H17⟩
  dsimp only
  iapply (ends_spec t arg10 arg13 (done t x2 x3 x4 x5 x6 x7 x8 x9 dq dcq).dq y13 _ _ _ _ c Q) $$ [H10 H13]
  · isplitl [H10]; · iexact H10
    iexact H13
  iintro ⟨H10, H13⟩
  iapply HQ
  unfold outC
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17
end

end Cert.AttnIdeal.Body
-- ==== Proof.AttnIdeal.Run.lean ====
/-
  The attention backward kernel's run: what each point of its grid leaves in the five results and in the pair's two
  accumulators, point by point, and that the arguments end unchanged.
-/
module

public import proofs.«01_k».proof.Proof.AttnIdeal.Whole
public import Idealize.ShloMosaic.Lib.Claim

@[expose] public section

set_option maxRecDepth 16384

noncomputable section

namespace Cert.AttnIdeal.Body

open Cert.AttnIdeal Cert.AttnIdeal.Gen Cert.Cells
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The accumulators at a point's end, from the two of the pair before it. -/
def doneAt (c : Dev nD) (t : Fin cfg0.N) (dq : Vec F S128x16384 .f32) (dcq : Vec F S1x8x16384 .f32) : St F :=
  done t (iblk m c 0 t) (iblk m c 1 t) (iblk m c 2 t) (iblk m c 3 t) (iblk m c 4 t) (iblk m c 5 t) (iblk m c 6 t) (iblk m c 7 t) dq dcq

/-- The accumulators point by point. -/
def accAt (c : Dev nD) : (n : ℕ) → n < cfg0.N → St F
  | 0, h => doneAt m c ⟨0, h⟩ (broadcast S128x16384 (Scalar.ofBits .f32 0x00000000#32)) (broadcast S1x8x16384 (Scalar.ofBits .f32 0x00000000#32))
  | n + 1, h => doneAt m c ⟨n + 1, h⟩ (outQ (n % 32) (accAt c n (Nat.lt_of_succ_lt h)).dq) (accAt c n (Nat.lt_of_succ_lt h)).dcq

/-- At a pair's first block nothing of what was before is used. -/
theorem accAt_first (c : Dev nD) (t : Fin cfg0.N) (h : t.val % 32 = 0) (dq : Vec F S128x16384 .f32) (dcq : Vec F S1x8x16384 .f32) :
    accAt m c t.val t.isLt = doneAt m c t dq dcq := by
  have key : ∀ (dq dq' : Vec F S128x16384 .f32) (dcq dcq' : Vec F S1x8x16384 .f32), doneAt m c t dq dcq = doneAt m c t dq' dcq' := by
    intro dq dq' dcq dcq'
    unfold doneAt done
    have e : start (t.val % 32) dq dcq = start (t.val % 32) dq' dcq' := by
      unfold start; rw [if_pos h, if_pos h, if_pos h, if_pos h]
    rw [e]
  obtain ⟨n, hn⟩ := t
  cases n with
  | zero => exact key _ _ _ _
  | succ n => exact key _ _ _ _

theorem accAt_next (c : Dev nD) (t : Fin cfg0.N) (h : ¬ t.val % 32 = 0) :
    accAt m c t.val t.isLt = doneAt m c t (outQ ((t.val - 1) % 32) (accAt m c (t.val - 1) (Nat.lt_of_le_of_lt (Nat.sub_le _ _) t.isLt)).dq)
      (accAt m c (t.val - 1) (Nat.lt_of_le_of_lt (Nat.sub_le _ _) t.isLt)).dcq := by
  obtain ⟨n, hn⟩ := t
  cases n with
  | zero => exact absurd rfl h
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outQ (t.val % 32) (accAt m c t.val t.isLt).dq
    | ⟨9, _⟩ => outK (accAt m c t.val t.isLt).dk
    | ⟨10, _⟩ => outV (accAt m c t.val t.isLt).dv
    | ⟨11, _⟩ => outC (grid0.coords t) (accAt m c t.val t.isLt).dc
    | ⟨12, _⟩ => (accAt m c t.val t.isLt).dcq
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outQ (t.val % 32) (accAt m c t.val t.isLt).dq := by dsimp only [dats]
theorem after_9 (c : Dev nD) (t : Fin cfg0.N) : (dats m 0 c).after 9 t = outK (accAt m c t.val t.isLt).dk := by dsimp only [dats]
theorem after_10 (c : Dev nD) (t : Fin cfg0.N) : (dats m 0 c).after 10 t = outV (accAt m c t.val t.isLt).dv := by dsimp only [dats]
theorem after_11 (c : Dev nD) (t : Fin cfg0.N) : (dats m 0 c).after 11 t = outC (grid0.coords t) (accAt m c t.val t.isLt).dc := by dsimp only [dats]
theorem after_12 (c : Dev nD) (t : Fin cfg0.N) : (dats m 0 c).after 12 t = (accAt m c t.val t.isLt).dcq := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
/-- Within a pair the accumulator is what the point before left. -/
theorem before_8 (c : Dev nD) (t : Fin cfg0.N) (h0 : ¬t.val % 32 = 0) (d) :
    (dats m 0 c).before 8 t d = outQ ((t.val - 1) % 32) (accAt m c (t.val - 1) (Nat.lt_of_le_of_lt (Nat.sub_le _ _) t.isLt)).dq := by
  have hN : t.val < 128 := lt_of_lt_of_eq t.isLt (show cfg0.N = 128 from N_0)
  rw [Dat.before_out_kept _ 8 rfl t (by omega) (Bool.eq_false_iff.mpr fun h => by have := (flush0_8 _).mp h; dsimp only at this; omega)
    (fun _ => rfl) (fun _ _ => rfl)]
  dsimp only [dats]
/-- Within a pair the accumulator is what the point before left. -/
theorem before_12 (c : Dev nD) (t : Fin cfg0.N) (h0 : ¬t.val % 32 = 0) (d) :
    (dats m 0 c).before 12 t d = (accAt m c (t.val - 1) (Nat.lt_of_le_of_lt (Nat.sub_le _ _) t.isLt)).dcq := by
  have hN : t.val < 128 := lt_of_lt_of_eq t.isLt (show cfg0.N = 128 from N_0)
  rw [Dat.before_out_kept _ 12 rfl t (by omega) (Bool.eq_false_iff.mpr fun h => by have := (flush0_12 _).mp h; dsimp only at this; omega)
    (fun _ => rfl) (fun _ _ => rfl)]
  dsimp only [dats]
abbrev ms_0 (t : Fin cfg0.N) : Memref sig .tc .vmem S512x128 .bf16 := win0_0.stage (cfg0.slots t 0)
abbrev ms_1 (t : Fin cfg0.N) : Memref sig .tc .vmem S128x16384 .bf16 := win0_1.stage (cfg0.slots t 1)
abbrev ms_2 (t : Fin cfg0.N) : Memref sig .tc .vmem S128x16384 .bf16 := win0_2.stage (cfg0.slots t 2)
abbrev ms_3 (t : Fin cfg0.N) : Memref sig .tc .vmem S128x512 .bf16 := win0_3.stage (cfg0.slots t 3)
abbrev ms_4 (t : Fin cfg0.N) : Memref sig .tc .vmem S512x128 .bf16 := win0_4.stage (cfg0.slots t 4)
abbrev ms_5 (t : Fin cfg0.N) : Memref sig .tc .vmem S512x128 .f32 := win0_5.stage (cfg0.slots t 5)
abbrev ms_6 (t : Fin cfg0.N) : Memref sig .tc .vmem S1x8x16384 .f32 := win0_6.stage (cfg0.slots t 6)
abbrev ms_7 (t : Fin cfg0.N) : Memref sig .tc .vmem S1x8x16384 .f32 := win0_7.stage (cfg0.slots t 7)
abbrev ms_8 (t : Fin cfg0.N) : Memref sig .tc .vmem S128x16384 .f32 := win0_8.stage (cfg0.slots t 8)
abbrev ms_9 (t : Fin cfg0.N) : Memref sig .tc .vmem S128x512 .bf16 := win0_9.stage (cfg0.slots t 9)
abbrev ms_10 (t : Fin cfg0.N) : Memref sig .tc .vmem S128x512 .bf16 := win0_10.stage (cfg0.slots t 10)
abbrev ms_11 (t : Fin cfg0.N) : Memref sig .tc .vmem S1x512x128 .f32 := win0_11.stage (cfg0.slots t 11)
abbrev ms_12 (t : Fin cfg0.N) : Memref sig .tc .vmem S1x8x16384 .f32 := win0_12.stage (cfg0.slots t 12)
abbrev sc_0 : Memref sig .tc .vmem S2x128x512 .f32 := Memref.whole cc0_scratch0
abbrev sc_1 : Memref sig .tc .vmem S2x128x512 .f32 := Memref.whole cc0_scratch1
abbrev sc_2 : Memref sig .tc .vmem S2x512x1 .f32 := Memref.whole cc0_scratch2

theorem PhiA_eq (c : Dev nD) :
    (Pipeline.ΦA spec0 c : sProp 𝕄)
      = iprop(iprop((∃ d, owns (c : Thread nD τ) sc_0 fullShare d) ∗ (∃ d, owns (c : Thread nD τ) sc_1 fullShare d) ∗ (∃ d, owns (c : Thread nD τ) sc_2 fullShare d)) ∗ (∃ r, prngReg c r)) := by
  unfold Pipeline.ΦA; rw [scopedRest0_eq]; simp only [sc_0, sc_1, sc_2, owns_whole]; try rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t)
    ∗ owns (c : Thread nD τ) (ms_10 t) fullShare ((dats m 0 c).after 10 t)
    ∗ owns (c : Thread nD τ) (ms_11 t) fullShare ((dats m 0 c).after 11 t)
    ∗ owns (c : Thread nD τ) (ms_12 t) fullShare ((dats m 0 c).after 12 t))

/-- The body with the pair's accumulators at anything they may be before the point. -/
theorem body_at (c : Dev nD) (t : Fin cfg0.N) (dq : Vec F S128x16384 .f32) (dcq : Vec F S1x8x16384 .f32) (h : accAt m c t.val t.isLt = doneAt m c t dq dcq) :
    iprop(Pipeline.ΦA spec0 c ∗ (dats m 0 c).owesAt () t.castSucc
    ∗ owns (c : Thread nD τ) (ms_0 t) fullShare (iblk m c 0 t)
    ∗ owns (c : Thread nD τ) (ms_1 t) fullShare (iblk m c 1 t)
    ∗ owns (c : Thread nD τ) (ms_2 t) fullShare (iblk m c 2 t)
    ∗ owns (c : Thread nD τ) (ms_3 t) fullShare (iblk m c 3 t)
    ∗ owns (c : Thread nD τ) (ms_4 t) fullShare (iblk m c 4 t)
    ∗ owns (c : Thread nD τ) (ms_5 t) fullShare (iblk m c 5 t)
    ∗ owns (c : Thread nD τ) (ms_6 t) fullShare (iblk m c 6 t)
    ∗ owns (c : Thread nD τ) (ms_7 t) fullShare (iblk m c 7 t)
    ∗ owns (c : Thread nD τ) (ms_8 t) fullShare dq
    ∗ (∃ d, owns (c : Thread nD τ) (ms_9 t) fullShare d)
    ∗ (∃ d, owns (c : Thread nD τ) (ms_10 t) fullShare d)
    ∗ (∃ d, owns (c : Thread nD τ) (ms_11 t) fullShare d)
    ∗ owns (c : Thread nD τ) (ms_12 t) fullShare dcq)
      ⊢ wp frame (wpE (defs₀ (F := F)) Variants.none c none) Set.univ (bodyAt0 t) (fun _ => bodyPost m c t) := by
  unfold bodyPost
  rw [show (dats m 0 c).owesAt () t.succ = (dats m 0 c).owesAt () t.castSucc from rfl,
    show (dats m 0 c).Φ t.succ = Pipeline.ΦA spec0 c from rfl, PhiA_eq, after_0, after_1, after_2, after_3, after_4, after_5, after_6, after_7, after_8, after_9, after_10, after_11, after_12, h]
  iintro ⟨⟨⟨⟨%z15, Z15⟩, ⟨%z16, Z16⟩, ⟨%z17, Z17⟩⟩, Hg⟩, Ho, H0, H1, H2, H3, H4, H5, H6, H7, H8, ⟨%y9, H9⟩, ⟨%y10, H10⟩, ⟨%y11, H11⟩, H12⟩
  iapply (body_spec t (ms_0 t) (hstage0_0 ((cfg0.slots t 0).cast nbuf0_0)) (ms_1 t) (hstage0_1 ((cfg0.slots t 1).cast nbuf0_1)) (ms_2 t) (hstage0_2 ((cfg0.slots t 2).cast nbuf0_2)) (ms_3 t) (hstage0_3 ((cfg0.slots t 3).cast nbuf0_3)) (ms_4 t) (hstage0_4 ((cfg0.slots t 4).cast nbuf0_4)) (ms_5 t) (hstage0_5 ((cfg0.slots t 5).cast nbuf0_5)) (ms_6 t) (hstage0_6 ((cfg0.slots t 6).cast nbuf0_6)) (ms_7 t) (hstage0_7 ((cfg0.slots t 7).cast nbuf0_7)) (ms_8 t) (hstage0_8 ((cfg0.slots t 8).cast nbuf0_8)) (ms_9 t) (hstage0_9 ((cfg0.slots t 9).cast nbuf0_9)) (ms_10 t) (hstage0_10 ((cfg0.slots t 10).cast nbuf0_10)) (ms_11 t) (hstage0_11 ((cfg0.slots t 11).cast nbuf0_11)) (ms_12 t) (hstage0_12 ((cfg0.slots t 12).cast nbuf0_12))
    sc_0 (Memref.isWhole_whole _) sc_1 (Memref.isWhole_whole _) sc_2 (Memref.isWhole_whole _)
    (iblk m c 0 t) (iblk m c 1 t) (iblk m c 2 t) (iblk m c 3 t) (iblk m c 4 t) (iblk m c 5 t) (iblk m c 6 t) (iblk m c 7 t) dq dcq y9 y10 y11 z15 z16 z17 c _) $$ [H0 H1 H2 H3 H4 H5 H6 H7 H8 H9 H10 H11 H12 Z15 Z16 Z17]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [Z15]; · iexact Z15
    isplitl [Z16]; · iexact Z16
    iexact Z17
  iintro ⟨H0, H1, H2, H3, H4, H5, H6, H7, H8, H9, H10, H11, H12, Z15, Z16, Z17⟩
  isplitl [Z15 Z16 Z17 Hg]
  · isplitl [Z15 Z16 Z17]
    · isplitl [Z15]; · iexists _; iexact Z15
      isplitl [Z16]; · iexists _; iexact Z16
      iexists _; iexact Z17
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem sound_body (c : Dev nD) (t : Fin cfg0.N) :
    bodyPre m c t ⊢ wp frame (wpE (defs₀ (F := F)) Variants.none c none) Set.univ (bodyAt0 t) (fun _ => bodyPost m c t) := by
  unfold bodyPre
  rw [show (dats m 0 c).Φ t.castSucc = Pipeline.ΦA spec0 c from rfl]
  simp only [before_0 m c t, before_1 m c t, before_2 m c t, before_3 m c t, before_4 m c t, before_5 m c t, before_6 m c t, before_7 m c t]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  by_cases h : t.val % 32 = 0
  · iapply (body_at m c t _ _ (accAt_first m c t h _ _))
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iexact H12
  · rw [before_8 m c t h, before_12 m c t h]
    iapply (body_at m c t _ _ (accAt_next m c t h))
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := Idealize.SL.BI.Entails.refl _

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.AttnIdeal.Body
-- ==== Proof.Attn.Run.lean ====
/-
  The attention backward kernel as it is written: the same program as its ideal reading, a named constant standing for
  the pattern that it was printed with. So what is proved of the reading over every float type is true of it.
-/
module

public import proofs.«01_k».proof.Proof.AttnIdeal.Run
public import proofs.«01_k».proof.Proof.Gen.Attn

@[expose] public section

set_option maxRecDepth 65536
set_option maxHeartbeats 4000000

noncomputable section

namespace Cert.Attn.Body

open Cert.Attn Cert.Attn.Gen Cert.AttnIdeal.Gen
open Idealize.ShloMosaic Idealize.ShloMosaic.TcCoe
open Idealize.SL.Sem

variable {F : FTy → Type} [FloatOps F]

/-- A named constant read as the pattern that it was printed with. -/
@[instance_reducible] def literal : Named F := ⟨fun _ _ {_} w => Scalar.ofBits _ w⟩

/-- The launch, its body, and @main are the reading's, every definition of the one unfolding as that of the other. -/
theorem pcfgs_eq : pcfgs (F := F) = (letI := literal (F := F); Cert.AttnIdeal.pcfgs (F := F)) := rfl

theorem defs₀_eq : defs₀ (F := F) = (letI := literal (F := F); Cert.AttnIdeal.defs₀ (F := F)) :=
  congrArg Defs.onTc (funext fun l => funext fun a => match l, a with
    | 0, (t, s) => rfl
    | ⟨_ + 1, h⟩, _ => absurd h (Nat.not_lt.2 (Nat.le_add_left _ _)))

theorem main_eq : main (F := F) = (letI := literal (F := F); Cert.AttnIdeal.main (F := F)) := rfl

theorem defs_eq : defs (F := F) = (letI := literal (F := F); Cert.AttnIdeal.defs (F := F)) :=
  congrArg (Pipeline.defs pcfgs) defs₀_eq

/-- The arguments end unchanged, and every counter at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  by
  rw [main_eq, defs_eq]
  letI := literal (F := F)
  exact Cert.AttnIdeal.Body.frame (F := F) m ρ

end Cert.Attn.Body

end
-- ==== Proof.Attend.Spec.lean ====
/- The gradients of causal attention with a bias per key, over the real numbers: what both programs compute. -/
module
public import Idealize.ShloMosaic.Lib.Pointwise
public import Idealize.ShloMosaic.PureOps.Ideal.Laws
@[expose] public section
set_option maxRecDepth 16384

noncomputable section

namespace Cert.Attend

open Idealize.ShloMosaic

/-- A head's column. -/
def col (H : Fin 8) (e : Fin 64) : Fin 512 := ⟨H.val * 64 + e.val, by omega⟩
/-- A column's head. -/
def hd (i : Fin 512) : Fin 8 := ⟨i.val / 64, by omega⟩

variable (q k v g : Fin 16384 → Fin 512 → ℝ) (c : Fin 16384 → Fin 8 → ℝ)

/-- The score of a query at a key: the scaled product less the key's bias. -/
def sc (H : Fin 8) (t s : Fin 16384) : ℝ := (∑ e : Fin 64, q t (col H e) * k s (col H e)) / 8 - c s H
/-- The exponential of the score, of keys no later than the query. -/
def ex (H : Fin 8) (t s : Fin 16384) : ℝ := if s.val ≤ t.val then Real.exp (sc q k c H t s) else 0
def norm (H : Fin 8) (t : Fin 16384) : ℝ := ∑ s, ex q k c H t s
/-- The attention's weights. -/
def pr (H : Fin 8) (t s : Fin 16384) : ℝ := ex q k c H t s / norm q k c H t
/-- The gradient with respect to a weight. -/
def dp (H : Fin 8) (t s : Fin 16384) : ℝ := ∑ e : Fin 64, g t (col H e) * v s (col H e)
/-- What the softmax takes off it. -/
def dl (H : Fin 8) (t : Fin 16384) : ℝ := ∑ s, pr q k c H t s * dp v g H t s
/-- The gradient with respect to a score. -/
def ds (H : Fin 8) (t s : Fin 16384) : ℝ := pr q k c H t s * (dp v g H t s - dl q k v g c H t)

def dq (t : Fin 16384) (i : Fin 512) : ℝ := (∑ s, ds q k v g c (hd i) t s * k s i) / 8
def dk (s : Fin 16384) (i : Fin 512) : ℝ := (∑ t, ds q k v g c (hd i) t s * q t i) / 8
def dv (s : Fin 16384) (i : Fin 512) : ℝ := ∑ t, pr q k c (hd i) t s * g t i
def dcq (t : Fin 16384) (H : Fin 8) : ℝ := ∑ s, ds q k v g c H t s
def dck (s : Fin 16384) (H : Fin 8) : ℝ := - ∑ t, ds q k v g c H t s

theorem ex_nonneg (H : Fin 8) (t s : Fin 16384) : 0 ≤ ex q k c H t s := by
  unfold ex; split_ifs
  · exact (Real.exp_pos _).le
  · exact le_rfl

theorem norm_pos (H : Fin 8) (t : Fin 16384) : 0 < norm q k c H t := by
  refine lt_of_lt_of_le ?_ (Finset.single_le_sum (fun s _ => ex_nonneg q k c H t s) (Finset.mem_univ t))
  unfold ex
  rw [if_pos le_rfl]
  exact Real.exp_pos _

theorem norm_ne (H : Fin 8) (t : Fin 16384) : norm q k c H t ≠ 0 := (norm_pos q k c H t).ne'

theorem ds_late (H : Fin 8) (t s : Fin 16384) (h : ¬ s.val ≤ t.val) : ds q k v g c H t s = 0 := by
  unfold ds pr ex; rw [if_neg h, zero_div, zero_mul]

theorem pr_late (H : Fin 8) (t s : Fin 16384) (h : ¬ s.val ≤ t.val) : pr q k c H t s = 0 := by
  unfold pr ex; rw [if_neg h, zero_div]

/-- A finite sum of reals, taken in the extended reals. -/
theorem coe_sum {ι : Type*} (I : Finset ι) (f : ι → ℝ) : ∑ i ∈ I, ((f i : ℝ) : EReal) = ((∑ i ∈ I, f i : ℝ) : EReal) := by
  classical
  induction I using Finset.induction_on with
  | empty => simp
  | insert a s h ih => rw [Finset.sum_insert h, Finset.sum_insert h, ih, EReal.coe_add]

/-- The same of terms given as reals. -/
theorem sum_eq {ι : Type*} [Fintype ι] (a : ι → EReal) (f : ι → ℝ) (h : ∀ i, a i = ((f i : ℝ) : EReal)) :
    ∑ i, a i = ((∑ i, f i : ℝ) : EReal) := by
  rw [Finset.sum_congr rfl fun i _ => h i, coe_sum]

/-- The largest of finitely many reals with some left out is a real if one is not. -/
theorem fold_real {n : ℕ} (a : Fin n → EReal) (i : Fin n) (hi : a i ≠ ⊥) (ha : ∀ j, a j ≠ ⊤) :
    ∃ m : ℝ, Finset.univ.fold max (⊥ : EReal) a = (m : EReal) := by
  have h1 : Finset.univ.fold max (⊥ : EReal) a ≠ ⊤ :=
    ((Finset.fold_max_lt ⊤).mpr ⟨bot_lt_top, fun j _ => lt_top_iff_ne_top.mpr (ha j)⟩).ne
  have h2 : Finset.univ.fold max (⊥ : EReal) a ≠ ⊥ := fun e =>
    hi (le_bot_iff.mp (e ▸ (Finset.le_fold_max (a i)).mpr (Or.inr ⟨i, Finset.mem_univ i, le_rfl⟩)))
  exact ⟨_, (EReal.coe_toReal h1 h2).symm⟩

theorem div_real (a b : ℝ) (h : b ≠ 0) : Ideal.div (a : EReal) (b : EReal) = ((a / b : ℝ) : EReal) := by
  rw [Ideal.div_coe h, ← EReal.coe_mul, mul_one_div]

theorem ln_pos : 0 < Real.log 2 := Real.log_pos (by norm_num)
theorem ln_ne : Real.log 2 ≠ 0 := ln_pos.ne'

/-- A score shifted by a number of its row. -/
theorem ex_shift (H : Fin 8) (t s : Fin 16384) (a : ℝ) (z : ℝ) (hz : z = sc q k c H t s - a) :
    (if s.val ≤ t.val then Real.exp z else 0) = ex q k c H t s * Real.exp (-a) := by
  unfold ex; split_ifs
  · rw [← Real.exp_add, hz, sub_eq_add_neg]
  · rw [zero_mul]

theorem norm_shift (H : Fin 8) (t : Fin 16384) (a : ℝ) :
    ∑ s, ex q k c H t s * Real.exp (-a) = norm q k c H t * Real.exp (-a) := by
  rw [norm, Finset.sum_mul]

/-- A row's maximum, at a row. -/
theorem max_row {a b n : ℕ} {φ : FTy} {u : Shape} (x : (⟨3, ![a, b, n]⟩ : Shape).Idx → EReal) (init : u.Idx → EReal)
    (h : (⟨3, ![a, b, n]⟩ : Shape).ReducesTo [2] ⟨2, ![a, b]⟩) (hu : 0 < u.numel) (i : Fin a) (j : Fin b) :
    Host.reduce (FloatOps.maximumf (F := Ideal) (φ := φ)) x init h hu (ix2 i j)
      = (Finset.univ : Finset (Fin n)).fold max (init (Shape.Idx.first hu)) fun k => x (ix3 i j k) := by
  pointwise []

theorem eighth : Ideal.ofBits .f32 0x3E000000#32 = ((1 / 8 : ℝ) : EReal) := by
  simp [Ideal.ofBits, Ideal.ieee]
  rw [← EReal.coe_mul]
  congr 1
  norm_num
theorem minus_inf : Ideal.ofBits .f32 0xFF800000#32 = (⊥ : EReal) := by simp [Ideal.ofBits, Ideal.ieee]

/-- A pair's column, and one of its heads. -/
def dcol (j : Fin 4) (d : Fin 128) : Fin 512 := ⟨j.val * 128 + d.val, by omega⟩
def ph (j : Fin 4) (h : Fin 2) : Fin 8 := ⟨2 * j.val + h.val, by omega⟩
/-- A block's key. -/
def key (i : Fin 32) (s : Fin 512) : Fin 16384 := ⟨i.val * 512 + s.val, by omega⟩

theorem two_f32 : Ideal.ofBits .f32 0x40000000#32 = ((2 : ℝ) : EReal) := by
  simp [Ideal.ofBits, Ideal.ieee]
  rw [← EReal.coe_mul]
  refine congrArg Real.toEReal ?_
  norm_num

/-- A head's column among a pair's. -/
theorem dcol_head (j : Fin 4) (h : Fin 2) (e : Fin 64) (hb : h.val * 64 + e.val < 128) : dcol j ⟨h.val * 64 + e.val, hb⟩ = col (ph j h) e :=
  Fin.ext (show j.val * 128 + (h.val * 64 + e.val) = (2 * j.val + h.val) * 64 + e.val by omega)

theorem hd_dcol (j : Fin 4) (h : Fin 2) (d : Fin 128) (hh : d.val / 64 = h.val) : hd (dcol j d) = ph j h :=
  Fin.ext (show (j.val * 128 + d.val) / 64 = 2 * j.val + h.val by omega)

/-- Two to a number of binary digits. -/
theorem rpow_log (x : ℝ) : Real.rpow 2 (x / Real.log 2) = Real.exp x := by
  show (2 : ℝ) ^ (x / Real.log 2) = _
  rw [Real.rpow_def_of_pos (by norm_num), mul_div_cancel₀ x ln_ne]

/-- Of a masked sum over the pair's dimensions, a head's. -/
theorem head_sum (h : Fin 2) (f : Fin 128 → EReal) :
    ∑ d : Fin 128, (if d.val / 64 = h.val then f d else 0) = ∑ e : Fin 64, f ⟨h.val * 64 + e.val, by omega⟩ := by
  refine (Fin.sum_univ_add (a := 64) (b := 64) _).trans ?_
  have hh := h.isLt
  by_cases h0 : h.val = 0
  · refine (congrArg₂ (· + ·) (Finset.sum_congr rfl fun e _ => ?_) (Finset.sum_eq_zero fun e _ => ?_)).trans (add_zero (∑ e : Fin 64, f ⟨h.val * 64 + e.val, by omega⟩))
    · rw [if_pos (by simp only [Fin.val_castAdd]; omega)]
      exact congrArg f (Fin.ext (by simp only [Fin.val_castAdd]; omega))
    · exact if_neg (by simp only [Fin.val_natAdd]; omega)
  · refine (congrArg₂ (· + ·) (Finset.sum_eq_zero fun e _ => ?_) (Finset.sum_congr rfl fun e _ => ?_)).trans (zero_add (∑ e : Fin 64, f ⟨h.val * 64 + e.val, by omega⟩))
    · exact if_neg (by simp only [Fin.val_castAdd]; omega)
    · rw [if_pos (by simp only [Fin.val_natAdd]; omega)]
      exact congrArg f (Fin.ext (by simp only [Fin.val_natAdd]; omega))

theorem top_f32 : Ideal.ofBits .f32 2139095040#32 = (⊤ : EReal) := by simp [Ideal.ofBits, Ideal.ieee]

/-- A number whose absolute value lies below infinity is a real. -/
theorem real_of (x : EReal) (h : Ideal.cmp .olt (max x (-x)) (Ideal.ofBits .f32 2139095040#32) = 1#1) : x = ((x.toReal : ℝ) : EReal) := by
  rw [top_f32] at h
  have hlt : max x (-x) < ⊤ := by
    by_contra hn
    simp [Ideal.cmp, hn] at h
  refine (EReal.coe_toReal ?_ ?_).symm
  · rintro rfl
    exact absurd (lt_of_le_of_lt (le_max_left _ _) hlt) (lt_irrefl _)
  · rintro rfl
    exact absurd (lt_of_le_of_lt (le_max_right _ _) hlt) (by simp)

/-- Arrays equal at every place are equal. -/
theorem ext2 {n0 n1 : ℕ} {α : Type} (A B : (⟨2, ![n0, n1]⟩ : Shape).Idx → α) (h : ∀ i j, A (ix2 i j) = B (ix2 i j)) : A = B :=
  funext fun i => by rw [← ix2_eta i]; exact h _ _
theorem ext3 {n0 n1 n2 : ℕ} {α : Type} (A B : (⟨3, ![n0, n1, n2]⟩ : Shape).Idx → α) (h : ∀ i j l, A (ix3 i j l) = B (ix3 i j l)) : A = B :=
  funext fun i => by rw [← ix3_eta i]; exact h _ _ _

end Cert.Attend
end
-- ==== Proof.AttnIdeal.Kern.lean ====
/- What the kernel is given: the values the host works out before the call. -/
module
public import proofs.«01_k».proof.Proof.AttnIdeal.Run
public import proofs.«01_k».proof.Proof.Attend.Spec
public import proofs.«01_k».proof.Proof.Words
public import Idealize.ShloMosaic.Lib.WritesUnit
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384

noncomputable section

namespace Cert.AttnIdeal.Sem

open Cert.AttnIdeal Cert.AttnIdeal.Gen Cert.AttnIdeal.Body Idealize.ShloMosaic Idealize.ShloMosaic.TcCoe Idealize.SL.Sem
open Cert.Step Cert.Attend

variable (m : (ℓ : Loc nD τ sig) → Buf (Elt Ideal) ℓ) (c : Dev nD)

theorem zero32 : FloatOps.sitofp (F := Ideal) .f32 (0#32) = (0 : EReal) := by
  show ((((0#32 : BitVec 32).toInt : ℝ)) : EReal) = 0
  simp

abbrev X0 : FVec Ideal S16384x512 .f32 := m ((c : Thread nD τ).loc main_arg0)
abbrev X1 : FVec Ideal S16384x512 .f32 := m ((c : Thread nD τ).loc main_arg1)
abbrev X2 : FVec Ideal S16384x512 .f32 := m ((c : Thread nD τ).loc main_arg2)
abbrev X3 : FVec Ideal S16384x8 .f32 := m ((c : Thread nD τ).loc main_arg3)
abbrev X4 : FVec Ideal S16384x512 .f32 := m ((c : Thread nD τ).loc main_arg4)
abbrev A0 : FVec Ideal S_ .f32 := V m c main_v0
abbrev A9 : FVec Ideal S16384x1536 .bf16 := V m c main_v9
abbrev A12 : FVec Ideal S16384x128 .f32 := V m c main_v12
abbrev A15 : FVec Ideal S8x16384x64 .bf16 := V m c main_v15
abbrev A18 : FVec Ideal S8x16384x64 .bf16 := V m c main_v18
abbrev A21 : FVec Ideal S8x16384x64 .bf16 := V m c main_v21
abbrev A32 : FVec Ideal S8x16384x16384 .f32 := V m c main_v32
abbrev A33 : FVec Ideal S8x16384 .f32 := V m c main_v33
abbrev A39 : FVec Ideal S8x16384x16384 .f32 := V m c main_v39
abbrev A40 : FVec Ideal S8x16384 .f32 := V m c main_v40
abbrev A47 : FVec Ideal S8x16384x64 .f32 := V m c main_v47
abbrev A52 : FVec Ideal S8x16384x1 .f32 := V m c main_v52
abbrev A56 : FVec Ideal S8x16384 .f32 := V m c main_v56
abbrev A57 : FVec Ideal S1536x16384 .bf16 := V m c main_v57
abbrev A59 : FVec Ideal S512x16384 .bf16 := V m c main_v59
abbrev A62 : FVec Ideal S4x8x16384 .f32 := V m c main_v62
abbrev A64 : FVec Ideal S4x8x16384 .f32 := V m c main_v64

set_option maxHeartbeats 4000000 in
theorem A0_eq : A0 m c = Host.log (constant S_ .f32 0x40000000#32) := by
  simp only [A0, A9, A12, A15, A18, A21, A32, A33, A39, A40, A47, A52, A56, A57, A59, A62, A64]
  simp only [V, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  entry_read
  try simp -implicitDefEqProofs only [StableHlo.TRef.toBuf, StableHlo.TRef.ofBuf, cast_cast, cast_eq]
  all_goals rfl

set_option maxHeartbeats 4000000 in
theorem A9_eq : A9 m c = truncf .bf16 (addf (addf (pad S16384x1536 ![0, 0] ![0, 1024] ![0, 0] (mulf (X0 m c) (broadcastInDim S16384x512 ![] bcast_S_S16384x512 (Host.divf (constant S_ .f32 0x3E000000#32) (A0 m c)))) (sitofp .f32 (constantI S_ 32 0#32)) pads_S16384x512_S16384x1536_000_010240 h_S_) (pad S16384x1536 ![0, 512] ![0, 512] ![0, 0] (X1 m c) (sitofp .f32 (constantI S_ 32 0#32)) pads_S16384x512_S16384x1536_000_5125120 h_S_)) (pad S16384x1536 ![0, 1024] ![0, 0] ![0, 0] (X2 m c) (sitofp .f32 (constantI S_ 32 0#32)) pads_S16384x512_S16384x1536_000_102400 h_S_)) bitsLt_bf16_f32 := by
  simp only [A0, A9, A12, A15, A18, A21, A32, A33, A39, A40, A47, A52, A56, A57, A59, A62, A64]
  simp only [V, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  entry_read
  try simp -implicitDefEqProofs only [StableHlo.TRef.toBuf, StableHlo.TRef.ofBuf, cast_cast, cast_eq]
  all_goals rfl

set_option maxHeartbeats 4000000 in
theorem A12_eq : A12 m c = pad S16384x128 ![0, 0] ![0, 120] ![0, 0] (Host.divf (X3 m c) (broadcastInDim S16384x8 ![] bcast_S_S16384x8 (A0 m c))) (sitofp .f32 (constantI S_ 32 0#32)) pads_S16384x8_S16384x128_000_01200 h_S_ := by
  simp only [A0, A9, A12, A15, A18, A21, A32, A33, A39, A40, A47, A52, A56, A57, A59, A62, A64]
  simp only [V, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  entry_read
  try simp -implicitDefEqProofs only [StableHlo.TRef.toBuf, StableHlo.TRef.ofBuf, cast_cast, cast_eq]
  all_goals rfl

set_option maxHeartbeats 4000000 in
theorem A15_eq : A15 m c = transpose S8x16384x64 [1, 0, 2] (shapeCast _ (extractStridedSlice S16384x512 ![0, 0] (A9 m c) slices_S16384x1536_S16384x512_0_0) shapeCasts_S16384x512_S16384x8x64) transposes_S16384x8x64_S8x16384x64_1_0_2 := by
  simp only [A0, A9, A12, A15, A18, A21, A32, A33, A39, A40, A47, A52, A56, A57, A59, A62, A64]
  simp only [V, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  entry_read
  try simp -implicitDefEqProofs only [StableHlo.TRef.toBuf, StableHlo.TRef.ofBuf, cast_cast, cast_eq]
  all_goals rfl

set_option maxHeartbeats 4000000 in
theorem A18_eq : A18 m c = transpose S8x16384x64 [1, 0, 2] (shapeCast _ (extractStridedSlice S16384x512 ![0, 512] (A9 m c) slices_S16384x1536_S16384x512_0_512) shapeCasts_S16384x512_S16384x8x64) transposes_S16384x8x64_S8x16384x64_1_0_2 := by
  simp only [A0, A9, A12, A15, A18, A21, A32, A33, A39, A40, A47, A52, A56, A57, A59, A62, A64]
  simp only [V, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  entry_read
  try simp -implicitDefEqProofs only [StableHlo.TRef.toBuf, StableHlo.TRef.ofBuf, cast_cast, cast_eq]
  all_goals rfl

set_option maxHeartbeats 4000000 in
theorem A21_eq : A21 m c = transpose S8x16384x64 [1, 0, 2] (shapeCast _ (extractStridedSlice S16384x512 ![0, 1024] (A9 m c) slices_S16384x1536_S16384x512_0_1024) shapeCasts_S16384x512_S16384x8x64) transposes_S16384x8x64_S8x16384x64_1_0_2 := by
  simp only [A0, A9, A12, A15, A18, A21, A32, A33, A39, A40, A47, A52, A56, A57, A59, A62, A64]
  simp only [V, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  entry_read
  try simp -implicitDefEqProofs only [StableHlo.TRef.toBuf, StableHlo.TRef.ofBuf, cast_cast, cast_eq]
  all_goals rfl

set_option maxHeartbeats 4000000 in
theorem A32_eq : A32 m c = select (broadcastInDim S8x16384x16384 ![0, 1, 2] bcast_S1x16384x16384_S8x16384x16384_0_1_2 (broadcastInDim S1x16384x16384 ![1, 2] bcast_S16384x16384_S1x16384x16384_1_2 (cmpi .sge (iotaInDim S16384x16384 32 0) (iotaInDim S16384x16384 32 1)))) (subf (Host.dotGeneral dot_S8x16384x64_S8x16384x64_S8x16384x16384_2_2_1_1_0_0 none (A15 m c) (A18 m c)) (broadcastInDim S8x16384x16384 ![0, 1, 2] bcast_S8x1x16384_S8x16384x16384_0_1_2 (broadcastInDim S8x1x16384 ![0, 2] bcast_S8x16384_S8x1x16384_0_2 (transpose S8x16384 [1, 0] (extractStridedSlice S16384x8 ![0, 0] (A12 m c) slices_S16384x128_S16384x8_0_0) transposes_S16384x8_S8x16384_1_0)))) (broadcastInDim S8x16384x16384 ![] bcast_S_S8x16384x16384 (constant S_ .f32 0xFF800000#32)) := by
  simp only [A0, A9, A12, A15, A18, A21, A32, A33, A39, A40, A47, A52, A56, A57, A59, A62, A64]
  simp only [V, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  entry_read
  try simp -implicitDefEqProofs only [StableHlo.TRef.toBuf, StableHlo.TRef.ofBuf, cast_cast, cast_eq]
  all_goals rfl

set_option maxHeartbeats 4000000 in
theorem A33_eq : A33 m c = Host.reduce (FloatOps.maximumf (F := Ideal) (φ := .f32)) (A32 m c) (constant S_ .f32 0xFF800000#32) reducesTo_S8x16384x16384_S8x16384_d2 h_S_ := by
  simp only [A0, A9, A12, A15, A18, A21, A32, A33, A39, A40, A47, A52, A56, A57, A59, A62, A64]
  simp only [V, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  entry_read
  try simp -implicitDefEqProofs only [StableHlo.TRef.toBuf, StableHlo.TRef.ofBuf, cast_cast, cast_eq]
  all_goals rfl

set_option maxHeartbeats 4000000 in
theorem A39_eq : A39 m c = Host.exp (mulf (subf (A32 m c) (broadcastInDim S8x16384x16384 ![0, 1, 2] bcast_S8x16384x1_S8x16384x16384_0_1_2 (broadcastInDim S8x16384x1 ![0, 1] bcast_S8x16384_S8x16384x1_0_1 (A33 m c)))) (broadcastInDim S8x16384x16384 ![] bcast_S_S8x16384x16384 (A0 m c))) := by
  simp only [A0, A9, A12, A15, A18, A21, A32, A33, A39, A40, A47, A52, A56, A57, A59, A62, A64]
  simp only [V, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  entry_read
  try simp -implicitDefEqProofs only [StableHlo.TRef.toBuf, StableHlo.TRef.ofBuf, cast_cast, cast_eq]
  all_goals rfl

set_option maxHeartbeats 4000000 in
theorem A40_eq : A40 m c = Host.reduceAdd (A39 m c) (constant S_ .f32 0x00000000#32) reducesTo_S8x16384x16384_S8x16384_d2 h_S_ := by
  simp only [A0, A9, A12, A15, A18, A21, A32, A33, A39, A40, A47, A52, A56, A57, A59, A62, A64]
  simp only [V, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  entry_read
  try simp -implicitDefEqProofs only [StableHlo.TRef.toBuf, StableHlo.TRef.ofBuf, cast_cast, cast_eq]
  all_goals rfl

set_option maxHeartbeats 4000000 in
theorem A47_eq : A47 m c = mulf (Host.dotGeneral dot_S8x16384x16384_S8x16384x64_S8x16384x64_2_1_1_2_0_0 none (truncf .bf16 (A39 m c) bitsLt_bf16_f32) (A21 m c)) (broadcastInDim S8x16384x64 ![0, 1, 2] bcast_S8x16384x1_S8x16384x64_0_1_2 (Host.divf (broadcastInDim S8x16384x1 ![] bcast_S_S8x16384x1 (constant S_ .f32 0x3F800000#32)) (broadcastInDim S8x16384x1 ![0, 1] bcast_S8x16384_S8x16384x1_0_1 (A40 m c)))) := by
  simp only [A0, A9, A12, A15, A18, A21, A32, A33, A39, A40, A47, A52, A56, A57, A59, A62, A64]
  simp only [V, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  entry_read
  try simp -implicitDefEqProofs only [StableHlo.TRef.toBuf, StableHlo.TRef.ofBuf, cast_cast, cast_eq]
  all_goals rfl

set_option maxHeartbeats 4000000 in
theorem A52_eq : A52 m c = Host.negf (addf (broadcastInDim S8x16384x1 ![0, 1] bcast_S8x16384_S8x16384x1_0_1 (A33 m c)) (Host.divf (Host.log (broadcastInDim S8x16384x1 ![0, 1] bcast_S8x16384_S8x16384x1_0_1 (A40 m c))) (broadcastInDim S8x16384x1 ![] bcast_S_S8x16384x1 (A0 m c)))) := by
  simp only [A0, A9, A12, A15, A18, A21, A32, A33, A39, A40, A47, A52, A56, A57, A59, A62, A64]
  simp only [V, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  entry_read
  try simp -implicitDefEqProofs only [StableHlo.TRef.toBuf, StableHlo.TRef.ofBuf, cast_cast, cast_eq]
  all_goals rfl

set_option maxHeartbeats 4000000 in
theorem A56_eq : A56 m c = Host.reduceAdd (mulf (transpose S8x16384x64 [1, 0, 2] (shapeCast _ (X4 m c) shapeCasts_S16384x512_S16384x8x64) transposes_S16384x8x64_S8x16384x64_1_0_2) (A47 m c)) (constant S_ .f32 0x00000000#32) reducesTo_S8x16384x64_S8x16384_d2 h_S_ := by
  simp only [A0, A9, A12, A15, A18, A21, A32, A33, A39, A40, A47, A52, A56, A57, A59, A62, A64]
  simp only [V, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  entry_read
  try simp -implicitDefEqProofs only [StableHlo.TRef.toBuf, StableHlo.TRef.ofBuf, cast_cast, cast_eq]
  all_goals rfl

set_option maxHeartbeats 4000000 in
theorem A57_eq : A57 m c = transpose S1536x16384 [1, 0] (A9 m c) transposes_S16384x1536_S1536x16384_1_0 := by
  simp only [A0, A9, A12, A15, A18, A21, A32, A33, A39, A40, A47, A52, A56, A57, A59, A62, A64]
  simp only [V, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  entry_read
  try simp -implicitDefEqProofs only [StableHlo.TRef.toBuf, StableHlo.TRef.ofBuf, cast_cast, cast_eq]
  all_goals rfl

set_option maxHeartbeats 4000000 in
theorem A59_eq : A59 m c = truncf .bf16 (transpose S512x16384 [1, 0] (X4 m c) transposes_S16384x512_S512x16384_1_0) bitsLt_bf16_f32 := by
  simp only [A0, A9, A12, A15, A18, A21, A32, A33, A39, A40, A47, A52, A56, A57, A59, A62, A64]
  simp only [V, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  entry_read
  try simp -implicitDefEqProofs only [StableHlo.TRef.toBuf, StableHlo.TRef.ofBuf, cast_cast, cast_eq]
  all_goals rfl

set_option maxHeartbeats 4000000 in
theorem A62_eq : A62 m c = pad S4x8x16384 ![0, 0, 0] ![0, 6, 0] ![0, 0, 0] (shapeCast S4x2x16384 (shapeCast S8x16384 (A52 m c) shapeCasts_S8x16384x1_S8x16384) shapeCasts_S8x16384_S4x2x16384) (sitofp .f32 (constantI S_ 32 0#32)) pads_S4x2x16384_S4x8x16384_000_060_000 h_S_ := by
  simp only [A0, A9, A12, A15, A18, A21, A32, A33, A39, A40, A47, A52, A56, A57, A59, A62, A64]
  simp only [V, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  entry_read
  try simp -implicitDefEqProofs only [StableHlo.TRef.toBuf, StableHlo.TRef.ofBuf, cast_cast, cast_eq]
  all_goals rfl

set_option maxHeartbeats 4000000 in
theorem A64_eq : A64 m c = pad S4x8x16384 ![0, 0, 0] ![0, 6, 0] ![0, 0, 0] (shapeCast S4x2x16384 (A56 m c) shapeCasts_S8x16384_S4x2x16384) (sitofp .f32 (constantI S_ 32 0#32)) pads_S4x2x16384_S4x8x16384_000_060_000 h_S_ := by
  simp only [A0, A9, A12, A15, A18, A21, A32, A33, A39, A40, A47, A52, A56, A57, A59, A62, A64]
  simp only [V, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  entry_read
  try simp -implicitDefEqProofs only [StableHlo.TRef.toBuf, StableHlo.TRef.ofBuf, cast_cast, cast_eq]
  all_goals rfl

end Cert.AttnIdeal.Sem
end
-- ==== Proof.AttnIdeal.Given.lean ====
/- The kernel's operands as real numbers. -/
module
public import proofs.«01_k».proof.Proof.AttnIdeal.Kern
@[expose] public section
set_option maxRecDepth 16384

noncomputable section

namespace Cert.AttnIdeal.Sem

open Cert.AttnIdeal Cert.AttnIdeal.Gen Cert.AttnIdeal.Body Idealize.ShloMosaic Idealize.ShloMosaic.TcCoe Idealize.SL.Sem
open Cert.Step Cert.Attend

variable (m : (ℓ : Loc nD τ sig) → Buf (Elt Ideal) ℓ) (dev : Dev nD)
variable (q k v g : Fin 16384 → Fin 512 → ℝ) (c : Fin 16384 → Fin 8 → ℝ)

/-- The arguments are these reals. -/
structure Reals : Prop where
  q : ∀ t i, X0 m dev (ix2 t i) = ((q t i : ℝ) : EReal)
  k : ∀ t i, X1 m dev (ix2 t i) = ((k t i : ℝ) : EReal)
  v : ∀ t i, X2 m dev (ix2 t i) = ((v t i : ℝ) : EReal)
  c : ∀ t i, X3 m dev (ix2 t i) = ((c t i : ℝ) : EReal)
  g : ∀ t i, X4 m dev (ix2 t i) = ((g t i : ℝ) : EReal)

theorem ln_at : A0 m dev ix0 = ((Real.log 2 : ℝ) : EReal) := by
  rw [A0_eq]
  show Ideal.log (Ideal.ofBits .f32 0x40000000#32) = _
  rw [two_f32, Ideal.log_coe, if_neg (by norm_num)]

/-- The three parts of a row, each in its own columns. -/
theorem row_at (t : Fin 16384) (l : Fin 1536) :
    A9 m dev (ix2 t l)
      = ((if h : l.val < 512 then X0 m dev (ix2 t ⟨l.val, h⟩) * ((1 / 8 / Real.log 2 : ℝ) : EReal) else 0)
        + (if h : 512 ≤ l.val ∧ l.val - 512 < 512 then X1 m dev (ix2 t ⟨l.val - 512, h.2⟩) else 0))
        + (if h : 1024 ≤ l.val ∧ l.val - 1024 < 512 then X2 m dev (ix2 t ⟨l.val - 1024, h.2⟩) else 0) := by
  rw [A9_eq]
  pointwise [zero32]
  rw [ln_at, eighth, div_real _ _ ln_ne]

variable {m dev q k v g c} (R : Reals m dev q k v g c)
include R

theorem q_at (t : Fin 16384) (i : Fin 512) :
    A9 m dev (ix2 t ⟨i.val, by omega⟩) = ((q t i * (1 / 8 / Real.log 2) : ℝ) : EReal) := by
  have h := i.isLt
  rw [row_at, dif_pos (show i.val < 512 by omega), dif_neg (by dsimp only; omega), dif_neg (by dsimp only; omega), add_zero, add_zero, R.q, ← EReal.coe_mul]

theorem k_at (t : Fin 16384) (i : Fin 512) :
    A9 m dev (ix2 t ⟨512 + i.val, by omega⟩) = ((k t i : ℝ) : EReal) := by
  have h := i.isLt
  rw [row_at, dif_neg (by dsimp only; omega), dif_pos (by dsimp only; omega), dif_neg (by dsimp only; omega), add_zero, zero_add, ← R.k]
  exact congrArg (fun l => X1 m dev (ix2 t l)) (Fin.ext (by dsimp only; omega))

theorem v_at (t : Fin 16384) (i : Fin 512) :
    A9 m dev (ix2 t ⟨1024 + i.val, by omega⟩) = ((v t i : ℝ) : EReal) := by
  have h := i.isLt
  rw [row_at, dif_neg (by dsimp only; omega), dif_neg (by dsimp only; omega), dif_pos (by dsimp only; omega), add_zero, zero_add, ← R.v]
  exact congrArg (fun l => X2 m dev (ix2 t l)) (Fin.ext (by dsimp only; omega))

theorem c_at (s : Fin 16384) (H : Fin 8) : A12 m dev (ix2 s ⟨H.val, by omega⟩) = ((c s H / Real.log 2 : ℝ) : EReal) := by
  rw [A12_eq]
  pointwise [zero32]
  rw [ln_at, R.c, div_real _ _ ln_ne]

theorem g_at (i : Fin 512) (t : Fin 16384) : A59 m dev (ix2 i t) = ((g t i : ℝ) : EReal) := by
  rw [A59_eq, ← R.g]
  pointwise []

theorem qh_at (H : Fin 8) (t : Fin 16384) (e : Fin 64) :
    A15 m dev (ix3 H t e) = ((q t (col H e) * (1 / 8 / Real.log 2) : ℝ) : EReal) := by
  rw [← q_at R, A15_eq]
  pointwise []
  rfl

theorem kh_at (H : Fin 8) (t : Fin 16384) (e : Fin 64) : A18 m dev (ix3 H t e) = ((k t (col H e) : ℝ) : EReal) := by
  rw [← k_at R, A18_eq]
  pointwise []
  rfl

theorem vh_at (H : Fin 8) (t : Fin 16384) (e : Fin 64) : A21 m dev (ix3 H t e) = ((v t (col H e) : ℝ) : EReal) := by
  rw [← v_at R, A21_eq]
  pointwise []
  rfl

theorem z_at (H : Fin 8) (t s : Fin 16384) :
    A32 m dev (ix3 H t s) = if s.val ≤ t.val then ((sc q k c H t s / Real.log 2 : ℝ) : EReal) else ⊥ := by
  have e : ∑ e : Fin 64, A15 m dev (ix3 H t e) * A18 m dev (ix3 H s e)
      = (((∑ e : Fin 64, q t (col H e) * k s (col H e)) * (1 / 8 / Real.log 2) : ℝ) : EReal) := by
    rw [sum_eq _ (fun e => q t (col H e) * k s (col H e) * (1 / 8 / Real.log 2)), Finset.sum_mul]
    intro e
    rw [qh_at R, kh_at R, ← EReal.coe_mul]
    refine congrArg Real.toEReal ?_
    ring
  rw [A32_eq]
  pointwise []
  rw [sel_sge _ _ (by omega) (by omega)]
  split_ifs with h
  · refine (congrArg₂ (· - ·) e (c_at R s H)).trans ?_
    rw [← EReal.coe_sub]
    refine congrArg Real.toEReal ?_
    unfold sc
    ring
  · exact minus_inf

omit R in
theorem max_fold (H : Fin 8) (t : Fin 16384) :
    A33 m dev (ix2 H t) = Finset.univ.fold max (⊥ : EReal) fun s : Fin 16384 => A32 m dev (ix3 H t s) := by
  have e : (constant S_ .f32 0xFF800000#32 : FVec Ideal S_ .f32) (Shape.Idx.first h_S_) = (⊥ : EReal) := minus_inf
  rw [A33_eq]
  refine (max_row (φ := .f32) (A32 m dev) (constant (F := Ideal) S_ .f32 0xFF800000#32) reducesTo_S8x16384x16384_S8x16384_d2 h_S_ H t).trans ?_
  rw [e]

theorem max_at (H : Fin 8) (t : Fin 16384) : ∃ a : ℝ, A33 m dev (ix2 H t) = (a : EReal) := by
  obtain ⟨a, ha⟩ := fold_real (fun s : Fin 16384 => A32 m dev (ix3 H t s)) t
    (by rw [z_at R, if_pos le_rfl]; exact EReal.coe_ne_bot _)
    (fun s => by rw [z_at R]; split_ifs; exacts [EReal.coe_ne_top _, bot_ne_top])
  exact ⟨a, (max_fold H t).trans ha⟩

theorem w_at (H : Fin 8) (t s : Fin 16384) (a : ℝ) (ha : A33 m dev (ix2 H t) = (a : EReal)) :
    A39 m dev (ix3 H t s) = ((ex q k c H t s * Real.exp (-(a * Real.log 2)) : ℝ) : EReal) := by
  rw [A39_eq]
  pointwise []
  rw [ha, ln_at, z_at R, ← ex_shift q k c H t s (a * Real.log 2) _ rfl]
  split_ifs with h
  · rw [← EReal.coe_sub, ← EReal.coe_mul, Ideal.exp_coe]
    have hl := ln_ne
    exact congrArg (fun x : ℝ => ((Real.exp x : ℝ) : EReal)) (by field_simp)
  · rw [EReal.bot_sub, EReal.bot_mul_coe_of_pos ln_pos, Ideal.exp_bot, EReal.coe_zero]

theorem l_at (H : Fin 8) (t : Fin 16384) (a : ℝ) (ha : A33 m dev (ix2 H t) = (a : EReal)) :
    A40 m dev (ix2 H t) = ((norm q k c H t * Real.exp (-(a * Real.log 2)) : ℝ) : EReal) := by
  rw [A40_eq]
  pointwise []
  rw [sum_eq _ _ fun s => w_at R H t s a ha, norm_shift]

theorem l_pos (H : Fin 8) (t : Fin 16384) (a : ℝ) : 0 < norm q k c H t * Real.exp (-(a * Real.log 2)) :=
  mul_pos (norm_pos q k c H t) (Real.exp_pos _)

omit R in
theorem al_pure (M L : FVec Ideal S8x16384 .f32) (l0 : FVec Ideal S_ .f32) (H : Fin 8) (t : Fin 16384) :
    Host.negf (addf (broadcastInDim S8x16384x1 ![0, 1] bcast_S8x16384_S8x16384x1_0_1 M) (Host.divf (Host.log (broadcastInDim S8x16384x1 ![0, 1] bcast_S8x16384_S8x16384x1_0_1 L)) (broadcastInDim S8x16384x1 ![] bcast_S_S8x16384x1 l0))) (ix3 H t 0)
      = -(M (ix2 H t) + Ideal.div (Ideal.log (L (ix2 H t))) (l0 ix0)) := by
  pointwise []

/-- Less the logarithm of the row's sum, in powers of two. -/
theorem al_at (H : Fin 8) (t : Fin 16384) :
    A52 m dev (ix3 H t 0) = ((-(Real.log (norm q k c H t) / Real.log 2) : ℝ) : EReal) := by
  obtain ⟨a, ha⟩ := max_at R H t
  have h := l_pos R H t a
  rw [A52_eq, al_pure]
  rw [ha, ln_at, l_at R H t a ha, Ideal.log_coe, if_neg (not_le.mpr h), div_real _ _ ln_ne, ← EReal.coe_add, ← EReal.coe_neg]
  refine congrArg Real.toEReal ?_
  rw [Real.log_mul (norm_ne q k c H t) (Real.exp_pos _).ne', Real.log_exp]
  have hl := ln_ne
  field_simp
  ring

theorem o_at (H : Fin 8) (t : Fin 16384) (e : Fin 64) :
    A47 m dev (ix3 H t e) = ((∑ s, pr q k c H t s * v s (col H e) : ℝ) : EReal) := by
  obtain ⟨a, ha⟩ := max_at R H t
  have h := (l_pos R H t a).ne'
  rw [A47_eq]
  pointwise []
  rw [l_at R H t a ha, ← EReal.coe_one, div_real _ _ h,
    sum_eq _ (fun s => ex q k c H t s * Real.exp (-(a * Real.log 2)) * v s (col H e)) fun s => by
      rw [w_at R H t s a ha, vh_at R, ← EReal.coe_mul], ← EReal.coe_mul]
  refine congrArg Real.toEReal ?_
  rw [Finset.sum_mul]
  refine Finset.sum_congr rfl fun s _ => ?_
  have h1 := norm_ne q k c H t
  have h2 := (Real.exp_pos (-(a * Real.log 2))).ne'
  unfold pr
  field_simp

theorem dl_at (H : Fin 8) (t : Fin 16384) : A56 m dev (ix2 H t) = ((dl q k v g c H t : ℝ) : EReal) := by
  rw [A56_eq]
  pointwise []
  rw [sum_eq _ (fun e : Fin 64 => g t (col H e) * ∑ s, pr q k c H t s * v s (col H e))]
  · refine congrArg Real.toEReal ?_
    unfold dl dp
    simp only [Finset.mul_sum]
    rw [Finset.sum_comm]
    exact Finset.sum_congr rfl fun s _ => Finset.sum_congr rfl fun e _ => by ring
  intro e
  rw [o_at R, EReal.coe_mul, ← R.g]
  rfl

theorem al_pair (j : Fin 4) (h : Fin 2) (t : Fin 16384) :
    A62 m dev (ix3 j ⟨h.val, by omega⟩ t)
      = ((-(Real.log (norm q k c ⟨2 * j.val + h.val, by omega⟩ t) / Real.log 2) : ℝ) : EReal) := by
  rw [← al_at R, A62_eq]
  pointwise []
  congr 2
  apply Fin.ext
  show j.val * 2 + h.val = 2 * j.val + h.val
  omega

theorem dl_pair (j : Fin 4) (h : Fin 2) (t : Fin 16384) :
    A64 m dev (ix3 j ⟨h.val, by omega⟩ t) = ((dl q k v g c ⟨2 * j.val + h.val, by omega⟩ t : ℝ) : EReal) := by
  rw [← dl_at R, A64_eq]
  pointwise []
  congr 2
  apply Fin.ext
  show j.val * 2 + h.val = 2 * j.val + h.val
  omega

end Cert.AttnIdeal.Sem
end
-- ==== Proof.AttnIdeal.Pay.lean ====
/- What one block adds to each accumulator, entry by entry, over the extended reals. -/
module

public import proofs.«01_k».proof.Proof.AttnIdeal.Whole
public import proofs.«01_k».proof.Proof.Words
public import Idealize.ShloMosaic.Lib.Pointwise

@[expose] public section

set_option maxRecDepth 16384

noncomputable section

namespace Cert.AttnIdeal.Sem

open Cert.AttnIdeal Cert.AttnIdeal.Gen Cert.AttnIdeal.Body Idealize.ShloMosaic Idealize.ShloMosaic.TcCoe Idealize.SL.Sem
open Cert.Step

/-! ### 512 keys against 512 queries -/

section
variable (ks vs : FVec Ideal S512x128 .bf16) (cs : FVec Ideal S512x1 .f32) (kt : FVec Ideal S128x512 .bf16) (q2 d2 : FVec Ideal S128x512 .bf16)
  (al dl : Vec Ideal S1x1x512 .f32) (p : FVec Ideal S512x512 .f32)

theorem pU_at (a : Fin 512) (b : Fin 512) :
    pU ks cs q2 al (ix2 a b) = Ideal.exp2 (∑ d : Fin 128, ks (ix2 a d) * q2 (ix2 d b) + (al (ix3 0 0 b) - cs (ix2 a 0))) := by
  pointwise [pU]
  rfl

theorem dsU_at (a : Fin 512) (b : Fin 512) :
    dsU p vs d2 dl (ix2 a b) = p (ix2 a b) * (∑ d : Fin 128, vs (ix2 a d) * d2 (ix2 d b) - dl (ix3 0 0 b)) := by
  pointwise [dsU]

theorem addTU_at (x : Vec Ideal S1x128x512 .f32) (d : Fin 128) (a : Fin 512) :
    addTU q2 p x (ix3 0 d a) = x (ix3 0 d a) + ∑ b : Fin 512, q2 (ix2 d b) * p (ix2 a b) := by
  pointwise [addTU]

theorem addCU_at (x : Vec Ideal S1x512x1 .f32) (a : Fin 512) :
    addCU p x (ix3 0 a 0) = x (ix3 0 a 0) + ∑ b : Fin 512, p (ix2 a b) := by
  pointwise [addCU]

theorem addRU_at (x : Vec Ideal S1x1x512 .f32) (b : Fin 512) :
    addRU p x (ix3 0 0 b) = x (ix3 0 0 b) + ∑ a : Fin 512, p (ix2 a b) := by
  pointwise [addRU]

theorem addQU_at (x : Vec Ideal S128x512 .f32) (d : Fin 128) (b : Fin 512) :
    addQU kt p x (ix2 d b) = x (ix2 d b) + ∑ a : Fin 512, kt (ix2 d a) * p (ix2 a b) := by
  pointwise [addQU]

end

/-! ### 256 keys against 512 queries, masked -/

section
variable (ks vs : FVec Ideal S256x128 .bf16) (cs : FVec Ideal S256x1 .f32) (kt : FVec Ideal S128x256 .bf16) (q2 d2 : FVec Ideal S128x512 .bf16)
  (al dl : Vec Ideal S1x1x512 .f32) (p : FVec Ideal S256x512 .f32)

theorem pM1_at (a : Fin 256) (b : Fin 512) :
    pM1 ks cs q2 al (ix2 a b) = if a.val ≤ b.val then Ideal.exp2 (∑ d : Fin 128, ks (ix2 a d) * q2 (ix2 d b) + (al (ix3 0 0 b) - cs (ix2 a 0))) else 0 := by
  pointwise [pM1]
  rw [sel_sge _ _ (by omega) (by omega)]
  split_ifs with h
  · rfl
  · exact (congrArg Ideal.exp2 (IdealRules.named_const.ideal_named_scalar _ _ _ _ rfl)).trans Ideal.exp2_bot

theorem dsM1_at (a : Fin 256) (b : Fin 512) :
    dsM1 p vs d2 dl (ix2 a b) = p (ix2 a b) * (∑ d : Fin 128, vs (ix2 a d) * d2 (ix2 d b) - dl (ix3 0 0 b)) := by
  pointwise [dsM1]

theorem addTM1_at (x : Vec Ideal S1x128x256 .f32) (d : Fin 128) (a : Fin 256) :
    addTM1 q2 p x (ix3 0 d a) = x (ix3 0 d a) + ∑ b : Fin 512, q2 (ix2 d b) * p (ix2 a b) := by
  pointwise [addTM1]

theorem addCM1_at (x : Vec Ideal S1x256x1 .f32) (a : Fin 256) :
    addCM1 p x (ix3 0 a 0) = x (ix3 0 a 0) + ∑ b : Fin 512, p (ix2 a b) := by
  pointwise [addCM1]

theorem addRM1_at (x : Vec Ideal S1x1x512 .f32) (b : Fin 512) :
    addRM1 p x (ix3 0 0 b) = x (ix3 0 0 b) + ∑ a : Fin 256, p (ix2 a b) := by
  pointwise [addRM1]

theorem addQM1_at (x : Vec Ideal S128x512 .f32) (d : Fin 128) (b : Fin 512) :
    addQM1 kt p x (ix2 d b) = x (ix2 d b) + ∑ a : Fin 256, kt (ix2 d a) * p (ix2 a b) := by
  pointwise [addQM1]

end

/-! ### 256 keys against 256 queries, masked -/

section
variable (ks vs : FVec Ideal S256x128 .bf16) (cs : FVec Ideal S256x1 .f32) (kt : FVec Ideal S128x256 .bf16) (q2 d2 : FVec Ideal S128x256 .bf16)
  (al dl : Vec Ideal S1x1x256 .f32) (p : FVec Ideal S256x256 .f32)

theorem pM2_at (a : Fin 256) (b : Fin 256) :
    pM2 ks cs q2 al (ix2 a b) = if a.val ≤ b.val then Ideal.exp2 (∑ d : Fin 128, ks (ix2 a d) * q2 (ix2 d b) + (al (ix3 0 0 b) - cs (ix2 a 0))) else 0 := by
  pointwise [pM2]
  rw [sel_sge _ _ (by omega) (by omega)]
  split_ifs with h
  · rfl
  · exact (congrArg Ideal.exp2 (IdealRules.named_const.ideal_named_scalar _ _ _ _ rfl)).trans Ideal.exp2_bot

theorem dsM2_at (a : Fin 256) (b : Fin 256) :
    dsM2 p vs d2 dl (ix2 a b) = p (ix2 a b) * (∑ d : Fin 128, vs (ix2 a d) * d2 (ix2 d b) - dl (ix3 0 0 b)) := by
  pointwise [dsM2]

theorem addTM2_at (x : Vec Ideal S1x128x256 .f32) (d : Fin 128) (a : Fin 256) :
    addTM2 q2 p x (ix3 0 d a) = x (ix3 0 d a) + ∑ b : Fin 256, q2 (ix2 d b) * p (ix2 a b) := by
  pointwise [addTM2]

theorem addCM2_at (x : Vec Ideal S1x256x1 .f32) (a : Fin 256) :
    addCM2 p x (ix3 0 a 0) = x (ix3 0 a 0) + ∑ b : Fin 256, p (ix2 a b) := by
  pointwise [addCM2]

theorem addRM2_at (x : Vec Ideal S1x1x256 .f32) (b : Fin 256) :
    addRM2 p x (ix3 0 0 b) = x (ix3 0 0 b) + ∑ a : Fin 256, p (ix2 a b) := by
  pointwise [addRM2]

theorem addQM2_at (x : Vec Ideal S128x256 .f32) (d : Fin 128) (b : Fin 256) :
    addQM2 kt p x (ix2 d b) = x (ix2 d b) + ∑ a : Fin 256, kt (ix2 d a) * p (ix2 a b) := by
  pointwise [addQM2]

end

end Cert.AttnIdeal.Sem
end
-- ==== Proof.Win.lean ====
/- Windows of matrices and of stacks of matrices, entry by entry. -/
module

public import Idealize.ShloMosaic.Lib.VecWindow
public import Idealize.ShloMosaic.Lib.Pointwise

@[expose] public section

noncomputable section

namespace Cert.Win

open Idealize.ShloMosaic

variable {α : Type}

section
variable {n0 n1 n2 m0 m1 m2 : ℕ} (x : (⟨3, ![n0, n1, n2]⟩ : Shape).Idx → α) (o0 o1 o2 : ℕ)
  (a : Fin n0) (b : Fin n1) (c : Fin n2)

theorem put3_in (w : (⟨3, ![m0, m1, m2]⟩ : Shape).Idx → α) (a' : Fin m0) (b' : Fin m1) (c' : Fin m2)
    (ha : a.val = o0 + a'.val) (hb : b.val = o1 + b'.val) (hc : c.val = o2 + c'.val) :
    VecWindow.put x ![o0, o1, o2] (⟨3, ![m0, m1, m2]⟩ : Shape).size w (ix3 a b c) = w (ix3 a' b' c') := by
  have hb' : ∀ i, (![o0, o1, o2] : Fin 3 → ℕ) i ≤ (ix3 a b c i).val ∧ (ix3 a b c i).val < (![o0, o1, o2] : Fin 3 → ℕ) i + (⟨3, ![m0, m1, m2]⟩ : Shape).size i := by
    intro i; fin_cases i
    · have := a'.isLt; show o0 ≤ a.val ∧ a.val < o0 + m0; omega
    · have := b'.isLt; show o1 ≤ b.val ∧ b.val < o1 + m1; omega
    · have := c'.isLt; show o2 ≤ c.val ∧ c.val < o2 + m2; omega
  refine (dif_pos hb').trans (congrArg w ?_)
  funext i; fin_cases i
  · exact Fin.ext (show a.val - o0 = a'.val by omega)
  · exact Fin.ext (show b.val - o1 = b'.val by omega)
  · exact Fin.ext (show c.val - o2 = c'.val by omega)

theorem put3_out (w : (⟨3, ![m0, m1, m2]⟩ : Shape).Idx → α)
    (h : ¬ ((o0 ≤ a.val ∧ a.val < o0 + m0) ∧ (o1 ≤ b.val ∧ b.val < o1 + m1) ∧ (o2 ≤ c.val ∧ c.val < o2 + m2))) :
    VecWindow.put x ![o0, o1, o2] (⟨3, ![m0, m1, m2]⟩ : Shape).size w (ix3 a b c) = x (ix3 a b c) :=
  dif_neg fun hall => h ⟨hall 0, hall 1, hall 2⟩

theorem window3 (inb) (a' : Fin m0) (b' : Fin m1) (c' : Fin m2)
    (ha : a.val = o0 + a'.val) (hb : b.val = o1 + b'.val) (hc : c.val = o2 + c'.val) :
    VecWindow.window x ![o0, o1, o2] (⟨3, ![m0, m1, m2]⟩ : Shape).size inb (ix3 a' b' c') = x (ix3 a b c) := by
  refine congrArg x ?_
  funext i; fin_cases i
  · exact Fin.ext (show o0 + 1 * a'.val = a.val by omega)
  · exact Fin.ext (show o1 + 1 * b'.val = b.val by omega)
  · exact Fin.ext (show o2 + 1 * c'.val = c.val by omega)
end

section
variable {n0 n1 m0 m1 : ℕ} (x : (⟨2, ![n0, n1]⟩ : Shape).Idx → α) (o0 o1 : ℕ) (a : Fin n0) (b : Fin n1)

theorem put2_in (w : (⟨2, ![m0, m1]⟩ : Shape).Idx → α) (a' : Fin m0) (b' : Fin m1)
    (ha : a.val = o0 + a'.val) (hb : b.val = o1 + b'.val) :
    VecWindow.put x ![o0, o1] (⟨2, ![m0, m1]⟩ : Shape).size w (ix2 a b) = w (ix2 a' b') := by
  have hb' : ∀ i, (![o0, o1] : Fin 2 → ℕ) i ≤ (ix2 a b i).val ∧ (ix2 a b i).val < (![o0, o1] : Fin 2 → ℕ) i + (⟨2, ![m0, m1]⟩ : Shape).size i := by
    intro i; fin_cases i
    · have := a'.isLt; show o0 ≤ a.val ∧ a.val < o0 + m0; omega
    · have := b'.isLt; show o1 ≤ b.val ∧ b.val < o1 + m1; omega
  refine (dif_pos hb').trans (congrArg w ?_)
  funext i; fin_cases i
  · exact Fin.ext (show a.val - o0 = a'.val by omega)
  · exact Fin.ext (show b.val - o1 = b'.val by omega)

theorem put2_out (w : (⟨2, ![m0, m1]⟩ : Shape).Idx → α)
    (h : ¬ ((o0 ≤ a.val ∧ a.val < o0 + m0) ∧ (o1 ≤ b.val ∧ b.val < o1 + m1))) :
    VecWindow.put x ![o0, o1] (⟨2, ![m0, m1]⟩ : Shape).size w (ix2 a b) = x (ix2 a b) :=
  dif_neg fun hall => h ⟨hall 0, hall 1⟩

theorem window2 (inb) (a' : Fin m0) (b' : Fin m1) (ha : a.val = o0 + a'.val) (hb : b.val = o1 + b'.val) :
    VecWindow.window x ![o0, o1] (⟨2, ![m0, m1]⟩ : Shape).size inb (ix2 a' b') = x (ix2 a b) := by
  refine congrArg x ?_
  funext i; fin_cases i
  · exact Fin.ext (show o0 + 1 * a'.val = a.val by omega)
  · exact Fin.ext (show o1 + 1 * b'.val = b.val by omega)
end

end Cert.Win
end
-- ==== Proof.AttnIdeal.Step.lean ====
/- What one head of one block does to each accumulator, entry by entry, over the extended reals. -/
module

public import proofs.«01_k».proof.Proof.AttnIdeal.Pay
public import proofs.«01_k».proof.Proof.Win

@[expose] public section

set_option maxRecDepth 16384

noncomputable section

namespace Cert.AttnIdeal.Sem

open Cert.AttnIdeal Cert.AttnIdeal.Gen Cert.AttnIdeal.Body Idealize.ShloMosaic Idealize.ShloMosaic.TcCoe Idealize.SL.Sem
open Cert.Step Cert.Win

/-! ### 512 keys against 512 queries -/

section
variable (ks vs : FVec Ideal S512x128 .bf16) (cs : FVec Ideal S512x1 .f32) (kt : FVec Ideal S128x512 .bf16) (q2 d2 : FVec Ideal S128x512 .bf16)
  (h : Fin 2) (o p : ℕ)
  (i2 : ∀ a, (![0, o] : Fin 2 → ℕ) a + S128x512.size a ≤ S128x16384.size a)
  (i3 : ∀ a, (![0, h.val, o] : Fin 3 → ℕ) a + S1x1x512.size a ≤ S1x8x16384.size a)
  (iT : ∀ a, (![h.val, 0, p] : Fin 3 → ℕ) a + S1x128x512.size a ≤ S2x128x512.size a)
  (iC : ∀ a, (![h.val, p, 0] : Fin 3 → ℕ) a + S1x512x1.size a ≤ S2x512x1.size a)
  (x8 x9 : Vec Ideal S1x8x16384 .f32) (σ : St Ideal)

theorem wU_at (a : Fin 512) (b : Fin 512) (r : Fin 8) (t : Fin 16384) (hr : r.val = h.val) (ht : t.val = o + b.val) :
    wU ks cs q2 i3 x8 (ix2 a b) = Ideal.exp2 (∑ d : Fin 128, ks (ix2 a d) * q2 (ix2 d b) + (x8 (ix3 0 r t) - cs (ix2 a 0))) := by
  refine (pU_at _ _ _ _ a b).trans ?_
  rw [window3 x8 0 h.val o 0 r t i3 0 0 b rfl hr ht]

theorem gU_at (a : Fin 512) (b : Fin 512) (r : Fin 8) (t : Fin 16384) (hr : r.val = h.val) (ht : t.val = o + b.val) :
    gU ks vs cs q2 d2 i3 x8 x9 (ix2 a b) = wU ks cs q2 i3 x8 (ix2 a b) * (∑ d : Fin 128, vs (ix2 a d) * d2 (ix2 d b) - x9 (ix3 0 r t)) := by
  refine (dsU_at _ _ _ _ a b).trans ?_
  rw [window3 x9 0 h.val o 0 r t i3 0 0 b rfl hr ht]

theorem stepU_dv_in (d : Fin 128) (s : Fin 512) (a : Fin 512) (hs : s.val = p + a.val) :
    (stepU ks vs cs kt q2 d2 i2 i3 iT iC x8 x9 σ).dv (ix3 h d s) = σ.dv (ix3 h d s) + ∑ b : Fin 512, d2 (ix2 d b) * wU ks cs q2 i3 x8 (ix2 a b) := by
  refine (put3_in σ.dv h.val 0 p h d s _ 0 d a rfl (Nat.zero_add _).symm hs).trans ?_
  refine (addTU_at _ _ _ d a).trans ?_
  rw [window3 σ.dv h.val 0 p h d s iT 0 d a rfl (Nat.zero_add _).symm hs]

theorem stepU_dv_out (h' : Fin 2) (d : Fin 128) (s : Fin 512) (hs : ¬ (h' = h ∧ p ≤ s.val ∧ s.val < p + 512)) :
    (stepU ks vs cs kt q2 d2 i2 i3 iT iC x8 x9 σ).dv (ix3 h' d s) = σ.dv (ix3 h' d s) := by
  refine put3_out (m0 := 1) (m1 := 128) (m2 := 512) σ.dv h.val 0 p h' d s _ fun hh => hs ⟨Fin.ext (by omega), hh.2.2⟩

theorem stepU_dk_in (d : Fin 128) (s : Fin 512) (a : Fin 512) (hs : s.val = p + a.val) :
    (stepU ks vs cs kt q2 d2 i2 i3 iT iC x8 x9 σ).dk (ix3 h d s) = σ.dk (ix3 h d s) + ∑ b : Fin 512, q2 (ix2 d b) * gU ks vs cs q2 d2 i3 x8 x9 (ix2 a b) := by
  refine (put3_in σ.dk h.val 0 p h d s _ 0 d a rfl (Nat.zero_add _).symm hs).trans ?_
  refine (addTU_at _ _ _ d a).trans ?_
  rw [window3 σ.dk h.val 0 p h d s iT 0 d a rfl (Nat.zero_add _).symm hs]

theorem stepU_dk_out (h' : Fin 2) (d : Fin 128) (s : Fin 512) (hs : ¬ (h' = h ∧ p ≤ s.val ∧ s.val < p + 512)) :
    (stepU ks vs cs kt q2 d2 i2 i3 iT iC x8 x9 σ).dk (ix3 h' d s) = σ.dk (ix3 h' d s) := by
  refine put3_out (m0 := 1) (m1 := 128) (m2 := 512) σ.dk h.val 0 p h' d s _ fun hh => hs ⟨Fin.ext (by omega), hh.2.2⟩

theorem stepU_dc_in (s : Fin 512) (a : Fin 512) (hs : s.val = p + a.val) :
    (stepU ks vs cs kt q2 d2 i2 i3 iT iC x8 x9 σ).dc (ix3 h s 0) = σ.dc (ix3 h s 0) + ∑ b : Fin 512, gU ks vs cs q2 d2 i3 x8 x9 (ix2 a b) := by
  refine (put3_in σ.dc h.val p 0 h s 0 _ 0 a 0 rfl hs rfl).trans ?_
  refine (addCU_at _ _ a).trans ?_
  rw [window3 σ.dc h.val p 0 h s 0 iC 0 a 0 rfl hs rfl]

theorem stepU_dc_out (h' : Fin 2) (s : Fin 512) (hs : ¬ (h' = h ∧ p ≤ s.val ∧ s.val < p + 512)) :
    (stepU ks vs cs kt q2 d2 i2 i3 iT iC x8 x9 σ).dc (ix3 h' s 0) = σ.dc (ix3 h' s 0) := by
  refine put3_out (m0 := 1) (m1 := 512) (m2 := 1) σ.dc h.val p 0 h' s 0 _ fun hh => hs ⟨Fin.ext (by omega), hh.2.1⟩

theorem stepU_dcq_in (r : Fin 8) (t : Fin 16384) (b : Fin 512) (hr : r.val = h.val) (ht : t.val = o + b.val) :
    (stepU ks vs cs kt q2 d2 i2 i3 iT iC x8 x9 σ).dcq (ix3 0 r t) = σ.dcq (ix3 0 r t) + ∑ a : Fin 512, gU ks vs cs q2 d2 i3 x8 x9 (ix2 a b) := by
  refine (put3_in σ.dcq 0 h.val o 0 r t _ (0 : Fin 1) (0 : Fin 1) b rfl hr ht).trans ?_
  refine (addRU_at _ _ b).trans ?_
  rw [window3 σ.dcq 0 h.val o 0 r t i3 0 0 b rfl hr ht]

theorem stepU_dcq_out (r : Fin 8) (t : Fin 16384) (hs : ¬ (r.val = h.val ∧ o ≤ t.val ∧ t.val < o + 512)) :
    (stepU ks vs cs kt q2 d2 i2 i3 iT iC x8 x9 σ).dcq (ix3 0 r t) = σ.dcq (ix3 0 r t) := by
  refine put3_out (m0 := 1) (m1 := 1) (m2 := 512) σ.dcq 0 h.val o 0 r t _ fun hh => hs ⟨by omega, hh.2.2⟩

theorem stepU_dq_in (d : Fin 128) (t : Fin 16384) (b : Fin 512) (ht : t.val = o + b.val) :
    (stepU ks vs cs kt q2 d2 i2 i3 iT iC x8 x9 σ).dq (ix2 d t) = σ.dq (ix2 d t) + ∑ a : Fin 512, kt (ix2 d a) * gU ks vs cs q2 d2 i3 x8 x9 (ix2 a b) := by
  refine (put2_in σ.dq 0 o d t _ d b (Nat.zero_add _).symm ht).trans ?_
  refine (addQU_at _ _ _ d b).trans ?_
  rw [window2 σ.dq 0 o d t i2 d b (Nat.zero_add _).symm ht]

theorem stepU_dq_out (d : Fin 128) (t : Fin 16384) (hs : ¬ (o ≤ t.val ∧ t.val < o + 512)) :
    (stepU ks vs cs kt q2 d2 i2 i3 iT iC x8 x9 σ).dq (ix2 d t) = σ.dq (ix2 d t) := by
  refine put2_out (m0 := 128) (m1 := 512) σ.dq 0 o d t _ fun hh => hs hh.2

end

/-! ### 256 keys against 512 queries, masked -/

section
variable (ks vs : FVec Ideal S256x128 .bf16) (cs : FVec Ideal S256x1 .f32) (kt : FVec Ideal S128x256 .bf16) (q2 d2 : FVec Ideal S128x512 .bf16)
  (h : Fin 2) (o p : ℕ)
  (i2 : ∀ a, (![0, o] : Fin 2 → ℕ) a + S128x512.size a ≤ S128x16384.size a)
  (i3 : ∀ a, (![0, h.val, o] : Fin 3 → ℕ) a + S1x1x512.size a ≤ S1x8x16384.size a)
  (iT : ∀ a, (![h.val, 0, p] : Fin 3 → ℕ) a + S1x128x256.size a ≤ S2x128x512.size a)
  (iC : ∀ a, (![h.val, p, 0] : Fin 3 → ℕ) a + S1x256x1.size a ≤ S2x512x1.size a)
  (x8 x9 : Vec Ideal S1x8x16384 .f32) (σ : St Ideal)

theorem wM1_at (a : Fin 256) (b : Fin 512) (r : Fin 8) (t : Fin 16384) (hr : r.val = h.val) (ht : t.val = o + b.val) :
    wM1 ks cs q2 i3 x8 (ix2 a b) = if a.val ≤ b.val then Ideal.exp2 (∑ d : Fin 128, ks (ix2 a d) * q2 (ix2 d b) + (x8 (ix3 0 r t) - cs (ix2 a 0))) else 0 := by
  refine (pM1_at _ _ _ _ a b).trans ?_
  rw [window3 x8 0 h.val o 0 r t i3 0 0 b rfl hr ht]

theorem gM1_at (a : Fin 256) (b : Fin 512) (r : Fin 8) (t : Fin 16384) (hr : r.val = h.val) (ht : t.val = o + b.val) :
    gM1 ks vs cs q2 d2 i3 x8 x9 (ix2 a b) = wM1 ks cs q2 i3 x8 (ix2 a b) * (∑ d : Fin 128, vs (ix2 a d) * d2 (ix2 d b) - x9 (ix3 0 r t)) := by
  refine (dsM1_at _ _ _ _ a b).trans ?_
  rw [window3 x9 0 h.val o 0 r t i3 0 0 b rfl hr ht]

theorem stepM1_dv_in (d : Fin 128) (s : Fin 512) (a : Fin 256) (hs : s.val = p + a.val) :
    (stepM1 ks vs cs kt q2 d2 i2 i3 iT iC x8 x9 σ).dv (ix3 h d s) = σ.dv (ix3 h d s) + ∑ b : Fin 512, d2 (ix2 d b) * wM1 ks cs q2 i3 x8 (ix2 a b) := by
  refine (put3_in σ.dv h.val 0 p h d s _ 0 d a rfl (Nat.zero_add _).symm hs).trans ?_
  refine (addTM1_at _ _ _ d a).trans ?_
  rw [window3 σ.dv h.val 0 p h d s iT 0 d a rfl (Nat.zero_add _).symm hs]

theorem stepM1_dv_out (h' : Fin 2) (d : Fin 128) (s : Fin 512) (hs : ¬ (h' = h ∧ p ≤ s.val ∧ s.val < p + 256)) :
    (stepM1 ks vs cs kt q2 d2 i2 i3 iT iC x8 x9 σ).dv (ix3 h' d s) = σ.dv (ix3 h' d s) := by
  refine put3_out (m0 := 1) (m1 := 128) (m2 := 256) σ.dv h.val 0 p h' d s _ fun hh => hs ⟨Fin.ext (by omega), hh.2.2⟩

theorem stepM1_dk_in (d : Fin 128) (s : Fin 512) (a : Fin 256) (hs : s.val = p + a.val) :
    (stepM1 ks vs cs kt q2 d2 i2 i3 iT iC x8 x9 σ).dk (ix3 h d s) = σ.dk (ix3 h d s) + ∑ b : Fin 512, q2 (ix2 d b) * gM1 ks vs cs q2 d2 i3 x8 x9 (ix2 a b) := by
  refine (put3_in σ.dk h.val 0 p h d s _ 0 d a rfl (Nat.zero_add _).symm hs).trans ?_
  refine (addTM1_at _ _ _ d a).trans ?_
  rw [window3 σ.dk h.val 0 p h d s iT 0 d a rfl (Nat.zero_add _).symm hs]

theorem stepM1_dk_out (h' : Fin 2) (d : Fin 128) (s : Fin 512) (hs : ¬ (h' = h ∧ p ≤ s.val ∧ s.val < p + 256)) :
    (stepM1 ks vs cs kt q2 d2 i2 i3 iT iC x8 x9 σ).dk (ix3 h' d s) = σ.dk (ix3 h' d s) := by
  refine put3_out (m0 := 1) (m1 := 128) (m2 := 256) σ.dk h.val 0 p h' d s _ fun hh => hs ⟨Fin.ext (by omega), hh.2.2⟩

theorem stepM1_dc_in (s : Fin 512) (a : Fin 256) (hs : s.val = p + a.val) :
    (stepM1 ks vs cs kt q2 d2 i2 i3 iT iC x8 x9 σ).dc (ix3 h s 0) = σ.dc (ix3 h s 0) + ∑ b : Fin 512, gM1 ks vs cs q2 d2 i3 x8 x9 (ix2 a b) := by
  refine (put3_in σ.dc h.val p 0 h s 0 _ 0 a 0 rfl hs rfl).trans ?_
  refine (addCM1_at _ _ a).trans ?_
  rw [window3 σ.dc h.val p 0 h s 0 iC 0 a 0 rfl hs rfl]

theorem stepM1_dc_out (h' : Fin 2) (s : Fin 512) (hs : ¬ (h' = h ∧ p ≤ s.val ∧ s.val < p + 256)) :
    (stepM1 ks vs cs kt q2 d2 i2 i3 iT iC x8 x9 σ).dc (ix3 h' s 0) = σ.dc (ix3 h' s 0) := by
  refine put3_out (m0 := 1) (m1 := 256) (m2 := 1) σ.dc h.val p 0 h' s 0 _ fun hh => hs ⟨Fin.ext (by omega), hh.2.1⟩

theorem stepM1_dcq_in (r : Fin 8) (t : Fin 16384) (b : Fin 512) (hr : r.val = h.val) (ht : t.val = o + b.val) :
    (stepM1 ks vs cs kt q2 d2 i2 i3 iT iC x8 x9 σ).dcq (ix3 0 r t) = σ.dcq (ix3 0 r t) + ∑ a : Fin 256, gM1 ks vs cs q2 d2 i3 x8 x9 (ix2 a b) := by
  refine (put3_in σ.dcq 0 h.val o 0 r t _ (0 : Fin 1) (0 : Fin 1) b rfl hr ht).trans ?_
  refine (addRM1_at _ _ b).trans ?_
  rw [window3 σ.dcq 0 h.val o 0 r t i3 0 0 b rfl hr ht]

theorem stepM1_dcq_out (r : Fin 8) (t : Fin 16384) (hs : ¬ (r.val = h.val ∧ o ≤ t.val ∧ t.val < o + 512)) :
    (stepM1 ks vs cs kt q2 d2 i2 i3 iT iC x8 x9 σ).dcq (ix3 0 r t) = σ.dcq (ix3 0 r t) := by
  refine put3_out (m0 := 1) (m1 := 1) (m2 := 512) σ.dcq 0 h.val o 0 r t _ fun hh => hs ⟨by omega, hh.2.2⟩

theorem stepM1_dq_in (d : Fin 128) (t : Fin 16384) (b : Fin 512) (ht : t.val = o + b.val) :
    (stepM1 ks vs cs kt q2 d2 i2 i3 iT iC x8 x9 σ).dq (ix2 d t) = σ.dq (ix2 d t) + ∑ a : Fin 256, kt (ix2 d a) * gM1 ks vs cs q2 d2 i3 x8 x9 (ix2 a b) := by
  refine (put2_in σ.dq 0 o d t _ d b (Nat.zero_add _).symm ht).trans ?_
  refine (addQM1_at _ _ _ d b).trans ?_
  rw [window2 σ.dq 0 o d t i2 d b (Nat.zero_add _).symm ht]

theorem stepM1_dq_out (d : Fin 128) (t : Fin 16384) (hs : ¬ (o ≤ t.val ∧ t.val < o + 512)) :
    (stepM1 ks vs cs kt q2 d2 i2 i3 iT iC x8 x9 σ).dq (ix2 d t) = σ.dq (ix2 d t) := by
  refine put2_out (m0 := 128) (m1 := 512) σ.dq 0 o d t _ fun hh => hs hh.2

end

/-! ### 256 keys against 256 queries, masked -/

section
variable (ks vs : FVec Ideal S256x128 .bf16) (cs : FVec Ideal S256x1 .f32) (kt : FVec Ideal S128x256 .bf16) (q2 d2 : FVec Ideal S128x256 .bf16)
  (h : Fin 2) (o p : ℕ)
  (i2 : ∀ a, (![0, o] : Fin 2 → ℕ) a + S128x256.size a ≤ S128x16384.size a)
  (i3 : ∀ a, (![0, h.val, o] : Fin 3 → ℕ) a + S1x1x256.size a ≤ S1x8x16384.size a)
  (iT : ∀ a, (![h.val, 0, p] : Fin 3 → ℕ) a + S1x128x256.size a ≤ S2x128x512.size a)
  (iC : ∀ a, (![h.val, p, 0] : Fin 3 → ℕ) a + S1x256x1.size a ≤ S2x512x1.size a)
  (x8 x9 : Vec Ideal S1x8x16384 .f32) (σ : St Ideal)

theorem wM2_at (a : Fin 256) (b : Fin 256) (r : Fin 8) (t : Fin 16384) (hr : r.val = h.val) (ht : t.val = o + b.val) :
    wM2 ks cs q2 i3 x8 (ix2 a b) = if a.val ≤ b.val then Ideal.exp2 (∑ d : Fin 128, ks (ix2 a d) * q2 (ix2 d b) + (x8 (ix3 0 r t) - cs (ix2 a 0))) else 0 := by
  refine (pM2_at _ _ _ _ a b).trans ?_
  rw [window3 x8 0 h.val o 0 r t i3 0 0 b rfl hr ht]

theorem gM2_at (a : Fin 256) (b : Fin 256) (r : Fin 8) (t : Fin 16384) (hr : r.val = h.val) (ht : t.val = o + b.val) :
    gM2 ks vs cs q2 d2 i3 x8 x9 (ix2 a b) = wM2 ks cs q2 i3 x8 (ix2 a b) * (∑ d : Fin 128, vs (ix2 a d) * d2 (ix2 d b) - x9 (ix3 0 r t)) := by
  refine (dsM2_at _ _ _ _ a b).trans ?_
  rw [window3 x9 0 h.val o 0 r t i3 0 0 b rfl hr ht]

theorem stepM2_dv_in (d : Fin 128) (s : Fin 512) (a : Fin 256) (hs : s.val = p + a.val) :
    (stepM2 ks vs cs kt q2 d2 i2 i3 iT iC x8 x9 σ).dv (ix3 h d s) = σ.dv (ix3 h d s) + ∑ b : Fin 256, d2 (ix2 d b) * wM2 ks cs q2 i3 x8 (ix2 a b) := by
  refine (put3_in σ.dv h.val 0 p h d s _ 0 d a rfl (Nat.zero_add _).symm hs).trans ?_
  refine (addTM2_at _ _ _ d a).trans ?_
  rw [window3 σ.dv h.val 0 p h d s iT 0 d a rfl (Nat.zero_add _).symm hs]

theorem stepM2_dv_out (h' : Fin 2) (d : Fin 128) (s : Fin 512) (hs : ¬ (h' = h ∧ p ≤ s.val ∧ s.val < p + 256)) :
    (stepM2 ks vs cs kt q2 d2 i2 i3 iT iC x8 x9 σ).dv (ix3 h' d s) = σ.dv (ix3 h' d s) := by
  refine put3_out (m0 := 1) (m1 := 128) (m2 := 256) σ.dv h.val 0 p h' d s _ fun hh => hs ⟨Fin.ext (by omega), hh.2.2⟩

theorem stepM2_dk_in (d : Fin 128) (s : Fin 512) (a : Fin 256) (hs : s.val = p + a.val) :
    (stepM2 ks vs cs kt q2 d2 i2 i3 iT iC x8 x9 σ).dk (ix3 h d s) = σ.dk (ix3 h d s) + ∑ b : Fin 256, q2 (ix2 d b) * gM2 ks vs cs q2 d2 i3 x8 x9 (ix2 a b) := by
  refine (put3_in σ.dk h.val 0 p h d s _ 0 d a rfl (Nat.zero_add _).symm hs).trans ?_
  refine (addTM2_at _ _ _ d a).trans ?_
  rw [window3 σ.dk h.val 0 p h d s iT 0 d a rfl (Nat.zero_add _).symm hs]

theorem stepM2_dk_out (h' : Fin 2) (d : Fin 128) (s : Fin 512) (hs : ¬ (h' = h ∧ p ≤ s.val ∧ s.val < p + 256)) :
    (stepM2 ks vs cs kt q2 d2 i2 i3 iT iC x8 x9 σ).dk (ix3 h' d s) = σ.dk (ix3 h' d s) := by
  refine put3_out (m0 := 1) (m1 := 128) (m2 := 256) σ.dk h.val 0 p h' d s _ fun hh => hs ⟨Fin.ext (by omega), hh.2.2⟩

theorem stepM2_dc_in (s : Fin 512) (a : Fin 256) (hs : s.val = p + a.val) :
    (stepM2 ks vs cs kt q2 d2 i2 i3 iT iC x8 x9 σ).dc (ix3 h s 0) = σ.dc (ix3 h s 0) + ∑ b : Fin 256, gM2 ks vs cs q2 d2 i3 x8 x9 (ix2 a b) := by
  refine (put3_in σ.dc h.val p 0 h s 0 _ 0 a 0 rfl hs rfl).trans ?_
  refine (addCM2_at _ _ a).trans ?_
  rw [window3 σ.dc h.val p 0 h s 0 iC 0 a 0 rfl hs rfl]

theorem stepM2_dc_out (h' : Fin 2) (s : Fin 512) (hs : ¬ (h' = h ∧ p ≤ s.val ∧ s.val < p + 256)) :
    (stepM2 ks vs cs kt q2 d2 i2 i3 iT iC x8 x9 σ).dc (ix3 h' s 0) = σ.dc (ix3 h' s 0) := by
  refine put3_out (m0 := 1) (m1 := 256) (m2 := 1) σ.dc h.val p 0 h' s 0 _ fun hh => hs ⟨Fin.ext (by omega), hh.2.1⟩

theorem stepM2_dcq_in (r : Fin 8) (t : Fin 16384) (b : Fin 256) (hr : r.val = h.val) (ht : t.val = o + b.val) :
    (stepM2 ks vs cs kt q2 d2 i2 i3 iT iC x8 x9 σ).dcq (ix3 0 r t) = σ.dcq (ix3 0 r t) + ∑ a : Fin 256, gM2 ks vs cs q2 d2 i3 x8 x9 (ix2 a b) := by
  refine (put3_in σ.dcq 0 h.val o 0 r t _ (0 : Fin 1) (0 : Fin 1) b rfl hr ht).trans ?_
  refine (addRM2_at _ _ b).trans ?_
  rw [window3 σ.dcq 0 h.val o 0 r t i3 0 0 b rfl hr ht]

theorem stepM2_dcq_out (r : Fin 8) (t : Fin 16384) (hs : ¬ (r.val = h.val ∧ o ≤ t.val ∧ t.val < o + 256)) :
    (stepM2 ks vs cs kt q2 d2 i2 i3 iT iC x8 x9 σ).dcq (ix3 0 r t) = σ.dcq (ix3 0 r t) := by
  refine put3_out (m0 := 1) (m1 := 1) (m2 := 256) σ.dcq 0 h.val o 0 r t _ fun hh => hs ⟨by omega, hh.2.2⟩

theorem stepM2_dq_in (d : Fin 128) (t : Fin 16384) (b : Fin 256) (ht : t.val = o + b.val) :
    (stepM2 ks vs cs kt q2 d2 i2 i3 iT iC x8 x9 σ).dq (ix2 d t) = σ.dq (ix2 d t) + ∑ a : Fin 256, kt (ix2 d a) * gM2 ks vs cs q2 d2 i3 x8 x9 (ix2 a b) := by
  refine (put2_in σ.dq 0 o d t _ d b (Nat.zero_add _).symm ht).trans ?_
  refine (addQM2_at _ _ _ d b).trans ?_
  rw [window2 σ.dq 0 o d t i2 d b (Nat.zero_add _).symm ht]

theorem stepM2_dq_out (d : Fin 128) (t : Fin 16384) (hs : ¬ (o ≤ t.val ∧ t.val < o + 256)) :
    (stepM2 ks vs cs kt q2 d2 i2 i3 iT iC x8 x9 σ).dq (ix2 d t) = σ.dq (ix2 d t) := by
  refine put2_out (m0 := 128) (m1 := 256) σ.dq 0 o d t _ fun hh => hs hh.2

end

end Cert.AttnIdeal.Sem
end
-- ==== Proof.AttnIdeal.Meet.lean ====
/- What a block of keys adds to each accumulator when it meets a block of queries, with the mask written out: over the
   extended reals a masked weight is zero, and the two masked halves together are the whole masked block. -/
module

public import proofs.«01_k».proof.Proof.AttnIdeal.Step

@[expose] public section

set_option maxRecDepth 16384

noncomputable section

namespace Cert.AttnIdeal.Sem

open Cert.AttnIdeal Cert.AttnIdeal.Gen Cert.AttnIdeal.Body Idealize.ShloMosaic Idealize.ShloMosaic.TcCoe Idealize.SL.Sem
open Cert.Step Cert.Win

/-- The place of query `b` of block `q`. -/
abbrev qat (q : Fin 32) (b : Fin 512) : Fin 16384 := ⟨512 * q.val + b.val, by omega⟩
/-- The row of a head in an array of eight rows. -/
abbrev up (h : Fin 2) : Fin 8 := ⟨h.val, by omega⟩
/-- A key of the second half, and of the first. -/
abbrev lo (a : Fin 256) : Fin 512 := ⟨a.val, by omega⟩
abbrev hi (a : Fin 256) : Fin 512 := ⟨256 + a.val, by omega⟩

section
variable (K : Keys Ideal) (x3 x4 : Vec Ideal S128x16384 .bf16) (x8 x9 : Vec Ideal S1x8x16384 .f32)

/-- The weight of query `t` on key `s`, and the gradient of its score; then with the queries before the key masked. -/
def wt (h : Fin 2) (s : Fin 512) (t : Fin 16384) : EReal :=
  Ideal.exp2 (∑ d : Fin 128, (![K.k0, K.k1] h) (ix2 s d) * x3 (ix2 d t) + (x8 (ix3 0 (up h) t) - (![K.c0, K.c1] h) (ix2 s 0)))
def gt (h : Fin 2) (s : Fin 512) (t : Fin 16384) : EReal :=
  wt K x3 x8 h s t * (∑ d : Fin 128, (![K.v0, K.v1] h) (ix2 s d) * x4 (ix2 d t) - x9 (ix3 0 (up h) t))
def mw (kj : ℕ) (h : Fin 2) (s : Fin 512) (t : Fin 16384) : EReal := if 512 * kj + s.val ≤ t.val then wt K x3 x8 h s t else 0
def mg (kj : ℕ) (h : Fin 2) (s : Fin 512) (t : Fin 16384) : EReal := if 512 * kj + s.val ≤ t.val then gt K x3 x4 x8 x9 h s t else 0

variable (q : Fin 32) (σ : St Ideal)

/-! ### tile -/

theorem tile_q (x : Vec Ideal S128x16384 .bf16) (d : Fin 128) (b : Fin 512) :
    (shapeCast S128x512 (VecWindow.window x ![0, 512 * q.val] S128x512.size (in2 q)) shapeCasts_S128x512_S128x512 : FVec Ideal S128x512 .bf16) (ix2 d b) = x (ix2 d (qat q b)) := by
  pointwise []
  exact window2 x 0 (512 * q.val) d (qat q b) (in2 q) d b (Nat.zero_add _).symm rfl

theorem tile_w0 (q2 : FVec Ideal S128x512 .bf16) (hq : ∀ d b, q2 (ix2 d b) = x3 (ix2 d (qat q b))) (a : Fin 512) (b : Fin 512) : wU K.k0 K.c0 q2 (in3 0 q) x8 (ix2 a b) = wt K x3 x8 0 a (qat q b) := by
  refine (wU_at _ _ _ 0 (512 * q.val) _ x8 a b (up 0) (qat q b) rfl rfl).trans ?_
  unfold wt
  simp only [hq]
  rfl

theorem tile_g0 (q2 : FVec Ideal S128x512 .bf16) (hq : ∀ d b, q2 (ix2 d b) = x3 (ix2 d (qat q b))) (d2 : FVec Ideal S128x512 .bf16) (hd : ∀ d b, d2 (ix2 d b) = x4 (ix2 d (qat q b))) (a : Fin 512) (b : Fin 512) : gU K.k0 K.v0 K.c0 q2 d2 (in3 0 q) x8 x9 (ix2 a b) = gt K x3 x4 x8 x9 0 a (qat q b) := by
  refine (gU_at _ _ _ _ _ 0 (512 * q.val) _ x8 x9 a b (up 0) (qat q b) rfl rfl).trans ?_
  rw [tile_w0 K x3 x8 q q2 hq]
  unfold gt
  simp only [hd]
  rfl

theorem tile_w1 (q2 : FVec Ideal S128x512 .bf16) (hq : ∀ d b, q2 (ix2 d b) = x3 (ix2 d (qat q b))) (a : Fin 512) (b : Fin 512) : wU K.k1 K.c1 q2 (in3 1 q) x8 (ix2 a b) = wt K x3 x8 1 a (qat q b) := by
  refine (wU_at _ _ _ 1 (512 * q.val) _ x8 a b (up 1) (qat q b) rfl rfl).trans ?_
  unfold wt
  simp only [hq]
  rfl

theorem tile_g1 (q2 : FVec Ideal S128x512 .bf16) (hq : ∀ d b, q2 (ix2 d b) = x3 (ix2 d (qat q b))) (d2 : FVec Ideal S128x512 .bf16) (hd : ∀ d b, d2 (ix2 d b) = x4 (ix2 d (qat q b))) (a : Fin 512) (b : Fin 512) : gU K.k1 K.v1 K.c1 q2 d2 (in3 1 q) x8 x9 (ix2 a b) = gt K x3 x4 x8 x9 1 a (qat q b) := by
  refine (gU_at _ _ _ _ _ 1 (512 * q.val) _ x8 x9 a b (up 1) (qat q b) rfl rfl).trans ?_
  rw [tile_w1 K x3 x8 q q2 hq]
  unfold gt
  simp only [hd]
  rfl

theorem tile_dv (h : Fin 2) (d : Fin 128) (s : Fin 512) :
    (tile K x3 x4 x8 x9 q σ).dv (ix3 h d s) = σ.dv (ix3 h d s) + ∑ b : Fin 512, x4 (ix2 d (qat q b)) * wt K x3 x8 h s (qat q b) :=
  match h with
  | 0 => by
    refine (stepU_dv_out _ _ _ _ _ _ 1 (512 * q.val) 0 _ _ _ _ x8 x9 _ 0 d s (by simp)).trans ?_
    refine (stepU_dv_in _ _ _ _ _ _ 0 (512 * q.val) 0 _ _ _ _ x8 x9 σ d s s (Nat.zero_add _).symm).trans ?_
    exact congrArg (_ + ·) (Finset.sum_congr rfl fun b _ => congr (congrArg _ (tile_q q x4 d b)) (tile_w0 K x3 x8 q _ (tile_q q x3) s b))
  | 1 => by
    refine (stepU_dv_in _ _ _ _ _ _ 1 (512 * q.val) 0 _ _ _ _ x8 x9 _ d s s (Nat.zero_add _).symm).trans ?_
    rw [show _ = σ.dv (ix3 1 d s) from stepU_dv_out _ _ _ _ _ _ 0 (512 * q.val) 0 _ _ _ _ x8 x9 σ 1 d s (by simp)]
    exact congrArg (_ + ·) (Finset.sum_congr rfl fun b _ => congr (congrArg _ (tile_q q x4 d b)) (tile_w1 K x3 x8 q _ (tile_q q x3) s b))

theorem tile_dk (h : Fin 2) (d : Fin 128) (s : Fin 512) :
    (tile K x3 x4 x8 x9 q σ).dk (ix3 h d s) = σ.dk (ix3 h d s) + ∑ b : Fin 512, x3 (ix2 d (qat q b)) * gt K x3 x4 x8 x9 h s (qat q b) :=
  match h with
  | 0 => by
    refine (stepU_dk_out _ _ _ _ _ _ 1 (512 * q.val) 0 _ _ _ _ x8 x9 _ 0 d s (by simp)).trans ?_
    refine (stepU_dk_in _ _ _ _ _ _ 0 (512 * q.val) 0 _ _ _ _ x8 x9 σ d s s (Nat.zero_add _).symm).trans ?_
    exact congrArg (_ + ·) (Finset.sum_congr rfl fun b _ => congr (congrArg _ (tile_q q x3 d b)) (tile_g0 K x3 x4 x8 x9 q _ (tile_q q x3) _ (tile_q q x4) s b))
  | 1 => by
    refine (stepU_dk_in _ _ _ _ _ _ 1 (512 * q.val) 0 _ _ _ _ x8 x9 _ d s s (Nat.zero_add _).symm).trans ?_
    rw [show _ = σ.dk (ix3 1 d s) from stepU_dk_out _ _ _ _ _ _ 0 (512 * q.val) 0 _ _ _ _ x8 x9 σ 1 d s (by simp)]
    exact congrArg (_ + ·) (Finset.sum_congr rfl fun b _ => congr (congrArg _ (tile_q q x3 d b)) (tile_g1 K x3 x4 x8 x9 q _ (tile_q q x3) _ (tile_q q x4) s b))

theorem tile_dc (h : Fin 2) (s : Fin 512) :
    (tile K x3 x4 x8 x9 q σ).dc (ix3 h s 0) = σ.dc (ix3 h s 0) + ∑ b : Fin 512, gt K x3 x4 x8 x9 h s (qat q b) :=
  match h with
  | 0 => by
    refine (stepU_dc_out _ _ _ _ _ _ 1 (512 * q.val) 0 _ _ _ _ x8 x9 _ 0 s (by simp)).trans ?_
    refine (stepU_dc_in _ _ _ _ _ _ 0 (512 * q.val) 0 _ _ _ _ x8 x9 σ s s (Nat.zero_add _).symm).trans ?_
    exact congrArg (_ + ·) (Finset.sum_congr rfl fun b _ => tile_g0 K x3 x4 x8 x9 q _ (tile_q q x3) _ (tile_q q x4) s b)
  | 1 => by
    refine (stepU_dc_in _ _ _ _ _ _ 1 (512 * q.val) 0 _ _ _ _ x8 x9 _ s s (Nat.zero_add _).symm).trans ?_
    rw [show _ = σ.dc (ix3 1 s 0) from stepU_dc_out _ _ _ _ _ _ 0 (512 * q.val) 0 _ _ _ _ x8 x9 σ 1 s (by simp)]
    exact congrArg (_ + ·) (Finset.sum_congr rfl fun b _ => tile_g1 K x3 x4 x8 x9 q _ (tile_q q x3) _ (tile_q q x4) s b)

theorem tile_dcq (h : Fin 2) (b : Fin 512) :
    (tile K x3 x4 x8 x9 q σ).dcq (ix3 0 (up h) (qat q b)) = σ.dcq (ix3 0 (up h) (qat q b)) + ∑ a : Fin 512, gt K x3 x4 x8 x9 h a (qat q b) :=
  match h with
  | 0 => by
    refine (stepU_dcq_out _ _ _ _ _ _ 1 (512 * q.val) 0 _ _ _ _ x8 x9 _ (up 0) (qat q b) (by simp)).trans ?_
    refine (stepU_dcq_in _ _ _ _ _ _ 0 (512 * q.val) 0 _ _ _ _ x8 x9 σ (up 0) (qat q b) b rfl rfl).trans ?_
    exact congrArg (_ + ·) (Finset.sum_congr rfl fun a _ => tile_g0 K x3 x4 x8 x9 q _ (tile_q q x3) _ (tile_q q x4) a b)
  | 1 => by
    refine (stepU_dcq_in _ _ _ _ _ _ 1 (512 * q.val) 0 _ _ _ _ x8 x9 _ (up 1) (qat q b) b rfl rfl).trans ?_
    rw [show _ = σ.dcq (ix3 0 (up 1) (qat q b)) from stepU_dcq_out _ _ _ _ _ _ 0 (512 * q.val) 0 _ _ _ _ x8 x9 σ (up 1) (qat q b) (by simp)]
    exact congrArg (_ + ·) (Finset.sum_congr rfl fun a _ => tile_g1 K x3 x4 x8 x9 q _ (tile_q q x3) _ (tile_q q x4) a b)

theorem tile_dcq_out (r : Fin 8) (t : Fin 16384) (hs : ¬ (r.val < 2 ∧ 512 * q.val ≤ t.val ∧ t.val < 512 * q.val + 512)) :
    (tile K x3 x4 x8 x9 q σ).dcq (ix3 0 r t) = σ.dcq (ix3 0 r t) :=
  (stepU_dcq_out _ _ _ _ _ _ 1 (512 * q.val) 0 _ _ _ _ x8 x9 _ r t (fun hh => hs ⟨by have : r.val = 1 := hh.1; omega, hh.2⟩)).trans
    (stepU_dcq_out _ _ _ _ _ _ 0 (512 * q.val) 0 _ _ _ _ x8 x9 σ r t (fun hh => hs ⟨by have : r.val = 0 := hh.1; omega, hh.2⟩))

theorem tile_dq (d : Fin 128) (b : Fin 512) :
    (tile K x3 x4 x8 x9 q σ).dq (ix2 d (qat q b)) = σ.dq (ix2 d (qat q b))
      + (∑ a : Fin 512, K.t0 (ix2 d a) * gt K x3 x4 x8 x9 0 a (qat q b) + ∑ a : Fin 512, K.t1 (ix2 d a) * gt K x3 x4 x8 x9 1 a (qat q b)) := by
  refine (stepU_dq_in _ _ _ _ _ _ 1 (512 * q.val) 0 _ _ _ _ x8 x9 _ d (qat q b) b rfl).trans ?_
  rw [show _ = _ from stepU_dq_in _ _ _ _ _ _ 0 (512 * q.val) 0 _ _ _ _ x8 x9 σ d (qat q b) b rfl, add_assoc]
  refine congrArg (_ + ·) (congr (congrArg _ (Finset.sum_congr rfl fun a _ => congr (congrArg _ ?_) (tile_g0 K x3 x4 x8 x9 q _ (tile_q q x3) _ (tile_q q x4) a b))) (Finset.sum_congr rfl fun a _ => congr (congrArg _ ?_) (tile_g1 K x3 x4 x8 x9 q _ (tile_q q x3) _ (tile_q q x4) a b)))
  all_goals
    rfl

theorem tile_dq_out (d : Fin 128) (t : Fin 16384) (hs : ¬ (512 * q.val ≤ t.val ∧ t.val < 512 * q.val + 512)) :
    (tile K x3 x4 x8 x9 q σ).dq (ix2 d t) = σ.dq (ix2 d t) :=
  (stepU_dq_out _ _ _ _ _ _ 1 (512 * q.val) 0 _ _ _ _ x8 x9 _ d t hs).trans
    (stepU_dq_out _ _ _ _ _ _ 0 (512 * q.val) 0 _ _ _ _ x8 x9 σ d t hs)

/-! ### diagA -/

theorem diagA_q (x : Vec Ideal S128x16384 .bf16) (d : Fin 128) (b : Fin 512) :
    (shapeCast S128x512 (VecWindow.window x ![0, 512 * q.val] S128x512.size (in2 q)) shapeCasts_S128x512_S128x512 : FVec Ideal S128x512 .bf16) (ix2 d b) = x (ix2 d (qat q b)) := by
  pointwise []
  exact window2 x 0 (512 * q.val) d (qat q b) (in2 q) d b (Nat.zero_add _).symm rfl

theorem diagA_w0 (q2 : FVec Ideal S128x512 .bf16) (hq : ∀ d b, q2 (ix2 d b) = x3 (ix2 d (qat q b))) (a : Fin 256) (b : Fin 512) : wM1 (extractStridedSlice S256x128 ![0, 0] K.k0 slices_S512x128_o0_0_S256x128) (extractStridedSlice S256x1 ![0, 0] K.c0 slices_S512x1_o0_0_S256x1) q2 (in3 0 q) x8 (ix2 a b) = mw K x3 x8 q.val 0 (lo a) (qat q b) := by
  refine (wM1_at _ _ _ 0 (512 * q.val) _ x8 a b (up 0) (qat q b) rfl rfl).trans ?_
  unfold mw wt
  simp only [hq]
  refine if_congr (by show a.val ≤ b.val ↔ 512 * q.val + a.val ≤ 512 * q.val + b.val; omega) ?_ rfl
  pointwise []

theorem diagA_g0 (q2 : FVec Ideal S128x512 .bf16) (hq : ∀ d b, q2 (ix2 d b) = x3 (ix2 d (qat q b))) (d2 : FVec Ideal S128x512 .bf16) (hd : ∀ d b, d2 (ix2 d b) = x4 (ix2 d (qat q b))) (a : Fin 256) (b : Fin 512) : gM1 (extractStridedSlice S256x128 ![0, 0] K.k0 slices_S512x128_o0_0_S256x128) (extractStridedSlice S256x128 ![0, 0] K.v0 slices_S512x128_o0_0_S256x128) (extractStridedSlice S256x1 ![0, 0] K.c0 slices_S512x1_o0_0_S256x1) q2 d2 (in3 0 q) x8 x9 (ix2 a b) = mg K x3 x4 x8 x9 q.val 0 (lo a) (qat q b) := by
  refine (gM1_at _ _ _ _ _ 0 (512 * q.val) _ x8 x9 a b (up 0) (qat q b) rfl rfl).trans ?_
  rw [diagA_w0 K x3 x8 q q2 hq]
  unfold mw mg gt
  simp only [hd]
  split_ifs
  · pointwise []
  · exact zero_mul _

theorem diagA_w1 (q2 : FVec Ideal S128x512 .bf16) (hq : ∀ d b, q2 (ix2 d b) = x3 (ix2 d (qat q b))) (a : Fin 256) (b : Fin 512) : wM1 (extractStridedSlice S256x128 ![0, 0] K.k1 slices_S512x128_o0_0_S256x128) (extractStridedSlice S256x1 ![0, 0] K.c1 slices_S512x1_o0_0_S256x1) q2 (in3 1 q) x8 (ix2 a b) = mw K x3 x8 q.val 1 (lo a) (qat q b) := by
  refine (wM1_at _ _ _ 1 (512 * q.val) _ x8 a b (up 1) (qat q b) rfl rfl).trans ?_
  unfold mw wt
  simp only [hq]
  refine if_congr (by show a.val ≤ b.val ↔ 512 * q.val + a.val ≤ 512 * q.val + b.val; omega) ?_ rfl
  pointwise []

theorem diagA_g1 (q2 : FVec Ideal S128x512 .bf16) (hq : ∀ d b, q2 (ix2 d b) = x3 (ix2 d (qat q b))) (d2 : FVec Ideal S128x512 .bf16) (hd : ∀ d b, d2 (ix2 d b) = x4 (ix2 d (qat q b))) (a : Fin 256) (b : Fin 512) : gM1 (extractStridedSlice S256x128 ![0, 0] K.k1 slices_S512x128_o0_0_S256x128) (extractStridedSlice S256x128 ![0, 0] K.v1 slices_S512x128_o0_0_S256x128) (extractStridedSlice S256x1 ![0, 0] K.c1 slices_S512x1_o0_0_S256x1) q2 d2 (in3 1 q) x8 x9 (ix2 a b) = mg K x3 x4 x8 x9 q.val 1 (lo a) (qat q b) := by
  refine (gM1_at _ _ _ _ _ 1 (512 * q.val) _ x8 x9 a b (up 1) (qat q b) rfl rfl).trans ?_
  rw [diagA_w1 K x3 x8 q q2 hq]
  unfold mw mg gt
  simp only [hd]
  split_ifs
  · pointwise []
  · exact zero_mul _

theorem diagA_dv (h : Fin 2) (d : Fin 128) (a : Fin 256) :
    (diagA K x3 x4 x8 x9 q σ).dv (ix3 h d (lo a)) = σ.dv (ix3 h d (lo a)) + ∑ b : Fin 512, x4 (ix2 d (qat q b)) * mw K x3 x8 q.val h (lo a) (qat q b) :=
  match h with
  | 0 => by
    refine (stepM1_dv_out _ _ _ _ _ _ 1 (512 * q.val) 0 _ _ _ _ x8 x9 _ 0 d (lo a) (by simp)).trans ?_
    refine (stepM1_dv_in _ _ _ _ _ _ 0 (512 * q.val) 0 _ _ _ _ x8 x9 σ d (lo a) a (Nat.zero_add _).symm).trans ?_
    exact congrArg (_ + ·) (Finset.sum_congr rfl fun b _ => congr (congrArg _ (diagA_q q x4 d b)) (diagA_w0 K x3 x8 q _ (diagA_q q x3) a b))
  | 1 => by
    refine (stepM1_dv_in _ _ _ _ _ _ 1 (512 * q.val) 0 _ _ _ _ x8 x9 _ d (lo a) a (Nat.zero_add _).symm).trans ?_
    rw [show _ = σ.dv (ix3 1 d (lo a)) from stepM1_dv_out _ _ _ _ _ _ 0 (512 * q.val) 0 _ _ _ _ x8 x9 σ 1 d (lo a) (by simp)]
    exact congrArg (_ + ·) (Finset.sum_congr rfl fun b _ => congr (congrArg _ (diagA_q q x4 d b)) (diagA_w1 K x3 x8 q _ (diagA_q q x3) a b))

theorem diagA_dv_out (h : Fin 2) (d : Fin 128) (s : Fin 512) (hs : 256 ≤ s.val) :
    (diagA K x3 x4 x8 x9 q σ).dv (ix3 h d s) = σ.dv (ix3 h d s) :=
  (stepM1_dv_out _ _ _ _ _ _ 1 (512 * q.val) 0 _ _ _ _ x8 x9 _ h d s (by omega)).trans
    (stepM1_dv_out _ _ _ _ _ _ 0 (512 * q.val) 0 _ _ _ _ x8 x9 σ h d s (by omega))

theorem diagA_dk (h : Fin 2) (d : Fin 128) (a : Fin 256) :
    (diagA K x3 x4 x8 x9 q σ).dk (ix3 h d (lo a)) = σ.dk (ix3 h d (lo a)) + ∑ b : Fin 512, x3 (ix2 d (qat q b)) * mg K x3 x4 x8 x9 q.val h (lo a) (qat q b) :=
  match h with
  | 0 => by
    refine (stepM1_dk_out _ _ _ _ _ _ 1 (512 * q.val) 0 _ _ _ _ x8 x9 _ 0 d (lo a) (by simp)).trans ?_
    refine (stepM1_dk_in _ _ _ _ _ _ 0 (512 * q.val) 0 _ _ _ _ x8 x9 σ d (lo a) a (Nat.zero_add _).symm).trans ?_
    exact congrArg (_ + ·) (Finset.sum_congr rfl fun b _ => congr (congrArg _ (diagA_q q x3 d b)) (diagA_g0 K x3 x4 x8 x9 q _ (diagA_q q x3) _ (diagA_q q x4) a b))
  | 1 => by
    refine (stepM1_dk_in _ _ _ _ _ _ 1 (512 * q.val) 0 _ _ _ _ x8 x9 _ d (lo a) a (Nat.zero_add _).symm).trans ?_
    rw [show _ = σ.dk (ix3 1 d (lo a)) from stepM1_dk_out _ _ _ _ _ _ 0 (512 * q.val) 0 _ _ _ _ x8 x9 σ 1 d (lo a) (by simp)]
    exact congrArg (_ + ·) (Finset.sum_congr rfl fun b _ => congr (congrArg _ (diagA_q q x3 d b)) (diagA_g1 K x3 x4 x8 x9 q _ (diagA_q q x3) _ (diagA_q q x4) a b))

theorem diagA_dk_out (h : Fin 2) (d : Fin 128) (s : Fin 512) (hs : 256 ≤ s.val) :
    (diagA K x3 x4 x8 x9 q σ).dk (ix3 h d s) = σ.dk (ix3 h d s) :=
  (stepM1_dk_out _ _ _ _ _ _ 1 (512 * q.val) 0 _ _ _ _ x8 x9 _ h d s (by omega)).trans
    (stepM1_dk_out _ _ _ _ _ _ 0 (512 * q.val) 0 _ _ _ _ x8 x9 σ h d s (by omega))

theorem diagA_dc (h : Fin 2) (a : Fin 256) :
    (diagA K x3 x4 x8 x9 q σ).dc (ix3 h (lo a) 0) = σ.dc (ix3 h (lo a) 0) + ∑ b : Fin 512, mg K x3 x4 x8 x9 q.val h (lo a) (qat q b) :=
  match h with
  | 0 => by
    refine (stepM1_dc_out _ _ _ _ _ _ 1 (512 * q.val) 0 _ _ _ _ x8 x9 _ 0 (lo a) (by simp)).trans ?_
    refine (stepM1_dc_in _ _ _ _ _ _ 0 (512 * q.val) 0 _ _ _ _ x8 x9 σ (lo a) a (Nat.zero_add _).symm).trans ?_
    exact congrArg (_ + ·) (Finset.sum_congr rfl fun b _ => diagA_g0 K x3 x4 x8 x9 q _ (diagA_q q x3) _ (diagA_q q x4) a b)
  | 1 => by
    refine (stepM1_dc_in _ _ _ _ _ _ 1 (512 * q.val) 0 _ _ _ _ x8 x9 _ (lo a) a (Nat.zero_add _).symm).trans ?_
    rw [show _ = σ.dc (ix3 1 (lo a) 0) from stepM1_dc_out _ _ _ _ _ _ 0 (512 * q.val) 0 _ _ _ _ x8 x9 σ 1 (lo a) (by simp)]
    exact congrArg (_ + ·) (Finset.sum_congr rfl fun b _ => diagA_g1 K x3 x4 x8 x9 q _ (diagA_q q x3) _ (diagA_q q x4) a b)

theorem diagA_dc_out (h : Fin 2) (s : Fin 512) (hs : 256 ≤ s.val) :
    (diagA K x3 x4 x8 x9 q σ).dc (ix3 h s 0) = σ.dc (ix3 h s 0) :=
  (stepM1_dc_out _ _ _ _ _ _ 1 (512 * q.val) 0 _ _ _ _ x8 x9 _ h s (by omega)).trans
    (stepM1_dc_out _ _ _ _ _ _ 0 (512 * q.val) 0 _ _ _ _ x8 x9 σ h s (by omega))

theorem diagA_dcq (h : Fin 2) (b : Fin 512) :
    (diagA K x3 x4 x8 x9 q σ).dcq (ix3 0 (up h) (qat q b)) = σ.dcq (ix3 0 (up h) (qat q b)) + ∑ a : Fin 256, mg K x3 x4 x8 x9 q.val h (lo a) (qat q b) :=
  match h with
  | 0 => by
    refine (stepM1_dcq_out _ _ _ _ _ _ 1 (512 * q.val) 0 _ _ _ _ x8 x9 _ (up 0) (qat q b) (by simp)).trans ?_
    refine (stepM1_dcq_in _ _ _ _ _ _ 0 (512 * q.val) 0 _ _ _ _ x8 x9 σ (up 0) (qat q b) b rfl rfl).trans ?_
    exact congrArg (_ + ·) (Finset.sum_congr rfl fun a _ => diagA_g0 K x3 x4 x8 x9 q _ (diagA_q q x3) _ (diagA_q q x4) a b)
  | 1 => by
    refine (stepM1_dcq_in _ _ _ _ _ _ 1 (512 * q.val) 0 _ _ _ _ x8 x9 _ (up 1) (qat q b) b rfl rfl).trans ?_
    rw [show _ = σ.dcq (ix3 0 (up 1) (qat q b)) from stepM1_dcq_out _ _ _ _ _ _ 0 (512 * q.val) 0 _ _ _ _ x8 x9 σ (up 1) (qat q b) (by simp)]
    exact congrArg (_ + ·) (Finset.sum_congr rfl fun a _ => diagA_g1 K x3 x4 x8 x9 q _ (diagA_q q x3) _ (diagA_q q x4) a b)

theorem diagA_dcq_out (r : Fin 8) (t : Fin 16384) (hs : ¬ (r.val < 2 ∧ 512 * q.val ≤ t.val ∧ t.val < 512 * q.val + 512)) :
    (diagA K x3 x4 x8 x9 q σ).dcq (ix3 0 r t) = σ.dcq (ix3 0 r t) :=
  (stepM1_dcq_out _ _ _ _ _ _ 1 (512 * q.val) 0 _ _ _ _ x8 x9 _ r t (fun hh => hs ⟨by have : r.val = 1 := hh.1; omega, hh.2⟩)).trans
    (stepM1_dcq_out _ _ _ _ _ _ 0 (512 * q.val) 0 _ _ _ _ x8 x9 σ r t (fun hh => hs ⟨by have : r.val = 0 := hh.1; omega, hh.2⟩))

theorem diagA_dq (d : Fin 128) (b : Fin 512) :
    (diagA K x3 x4 x8 x9 q σ).dq (ix2 d (qat q b)) = σ.dq (ix2 d (qat q b))
      + (∑ a : Fin 256, K.t0 (ix2 d (lo a)) * mg K x3 x4 x8 x9 q.val 0 (lo a) (qat q b) + ∑ a : Fin 256, K.t1 (ix2 d (lo a)) * mg K x3 x4 x8 x9 q.val 1 (lo a) (qat q b)) := by
  refine (stepM1_dq_in _ _ _ _ _ _ 1 (512 * q.val) 0 _ _ _ _ x8 x9 _ d (qat q b) b rfl).trans ?_
  rw [show _ = _ from stepM1_dq_in _ _ _ _ _ _ 0 (512 * q.val) 0 _ _ _ _ x8 x9 σ d (qat q b) b rfl, add_assoc]
  refine congrArg (_ + ·) (congr (congrArg _ (Finset.sum_congr rfl fun a _ => congr (congrArg _ ?_) (diagA_g0 K x3 x4 x8 x9 q _ (diagA_q q x3) _ (diagA_q q x4) a b))) (Finset.sum_congr rfl fun a _ => congr (congrArg _ ?_) (diagA_g1 K x3 x4 x8 x9 q _ (diagA_q q x3) _ (diagA_q q x4) a b)))
  all_goals
    pointwise []

theorem diagA_dq_out (d : Fin 128) (t : Fin 16384) (hs : ¬ (512 * q.val ≤ t.val ∧ t.val < 512 * q.val + 512)) :
    (diagA K x3 x4 x8 x9 q σ).dq (ix2 d t) = σ.dq (ix2 d t) :=
  (stepM1_dq_out _ _ _ _ _ _ 1 (512 * q.val) 0 _ _ _ _ x8 x9 _ d t hs).trans
    (stepM1_dq_out _ _ _ _ _ _ 0 (512 * q.val) 0 _ _ _ _ x8 x9 σ d t hs)

/-! ### diagB -/

theorem diagB_q (x : Vec Ideal S128x16384 .bf16) (d : Fin 128) (b : Fin 256) :
    (shapeCast S128x256 (VecWindow.window x ![0, 512 * q.val + 256] S128x256.size (in2' q)) shapeCasts_S128x256_S128x256 : FVec Ideal S128x256 .bf16) (ix2 d b) = x (ix2 d (qat q (hi b))) := by
  pointwise []
  exact window2 x 0 (512 * q.val + 256) d (qat q (hi b)) (in2' q) d b (Nat.zero_add _).symm (by show 512 * q.val + (256 + b.val) = 512 * q.val + 256 + b.val; omega)

theorem diagB_w0 (q2 : FVec Ideal S128x256 .bf16) (hq : ∀ d b, q2 (ix2 d b) = x3 (ix2 d (qat q (hi b)))) (a : Fin 256) (b : Fin 256) : wM2 (extractStridedSlice S256x128 ![256, 0] K.k0 slices_S512x128_o256_0_S256x128) (extractStridedSlice S256x1 ![256, 0] K.c0 slices_S512x1_o256_0_S256x1) q2 (in3' 0 q) x8 (ix2 a b) = mw K x3 x8 q.val 0 (hi a) (qat q (hi b)) := by
  refine (wM2_at _ _ _ 0 (512 * q.val + 256) _ x8 a b (up 0) (qat q (hi b)) rfl (by show 512 * q.val + (256 + b.val) = 512 * q.val + 256 + b.val; omega)).trans ?_
  unfold mw wt
  simp only [hq]
  refine if_congr (by show a.val ≤ b.val ↔ 512 * q.val + (256 + a.val) ≤ 512 * q.val + (256 + b.val); omega) ?_ rfl
  pointwise []

theorem diagB_g0 (q2 : FVec Ideal S128x256 .bf16) (hq : ∀ d b, q2 (ix2 d b) = x3 (ix2 d (qat q (hi b)))) (d2 : FVec Ideal S128x256 .bf16) (hd : ∀ d b, d2 (ix2 d b) = x4 (ix2 d (qat q (hi b)))) (a : Fin 256) (b : Fin 256) : gM2 (extractStridedSlice S256x128 ![256, 0] K.k0 slices_S512x128_o256_0_S256x128) (extractStridedSlice S256x128 ![256, 0] K.v0 slices_S512x128_o256_0_S256x128) (extractStridedSlice S256x1 ![256, 0] K.c0 slices_S512x1_o256_0_S256x1) q2 d2 (in3' 0 q) x8 x9 (ix2 a b) = mg K x3 x4 x8 x9 q.val 0 (hi a) (qat q (hi b)) := by
  refine (gM2_at _ _ _ _ _ 0 (512 * q.val + 256) _ x8 x9 a b (up 0) (qat q (hi b)) rfl (by show 512 * q.val + (256 + b.val) = 512 * q.val + 256 + b.val; omega)).trans ?_
  rw [diagB_w0 K x3 x8 q q2 hq]
  unfold mw mg gt
  simp only [hd]
  split_ifs
  · pointwise []
  · exact zero_mul _

theorem diagB_w1 (q2 : FVec Ideal S128x256 .bf16) (hq : ∀ d b, q2 (ix2 d b) = x3 (ix2 d (qat q (hi b)))) (a : Fin 256) (b : Fin 256) : wM2 (extractStridedSlice S256x128 ![256, 0] K.k1 slices_S512x128_o256_0_S256x128) (extractStridedSlice S256x1 ![256, 0] K.c1 slices_S512x1_o256_0_S256x1) q2 (in3' 1 q) x8 (ix2 a b) = mw K x3 x8 q.val 1 (hi a) (qat q (hi b)) := by
  refine (wM2_at _ _ _ 1 (512 * q.val + 256) _ x8 a b (up 1) (qat q (hi b)) rfl (by show 512 * q.val + (256 + b.val) = 512 * q.val + 256 + b.val; omega)).trans ?_
  unfold mw wt
  simp only [hq]
  refine if_congr (by show a.val ≤ b.val ↔ 512 * q.val + (256 + a.val) ≤ 512 * q.val + (256 + b.val); omega) ?_ rfl
  pointwise []

theorem diagB_g1 (q2 : FVec Ideal S128x256 .bf16) (hq : ∀ d b, q2 (ix2 d b) = x3 (ix2 d (qat q (hi b)))) (d2 : FVec Ideal S128x256 .bf16) (hd : ∀ d b, d2 (ix2 d b) = x4 (ix2 d (qat q (hi b)))) (a : Fin 256) (b : Fin 256) : gM2 (extractStridedSlice S256x128 ![256, 0] K.k1 slices_S512x128_o256_0_S256x128) (extractStridedSlice S256x128 ![256, 0] K.v1 slices_S512x128_o256_0_S256x128) (extractStridedSlice S256x1 ![256, 0] K.c1 slices_S512x1_o256_0_S256x1) q2 d2 (in3' 1 q) x8 x9 (ix2 a b) = mg K x3 x4 x8 x9 q.val 1 (hi a) (qat q (hi b)) := by
  refine (gM2_at _ _ _ _ _ 1 (512 * q.val + 256) _ x8 x9 a b (up 1) (qat q (hi b)) rfl (by show 512 * q.val + (256 + b.val) = 512 * q.val + 256 + b.val; omega)).trans ?_
  rw [diagB_w1 K x3 x8 q q2 hq]
  unfold mw mg gt
  simp only [hd]
  split_ifs
  · pointwise []
  · exact zero_mul _

theorem diagB_dv (h : Fin 2) (d : Fin 128) (a : Fin 256) :
    (diagB K x3 x4 x8 x9 q σ).dv (ix3 h d (hi a)) = σ.dv (ix3 h d (hi a)) + ∑ b : Fin 256, x4 (ix2 d (qat q (hi b))) * mw K x3 x8 q.val h (hi a) (qat q (hi b)) :=
  match h with
  | 0 => by
    refine (stepM2_dv_out _ _ _ _ _ _ 1 (512 * q.val + 256) 256 _ _ _ _ x8 x9 _ 0 d (hi a) (by simp)).trans ?_
    refine (stepM2_dv_in _ _ _ _ _ _ 0 (512 * q.val + 256) 256 _ _ _ _ x8 x9 σ d (hi a) a rfl).trans ?_
    exact congrArg (_ + ·) (Finset.sum_congr rfl fun b _ => congr (congrArg _ (diagB_q q x4 d b)) (diagB_w0 K x3 x8 q _ (diagB_q q x3) a b))
  | 1 => by
    refine (stepM2_dv_in _ _ _ _ _ _ 1 (512 * q.val + 256) 256 _ _ _ _ x8 x9 _ d (hi a) a rfl).trans ?_
    rw [show _ = σ.dv (ix3 1 d (hi a)) from stepM2_dv_out _ _ _ _ _ _ 0 (512 * q.val + 256) 256 _ _ _ _ x8 x9 σ 1 d (hi a) (by simp)]
    exact congrArg (_ + ·) (Finset.sum_congr rfl fun b _ => congr (congrArg _ (diagB_q q x4 d b)) (diagB_w1 K x3 x8 q _ (diagB_q q x3) a b))

theorem diagB_dv_out (h : Fin 2) (d : Fin 128) (s : Fin 512) (hs : s.val < 256) :
    (diagB K x3 x4 x8 x9 q σ).dv (ix3 h d s) = σ.dv (ix3 h d s) :=
  (stepM2_dv_out _ _ _ _ _ _ 1 (512 * q.val + 256) 256 _ _ _ _ x8 x9 _ h d s (by omega)).trans
    (stepM2_dv_out _ _ _ _ _ _ 0 (512 * q.val + 256) 256 _ _ _ _ x8 x9 σ h d s (by omega))

theorem diagB_dk (h : Fin 2) (d : Fin 128) (a : Fin 256) :
    (diagB K x3 x4 x8 x9 q σ).dk (ix3 h d (hi a)) = σ.dk (ix3 h d (hi a)) + ∑ b : Fin 256, x3 (ix2 d (qat q (hi b))) * mg K x3 x4 x8 x9 q.val h (hi a) (qat q (hi b)) :=
  match h with
  | 0 => by
    refine (stepM2_dk_out _ _ _ _ _ _ 1 (512 * q.val + 256) 256 _ _ _ _ x8 x9 _ 0 d (hi a) (by simp)).trans ?_
    refine (stepM2_dk_in _ _ _ _ _ _ 0 (512 * q.val + 256) 256 _ _ _ _ x8 x9 σ d (hi a) a rfl).trans ?_
    exact congrArg (_ + ·) (Finset.sum_congr rfl fun b _ => congr (congrArg _ (diagB_q q x3 d b)) (diagB_g0 K x3 x4 x8 x9 q _ (diagB_q q x3) _ (diagB_q q x4) a b))
  | 1 => by
    refine (stepM2_dk_in _ _ _ _ _ _ 1 (512 * q.val + 256) 256 _ _ _ _ x8 x9 _ d (hi a) a rfl).trans ?_
    rw [show _ = σ.dk (ix3 1 d (hi a)) from stepM2_dk_out _ _ _ _ _ _ 0 (512 * q.val + 256) 256 _ _ _ _ x8 x9 σ 1 d (hi a) (by simp)]
    exact congrArg (_ + ·) (Finset.sum_congr rfl fun b _ => congr (congrArg _ (diagB_q q x3 d b)) (diagB_g1 K x3 x4 x8 x9 q _ (diagB_q q x3) _ (diagB_q q x4) a b))

theorem diagB_dk_out (h : Fin 2) (d : Fin 128) (s : Fin 512) (hs : s.val < 256) :
    (diagB K x3 x4 x8 x9 q σ).dk (ix3 h d s) = σ.dk (ix3 h d s) :=
  (stepM2_dk_out _ _ _ _ _ _ 1 (512 * q.val + 256) 256 _ _ _ _ x8 x9 _ h d s (by omega)).trans
    (stepM2_dk_out _ _ _ _ _ _ 0 (512 * q.val + 256) 256 _ _ _ _ x8 x9 σ h d s (by omega))

theorem diagB_dc (h : Fin 2) (a : Fin 256) :
    (diagB K x3 x4 x8 x9 q σ).dc (ix3 h (hi a) 0) = σ.dc (ix3 h (hi a) 0) + ∑ b : Fin 256, mg K x3 x4 x8 x9 q.val h (hi a) (qat q (hi b)) :=
  match h with
  | 0 => by
    refine (stepM2_dc_out _ _ _ _ _ _ 1 (512 * q.val + 256) 256 _ _ _ _ x8 x9 _ 0 (hi a) (by simp)).trans ?_
    refine (stepM2_dc_in _ _ _ _ _ _ 0 (512 * q.val + 256) 256 _ _ _ _ x8 x9 σ (hi a) a rfl).trans ?_
    exact congrArg (_ + ·) (Finset.sum_congr rfl fun b _ => diagB_g0 K x3 x4 x8 x9 q _ (diagB_q q x3) _ (diagB_q q x4) a b)
  | 1 => by
    refine (stepM2_dc_in _ _ _ _ _ _ 1 (512 * q.val + 256) 256 _ _ _ _ x8 x9 _ (hi a) a rfl).trans ?_
    rw [show _ = σ.dc (ix3 1 (hi a) 0) from stepM2_dc_out _ _ _ _ _ _ 0 (512 * q.val + 256) 256 _ _ _ _ x8 x9 σ 1 (hi a) (by simp)]
    exact congrArg (_ + ·) (Finset.sum_congr rfl fun b _ => diagB_g1 K x3 x4 x8 x9 q _ (diagB_q q x3) _ (diagB_q q x4) a b)

theorem diagB_dc_out (h : Fin 2) (s : Fin 512) (hs : s.val < 256) :
    (diagB K x3 x4 x8 x9 q σ).dc (ix3 h s 0) = σ.dc (ix3 h s 0) :=
  (stepM2_dc_out _ _ _ _ _ _ 1 (512 * q.val + 256) 256 _ _ _ _ x8 x9 _ h s (by omega)).trans
    (stepM2_dc_out _ _ _ _ _ _ 0 (512 * q.val + 256) 256 _ _ _ _ x8 x9 σ h s (by omega))

theorem diagB_dcq (h : Fin 2) (b : Fin 256) :
    (diagB K x3 x4 x8 x9 q σ).dcq (ix3 0 (up h) (qat q (hi b))) = σ.dcq (ix3 0 (up h) (qat q (hi b))) + ∑ a : Fin 256, mg K x3 x4 x8 x9 q.val h (hi a) (qat q (hi b)) :=
  match h with
  | 0 => by
    refine (stepM2_dcq_out _ _ _ _ _ _ 1 (512 * q.val + 256) 256 _ _ _ _ x8 x9 _ (up 0) (qat q (hi b)) (by simp)).trans ?_
    refine (stepM2_dcq_in _ _ _ _ _ _ 0 (512 * q.val + 256) 256 _ _ _ _ x8 x9 σ (up 0) (qat q (hi b)) b rfl (by show 512 * q.val + (256 + b.val) = 512 * q.val + 256 + b.val; omega)).trans ?_
    exact congrArg (_ + ·) (Finset.sum_congr rfl fun a _ => diagB_g0 K x3 x4 x8 x9 q _ (diagB_q q x3) _ (diagB_q q x4) a b)
  | 1 => by
    refine (stepM2_dcq_in _ _ _ _ _ _ 1 (512 * q.val + 256) 256 _ _ _ _ x8 x9 _ (up 1) (qat q (hi b)) b rfl (by show 512 * q.val + (256 + b.val) = 512 * q.val + 256 + b.val; omega)).trans ?_
    rw [show _ = σ.dcq (ix3 0 (up 1) (qat q (hi b))) from stepM2_dcq_out _ _ _ _ _ _ 0 (512 * q.val + 256) 256 _ _ _ _ x8 x9 σ (up 1) (qat q (hi b)) (by simp)]
    exact congrArg (_ + ·) (Finset.sum_congr rfl fun a _ => diagB_g1 K x3 x4 x8 x9 q _ (diagB_q q x3) _ (diagB_q q x4) a b)

theorem diagB_dcq_out (r : Fin 8) (t : Fin 16384) (hs : ¬ (r.val < 2 ∧ 512 * q.val + 256 ≤ t.val ∧ t.val < 512 * q.val + 256 + 256)) :
    (diagB K x3 x4 x8 x9 q σ).dcq (ix3 0 r t) = σ.dcq (ix3 0 r t) :=
  (stepM2_dcq_out _ _ _ _ _ _ 1 (512 * q.val + 256) 256 _ _ _ _ x8 x9 _ r t (fun hh => hs ⟨by have : r.val = 1 := hh.1; omega, hh.2⟩)).trans
    (stepM2_dcq_out _ _ _ _ _ _ 0 (512 * q.val + 256) 256 _ _ _ _ x8 x9 σ r t (fun hh => hs ⟨by have : r.val = 0 := hh.1; omega, hh.2⟩))

theorem diagB_dq (d : Fin 128) (b : Fin 256) :
    (diagB K x3 x4 x8 x9 q σ).dq (ix2 d (qat q (hi b))) = σ.dq (ix2 d (qat q (hi b)))
      + (∑ a : Fin 256, K.t0 (ix2 d (hi a)) * mg K x3 x4 x8 x9 q.val 0 (hi a) (qat q (hi b)) + ∑ a : Fin 256, K.t1 (ix2 d (hi a)) * mg K x3 x4 x8 x9 q.val 1 (hi a) (qat q (hi b))) := by
  refine (stepM2_dq_in _ _ _ _ _ _ 1 (512 * q.val + 256) 256 _ _ _ _ x8 x9 _ d (qat q (hi b)) b (by show 512 * q.val + (256 + b.val) = 512 * q.val + 256 + b.val; omega)).trans ?_
  rw [show _ = _ from stepM2_dq_in _ _ _ _ _ _ 0 (512 * q.val + 256) 256 _ _ _ _ x8 x9 σ d (qat q (hi b)) b (by show 512 * q.val + (256 + b.val) = 512 * q.val + 256 + b.val; omega), add_assoc]
  refine congrArg (_ + ·) (congr (congrArg _ (Finset.sum_congr rfl fun a _ => congr (congrArg _ ?_) (diagB_g0 K x3 x4 x8 x9 q _ (diagB_q q x3) _ (diagB_q q x4) a b))) (Finset.sum_congr rfl fun a _ => congr (congrArg _ ?_) (diagB_g1 K x3 x4 x8 x9 q _ (diagB_q q x3) _ (diagB_q q x4) a b)))
  all_goals
    pointwise []

theorem diagB_dq_out (d : Fin 128) (t : Fin 16384) (hs : ¬ (512 * q.val + 256 ≤ t.val ∧ t.val < 512 * q.val + 256 + 256)) :
    (diagB K x3 x4 x8 x9 q σ).dq (ix2 d t) = σ.dq (ix2 d t) :=
  (stepM2_dq_out _ _ _ _ _ _ 1 (512 * q.val + 256) 256 _ _ _ _ x8 x9 _ d t hs).trans
    (stepM2_dq_out _ _ _ _ _ _ 0 (512 * q.val + 256) 256 _ _ _ _ x8 x9 σ d t hs)

end

end Cert.AttnIdeal.Sem
end
-- ==== Proof.AttnIdeal.Total.lean ====
/- What a block of keys adds to each accumulator over all its blocks of queries: a sum over every query, the queries
   before the key masked. -/
module

public import proofs.«01_k».proof.Proof.AttnIdeal.Meet

@[expose] public section

set_option maxRecDepth 16384

noncomputable section

namespace Cert.AttnIdeal.Sem

open Cert.AttnIdeal Cert.AttnIdeal.Gen Cert.AttnIdeal.Body Idealize.ShloMosaic Idealize.ShloMosaic.TcCoe Idealize.SL.Sem
open Cert.Step Cert.Win

/-! ### Sums over a prefix of the queries -/

/-- The sum over the first `n` queries. -/
def pre (f : Fin 16384 → EReal) (n : ℕ) : EReal := ∑ t : Fin 16384, if t.val < n then f t else 0

theorem pre_eq (f : Fin 16384 → EReal) (n : ℕ) (hn : n ≤ 16384) :
    pre f n = ∑ i ∈ Finset.range n, if h : i < 16384 then f ⟨i, h⟩ else 0 := by
  unfold pre
  rw [show (∑ t : Fin 16384, if t.val < n then f t else 0)
      = ∑ t : Fin 16384, (fun i : ℕ => if i < n then (if h : i < 16384 then f ⟨i, h⟩ else 0) else 0) t.val from
        Finset.sum_congr rfl fun t _ => by simp only [t.isLt, dif_pos, Fin.eta],
    Fin.sum_univ_eq_sum_range (fun i : ℕ => if i < n then (if h : i < 16384 then f ⟨i, h⟩ else 0) else 0) 16384,
    ← Finset.sum_filter]
  refine Finset.sum_congr ?_ fun _ _ => rfl
  ext i
  simp only [Finset.mem_filter, Finset.mem_range]
  omega

theorem pre_block (f : Fin 16384 → EReal) (q : Fin 32) :
    pre f (512 * (q.val + 1)) = pre f (512 * q.val) + ∑ b : Fin 512, f (qat q b) := by
  rw [pre_eq f _ (by omega), pre_eq f _ (by omega), show 512 * (q.val + 1) = 512 * q.val + 512 by omega, Finset.sum_range_add]
  refine congrArg (_ + ·) ?_
  rw [← Fin.sum_univ_eq_sum_range (fun i => if h : 512 * q.val + i < 16384 then f ⟨512 * q.val + i, h⟩ else 0) 512]
  refine Finset.sum_congr rfl fun b _ => ?_
  rw [dif_pos (qat q b).isLt]

theorem pre_zero (f : Fin 16384 → EReal) (n : ℕ) (h : ∀ t : Fin 16384, t.val < n → f t = 0) : pre f n = 0 :=
  Finset.sum_eq_zero fun t _ => by split_ifs with ht; exacts [h t ht, rfl]

theorem pre_all (f : Fin 16384 → EReal) : pre f 16384 = ∑ t, f t :=
  Finset.sum_congr rfl fun t _ => if_pos t.isLt

/-- A sum over a block is the sum over its two halves. -/
theorem halves (f : Fin 512 → EReal) : ∑ b, f b = ∑ a, f (lo a) + ∑ a, f (hi a) :=
  Fin.sum_univ_add (a := 256) (b := 256) f

theorem hi_half (f : Fin 512 → EReal) (h : ∀ a, f (lo a) = 0) : ∑ b, f b = ∑ a, f (hi a) := by
  rw [halves, Finset.sum_eq_zero fun a _ => h a, zero_add]

theorem lo_half (f : Fin 512 → EReal) (h : ∀ a, f (hi a) = 0) : ∑ b, f b = ∑ a, f (lo a) := by
  rw [halves f, Finset.sum_eq_zero (f := fun a => f (hi a)) fun a _ => h a, add_zero]

theorem lo_or_hi (s : Fin 512) : (∃ a, s = lo a) ∨ ∃ a, s = hi a := by
  by_cases h : s.val < 256
  · exact .inl ⟨⟨s.val, h⟩, rfl⟩
  · exact .inr ⟨⟨s.val - 256, by omega⟩, Fin.ext (by show s.val = 256 + (s.val - 256); omega)⟩

section
variable (K : Keys Ideal) (x3 x4 : Vec Ideal S128x16384 .bf16) (x8 x9 : Vec Ideal S1x8x16384 .f32)

theorem mw_pos {kj : ℕ} {h : Fin 2} {s : Fin 512} {t : Fin 16384} (hm : 512 * kj + s.val ≤ t.val) : mw K x3 x8 kj h s t = wt K x3 x8 h s t := if_pos hm
theorem mw_neg {kj : ℕ} {h : Fin 2} {s : Fin 512} {t : Fin 16384} (hm : ¬ 512 * kj + s.val ≤ t.val) : mw K x3 x8 kj h s t = 0 := if_neg hm
theorem mg_pos {kj : ℕ} {h : Fin 2} {s : Fin 512} {t : Fin 16384} (hm : 512 * kj + s.val ≤ t.val) : mg K x3 x4 x8 x9 kj h s t = gt K x3 x4 x8 x9 h s t := if_pos hm
theorem mg_neg {kj : ℕ} {h : Fin 2} {s : Fin 512} {t : Fin 16384} (hm : ¬ 512 * kj + s.val ≤ t.val) : mg K x3 x4 x8 x9 kj h s t = 0 := if_neg hm

/-- A block's share of the gradient of a query, and of a query's bias. -/
def qc (kj : ℕ) (d : Fin 128) (t : Fin 16384) : EReal :=
  ∑ s : Fin 512, K.t0 (ix2 d s) * mg K x3 x4 x8 x9 kj 0 s t + ∑ s : Fin 512, K.t1 (ix2 d s) * mg K x3 x4 x8 x9 kj 1 s t
def rc (kj : ℕ) (r : Fin 8) (t : Fin 16384) : EReal :=
  if h : r.val < 2 then ∑ s : Fin 512, mg K x3 x4 x8 x9 kj ⟨r.val, h⟩ s t else 0

theorem qc_zero {kj : ℕ} {d : Fin 128} {t : Fin 16384} (h : t.val < 512 * kj) : qc K x3 x4 x8 x9 kj d t = 0 := by
  unfold qc
  rw [Finset.sum_eq_zero fun s _ => ?_, Finset.sum_eq_zero fun s _ => ?_, add_zero]
  all_goals rw [mg_neg K x3 x4 x8 x9 (by omega), mul_zero]

theorem rc_zero {kj : ℕ} {r : Fin 8} {t : Fin 16384} (h : t.val < 512 * kj) : rc K x3 x4 x8 x9 kj r t = 0 := by
  unfold rc
  split_ifs
  · exact Finset.sum_eq_zero fun s _ => mg_neg K x3 x4 x8 x9 (by omega)
  · rfl

variable (q : Fin 32) (σ : St Ideal)

/-! ### The block's own queries: the two masked halves together -/

/-- The two masked halves. -/
def diag : St Ideal := diagB K x3 x4 x8 x9 q (diagA K x3 x4 x8 x9 q σ)

theorem diag_dv (h : Fin 2) (d : Fin 128) (s : Fin 512) :
    (diag K x3 x4 x8 x9 q σ).dv (ix3 h d s) = σ.dv (ix3 h d s) + ∑ b : Fin 512, x4 (ix2 d (qat q b)) * mw K x3 x8 q.val h s (qat q b) := by
  rcases lo_or_hi s with ⟨a, rfl⟩ | ⟨a, rfl⟩
  · exact (diagB_dv_out K x3 x4 x8 x9 q _ h d (lo a) (by show a.val < 256; omega)).trans (diagA_dv K x3 x4 x8 x9 q σ h d a)
  · refine (diagB_dv K x3 x4 x8 x9 q _ h d a).trans ?_
    rw [diagA_dv_out K x3 x4 x8 x9 q σ h d (hi a) (by show 256 ≤ 256 + a.val; omega)]
    rw [hi_half (fun b => x4 (ix2 d (qat q b)) * mw K x3 x8 q.val h (hi a) (qat q b)) fun b => by
      rw [mw_neg K x3 x8 (by show ¬ 512 * q.val + (256 + a.val) ≤ 512 * q.val + b.val; omega), mul_zero]]

theorem diag_dk (h : Fin 2) (d : Fin 128) (s : Fin 512) :
    (diag K x3 x4 x8 x9 q σ).dk (ix3 h d s) = σ.dk (ix3 h d s) + ∑ b : Fin 512, x3 (ix2 d (qat q b)) * mg K x3 x4 x8 x9 q.val h s (qat q b) := by
  rcases lo_or_hi s with ⟨a, rfl⟩ | ⟨a, rfl⟩
  · exact (diagB_dk_out K x3 x4 x8 x9 q _ h d (lo a) (by show a.val < 256; omega)).trans (diagA_dk K x3 x4 x8 x9 q σ h d a)
  · refine (diagB_dk K x3 x4 x8 x9 q _ h d a).trans ?_
    rw [diagA_dk_out K x3 x4 x8 x9 q σ h d (hi a) (by show 256 ≤ 256 + a.val; omega)]
    rw [hi_half (fun b => x3 (ix2 d (qat q b)) * mg K x3 x4 x8 x9 q.val h (hi a) (qat q b)) fun b => by
      rw [mg_neg K x3 x4 x8 x9 (by show ¬ 512 * q.val + (256 + a.val) ≤ 512 * q.val + b.val; omega), mul_zero]]

theorem diag_dc (h : Fin 2) (s : Fin 512) :
    (diag K x3 x4 x8 x9 q σ).dc (ix3 h s 0) = σ.dc (ix3 h s 0) + ∑ b : Fin 512, mg K x3 x4 x8 x9 q.val h s (qat q b) := by
  rcases lo_or_hi s with ⟨a, rfl⟩ | ⟨a, rfl⟩
  · exact (diagB_dc_out K x3 x4 x8 x9 q _ h (lo a) (by show a.val < 256; omega)).trans (diagA_dc K x3 x4 x8 x9 q σ h a)
  · refine (diagB_dc K x3 x4 x8 x9 q _ h a).trans ?_
    rw [diagA_dc_out K x3 x4 x8 x9 q σ h (hi a) (by show 256 ≤ 256 + a.val; omega)]
    rw [hi_half (fun b => mg K x3 x4 x8 x9 q.val h (hi a) (qat q b)) fun b =>
      mg_neg K x3 x4 x8 x9 (by show ¬ 512 * q.val + (256 + a.val) ≤ 512 * q.val + b.val; omega)]

theorem diag_dcq (h : Fin 2) (b : Fin 512) :
    (diag K x3 x4 x8 x9 q σ).dcq (ix3 0 (up h) (qat q b)) = σ.dcq (ix3 0 (up h) (qat q b)) + ∑ s : Fin 512, mg K x3 x4 x8 x9 q.val h s (qat q b) := by
  rcases lo_or_hi b with ⟨a, rfl⟩ | ⟨a, rfl⟩
  · refine (diagB_dcq_out K x3 x4 x8 x9 q _ (up h) (qat q (lo a)) (fun hh => by have : 512 * q.val + 256 ≤ 512 * q.val + a.val := hh.2.1; omega)).trans ?_
    refine (diagA_dcq K x3 x4 x8 x9 q σ h (lo a)).trans ?_
    rw [lo_half (fun s => mg K x3 x4 x8 x9 q.val h s (qat q (lo a))) fun s =>
      mg_neg K x3 x4 x8 x9 (by show ¬ 512 * q.val + (256 + s.val) ≤ 512 * q.val + a.val; omega)]
  · refine (diagB_dcq K x3 x4 x8 x9 q _ h a).trans ?_
    rw [diagA_dcq K x3 x4 x8 x9 q σ h (hi a), add_assoc, ← halves fun s => mg K x3 x4 x8 x9 q.val h s (qat q (hi a))]

theorem diag_dq (d : Fin 128) (b : Fin 512) :
    (diag K x3 x4 x8 x9 q σ).dq (ix2 d (qat q b)) = σ.dq (ix2 d (qat q b)) + qc K x3 x4 x8 x9 q.val d (qat q b) := by
  unfold qc
  rcases lo_or_hi b with ⟨a, rfl⟩ | ⟨a, rfl⟩
  · refine (diagB_dq_out K x3 x4 x8 x9 q _ d (qat q (lo a)) (fun hh => by have : 512 * q.val + 256 ≤ 512 * q.val + a.val := hh.1; omega)).trans ?_
    refine (diagA_dq K x3 x4 x8 x9 q σ d (lo a)).trans ?_
    rw [lo_half (fun s => K.t0 (ix2 d s) * mg K x3 x4 x8 x9 q.val 0 s (qat q (lo a))) fun s => by
        rw [mg_neg K x3 x4 x8 x9 (by show ¬ 512 * q.val + (256 + s.val) ≤ 512 * q.val + a.val; omega), mul_zero],
      lo_half (fun s => K.t1 (ix2 d s) * mg K x3 x4 x8 x9 q.val 1 s (qat q (lo a))) fun s => by
        rw [mg_neg K x3 x4 x8 x9 (by show ¬ 512 * q.val + (256 + s.val) ≤ 512 * q.val + a.val; omega), mul_zero]]
  · refine (diagB_dq K x3 x4 x8 x9 q _ d a).trans ?_
    rw [diagA_dq K x3 x4 x8 x9 q σ d (hi a), halves fun s => K.t0 (ix2 d s) * mg K x3 x4 x8 x9 q.val 0 s (qat q (hi a)),
      halves fun s => K.t1 (ix2 d s) * mg K x3 x4 x8 x9 q.val 1 s (qat q (hi a))]
    ac_rfl

theorem diag_dcq_out (r : Fin 8) (t : Fin 16384) (hs : ¬ (r.val < 2 ∧ 512 * q.val ≤ t.val ∧ t.val < 512 * q.val + 512)) :
    (diag K x3 x4 x8 x9 q σ).dcq (ix3 0 r t) = σ.dcq (ix3 0 r t) :=
  (diagB_dcq_out K x3 x4 x8 x9 q _ r t (by omega)).trans (diagA_dcq_out K x3 x4 x8 x9 q σ r t hs)

theorem diag_dq_out (d : Fin 128) (t : Fin 16384) (hs : ¬ (512 * q.val ≤ t.val ∧ t.val < 512 * q.val + 512)) :
    (diag K x3 x4 x8 x9 q σ).dq (ix2 d t) = σ.dq (ix2 d t) :=
  (diagB_dq_out K x3 x4 x8 x9 q _ d t (by omega)).trans (diagA_dq_out K x3 x4 x8 x9 q σ d t hs)

/-! ### All blocks of queries up to one -/

theorem upto_zero : upto K x3 x4 x8 x9 q.val σ 0 = diag K x3 x4 x8 x9 q σ := by
  show diagB K x3 x4 x8 x9 ⟨q.val % 32, _⟩ (diagA K x3 x4 x8 x9 ⟨q.val % 32, _⟩ σ) = _
  have e : (⟨q.val % 32, Nat.mod_lt _ (by omega)⟩ : Fin 32) = q := Fin.ext (Nat.mod_eq_of_lt q.isLt)
  rw [e]; rfl

theorem upto_succ (n : ℕ) (hn : q.val + n + 1 < 32) :
    upto K x3 x4 x8 x9 q.val σ (n + 1) = tile K x3 x4 x8 x9 ⟨q.val + n + 1, hn⟩ (upto K x3 x4 x8 x9 q.val σ n) := by
  show tile K x3 x4 x8 x9 ⟨(q.val + 1 + n) % 32, _⟩ _ = _
  have e : (⟨(q.val + 1 + n) % 32, Nat.mod_lt _ (by omega)⟩ : Fin 32) = ⟨q.val + n + 1, hn⟩ := Fin.ext (by show (q.val + 1 + n) % 32 = q.val + n + 1; omega)
  rw [e]

/-- The block a query lies in. -/
theorem in_block (q : Fin 32) (t : Fin 16384) (h : 512 * q.val ≤ t.val ∧ t.val < 512 * q.val + 512) : ∃ b, t = qat q b :=
  ⟨⟨t.val - 512 * q.val, by omega⟩, Fin.ext (by show t.val = 512 * q.val + (t.val - 512 * q.val); omega)⟩

theorem upto_dv (h : Fin 2) (d : Fin 128) (s : Fin 512) : ∀ n, q.val + n < 32 →
    (upto K x3 x4 x8 x9 q.val σ n).dv (ix3 h d s) = σ.dv (ix3 h d s) + pre (fun t => x4 (ix2 d t) * mw K x3 x8 q.val h s t) (512 * (q.val + n + 1))
  | 0, _ => by
    rw [upto_zero, diag_dv, Nat.add_zero, pre_block, pre_zero _ (512 * q.val) fun t ht => by
      rw [mw_neg K x3 x8 (by omega), mul_zero], zero_add]
  | n + 1, hn => by
    rw [upto_succ K x3 x4 x8 x9 q σ n (by omega), tile_dv, upto_dv h d s n (by omega), add_assoc]
    rw [show q.val + (n + 1) + 1 = (⟨q.val + n + 1, by omega⟩ : Fin 32).val + 1 from rfl, pre_block]
    refine congrArg (_ + ·) (congrArg (_ + ·) (Finset.sum_congr rfl fun b _ => ?_))
    rw [mw_pos K x3 x8 (by show 512 * q.val + s.val ≤ 512 * (q.val + n + 1) + b.val; omega)]

theorem upto_dk (h : Fin 2) (d : Fin 128) (s : Fin 512) : ∀ n, q.val + n < 32 →
    (upto K x3 x4 x8 x9 q.val σ n).dk (ix3 h d s) = σ.dk (ix3 h d s) + pre (fun t => x3 (ix2 d t) * mg K x3 x4 x8 x9 q.val h s t) (512 * (q.val + n + 1))
  | 0, _ => by
    rw [upto_zero, diag_dk, Nat.add_zero, pre_block, pre_zero _ (512 * q.val) fun t ht => by
      rw [mg_neg K x3 x4 x8 x9 (by omega), mul_zero], zero_add]
  | n + 1, hn => by
    rw [upto_succ K x3 x4 x8 x9 q σ n (by omega), tile_dk, upto_dk h d s n (by omega), add_assoc]
    rw [show q.val + (n + 1) + 1 = (⟨q.val + n + 1, by omega⟩ : Fin 32).val + 1 from rfl, pre_block]
    refine congrArg (_ + ·) (congrArg (_ + ·) (Finset.sum_congr rfl fun b _ => ?_))
    rw [mg_pos K x3 x4 x8 x9 (by show 512 * q.val + s.val ≤ 512 * (q.val + n + 1) + b.val; omega)]

theorem upto_dc (h : Fin 2) (s : Fin 512) : ∀ n, q.val + n < 32 →
    (upto K x3 x4 x8 x9 q.val σ n).dc (ix3 h s 0) = σ.dc (ix3 h s 0) + pre (fun t => mg K x3 x4 x8 x9 q.val h s t) (512 * (q.val + n + 1))
  | 0, _ => by
    rw [upto_zero, diag_dc, Nat.add_zero, pre_block, pre_zero _ (512 * q.val) fun t ht => by
      rw [mg_neg K x3 x4 x8 x9 (by omega)], zero_add]
  | n + 1, hn => by
    rw [upto_succ K x3 x4 x8 x9 q σ n (by omega), tile_dc, upto_dc h s n (by omega), add_assoc]
    rw [show q.val + (n + 1) + 1 = (⟨q.val + n + 1, by omega⟩ : Fin 32).val + 1 from rfl, pre_block]
    refine congrArg (_ + ·) (congrArg (_ + ·) (Finset.sum_congr rfl fun b _ => ?_))
    rw [mg_pos K x3 x4 x8 x9 (by show 512 * q.val + s.val ≤ 512 * (q.val + n + 1) + b.val; omega)]

theorem upto_dq (d : Fin 128) (t : Fin 16384) : ∀ n, q.val + n < 32 →
    (upto K x3 x4 x8 x9 q.val σ n).dq (ix2 d t) = σ.dq (ix2 d t) + if t.val < 512 * (q.val + n + 1) then qc K x3 x4 x8 x9 q.val d t else 0
  | 0, _ => by
    rw [upto_zero]
    by_cases ht : 512 * q.val ≤ t.val ∧ t.val < 512 * q.val + 512
    · rw [if_pos (by omega)]
      obtain ⟨b, rfl⟩ := in_block q t ht
      exact diag_dq K x3 x4 x8 x9 q σ d b
    · rw [diag_dq_out K x3 x4 x8 x9 q σ d t ht]
      split_ifs with h2
      · rw [qc_zero K x3 x4 x8 x9 (by omega), add_zero]
      · rw [add_zero]
  | n + 1, hn => by
    rw [upto_succ K x3 x4 x8 x9 q σ n (by omega)]
    by_cases ht : 512 * (q.val + n + 1) ≤ t.val ∧ t.val < 512 * (q.val + n + 1) + 512
    · rw [if_pos (by omega)]
      have e := upto_dq d t n (by omega)
      rw [if_neg (by omega), add_zero] at e
      obtain ⟨b, rfl⟩ := in_block ⟨q.val + n + 1, by omega⟩ t ht
      rw [tile_dq, e]
      refine congrArg (_ + ·) (congr (congrArg _ (Finset.sum_congr rfl fun s _ => ?_)) (Finset.sum_congr rfl fun s _ => ?_))
      all_goals rw [mg_pos K x3 x4 x8 x9 (by show 512 * q.val + s.val ≤ 512 * (q.val + n + 1) + b.val; omega)]
    · rw [tile_dq_out K x3 x4 x8 x9 ⟨q.val + n + 1, by omega⟩ _ d t ht, upto_dq d t n (by omega)]
      exact congrArg (_ + ·) (if_congr (by omega) rfl rfl)

theorem upto_dcq (r : Fin 8) (t : Fin 16384) : ∀ n, q.val + n < 32 →
    (upto K x3 x4 x8 x9 q.val σ n).dcq (ix3 0 r t) = σ.dcq (ix3 0 r t) + if t.val < 512 * (q.val + n + 1) then rc K x3 x4 x8 x9 q.val r t else 0
  | 0, _ => by
    rw [upto_zero]
    by_cases ht : 512 * q.val ≤ t.val ∧ t.val < 512 * q.val + 512
    · rw [if_pos (by omega)]
      obtain ⟨b, rfl⟩ := in_block q t ht
      by_cases hr : r.val < 2
      · unfold rc
        rw [dif_pos hr]
        exact diag_dcq K x3 x4 x8 x9 q σ ⟨r.val, hr⟩ b
      · unfold rc
        rw [dif_neg hr, add_zero]
        exact diag_dcq_out K x3 x4 x8 x9 q σ r _ fun hh => hr hh.1
    · rw [diag_dcq_out K x3 x4 x8 x9 q σ r t (fun hh => ht hh.2)]
      split_ifs with h2
      · rw [rc_zero K x3 x4 x8 x9 (by omega), add_zero]
      · rw [add_zero]
  | n + 1, hn => by
    rw [upto_succ K x3 x4 x8 x9 q σ n (by omega)]
    by_cases ht : 512 * (q.val + n + 1) ≤ t.val ∧ t.val < 512 * (q.val + n + 1) + 512
    · rw [if_pos (by omega)]
      have e := upto_dcq r t n (by omega)
      rw [if_neg (by omega), add_zero] at e
      obtain ⟨b, rfl⟩ := in_block ⟨q.val + n + 1, by omega⟩ t ht
      by_cases hr : r.val < 2
      · unfold rc
        rw [dif_pos hr]
        refine (tile_dcq K x3 x4 x8 x9 ⟨q.val + n + 1, by omega⟩ _ ⟨r.val, hr⟩ b).trans ?_
        refine congr (congrArg _ e) (Finset.sum_congr rfl fun s _ => ?_)
        rw [mg_pos K x3 x4 x8 x9 (by show 512 * q.val + s.val ≤ 512 * (q.val + n + 1) + b.val; omega)]
      · unfold rc
        rw [dif_neg hr, add_zero, ← e]
        exact tile_dcq_out K x3 x4 x8 x9 ⟨q.val + n + 1, by omega⟩ _ r _ fun hh => hr hh.1
    · rw [tile_dcq_out K x3 x4 x8 x9 ⟨q.val + n + 1, by omega⟩ _ r t (fun hh => ht hh.2), upto_dcq r t n (by omega)]
      exact congrArg (_ + ·) (if_congr (by omega) rfl rfl)

/-! ### All of them -/

section
variable (n : ℕ) (hn : q.val + n = 31)
include hn
theorem all_dv (h : Fin 2) (d : Fin 128) (s : Fin 512) :
    (upto K x3 x4 x8 x9 q.val σ n).dv (ix3 h d s) = σ.dv (ix3 h d s) + ∑ t : Fin 16384, x4 (ix2 d t) * mw K x3 x8 q.val h s t := by
  rw [upto_dv K x3 x4 x8 x9 q σ _ _ _ n (by omega), show 512 * (q.val + n + 1) = 16384 by omega, pre_all]

theorem all_dk (h : Fin 2) (d : Fin 128) (s : Fin 512) :
    (upto K x3 x4 x8 x9 q.val σ n).dk (ix3 h d s) = σ.dk (ix3 h d s) + ∑ t : Fin 16384, x3 (ix2 d t) * mg K x3 x4 x8 x9 q.val h s t := by
  rw [upto_dk K x3 x4 x8 x9 q σ _ _ _ n (by omega), show 512 * (q.val + n + 1) = 16384 by omega, pre_all]

theorem all_dc (h : Fin 2) (s : Fin 512) :
    (upto K x3 x4 x8 x9 q.val σ n).dc (ix3 h s 0) = σ.dc (ix3 h s 0) + ∑ t : Fin 16384, mg K x3 x4 x8 x9 q.val h s t := by
  rw [upto_dc K x3 x4 x8 x9 q σ _ _ n (by omega), show 512 * (q.val + n + 1) = 16384 by omega, pre_all]

theorem all_dq (d : Fin 128) (t : Fin 16384) :
    (upto K x3 x4 x8 x9 q.val σ n).dq (ix2 d t) = σ.dq (ix2 d t) + qc K x3 x4 x8 x9 q.val d t := by
  rw [upto_dq K x3 x4 x8 x9 q σ _ _ n (by omega), if_pos (by omega)]

theorem all_dcq (r : Fin 8) (t : Fin 16384) :
    (upto K x3 x4 x8 x9 q.val σ n).dcq (ix3 0 r t) = σ.dcq (ix3 0 r t) + rc K x3 x4 x8 x9 q.val r t := by
  rw [upto_dcq K x3 x4 x8 x9 q σ _ _ n (by omega), if_pos (by omega)]

end

end

end Cert.AttnIdeal.Sem
end
-- ==== Proof.AttnIdeal.Block.lean ====
/- A block of the grid: its operands, its weights and their gradients as real numbers. -/
module
public import proofs.«01_k».proof.Proof.AttnIdeal.Given
public import proofs.«01_k».proof.Proof.AttnIdeal.Total
@[expose] public section
set_option maxRecDepth 16384

noncomputable section

namespace Cert.AttnIdeal.Sem

open Cert.AttnIdeal Cert.AttnIdeal.Gen Cert.AttnIdeal.Body Idealize.ShloMosaic Idealize.ShloMosaic.TcCoe Idealize.SL.Sem
open Cert.Step Cert.Attend Cert.Win

variable (m : (ℓ : Loc nD τ sig) → Buf (Elt Ideal) ℓ) (dev : Dev nD)
variable {q k v g : Fin 16384 → Fin 512 → ℝ} {c : Fin 16384 → Fin 8 → ℝ}

/-- The pair of heads and the block of keys of a point. -/
def pj (t : Fin cfg0.N) : Fin 4 := ⟨t.val / 32, by have := lt_of_lt_of_eq t.isLt (show cfg0.N = 128 from N_0); omega⟩
def pk (t : Fin cfg0.N) : Fin 32 := ⟨t.val % 32, by omega⟩
theorem idx : ∀ t : Fin cfg0.N, win0_0.index t = ![t.val % 32, 4 + t.val / 32] ∧ win0_1.index t = ![t.val / 32, 0] ∧ win0_2.index t = ![t.val / 32, 0] ∧ win0_3.index t = ![4 + t.val / 32, t.val % 32] ∧ win0_4.index t = ![t.val % 32, 8 + t.val / 32] ∧ win0_5.index t = ![t.val % 32, 0] ∧ win0_6.index t = ![t.val / 32, 0, 0] ∧ win0_7.index t = ![t.val / 32, 0, 0] ∧ win0_8.index t = ![t.val / 32, 0] ∧ win0_9.index t = ![t.val / 32, t.val % 32] ∧ win0_10.index t = ![t.val / 32, t.val % 32] ∧ win0_11.index t = ![t.val / 32, t.val % 32, 0] ∧ win0_12.index t = ![t.val / 32, 0, 0] :=
  (by decide +kernel : ∀ t : Fin grid0.N, _)

variable (t : Fin cfg0.N)

theorem b0_at (s : Fin 512) (d : Fin 128) : iblk m dev 0 t (ix2 s d) = A9 m dev (ix2 ⟨t.val % 32 * 512 + s.val, by omega⟩ ⟨512 + (dcol (pj t) d).val, by omega⟩) := by
  unfold dcol pj
  blk_point [iblk, idx t]
theorem b1_at (d : Fin 128) (x : Fin 16384) : iblk m dev 1 t (ix2 d x) = A57 m dev (ix2 ⟨(dcol (pj t) d).val, by omega⟩ x) := by
  unfold dcol pj
  blk_point [iblk, idx t]
theorem b2_at (d : Fin 128) (x : Fin 16384) : iblk m dev 2 t (ix2 d x) = A59 m dev (ix2 (dcol (pj t) d) x) := by
  unfold dcol pj
  blk_point [iblk, idx t]
theorem b3_at (d : Fin 128) (s : Fin 512) : iblk m dev 3 t (ix2 d s) = A57 m dev (ix2 ⟨512 + (dcol (pj t) d).val, by omega⟩ ⟨t.val % 32 * 512 + s.val, by omega⟩) := by
  unfold dcol pj
  blk_point [iblk, idx t]
theorem b4_at (s : Fin 512) (d : Fin 128) : iblk m dev 4 t (ix2 s d) = A9 m dev (ix2 ⟨t.val % 32 * 512 + s.val, by omega⟩ ⟨1024 + (dcol (pj t) d).val, by omega⟩) := by
  unfold dcol pj
  blk_point [iblk, idx t]
theorem b5_at (s : Fin 512) (l : Fin 128) : iblk m dev 5 t (ix2 s l) = A12 m dev (ix2 ⟨t.val % 32 * 512 + s.val, by omega⟩ l) := by
  blk_point [iblk, idx t]
theorem b6_at (r : Fin 8) (x : Fin 16384) : iblk m dev 6 t (ix3 0 r x) = A62 m dev (ix3 (pj t) r x) := by
  unfold pj
  blk_point [iblk, idx t]
theorem b7_at (r : Fin 8) (x : Fin 16384) : iblk m dev 7 t (ix3 0 r x) = A64 m dev (ix3 (pj t) r x) := by
  unfold pj
  blk_point [iblk, idx t]

end Cert.AttnIdeal.Sem
end
-- ==== Proof.AttnIdeal.Weight.lean ====
/- A block's weights and the gradients of its scores are the attention's. -/
module
public import proofs.«01_k».proof.Proof.AttnIdeal.Block
@[expose] public section
set_option maxRecDepth 16384

noncomputable section

namespace Cert.AttnIdeal.Sem

open Cert.AttnIdeal Cert.AttnIdeal.Gen Cert.AttnIdeal.Body Idealize.ShloMosaic Idealize.ShloMosaic.TcCoe Idealize.SL.Sem
open Cert.Step Cert.Attend Cert.Win

theorem half0_at (x : Vec Ideal S512x128 .bf16) (s : Fin 512) (d : Fin 128) :
    half0 (F := Ideal) x (ix2 s d) = if d.val / 64 = (0 : Fin 2).val then x (ix2 s d) else 0 := by
  pointwise [half0, lane0]
  rw [sel_slt _ _ (by omega) (by omega)]
  exact if_congr (show d.val < 64 ↔ d.val / 64 = 0 by omega) rfl rfl

theorem half1_at (x : Vec Ideal S512x128 .bf16) (s : Fin 512) (d : Fin 128) :
    half1 (F := Ideal) x (ix2 s d) = if d.val / 64 = (1 : Fin 2).val then x (ix2 s d) else 0 := by
  pointwise [half1, lane0]
  rw [sel_slt _ _ (by omega) (by omega)]
  by_cases h : d.val < 64
  · rw [if_pos h, if_neg (show ¬ d.val / 64 = 1 by omega)]
  · rw [if_neg h, if_pos (show d.val / 64 = 1 by omega)]

theorem part0_at (x : Vec Ideal S128x512 .bf16) (d : Fin 128) (s : Fin 512) :
    part0 (F := Ideal) x (ix2 d s) = if d.val / 64 = (0 : Fin 2).val then x (ix2 d s) else 0 := by
  pointwise [part0, dim0]
  rw [sel_slt _ _ (by omega) (by omega)]
  exact if_congr (show d.val < 64 ↔ d.val / 64 = 0 by omega) rfl rfl

theorem part1_at (x : Vec Ideal S128x512 .bf16) (d : Fin 128) (s : Fin 512) :
    part1 (F := Ideal) x (ix2 d s) = if d.val / 64 = (1 : Fin 2).val then x (ix2 d s) else 0 := by
  pointwise [part1, dim0]
  rw [sel_slt _ _ (by omega) (by omega)]
  by_cases h : d.val < 64
  · rw [if_pos h, if_neg (show ¬ d.val / 64 = 1 by omega)]
  · rw [if_neg h, if_pos (show d.val / 64 = 1 by omega)]

theorem join_at (x : Vec Ideal S2x128x512 .f32) (d : Fin 128) (s : Fin 512) :
    join (F := Ideal) x (ix2 d s) = x (ix3 ⟨d.val / 64, by omega⟩ d s) := by
  have w0 : ∀ d s, (shapeCast S128x512 (VecWindow.window x ![0, 0, 0] S1x128x512.size inb_S2x128x512_S1x128x512_0_0_0) shapeCasts_S1x128x512_S128x512) (ix2 d s) = x (ix3 0 d s) := by
    intro d s
    refine Eq.trans (by pointwise []) (window3 x 0 0 0 0 d s inb_S2x128x512_S1x128x512_0_0_0 0 d s rfl (Nat.zero_add _).symm (Nat.zero_add _).symm)
  have w1 : ∀ d s, (shapeCast S128x512 (VecWindow.window x ![1, 0, 0] S1x128x512.size inb_S2x128x512_S1x128x512_1_0_0) shapeCasts_S1x128x512_S128x512) (ix2 d s) = x (ix3 1 d s) := by
    intro d s
    refine Eq.trans (by pointwise []) (window3 x 1 0 0 1 d s inb_S2x128x512_S1x128x512_1_0_0 0 d s rfl (Nat.zero_add _).symm (Nat.zero_add _).symm)
  have h2 := d.isLt
  unfold join
  refine Eq.trans (b := Scalar.select (dim0 (ix2 d 0)) (x (ix3 0 d s)) (x (ix3 1 d s))) ?_ ?_
  · rw [← w0, ← w1]
    pointwise []
  · unfold dim0
    pointwise []
    rw [sel_slt _ _ (by omega) (by omega)]
    split_ifs with h
    · exact congrArg (fun i => x (ix3 i d s)) (Fin.ext (show 0 = d.val / 64 by omega))
    · exact congrArg (fun i => x (ix3 i d s)) (Fin.ext (show 1 = d.val / 64 by omega))

/-- Which lanes a head's mask keeps. -/
theorem lane_is : ∀ (j : Fin 4) (h : Fin 2) (l : Fin 128),
    IntOp.cmpi .eq (IntOp.subi (BitVec.ofNat 32 l.val) (IntOp.muli 2#32 (BitVec.ofNat 32 j.val))) (BitVec.ofNat 32 h.val)
      = if l.val = 2 * j.val + h.val then 1#1 else 0#1 := by decide +kernel

theorem pick (j : Fin 4) (h : Fin 2) (f : Fin 128 → EReal) (b : Fin 128 → EReal)
    (hb : ∀ l, b l = if l.val = 2 * j.val + h.val then f l else 0) : ∑ l, b l = f ⟨2 * j.val + h.val, by omega⟩ := by
  rw [Finset.sum_congr rfl fun l _ => hb l, Finset.sum_eq_single (⟨2 * j.val + h.val, by omega⟩ : Fin 128)]
  · rw [if_pos rfl]
  · intro l _ hl
    exact if_neg fun e => hl (Fin.ext e)
  · intro hl
    exact absurd (Finset.mem_univ _) hl

theorem sel_bit {α : Type} (p : Prop) [Decidable p] (x y : α) : Scalar.select (if p then 1#1 else 0#1) x y = if p then x else y := by
  split_ifs <;> rfl

theorem bias_at (t : Fin grid0.N) (j : Fin 4) (hj : (grid0.coords t 0).val = j.val) (h : Fin 2) (x : Vec Ideal S512x128 .f32) (s : Fin 512) :
    bias (F := Ideal) (grid0.coords t) (BitVec.ofNat 32 h.val) x (ix2 s 0) = x (ix2 s ⟨2 * j.val + h.val, by omega⟩) := by
  pointwise [bias, heads]
  refine pick j h (fun l => x (ix2 s l)) _ fun l => ?_
  have e : Scalar.muli 2#32 (BitVec.ofNat 32 (grid0.coords t 0).val) = IntOp.muli 2#32 (BitVec.ofNat 32 j.val) := by rw [hj]; rfl
  first
    | rw [e]
    | skip
  rw [lane_is, sel_bit]

end Cert.AttnIdeal.Sem
end
-- ==== Proof.AttnIdeal.Real.lean ====
/- A block's weights and the gradients of its scores, as real numbers, are the attention's. -/
module
public import proofs.«01_k».proof.Proof.AttnIdeal.Weight
@[expose] public section
set_option maxRecDepth 16384

noncomputable section

namespace Cert.AttnIdeal.Sem

open Cert.AttnIdeal Cert.AttnIdeal.Gen Cert.AttnIdeal.Body Idealize.ShloMosaic Idealize.ShloMosaic.TcCoe Idealize.SL.Sem
open Cert.Step Cert.Attend Cert.Win

variable {m : (ℓ : Loc nD τ sig) → Buf (Elt Ideal) ℓ} {dev : Dev nD}
variable {q k v g : Fin 16384 → Fin 512 → ℝ} {c : Fin 16384 → Fin 8 → ℝ}
variable (R : Reals m dev q k v g c) (t : Fin cfg0.N)
include R

/-- The block's operands. -/
abbrev KK (m : (ℓ : Loc nD τ sig) → Buf (Elt Ideal) ℓ) (dev : Dev nD) (t : Fin cfg0.N) : Keys Ideal :=
  keys (grid0.coords t) (iblk m dev 0 t) (iblk m dev 3 t) (iblk m dev 4 t) (iblk m dev 5 t)

omit R in
theorem coord0 : ∀ t : Fin grid0.N, (grid0.coords t 0).val = t.val / 32 := by decide +kernel

omit R in
theorem tr_at (i : Fin 1536) (x : Fin 16384) : A57 m dev (ix2 i x) = A9 m dev (ix2 x i) := by
  rw [A57_eq]
  pointwise []

theorem x3_at (d : Fin 128) (x : Fin 16384) : iblk m dev 1 t (ix2 d x) = ((q x (dcol (pj t) d) * (1 / 8 / Real.log 2) : ℝ) : EReal) := by
  rw [b1_at, tr_at]
  exact q_at R x (dcol (pj t) d)

theorem x4_at (d : Fin 128) (x : Fin 16384) : iblk m dev 2 t (ix2 d x) = ((g x (dcol (pj t) d) : ℝ) : EReal) := by
  rw [b2_at]
  exact g_at R _ x

theorem x8_at (h : Fin 2) (x : Fin 16384) : iblk m dev 6 t (ix3 0 (up h) x) = ((-(Real.log (norm q k c (ph (pj t) h) x) / Real.log 2) : ℝ) : EReal) := by
  rw [b6_at]
  exact al_pair R (pj t) h x

theorem x9_at (h : Fin 2) (x : Fin 16384) : iblk m dev 7 t (ix3 0 (up h) x) = ((dl q k v g c (ph (pj t) h) x : ℝ) : EReal) := by
  rw [b7_at]
  exact dl_pair R (pj t) h x

theorem k_blk (s : Fin 512) (d : Fin 128) : iblk m dev 0 t (ix2 s d) = ((k (key (pk t) s) (dcol (pj t) d) : ℝ) : EReal) := by
  rw [b0_at]
  exact k_at R (key (pk t) s) (dcol (pj t) d)

theorem kt_blk (d : Fin 128) (s : Fin 512) : iblk m dev 3 t (ix2 d s) = ((k (key (pk t) s) (dcol (pj t) d) : ℝ) : EReal) := by
  rw [b3_at, tr_at]
  exact k_at R (key (pk t) s) (dcol (pj t) d)

theorem v_blk (s : Fin 512) (d : Fin 128) : iblk m dev 4 t (ix2 s d) = ((v (key (pk t) s) (dcol (pj t) d) : ℝ) : EReal) := by
  rw [b4_at]
  exact v_at R (key (pk t) s) (dcol (pj t) d)

theorem kk_at (h : Fin 2) (s : Fin 512) (d : Fin 128) :
    (![(KK m dev t).k0, (KK m dev t).k1] h) (ix2 s d) = if d.val / 64 = h.val then ((k (key (pk t) s) (dcol (pj t) d) : ℝ) : EReal) else 0 := by
  rw [← k_blk R]
  fin_cases h
  · exact half0_at _ s d
  · exact half1_at _ s d

theorem vv_at (h : Fin 2) (s : Fin 512) (d : Fin 128) :
    (![(KK m dev t).v0, (KK m dev t).v1] h) (ix2 s d) = if d.val / 64 = h.val then ((v (key (pk t) s) (dcol (pj t) d) : ℝ) : EReal) else 0 := by
  rw [← v_blk R]
  fin_cases h
  · exact half0_at _ s d
  · exact half1_at _ s d

theorem tt0_at (d : Fin 128) (s : Fin 512) :
    (KK m dev t).t0 (ix2 d s) = if d.val / 64 = 0 then ((k (key (pk t) s) (dcol (pj t) d) : ℝ) : EReal) else 0 := by
  rw [← kt_blk R]
  exact part0_at _ d s

theorem tt1_at (d : Fin 128) (s : Fin 512) :
    (KK m dev t).t1 (ix2 d s) = if d.val / 64 = 1 then ((k (key (pk t) s) (dcol (pj t) d) : ℝ) : EReal) else 0 := by
  rw [← kt_blk R]
  exact part1_at _ d s

theorem c_blk (h : Fin 2) (s : Fin 512) (l : Fin 128) (hl : l.val = 2 * (pj t).val + h.val) :
    iblk m dev 5 t (ix2 s l) = ((c (key (pk t) s) (ph (pj t) h) / Real.log 2 : ℝ) : EReal) := by
  rw [b5_at, ← c_at R]
  exact congrArg (A12 m dev) (congrArg (ix2 _) (Fin.ext hl))

theorem cc_at (h : Fin 2) (s : Fin 512) :
    (![(KK m dev t).c0, (KK m dev t).c1] h) (ix2 s 0) = ((c (key (pk t) s) (ph (pj t) h) / Real.log 2 : ℝ) : EReal) := by
  fin_cases h
  · exact (bias_at t (pj t) (coord0 t) 0 _ s).trans (c_blk R t 0 s _ rfl)
  · exact (bias_at t (pj t) (coord0 t) 1 _ s).trans (c_blk R t 1 s _ rfl)

omit R in
/-- A sum over a pair's dimensions against keys or values of one head. -/
theorem head_dot (h : Fin 2) (a b : Fin 128 → ℝ) :
    ∑ d : Fin 128, (if d.val / 64 = h.val then ((a d : ℝ) : EReal) else 0) * ((b d : ℝ) : EReal)
      = ((∑ e : Fin 64, a ⟨h.val * 64 + e.val, by omega⟩ * b ⟨h.val * 64 + e.val, by omega⟩ : ℝ) : EReal) := by
  rw [Finset.sum_congr rfl (g := fun d : Fin 128 => if d.val / 64 = h.val then (((a d * b d : ℝ)) : EReal) else 0) fun d _ => by
    split_ifs
    · rw [EReal.coe_mul]
    · rw [zero_mul]]
  rw [head_sum h (fun d => (((a d * b d : ℝ)) : EReal)), coe_sum]

theorem ks_at (h : Fin 2) (s : Fin 512) (x : Fin 16384) :
    ∑ d : Fin 128, (![(KK m dev t).k0, (KK m dev t).k1] h) (ix2 s d) * iblk m dev 1 t (ix2 d x)
      = (((∑ e : Fin 64, q x (col (ph (pj t) h) e) * k (key (pk t) s) (col (ph (pj t) h) e)) * (1 / 8 / Real.log 2) : ℝ) : EReal) := by
  simp only [kk_at R, x3_at R]
  rw [head_dot]
  refine congrArg Real.toEReal ?_
  rw [Finset.sum_mul]
  refine Finset.sum_congr rfl fun e _ => ?_
  rw [dcol_head]
  ring

theorem vs_at (h : Fin 2) (s : Fin 512) (x : Fin 16384) :
    ∑ d : Fin 128, (![(KK m dev t).v0, (KK m dev t).v1] h) (ix2 s d) * iblk m dev 2 t (ix2 d x)
      = ((dp v g (ph (pj t) h) x (key (pk t) s) : ℝ) : EReal) := by
  simp only [vv_at R, x4_at R]
  rw [head_dot]
  refine congrArg Real.toEReal ?_
  unfold dp
  refine Finset.sum_congr rfl fun e _ => ?_
  rw [dcol_head]
  ring

theorem mw_real (h : Fin 2) (s : Fin 512) (x : Fin 16384) :
    mw (KK m dev t) (iblk m dev 1 t) (iblk m dev 6 t) (pk t).val h s x = ((pr q k c (ph (pj t) h) x (key (pk t) s) : ℝ) : EReal) := by
  by_cases hm : 512 * (pk t).val + s.val ≤ x.val
  · rw [mw_pos _ _ _ hm]
    unfold wt
    rw [ks_at R, x8_at R, cc_at R]
    rw [← EReal.coe_sub, ← EReal.coe_add, Ideal.exp2_coe]
    refine congrArg Real.toEReal ?_
    have hp := norm_pos q k c (ph (pj t) h) x
    unfold pr ex
    rw [if_pos (show (key (pk t) s).val ≤ x.val from (show (pk t).val * 512 + s.val ≤ x.val by omega))]
    refine (congrArg (Real.rpow 2) ?_).trans ((rpow_log (sc q k c (ph (pj t) h) x (key (pk t) s) - Real.log (norm q k c (ph (pj t) h) x))).trans ?_)
    · unfold sc
      have := ln_ne
      field_simp
      ring
    · rw [Real.exp_sub, Real.exp_log hp]
  · rw [mw_neg _ _ _ hm, pr_late _ _ _ _ _ _ (show ¬ (pk t).val * 512 + s.val ≤ x.val by omega)]
    rfl

theorem mg_real (h : Fin 2) (s : Fin 512) (x : Fin 16384) :
    mg (KK m dev t) (iblk m dev 1 t) (iblk m dev 2 t) (iblk m dev 6 t) (iblk m dev 7 t) (pk t).val h s x
      = ((ds q k v g c (ph (pj t) h) x (key (pk t) s) : ℝ) : EReal) := by
  by_cases hm : 512 * (pk t).val + s.val ≤ x.val
  · have e := mw_real R t h s x
    rw [mw_pos _ _ _ hm] at e
    rw [mg_pos _ _ _ _ _ hm]
    unfold gt
    rw [e, vs_at R, x9_at R, ← EReal.coe_sub, ← EReal.coe_mul]
    rfl
  · rw [mg_neg _ _ _ _ _ hm, ds_late _ _ _ _ _ _ _ _ (show ¬ (pk t).val * 512 + s.val ≤ x.val by omega)]
    rfl

/-- A block's share of a query's gradient, and of its bias's. -/
theorem qc_real (d : Fin 128) (x : Fin 16384) :
    qc (KK m dev t) (iblk m dev 1 t) (iblk m dev 2 t) (iblk m dev 6 t) (iblk m dev 7 t) (pk t).val d x
      = ((∑ s : Fin 512, ds q k v g c (hd (dcol (pj t) d)) x (key (pk t) s) * k (key (pk t) s) (dcol (pj t) d) : ℝ) : EReal) := by
  unfold qc
  simp only [tt0_at R, tt1_at R, mg_real R]
  by_cases h : d.val / 64 = 0
  · simp only [h, if_true, show ¬ (0 = 1) from by omega, if_false, zero_mul, Finset.sum_const_zero, add_zero]
    refine sum_eq _ _ fun s => ?_
    rw [← EReal.coe_mul, hd_dcol (pj t) 0 d h, mul_comm]
  · have h1 : d.val / 64 = 1 := by omega
    simp only [h1, if_true, show ¬ (1 = 0) from by omega, if_false, zero_mul, Finset.sum_const_zero, zero_add]
    refine sum_eq _ _ fun s => ?_
    rw [← EReal.coe_mul, hd_dcol (pj t) 1 d h1, mul_comm]

theorem rc_real (r : Fin 8) (hr : r.val < 2) (x : Fin 16384) :
    rc (KK m dev t) (iblk m dev 1 t) (iblk m dev 2 t) (iblk m dev 6 t) (iblk m dev 7 t) (pk t).val r x
      = ((∑ s : Fin 512, ds q k v g c (ph (pj t) ⟨r.val, hr⟩) x (key (pk t) s) : ℝ) : EReal) := by
  unfold rc
  rw [dif_pos hr]
  exact sum_eq _ _ fun s => mg_real R t ⟨r.val, hr⟩ s x

end Cert.AttnIdeal.Sem
end
-- ==== Proof.AttnIdeal.Acc.lean ====
/- The accumulators at a point of the grid, and what it writes of them, as real numbers. -/
module
public import proofs.«01_k».proof.Proof.AttnIdeal.Real
public import proofs.«01_k».proof.Proof.AttnIdeal.Run
public import proofs.«01_k».proof.Proof.Steps
@[expose] public section
set_option maxRecDepth 16384

noncomputable section

namespace Cert.AttnIdeal.Sem

open Cert.AttnIdeal Cert.AttnIdeal.Gen Cert.AttnIdeal.Body Idealize.ShloMosaic Idealize.ShloMosaic.TcCoe Idealize.SL.Sem
open Cert.Step Cert.Attend Cert.Win

variable {m : (ℓ : Loc nD τ sig) → Buf (Elt Ideal) ℓ} {dev : Dev nD}
variable {q k v g : Fin 16384 → Fin 512 → ℝ} {c : Fin 16384 → Fin 8 → ℝ}

/-! ### Where a block starts -/

/-- What a pair's first block finds, and clears. -/
def noq : Vec Ideal S128x16384 .f32 := fun _ => (0 : EReal)
def nocq : Vec Ideal S1x8x16384 .f32 := fun _ => (0 : EReal)

theorem start_dk (kj : ℕ) (dq : Vec Ideal S128x16384 .f32) (dcq : Vec Ideal S1x8x16384 .f32) (h : Fin 2) (d : Fin 128) (s : Fin 512) : (start (F := Ideal) kj dq dcq).dk (ix3 h d s) = 0 := by pointwise [start]
theorem start_dv (kj : ℕ) (dq : Vec Ideal S128x16384 .f32) (dcq : Vec Ideal S1x8x16384 .f32) (h : Fin 2) (d : Fin 128) (s : Fin 512) : (start (F := Ideal) kj dq dcq).dv (ix3 h d s) = 0 := by pointwise [start]
theorem start_dc (kj : ℕ) (dq : Vec Ideal S128x16384 .f32) (dcq : Vec Ideal S1x8x16384 .f32) (h : Fin 2) (s : Fin 512) : (start (F := Ideal) kj dq dcq).dc (ix3 h s 0) = 0 := by pointwise [start]

theorem acc_some (t : Fin cfg0.N) : ∃ dq dcq, accAt m dev t.val t.isLt = doneAt m dev t dq dcq := by
  by_cases h : t.val % 32 = 0
  · exact ⟨noq, nocq, accAt_first m dev t h _ _⟩
  · exact ⟨_, _, accAt_next m dev t h⟩

/-- A point's accumulators. -/
theorem done_eq (t : Fin cfg0.N) (dq : Vec Ideal S128x16384 .f32) (dcq : Vec Ideal S1x8x16384 .f32) :
    doneAt m dev t dq dcq = upto (KK m dev t) (iblk m dev 1 t) (iblk m dev 2 t) (iblk m dev 6 t) (iblk m dev 7 t) (pk t).val (start (t.val % 32) dq dcq) (31 - (pk t).val) := rfl

section
variable (R : Reals m dev q k v g c) (t : Fin cfg0.N)
include R

theorem dv_acc (h : Fin 2) (d : Fin 128) (s : Fin 512) :
    (accAt m dev t.val t.isLt).dv (ix3 h d s) = ((∑ x, pr q k c (ph (pj t) h) x (key (pk t) s) * g x (dcol (pj t) d) : ℝ) : EReal) := by
  obtain ⟨a, b, e⟩ := acc_some (m := m) (dev := dev) t
  rw [e, done_eq, all_dv _ _ _ _ _ (pk t) _ _ (by omega), start_dv, zero_add]
  refine sum_eq _ _ fun x => ?_
  rw [mw_real R, x4_at R, ← EReal.coe_mul, mul_comm]

theorem dk_acc (h : Fin 2) (d : Fin 128) (s : Fin 512) :
    (accAt m dev t.val t.isLt).dk (ix3 h d s)
      = (((∑ x, ds q k v g c (ph (pj t) h) x (key (pk t) s) * q x (dcol (pj t) d)) * (1 / 8 / Real.log 2) : ℝ) : EReal) := by
  obtain ⟨a, b, e⟩ := acc_some (m := m) (dev := dev) t
  rw [e, done_eq, all_dk _ _ _ _ _ (pk t) _ _ (by omega), start_dk, zero_add, Finset.sum_mul]
  refine sum_eq _ _ fun x => ?_
  rw [mg_real R, x3_at R, ← EReal.coe_mul]
  refine congrArg Real.toEReal ?_
  ring

theorem dc_acc (h : Fin 2) (s : Fin 512) :
    (accAt m dev t.val t.isLt).dc (ix3 h s 0) = ((∑ x, ds q k v g c (ph (pj t) h) x (key (pk t) s) : ℝ) : EReal) := by
  obtain ⟨a, b, e⟩ := acc_some (m := m) (dev := dev) t
  rw [e, done_eq, all_dc _ _ _ _ _ (pk t) _ _ (by omega), start_dc, zero_add]
  exact sum_eq _ _ fun x => mg_real R t h s x
end

/-- A key's term of a query's gradient, and of its bias's. -/
def tq (q k v g : Fin 16384 → Fin 512 → ℝ) (c : Fin 16384 → Fin 8 → ℝ) (i : Fin 512) (x : Fin 16384) (l : ℕ) : ℝ :=
  if h : l < 16384 then ds q k v g c (hd i) x ⟨l, h⟩ * k ⟨l, h⟩ i else 0
def tc (q k v g : Fin 16384 → Fin 512 → ℝ) (c : Fin 16384 → Fin 8 → ℝ) (H : Fin 8) (x : Fin 16384) (l : ℕ) : ℝ :=
  if h : l < 16384 then ds q k v g c H x ⟨l, h⟩ else 0

theorem pj_next (n : ℕ) (hn : n + 1 < cfg0.N) (h : ¬ (n + 1) % 32 = 0) : pj ⟨n + 1, hn⟩ = pj ⟨n, Nat.lt_of_succ_lt hn⟩ :=
  Fin.ext (show (n + 1) / 32 = n / 32 by omega)

section
variable (R : Reals m dev q k v g c)
include R

theorem qc_tq (t : Fin cfg0.N) (d : Fin 128) (x : Fin 16384) :
    qc (KK m dev t) (iblk m dev 1 t) (iblk m dev 2 t) (iblk m dev 6 t) (iblk m dev 7 t) (pk t).val d x
      = ((∑ s : Fin 512, tq q k v g c (dcol (pj t) d) x (t.val % 32 * 512 + s.val) : ℝ) : EReal) := by
  rw [qc_real R]
  refine congrArg Real.toEReal (Finset.sum_congr rfl fun s _ => ?_)
  unfold tq
  rw [dif_pos (show t.val % 32 * 512 + s.val < 16384 by omega)]
  rfl

theorem rc_tc (t : Fin cfg0.N) (r : Fin 8) (hr : r.val < 2) (x : Fin 16384) :
    rc (KK m dev t) (iblk m dev 1 t) (iblk m dev 2 t) (iblk m dev 6 t) (iblk m dev 7 t) (pk t).val r x
      = ((∑ s : Fin 512, tc q k v g c (ph (pj t) ⟨r.val, hr⟩) x (t.val % 32 * 512 + s.val) : ℝ) : EReal) := by
  rw [rc_real R t r hr]
  refine congrArg Real.toEReal (Finset.sum_congr rfl fun s _ => ?_)
  unfold tc
  rw [dif_pos (show t.val % 32 * 512 + s.val < 16384 by omega)]
  rfl

theorem dq_first (t : Fin cfg0.N) (h : t.val % 32 = 0) (d : Fin 128) (x : Fin 16384) :
    (accAt m dev t.val t.isLt).dq (ix2 d x)
      = ((∑ i ∈ Finset.range (t.val % 32 + 1), ∑ s : Fin 512, tq q k v g c (dcol (pj t) d) x (i * 512 + s.val) : ℝ) : EReal) := by
  rw [accAt_first m dev t h noq nocq,
    done_eq, all_dq _ _ _ _ _ (pk t) _ _ (by omega), qc_tq R]
  have z : (start (F := Ideal) (t.val % 32) noq nocq).dq (ix2 d x) = 0 := by
    unfold start
    dsimp only
    rw [if_pos h]
    pointwise []
  rw [z, zero_add, h, Finset.sum_range_one]

theorem dcq_first (t : Fin cfg0.N) (h : t.val % 32 = 0) (r : Fin 8) (x : Fin 16384) :
    (accAt m dev t.val t.isLt).dcq (ix3 0 r x)
      = if hr : r.val < 2 then ((∑ i ∈ Finset.range (t.val % 32 + 1), ∑ s : Fin 512, tc q k v g c (ph (pj t) ⟨r.val, hr⟩) x (i * 512 + s.val) : ℝ) : EReal) else 0 := by
  rw [accAt_first m dev t h noq nocq,
    done_eq, all_dcq _ _ _ _ _ (pk t) _ _ (by omega)]
  have z : (start (F := Ideal) (t.val % 32) noq nocq).dcq (ix3 0 r x) = 0 := by
    unfold start
    dsimp only
    rw [if_pos h]
    pointwise []
  rw [z, zero_add]
  split_ifs with hr
  · rw [rc_tc R t r hr, h, Finset.sum_range_one]
  · exact dif_neg hr

theorem dq_acc (d : Fin 128) (x : Fin 16384) : ∀ (n : ℕ) (hn : n < cfg0.N), (accAt m dev n hn).dq (ix2 d x)
      = ((∑ i ∈ Finset.range (n % 32 + 1), ∑ s : Fin 512, tq q k v g c (dcol (pj ⟨n, hn⟩) d) x (i * 512 + s.val) : ℝ) : EReal)
  | 0, hn => dq_first R ⟨0, hn⟩ rfl d x
  | n + 1, hn => by
    by_cases h : (n + 1) % 32 = 0
    · exact dq_first R ⟨n + 1, hn⟩ h d x
    · have e := accAt_next m dev ⟨n + 1, hn⟩ h
      refine (congrArg (fun σ : St Ideal => σ.dq (ix2 d x)) e).trans ?_
      rw [done_eq, all_dq _ _ _ _ _ (pk ⟨n + 1, hn⟩) _ _ (by omega), qc_tq R]
      have z : ∀ (a : Vec Ideal S128x16384 .f32) (b : Vec Ideal S1x8x16384 .f32), (start (F := Ideal) ((n + 1) % 32) (outQ (n % 32) a) b).dq (ix2 d x) = a (ix2 d x) := by
        intro a b
        unfold start outQ
        dsimp only
        rw [if_neg h, if_neg (by omega)]
      refine (congrArg (· + _) ((z _ _).trans (dq_acc d x n (Nat.lt_of_succ_lt hn)))).trans ?_
      rw [← EReal.coe_add, pj_next n hn h]
      refine congrArg Real.toEReal ?_
      rw [show (n + 1) % 32 + 1 = n % 32 + 1 + 1 by omega, Finset.sum_range_succ _ (n % 32 + 1)]
      rw [show n % 32 + 1 = (n + 1) % 32 by omega]

theorem dcq_acc (r : Fin 8) (x : Fin 16384) : ∀ (n : ℕ) (hn : n < cfg0.N), (accAt m dev n hn).dcq (ix3 0 r x)
      = if hr : r.val < 2 then ((∑ i ∈ Finset.range (n % 32 + 1), ∑ s : Fin 512, tc q k v g c (ph (pj ⟨n, hn⟩) ⟨r.val, hr⟩) x (i * 512 + s.val) : ℝ) : EReal) else 0
  | 0, hn => dcq_first R ⟨0, hn⟩ rfl r x
  | n + 1, hn => by
    by_cases h : (n + 1) % 32 = 0
    · exact dcq_first R ⟨n + 1, hn⟩ h r x
    · have e := accAt_next m dev ⟨n + 1, hn⟩ h
      refine (congrArg (fun σ : St Ideal => σ.dcq (ix3 0 r x)) e).trans ?_
      rw [done_eq, all_dcq _ _ _ _ _ (pk ⟨n + 1, hn⟩) _ _ (by omega)]
      have z : ∀ (a : Vec Ideal S128x16384 .f32) (b : Vec Ideal S1x8x16384 .f32), (start (F := Ideal) ((n + 1) % 32) a b).dcq (ix3 0 r x) = b (ix3 0 r x) := by
        intro a b
        unfold start
        dsimp only
        rw [if_neg h]
      refine (congrArg (· + _) ((z _ _).trans (dcq_acc r x n (Nat.lt_of_succ_lt hn)))).trans ?_
      split_ifs with hr
      · rw [rc_tc R _ r hr, ← EReal.coe_add, pj_next n hn h]
        refine congrArg Real.toEReal ?_
        rw [show (n + 1) % 32 + 1 = n % 32 + 1 + 1 by omega, Finset.sum_range_succ _ (n % 32 + 1)]
        rw [show n % 32 + 1 = (n + 1) % 32 by omega]
      · exact (zero_add _).trans (dif_neg hr)

/-! ### What is written out -/

variable (t : Fin cfg0.N)

theorem dq_out (h : t.val % 32 = 31) (d : Fin 128) (x : Fin 16384) :
    outQ (F := Ideal) (t.val % 32) (accAt m dev t.val t.isLt).dq (ix2 d x) = ((dq q k v g c x (dcol (pj t) d) : ℝ) : EReal) := by
  unfold outQ
  rw [if_pos h]
  have e : ∀ a : Vec Ideal S128x16384 .f32, scaleQ a (ix2 d x) = a (ix2 d x) * ((1 / 8 : ℝ) : EReal) := by
    intro a
    rw [← eighth]
    pointwise [scaleQ]
  rw [e, dq_acc R d x t.val t.isLt, h, ← EReal.coe_mul]
  refine congrArg Real.toEReal ?_
  rw [sum_steps (L := 16384) 32 512 _ rfl]
  unfold dq
  rw [mul_one_div]
  refine congrArg (· / 8) (Finset.sum_congr rfl fun s _ => ?_)
  unfold tq
  rw [dif_pos s.isLt]

theorem dcq_out (h : t.val % 32 = 31) (r : Fin 8) (x : Fin 16384) :
    (accAt m dev t.val t.isLt).dcq (ix3 0 r x)
      = if hr : r.val < 2 then ((dcq q k v g c x (ph (pj t) ⟨r.val, hr⟩) : ℝ) : EReal) else 0 := by
  rw [dcq_acc R r x t.val t.isLt]
  split_ifs with hr
  · refine congrArg Real.toEReal ?_
    rw [h, sum_steps (L := 16384) 32 512 _ rfl]
    unfold dcq
    refine Finset.sum_congr rfl fun s _ => ?_
    unfold tc
    rw [dif_pos s.isLt]
  · rfl

theorem dk_out (d : Fin 128) (s : Fin 512) :
    outK (F := Ideal) (accAt m dev t.val t.isLt).dk (ix2 d s) = ((dk q k v g c (key (pk t) s) (dcol (pj t) d) : ℝ) : EReal) := by
  have e : ∀ a : Vec Ideal S2x128x512 .f32, outK a (ix2 d s) = join a (ix2 d s) * ((Real.log 2 : ℝ) : EReal) := by
    intro a
    rw [← (IdealRules.named_const.ideal_named_scalar _ _ _ _ rfl : Named.named (F := Ideal) Cert.AttnIdeal.κ "ln2" (φ := .f32) 0x3F317218#32 = ((Real.log 2 : ℝ) : EReal))]
    pointwise [outK]
  rw [e, join_at, dk_acc R, ← EReal.coe_mul]
  refine congrArg Real.toEReal ?_
  unfold dk
  rw [hd_dcol (pj t) ⟨d.val / 64, by omega⟩ d rfl]
  have := ln_ne
  field_simp

theorem dv_out (d : Fin 128) (s : Fin 512) :
    outV (F := Ideal) (accAt m dev t.val t.isLt).dv (ix2 d s) = ((dv q k g c (key (pk t) s) (dcol (pj t) d) : ℝ) : EReal) := by
  have e : ∀ a : Vec Ideal S2x128x512 .f32, outV a (ix2 d s) = join a (ix2 d s) := by
    intro a
    pointwise [outV]
  rw [e, join_at, dv_acc R]
  unfold dv
  rw [hd_dcol (pj t) ⟨d.val / 64, by omega⟩ d rfl]
end

theorem lane_fst : ∀ (j : Fin 4) (l : Fin 128), IntOp.cmpi .eq (BitVec.ofNat 32 l.val) (IntOp.muli 2#32 (BitVec.ofNat 32 j.val)) = if l.val = 2 * j.val then 1#1 else 0#1 := by decide +kernel
theorem lane_snd : ∀ (j : Fin 4) (l : Fin 128), IntOp.cmpi .eq (BitVec.ofNat 32 l.val) (IntOp.addi (IntOp.muli 2#32 (BitVec.ofNat 32 j.val)) 1#32) = if l.val = 2 * j.val + 1 then 1#1 else 0#1 := by decide +kernel

theorem neg_at (x : Vec Ideal S1x512x1 .f32) (s : Fin 512) : neg0 (F := Ideal) x (ix2 s 0) = 0 - x (ix3 0 s 0) := by
  pointwise [neg0]

theorem lay_at (l0 l1 : IVec S1x128 1) (a b : FVec Ideal S512x1 .f32) (s : Fin 512) (l : Fin 128) :
    lay (F := Ideal) l0 l1 a b (ix3 0 s l) = Scalar.select (l0 (ix2 0 l)) (a (ix2 s 0)) (Scalar.select (l1 (ix2 0 l)) (b (ix2 s 0)) 0) := by
  pointwise [lay]

theorem outC_at (t : Fin grid0.N) (j : Fin 4) (hj : (grid0.coords t 0).val = j.val) (x : Vec Ideal S2x512x1 .f32) (s : Fin 512) (l : Fin 128) :
    outC (F := Ideal) (grid0.coords t) x (ix3 0 s l)
      = if l.val = 2 * j.val then 0 - x (ix3 0 s 0) else if l.val = 2 * j.val + 1 then 0 - x (ix3 1 s 0) else 0 := by
  unfold outC
  rw [lay_at, neg_at, neg_at, window3 x 0 0 0 0 s 0 inb_S2x512x1_S1x512x1_0_0_0 0 s 0 rfl (Nat.zero_add _).symm rfl,
    window3 x 1 0 0 1 s 0 inb_S2x512x1_S1x512x1_1_0_0 0 s 0 rfl (Nat.zero_add _).symm rfl, hj]
  have e0 : laneIs (Scalar.muli 2#32 (BitVec.ofNat 32 j.val)) (ix2 0 l) = IntOp.cmpi .eq (BitVec.ofNat 32 l.val) (IntOp.muli 2#32 (BitVec.ofNat 32 j.val)) := by
    pointwise [laneIs]
    rfl
  have e1 : laneIs (Scalar.addi (Scalar.muli 2#32 (BitVec.ofNat 32 j.val)) 1#32) (ix2 0 l) = IntOp.cmpi .eq (BitVec.ofNat 32 l.val) (IntOp.addi (IntOp.muli 2#32 (BitVec.ofNat 32 j.val)) 1#32) := by
    pointwise [laneIs]
    rfl
  rw [e0, e1, lane_fst, lane_snd, sel_bit, sel_bit]

theorem dc_out (R : Reals m dev q k v g c) (t : Fin cfg0.N) (s : Fin 512) (l : Fin 128) :
    outC (F := Ideal) (grid0.coords t) (accAt m dev t.val t.isLt).dc (ix3 0 s l)
      = if h : 2 * (pj t).val ≤ l.val ∧ l.val < 2 * (pj t).val + 2 then ((dck q k v g c (key (pk t) s) ⟨l.val, by omega⟩ : ℝ) : EReal) else 0 := by
  rw [outC_at t (pj t) (coord0 t), dc_acc R, dc_acc R]
  have z : ∀ a : ℝ, (0 : EReal) - (a : EReal) = ((-a : ℝ) : EReal) := fun a => by rw [EReal.coe_neg, zero_sub]
  by_cases h0 : l.val = 2 * (pj t).val
  · rw [if_pos h0, dif_pos (by omega), z]
    refine congrArg Real.toEReal ?_
    unfold dck
    rw [show ph (pj t) 0 = ⟨l.val, by omega⟩ from Fin.ext (show 2 * (pj t).val + 0 = l.val by omega)]
  · rw [if_neg h0]
    by_cases h1 : l.val = 2 * (pj t).val + 1
    · rw [if_pos h1, dif_pos (by omega), z]
      refine congrArg Real.toEReal ?_
      unfold dck
      rw [show ph (pj t) 1 = ⟨l.val, by omega⟩ from Fin.ext (show 2 * (pj t).val + 1 = l.val by omega)]
    · rw [if_neg h1, dif_neg (by omega)]

end Cert.AttnIdeal.Sem
end
-- ==== Proof.AttnIdeal.Final.lean ====
/- The kernel's five results after the run. -/
module
public import proofs.«01_k».proof.Proof.AttnIdeal.Acc
public import Idealize.ShloMosaic.Lib.WritesUnit
public import Idealize.ShloMosaic.Lib.Pipeline.ValueKit
public import Idealize.ShloMosaic.Lib.Pipeline.ReadBack
public import Idealize.ShloMosaic.Lib.Pointwise
@[expose] public section
set_option maxRecDepth 16384

noncomputable section

namespace Cert.AttnIdeal.Sem

open Cert.AttnIdeal Cert.AttnIdeal.Gen Cert.AttnIdeal.Body Idealize.ShloMosaic Idealize.ShloMosaic.TcCoe Idealize.SL.Sem
open Idealize.ShloMosaic.Pipeline (Dat)
open Cert.Step Cert.Attend Cert.Win

variable {m : (ℓ : Loc nD τ sig) → Buf (Elt Ideal) ℓ} {dev : Dev nD}
variable {q k v g : Fin 16384 → Fin 512 → ℝ} {c : Fin 16384 → Fin 8 → ℝ}

/-- The bias's gradient laid out in lanes, and in rows. -/
def lanes (q k v g : Fin 16384 → Fin 512 → ℝ) (c : Fin 16384 → Fin 8 → ℝ) (j : Fin 4) (s : Fin 16384) (l : Fin 128) : EReal :=
  if h : 2 * j.val ≤ l.val ∧ l.val < 2 * j.val + 2 then ((dck q k v g c s ⟨l.val, by omega⟩ : ℝ) : EReal) else 0
def rows (q k v g : Fin 16384 → Fin 512 → ℝ) (c : Fin 16384 → Fin 8 → ℝ) (j : Fin 4) (r : Fin 8) (t : Fin 16384) : EReal :=
  if h : r.val < 2 then ((dcq q k v g c t ⟨2 * j.val + r.val, by omega⟩ : ℝ) : EReal) else 0

variable (R : Reals m dev q k v g c)
include R

theorem final8 : (dats m 0 dev).arrAt 8 cfg0.N = fun i => ((dq q k v g c (i 1) (i 0) : ℝ) : EReal) := by
  refine (dats m 0 dev).arrAt_eq_of_covers 8 _ (by decide +kernel) fun t hf y => ?_
  have ht := (flush0_8 t).mp hf
  blk_simp
  rw [after_8]
  idx_vars y
  refine (dq_out R t ht y0 y1).trans ?_
  have e1 : ∀ (a b : Fin 16384) (i j : Fin 512), a = b → i = j → ((dq q k v g c a i : ℝ) : EReal) = ((dq q k v g c b j : ℝ) : EReal) := by
    rintro a _ i _ rfl rfl; rfl
  unfold dcol pj
  refine e1 _ _ _ _ (Fin.ext ?_) (Fin.ext ?_)
  · blk_ext [idx t]
  · blk_ext [idx t]

theorem final9 : (dats m 0 dev).arrAt 9 cfg0.N = fun i => ((dk q k v g c (i 1) (i 0) : ℝ) : EReal) := by
  refine (dats m 0 dev).arrAt_eq_of_covers 9 _ (by decide +kernel) fun t hf y => ?_
  blk_simp
  rw [after_9]
  idx_vars y
  refine (dk_out R t y0 y1).trans ?_
  have e1 : ∀ (a b : Fin 16384) (i j : Fin 512), a = b → i = j → ((dk q k v g c a i : ℝ) : EReal) = ((dk q k v g c b j : ℝ) : EReal) := by
    rintro a _ i _ rfl rfl; rfl
  unfold dcol pj key pk
  refine e1 _ _ _ _ (Fin.ext ?_) (Fin.ext ?_)
  · blk_ext [idx t]
  · blk_ext [idx t]

theorem final10 : (dats m 0 dev).arrAt 10 cfg0.N = fun i => ((dv q k g c (i 1) (i 0) : ℝ) : EReal) := by
  refine (dats m 0 dev).arrAt_eq_of_covers 10 _ (by decide +kernel) fun t hf y => ?_
  blk_simp
  rw [after_10]
  idx_vars y
  refine (dv_out R t y0 y1).trans ?_
  have e1 : ∀ (a b : Fin 16384) (i j : Fin 512), a = b → i = j → ((dv q k g c a i : ℝ) : EReal) = ((dv q k g c b j : ℝ) : EReal) := by
    rintro a _ i _ rfl rfl; rfl
  unfold dcol pj key pk
  refine e1 _ _ _ _ (Fin.ext ?_) (Fin.ext ?_)
  · blk_ext [idx t]
  · blk_ext [idx t]

theorem final11 : (dats m 0 dev).arrAt 11 cfg0.N = fun i => lanes q k v g c (i 0) (i 1) (i 2) := by
  refine (dats m 0 dev).arrAt_eq_of_covers 11 _ (by decide +kernel) fun t hf y => ?_
  blk_simp
  rw [after_11]
  idx_vars y
  refine (congrArg (fun z : Fin 1 => outC (F := Ideal) (grid0.coords t) (accAt m dev t.val t.isLt).dc (ix3 z y1 y2)) (Subsingleton.elim y0 0)).trans ((dc_out R t y1 y2).trans ?_)
  have e1 : ∀ (a b : Fin 4) (i j : Fin 16384) (l n : Fin 128), a = b → i = j → l = n → lanes q k v g c a i l = lanes q k v g c b j n := by
    rintro a _ i _ l _ rfl rfl rfl; rfl
  refine (show _ = lanes q k v g c (pj t) (key (pk t) y1) y2 from rfl).trans ?_
  unfold pj key pk
  refine e1 _ _ _ _ _ _ (Fin.ext ?_) (Fin.ext ?_) (Fin.ext ?_)
  · blk_ext [idx t]
  · blk_ext [idx t]
  · blk_ext [idx t]

theorem final12 : (dats m 0 dev).arrAt 12 cfg0.N = fun i => rows q k v g c (i 0) (i 1) (i 2) := by
  refine (dats m 0 dev).arrAt_eq_of_covers 12 _ (by decide +kernel) fun t hf y => ?_
  have ht := (flush0_12 t).mp hf
  blk_simp
  rw [after_12]
  idx_vars y
  refine (congrArg (fun z : Fin 1 => (accAt m dev t.val t.isLt).dcq (ix3 z y1 y2)) (Subsingleton.elim y0 0)).trans ((dcq_out R t ht y1 y2).trans ?_)
  have e1 : ∀ (a b : Fin 4) (i j : Fin 8) (l n : Fin 16384), a = b → i = j → l = n → rows q k v g c a i l = rows q k v g c b j n := by
    rintro a _ i _ l _ rfl rfl rfl; rfl
  refine (show _ = rows q k v g c (pj t) y1 y2 from rfl).trans ?_
  unfold pj
  refine e1 _ _ _ _ _ _ (Fin.ext ?_) (Fin.ext ?_) (Fin.ext ?_)
  · blk_ext [idx t]
  · blk_ext [idx t]
  · blk_ext [idx t]

end Cert.AttnIdeal.Sem
end
-- ==== Proof.Attend.Ref.lean ====
/- What the reference computes, one step at a time. -/
module
public import proofs.«01_k».proof.Proof.Gen.AttnRefIdeal.Read
public import proofs.«01_k».proof.Proof.Attend.Spec
public import proofs.«01_k».proof.Proof.Words
public import Idealize.ShloMosaic.Lib.Pointwise
@[expose] public section
set_option maxRecDepth 16384

noncomputable section

namespace Cert.AttnRefIdeal.Sem

open Cert.AttnRefIdeal Cert.AttnRefIdeal.Gen Cert.AttnRefIdeal.Read Idealize.ShloMosaic
open Cert.Attend Cert.Step

variable (X Y Z W : FVec Ideal S16384x512 .f32) (C : FVec Ideal S16384x8 .f32)
variable (q k v g : Fin 16384 → Fin 512 → ℝ) (c : Fin 16384 → Fin 8 → ℝ)
variable (hq : ∀ t i, X (ix2 t i) = ((q t i : ℝ) : EReal)) (hk : ∀ t i, Y (ix2 t i) = ((k t i : ℝ) : EReal))
variable (hv : ∀ t i, Z (ix2 t i) = ((v t i : ℝ) : EReal)) (hg : ∀ t i, W (ix2 t i) = ((g t i : ℝ) : EReal))
variable (hc : ∀ t i, C (ix2 t i) = ((c t i : ℝ) : EReal))

include hq in
theorem qh_at (H : Fin 8) (t : Fin 16384) (e : Fin 64) : val_main_v1 (F := Ideal) X (ix3 H t e) = ((q t (col H e) : ℝ) : EReal) := by
  rw [← hq]; pointwise [val_main_v1, val_main_v0]; rfl

include hk in
theorem kh_at (H : Fin 8) (t : Fin 16384) (e : Fin 64) : val_main_v3 (F := Ideal) Y (ix3 H t e) = ((k t (col H e) : ℝ) : EReal) := by
  rw [← hk]; pointwise [val_main_v3, val_main_v2]; rfl

include hq hk in
theorem dot_at (H : Fin 8) (t s : Fin 16384) :
    val_main_v4 (F := Ideal) X Y (ix3 H t s) = ((∑ e : Fin 64, q t (col H e) * k s (col H e) : ℝ) : EReal) := by
  pointwise [val_main_v4]
  exact sum_eq _ _ fun e => by rw [qh_at X q hq, kh_at Y k hk, EReal.coe_mul]

include hq hk hc in
theorem z_at (H : Fin 8) (t s : Fin 16384) :
    val_main_v14 (F := Ideal) X Y C (ix3 H t s) = ((sc q k c H t s + c t H : ℝ) : EReal) := by
  pointwise [val_main_v14, val_main_v13, val_main_v12, val_main_v11, val_main_v10, val_main_v9, val_main_v8, val_main_v7, val_main_v6, val_main_v5, val_main_cst]
  rw [dot_at X Y q k hq hk, hc, hc, eighth, ← EReal.coe_mul, ← EReal.coe_add, ← EReal.coe_sub]
  congr 1
  unfold sc
  ring

include hq hk hc in
theorem m_at (H : Fin 8) (t s : Fin 16384) :
    val_main_v21_0 (F := Ideal) X Y C (ix3 H t s) = if s.val ≤ t.val then ((sc q k c H t s + c t H : ℝ) : EReal) else ⊥ := by
  pointwise [val_main_v21_0, val_main_v21_1, val_main_call0_v2, val_main_call0_v0, val_main_cst_0, val_main_v20, val_main_v19, val_main_v18, val_main_v17, val_main_v16, val_main_v15]
  rw [sel_sge _ _ (by omega) (by omega), z_at X Y C q k c hq hk hc]
  exact congrArg (fun b => if s.val ≤ t.val then _ else b) minus_inf

theorem row_at (H : Fin 8) (t : Fin 16384) :
    val_main_v22 (F := Ideal) X Y C (ix2 H t) = Finset.univ.fold max (⊥ : EReal) fun s : Fin 16384 => val_main_v21_0 (F := Ideal) X Y C (ix3 H t s) := by
  unfold val_main_v22
  rw [← minus_inf]
  exact max_row (val_main_v21_0 (F := Ideal) X Y C) (val_main_cst_1 (F := Ideal)) reducesTo_S8x16384x16384_S8x16384_d2 h_S_ H t

theorem max_of_row (H : Fin 8) (t : Fin 16384) (a : ℝ) (hm : val_main_v22 (F := Ideal) X Y C (ix2 H t) = (a : EReal)) :
    val_main_v29 (F := Ideal) X Y C (ix2 H t) = (a : EReal) := by
  rw [val_main_v29_apply, hm, val_main_v28_apply, val_main_cst_3_apply]
  show max (Ideal.ofBits .f32 0xFF800000#32) (a : EReal) = a
  rw [minus_inf]
  exact max_eq_right bot_le

include hq hk hc in
theorem max_at (H : Fin 8) (t : Fin 16384) : ∃ a : ℝ, val_main_v29 (F := Ideal) X Y C (ix2 H t) = (a : EReal) := by
  obtain ⟨a, ha⟩ := fold_real (fun s : Fin 16384 => val_main_v21_0 (F := Ideal) X Y C (ix3 H t s)) t
    (by rw [m_at X Y C q k c hq hk hc, if_pos le_rfl]; exact EReal.coe_ne_bot _)
    (fun s => by rw [m_at X Y C q k c hq hk hc]; split_ifs; exacts [EReal.coe_ne_top _, bot_ne_top])
  exact ⟨a, max_of_row X Y C H t a ((row_at X Y C H t).trans ha)⟩

include hq hk hc in
/-- A row's exponentials, each off by one factor of the row. -/
theorem w_at (H : Fin 8) (t : Fin 16384) :
    ∃ a : ℝ, ∀ s, val_main_v42 (F := Ideal) X Y C (ix3 H t s) = ((ex q k c H t s * Real.exp (-a) : ℝ) : EReal) := by
  obtain ⟨b, hb⟩ := max_at X Y C q k c hq hk hc H t
  refine ⟨b - c t H, fun s => ?_⟩
  pointwise [val_main_v42, val_main_v41, val_main_v40, val_main_v39]
  rw [hb, m_at X Y C q k c hq hk hc, ← ex_shift q k c H t s (b - c t H) _ rfl]
  split_ifs with h
  · rw [← EReal.coe_sub, Ideal.exp_coe]
    exact congrArg (fun x : ℝ => ((Real.exp x : ℝ) : EReal)) (by ring)
  · rw [EReal.bot_sub, Ideal.exp_bot, EReal.coe_zero]

/-- The weights of one row, as the reference has them before it divides. -/
def Row (H : Fin 8) (t : Fin 16384) (a : ℝ) : Prop :=
  ∀ s, val_main_v42 (F := Ideal) X Y C (ix3 H t s) = ((ex q k c H t s * Real.exp (-a) : ℝ) : EReal)

variable {X Y C q k c}
variable {H : Fin 8} {t : Fin 16384} {a : ℝ} (ha : Row X Y C q k c H t a)

include ha in
theorem l_at : val_main_v43 (F := Ideal) X Y C (ix2 H t) = ((norm q k c H t * Real.exp (-a) : ℝ) : EReal) := by
  pointwise [val_main_v43, val_main_cst_9]
  rw [sum_eq _ _ ha, norm_shift]

theorem l_ne : norm q k c H t * Real.exp (-a) ≠ 0 := mul_ne_zero (norm_ne q k c H t) (Real.exp_pos _).ne'

include ha in
theorem pr_at (s : Fin 16384) : val_main_v46 (F := Ideal) X Y C (ix3 H t s) = ((pr q k c H t s : ℝ) : EReal) := by
  pointwise [val_main_v46, val_main_v45, val_main_v44]
  rw [l_at ha, ha s, div_real _ _ l_ne]
  congr 1
  rw [pr, mul_div_mul_right _ _ (Real.exp_pos _).ne']

include hv in
theorem vh_at (H : Fin 8) (s : Fin 16384) (e : Fin 64) : val_main_v51 (F := Ideal) Z (ix3 H s e) = ((v s (col H e) : ℝ) : EReal) := by
  rw [← hv]; pointwise [val_main_v51, val_main_v50]; rfl

include hg in
theorem gh_at (H : Fin 8) (s : Fin 16384) (e : Fin 64) : val_main_v56 (F := Ideal) W (ix3 H s e) = ((g s (col H e) : ℝ) : EReal) := by
  rw [← hg]; pointwise [val_main_v56, val_main_v55]; rfl

include hv hg in
theorem dp_at (H : Fin 8) (t s : Fin 16384) : val_main_v59 (F := Ideal) Z W (ix3 H t s) = ((dp v g H t s : ℝ) : EReal) := by
  pointwise [val_main_v59]
  exact sum_eq _ _ fun e => by rw [gh_at W g hg, vh_at Z v hv, EReal.coe_mul]

include ha in
theorem inv_at : val_main_v49 (F := Ideal) X Y C (ix3 H t 0)
    = ((1 / (norm q k c H t * Real.exp (-a) * (norm q k c H t * Real.exp (-a))) : ℝ) : EReal) := by
  pointwise [val_main_v49, val_main_v48, val_main_cst_10, val_main_v47, val_main_v44]
  rw [l_at ha, ← EReal.coe_mul, ← EReal.coe_one, div_real _ _ (mul_ne_zero l_ne l_ne)]

include ha hv hg in
theorem off_at : val_main_v70 (F := Ideal) X Y Z C W (ix2 H t)
    = ((-(dl q k v g c H t / (norm q k c H t * Real.exp (-a))) : ℝ) : EReal) := by
  have e : val_main_v65 (F := Ideal) X Y Z C W (ix2 H t) = ((dl q k v g c H t / (norm q k c H t * Real.exp (-a)) : ℝ) : EReal) := by
    pointwise [val_main_v65, val_main_cst_11, val_main_v64, val_main_v63, val_main_v62]
    rw [sum_eq _ (fun s => pr q k c H t s * dp v g H t s / (norm q k c H t * Real.exp (-a))), ← Finset.sum_div]
    · rfl
    intro s
    rw [dp_at Z W v g hv hg, ha s, inv_at ha, ← EReal.coe_mul, ← EReal.coe_mul]
    congr 1
    have h1 := norm_ne q k c H t
    have h2 := (Real.exp_pos (-a)).ne'
    unfold pr
    field_simp
  pointwise [val_main_v70, val_main_cst_12, val_main_v67, val_main_v66]
  rw [Fin.sum_univ_one, e, EReal.coe_neg]

include ha hv hg in
theorem ds_at (s : Fin 16384) : val_main_v74 (F := Ideal) X Y Z C W (ix3 H t s) = ((ds q k v g c H t s : ℝ) : EReal) := by
  pointwise [val_main_v74, val_main_v21_1, val_main_call1_v0, val_main_call1_cst, val_main_v20, val_main_v19, val_main_v18, val_main_v17, val_main_v16, val_main_v15]
  rw [sel_sge _ _ (by omega) (by omega)]
  split_ifs with h
  · pointwise [val_main_v73, val_main_v72, val_main_v71, val_main_v69, val_main_v68, val_main_v44]
    rw [l_at ha, ha s, dp_at Z W v g hv hg, off_at Z W v g hv hg ha, div_real _ _ l_ne, ← EReal.coe_add, ← EReal.coe_mul]
    congr 1
    have h1 := norm_ne q k c H t
    have h2 := (Real.exp_pos (-a)).ne'
    unfold ds pr
    field_simp
    ring
  · rw [ds_late _ _ _ _ _ _ _ _ h, EReal.coe_zero]

end Cert.AttnRefIdeal.Sem
end
-- ==== Proof.Attend.RefOut.lean ====
/- The reference's five results. -/
module
public import proofs.«01_k».proof.Proof.Attend.Ref
@[expose] public section
set_option maxRecDepth 16384

noncomputable section

namespace Cert.AttnRefIdeal.Sem

open Cert.AttnRefIdeal Cert.AttnRefIdeal.Gen Cert.AttnRefIdeal.Read Idealize.ShloMosaic
open Cert.Attend Cert.Step

variable (X Y Z W : FVec Ideal S16384x512 .f32) (C : FVec Ideal S16384x8 .f32)
variable (q k v g : Fin 16384 → Fin 512 → ℝ) (c : Fin 16384 → Fin 8 → ℝ)
variable (hq : ∀ t i, X (ix2 t i) = ((q t i : ℝ) : EReal)) (hk : ∀ t i, Y (ix2 t i) = ((k t i : ℝ) : EReal))
variable (hv : ∀ t i, Z (ix2 t i) = ((v t i : ℝ) : EReal)) (hg : ∀ t i, W (ix2 t i) = ((g t i : ℝ) : EReal))
variable (hc : ∀ t i, C (ix2 t i) = ((c t i : ℝ) : EReal))

theorem col_hd (i : Fin 512) : col (hd i) ⟨i.val % 64, by omega⟩ = i := by
  apply Fin.ext; simp only [col, hd]; omega

include hq hk hv hg hc

theorem ds_all (H : Fin 8) (t s : Fin 16384) : val_main_v74 (F := Ideal) X Y Z C W (ix3 H t s) = ((ds q k v g c H t s : ℝ) : EReal) := by
  obtain ⟨a, ha⟩ := w_at X Y C q k c hq hk hc H t
  exact ds_at Z W v g hv hg ha s

theorem scaled (H : Fin 8) (t s : Fin 16384) : val_main_v85 (F := Ideal) X Y Z C W (ix3 H t s) = ((ds q k v g c H t s / 8 : ℝ) : EReal) := by
  pointwise [val_main_v85, val_main_v84, val_main_cst_17]
  rw [ds_all X Y Z W C q k v g c hq hk hv hg hc, eighth, ← EReal.coe_mul, mul_one_div]

theorem dq_at (i : Fin 512) (t : Fin 16384) : val_main_v107 (F := Ideal) X Y Z C W (ix2 i t) = ((dq q k v g c t i : ℝ) : EReal) := by
  have e : val_main_v87 (F := Ideal) X Y Z C W (ix3 (hd i) t ⟨i.val % 64, by omega⟩) = ((dq q k v g c t i : ℝ) : EReal) := by
    pointwise [val_main_v87]
    rw [sum_eq _ (fun s => ds q k v g c (hd i) t s * k s i / 8), ← Finset.sum_div]
    · rfl
    intro s
    rw [scaled X Y Z W C q k v g c hq hk hv hg hc, kh_at Y k hk, col_hd, ← EReal.coe_mul, div_mul_eq_mul_div]
  rw [← e]
  pointwise [val_main_v107, val_main_v91, val_main_v90]
  rfl

theorem dk_at (i : Fin 512) (s : Fin 16384) : val_main_v109 (F := Ideal) X Y Z C W (ix2 i s) = ((dk q k v g c s i : ℝ) : EReal) := by
  have e : val_main_v86 (F := Ideal) X Y Z C W (ix3 (hd i) s ⟨i.val % 64, by omega⟩) = ((dk q k v g c s i : ℝ) : EReal) := by
    pointwise [val_main_v86]
    rw [sum_eq _ (fun t => ds q k v g c (hd i) t s * q t i / 8), ← Finset.sum_div]
    · rfl
    intro t
    rw [scaled X Y Z W C q k v g c hq hk hv hg hc, qh_at X q hq, col_hd, ← EReal.coe_mul, div_mul_eq_mul_div]
  rw [← e]
  pointwise [val_main_v109, val_main_v108, val_main_v89, val_main_v88]
  rfl

omit hv in
theorem dv_at (i : Fin 512) (s : Fin 16384) : val_main_v111 (F := Ideal) X Y C W (ix2 i s) = ((dv q k g c s i : ℝ) : EReal) := by
  have e : val_main_v57 (F := Ideal) X Y C W (ix3 (hd i) ⟨i.val % 64, by omega⟩ s) = ((dv q k g c s i : ℝ) : EReal) := by
    pointwise [val_main_v57]
    rw [sum_eq _ (fun t => pr q k c (hd i) t s * g t i)]
    · rfl
    intro t
    obtain ⟨a, ha⟩ := w_at X Y C q k c hq hk hc (hd i) t
    rw [pr_at ha, gh_at W g hg, col_hd, ← EReal.coe_mul, mul_comm]
  rw [← e]
  pointwise [val_main_v111, val_main_v110, val_main_v61, val_main_v60, val_main_v58]
  rfl

theorem dck_at (s : Fin 16384) (H : Fin 8) : val_main_v79 (F := Ideal) X Y Z C W (ix2 s H) = ((dck q k v g c s H : ℝ) : EReal) := by
  have e : val_main_v76 (F := Ideal) X Y Z C W (ix2 H s) = ((dck q k v g c s H : ℝ) : EReal) := by
    pointwise [val_main_v76, val_main_cst_13, val_main_v75]
    rw [sum_eq _ (fun t => -ds q k v g c H t s), Finset.sum_neg_distrib]
    · rfl
    intro t
    rw [ds_all X Y Z W C q k v g c hq hk hv hg hc, EReal.coe_neg]
  pointwise [val_main_v79, val_main_v78, val_main_cst_14, val_main_v77]
  rw [Fin.sum_univ_one, e]

theorem dcq_at (t : Fin 16384) (H : Fin 8) : val_main_v83 (F := Ideal) X Y Z C W (ix2 t H) = ((dcq q k v g c t H : ℝ) : EReal) := by
  have e : val_main_v80 (F := Ideal) X Y Z C W (ix2 H t) = ((dcq q k v g c t H : ℝ) : EReal) := by
    pointwise [val_main_v80, val_main_cst_15]
    rw [sum_eq _ (fun s => ds q k v g c H t s)]
    · rfl
    intro s
    rw [ds_all X Y Z W C q k v g c hq hk hv hg hc]
  pointwise [val_main_v83, val_main_v82, val_main_cst_16, val_main_v81]
  rw [Fin.sum_univ_one, e]

theorem lanes_at (j : Fin 4) (s : Fin 16384) (l : Fin 128) :
    val_main_v103 (F := Ideal) X Y Z C W (ix3 j s l)
      = if h : 2 * j.val ≤ l.val ∧ l.val < 2 * j.val + 2 then ((dck q k v g c s ⟨l.val, by omega⟩ : ℝ) : EReal) else 0 := by
  pointwise [val_main_v103, val_main_v100, val_main_v99, val_main_v98, val_main_c_18, val_main_v97, val_main_v96, val_main_v95, val_main_v94, val_main_v93, val_main_c, val_main_v92, val_main_call3_v1, val_main_call3_v2, val_main_call3_v0, val_main_cst_20, val_main_v102, val_main_v101]
  have e : IntOp.muli (2#32) (BitVec.ofNat 32 j.val) = BitVec.ofNat 32 (2 * j.val) := by fin_cases j <;> rfl
  have e' : IntOp.addi (BitVec.ofNat 32 (2 * j.val)) (2#32) = BitVec.ofNat 32 (2 * j.val + 2) := by fin_cases j <;> rfl
  rw [e, e', sel_and, sel_sge _ _ (by omega) (by omega), sel_slt _ _ (by omega) (by omega)]
  by_cases h1 : 2 * j.val ≤ l.val
  · by_cases h2 : l.val < 2 * j.val + 2
    · have h3 : l.val < 8 := by omega
      simp only [h1, h2, h3, and_self, if_true, dite_true]
      exact dck_at X Y Z W C q k v g c hq hk hv hg hc s ⟨l.val, h3⟩
    · simp only [h1, h2, and_false, if_true, if_false, dite_false]
      exact Ideal.ofBits_zero_f32
  · simp only [h1, false_and, if_false, dite_false]
    exact Ideal.ofBits_zero_f32

theorem rows_at (j : Fin 4) (r : Fin 8) (t : Fin 16384) :
    val_main_v106 (F := Ideal) X Y Z C W (ix3 j r t)
      = if h : r.val < 2 then ((dcq q k v g c t ⟨2 * j.val + r.val, by omega⟩ : ℝ) : EReal) else 0 := by
  pointwise [val_main_v106, val_main_v105, val_main_v104]
  have z : val_main_call4_v0 (F := Ideal) (Shape.Idx.first h_S_) = 0 := by
    show ((((0#32 : BitVec 32).toInt : ℝ)) : EReal) = 0
    simp
  split_ifs with h
  · rw [dcq_at X Y Z W C q k v g c hq hk hv hg hc]
    congr 3
    omega
  · exact z

end Cert.AttnRefIdeal.Sem
end
-- ==== Proof.AttnIdeal.Claim.lean ====
/- The claim of the attention's gradient: of finite arguments both programs leave the same five results. -/
module
public import proofs.«01_k».proof.Defs
public import proofs.«01_k».proof.Proof.AttnIdeal.Final
public import proofs.«01_k».proof.Proof.Attend.RefOut
public import proofs.«01_k».proof.Proof.Gen.AttnRefIdeal.Run
public import Idealize.ShloMosaic.Lib.Claim
@[expose] public section
set_option maxRecDepth 16384

noncomputable section

namespace Cert.AttnIdeal.Sem

open Cert.AttnIdeal Cert.AttnIdeal.Gen Cert.AttnIdeal.Body Idealize.ShloMosaic Idealize.ShloMosaic.TcCoe Idealize.SL.Sem
open Cert.Attend

theorem prefacts : Cert.Pre_finite_attn.Facts := ⟨by decide, by decide⟩

section
variable {F : FTy → Type} [FloatOps F] [Named F] (m : (ℓ : Loc nD τ sig) → Buf (Elt F) ℓ) (ρ : Dev nD → PrngReg)

/-- What a run leaves of the results and the arguments. -/
theorem run_blocks : θ_run defs (onTc (τ := τ) (main (F := F))) ⟨m, fun _ => 0, ρ⟩ fun r => ∀ c : Dev nD,
      r.2.mem ((c : Thread nD τ).loc main_v65_0) = (dats m 0 c).arrAt 8 cfg0.N
      ∧ r.2.mem ((c : Thread nD τ).loc main_v65_1) = (dats m 0 c).arrAt 9 cfg0.N
      ∧ r.2.mem ((c : Thread nD τ).loc main_v65_2) = (dats m 0 c).arrAt 10 cfg0.N
      ∧ r.2.mem ((c : Thread nD τ).loc main_v65_3) = (dats m 0 c).arrAt 11 cfg0.N
      ∧ r.2.mem ((c : Thread nD τ).loc main_v65_4) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 8, (h c).1 9, (h c).1 10, (h c).1 11, (h c).1 12,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end

section
variable (m : (ℓ : Loc nD τ sig) → Buf (Elt Ideal) ℓ)

theorem reals (hpre : Cert.Pre_AttnIdeal_finite_attn (hPre_finite_attn := prefacts) m) (c : Dev nD) :
    Reals m c (fun t i => (X0 m c (ix2 t i)).toReal) (fun t i => (X1 m c (ix2 t i)).toReal) (fun t i => (X2 m c (ix2 t i)).toReal)
      (fun t i => (X4 m c (ix2 t i)).toReal) (fun t i => (X3 m c (ix2 t i)).toReal) := by
  obtain ⟨h0, h1, h2, h3, h4⟩ := hpre c
  exact ⟨fun t i => real_of _ (congrFun h0 (ix2 t i)), fun t i => real_of _ (congrFun h1 (ix2 t i)), fun t i => real_of _ (congrFun h2 (ix2 t i)),
    fun t i => real_of _ (congrFun h3 (ix2 t i)), fun t i => real_of _ (congrFun h4 (ix2 t i))⟩
end

section
variable {m : (ℓ : Loc nD τ sig) → Buf (Elt Ideal) ℓ} {dev : Dev nD}
variable {q k v g : Fin 16384 → Fin 512 → ℝ} {c : Fin 16384 → Fin 8 → ℝ} (R : Reals m dev q k v g c)
include R

theorem ref_dq : (Cert.AttnRefIdeal.Read.val_main_v107 (F := Ideal) (X0 m dev) (X1 m dev) (X2 m dev) (X3 m dev) (X4 m dev)) = (dats m 0 dev).arrAt 8 cfg0.N := by
  rw [final8 R]
  exact ext2 _ _ fun i j => Cert.AttnRefIdeal.Sem.dq_at _ _ _ _ _ _ _ _ _ _ R.q R.k R.v R.g R.c i j

theorem ref_dk : (Cert.AttnRefIdeal.Read.val_main_v109 (F := Ideal) (X0 m dev) (X1 m dev) (X2 m dev) (X3 m dev) (X4 m dev)) = (dats m 0 dev).arrAt 9 cfg0.N := by
  rw [final9 R]
  exact ext2 _ _ fun i j => Cert.AttnRefIdeal.Sem.dk_at _ _ _ _ _ _ _ _ _ _ R.q R.k R.v R.g R.c i j

theorem ref_dv : (Cert.AttnRefIdeal.Read.val_main_v111 (F := Ideal) (X0 m dev) (X1 m dev) (X3 m dev) (X4 m dev)) = (dats m 0 dev).arrAt 10 cfg0.N := by
  rw [final10 R]
  exact ext2 _ _ fun i j => Cert.AttnRefIdeal.Sem.dv_at _ _ _ _ _ _ _ _ R.q R.k R.g R.c i j

theorem ref_lanes : (Cert.AttnRefIdeal.Read.val_main_v103 (F := Ideal) (X0 m dev) (X1 m dev) (X2 m dev) (X3 m dev) (X4 m dev)) = (dats m 0 dev).arrAt 11 cfg0.N := by
  rw [final11 R]
  exact ext3 _ _ fun i j l => Cert.AttnRefIdeal.Sem.lanes_at _ _ _ _ _ _ _ _ _ _ R.q R.k R.v R.g R.c i j l

theorem ref_rows : (Cert.AttnRefIdeal.Read.val_main_v106 (F := Ideal) (X0 m dev) (X1 m dev) (X2 m dev) (X3 m dev) (X4 m dev)) = (dats m 0 dev).arrAt 12 cfg0.N := by
  rw [final12 R]
  exact ext3 _ _ fun i j l => Cert.AttnRefIdeal.Sem.rows_at _ _ _ _ _ _ _ _ _ _ R.q R.k R.v R.g R.c i j l

end

theorem algebraic : Cert.algebraic_AttnIdeal_AttnRefIdeal_pre_finite_attn (hAttnIdeal := Cert.AttnIdeal.Gen.facts)
    (hAttnRefIdeal := Cert.AttnRefIdeal.Gen.facts) (hPre_finite_attn := prefacts) := by
  pair_intro
  · exact run_blocks m g
  · refine Idealize.ShloMosaic.θ_run_mono (Cert.AttnRefIdeal.Value.run m' g') fun r h c => ?_
    obtain ⟨h0, h1, h2, h3, h4, k⟩ := h c
    have R := reals m hpre c
    obtain ⟨a0, a1, a2, a3, a4⟩ := hagree c
    refine ⟨h0.trans ?_, h1.trans ?_, h2.trans ?_, h3.trans ?_, h4.trans ?_, k⟩
    · rw [Cert.AttnRefIdeal.Read.val_main_v107_eq, a0, a1, a2, a3, a4]
      exact ref_dq R
    · rw [Cert.AttnRefIdeal.Read.val_main_v109_eq, a0, a1, a2, a3, a4]
      exact ref_dk R
    · rw [Cert.AttnRefIdeal.Read.val_main_v111_eq, a0, a1, a3, a4]
      exact ref_dv R
    · rw [Cert.AttnRefIdeal.Read.val_main_v103_eq, a0, a1, a2, a3, a4]
      exact ref_lanes R
    · rw [Cert.AttnRefIdeal.Read.val_main_v106_eq, a0, a1, a2, a3, a4]
      exact ref_rows R

end Cert.AttnIdeal.Sem
end
-- ==== Proof.Layer.Spec.lean ====
/- A row's normalisation and its gradient over the real numbers, and the constants both programs use. -/
module
public import Idealize.ShloMosaic.Lib.Pointwise
public import Idealize.ShloMosaic.PureOps.Ideal.Laws
public import proofs.«01_k».proof.Proof.Attend.Spec
@[expose] public section
set_option maxRecDepth 16384

noncomputable section

namespace Cert.Layer

open Idealize.ShloMosaic Cert.Attend

/-! ## The constants -/

/-- What the residual's input is scaled by. -/
def alpha : ℝ := 9975792 / 2 ^ 23
/-- What keeps the variance away from zero. -/
def eps : ℝ := 10995116 / 2 ^ 40

theorem eps_pos : 0 < eps := by unfold eps; positivity

theorem alpha_w : Ideal.ofBits .f32 0x3F9837F0#32 = ((alpha : ℝ) : EReal) := by
  simp [Ideal.ofBits, Ideal.ieee]; rw [← EReal.coe_mul]; refine congrArg Real.toEReal ?_; unfold alpha; norm_num
theorem eps_w : Ideal.ofBits .f32 0x3727C5AC#32 = ((eps : ℝ) : EReal) := by
  simp [Ideal.ofBits, Ideal.ieee]; rw [← EReal.coe_mul]; refine congrArg Real.toEReal ?_; unfold eps; norm_num
theorem width_w : Ideal.ofBits .f32 0x44800000#32 = ((1024 : ℝ) : EReal) := by
  simp [Ideal.ofBits, Ideal.ieee]; rw [← EReal.coe_mul]; refine congrArg Real.toEReal ?_; norm_num
theorem half_w : Ideal.ofBits .f32 0x3F000000#32 = ((1 / 2 : ℝ) : EReal) := by
  simp [Ideal.ofBits, Ideal.ieee]; rw [← EReal.coe_mul]; refine congrArg Real.toEReal ?_; norm_num
theorem neg_half_w : Ideal.ofBits .f32 0xBF000000#32 = ((-(1 / 2) : ℝ) : EReal) := by
  simp [Ideal.ofBits, Ideal.ieee]; rw [← EReal.coe_mul]; refine congrArg Real.toEReal ?_; norm_num
theorem two_w : Ideal.ofBits .f32 0x40000000#32 = ((2 : ℝ) : EReal) := by
  simp [Ideal.ofBits, Ideal.ieee]; rw [← EReal.coe_mul]; refine congrArg Real.toEReal ?_; norm_num
theorem inv_width_w : Ideal.ofBits .f32 0x3A800000#32 = ((1 / 1024 : ℝ) : EReal) := by
  simp [Ideal.ofBits, Ideal.ieee]; rw [← EReal.coe_mul]; refine congrArg Real.toEReal ?_; norm_num
theorem inv_twice_w : Ideal.ofBits .f32 0x3A000000#32 = ((1 / 2048 : ℝ) : EReal) := by
  simp [Ideal.ofBits, Ideal.ieee]; rw [← EReal.coe_mul]; refine congrArg Real.toEReal ?_; norm_num
theorem one_w : (1 : EReal) = ((1 : ℝ) : EReal) := EReal.coe_one.symm

/-! ## The normalisation of a row -/

variable (r d : Fin 1024 → ℝ)

/-- The row less its mean. -/
def xc (j : Fin 1024) : ℝ := r j - (∑ k, r k) / 1024
def var : ℝ := (∑ j, xc r j * xc r j) / 1024
/-- The reciprocal of the deviation. -/
def rs : ℝ := (Real.sqrt (var r + eps))⁻¹
def xh (j : Fin 1024) : ℝ := xc r j * rs r
/-- The gradient of the row, from the gradient of its normalisation. -/
def bk (j : Fin 1024) : ℝ := rs r * (d j - (∑ k, d k) / 1024 - xh r j * ((∑ k, d k * xh r k) / 1024))

theorem var_nonneg : 0 ≤ var r := div_nonneg (Finset.sum_nonneg fun j _ => mul_self_nonneg _) (by norm_num)
theorem vpos : 0 < var r + eps := add_pos_of_nonneg_of_pos (var_nonneg r) eps_pos

theorem xc_sum : ∑ j, xc r j = 0 := by
  unfold xc
  rw [Finset.sum_sub_distrib, Finset.sum_const, Finset.card_univ, Fintype.card_fin, nsmul_eq_mul]
  push_cast
  ring

theorem rs_sq : rs r * rs r = (var r + eps)⁻¹ := by
  unfold rs
  rw [← mul_inv, Real.mul_self_sqrt (vpos r).le]

/-- The gradient as differentiation leaves it: through the row, its square and its mean. -/
def step (w : ℝ) (j : Fin 1024) : ℝ := d j * rs r + xc r j * w + w * xc r j

theorem bk_eq (w : ℝ) (hw : w = (∑ k, xc r k * d k) * (-(1 / 2) * (rs r / (var r + eps))) / 1024) (j : Fin 1024) :
    step r d w j + (∑ k, -step r d w k) / 1024 = bk r d j := by
  have e : ∑ k, -step r d w k = -(rs r * ∑ k, d k) := by
    rw [Finset.sum_neg_distrib]
    unfold step
    rw [Finset.sum_add_distrib, Finset.sum_add_distrib, ← Finset.sum_mul, ← Finset.sum_mul, ← Finset.mul_sum, xc_sum]
    ring
  have e' : ∑ k, d k * xh r k = rs r * ∑ k, xc r k * d k := by
    rw [Finset.mul_sum]
    exact Finset.sum_congr rfl fun k _ => by unfold xh; ring
  have e3 : rs r / (var r + eps) = rs r * (rs r * rs r) := by rw [rs_sq, div_eq_mul_inv]
  rw [e, hw, e3]
  unfold bk
  rw [e']
  unfold step xh
  ring

/-! ## The operations at real numbers -/

theorem rsqrt_real (x : ℝ) (h : 0 < x) : Ideal.rsqrt (x : EReal) = (((Real.sqrt x)⁻¹ : ℝ) : EReal) := by
  rw [Ideal.rsqrt_coe, if_neg (not_lt.mpr h.le), if_neg h.ne']

/-- The gate, of any number. -/
def sg (z : EReal) : ℝ := (Ideal.div (1 : EReal) (1 + Ideal.exp (-z))).toReal

theorem sg_coe (z : ℝ) : Ideal.div (1 : EReal) (1 + Ideal.exp (-(z : EReal))) = ((1 / (1 + Real.exp (-z)) : ℝ) : EReal) := by
  rw [← EReal.coe_neg, Ideal.exp_coe, one_w, ← EReal.coe_add, div_real _ _ (by positivity)]

/-- The gate of an infinite number is zero or one. -/
theorem sg_real (z : EReal) : Ideal.div (1 : EReal) (1 + Ideal.exp (-z)) = ((sg z : ℝ) : EReal) := by
  unfold sg
  induction z with
  | bot =>
    have h : Ideal.div (1 : EReal) (1 + Ideal.exp (-(⊥ : EReal))) = ((0 : ℝ) : EReal) := by
      have h1 : (1 : EReal) + ⊤ = ⊤ := by rw [one_w]; exact EReal.coe_add_top 1
      simp [Ideal.exp_top, Ideal.div, h1]
    rw [h, EReal.toReal_coe]
  | top =>
    have h : Ideal.div (1 : EReal) (1 + Ideal.exp (-(⊤ : EReal))) = ((1 : ℝ) : EReal) := by
      rw [EReal.neg_top, Ideal.exp_bot, add_zero, one_w, div_real _ _ one_ne_zero, div_one]
    rw [h, EReal.toReal_coe]
  | coe z => rw [sg_coe, EReal.toReal_coe]

theorem div_width (a : ℝ) : Ideal.div (a : EReal) (Ideal.ofBits .f32 0x44800000#32) = ((a / 1024 : ℝ) : EReal) := by
  rw [width_w, div_real _ _ (by norm_num)]

end Cert.Layer
end
-- ==== Proof.Ple.Spec.lean ====
/- The gated layer, its loss and their gradients over the real numbers, for any number of rows. -/
module
public import proofs.«01_k».proof.Proof.Layer.Spec
@[expose] public section

noncomputable section

namespace Cert.Step.Ple

open Cert.Layer

/-- The arguments: rows, their embedding, their target; the gate's and the embedding's weights; the gate's bias, the norm's scale and bias. The gate's may be infinite. -/
structure Args (L : ℕ) where
  x : Fin L → Fin 1024 → ℝ
  p : Fin L → Fin 256 → ℝ
  t : Fin L → Fin 1024 → ℝ
  w : Fin 1024 → Fin 1024 → EReal
  v : Fin 256 → Fin 1024 → ℝ
  b : Fin 1024 → EReal
  g : Fin 1024 → ℝ
  l : Fin 1024 → ℝ

variable {L : ℕ} (a : Args L)

def z (n : Fin L) (j : Fin 1024) : EReal := (∑ k, ((a.x n k : ℝ) : EReal) * a.w k j) + a.b j
def gt (n : Fin L) (j : Fin 1024) : ℝ := sg (z a n j)
def e (n : Fin L) (j : Fin 1024) : ℝ := ∑ k, a.p n k * a.v k j
def r (n : Fin L) (j : Fin 1024) : ℝ := alpha * a.x n j + gt a n j * e a n j
def err (n : Fin L) (j : Fin 1024) : ℝ := xh (r a n) j * a.g j + a.l j - a.t n j
def dy (n : Fin L) (j : Fin 1024) : ℝ := err a n j * (1 / 1024)
def dh (n : Fin L) (j : Fin 1024) : ℝ := dy a n j * a.g j
def dr (n : Fin L) (j : Fin 1024) : ℝ := bk (r a n) (dh a n) j
def de (n : Fin L) (j : Fin 1024) : ℝ := dr a n j * gt a n j
def dz (n : Fin L) (j : Fin 1024) : ℝ := dr a n j * e a n j * gt a n j * (1 - gt a n j)
def dx (n : Fin L) (i : Fin 1024) : EReal := ((alpha * dr a n i : ℝ) : EReal) + ∑ j, ((dz a n j : ℝ) : EReal) * a.w i j
def sq (n : Fin L) : ℝ := ∑ j, err a n j * err a n j
def loss : ℝ := (∑ n, sq a n) * (1 / 2048)
def dg (j : Fin 1024) : ℝ := ∑ n, dy a n j * xh (r a n) j
def dl (j : Fin 1024) : ℝ := ∑ n, dy a n j
def db (j : Fin 1024) : ℝ := ∑ n, dz a n j

/-- Some of the rows. -/
def rows {M : ℕ} (a : Args L) (f : Fin M → Fin L) : Args M := { a with x := fun n => a.x (f n), p := fun n => a.p (f n), t := fun n => a.t (f n) }

end Cert.Step.Ple
end
-- ==== Proof.Ple.Pay.lean ====
/- What the kernel of the gated layer computes at a point, one step at a time. -/
module
public import proofs.«01_k».proof.Proof.Gen.PleIdeal.Skeleton
public import proofs.«01_k».proof.Proof.Ple.Spec
public import Idealize.ShloMosaic.Lib.Pointwise
@[expose] public section
set_option maxRecDepth 16384

noncomputable section

namespace Cert.PleIdeal.Sem

open Cert.PleIdeal Cert.PleIdeal.Gen Idealize.ShloMosaic
open Cert.Attend Cert.Layer Cert.Step.Ple

variable (X : FVec Ideal S512x1024 .f32) (P : FVec Ideal S512x256 .f32) (T : FVec Ideal S512x1024 .f32)
variable (W : FVec Ideal S1024x1024 .bf16) (V : FVec Ideal S256x1024 .bf16) (B G H : FVec Ideal S1x1024 .f32) (a : Args 512)

/-- The blocks a point reads hold these reals. -/
structure Tile : Prop where
  x : ∀ n j, X (ix2 n j) = ((a.x n j : ℝ) : EReal)
  p : ∀ n j, P (ix2 n j) = ((a.p n j : ℝ) : EReal)
  t : ∀ n j, T (ix2 n j) = ((a.t n j : ℝ) : EReal)
  w : ∀ n j, W (ix2 n j) = a.w n j
  v : ∀ n j, V (ix2 n j) = ((a.v n j : ℝ) : EReal)
  b : ∀ j, B (ix2 0 j) = a.b j
  g : ∀ j, G (ix2 0 j) = ((a.g j : ℝ) : EReal)
  l : ∀ j, H (ix2 0 j) = ((a.l j : ℝ) : EReal)

theorem gt_at (R : Tile X P T W V B G H a) (n : Fin 512) (j : Fin 1024) : (k0_pay7 (F := Ideal) X W B) (ix2 n j) = ((gt a n j : ℝ) : EReal) := by
  pointwise [k0_pay7]
  simp only [R.x, R.w, R.b, zero_sub]
  exact sg_real _

theorem e_at (R : Tile X P T W V B G H a) (n : Fin 512) (j : Fin 1024) : (k0_pay8 (F := Ideal) P V) (ix2 n j) = ((e a n j : ℝ) : EReal) := by
  pointwise [k0_pay8]
  refine sum_eq _ _ fun k => ?_
  rw [R.p, R.v, EReal.coe_mul]

theorem xc_at (R : Tile X P T W V B G H a) (n : Fin 512) (j : Fin 1024) : (k0_pay9 (F := Ideal) X W B P V) (ix2 n j) = ((xc (r a n) j : ℝ) : EReal) := by
  pointwise [k0_pay9]
  have hr : ∀ k, Ideal.ofBits .f32 0x3F9837F0#32 * X (ix2 n k) + (k0_pay7 (F := Ideal) X W B) (ix2 n k) * (k0_pay8 (F := Ideal) P V) (ix2 n k) = ((r a n k : ℝ) : EReal) := fun k => by
    rw [gt_at X P T W V B G H a R, e_at X P T W V B G H a R, R.x]
    refine (congrArg (fun s => s * _ + _) alpha_w).trans ?_
    simp only [← EReal.coe_mul, ← EReal.coe_add]
    rfl
  refine (congrArg₂ (fun s q => s - Ideal.div q _) (hr j) (sum_eq _ _ hr)).trans ?_
  refine (congrArg (fun s => _ - s) (div_width _)).trans ?_
  rw [← EReal.coe_sub]
  rfl

theorem sq_at (R : Tile X P T W V B G H a) (n : Fin 512) : (k0_pay10 (F := Ideal) X W B P V) (ix2 n 0) = ((∑ k, xc (r a n) k * xc (r a n) k : ℝ) : EReal) := by
  pointwise [k0_pay10]
  exact sum_eq _ _ fun k => by rw [xc_at X P T W V B G H a R, EReal.coe_mul]

theorem rs_at (R : Tile X P T W V B G H a) (n : Fin 512) : (k0_pay11 (k0_pay10 (F := Ideal) X W B P V) (Ideal.ofBits .f32 0x44800000#32)) (ix2 n 0) = ((rs (r a n) : ℝ) : EReal) := by
  pointwise [k0_pay11]
  rw [sq_at X P T W V B G H a R]
  refine (congrArg₂ (fun s q => Ideal.rsqrt (s + q)) (div_width _) eps_w).trans ?_
  rw [← EReal.coe_add]
  exact rsqrt_real _ (vpos _)

theorem xh_at (R : Tile X P T W V B G H a) (n : Fin 512) (j : Fin 1024) : (k0_pay12 (k0_pay9 (F := Ideal) X W B P V) (k0_pay10 (F := Ideal) X W B P V) (Ideal.ofBits .f32 0x44800000#32)) (ix2 n j) = ((xh (r a n) j : ℝ) : EReal) := by
  pointwise [k0_pay12]
  rw [xc_at X P T W V B G H a R, rs_at X P T W V B G H a R, ← EReal.coe_mul]
  rfl

theorem err_at (R : Tile X P T W V B G H a) (n : Fin 512) (j : Fin 1024) : (k0_pay13 (k0_pay9 (F := Ideal) X W B P V) (k0_pay10 (F := Ideal) X W B P V) (Ideal.ofBits .f32 0x44800000#32) G H T) (ix2 n j) = ((err a n j : ℝ) : EReal) := by
  pointwise [k0_pay13]
  rw [xh_at X P T W V B G H a R, R.g, R.l, R.t, ← EReal.coe_mul, ← EReal.coe_add, ← EReal.coe_sub]
  rfl

theorem loss_at (R : Tile X P T W V B G H a) (U : FVec Ideal S1x128 .f32) (j : Fin 128) : k0_pay14 (k0_pay9 (F := Ideal) X W B P V) (k0_pay10 (F := Ideal) X W B P V) (Ideal.ofBits .f32 0x44800000#32) G H T U (ix2 0 j) = U (ix2 0 j) + ((loss a : ℝ) : EReal) := by
  pointwise [k0_pay14]
  refine congrArg (_ + ·) ?_
  rw [sum_eq _ (fun j => ∑ n, err a n j * err a n j) (fun j => sum_eq _ _ fun n => by rw [err_at X P T W V B G H a R, EReal.coe_mul])]
  refine (congrArg (fun s => _ * s) inv_twice_w).trans ?_
  rw [← EReal.coe_mul, Finset.sum_comm]
  rfl

theorem dy_at (R : Tile X P T W V B G H a) (n : Fin 512) (j : Fin 1024) : (k0_pay15 (k0_pay9 (F := Ideal) X W B P V) (k0_pay10 (F := Ideal) X W B P V) (Ideal.ofBits .f32 0x44800000#32) G H T) (ix2 n j) = ((dy a n j : ℝ) : EReal) := by
  pointwise [k0_pay15]
  rw [err_at X P T W V B G H a R]
  refine (congrArg (fun s => _ * s) inv_width_w).trans ?_
  rw [← EReal.coe_mul]
  rfl

theorem dh_at (R : Tile X P T W V B G H a) (n : Fin 512) (j : Fin 1024) : (k0_pay16 (k0_pay9 (F := Ideal) X W B P V) (k0_pay10 (F := Ideal) X W B P V) (Ideal.ofBits .f32 0x44800000#32) G H T G) (ix2 n j) = ((dh a n j : ℝ) : EReal) := by
  pointwise [k0_pay16]
  rw [dy_at X P T W V B G H a R, R.g, ← EReal.coe_mul]
  rfl

theorem m_at (R : Tile X P T W V B G H a) (n : Fin 512) : (k0_pay17 (k0_pay9 (F := Ideal) X W B P V) (k0_pay10 (F := Ideal) X W B P V) (Ideal.ofBits .f32 0x44800000#32) G H T G) (ix2 n 0) = (((∑ k, dh a n k) / 1024 : ℝ) : EReal) := by
  pointwise [k0_pay17]
  rw [sum_eq _ (fun k => dh a n k) (fun k => dh_at X P T W V B G H a R n k)]
  exact div_width _

theorem s_at (R : Tile X P T W V B G H a) (n : Fin 512) : (k0_pay18 (k0_pay9 (F := Ideal) X W B P V) (k0_pay10 (F := Ideal) X W B P V) (Ideal.ofBits .f32 0x44800000#32) G H T G) (ix1 n) = ((∑ k, dh a n k * xh (r a n) k : ℝ) : EReal) := by
  pointwise [k0_pay18]
  exact sum_eq _ _ fun k => by rw [dh_at X P T W V B G H a R, xh_at X P T W V B G H a R, EReal.coe_mul]

theorem dr_at (R : Tile X P T W V B G H a) (n : Fin 512) (j : Fin 1024) : (k0_pay19 (k0_pay11 (k0_pay10 (F := Ideal) X W B P V) (Ideal.ofBits .f32 0x44800000#32)) (k0_pay12 (k0_pay9 (F := Ideal) X W B P V) (k0_pay10 (F := Ideal) X W B P V) (Ideal.ofBits .f32 0x44800000#32)) (k0_pay16 (k0_pay9 (F := Ideal) X W B P V) (k0_pay10 (F := Ideal) X W B P V) (Ideal.ofBits .f32 0x44800000#32) G H T G) (k0_pay17 (k0_pay9 (F := Ideal) X W B P V) (k0_pay10 (F := Ideal) X W B P V) (Ideal.ofBits .f32 0x44800000#32) G H T G) (k0_pay18 (k0_pay9 (F := Ideal) X W B P V) (k0_pay10 (F := Ideal) X W B P V) (Ideal.ofBits .f32 0x44800000#32) G H T G)) (ix2 n j) = ((dr a n j : ℝ) : EReal) := by
  pointwise [k0_pay19]
  rw [rs_at X P T W V B G H a R, dh_at X P T W V B G H a R, m_at X P T W V B G H a R, xh_at X P T W V B G H a R, s_at X P T W V B G H a R]
  refine (congrArg (fun s => _ * (_ - _ * s)) (div_width _)).trans ?_
  simp only [← EReal.coe_mul, ← EReal.coe_sub]
  rfl

theorem dg_at (R : Tile X P T W V B G H a) (U : FVec Ideal S1x1024 .f32) (j : Fin 1024) : k0_pay20 (k0_pay12 (k0_pay9 (F := Ideal) X W B P V) (k0_pay10 (F := Ideal) X W B P V) (Ideal.ofBits .f32 0x44800000#32)) (k0_pay15 (k0_pay9 (F := Ideal) X W B P V) (k0_pay10 (F := Ideal) X W B P V) (Ideal.ofBits .f32 0x44800000#32) G H T) U (ix2 0 j) = U (ix2 0 j) + ((dg a j : ℝ) : EReal) := by
  pointwise [k0_pay20]
  exact congrArg (_ + ·) (sum_eq _ _ fun n => by rw [dy_at X P T W V B G H a R, xh_at X P T W V B G H a R, EReal.coe_mul])

theorem dl_at (R : Tile X P T W V B G H a) (U : FVec Ideal S1x1024 .f32) (j : Fin 1024) : k0_pay21 (k0_pay15 (k0_pay9 (F := Ideal) X W B P V) (k0_pay10 (F := Ideal) X W B P V) (Ideal.ofBits .f32 0x44800000#32) G H T) U (ix2 0 j) = U (ix2 0 j) + ((dl a j : ℝ) : EReal) := by
  pointwise [k0_pay21]
  exact congrArg (_ + ·) (sum_eq _ _ fun n => dy_at X P T W V B G H a R n j)

theorem de_at (R : Tile X P T W V B G H a) (n : Fin 512) (j : Fin 1024) : k0_pay22 (k0_pay7 (F := Ideal) X W B) (k0_pay11 (k0_pay10 (F := Ideal) X W B P V) (Ideal.ofBits .f32 0x44800000#32)) (k0_pay12 (k0_pay9 (F := Ideal) X W B P V) (k0_pay10 (F := Ideal) X W B P V) (Ideal.ofBits .f32 0x44800000#32)) (k0_pay16 (k0_pay9 (F := Ideal) X W B P V) (k0_pay10 (F := Ideal) X W B P V) (Ideal.ofBits .f32 0x44800000#32) G H T G) (k0_pay17 (k0_pay9 (F := Ideal) X W B P V) (k0_pay10 (F := Ideal) X W B P V) (Ideal.ofBits .f32 0x44800000#32) G H T G) (k0_pay18 (k0_pay9 (F := Ideal) X W B P V) (k0_pay10 (F := Ideal) X W B P V) (Ideal.ofBits .f32 0x44800000#32) G H T G) (ix2 n j) = ((de a n j : ℝ) : EReal) := by
  pointwise [k0_pay22]
  rw [dr_at X P T W V B G H a R, gt_at X P T W V B G H a R, ← EReal.coe_mul]
  rfl

theorem dz_at (R : Tile X P T W V B G H a) (n : Fin 512) (j : Fin 1024) : (k0_pay23 (k0_pay7 (F := Ideal) X W B) (k0_pay8 (F := Ideal) P V) (k0_pay11 (k0_pay10 (F := Ideal) X W B P V) (Ideal.ofBits .f32 0x44800000#32)) (k0_pay12 (k0_pay9 (F := Ideal) X W B P V) (k0_pay10 (F := Ideal) X W B P V) (Ideal.ofBits .f32 0x44800000#32)) (k0_pay16 (k0_pay9 (F := Ideal) X W B P V) (k0_pay10 (F := Ideal) X W B P V) (Ideal.ofBits .f32 0x44800000#32) G H T G) (k0_pay17 (k0_pay9 (F := Ideal) X W B P V) (k0_pay10 (F := Ideal) X W B P V) (Ideal.ofBits .f32 0x44800000#32) G H T G) (k0_pay18 (k0_pay9 (F := Ideal) X W B P V) (k0_pay10 (F := Ideal) X W B P V) (Ideal.ofBits .f32 0x44800000#32) G H T G)) (ix2 n j) = ((dz a n j : ℝ) : EReal) := by
  pointwise [k0_pay23]
  rw [dr_at X P T W V B G H a R, gt_at X P T W V B G H a R, e_at X P T W V B G H a R, one_w]
  simp only [← EReal.coe_mul, ← EReal.coe_sub]
  rfl

theorem db_at (R : Tile X P T W V B G H a) (U : FVec Ideal S1x1024 .f32) (j : Fin 1024) : k0_pay24 (k0_pay7 (F := Ideal) X W B) (k0_pay8 (F := Ideal) P V) (k0_pay11 (k0_pay10 (F := Ideal) X W B P V) (Ideal.ofBits .f32 0x44800000#32)) (k0_pay12 (k0_pay9 (F := Ideal) X W B P V) (k0_pay10 (F := Ideal) X W B P V) (Ideal.ofBits .f32 0x44800000#32)) (k0_pay16 (k0_pay9 (F := Ideal) X W B P V) (k0_pay10 (F := Ideal) X W B P V) (Ideal.ofBits .f32 0x44800000#32) G H T G) (k0_pay17 (k0_pay9 (F := Ideal) X W B P V) (k0_pay10 (F := Ideal) X W B P V) (Ideal.ofBits .f32 0x44800000#32) G H T G) (k0_pay18 (k0_pay9 (F := Ideal) X W B P V) (k0_pay10 (F := Ideal) X W B P V) (Ideal.ofBits .f32 0x44800000#32) G H T G) U (ix2 0 j) = U (ix2 0 j) + ((db a j : ℝ) : EReal) := by
  pointwise [k0_pay24]
  exact congrArg (_ + ·) (sum_eq _ _ fun n => dz_at X P T W V B G H a R n j)

theorem dzb_at (R : Tile X P T W V B G H a) (n : Fin 512) (j : Fin 1024) : k0_pay1 (k0_pay23 (k0_pay7 (F := Ideal) X W B) (k0_pay8 (F := Ideal) P V) (k0_pay11 (k0_pay10 (F := Ideal) X W B P V) (Ideal.ofBits .f32 0x44800000#32)) (k0_pay12 (k0_pay9 (F := Ideal) X W B P V) (k0_pay10 (F := Ideal) X W B P V) (Ideal.ofBits .f32 0x44800000#32)) (k0_pay16 (k0_pay9 (F := Ideal) X W B P V) (k0_pay10 (F := Ideal) X W B P V) (Ideal.ofBits .f32 0x44800000#32) G H T G) (k0_pay17 (k0_pay9 (F := Ideal) X W B P V) (k0_pay10 (F := Ideal) X W B P V) (Ideal.ofBits .f32 0x44800000#32) G H T G) (k0_pay18 (k0_pay9 (F := Ideal) X W B P V) (k0_pay10 (F := Ideal) X W B P V) (Ideal.ofBits .f32 0x44800000#32) G H T G)) (ix2 n j) = ((dz a n j : ℝ) : EReal) := by
  pointwise [k0_pay1]
  exact dz_at X P T W V B G H a R n j

theorem dx_at (R : Tile X P T W V B G H a) (n : Fin 512) (j : Fin 1024) : k0_pay2 (k0_pay19 (k0_pay11 (k0_pay10 (F := Ideal) X W B P V) (Ideal.ofBits .f32 0x44800000#32)) (k0_pay12 (k0_pay9 (F := Ideal) X W B P V) (k0_pay10 (F := Ideal) X W B P V) (Ideal.ofBits .f32 0x44800000#32)) (k0_pay16 (k0_pay9 (F := Ideal) X W B P V) (k0_pay10 (F := Ideal) X W B P V) (Ideal.ofBits .f32 0x44800000#32) G H T G) (k0_pay17 (k0_pay9 (F := Ideal) X W B P V) (k0_pay10 (F := Ideal) X W B P V) (Ideal.ofBits .f32 0x44800000#32) G H T G) (k0_pay18 (k0_pay9 (F := Ideal) X W B P V) (k0_pay10 (F := Ideal) X W B P V) (Ideal.ofBits .f32 0x44800000#32) G H T G)) (k0_pay23 (k0_pay7 (F := Ideal) X W B) (k0_pay8 (F := Ideal) P V) (k0_pay11 (k0_pay10 (F := Ideal) X W B P V) (Ideal.ofBits .f32 0x44800000#32)) (k0_pay12 (k0_pay9 (F := Ideal) X W B P V) (k0_pay10 (F := Ideal) X W B P V) (Ideal.ofBits .f32 0x44800000#32)) (k0_pay16 (k0_pay9 (F := Ideal) X W B P V) (k0_pay10 (F := Ideal) X W B P V) (Ideal.ofBits .f32 0x44800000#32) G H T G) (k0_pay17 (k0_pay9 (F := Ideal) X W B P V) (k0_pay10 (F := Ideal) X W B P V) (Ideal.ofBits .f32 0x44800000#32) G H T G) (k0_pay18 (k0_pay9 (F := Ideal) X W B P V) (k0_pay10 (F := Ideal) X W B P V) (Ideal.ofBits .f32 0x44800000#32) G H T G)) W (ix2 n j) = dx a n j := by
  pointwise [k0_pay2]
  unfold dx
  rw [dr_at X P T W V B G H a R]
  refine congrArg₂ (· + ·) ?_ (Finset.sum_congr rfl fun k _ => ?_)
  · rw [EReal.coe_mul]
    exact congrArg (fun s => s * _) alpha_w
  · pointwise [k0_pay1]
    rw [dz_at X P T W V B G H a R, R.w]

theorem zero3 (j : Fin 128) : (k0_pay3 (F := Ideal)) (ix2 0 j) = (0 : EReal) := by pointwise [k0_pay3]
theorem zero4 (j : Fin 1024) : (k0_pay4 (F := Ideal)) (ix2 0 j) = (0 : EReal) := by pointwise [k0_pay4]
theorem zero5 (j : Fin 1024) : (k0_pay5 (F := Ideal)) (ix2 0 j) = (0 : EReal) := by pointwise [k0_pay5]
theorem zero6 (j : Fin 1024) : (k0_pay6 (F := Ideal)) (ix2 0 j) = (0 : EReal) := by pointwise [k0_pay6]

end Cert.PleIdeal.Sem
end
-- ==== Proof.Layer.Rows.lean ====
/- Sums over all rows, taken a block of rows at a time. -/
module
public import proofs.«01_k».proof.Proof.Steps
public import proofs.«01_k».proof.Proof.Attend.Spec
@[expose] public section

noncomputable section

namespace Cert.Layer

open Cert.Attend

variable (f : Fin 16384 → ℝ)

/-- A number per row, zero past the last row. -/
def ext (n : ℕ) : EReal := if h : n < 16384 then ((f ⟨n, h⟩ : ℝ) : EReal) else 0

/-- A block's share of the sum over all rows. -/
def share (R i : ℕ) : EReal := ∑ k : Fin R, ext f (i * R + k.val)

theorem share_eq (R i : ℕ) (h : ∀ k : Fin R, i * R + k.val < 16384) : ((∑ k : Fin R, f ⟨i * R + k.val, h k⟩ : ℝ) : EReal) = share f R i := by
  rw [← coe_sum]
  exact Finset.sum_congr rfl fun k _ => by unfold ext; rw [dif_pos (h k)]

theorem share_sum (S R : ℕ) (hL : 16384 = S * R) : ∑ i ∈ Finset.range S, share f R i = ((∑ n, f n : ℝ) : EReal) := by
  unfold share
  rw [Cert.Step.sum_steps (L := 16384) S R (fun n => ext f n) hL, ← coe_sum]
  exact Finset.sum_congr rfl fun n _ => by unfold ext; rw [dif_pos n.isLt]

end Cert.Layer
end
-- ==== Proof.Ple.Kern.lean ====
/- What the kernel of the gated layer leaves: its blocks, its running sums, and its results. -/
module
public import proofs.«01_k».proof.Proof.Gen.PleIdeal.Value
public import proofs.«01_k».proof.Proof.Ple.Pay
public import proofs.«01_k».proof.Proof.Layer.Rows
public import Idealize.ShloMosaic.Lib.WritesUnit
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.PleIdeal.Sem

open Cert.PleIdeal Cert.PleIdeal.Gen Idealize.ShloMosaic Idealize.ShloMosaic.TcCoe Idealize.SL.Sem
open Idealize.ShloMosaic.Pipeline (Dat)
open Cert.Attend Cert.Layer Cert.Step Cert.Step.Ple

variable (m : (ℓ : Loc nD τ sig) → Buf (Elt Ideal) ℓ) (c : Dev nD) (a : Args 16384)

/-- The arguments are these reals. -/
structure Given : Prop where
  x : ∀ n j, m ((c : Thread nD τ).loc main_arg0) (ix2 n j) = ((a.x n j : ℝ) : EReal)
  p : ∀ n j, m ((c : Thread nD τ).loc main_arg1) (ix2 n j) = ((a.p n j : ℝ) : EReal)
  t : ∀ n j, m ((c : Thread nD τ).loc main_arg2) (ix2 n j) = ((a.t n j : ℝ) : EReal)
  w : ∀ n j, m ((c : Thread nD τ).loc main_arg3) (ix2 n j) = a.w n j
  v : ∀ n j, m ((c : Thread nD τ).loc main_arg4) (ix2 n j) = ((a.v n j : ℝ) : EReal)
  b : ∀ j, m ((c : Thread nD τ).loc main_arg5) (ix2 0 j) = a.b j
  g : ∀ j, m ((c : Thread nD τ).loc main_arg6) (ix2 0 j) = ((a.g j : ℝ) : EReal)
  l : ∀ j, m ((c : Thread nD τ).loc main_arg7) (ix2 0 j) = ((a.l j : ℝ) : EReal)

theorem N32 : cfg0.N = 32 := by decide +kernel

theorem lt32 (t : Fin cfg0.N) : t.val < 32 := lt_of_lt_of_eq t.isLt N32

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0]
    ∧ win0_11.index t = ![0, 0] ∧ win0_12.index t = ![0, 0] ∧ win0_13.index t = ![0, 0] ∧ win0_14.index t = ![0, 0] :=
  (by decide +kernel : ∀ t : Fin grid0.N, _)

theorem wg_at (n j : Fin 1024) : V m c main_v0 (ix2 n j) = m ((c : Thread nD τ).loc main_arg3) (ix2 n j) := by
  simp only [V, hostOps0, List.flatten_cons, List.flatten_nil, List.cons_append, List.nil_append, List.append_nil]
  entry_read
  pointwise []
theorem wp_at (n : Fin 256) (j : Fin 1024) : V m c main_v1 (ix2 n j) = m ((c : Thread nD τ).loc main_arg4) (ix2 n j) := by
  simp only [V, hostOps0, List.flatten_cons, List.flatten_nil, List.cons_append, List.nil_append, List.append_nil]
  entry_read
  pointwise []
variable (t : Fin cfg0.N)

theorem row_lt (r : Fin 512) : t.val * 512 + r.val < 16384 := by have := lt32 t; omega

/-- The rows a point reads. -/
def tile : Args 512 := rows a fun r => ⟨t.val * 512 + r.val, row_lt t r⟩

/-- The blocks a point reads are the rows' reals. -/
theorem tile_at (R : Given m c a) : Tile (iblk m c 0 t) (iblk m c 1 t) (iblk m c 2 t) (iblk m c 3 t) (iblk m c 4 t) (iblk m c 5 t) (iblk m c 6 t) (iblk m c 7 t) (tile a t) where
  x n j := by
    have h : iblk m c 0 t (ix2 n j) = V m c main_arg0 (ix2 ⟨t.val * 512 + n.val, row_lt t n⟩ j) := by blk_point [iblk, idx t]
    exact h.trans <| (congrFun (V_main_arg0 m c) _).trans (R.x _ j)
  p n j := by
    have h : iblk m c 1 t (ix2 n j) = V m c main_arg1 (ix2 ⟨t.val * 512 + n.val, row_lt t n⟩ j) := by blk_point [iblk, idx t]
    exact h.trans <| (congrFun (V_main_arg1 m c) _).trans (R.p _ j)
  t n j := by
    have h : iblk m c 2 t (ix2 n j) = V m c main_arg2 (ix2 ⟨t.val * 512 + n.val, row_lt t n⟩ j) := by blk_point [iblk, idx t]
    exact h.trans <| (congrFun (V_main_arg2 m c) _).trans (R.t _ j)
  w n j := by
    have h : iblk m c 3 t (ix2 n j) = V m c main_v0 (ix2 n j) := by blk_point [iblk, idx t]
    exact h.trans <| (wg_at m c n j).trans (R.w n j)
  v n j := by
    have h : iblk m c 4 t (ix2 n j) = V m c main_v1 (ix2 n j) := by blk_point [iblk, idx t]
    exact h.trans <| (wp_at m c n j).trans (R.v n j)
  b j := by
    have h : iblk m c 5 t (ix2 0 j) = V m c main_arg5 (ix2 0 j) := by blk_point [iblk, idx t]
    exact h.trans <| (congrFun (V_main_arg5 m c) _).trans (R.b j)
  g j := by
    have h : iblk m c 6 t (ix2 0 j) = V m c main_arg6 (ix2 0 j) := by blk_point [iblk, idx t]
    exact h.trans <| (congrFun (V_main_arg6 m c) _).trans (R.g j)
  l j := by
    have h : iblk m c 7 t (ix2 0 j) = V m c main_arg7 (ix2 0 j) := by blk_point [iblk, idx t]
    exact h.trans <| (congrFun (V_main_arg7 m c) _).trans (R.l j)

/-- What a point leaves in its block of the gradient of the rows. -/
theorem out8 (R : Given m c a) (r : Fin 512) (j : Fin 1024) : (outsAt0 m c t.val t.isLt).1 (ix2 r j)
    = dx a ⟨t.val * 512 + r.val, row_lt t r⟩ j := by
  by_cases h : t.val % 32 = 0
  · rw [outsAt0_A m c t h]
    frame_out
    exact dx_at _ _ _ _ _ _ _ _ _ (tile_at m c a t R) r j
  · rw [outsAt0_B m c t h]
    frame_out
    exact dx_at _ _ _ _ _ _ _ _ _ (tile_at m c a t R) r j

/-- After the run the result is the gradient of the rows. -/
theorem final8 (R : Given m c a) : (dats m 0 c).arrAt 8 cfg0.N = fun i => dx a (i 0) (i 1) := by
  refine (dats m 0 c).arrAt_eq_of_covers 8 _ (by decide +kernel) fun t hf y => ?_
  blk_simp
  rw [after0_8]
  idx_vars y
  refine (out8 m c a t R y0 y1).trans ?_
  have e1 : ∀ (n k : Fin 16384) (i j : Fin 1024), n = k → i = j → dx a n i = dx a k j := by
    rintro n _ i _ rfl rfl; rfl
  refine e1 _ _ _ _ (Fin.ext ?_) (Fin.ext ?_)
  · blk_ext [idx t]
  · blk_ext [idx t]

/-- What a point leaves in its block of the gradient of the embedding. -/
theorem out9 (R : Given m c a) (r : Fin 512) (j : Fin 1024) : (outsAt0 m c t.val t.isLt).2.1 (ix2 r j)
    = ((de a ⟨t.val * 512 + r.val, row_lt t r⟩ j : ℝ) : EReal) := by
  by_cases h : t.val % 32 = 0
  · rw [outsAt0_A m c t h]
    frame_out
    exact de_at _ _ _ _ _ _ _ _ _ (tile_at m c a t R) r j
  · rw [outsAt0_B m c t h]
    frame_out
    exact de_at _ _ _ _ _ _ _ _ _ (tile_at m c a t R) r j

/-- After the run the result is the gradient of the embedding. -/
theorem final9 (R : Given m c a) : (dats m 0 c).arrAt 9 cfg0.N = fun i => ((de a (i 0) (i 1) : ℝ) : EReal) := by
  refine (dats m 0 c).arrAt_eq_of_covers 9 _ (by decide +kernel) fun t hf y => ?_
  blk_simp
  rw [after0_9]
  idx_vars y
  refine (out9 m c a t R y0 y1).trans ?_
  have e1 : ∀ (n k : Fin 16384) (i j : Fin 1024), n = k → i = j → ((de a n i : ℝ) : EReal) = ((de a k j : ℝ) : EReal) := by
    rintro n _ i _ rfl rfl; rfl
  refine e1 _ _ _ _ (Fin.ext ?_) (Fin.ext ?_)
  · blk_ext [idx t]
  · blk_ext [idx t]

/-- What a point leaves in its block of the gradient of the gate's logits. -/
theorem out10 (R : Given m c a) (r : Fin 512) (j : Fin 1024) : (outsAt0 m c t.val t.isLt).2.2.1 (ix2 r j)
    = ((dz a ⟨t.val * 512 + r.val, row_lt t r⟩ j : ℝ) : EReal) := by
  by_cases h : t.val % 32 = 0
  · rw [outsAt0_A m c t h]
    frame_out
    exact dzb_at _ _ _ _ _ _ _ _ _ (tile_at m c a t R) r j
  · rw [outsAt0_B m c t h]
    frame_out
    exact dzb_at _ _ _ _ _ _ _ _ _ (tile_at m c a t R) r j

/-- After the run the result is the gradient of the gate's logits. -/
theorem final10 (R : Given m c a) : (dats m 0 c).arrAt 10 cfg0.N = fun i => ((dz a (i 0) (i 1) : ℝ) : EReal) := by
  refine (dats m 0 c).arrAt_eq_of_covers 10 _ (by decide +kernel) fun t hf y => ?_
  blk_simp
  rw [after0_10]
  idx_vars y
  refine (out10 m c a t R y0 y1).trans ?_
  have e1 : ∀ (n k : Fin 16384) (i j : Fin 1024), n = k → i = j → ((dz a n i : ℝ) : EReal) = ((dz a k j : ℝ) : EReal) := by
    rintro n _ i _ rfl rfl; rfl
  refine e1 _ _ _ _ (Fin.ext ?_) (Fin.ext ?_)
  · blk_ext [idx t]
  · blk_ext [idx t]

/-- The numbers the loss adds up, per row. -/
def per11 (j : Fin 128) : Fin 16384 → ℝ := fun n => sq a n * (1 / 2048)
theorem tot11 (j : Fin 128) : ∑ n, per11 a j n = loss a := (Finset.sum_mul _ _ _).symm
theorem part11 (j : Fin 128) : ((loss (tile a t) : ℝ) : EReal) = share (per11 a j) 512 t.val := by
  rw [← share_eq _ _ _ (row_lt t)]
  exact congrArg Real.toEReal (Finset.sum_mul _ _ _)
/-- The first point's rows, added to zero. -/
theorem out11_A (R : Given m c a) (h : t.val % 32 = 0) (j : Fin 128) : (outsAt0 m c t.val t.isLt).2.2.2.1 (ix2 0 j) = share (per11 a j) 512 t.val := by
  rw [outsAt0_A m c t h]
  frame_out
  refine (loss_at _ _ _ _ _ _ _ _ _ (tile_at m c a t R) _ j).trans ((congrArg₂ (· + ·) (zero3 j) (part11 a t j)).trans (zero_add _))
/-- A later point adds its rows to what the point before left. -/
theorem out11_B (R : Given m c a) (h : ¬ t.val % 32 = 0) (j : Fin 128) : (outsAt0 m c t.val t.isLt).2.2.2.1 (ix2 0 j)
    = (outsAt0 m c (t.val - 1) (by omega)).2.2.2.1 (ix2 0 j) + share (per11 a j) 512 t.val := by
  rw [outsAt0_B m c t h]
  frame_out
  refine (loss_at _ _ _ _ _ _ _ _ _ (tile_at m c a t R) _ j).trans ?_
  exact congrArg (_ + ·) (part11 a t j)
/-- After a point the loss is the sum over the rows so far. -/
theorem out11 (R : Given m c a) (j : Fin 128) : ∀ n (h : n < cfg0.N), (outsAt0 m c n h).2.2.2.1 (ix2 0 j) = ∑ i ∈ Finset.range (n + 1), share (per11 a j) 512 i :=
  carried (fun n h => (outsAt0 m c n h).2.2.2.1 (ix2 0 j)) (share (per11 a j) 512)
    (fun h => out11_A m c a ⟨0, h⟩ R rfl j)
    (fun n h => out11_B m c a ⟨n + 1, h⟩ R (by have := lt32 ⟨n + 1, h⟩; simp only at this ⊢; omega) j)
/-- After the run the result is the loss. -/
theorem final11 (R : Given m c a) : (dats m 0 c).arrAt 11 cfg0.N = fun i => ((loss a : ℝ) : EReal) := by
  refine (dats m 0 c).arrAt_eq_of_covers 11 _ (by decide +kernel) fun t hf y => ?_
  have ht : t.val = 31 := by
    have := (flush0_11 t).mp hf
    have := lt32 t
    omega
  blk_simp
  rw [after0_11]
  idx_vars y
  obtain rfl : y0 = 0 := Subsingleton.elim _ _
  refine (out11 m c a R y1 t.val t.isLt).trans ?_
  rw [ht, share_sum _ 32 512 rfl, tot11]

/-- The numbers the gradient of the norm's scale adds up, per row. -/
def per12 (j : Fin 1024) : Fin 16384 → ℝ := fun n => dy a n j * xh (r a n) j
theorem tot12 (j : Fin 1024) : ∑ n, per12 a j n = dg a j := rfl
theorem part12 (j : Fin 1024) : ((dg (tile a t) j : ℝ) : EReal) = share (per12 a j) 512 t.val := by
  rw [← share_eq _ _ _ (row_lt t)]
  exact congrArg Real.toEReal rfl
/-- The first point's rows, added to zero. -/
theorem out12_A (R : Given m c a) (h : t.val % 32 = 0) (j : Fin 1024) : (outsAt0 m c t.val t.isLt).2.2.2.2.1 (ix2 0 j) = share (per12 a j) 512 t.val := by
  rw [outsAt0_A m c t h]
  frame_out
  refine (dg_at _ _ _ _ _ _ _ _ _ (tile_at m c a t R) _ j).trans ((congrArg₂ (· + ·) (zero4 j) (part12 a t j)).trans (zero_add _))
/-- A later point adds its rows to what the point before left. -/
theorem out12_B (R : Given m c a) (h : ¬ t.val % 32 = 0) (j : Fin 1024) : (outsAt0 m c t.val t.isLt).2.2.2.2.1 (ix2 0 j)
    = (outsAt0 m c (t.val - 1) (by omega)).2.2.2.2.1 (ix2 0 j) + share (per12 a j) 512 t.val := by
  rw [outsAt0_B m c t h]
  frame_out
  refine (dg_at _ _ _ _ _ _ _ _ _ (tile_at m c a t R) _ j).trans ?_
  exact congrArg (_ + ·) (part12 a t j)
/-- After a point the gradient of the norm's scale is the sum over the rows so far. -/
theorem out12 (R : Given m c a) (j : Fin 1024) : ∀ n (h : n < cfg0.N), (outsAt0 m c n h).2.2.2.2.1 (ix2 0 j) = ∑ i ∈ Finset.range (n + 1), share (per12 a j) 512 i :=
  carried (fun n h => (outsAt0 m c n h).2.2.2.2.1 (ix2 0 j)) (share (per12 a j) 512)
    (fun h => out12_A m c a ⟨0, h⟩ R rfl j)
    (fun n h => out12_B m c a ⟨n + 1, h⟩ R (by have := lt32 ⟨n + 1, h⟩; simp only at this ⊢; omega) j)
/-- After the run the result is the gradient of the norm's scale. -/
theorem final12 (R : Given m c a) : (dats m 0 c).arrAt 12 cfg0.N = fun i => ((dg a (i 1) : ℝ) : EReal) := by
  refine (dats m 0 c).arrAt_eq_of_covers 12 _ (by decide +kernel) fun t hf y => ?_
  have ht : t.val = 31 := by
    have := (flush0_12 t).mp hf
    have := lt32 t
    omega
  blk_simp
  rw [after0_12]
  idx_vars y
  obtain rfl : y0 = 0 := Subsingleton.elim _ _
  refine (out12 m c a R y1 t.val t.isLt).trans ?_
  rw [ht, share_sum _ 32 512 rfl, tot12]
  have e1 : ∀ (i j : Fin 1024), i = j → ((dg a i : ℝ) : EReal) = ((dg a j : ℝ) : EReal) := by
    rintro i _ rfl; rfl
  refine e1 _ _ (Fin.ext ?_)
  blk_ext [idx t]

/-- The numbers the gradient of the norm's bias adds up, per row. -/
def per13 (j : Fin 1024) : Fin 16384 → ℝ := fun n => dy a n j
theorem tot13 (j : Fin 1024) : ∑ n, per13 a j n = dl a j := rfl
theorem part13 (j : Fin 1024) : ((dl (tile a t) j : ℝ) : EReal) = share (per13 a j) 512 t.val := by
  rw [← share_eq _ _ _ (row_lt t)]
  exact congrArg Real.toEReal rfl
/-- The first point's rows, added to zero. -/
theorem out13_A (R : Given m c a) (h : t.val % 32 = 0) (j : Fin 1024) : (outsAt0 m c t.val t.isLt).2.2.2.2.2.1 (ix2 0 j) = share (per13 a j) 512 t.val := by
  rw [outsAt0_A m c t h]
  frame_out
  refine (dl_at _ _ _ _ _ _ _ _ _ (tile_at m c a t R) _ j).trans ((congrArg₂ (· + ·) (zero5 j) (part13 a t j)).trans (zero_add _))
/-- A later point adds its rows to what the point before left. -/
theorem out13_B (R : Given m c a) (h : ¬ t.val % 32 = 0) (j : Fin 1024) : (outsAt0 m c t.val t.isLt).2.2.2.2.2.1 (ix2 0 j)
    = (outsAt0 m c (t.val - 1) (by omega)).2.2.2.2.2.1 (ix2 0 j) + share (per13 a j) 512 t.val := by
  rw [outsAt0_B m c t h]
  frame_out
  refine (dl_at _ _ _ _ _ _ _ _ _ (tile_at m c a t R) _ j).trans ?_
  exact congrArg (_ + ·) (part13 a t j)
/-- After a point the gradient of the norm's bias is the sum over the rows so far. -/
theorem out13 (R : Given m c a) (j : Fin 1024) : ∀ n (h : n < cfg0.N), (outsAt0 m c n h).2.2.2.2.2.1 (ix2 0 j) = ∑ i ∈ Finset.range (n + 1), share (per13 a j) 512 i :=
  carried (fun n h => (outsAt0 m c n h).2.2.2.2.2.1 (ix2 0 j)) (share (per13 a j) 512)
    (fun h => out13_A m c a ⟨0, h⟩ R rfl j)
    (fun n h => out13_B m c a ⟨n + 1, h⟩ R (by have := lt32 ⟨n + 1, h⟩; simp only at this ⊢; omega) j)
/-- After the run the result is the gradient of the norm's bias. -/
theorem final13 (R : Given m c a) : (dats m 0 c).arrAt 13 cfg0.N = fun i => ((dl a (i 1) : ℝ) : EReal) := by
  refine (dats m 0 c).arrAt_eq_of_covers 13 _ (by decide +kernel) fun t hf y => ?_
  have ht : t.val = 31 := by
    have := (flush0_13 t).mp hf
    have := lt32 t
    omega
  blk_simp
  rw [after0_13]
  idx_vars y
  obtain rfl : y0 = 0 := Subsingleton.elim _ _
  refine (out13 m c a R y1 t.val t.isLt).trans ?_
  rw [ht, share_sum _ 32 512 rfl, tot13]
  have e1 : ∀ (i j : Fin 1024), i = j → ((dl a i : ℝ) : EReal) = ((dl a j : ℝ) : EReal) := by
    rintro i _ rfl; rfl
  refine e1 _ _ (Fin.ext ?_)
  blk_ext [idx t]

/-- The numbers the gradient of the gate's bias adds up, per row. -/
def per14 (j : Fin 1024) : Fin 16384 → ℝ := fun n => dz a n j
theorem tot14 (j : Fin 1024) : ∑ n, per14 a j n = db a j := rfl
theorem part14 (j : Fin 1024) : ((db (tile a t) j : ℝ) : EReal) = share (per14 a j) 512 t.val := by
  rw [← share_eq _ _ _ (row_lt t)]
  exact congrArg Real.toEReal rfl
/-- The first point's rows, added to zero. -/
theorem out14_A (R : Given m c a) (h : t.val % 32 = 0) (j : Fin 1024) : (outsAt0 m c t.val t.isLt).2.2.2.2.2.2 (ix2 0 j) = share (per14 a j) 512 t.val := by
  rw [outsAt0_A m c t h]
  frame_out
  refine (db_at _ _ _ _ _ _ _ _ _ (tile_at m c a t R) _ j).trans ((congrArg₂ (· + ·) (zero6 j) (part14 a t j)).trans (zero_add _))
/-- A later point adds its rows to what the point before left. -/
theorem out14_B (R : Given m c a) (h : ¬ t.val % 32 = 0) (j : Fin 1024) : (outsAt0 m c t.val t.isLt).2.2.2.2.2.2 (ix2 0 j)
    = (outsAt0 m c (t.val - 1) (by omega)).2.2.2.2.2.2 (ix2 0 j) + share (per14 a j) 512 t.val := by
  rw [outsAt0_B m c t h]
  frame_out
  refine (db_at _ _ _ _ _ _ _ _ _ (tile_at m c a t R) _ j).trans ?_
  exact congrArg (_ + ·) (part14 a t j)
/-- After a point the gradient of the gate's bias is the sum over the rows so far. -/
theorem out14 (R : Given m c a) (j : Fin 1024) : ∀ n (h : n < cfg0.N), (outsAt0 m c n h).2.2.2.2.2.2 (ix2 0 j) = ∑ i ∈ Finset.range (n + 1), share (per14 a j) 512 i :=
  carried (fun n h => (outsAt0 m c n h).2.2.2.2.2.2 (ix2 0 j)) (share (per14 a j) 512)
    (fun h => out14_A m c a ⟨0, h⟩ R rfl j)
    (fun n h => out14_B m c a ⟨n + 1, h⟩ R (by have := lt32 ⟨n + 1, h⟩; simp only at this ⊢; omega) j)
/-- After the run the result is the gradient of the gate's bias. -/
theorem final14 (R : Given m c a) : (dats m 0 c).arrAt 14 cfg0.N = fun i => ((db a (i 1) : ℝ) : EReal) := by
  refine (dats m 0 c).arrAt_eq_of_covers 14 _ (by decide +kernel) fun t hf y => ?_
  have ht : t.val = 31 := by
    have := (flush0_14 t).mp hf
    have := lt32 t
    omega
  blk_simp
  rw [after0_14]
  idx_vars y
  obtain rfl : y0 = 0 := Subsingleton.elim _ _
  refine (out14 m c a R y1 t.val t.isLt).trans ?_
  rw [ht, share_sum _ 32 512 rfl, tot14]
  have e1 : ∀ (i j : Fin 1024), i = j → ((db a i : ℝ) : EReal) = ((db a j : ℝ) : EReal) := by
    rintro i _ rfl; rfl
  refine e1 _ _ (Fin.ext ?_)
  blk_ext [idx t]

end Cert.PleIdeal.Sem
end
-- ==== Proof.Ple.Ref.lean ====
/- What the reference of the gated layer computes, one step at a time. -/
module
public import proofs.«01_k».proof.Proof.Gen.PleRefIdeal.Read
public import proofs.«01_k».proof.Proof.Ple.Spec
public import Idealize.ShloMosaic.Lib.Pointwise
@[expose] public section
set_option maxRecDepth 16384

noncomputable section

namespace Cert.PleRefIdeal.Sem

open Cert.PleRefIdeal Cert.PleRefIdeal.Gen Cert.PleRefIdeal.Read Idealize.ShloMosaic
open Cert.Attend Cert.Layer Cert.Step.Ple

variable (X : FVec Ideal S16384x1024 .f32) (P : FVec Ideal S16384x256 .f32) (T : FVec Ideal S16384x1024 .f32)
variable (W : FVec Ideal S1024x1024 .f32) (V : FVec Ideal S256x1024 .f32) (B G H : FVec Ideal S1x1024 .f32) (a : Args 16384)

/-- The arguments are these reals. -/
structure Given : Prop where
  x : ∀ n j, X (ix2 n j) = ((a.x n j : ℝ) : EReal)
  p : ∀ n j, P (ix2 n j) = ((a.p n j : ℝ) : EReal)
  t : ∀ n j, T (ix2 n j) = ((a.t n j : ℝ) : EReal)
  w : ∀ n j, W (ix2 n j) = a.w n j
  v : ∀ n j, V (ix2 n j) = ((a.v n j : ℝ) : EReal)
  b : ∀ j, B (ix2 0 j) = a.b j
  g : ∀ j, G (ix2 0 j) = ((a.g j : ℝ) : EReal)
  l : ∀ j, H (ix2 0 j) = ((a.l j : ℝ) : EReal)

theorem z_at (R : Given X P T W V B G H a) (n : Fin 16384) (j : Fin 1024) : val_main_v4 (F := Ideal) X W B (ix2 n j) = z a n j := by
  pointwise [val_main_v4, val_main_v3, val_main_v2, val_main_v1, val_main_v0, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_3, val_main_cst_4, val_main_cst_5, val_main_cst_6, val_main_cst_7, val_main_cst_8, val_main_cst_9]
  rw [R.b]
  refine congrArg (· + _) (Finset.sum_congr rfl fun k _ => ?_)
  rw [R.x, R.w]

theorem gt_at (R : Given X P T W V B G H a) (n : Fin 16384) (j : Fin 1024) : val_main_v14 (F := Ideal) X W B (ix2 n j) = ((gt a n j : ℝ) : EReal) := by
  pointwise [val_main_v14, val_main_v13, val_main_v12, val_main_v11, val_main_v10, val_main_v9, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_3, val_main_cst_4, val_main_cst_5, val_main_cst_6, val_main_cst_7, val_main_cst_8, val_main_cst_9]
  rw [z_at X P T W V B G H a R]
  exact sg_real _

theorem e_at (R : Given X P T W V B G H a) (n : Fin 16384) (j : Fin 1024) : val_main_v6 (F := Ideal) P V (ix2 n j) = ((e a n j : ℝ) : EReal) := by
  pointwise [val_main_v6, val_main_v5, val_main_v0, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_3, val_main_cst_4, val_main_cst_5, val_main_cst_6, val_main_cst_7, val_main_cst_8, val_main_cst_9]
  refine sum_eq _ _ fun k => ?_
  rw [R.p, R.v, EReal.coe_mul]

theorem r_at (R : Given X P T W V B G H a) (n : Fin 16384) (j : Fin 1024) : val_main_v19 (F := Ideal) X P W V B (ix2 n j) = ((r a n j : ℝ) : EReal) := by
  pointwise [val_main_v19, val_main_v18, val_main_v8, val_main_v7, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_3, val_main_cst_4, val_main_cst_5, val_main_cst_6, val_main_cst_7, val_main_cst_8, val_main_cst_9]
  rw [gt_at X P T W V B G H a R, e_at X P T W V B G H a R, R.x, alpha_w]
  simp only [← EReal.coe_mul, ← EReal.coe_add]
  rfl

theorem xc_at (R : Given X P T W V B G H a) (n : Fin 16384) (j : Fin 1024) : val_main_v25 (F := Ideal) X P W V B (ix2 n j) = ((xc (r a n) j : ℝ) : EReal) := by
  pointwise [val_main_v25, val_main_v24, val_main_v23, val_main_v22, val_main_v21, val_main_v20, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_3, val_main_cst_4, val_main_cst_5, val_main_cst_6, val_main_cst_7, val_main_cst_8, val_main_cst_9]
  rw [r_at X P T W V B G H a R, sum_eq _ (fun k => r a n k) (fun k => r_at X P T W V B G H a R n k)]
  rw [div_width, ← EReal.coe_sub]
  rfl

theorem var_at (R : Given X P T W V B G H a) (n : Fin 16384) : val_main_v32 (F := Ideal) X P W V B (ix2 n 0) = ((var (r a n) + eps : ℝ) : EReal) := by
  pointwise [val_main_v32, val_main_v31, val_main_v30, val_main_v29, val_main_v28, val_main_v27, val_main_v26, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_3, val_main_cst_4, val_main_cst_5, val_main_cst_6, val_main_cst_7, val_main_cst_8, val_main_cst_9]
  rw [sum_eq _ (fun k => xc (r a n) k * xc (r a n) k) (fun k => by rw [xc_at X P T W V B G H a R, EReal.coe_mul])]
  rw [div_width, eps_w, ← EReal.coe_add]
  rfl

theorem rs_at (R : Given X P T W V B G H a) (n : Fin 16384) : val_main_v33 (F := Ideal) X P W V B (ix2 n 0) = ((rs (r a n) : ℝ) : EReal) := by
  pointwise [val_main_v33, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_3, val_main_cst_4, val_main_cst_5, val_main_cst_6, val_main_cst_7, val_main_cst_8, val_main_cst_9]
  rw [var_at X P T W V B G H a R, rsqrt_real _ (vpos _)]
  rfl

theorem xh_at (R : Given X P T W V B G H a) (n : Fin 16384) (j : Fin 1024) : val_main_v38 (F := Ideal) X P W V B (ix2 n j) = ((xh (r a n) j : ℝ) : EReal) := by
  pointwise [val_main_v38, val_main_v37, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_3, val_main_cst_4, val_main_cst_5, val_main_cst_6, val_main_cst_7, val_main_cst_8, val_main_cst_9]
  rw [xc_at X P T W V B G H a R, rs_at X P T W V B G H a R, ← EReal.coe_mul]
  rfl

theorem err_at (R : Given X P T W V B G H a) (n : Fin 16384) (j : Fin 1024) : val_main_v43 (F := Ideal) X P T W V B G H (ix2 n j) = ((err a n j : ℝ) : EReal) := by
  pointwise [val_main_v43, val_main_v42, val_main_v41, val_main_v40, val_main_v39, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_3, val_main_cst_4, val_main_cst_5, val_main_cst_6, val_main_cst_7, val_main_cst_8, val_main_cst_9]
  rw [xh_at X P T W V B G H a R, R.g, R.l, R.t, ← EReal.coe_mul, ← EReal.coe_add, ← EReal.coe_sub]
  rfl

theorem dy_at (R : Given X P T W V B G H a) (n : Fin 16384) (j : Fin 1024) : val_main_v57 (F := Ideal) X P T W V B G H (ix2 n j) = ((dy a n j : ℝ) : EReal) := by
  pointwise [val_main_v57, val_main_v56, val_main_v55, val_main_v54, val_main_v53, val_main_v52, val_main_v46, val_main_v45, val_main_v44, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_3, val_main_cst_4, val_main_cst_5, val_main_cst_6, val_main_cst_7, val_main_cst_8, val_main_cst_9]
  rw [err_at X P T W V B G H a R]
  rw [half_w, two_w, div_width, ← EReal.coe_mul, ← EReal.coe_mul]
  refine congrArg Real.toEReal ?_
  unfold dy
  ring

theorem dl_at (R : Given X P T W V B G H a) (j : Fin 1024) : val_main_v59 (F := Ideal) X P T W V B G H (ix2 0 j) = ((dl a j : ℝ) : EReal) := by
  pointwise [val_main_v59, val_main_v58, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_3, val_main_cst_4, val_main_cst_5, val_main_cst_6, val_main_cst_7, val_main_cst_8, val_main_cst_9]
  exact sum_eq _ _ fun n => dy_at X P T W V B G H a R n j

theorem dg_at (R : Given X P T W V B G H a) (j : Fin 1024) : val_main_v62 (F := Ideal) X P T W V B G H (ix2 0 j) = ((dg a j : ℝ) : EReal) := by
  pointwise [val_main_v62, val_main_v61, val_main_v60, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_3, val_main_cst_4, val_main_cst_5, val_main_cst_6, val_main_cst_7, val_main_cst_8, val_main_cst_9]
  refine sum_eq _ _ fun n => ?_
  rw [xh_at X P T W V B G H a R, dy_at X P T W V B G H a R, ← EReal.coe_mul, mul_comm]

theorem loss_at (R : Given X P T W V B G H a) (j : Fin 128) : val_main_v98 (F := Ideal) X P T W V B G H (ix2 0 j) = ((loss a : ℝ) : EReal) := by
  pointwise [val_main_v98, val_main_v51, val_main_v50, val_main_v49, val_main_v48, val_main_v47, val_main_v44, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_3, val_main_cst_4, val_main_cst_5, val_main_cst_6, val_main_cst_7, val_main_cst_8, val_main_cst_9]
  rw [sum_eq _ (fun n => sq a n / 1024) (fun n => by
    rw [sum_eq _ (fun j => err a n j * err a n j) (fun j => by rw [err_at X P T W V B G H a R, EReal.coe_mul]), div_width]; rfl)]
  rw [half_w, ← EReal.coe_mul]
  refine congrArg Real.toEReal ?_
  unfold loss
  rw [← Finset.sum_div]
  ring

theorem dh_at (R : Given X P T W V B G H a) (n : Fin 16384) (j : Fin 1024) : val_main_v64 (F := Ideal) X P T W V B G H (ix2 n j) = ((dh a n j : ℝ) : EReal) := by
  pointwise [val_main_v64, val_main_v63, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_3, val_main_cst_4, val_main_cst_5, val_main_cst_6, val_main_cst_7, val_main_cst_8, val_main_cst_9]
  rw [dy_at X P T W V B G H a R, R.g, ← EReal.coe_mul]
  rfl

/-- What the gradient takes through the variance, per unit. -/
def wt (a : Args 16384) (n : Fin 16384) : ℝ := (∑ k, xc (r a n) k * dh a n k) * (-(1 / 2) * (rs (r a n) / (var (r a n) + eps))) / 1024

theorem wt_at (R : Given X P T W V B G H a) (n : Fin 16384) (j : Fin 1024) : val_main_v74 (F := Ideal) X P T W V B G H (ix2 n j) = ((wt a n : ℝ) : EReal) := by
  pointwise [val_main_v74, val_main_v73, val_main_v72, val_main_v71, val_main_v70, val_main_v67, val_main_v66, val_main_v65, val_main_v36, val_main_v35, val_main_v34, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_3, val_main_cst_4, val_main_cst_5, val_main_cst_6, val_main_cst_7, val_main_cst_8, val_main_cst_9]
  rw [Fin.sum_univ_one, var_at X P T W V B G H a R, rs_at X P T W V B G H a R, div_real _ _ (vpos _).ne', neg_half_w, ← EReal.coe_mul]
  rw [sum_eq _ (fun k => xc (r a n) k * dh a n k) (fun k => by rw [xc_at X P T W V B G H a R, dh_at X P T W V B G H a R, EReal.coe_mul])]
  rw [← EReal.coe_mul, div_width]
  rfl

theorem step_at (R : Given X P T W V B G H a) (n : Fin 16384) (j : Fin 1024) : val_main_v78 (F := Ideal) X P T W V B G H (ix2 n j) = ((step (r a n) (dh a n) (wt a n) j : ℝ) : EReal) := by
  pointwise [val_main_v78, val_main_v77, val_main_v76, val_main_v75, val_main_v69, val_main_v68, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_3, val_main_cst_4, val_main_cst_5, val_main_cst_6, val_main_cst_7, val_main_cst_8, val_main_cst_9]
  rw [wt_at X P T W V B G H a R, xc_at X P T W V B G H a R, rs_at X P T W V B G H a R, dh_at X P T W V B G H a R]
  simp only [← EReal.coe_mul, ← EReal.coe_add]
  rfl

theorem dr_at (R : Given X P T W V B G H a) (n : Fin 16384) (j : Fin 1024) : val_main_v86 (F := Ideal) X P T W V B G H (ix2 n j) = ((dr a n j : ℝ) : EReal) := by
  pointwise [val_main_v86, val_main_v85, val_main_v84, val_main_v83, val_main_v82, val_main_v81, val_main_v80, val_main_v79, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_3, val_main_cst_4, val_main_cst_5, val_main_cst_6, val_main_cst_7, val_main_cst_8, val_main_cst_9]
  rw [step_at X P T W V B G H a R]
  rw [sum_eq _ (fun k => -step (r a n) (dh a n) (wt a n) k) (fun k => by rw [step_at X P T W V B G H a R, EReal.coe_neg])]
  rw [div_width, Fin.sum_univ_one, ← EReal.coe_add]
  exact congrArg Real.toEReal (bk_eq _ _ _ rfl j)

theorem de_at (R : Given X P T W V B G H a) (n : Fin 16384) (j : Fin 1024) : val_main_v96 (F := Ideal) X P T W V B G H (ix2 n j) = ((de a n j : ℝ) : EReal) := by
  pointwise [val_main_v96, val_main_v87, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_3, val_main_cst_4, val_main_cst_5, val_main_cst_6, val_main_cst_7, val_main_cst_8, val_main_cst_9]
  rw [gt_at X P T W V B G H a R, dr_at X P T W V B G H a R, ← EReal.coe_mul, mul_comm]
  rfl

theorem dz_at (R : Given X P T W V B G H a) (n : Fin 16384) (j : Fin 1024) : val_main_v89 (F := Ideal) X P T W V B G H (ix2 n j) = ((dz a n j : ℝ) : EReal) := by
  pointwise [val_main_v89, val_main_v88, val_main_v17, val_main_v16, val_main_v15, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_3, val_main_cst_4, val_main_cst_5, val_main_cst_6, val_main_cst_7, val_main_cst_8, val_main_cst_9]
  rw [gt_at X P T W V B G H a R, dr_at X P T W V B G H a R, e_at X P T W V B G H a R, one_w]
  simp only [← EReal.coe_mul, ← EReal.coe_sub]
  refine congrArg Real.toEReal ?_
  unfold dz
  ring

theorem dzb_at (R : Given X P T W V B G H a) (n : Fin 16384) (j : Fin 1024) : val_main_v97 (F := Ideal) X P T W V B G H (ix2 n j) = ((dz a n j : ℝ) : EReal) := by
  pointwise [val_main_v97, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_3, val_main_cst_4, val_main_cst_5, val_main_cst_6, val_main_cst_7, val_main_cst_8, val_main_cst_9]
  exact dz_at X P T W V B G H a R n j

theorem db_at (R : Given X P T W V B G H a) (j : Fin 1024) : val_main_v93 (F := Ideal) X P T W V B G H (ix2 0 j) = ((db a j : ℝ) : EReal) := by
  pointwise [val_main_v93, val_main_v92, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_3, val_main_cst_4, val_main_cst_5, val_main_cst_6, val_main_cst_7, val_main_cst_8, val_main_cst_9]
  exact sum_eq _ _ fun n => dz_at X P T W V B G H a R n j

theorem dx_at (R : Given X P T W V B G H a) (n : Fin 16384) (j : Fin 1024) : val_main_v95 (F := Ideal) X P T W V B G H (ix2 n j) = dx a n j := by
  pointwise [val_main_v95, val_main_v94, val_main_v91, val_main_v90, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_3, val_main_cst_4, val_main_cst_5, val_main_cst_6, val_main_cst_7, val_main_cst_8, val_main_cst_9]
  rw [dr_at X P T W V B G H a R, alpha_w, ← EReal.coe_mul]
  refine congrArg (_ + ·) (Finset.sum_congr rfl fun k _ => ?_)
  rw [dz_at X P T W V B G H a R, R.w]

end Cert.PleRefIdeal.Sem
end
-- ==== Proof.Layer.Finite.lean ====
/- Finite arguments are reals, and arrays equal at every place are equal. -/
module
public import Idealize.ShloMosaic.Lib.Pointwise
public import Idealize.ShloMosaic.PureOps.Ideal.Laws
@[expose] public section
set_option maxRecDepth 16384

noncomputable section

namespace Cert.Layer

open Idealize.ShloMosaic

theorem top_w : Ideal.ofBits .f32 2139095040#32 = (⊤ : EReal) := by simp [Ideal.ofBits, Ideal.ieee]

/-- A number whose absolute value lies below infinity is a real. -/
theorem real_of (x : EReal) (h : Ideal.cmp .olt (max x (-x)) (Ideal.ofBits .f32 2139095040#32) = 1#1) : x = ((x.toReal : ℝ) : EReal) := by
  rw [top_w] at h
  have hlt : max x (-x) < ⊤ := by
    by_contra hn
    simp [Ideal.cmp, hn] at h
  refine (EReal.coe_toReal ?_ ?_).symm
  · rintro rfl
    exact absurd (lt_of_le_of_lt (le_max_left _ _) hlt) (lt_irrefl _)
  · rintro rfl
    exact absurd (lt_of_le_of_lt (le_max_right _ _) hlt) (by simp)

/-- Arrays equal at every place are equal. -/
theorem ext2 {n0 n1 : ℕ} {α : Type} (A B : (⟨2, ![n0, n1]⟩ : Shape).Idx → α) (h : ∀ i j, A (ix2 i j) = B (ix2 i j)) : A = B :=
  funext fun i => by rw [← ix2_eta i]; exact h _ _

end Cert.Layer
end
-- ==== Proof.Ple.Claim.lean ====
/- The claim of the gated layer, its loss and their gradients: of finite arguments (the gate's weights and bias may be infinite) both programs leave the same seven results. -/
module
public import proofs.«01_k».proof.Defs
public import proofs.«01_k».proof.Proof.Ple.Kern
public import proofs.«01_k».proof.Proof.Ple.Ref
public import proofs.«01_k».proof.Proof.Layer.Finite
public import proofs.«01_k».proof.Proof.Gen.PleRefIdeal.Run
public import Idealize.ShloMosaic.Lib.Claim
@[expose] public section
set_option maxRecDepth 16384

noncomputable section

namespace Cert.Step.Ple

open Cert.PleIdeal Cert.PleIdeal.Gen Cert.PleIdeal.Sem Idealize.ShloMosaic Idealize.ShloMosaic.TcCoe Idealize.SL.Sem
open Cert.Layer

theorem prefacts : Cert.Pre_finite_ple.Facts := ⟨by decide, by decide, by decide, by decide⟩

section
variable (m : (ℓ : Loc nD τ sig) → Buf (Elt Ideal) ℓ) (c : Dev nD)

/-- The arguments' numbers. -/
def reals : Args 16384 where
  x n j := (m ((c : Thread nD τ).loc main_arg0) (ix2 n j) : EReal).toReal
  p n j := (m ((c : Thread nD τ).loc main_arg1) (ix2 n j) : EReal).toReal
  t n j := (m ((c : Thread nD τ).loc main_arg2) (ix2 n j) : EReal).toReal
  w n j := m ((c : Thread nD τ).loc main_arg3) (ix2 n j)
  v n j := (m ((c : Thread nD τ).loc main_arg4) (ix2 n j) : EReal).toReal
  b j := m ((c : Thread nD τ).loc main_arg5) (ix2 (0 : Fin 1) j)
  g j := (m ((c : Thread nD τ).loc main_arg6) (ix2 (0 : Fin 1) j) : EReal).toReal
  l j := (m ((c : Thread nD τ).loc main_arg7) (ix2 (0 : Fin 1) j) : EReal).toReal

theorem given (hpre : Cert.Pre_PleIdeal_finite_ple (hPre_finite_ple := prefacts) m) : Given m c (reals m c) := by
  obtain ⟨h0, h1, h2, h4, h6, h7⟩ := hpre c
  exact ⟨fun n j => real_of _ (congrFun h0 (ix2 n j)), fun n j => real_of _ (congrFun h1 (ix2 n j)), fun n j => real_of _ (congrFun h2 (ix2 n j)),
    fun _ _ => rfl, fun n j => real_of _ (congrFun h4 (ix2 n j)), fun _ => rfl,
    fun j => real_of _ (congrFun h6 (ix2 0 j)), fun j => real_of _ (congrFun h7 (ix2 0 j))⟩

variable (a : Args 16384) (R : Given m c a)
include R

theorem ref_given : Cert.PleRefIdeal.Sem.Given (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) a :=
  ⟨R.x, R.p, R.t, R.w, R.v, R.b, R.g, R.l⟩

theorem ref8 : Cert.PleRefIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (dats m 0 c).arrAt 8 cfg0.N := by
  rw [final8 m c a R]
  exact ext2 _ _ fun i j => Cert.PleRefIdeal.Sem.dx_at _ _ _ _ _ _ _ _ _ (ref_given m c a R) i j

theorem ref9 : Cert.PleRefIdeal.Read.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (dats m 0 c).arrAt 9 cfg0.N := by
  rw [final9 m c a R]
  exact ext2 _ _ fun i j => Cert.PleRefIdeal.Sem.de_at _ _ _ _ _ _ _ _ _ (ref_given m c a R) i j

theorem ref10 : Cert.PleRefIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (dats m 0 c).arrAt 10 cfg0.N := by
  rw [final10 m c a R]
  exact ext2 _ _ fun i j => Cert.PleRefIdeal.Sem.dzb_at _ _ _ _ _ _ _ _ _ (ref_given m c a R) i j

theorem ref11 : Cert.PleRefIdeal.Read.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (dats m 0 c).arrAt 11 cfg0.N := by
  rw [final11 m c a R]
  exact ext2 _ _ fun i j => by obtain rfl : i = 0 := Subsingleton.elim _ _; exact Cert.PleRefIdeal.Sem.loss_at _ _ _ _ _ _ _ _ _ (ref_given m c a R) j

theorem ref12 : Cert.PleRefIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (dats m 0 c).arrAt 12 cfg0.N := by
  rw [final12 m c a R]
  exact ext2 _ _ fun i j => by obtain rfl : i = 0 := Subsingleton.elim _ _; exact Cert.PleRefIdeal.Sem.dg_at _ _ _ _ _ _ _ _ _ (ref_given m c a R) j

theorem ref13 : Cert.PleRefIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (dats m 0 c).arrAt 13 cfg0.N := by
  rw [final13 m c a R]
  exact ext2 _ _ fun i j => by obtain rfl : i = 0 := Subsingleton.elim _ _; exact Cert.PleRefIdeal.Sem.dl_at _ _ _ _ _ _ _ _ _ (ref_given m c a R) j

theorem ref14 : Cert.PleRefIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (dats m 0 c).arrAt 14 cfg0.N := by
  rw [final14 m c a R]
  exact ext2 _ _ fun i j => by obtain rfl : i = 0 := Subsingleton.elim _ _; exact Cert.PleRefIdeal.Sem.db_at _ _ _ _ _ _ _ _ _ (ref_given m c a R) j

end

theorem algebraic : Cert.algebraic_PleIdeal_PleRefIdeal_pre_finite_ple (hPleIdeal := Cert.PleIdeal.Gen.facts)
    (hPleRefIdeal := Cert.PleRefIdeal.Gen.facts) (hPre_finite_ple := prefacts) := by
  pair_intro
  · exact Cert.PleIdeal.Value.run_blocks m g
  · refine Idealize.ShloMosaic.θ_run_mono (Cert.PleRefIdeal.Value.run m' g') fun r h c => ?_
    obtain ⟨h0, h1, h2, h3, h4, h5, h6, k⟩ := h c
    have R := given m c hpre
    obtain ⟨a0, a1, a2, a3, a4, a5, a6, a7⟩ := hagree c
    have b : ∀ (r : Ref Cert.PleRefIdeal.sig .tc), StableHlo.launchContents m' c (Proc.devRef .tc r) = m' ((c : Thread Cert.PleRefIdeal.nD Cert.PleRefIdeal.τ).loc r) := fun _ => rfl
    refine ⟨h0.trans ?_, h1.trans ?_, h2.trans ?_, h3.trans ?_, h4.trans ?_, h5.trans ?_, h6.trans ?_, k⟩
    · rw [Cert.PleRefIdeal.Read.val_main_v95_eq, b, b, b, b, b, b, b, b, a0, a1, a2, a3, a4, a5, a6, a7]
      exact ref8 m c _ R
    · rw [Cert.PleRefIdeal.Read.val_main_v96_eq, b, b, b, b, b, b, b, b, a0, a1, a2, a3, a4, a5, a6, a7]
      exact ref9 m c _ R
    · rw [Cert.PleRefIdeal.Read.val_main_v97_eq, b, b, b, b, b, b, b, b, a0, a1, a2, a3, a4, a5, a6, a7]
      exact ref10 m c _ R
    · rw [Cert.PleRefIdeal.Read.val_main_v98_eq, b, b, b, b, b, b, b, b, a0, a1, a2, a3, a4, a5, a6, a7]
      exact ref11 m c _ R
    · rw [Cert.PleRefIdeal.Read.val_main_v62_eq, b, b, b, b, b, b, b, b, a0, a1, a2, a3, a4, a5, a6, a7]
      exact ref12 m c _ R
    · rw [Cert.PleRefIdeal.Read.val_main_v59_eq, b, b, b, b, b, b, b, b, a0, a1, a2, a3, a4, a5, a6, a7]
      exact ref13 m c _ R
    · rw [Cert.PleRefIdeal.Read.val_main_v93_eq, b, b, b, b, b, b, b, b, a0, a1, a2, a3, a4, a5, a6, a7]
      exact ref14 m c _ R

end Cert.Step.Ple
end
-- ==== Proof.Ffn.Spec.lean ====
/- The half-step feed-forward layer and its gradients over the real numbers, for any number of rows. -/
module
public import proofs.«01_k».proof.Proof.Layer.Spec
@[expose] public section

noncomputable section

namespace Cert.Step.Ffn

open Cert.Layer

/-- The arguments: rows, the two matrices, the norm's scale, the gradient of the result. -/
structure Args (L : ℕ) where
  x : Fin L → Fin 1024 → ℝ
  wi : Fin 1024 → Fin 5632 → ℝ
  wo : Fin 2816 → Fin 1024 → ℝ
  g : Fin 1024 → ℝ
  d : Fin L → Fin 1024 → ℝ

variable {L : ℕ} (a : Args L)

/-- A column of the gate among both. -/
def lo (k : Fin 2816) : Fin 5632 := ⟨k.val, by omega⟩
/-- A column of the product's other factor among both. -/
def hi (k : Fin 2816) : Fin 5632 := ⟨2816 + k.val, by omega⟩

def gu (n : Fin L) (q : Fin 5632) : ℝ := ∑ k, a.x n k * a.wi k q
def gt (n : Fin L) (k : Fin 2816) : ℝ := gu a n (lo k)
def up (n : Fin L) (k : Fin 2816) : ℝ := gu a n (hi k)
def sm (n : Fin L) (k : Fin 2816) : ℝ := 1 / (1 + Real.exp (-gt a n k))
def h (n : Fin L) (k : Fin 2816) : ℝ := gt a n k * sm a n k * up a n k
def r (n : Fin L) (j : Fin 1024) : ℝ := alpha * a.x n j + 1 / 2 * ∑ k, h a n k * a.wo k j
def dy (n : Fin L) (j : Fin 1024) : ℝ := a.d n j * a.g j
def dr (n : Fin L) (j : Fin 1024) : ℝ := bk (r a n) (dy a n) j
def df (n : Fin L) (j : Fin 1024) : ℝ := 1 / 2 * dr a n j
def dh (n : Fin L) (k : Fin 2816) : ℝ := ∑ j, df a n j * a.wo k j
def dgt (n : Fin L) (k : Fin 2816) : ℝ := dh a n k * up a n k * sm a n k * (1 + gt a n k * (1 - sm a n k))
def dup (n : Fin L) (k : Fin 2816) : ℝ := dh a n k * gt a n k * sm a n k
def dgu (n : Fin L) (q : Fin 5632) : ℝ := if h : q.val < 2816 then dgt a n ⟨q.val, h⟩ else dup a n ⟨q.val - 2816, by omega⟩
def dx (n : Fin L) (i : Fin 1024) : ℝ := alpha * dr a n i + ∑ q, dgu a n q * a.wi i q
def dg (j : Fin 1024) : ℝ := ∑ n, a.d n j * xh (r a n) j
def dl (j : Fin 1024) : ℝ := ∑ n, a.d n j

/-- Some of the rows. -/
def rows {M : ℕ} (a : Args L) (f : Fin M → Fin L) : Args M := { a with x := fun n => a.x (f n), d := fun n => a.d (f n) }

/-! ## The product with the first matrix, a chunk of 256 columns at a time -/

def col (c : Fin 11) (k : Fin 256) : Fin 2816 := ⟨k.val + 256 * c.val, by omega⟩

/-- A chunk's part of the product. -/
def part (n : Fin L) (i : Fin 1024) (c : Fin 11) : ℝ :=
  (∑ k, dgt a n (col c k) * a.wi i (lo (col c k))) + ∑ k, dup a n (col c k) * a.wi i (hi (col c k))

/-- The chunks before one. -/
def upto (n : Fin L) (i : Fin 1024) (c : ℕ) : ℝ := ∑ e ∈ Finset.range c, if h : e < 11 then part a n i ⟨e, h⟩ else 0

theorem upto_succ (n : Fin L) (i : Fin 1024) (c : Fin 11) : upto a n i (c.val + 1) = upto a n i c.val + part a n i c := by
  unfold upto
  rw [Finset.sum_range_succ, dif_pos c.isLt]

theorem chunks (f : Fin 2816 → ℝ) : ∑ c : Fin 11, ∑ k : Fin 256, f (col c k) = ∑ k, f k :=
  ((Equiv.sum_comp (finProdFinEquiv (m := 11) (n := 256)) f).symm.trans (Fintype.sum_prod_type _)).symm

theorem halves (f : Fin 5632 → ℝ) : ∑ q, f q = (∑ k, f (lo k)) + ∑ k, f (hi k) := Fin.sum_univ_add (a := 2816) (b := 2816) f

theorem upto_all (n : Fin L) (i : Fin 1024) : upto a n i 11 = ∑ q, dgu a n q * a.wi i q := by
  unfold upto
  rw [Finset.sum_range, halves, ← chunks, ← chunks, ← Finset.sum_add_distrib]
  refine Finset.sum_congr rfl fun c _ => ?_
  rw [dif_pos c.isLt]
  unfold part
  refine congrArg₂ (· + ·) (Finset.sum_congr rfl fun k _ => ?_) (Finset.sum_congr rfl fun k _ => ?_)
  · refine congrArg (· * _) ?_
    unfold dgu lo
    rw [dif_pos (col c k).isLt]
  · refine congrArg (· * _) ?_
    unfold dgu hi
    rw [dif_neg (by simp)]
    exact congrArg (dup a n) (Fin.ext (Nat.add_sub_cancel_left _ _).symm)

end Cert.Step.Ffn
end
-- ==== Proof.Ffn.Pay.lean ====
/- What the kernel of the feed-forward layer computes at a point, one step at a time. -/
module
public import proofs.«01_k».proof.Proof.Gen.FfnIdeal.Skeleton
public import proofs.«01_k».proof.Proof.Ffn.Spec
public import Idealize.ShloMosaic.Lib.Pointwise
@[expose] public section
set_option maxRecDepth 16384

noncomputable section

namespace Cert.FfnIdeal.Sem

open Cert.FfnIdeal Cert.FfnIdeal.Gen Idealize.ShloMosaic
open Cert.Attend Cert.Layer Cert.Step.Ffn

variable (Y X : FVec Ideal S256x1024 .f32) (G : FVec Ideal S1x1024 .f32) (a : Args 256)

/-- The gradient of the result, the sum before the norm and the norm's scale hold these reals. -/
structure Tile : Prop where
  d : ∀ n j, Y (ix2 n j) = ((a.d n j : ℝ) : EReal)
  r : ∀ n j, X (ix2 n j) = ((r a n j : ℝ) : EReal)
  g : ∀ j, G (ix2 0 j) = ((a.g j : ℝ) : EReal)

theorem xc_at (R : Tile Y X G a) (n : Fin 256) (j : Fin 1024) : k0_pay2 (F := Ideal) X (ix2 n j) = ((xc (r a n) j : ℝ) : EReal) := by
  pointwise [k0_pay2]
  refine (congrArg₂ (fun s q => s - Ideal.div q _) (R.r n j) (sum_eq _ _ fun k => R.r n k)).trans ?_
  refine (congrArg (fun s => _ - s) (div_width _)).trans ?_
  rw [← EReal.coe_sub]
  rfl

theorem rs_at (R : Tile Y X G a) (n : Fin 256) : k0_pay3 (F := Ideal) X (ix2 n 0) = ((rs (r a n) : ℝ) : EReal) := by
  pointwise [k0_pay3]
  rw [sum_eq _ (fun k => xc (r a n) k * xc (r a n) k) (fun k => by rw [xc_at Y X G a R, EReal.coe_mul])]
  refine (congrArg₂ (fun s q => Ideal.rsqrt (s + q)) (div_width _) eps_w).trans ?_
  rw [← EReal.coe_add]
  exact rsqrt_real _ (vpos _)

theorem xh_at (R : Tile Y X G a) (n : Fin 256) (j : Fin 1024) : k0_pay4 (F := Ideal) X (ix2 n j) = ((xh (r a n) j : ℝ) : EReal) := by
  pointwise [k0_pay4]
  rw [xc_at Y X G a R, rs_at Y X G a R, ← EReal.coe_mul]
  rfl

theorem dr_at (R : Tile Y X G a) (n : Fin 256) (j : Fin 1024) : k0_pay5 (F := Ideal) Y X G (ix2 n j) = ((dr a n j : ℝ) : EReal) := by
  pointwise [k0_pay5]
  have hd : ∀ k, Y (ix2 n k) * G (ix2 0 k) = ((dy a n k : ℝ) : EReal) := fun k => by rw [R.d, R.g, ← EReal.coe_mul]; rfl
  simp only [hd, xh_at Y X G a R, rs_at Y X G a R]
  rw [sum_eq _ (fun k => dy a n k) (fun k => rfl), sum_eq _ (fun k => dy a n k * xh (r a n) k) (fun k => by rw [EReal.coe_mul])]
  refine (congrArg₂ (fun s q => _ * (_ - s - _ * q)) (div_width _) (div_width _)).trans ?_
  simp only [← EReal.coe_mul, ← EReal.coe_sub]
  rfl

theorem dg_at (R : Tile Y X G a) (U : FVec Ideal S1x1024 .f32) (j : Fin 1024) : k0_pay8 Y (k0_pay4 X) U (ix2 0 j) = U (ix2 0 j) + ((dg a j : ℝ) : EReal) := by
  pointwise [k0_pay8]
  exact congrArg (_ + ·) (sum_eq _ _ fun n => by rw [R.d, xh_at Y X G a R, EReal.coe_mul])

theorem dl_at (R : Tile Y X G a) (U : FVec Ideal S1x1024 .f32) (j : Fin 1024) : k0_pay9 Y U (ix2 0 j) = U (ix2 0 j) + ((dl a j : ℝ) : EReal) := by
  pointwise [k0_pay9]
  exact congrArg (_ + ·) (sum_eq _ _ fun n => R.d n j)

theorem df_at (R : Tile Y X G a) (n : Fin 256) (j : Fin 1024) : k0_pay10 (F := Ideal) (k0_pay5 Y X G) (ix2 n j) = ((df a n j : ℝ) : EReal) := by
  pointwise [k0_pay10]
  rw [dr_at Y X G a R]
  refine (congrArg (fun s => s * _) half_w).trans ?_
  rw [← EReal.coe_mul]
  rfl

theorem sr_at (R : Tile Y X G a) (n : Fin 256) (j : Fin 1024) : k0_pay84 (F := Ideal) (k0_pay5 Y X G) (ix2 n j) = ((alpha * dr a n j : ℝ) : EReal) := by
  pointwise [k0_pay84]
  rw [dr_at Y X G a R, EReal.coe_mul]
  exact congrArg (fun s => s * _) alpha_w

theorem nil_at (n : Fin 256) (j : Fin 1024) : k0_pay11 (F := Ideal) (ix2 n j) = ((upto a n j 0 : ℝ) : EReal) := by
  pointwise [k0_pay11]
  unfold upto
  rw [Finset.sum_range_zero, EReal.coe_zero]

theorem whole_at {DR : FVec Ideal S256x1024 .f32} {S : FVec Ideal S256x1024 .f32} (hd : ∀ n j, DR (ix2 n j) = ((alpha * dr a n j : ℝ) : EReal))
    (hs : ∀ n j, S (ix2 n j) = ((upto a n j 11 : ℝ) : EReal)) (n : Fin 256) (j : Fin 1024) : k0_pay1 S DR (ix2 n j) = ((dx a n j : ℝ) : EReal) := by
  pointwise [k0_pay1]
  rw [hd, hs, ← EReal.coe_add, upto_all]
  rfl

/-! ## A chunk of 256 columns -/

variable {a} {E : FVec Ideal S256x1024 .bf16} {H : FVec Ideal S256x256 .f32} {S : FVec Ideal S256x1024 .f32} {c : Fin 11}
variable {P Q : FVec Ideal S256x256 .bf16} {O : FVec Ideal S256x1024 .bf16} {M N : FVec Ideal S1024x256 .bf16}

/-- The blocks of a chunk: the gate's columns, the other factor's, the rows of the second matrix, the columns of the first. -/
structure Chunk (a : Args 256) (c : Fin 11) (P Q : FVec Ideal S256x256 .bf16) (O : FVec Ideal S256x1024 .bf16) (M N : FVec Ideal S1024x256 .bf16) : Prop where
  p : ∀ n k, P (ix2 n k) = ((gt a n (col c k) : ℝ) : EReal)
  q : ∀ n k, Q (ix2 n k) = ((up a n (col c k) : ℝ) : EReal)
  o : ∀ k j, O (ix2 k j) = ((a.wo (col c k) j : ℝ) : EReal)
  m : ∀ i k, M (ix2 i k) = ((a.wi i (lo (col c k)) : ℝ) : EReal)
  n : ∀ i k, N (ix2 i k) = ((a.wi i (hi (col c k)) : ℝ) : EReal)

theorem sgt_real (h : ℝ) (n : Fin 256) (k : Fin 2816) (hg : h = gt a n k) : Ideal.div (1 : EReal) (1 + Ideal.exp (-(h : EReal))) = ((sm a n k : ℝ) : EReal) := by
  rw [sg_coe, hg]
  rfl

/-- The gate's gradient, from its factors. -/
theorem gate_real (n : Fin 256) (k : Fin 2816) : ((dh a n k : ℝ) : EReal) * ((up a n k : ℝ) : EReal) * ((sm a n k : ℝ) : EReal)
    * (1 + ((gt a n k : ℝ) : EReal) * (1 - ((sm a n k : ℝ) : EReal))) = ((dgt a n k : ℝ) : EReal) := by
  rw [one_w]
  simp only [← EReal.coe_mul, ← EReal.coe_sub, ← EReal.coe_add]
  rfl

/-- The other factor's gradient, from its factors. -/
theorem up_real (n : Fin 256) (k : Fin 2816) : ((dh a n k : ℝ) : EReal) * ((gt a n k : ℝ) : EReal) * ((sm a n k : ℝ) : EReal) = ((dup a n k : ℝ) : EReal) := by
  rw [← EReal.coe_mul, ← EReal.coe_mul]
  rfl

/-- One chunk more of the product. -/
theorem more {u : EReal} {n : Fin 256} {i : Fin 1024} {f g : Fin 256 → EReal} (hu : u = ((upto a n i c.val : ℝ) : EReal))
    (hf : ∀ k, f k = ((dgt a n (col c k) * a.wi i (lo (col c k)) : ℝ) : EReal)) (hg : ∀ k, g k = ((dup a n (col c k) * a.wi i (hi (col c k)) : ℝ) : EReal)) :
    u + ∑ k, f k + ∑ k, g k = ((upto a n i (c.val + 1) : ℝ) : EReal) := by
  rw [hu, sum_eq _ _ hf, sum_eq _ _ hg, ← EReal.coe_add, ← EReal.coe_add, upto_succ, add_assoc]
  rfl

theorem dh0 {D : FVec Ideal S256x1024 .f32} (he : ∀ n j, k0_pay10 D (ix2 n j) = ((df a n j : ℝ) : EReal)) (C : Chunk a c P Q O M N) (n k : Fin 256) : k0_pay12 (F := Ideal) D O (ix2 n k) = ((dh a n (col c k) : ℝ) : EReal) := by
  pointwise [k0_pay12]
  exact sum_eq _ _ fun j => by rw [he, C.o, EReal.coe_mul]

theorem dg0 (hd : ∀ n k, H (ix2 n k) = ((dh a n (col c k) : ℝ) : EReal)) (C : Chunk a c P Q O M N) (n k : Fin 256) : k0_pay18 H (k0_pay14 P) (k0_pay15 Q) (k0_pay16 P) (ix2 n k) = ((dgt a n (col c k) : ℝ) : EReal) := by
  pointwise [k0_pay18, k0_pay17, k0_pay16, k0_pay15, k0_pay14]
  simp only [hd, C.p, C.q, zero_sub]
  rw [sgt_real _ n (col c k) rfl]
  exact gate_real n _

theorem du0 (hd : ∀ n k, H (ix2 n k) = ((dh a n (col c k) : ℝ) : EReal)) (C : Chunk a c P Q O M N) (n k : Fin 256) : k0_pay19 H (k0_pay14 P) (k0_pay16 P) (ix2 n k) = ((dup a n (col c k) : ℝ) : EReal) := by
  pointwise [k0_pay19, k0_pay17, k0_pay16, k0_pay14]
  simp only [hd, C.p, zero_sub]
  rw [sgt_real _ n (col c k) rfl]
  exact up_real n _

theorem acc0 (hd : ∀ n k, H (ix2 n k) = ((dh a n (col c k) : ℝ) : EReal)) (C : Chunk a c P Q O M N) (ha : ∀ n i, S (ix2 n i) = ((upto a n i c.val : ℝ) : EReal)) (n : Fin 256) (i : Fin 1024) : k0_pay20 S H (k0_pay14 P) (k0_pay15 Q) (k0_pay16 P) M N (ix2 n i) = ((upto a n i (c.val + 1) : ℝ) : EReal) := by
  pointwise [k0_pay20]
  exact more (ha n i) (fun k => by rw [dg0 hd C, C.m, EReal.coe_mul]) (fun k => by rw [du0 hd C, C.n, EReal.coe_mul])

theorem dh1 {D : FVec Ideal S256x1024 .f32} (he : ∀ n j, k0_pay10 D (ix2 n j) = ((df a n j : ℝ) : EReal)) (C : Chunk a c P Q O M N) (n k : Fin 256) : k0_pay13 (F := Ideal) D O (ix2 n k) = ((dh a n (col c k) : ℝ) : EReal) := by
  pointwise [k0_pay13]
  exact sum_eq _ _ fun j => by rw [he, C.o, EReal.coe_mul]

theorem dg1 (hd : ∀ n k, H (ix2 n k) = ((dh a n (col c k) : ℝ) : EReal)) (C : Chunk a c P Q O M N) {w : Ideal .f32} (hw : w = (0 : EReal)) (n k : Fin 256) : k0_pay25 H (k0_pay22 P) (k0_pay23 Q) w (ix2 n k) = ((dgt a n (col c k) : ℝ) : EReal) := by
  pointwise [k0_pay25, k0_pay24, k0_pay23, k0_pay22]
  simp only [hd, C.p, C.q, hw, zero_sub]
  rw [sgt_real _ n (col c k) rfl]
  exact gate_real n _

theorem du1 (hd : ∀ n k, H (ix2 n k) = ((dh a n (col c k) : ℝ) : EReal)) (C : Chunk a c P Q O M N) {w : Ideal .f32} (hw : w = (0 : EReal)) (n k : Fin 256) : k0_pay26 H (k0_pay22 P) w (ix2 n k) = ((dup a n (col c k) : ℝ) : EReal) := by
  pointwise [k0_pay26, k0_pay24, k0_pay22]
  simp only [hd, C.p, hw, zero_sub]
  rw [sgt_real _ n (col c k) rfl]
  exact up_real n _

theorem acc1 (hd : ∀ n k, H (ix2 n k) = ((dh a n (col c k) : ℝ) : EReal)) (C : Chunk a c P Q O M N) (ha : ∀ n i, S (ix2 n i) = ((upto a n i c.val : ℝ) : EReal)) {w : Ideal .f32} (hw : w = (0 : EReal)) (n : Fin 256) (i : Fin 1024) : k0_pay27 H S (k0_pay22 P) (k0_pay23 Q) w M N (ix2 n i) = ((upto a n i (c.val + 1) : ℝ) : EReal) := by
  pointwise [k0_pay27]
  exact more (ha n i) (fun k => by rw [dg1 hd C hw, C.m, EReal.coe_mul]) (fun k => by rw [du1 hd C hw, C.n, EReal.coe_mul])

theorem dh2 (he : ∀ n j, E (ix2 n j) = ((df a n j : ℝ) : EReal)) (C : Chunk a c P Q O M N) (n k : Fin 256) : k0_pay21 E O (ix2 n k) = ((dh a n (col c k) : ℝ) : EReal) := by
  pointwise [k0_pay21]
  exact sum_eq _ _ fun j => by rw [he, C.o, EReal.coe_mul]

theorem dg2 (hd : ∀ n k, H (ix2 n k) = ((dh a n (col c k) : ℝ) : EReal)) (C : Chunk a c P Q O M N) (n k : Fin 256) : k0_pay32 H (k0_pay29 P) (k0_pay30 Q) (ix2 n k) = ((dgt a n (col c k) : ℝ) : EReal) := by
  pointwise [k0_pay32, k0_pay31, k0_pay30, k0_pay29]
  simp only [hd, C.p, C.q, zero_sub]
  rw [sgt_real _ n (col c k) rfl]
  exact gate_real n _

theorem du2 (hd : ∀ n k, H (ix2 n k) = ((dh a n (col c k) : ℝ) : EReal)) (C : Chunk a c P Q O M N) (n k : Fin 256) : k0_pay33 H (k0_pay29 P) (ix2 n k) = ((dup a n (col c k) : ℝ) : EReal) := by
  pointwise [k0_pay33, k0_pay31, k0_pay29]
  simp only [hd, C.p, zero_sub]
  rw [sgt_real _ n (col c k) rfl]
  exact up_real n _

theorem acc2 (hd : ∀ n k, H (ix2 n k) = ((dh a n (col c k) : ℝ) : EReal)) (C : Chunk a c P Q O M N) (ha : ∀ n i, S (ix2 n i) = ((upto a n i c.val : ℝ) : EReal)) (n : Fin 256) (i : Fin 1024) : k0_pay34 H S (k0_pay29 P) (k0_pay30 Q) M N (ix2 n i) = ((upto a n i (c.val + 1) : ℝ) : EReal) := by
  pointwise [k0_pay34]
  exact more (ha n i) (fun k => by rw [dg2 hd C, C.m, EReal.coe_mul]) (fun k => by rw [du2 hd C, C.n, EReal.coe_mul])

theorem dh3 (he : ∀ n j, E (ix2 n j) = ((df a n j : ℝ) : EReal)) (C : Chunk a c P Q O M N) (n k : Fin 256) : k0_pay28 E O (ix2 n k) = ((dh a n (col c k) : ℝ) : EReal) := by
  pointwise [k0_pay28]
  exact sum_eq _ _ fun j => by rw [he, C.o, EReal.coe_mul]

theorem dg3 (hd : ∀ n k, H (ix2 n k) = ((dh a n (col c k) : ℝ) : EReal)) (C : Chunk a c P Q O M N) (n k : Fin 256) : k0_pay38 H (k0_pay36 P) Q (ix2 n k) = ((dgt a n (col c k) : ℝ) : EReal) := by
  pointwise [k0_pay38, k0_pay37, k0_pay36]
  simp only [hd, C.p, C.q, zero_sub]
  rw [sgt_real _ n (col c k) rfl]
  exact gate_real n _

theorem du3 (hd : ∀ n k, H (ix2 n k) = ((dh a n (col c k) : ℝ) : EReal)) (C : Chunk a c P Q O M N) (n k : Fin 256) : k0_pay39 H (k0_pay36 P) (ix2 n k) = ((dup a n (col c k) : ℝ) : EReal) := by
  pointwise [k0_pay39, k0_pay37, k0_pay36]
  simp only [hd, C.p, zero_sub]
  rw [sgt_real _ n (col c k) rfl]
  exact up_real n _

theorem acc3 (hd : ∀ n k, H (ix2 n k) = ((dh a n (col c k) : ℝ) : EReal)) (C : Chunk a c P Q O M N) (ha : ∀ n i, S (ix2 n i) = ((upto a n i c.val : ℝ) : EReal)) (n : Fin 256) (i : Fin 1024) : k0_pay40 H S (k0_pay36 P) Q M N (ix2 n i) = ((upto a n i (c.val + 1) : ℝ) : EReal) := by
  pointwise [k0_pay40]
  exact more (ha n i) (fun k => by rw [dg3 hd C, C.m, EReal.coe_mul]) (fun k => by rw [du3 hd C, C.n, EReal.coe_mul])

theorem dh4 (he : ∀ n j, E (ix2 n j) = ((df a n j : ℝ) : EReal)) (C : Chunk a c P Q O M N) (n k : Fin 256) : k0_pay35 E O (ix2 n k) = ((dh a n (col c k) : ℝ) : EReal) := by
  pointwise [k0_pay35]
  exact sum_eq _ _ fun j => by rw [he, C.o, EReal.coe_mul]

theorem dg4 (hd : ∀ n k, H (ix2 n k) = ((dh a n (col c k) : ℝ) : EReal)) (C : Chunk a c P Q O M N) (n k : Fin 256) : k0_pay44 H (k0_pay42 P) Q (ix2 n k) = ((dgt a n (col c k) : ℝ) : EReal) := by
  pointwise [k0_pay44, k0_pay43, k0_pay42]
  simp only [hd, C.p, C.q, zero_sub]
  rw [sgt_real _ n (col c k) rfl]
  exact gate_real n _

theorem du4 (hd : ∀ n k, H (ix2 n k) = ((dh a n (col c k) : ℝ) : EReal)) (C : Chunk a c P Q O M N) (n k : Fin 256) : k0_pay45 H (k0_pay42 P) (ix2 n k) = ((dup a n (col c k) : ℝ) : EReal) := by
  pointwise [k0_pay45, k0_pay43, k0_pay42]
  simp only [hd, C.p, zero_sub]
  rw [sgt_real _ n (col c k) rfl]
  exact up_real n _

theorem acc4 (hd : ∀ n k, H (ix2 n k) = ((dh a n (col c k) : ℝ) : EReal)) (C : Chunk a c P Q O M N) (ha : ∀ n i, S (ix2 n i) = ((upto a n i c.val : ℝ) : EReal)) (n : Fin 256) (i : Fin 1024) : k0_pay46 H S (k0_pay42 P) Q M N (ix2 n i) = ((upto a n i (c.val + 1) : ℝ) : EReal) := by
  pointwise [k0_pay46]
  exact more (ha n i) (fun k => by rw [dg4 hd C, C.m, EReal.coe_mul]) (fun k => by rw [du4 hd C, C.n, EReal.coe_mul])

theorem dh5 (he : ∀ n j, E (ix2 n j) = ((df a n j : ℝ) : EReal)) (C : Chunk a c P Q O M N) (n k : Fin 256) : k0_pay41 E O (ix2 n k) = ((dh a n (col c k) : ℝ) : EReal) := by
  pointwise [k0_pay41]
  exact sum_eq _ _ fun j => by rw [he, C.o, EReal.coe_mul]

theorem dg5 (hd : ∀ n k, H (ix2 n k) = ((dh a n (col c k) : ℝ) : EReal)) (C : Chunk a c P Q O M N) (n k : Fin 256) : k0_pay50 H P Q (ix2 n k) = ((dgt a n (col c k) : ℝ) : EReal) := by
  pointwise [k0_pay50, k0_pay49, k0_pay48]
  simp only [hd, C.p, C.q, zero_sub]
  rw [sgt_real _ n (col c k) rfl]
  exact gate_real n _

theorem du5 (hd : ∀ n k, H (ix2 n k) = ((dh a n (col c k) : ℝ) : EReal)) (C : Chunk a c P Q O M N) (n k : Fin 256) : k0_pay51 H P (ix2 n k) = ((dup a n (col c k) : ℝ) : EReal) := by
  pointwise [k0_pay51, k0_pay49, k0_pay48]
  simp only [hd, C.p, zero_sub]
  rw [sgt_real _ n (col c k) rfl]
  exact up_real n _

theorem acc5 (hd : ∀ n k, H (ix2 n k) = ((dh a n (col c k) : ℝ) : EReal)) (C : Chunk a c P Q O M N) (ha : ∀ n i, S (ix2 n i) = ((upto a n i c.val : ℝ) : EReal)) (n : Fin 256) (i : Fin 1024) : k0_pay52 H S P Q M N (ix2 n i) = ((upto a n i (c.val + 1) : ℝ) : EReal) := by
  pointwise [k0_pay52]
  exact more (ha n i) (fun k => by rw [dg5 hd C, C.m, EReal.coe_mul]) (fun k => by rw [du5 hd C, C.n, EReal.coe_mul])

theorem dh6 (he : ∀ n j, E (ix2 n j) = ((df a n j : ℝ) : EReal)) (C : Chunk a c P Q O M N) (n k : Fin 256) : k0_pay47 E O (ix2 n k) = ((dh a n (col c k) : ℝ) : EReal) := by
  pointwise [k0_pay47]
  exact sum_eq _ _ fun j => by rw [he, C.o, EReal.coe_mul]

theorem dg6 (hd : ∀ n k, H (ix2 n k) = ((dh a n (col c k) : ℝ) : EReal)) (C : Chunk a c P Q O M N) (n k : Fin 256) : k0_pay56 H P Q (ix2 n k) = ((dgt a n (col c k) : ℝ) : EReal) := by
  pointwise [k0_pay56, k0_pay55, k0_pay54]
  simp only [hd, C.p, C.q, zero_sub]
  rw [sgt_real _ n (col c k) rfl]
  exact gate_real n _

theorem du6 (hd : ∀ n k, H (ix2 n k) = ((dh a n (col c k) : ℝ) : EReal)) (C : Chunk a c P Q O M N) (n k : Fin 256) : k0_pay57 H P (ix2 n k) = ((dup a n (col c k) : ℝ) : EReal) := by
  pointwise [k0_pay57, k0_pay55, k0_pay54]
  simp only [hd, C.p, zero_sub]
  rw [sgt_real _ n (col c k) rfl]
  exact up_real n _

theorem acc6 (hd : ∀ n k, H (ix2 n k) = ((dh a n (col c k) : ℝ) : EReal)) (C : Chunk a c P Q O M N) (ha : ∀ n i, S (ix2 n i) = ((upto a n i c.val : ℝ) : EReal)) (n : Fin 256) (i : Fin 1024) : k0_pay58 H S P Q M N (ix2 n i) = ((upto a n i (c.val + 1) : ℝ) : EReal) := by
  pointwise [k0_pay58]
  exact more (ha n i) (fun k => by rw [dg6 hd C, C.m, EReal.coe_mul]) (fun k => by rw [du6 hd C, C.n, EReal.coe_mul])

theorem dh7 (he : ∀ n j, E (ix2 n j) = ((df a n j : ℝ) : EReal)) (C : Chunk a c P Q O M N) (n k : Fin 256) : k0_pay53 E O (ix2 n k) = ((dh a n (col c k) : ℝ) : EReal) := by
  pointwise [k0_pay53]
  exact sum_eq _ _ fun j => by rw [he, C.o, EReal.coe_mul]

theorem dg7 (hd : ∀ n k, H (ix2 n k) = ((dh a n (col c k) : ℝ) : EReal)) (C : Chunk a c P Q O M N) (n k : Fin 256) : k0_pay63 H P Q (ix2 n k) = ((dgt a n (col c k) : ℝ) : EReal) := by
  pointwise [k0_pay63, k0_pay62, k0_pay61]
  simp only [hd, C.p, C.q, zero_sub]
  rw [sgt_real _ n (col c k) rfl]
  exact gate_real n _

theorem du7 (hd : ∀ n k, H (ix2 n k) = ((dh a n (col c k) : ℝ) : EReal)) (C : Chunk a c P Q O M N) (n k : Fin 256) : k0_pay64 H P (ix2 n k) = ((dup a n (col c k) : ℝ) : EReal) := by
  pointwise [k0_pay64, k0_pay62, k0_pay61]
  simp only [hd, C.p, zero_sub]
  rw [sgt_real _ n (col c k) rfl]
  exact up_real n _

theorem acc7 (hd : ∀ n k, H (ix2 n k) = ((dh a n (col c k) : ℝ) : EReal)) (C : Chunk a c P Q O M N) (ha : ∀ n i, S (ix2 n i) = ((upto a n i c.val : ℝ) : EReal)) (n : Fin 256) (i : Fin 1024) : k0_pay65 H S P Q M N (ix2 n i) = ((upto a n i (c.val + 1) : ℝ) : EReal) := by
  pointwise [k0_pay65]
  exact more (ha n i) (fun k => by rw [dg7 hd C, C.m, EReal.coe_mul]) (fun k => by rw [du7 hd C, C.n, EReal.coe_mul])

theorem dh8 (he : ∀ n j, E (ix2 n j) = ((df a n j : ℝ) : EReal)) (C : Chunk a c P Q O M N) (n k : Fin 256) : k0_pay60 E (k0_pay59 O) (constant S256x256 .f32 0x00000000#32) (ix2 n k) = ((dh a n (col c k) : ℝ) : EReal) := by
  pointwise [k0_pay60, k0_pay59]
  exact sum_eq _ _ fun j => by rw [he, C.o, EReal.coe_mul]

theorem dg8 (hd : ∀ n k, H (ix2 n k) = ((dh a n (col c k) : ℝ) : EReal)) (C : Chunk a c P Q O M N) (n k : Fin 256) : k0_pay69 H P Q (ix2 n k) = ((dgt a n (col c k) : ℝ) : EReal) := by
  pointwise [k0_pay69, k0_pay68, k0_pay67]
  simp only [hd, C.p, C.q, zero_sub]
  rw [sgt_real _ n (col c k) rfl]
  exact gate_real n _

theorem du8 (hd : ∀ n k, H (ix2 n k) = ((dh a n (col c k) : ℝ) : EReal)) (C : Chunk a c P Q O M N) (n k : Fin 256) : k0_pay70 H P (ix2 n k) = ((dup a n (col c k) : ℝ) : EReal) := by
  pointwise [k0_pay70, k0_pay68, k0_pay67]
  simp only [hd, C.p, zero_sub]
  rw [sgt_real _ n (col c k) rfl]
  exact up_real n _

theorem acc8 (hd : ∀ n k, H (ix2 n k) = ((dh a n (col c k) : ℝ) : EReal)) (C : Chunk a c P Q O M N) (ha : ∀ n i, S (ix2 n i) = ((upto a n i c.val : ℝ) : EReal)) (n : Fin 256) (i : Fin 1024) : k0_pay71 H S P Q M N (ix2 n i) = ((upto a n i (c.val + 1) : ℝ) : EReal) := by
  pointwise [k0_pay71]
  exact more (ha n i) (fun k => by rw [dg8 hd C, C.m, EReal.coe_mul]) (fun k => by rw [du8 hd C, C.n, EReal.coe_mul])

theorem dh9 (he : ∀ n j, E (ix2 n j) = ((df a n j : ℝ) : EReal)) (C : Chunk a c P Q O M N) (n k : Fin 256) : k0_pay66 E O (ix2 n k) = ((dh a n (col c k) : ℝ) : EReal) := by
  pointwise [k0_pay66]
  exact sum_eq _ _ fun j => by rw [he, C.o, EReal.coe_mul]

theorem dg9 (hd : ∀ n k, H (ix2 n k) = ((dh a n (col c k) : ℝ) : EReal)) (C : Chunk a c P Q O M N) (n k : Fin 256) : k0_pay75 H P Q (ix2 n k) = ((dgt a n (col c k) : ℝ) : EReal) := by
  pointwise [k0_pay75, k0_pay74, k0_pay73]
  simp only [hd, C.p, C.q, zero_sub]
  rw [sgt_real _ n (col c k) rfl]
  exact gate_real n _

theorem du9 (hd : ∀ n k, H (ix2 n k) = ((dh a n (col c k) : ℝ) : EReal)) (C : Chunk a c P Q O M N) (n k : Fin 256) : k0_pay76 H P (ix2 n k) = ((dup a n (col c k) : ℝ) : EReal) := by
  pointwise [k0_pay76, k0_pay74, k0_pay73]
  simp only [hd, C.p, zero_sub]
  rw [sgt_real _ n (col c k) rfl]
  exact up_real n _

theorem dh10 (he : ∀ n j, E (ix2 n j) = ((df a n j : ℝ) : EReal)) (C : Chunk a c P Q O M N) (n k : Fin 256) : k0_pay72 E O (ix2 n k) = ((dh a n (col c k) : ℝ) : EReal) := by
  pointwise [k0_pay72]
  exact sum_eq _ _ fun j => by rw [he, C.o, EReal.coe_mul]

theorem dg10 (hd : ∀ n k, H (ix2 n k) = ((dh a n (col c k) : ℝ) : EReal)) (C : Chunk a c P Q O M N) (n k : Fin 256) : k0_pay81 H P Q (ix2 n k) = ((dgt a n (col c k) : ℝ) : EReal) := by
  pointwise [k0_pay81, k0_pay80, k0_pay79]
  simp only [hd, C.p, C.q, zero_sub]
  rw [sgt_real _ n (col c k) rfl]
  exact gate_real n _

theorem du10 (hd : ∀ n k, H (ix2 n k) = ((dh a n (col c k) : ℝ) : EReal)) (C : Chunk a c P Q O M N) (n k : Fin 256) : k0_pay82 H P (ix2 n k) = ((dup a n (col c k) : ℝ) : EReal) := by
  pointwise [k0_pay82, k0_pay80, k0_pay79]
  simp only [hd, C.p, zero_sub]
  rw [sgt_real _ n (col c k) rfl]
  exact up_real n _

theorem acc9 (hd : ∀ n k, H (ix2 n k) = ((dh a n (col c k) : ℝ) : EReal)) (C : Chunk a c P Q O M N) (ha : ∀ n i, S (ix2 n i) = ((upto a n i c.val : ℝ) : EReal)) (n : Fin 256) (i : Fin 1024) : k0_pay77 H S P Q M (ix2 n i) + k0_pay78 H P N (ix2 n i) = ((upto a n i (c.val + 1) : ℝ) : EReal) := by
  pointwise [k0_pay77, k0_pay78]
  exact more (ha n i) (fun k => by rw [dg9 hd C, C.m, EReal.coe_mul]) (fun k => by rw [du9 hd C, C.n, EReal.coe_mul])

theorem acc10 {T : FVec Ideal S256x1024 .f32} (hd : ∀ n k, H (ix2 n k) = ((dh a n (col c k) : ℝ) : EReal)) (C : Chunk a c P Q O M N) (ha : ∀ n i, S (ix2 n i) + T (ix2 n i) = ((upto a n i c.val : ℝ) : EReal)) (n : Fin 256) (i : Fin 1024) : k0_pay83 H S T P Q M N (ix2 n i) = ((upto a n i (c.val + 1) : ℝ) : EReal) := by
  pointwise [k0_pay83]
  exact more (ha n i) (fun k => by rw [dg10 hd C, C.m, EReal.coe_mul]) (fun k => by rw [du10 hd C, C.n, EReal.coe_mul])

theorem zero_word : (Scalar.ofBits .f32 0x00000000#32 : Ideal .f32) = (0 : EReal) := by
  show Ideal.ofBits .f32 0x00000000#32 = 0
  simp [Ideal.ofBits, Ideal.ieee]
theorem zero6 (j : Fin 1024) : (k0_pay6 (F := Ideal)) (ix2 0 j) = (0 : EReal) := by pointwise [k0_pay6]
theorem zero7 (j : Fin 1024) : (k0_pay7 (F := Ideal)) (ix2 0 j) = (0 : EReal) := by pointwise [k0_pay7]

end Cert.FfnIdeal.Sem
end
-- ==== Proof.Ffn.Kern.lean ====
/- What the kernel of the feed-forward layer leaves: its blocks, its running sums, and its results. -/
module
public import proofs.«01_k».proof.Proof.Gen.FfnIdeal.Value
public import proofs.«01_k».proof.Proof.Ffn.Pay
public import proofs.«01_k».proof.Proof.Layer.Rows
public import Idealize.ShloMosaic.Lib.WritesUnit
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.FfnIdeal.Sem

open Cert.FfnIdeal Cert.FfnIdeal.Gen Idealize.ShloMosaic Idealize.ShloMosaic.TcCoe Idealize.SL.Sem
open Idealize.ShloMosaic.Pipeline (Dat)
open Cert.Attend Cert.Layer Cert.Step Cert.Step.Ffn

variable (m : (ℓ : Loc nD τ sig) → Buf (Elt Ideal) ℓ) (c : Dev nD) (a : Args 16384)

/-- The arguments are these reals. -/
structure Given : Prop where
  x : ∀ n j, m ((c : Thread nD τ).loc main_arg0) (ix2 n j) = ((a.x n j : ℝ) : EReal)
  w : ∀ n j, m ((c : Thread nD τ).loc main_arg1) (ix2 n j) = ((a.wi n j : ℝ) : EReal)
  v : ∀ n j, m ((c : Thread nD τ).loc main_arg2) (ix2 n j) = ((a.wo n j : ℝ) : EReal)
  g : ∀ j, m ((c : Thread nD τ).loc main_arg3) (ix2 0 j) = ((a.g j : ℝ) : EReal)
  d : ∀ n j, m ((c : Thread nD τ).loc main_arg5) (ix2 n j) = ((a.d n j : ℝ) : EReal)

theorem N64 : cfg0.N = 64 := by decide +kernel

theorem lt64 (t : Fin cfg0.N) : t.val < 64 := lt_of_lt_of_eq t.isLt N64

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![0, 0] ∧ win0_11.index t = ![0, 0] :=
  (by decide +kernel : ∀ t : Fin grid0.N, _)

theorem wi_at (n : Fin 1024) (j : Fin 5632) : V m c main_v1 (ix2 n j) = m ((c : Thread nD τ).loc main_arg1) (ix2 n j) := by
  simp only [V, hostOps0, List.flatten_cons, List.flatten_nil, List.cons_append, List.nil_append, List.append_nil]
  entry_read
  pointwise []
theorem wo_at (n : Fin 2816) (j : Fin 1024) : V m c main_v2 (ix2 n j) = m ((c : Thread nD τ).loc main_arg2) (ix2 n j) := by
  simp only [V, hostOps0, List.flatten_cons, List.flatten_nil, List.cons_append, List.nil_append, List.append_nil]
  entry_read
  pointwise []
theorem gu_sum (R : Given m c a) (n : Fin 16384) (q : Fin 5632) : (∑ k : Fin 1024, @HMul.hMul EReal EReal EReal _ (m ((c : Thread nD τ).loc main_arg0) (ix2 n k)) (m ((c : Thread nD τ).loc main_arg1) (ix2 k q))) = ((gu a n q : ℝ) : EReal) :=
  sum_eq _ (fun k => a.x n k * a.wi k q) fun k => (congrArg₂ (fun u v : EReal => u * v) (R.x n k) (R.w k q)).trans (EReal.coe_mul _ _).symm

theorem gt_at (R : Given m c a) (n : Fin 16384) (j : Fin 2816) : V m c main_v21 (ix2 n j) = ((gt a n j : ℝ) : EReal) := by
  simp only [V, hostOps0, List.flatten_cons, List.flatten_nil, List.cons_append, List.nil_append, List.append_nil]
  entry_read
  pointwise []
  exact gu_sum m c a R n (lo j)

theorem up_at (R : Given m c a) (n : Fin 16384) (j : Fin 2816) : V m c main_v22 (ix2 n j) = ((up a n j : ℝ) : EReal) := by
  simp only [V, hostOps0, List.flatten_cons, List.flatten_nil, List.cons_append, List.nil_append, List.append_nil]
  entry_read
  pointwise []
  exact gu_sum m c a R n (hi j)

theorem r_at (R : Given m c a) (n : Fin 16384) (j : Fin 1024) : V m c main_v20 (ix2 n j) = ((r a n j : ℝ) : EReal) := by
  simp only [V, hostOps0, List.flatten_cons, List.flatten_nil, List.cons_append, List.nil_append, List.append_nil]
  entry_read
  pointwise []
  refine (congrArg₂ (· + ·) (congrArg₂ (· * ·) alpha_w (R.x n j)) (congrArg₂ (· * ·) half_w
    (sum_eq _ (fun k => h a n k * a.wo k j) fun k => ?_))).trans ?_
  · refine (congrArg₂ (· * ·) (congrArg₂ (· * ·) (congrArg₂ (fun u v => u * Ideal.div 1 (1 + Ideal.exp (-v))) (gu_sum m c a R n (lo k))
      (gu_sum m c a R n (lo k))) (gu_sum m c a R n (hi k))) (R.v k j)).trans ?_
    rw [sg_coe]
    simp only [← EReal.coe_mul]
    rfl
  · simp only [← EReal.coe_mul, ← EReal.coe_add]
    rfl

variable (t : Fin cfg0.N)

theorem row_lt (r : Fin 256) : t.val * 256 + r.val < 16384 := by have := lt64 t; omega

/-- The rows a point reads. -/
def tile : Args 256 := rows a fun r => ⟨t.val * 256 + r.val, row_lt t r⟩

/-- The blocks a point reads whole are the rows' reals. -/
theorem tile_at (R : Given m c a) : Tile (iblk m c 0 t) (iblk m c 1 t) (iblk m c 6 t) (tile a t) where
  d n j := by
    have h : iblk m c 0 t (ix2 n j) = V m c main_arg5 (ix2 ⟨t.val * 256 + n.val, row_lt t n⟩ j) := by blk_point [iblk, idx t]
    exact h.trans <| (congrFun (V_main_arg5 m c) _).trans (R.d _ j)
  r n j := by
    have h : iblk m c 1 t (ix2 n j) = V m c main_v20 (ix2 ⟨t.val * 256 + n.val, row_lt t n⟩ j) := by blk_point [iblk, idx t]
    exact h.trans (r_at m c a R _ j)
  g j := by
    have h : iblk m c 6 t (ix2 0 j) = V m c main_arg3 (ix2 0 j) := by blk_point [iblk, idx t]
    exact h.trans <| (congrFun (V_main_arg3 m c) _).trans (R.g j)

/-- A part of a block, read at its own place. -/
theorem part_at {p q r s : ℕ} {φ : EltTy} (X : (⟨2, ![p, q]⟩ : Shape).Idx → Elt Ideal φ) (y z : ℕ) (inb) (i : Fin r) (j : Fin s) (i' : Fin p) (j' : Fin q)
    (hi : i'.val = y + i.val) (hj : j'.val = z + j.val) :
    View.ld X (Rect.unit (s := (⟨2, ![p, q]⟩ : Shape)) ![y, z] ![r, s] inb) (ix2 i j) = X (ix2 i' j') := by
  refine View.ld_unit_apply_of (S := (⟨2, ![p, q]⟩ : Shape)) X ![y, z] ![r, s] inb (ix2 i j) (ix2 i' j') fun d => ?_
  match d with
  | ⟨0, _⟩ => exact hi
  | ⟨1, _⟩ => exact hj

theorem gate_blk (R : Given m c a) (n : Fin 256) (k : Fin 2816) : iblk m c 2 t (ix2 n k) = ((gt (tile a t) n k : ℝ) : EReal) := by
  have h : iblk m c 2 t (ix2 n k) = V m c main_v21 (ix2 ⟨t.val * 256 + n.val, row_lt t n⟩ k) := by blk_point [iblk, idx t]
  exact h.trans (gt_at m c a R _ _)
theorem up_blk (R : Given m c a) (n : Fin 256) (k : Fin 2816) : iblk m c 3 t (ix2 n k) = ((up (tile a t) n k : ℝ) : EReal) := by
  have h : iblk m c 3 t (ix2 n k) = V m c main_v22 (ix2 ⟨t.val * 256 + n.val, row_lt t n⟩ k) := by blk_point [iblk, idx t]
  exact h.trans (up_at m c a R _ _)
theorem wi_blk (R : Given m c a) (i : Fin 1024) (q : Fin 5632) : iblk m c 4 t (ix2 i q) = (((tile a t).wi i q : ℝ) : EReal) := by
  have h : iblk m c 4 t (ix2 i q) = V m c main_v1 (ix2 i q) := by blk_point [iblk, idx t]
  exact h.trans ((wi_at m c i _).trans (R.w i _))
theorem wo_blk (R : Given m c a) (k : Fin 2816) (j : Fin 1024) : iblk m c 5 t (ix2 k j) = (((tile a t).wo k j : ℝ) : EReal) := by
  have h : iblk m c 5 t (ix2 k j) = V m c main_v2 (ix2 k j) := by blk_point [iblk, idx t]
  exact h.trans ((wo_at m c k j).trans (R.v k j))

/-- The parts of a point's blocks that a chunk reads. -/
theorem chunk_at (R : Given m c a) (e : Fin 11) (f f' : ℕ) (hf : f = 256 * e.val) (hf' : f' = 2816 + 256 * e.val) (i1) (i2) (i3) (i4) : Chunk (tile a t) e
    (View.ld (iblk m c 2 t) (Rect.unit (s := S256x2816) ![0, f] ![256, 256] i1)) (View.ld (iblk m c 3 t) (Rect.unit (s := S256x2816) ![0, f] ![256, 256] i1))
    (View.ld (iblk m c 5 t) (Rect.unit (s := S2816x1024) ![f, 0] ![256, 1024] i2)) (View.ld (iblk m c 4 t) (Rect.unit (s := S1024x5632) ![0, f] ![1024, 256] i3))
    (View.ld (iblk m c 4 t) (Rect.unit (s := S1024x5632) ![0, f'] ![1024, 256] i4)) where
  p n k := (part_at (iblk m c 2 t) 0 f i1 n k n (Step.Ffn.col e k) (Nat.zero_add _).symm (by rw [hf]; exact Nat.add_comm _ _)).trans (gate_blk m c a t R n _)
  q n k := (part_at (iblk m c 3 t) 0 f i1 n k n (Step.Ffn.col e k) (Nat.zero_add _).symm (by rw [hf]; exact Nat.add_comm _ _)).trans (up_blk m c a t R n _)
  o k j := (part_at (iblk m c 5 t) f 0 i2 k j (Step.Ffn.col e k) j (by rw [hf]; exact Nat.add_comm _ _) (Nat.zero_add _).symm).trans (wo_blk m c a t R _ j)
  m i k := (part_at (iblk m c 4 t) 0 f i3 i k i (lo (Step.Ffn.col e k)) (Nat.zero_add _).symm (by rw [hf]; exact Nat.add_comm _ _)).trans (wi_blk m c a t R i _)
  n i k := (part_at (iblk m c 4 t) 0 f' i4 i k i (hi (Step.Ffn.col e k)) (Nat.zero_add _).symm
    (by rw [hf', Nat.add_assoc]; exact congrArg (2816 + ·) (Nat.add_comm _ _))).trans (wi_blk m c a t R i _)

theorem low_at {L : ℕ} (b : Args L) (n : Fin L) (q : Fin 5632) (e : Fin 11) (k : Fin 256) (h : q.val = 256 * e.val + k.val) : dgt b n (Step.Ffn.col e k) = dgu b n q := by
  have hk := k.isLt
  have he := e.isLt
  unfold dgu
  rw [dif_pos (by omega)]
  refine congrArg (dgt b n) (Fin.ext ?_)
  show k.val + 256 * e.val = q.val
  omega

theorem high_at {L : ℕ} (b : Args L) (n : Fin L) (q : Fin 5632) (e : Fin 11) (k : Fin 256) (h : q.val = 2816 + 256 * e.val + k.val) : dup b n (Step.Ffn.col e k) = dgu b n q := by
  unfold dgu
  rw [dif_neg (by omega)]
  refine congrArg (dup b n) (Fin.ext ?_)
  show k.val + 256 * e.val = q.val - 2816
  omega

/-- What a point leaves in its block of the gradient of the rows. -/
theorem out7 (R : Given m c a) (r : Fin 256) (j : Fin 1024) : (outsAt0 m c t.val t.isLt).1 (ix2 r j) = ((dx (tile a t) r j : ℝ) : EReal) := by
  have T := tile_at m c a t R
  have e := df_at _ _ _ _ T
  have C0 := chunk_at m c a t R 0 0 2816 rfl rfl inb_S256x2816_S256x256_0_0 inb_S2816x1024_S256x1024_0_0 inb_S1024x5632_S1024x256_0_0 inb_S1024x5632_S1024x256_0_2816
  have d0 := dh0 e C0
  have s0 := acc0 d0 C0 (nil_at (tile a t))
  have C1 := chunk_at m c a t R 1 256 3072 rfl rfl inb_S256x2816_S256x256_0_256 inb_S2816x1024_S256x1024_256_0 inb_S1024x5632_S1024x256_0_256 inb_S1024x5632_S1024x256_0_3072
  have d1 := dh1 e C1
  have s1 := acc1 d1 C1 s0 zero_word
  have C2 := chunk_at m c a t R 2 512 3328 rfl rfl inb_S256x2816_S256x256_0_512 inb_S2816x1024_S256x1024_512_0 inb_S1024x5632_S1024x256_0_512 inb_S1024x5632_S1024x256_0_3328
  have d2 := dh2 e C2
  have s2 := acc2 d2 C2 s1
  have C3 := chunk_at m c a t R 3 768 3584 rfl rfl inb_S256x2816_S256x256_0_768 inb_S2816x1024_S256x1024_768_0 inb_S1024x5632_S1024x256_0_768 inb_S1024x5632_S1024x256_0_3584
  have d3 := dh3 e C3
  have s3 := acc3 d3 C3 s2
  have C4 := chunk_at m c a t R 4 1024 3840 rfl rfl inb_S256x2816_S256x256_0_1024 inb_S2816x1024_S256x1024_1024_0 inb_S1024x5632_S1024x256_0_1024 inb_S1024x5632_S1024x256_0_3840
  have d4 := dh4 e C4
  have s4 := acc4 d4 C4 s3
  have C5 := chunk_at m c a t R 5 1280 4096 rfl rfl inb_S256x2816_S256x256_0_1280 inb_S2816x1024_S256x1024_1280_0 inb_S1024x5632_S1024x256_0_1280 inb_S1024x5632_S1024x256_0_4096
  have d5 := dh5 e C5
  have s5 := acc5 d5 C5 s4
  have C6 := chunk_at m c a t R 6 1536 4352 rfl rfl inb_S256x2816_S256x256_0_1536 inb_S2816x1024_S256x1024_1536_0 inb_S1024x5632_S1024x256_0_1536 inb_S1024x5632_S1024x256_0_4352
  have d6 := dh6 e C6
  have s6 := acc6 d6 C6 s5
  have C7 := chunk_at m c a t R 7 1792 4608 rfl rfl inb_S256x2816_S256x256_0_1792 inb_S2816x1024_S256x1024_1792_0 inb_S1024x5632_S1024x256_0_1792 inb_S1024x5632_S1024x256_0_4608
  have d7 := dh7 e C7
  have s7 := acc7 d7 C7 s6
  have C8 := chunk_at m c a t R 8 2048 4864 rfl rfl inb_S256x2816_S256x256_0_2048 inb_S2816x1024_S256x1024_2048_0 inb_S1024x5632_S1024x256_0_2048 inb_S1024x5632_S1024x256_0_4864
  have d8 := dh8 e C8
  have s8 := acc8 d8 C8 s7
  have C9 := chunk_at m c a t R 9 2304 5120 rfl rfl inb_S256x2816_S256x256_0_2304 inb_S2816x1024_S256x1024_2304_0 inb_S1024x5632_S1024x256_0_2304 inb_S1024x5632_S1024x256_0_5120
  have d9 := dh9 e C9
  have s9 := acc9 d9 C9 s8
  have C10 := chunk_at m c a t R 10 2560 5376 rfl rfl inb_S256x2816_S256x256_0_2560 inb_S2816x1024_S256x1024_2560_0 inb_S1024x5632_S1024x256_0_2560 inb_S1024x5632_S1024x256_0_5376
  have d10 := dh10 e C10
  have s10 := acc10 d10 C10 s9
  by_cases h : t.val % 64 = 0
  · rw [outsAt0_A m c t h]
    frame_out
    exact whole_at (tile a t) (sr_at _ _ _ _ T) s10 r j
  · rw [outsAt0_B m c t h]
    frame_out
    exact whole_at (tile a t) (sr_at _ _ _ _ T) s10 r j

/-- What a point leaves in its block of the gradient before the second matrix. -/
theorem out9 (R : Given m c a) (r : Fin 256) (j : Fin 1024) : (outsAt0 m c t.val t.isLt).2.2.1 (ix2 r j) = ((df (tile a t) r j : ℝ) : EReal) := by
  by_cases h : t.val % 64 = 0
  · rw [outsAt0_A m c t h]
    frame_out
    exact df_at _ _ _ _ (tile_at m c a t R) r j
  · rw [outsAt0_B m c t h]
    frame_out
    exact df_at _ _ _ _ (tile_at m c a t R) r j

/-- What a point leaves in its block of the gradients of the gate and of the other factor. -/
theorem out8 (R : Given m c a) (r : Fin 256) (j : Fin 5632) : (outsAt0 m c t.val t.isLt).2.1 (ix2 r j) = ((dgu (tile a t) r j : ℝ) : EReal) := by
  by_cases h : t.val % 64 = 0
  · rw [outsAt0_A m c t h]
    frame_out
    have T := tile_at m c a t R
    have e := df_at _ _ _ _ T
    have C0 := chunk_at m c a t R 0 0 2816 rfl rfl inb_S256x2816_S256x256_0_0 inb_S2816x1024_S256x1024_0_0 inb_S1024x5632_S1024x256_0_0 inb_S1024x5632_S1024x256_0_2816
    have d0 := dh0 e C0
    have C1 := chunk_at m c a t R 1 256 3072 rfl rfl inb_S256x2816_S256x256_0_256 inb_S2816x1024_S256x1024_256_0 inb_S1024x5632_S1024x256_0_256 inb_S1024x5632_S1024x256_0_3072
    have d1 := dh1 e C1
    have C2 := chunk_at m c a t R 2 512 3328 rfl rfl inb_S256x2816_S256x256_0_512 inb_S2816x1024_S256x1024_512_0 inb_S1024x5632_S1024x256_0_512 inb_S1024x5632_S1024x256_0_3328
    have d2 := dh2 e C2
    have C3 := chunk_at m c a t R 3 768 3584 rfl rfl inb_S256x2816_S256x256_0_768 inb_S2816x1024_S256x1024_768_0 inb_S1024x5632_S1024x256_0_768 inb_S1024x5632_S1024x256_0_3584
    have d3 := dh3 e C3
    have C4 := chunk_at m c a t R 4 1024 3840 rfl rfl inb_S256x2816_S256x256_0_1024 inb_S2816x1024_S256x1024_1024_0 inb_S1024x5632_S1024x256_0_1024 inb_S1024x5632_S1024x256_0_3840
    have d4 := dh4 e C4
    have C5 := chunk_at m c a t R 5 1280 4096 rfl rfl inb_S256x2816_S256x256_0_1280 inb_S2816x1024_S256x1024_1280_0 inb_S1024x5632_S1024x256_0_1280 inb_S1024x5632_S1024x256_0_4096
    have d5 := dh5 e C5
    have C6 := chunk_at m c a t R 6 1536 4352 rfl rfl inb_S256x2816_S256x256_0_1536 inb_S2816x1024_S256x1024_1536_0 inb_S1024x5632_S1024x256_0_1536 inb_S1024x5632_S1024x256_0_4352
    have d6 := dh6 e C6
    have C7 := chunk_at m c a t R 7 1792 4608 rfl rfl inb_S256x2816_S256x256_0_1792 inb_S2816x1024_S256x1024_1792_0 inb_S1024x5632_S1024x256_0_1792 inb_S1024x5632_S1024x256_0_4608
    have d7 := dh7 e C7
    have C8 := chunk_at m c a t R 8 2048 4864 rfl rfl inb_S256x2816_S256x256_0_2048 inb_S2816x1024_S256x1024_2048_0 inb_S1024x5632_S1024x256_0_2048 inb_S1024x5632_S1024x256_0_4864
    have d8 := dh8 e C8
    have C9 := chunk_at m c a t R 9 2304 5120 rfl rfl inb_S256x2816_S256x256_0_2304 inb_S2816x1024_S256x1024_2304_0 inb_S1024x5632_S1024x256_0_2304 inb_S1024x5632_S1024x256_0_5120
    have d9 := dh9 e C9
    have C10 := chunk_at m c a t R 10 2560 5376 rfl rfl inb_S256x2816_S256x256_0_2560 inb_S2816x1024_S256x1024_2560_0 inb_S1024x5632_S1024x256_0_2560 inb_S1024x5632_S1024x256_0_5376
    have d10 := dh10 e C10
    canon_tiles x hx
    · obtain ⟨x0, x1, rfl⟩ : ∃ x0 x1, x = ix2 x0 x1 := ⟨x 0, x 1, (ix2_eta x).symm⟩
      obtain rfl : r = x0 := Fin.ext (by simpa using hx0)
      exact (du10 d10 C10 r x1).trans (congrArg Real.toEReal (high_at (tile a t) r j 10 x1 (by simpa using hx1)))
    · obtain ⟨x0, x1, rfl⟩ : ∃ x0 x1, x = ix2 x0 x1 := ⟨x 0, x 1, (ix2_eta x).symm⟩
      obtain rfl : r = x0 := Fin.ext (by simpa using hx0)
      exact (dg10 d10 C10 r x1).trans (congrArg Real.toEReal (low_at (tile a t) r j 10 x1 (by simpa using hx1)))
    · obtain ⟨x0, x1, rfl⟩ : ∃ x0 x1, x = ix2 x0 x1 := ⟨x 0, x 1, (ix2_eta x).symm⟩
      obtain rfl : r = x0 := Fin.ext (by simpa using hx0)
      exact (du9 d9 C9 r x1).trans (congrArg Real.toEReal (high_at (tile a t) r j 9 x1 (by simpa using hx1)))
    · obtain ⟨x0, x1, rfl⟩ : ∃ x0 x1, x = ix2 x0 x1 := ⟨x 0, x 1, (ix2_eta x).symm⟩
      obtain rfl : r = x0 := Fin.ext (by simpa using hx0)
      exact (dg9 d9 C9 r x1).trans (congrArg Real.toEReal (low_at (tile a t) r j 9 x1 (by simpa using hx1)))
    · obtain ⟨x0, x1, rfl⟩ : ∃ x0 x1, x = ix2 x0 x1 := ⟨x 0, x 1, (ix2_eta x).symm⟩
      obtain rfl : r = x0 := Fin.ext (by simpa using hx0)
      exact (du8 d8 C8 r x1).trans (congrArg Real.toEReal (high_at (tile a t) r j 8 x1 (by simpa using hx1)))
    · obtain ⟨x0, x1, rfl⟩ : ∃ x0 x1, x = ix2 x0 x1 := ⟨x 0, x 1, (ix2_eta x).symm⟩
      obtain rfl : r = x0 := Fin.ext (by simpa using hx0)
      exact (dg8 d8 C8 r x1).trans (congrArg Real.toEReal (low_at (tile a t) r j 8 x1 (by simpa using hx1)))
    · obtain ⟨x0, x1, rfl⟩ : ∃ x0 x1, x = ix2 x0 x1 := ⟨x 0, x 1, (ix2_eta x).symm⟩
      obtain rfl : r = x0 := Fin.ext (by simpa using hx0)
      exact (du7 d7 C7 r x1).trans (congrArg Real.toEReal (high_at (tile a t) r j 7 x1 (by simpa using hx1)))
    · obtain ⟨x0, x1, rfl⟩ : ∃ x0 x1, x = ix2 x0 x1 := ⟨x 0, x 1, (ix2_eta x).symm⟩
      obtain rfl : r = x0 := Fin.ext (by simpa using hx0)
      exact (dg7 d7 C7 r x1).trans (congrArg Real.toEReal (low_at (tile a t) r j 7 x1 (by simpa using hx1)))
    · obtain ⟨x0, x1, rfl⟩ : ∃ x0 x1, x = ix2 x0 x1 := ⟨x 0, x 1, (ix2_eta x).symm⟩
      obtain rfl : r = x0 := Fin.ext (by simpa using hx0)
      exact (du6 d6 C6 r x1).trans (congrArg Real.toEReal (high_at (tile a t) r j 6 x1 (by simpa using hx1)))
    · obtain ⟨x0, x1, rfl⟩ : ∃ x0 x1, x = ix2 x0 x1 := ⟨x 0, x 1, (ix2_eta x).symm⟩
      obtain rfl : r = x0 := Fin.ext (by simpa using hx0)
      exact (dg6 d6 C6 r x1).trans (congrArg Real.toEReal (low_at (tile a t) r j 6 x1 (by simpa using hx1)))
    · obtain ⟨x0, x1, rfl⟩ : ∃ x0 x1, x = ix2 x0 x1 := ⟨x 0, x 1, (ix2_eta x).symm⟩
      obtain rfl : r = x0 := Fin.ext (by simpa using hx0)
      exact (du5 d5 C5 r x1).trans (congrArg Real.toEReal (high_at (tile a t) r j 5 x1 (by simpa using hx1)))
    · obtain ⟨x0, x1, rfl⟩ : ∃ x0 x1, x = ix2 x0 x1 := ⟨x 0, x 1, (ix2_eta x).symm⟩
      obtain rfl : r = x0 := Fin.ext (by simpa using hx0)
      exact (dg5 d5 C5 r x1).trans (congrArg Real.toEReal (low_at (tile a t) r j 5 x1 (by simpa using hx1)))
    · obtain ⟨x0, x1, rfl⟩ : ∃ x0 x1, x = ix2 x0 x1 := ⟨x 0, x 1, (ix2_eta x).symm⟩
      obtain rfl : r = x0 := Fin.ext (by simpa using hx0)
      exact (du4 d4 C4 r x1).trans (congrArg Real.toEReal (high_at (tile a t) r j 4 x1 (by simpa using hx1)))
    · obtain ⟨x0, x1, rfl⟩ : ∃ x0 x1, x = ix2 x0 x1 := ⟨x 0, x 1, (ix2_eta x).symm⟩
      obtain rfl : r = x0 := Fin.ext (by simpa using hx0)
      exact (dg4 d4 C4 r x1).trans (congrArg Real.toEReal (low_at (tile a t) r j 4 x1 (by simpa using hx1)))
    · obtain ⟨x0, x1, rfl⟩ : ∃ x0 x1, x = ix2 x0 x1 := ⟨x 0, x 1, (ix2_eta x).symm⟩
      obtain rfl : r = x0 := Fin.ext (by simpa using hx0)
      exact (du3 d3 C3 r x1).trans (congrArg Real.toEReal (high_at (tile a t) r j 3 x1 (by simpa using hx1)))
    · obtain ⟨x0, x1, rfl⟩ : ∃ x0 x1, x = ix2 x0 x1 := ⟨x 0, x 1, (ix2_eta x).symm⟩
      obtain rfl : r = x0 := Fin.ext (by simpa using hx0)
      exact (dg3 d3 C3 r x1).trans (congrArg Real.toEReal (low_at (tile a t) r j 3 x1 (by simpa using hx1)))
    · obtain ⟨x0, x1, rfl⟩ : ∃ x0 x1, x = ix2 x0 x1 := ⟨x 0, x 1, (ix2_eta x).symm⟩
      obtain rfl : r = x0 := Fin.ext (by simpa using hx0)
      exact (du2 d2 C2 r x1).trans (congrArg Real.toEReal (high_at (tile a t) r j 2 x1 (by simpa using hx1)))
    · obtain ⟨x0, x1, rfl⟩ : ∃ x0 x1, x = ix2 x0 x1 := ⟨x 0, x 1, (ix2_eta x).symm⟩
      obtain rfl : r = x0 := Fin.ext (by simpa using hx0)
      exact (dg2 d2 C2 r x1).trans (congrArg Real.toEReal (low_at (tile a t) r j 2 x1 (by simpa using hx1)))
    · obtain ⟨x0, x1, rfl⟩ : ∃ x0 x1, x = ix2 x0 x1 := ⟨x 0, x 1, (ix2_eta x).symm⟩
      obtain rfl : r = x0 := Fin.ext (by simpa using hx0)
      exact (du1 d1 C1 zero_word r x1).trans (congrArg Real.toEReal (high_at (tile a t) r j 1 x1 (by simpa using hx1)))
    · obtain ⟨x0, x1, rfl⟩ : ∃ x0 x1, x = ix2 x0 x1 := ⟨x 0, x 1, (ix2_eta x).symm⟩
      obtain rfl : r = x0 := Fin.ext (by simpa using hx0)
      exact (dg1 d1 C1 zero_word r x1).trans (congrArg Real.toEReal (low_at (tile a t) r j 1 x1 (by simpa using hx1)))
    · obtain ⟨x0, x1, rfl⟩ : ∃ x0 x1, x = ix2 x0 x1 := ⟨x 0, x 1, (ix2_eta x).symm⟩
      obtain rfl : r = x0 := Fin.ext (by simpa using hx0)
      exact (du0 d0 C0 r x1).trans (congrArg Real.toEReal (high_at (tile a t) r j 0 x1 (by simpa using hx1)))
    · obtain ⟨x0, x1, rfl⟩ : ∃ x0 x1, x = ix2 x0 x1 := ⟨x 0, x 1, (ix2_eta x).symm⟩
      obtain rfl : r = x0 := Fin.ext (by simpa using hx0)
      exact (dg0 d0 C0 r x1).trans (congrArg Real.toEReal (low_at (tile a t) r j 0 x1 (by simpa using hx1)))
  · rw [outsAt0_B m c t h]
    frame_out
    have T := tile_at m c a t R
    have e := df_at _ _ _ _ T
    have C0 := chunk_at m c a t R 0 0 2816 rfl rfl inb_S256x2816_S256x256_0_0 inb_S2816x1024_S256x1024_0_0 inb_S1024x5632_S1024x256_0_0 inb_S1024x5632_S1024x256_0_2816
    have d0 := dh0 e C0
    have C1 := chunk_at m c a t R 1 256 3072 rfl rfl inb_S256x2816_S256x256_0_256 inb_S2816x1024_S256x1024_256_0 inb_S1024x5632_S1024x256_0_256 inb_S1024x5632_S1024x256_0_3072
    have d1 := dh1 e C1
    have C2 := chunk_at m c a t R 2 512 3328 rfl rfl inb_S256x2816_S256x256_0_512 inb_S2816x1024_S256x1024_512_0 inb_S1024x5632_S1024x256_0_512 inb_S1024x5632_S1024x256_0_3328
    have d2 := dh2 e C2
    have C3 := chunk_at m c a t R 3 768 3584 rfl rfl inb_S256x2816_S256x256_0_768 inb_S2816x1024_S256x1024_768_0 inb_S1024x5632_S1024x256_0_768 inb_S1024x5632_S1024x256_0_3584
    have d3 := dh3 e C3
    have C4 := chunk_at m c a t R 4 1024 3840 rfl rfl inb_S256x2816_S256x256_0_1024 inb_S2816x1024_S256x1024_1024_0 inb_S1024x5632_S1024x256_0_1024 inb_S1024x5632_S1024x256_0_3840
    have d4 := dh4 e C4
    have C5 := chunk_at m c a t R 5 1280 4096 rfl rfl inb_S256x2816_S256x256_0_1280 inb_S2816x1024_S256x1024_1280_0 inb_S1024x5632_S1024x256_0_1280 inb_S1024x5632_S1024x256_0_4096
    have d5 := dh5 e C5
    have C6 := chunk_at m c a t R 6 1536 4352 rfl rfl inb_S256x2816_S256x256_0_1536 inb_S2816x1024_S256x1024_1536_0 inb_S1024x5632_S1024x256_0_1536 inb_S1024x5632_S1024x256_0_4352
    have d6 := dh6 e C6
    have C7 := chunk_at m c a t R 7 1792 4608 rfl rfl inb_S256x2816_S256x256_0_1792 inb_S2816x1024_S256x1024_1792_0 inb_S1024x5632_S1024x256_0_1792 inb_S1024x5632_S1024x256_0_4608
    have d7 := dh7 e C7
    have C8 := chunk_at m c a t R 8 2048 4864 rfl rfl inb_S256x2816_S256x256_0_2048 inb_S2816x1024_S256x1024_2048_0 inb_S1024x5632_S1024x256_0_2048 inb_S1024x5632_S1024x256_0_4864
    have d8 := dh8 e C8
    have C9 := chunk_at m c a t R 9 2304 5120 rfl rfl inb_S256x2816_S256x256_0_2304 inb_S2816x1024_S256x1024_2304_0 inb_S1024x5632_S1024x256_0_2304 inb_S1024x5632_S1024x256_0_5120
    have d9 := dh9 e C9
    have C10 := chunk_at m c a t R 10 2560 5376 rfl rfl inb_S256x2816_S256x256_0_2560 inb_S2816x1024_S256x1024_2560_0 inb_S1024x5632_S1024x256_0_2560 inb_S1024x5632_S1024x256_0_5376
    have d10 := dh10 e C10
    canon_tiles x hx
    · obtain ⟨x0, x1, rfl⟩ : ∃ x0 x1, x = ix2 x0 x1 := ⟨x 0, x 1, (ix2_eta x).symm⟩
      obtain rfl : r = x0 := Fin.ext (by simpa using hx0)
      exact (du10 d10 C10 r x1).trans (congrArg Real.toEReal (high_at (tile a t) r j 10 x1 (by simpa using hx1)))
    · obtain ⟨x0, x1, rfl⟩ : ∃ x0 x1, x = ix2 x0 x1 := ⟨x 0, x 1, (ix2_eta x).symm⟩
      obtain rfl : r = x0 := Fin.ext (by simpa using hx0)
      exact (dg10 d10 C10 r x1).trans (congrArg Real.toEReal (low_at (tile a t) r j 10 x1 (by simpa using hx1)))
    · obtain ⟨x0, x1, rfl⟩ : ∃ x0 x1, x = ix2 x0 x1 := ⟨x 0, x 1, (ix2_eta x).symm⟩
      obtain rfl : r = x0 := Fin.ext (by simpa using hx0)
      exact (du9 d9 C9 r x1).trans (congrArg Real.toEReal (high_at (tile a t) r j 9 x1 (by simpa using hx1)))
    · obtain ⟨x0, x1, rfl⟩ : ∃ x0 x1, x = ix2 x0 x1 := ⟨x 0, x 1, (ix2_eta x).symm⟩
      obtain rfl : r = x0 := Fin.ext (by simpa using hx0)
      exact (dg9 d9 C9 r x1).trans (congrArg Real.toEReal (low_at (tile a t) r j 9 x1 (by simpa using hx1)))
    · obtain ⟨x0, x1, rfl⟩ : ∃ x0 x1, x = ix2 x0 x1 := ⟨x 0, x 1, (ix2_eta x).symm⟩
      obtain rfl : r = x0 := Fin.ext (by simpa using hx0)
      exact (du8 d8 C8 r x1).trans (congrArg Real.toEReal (high_at (tile a t) r j 8 x1 (by simpa using hx1)))
    · obtain ⟨x0, x1, rfl⟩ : ∃ x0 x1, x = ix2 x0 x1 := ⟨x 0, x 1, (ix2_eta x).symm⟩
      obtain rfl : r = x0 := Fin.ext (by simpa using hx0)
      exact (dg8 d8 C8 r x1).trans (congrArg Real.toEReal (low_at (tile a t) r j 8 x1 (by simpa using hx1)))
    · obtain ⟨x0, x1, rfl⟩ : ∃ x0 x1, x = ix2 x0 x1 := ⟨x 0, x 1, (ix2_eta x).symm⟩
      obtain rfl : r = x0 := Fin.ext (by simpa using hx0)
      exact (du7 d7 C7 r x1).trans (congrArg Real.toEReal (high_at (tile a t) r j 7 x1 (by simpa using hx1)))
    · obtain ⟨x0, x1, rfl⟩ : ∃ x0 x1, x = ix2 x0 x1 := ⟨x 0, x 1, (ix2_eta x).symm⟩
      obtain rfl : r = x0 := Fin.ext (by simpa using hx0)
      exact (dg7 d7 C7 r x1).trans (congrArg Real.toEReal (low_at (tile a t) r j 7 x1 (by simpa using hx1)))
    · obtain ⟨x0, x1, rfl⟩ : ∃ x0 x1, x = ix2 x0 x1 := ⟨x 0, x 1, (ix2_eta x).symm⟩
      obtain rfl : r = x0 := Fin.ext (by simpa using hx0)
      exact (du6 d6 C6 r x1).trans (congrArg Real.toEReal (high_at (tile a t) r j 6 x1 (by simpa using hx1)))
    · obtain ⟨x0, x1, rfl⟩ : ∃ x0 x1, x = ix2 x0 x1 := ⟨x 0, x 1, (ix2_eta x).symm⟩
      obtain rfl : r = x0 := Fin.ext (by simpa using hx0)
      exact (dg6 d6 C6 r x1).trans (congrArg Real.toEReal (low_at (tile a t) r j 6 x1 (by simpa using hx1)))
    · obtain ⟨x0, x1, rfl⟩ : ∃ x0 x1, x = ix2 x0 x1 := ⟨x 0, x 1, (ix2_eta x).symm⟩
      obtain rfl : r = x0 := Fin.ext (by simpa using hx0)
      exact (du5 d5 C5 r x1).trans (congrArg Real.toEReal (high_at (tile a t) r j 5 x1 (by simpa using hx1)))
    · obtain ⟨x0, x1, rfl⟩ : ∃ x0 x1, x = ix2 x0 x1 := ⟨x 0, x 1, (ix2_eta x).symm⟩
      obtain rfl : r = x0 := Fin.ext (by simpa using hx0)
      exact (dg5 d5 C5 r x1).trans (congrArg Real.toEReal (low_at (tile a t) r j 5 x1 (by simpa using hx1)))
    · obtain ⟨x0, x1, rfl⟩ : ∃ x0 x1, x = ix2 x0 x1 := ⟨x 0, x 1, (ix2_eta x).symm⟩
      obtain rfl : r = x0 := Fin.ext (by simpa using hx0)
      exact (du4 d4 C4 r x1).trans (congrArg Real.toEReal (high_at (tile a t) r j 4 x1 (by simpa using hx1)))
    · obtain ⟨x0, x1, rfl⟩ : ∃ x0 x1, x = ix2 x0 x1 := ⟨x 0, x 1, (ix2_eta x).symm⟩
      obtain rfl : r = x0 := Fin.ext (by simpa using hx0)
      exact (dg4 d4 C4 r x1).trans (congrArg Real.toEReal (low_at (tile a t) r j 4 x1 (by simpa using hx1)))
    · obtain ⟨x0, x1, rfl⟩ : ∃ x0 x1, x = ix2 x0 x1 := ⟨x 0, x 1, (ix2_eta x).symm⟩
      obtain rfl : r = x0 := Fin.ext (by simpa using hx0)
      exact (du3 d3 C3 r x1).trans (congrArg Real.toEReal (high_at (tile a t) r j 3 x1 (by simpa using hx1)))
    · obtain ⟨x0, x1, rfl⟩ : ∃ x0 x1, x = ix2 x0 x1 := ⟨x 0, x 1, (ix2_eta x).symm⟩
      obtain rfl : r = x0 := Fin.ext (by simpa using hx0)
      exact (dg3 d3 C3 r x1).trans (congrArg Real.toEReal (low_at (tile a t) r j 3 x1 (by simpa using hx1)))
    · obtain ⟨x0, x1, rfl⟩ : ∃ x0 x1, x = ix2 x0 x1 := ⟨x 0, x 1, (ix2_eta x).symm⟩
      obtain rfl : r = x0 := Fin.ext (by simpa using hx0)
      exact (du2 d2 C2 r x1).trans (congrArg Real.toEReal (high_at (tile a t) r j 2 x1 (by simpa using hx1)))
    · obtain ⟨x0, x1, rfl⟩ : ∃ x0 x1, x = ix2 x0 x1 := ⟨x 0, x 1, (ix2_eta x).symm⟩
      obtain rfl : r = x0 := Fin.ext (by simpa using hx0)
      exact (dg2 d2 C2 r x1).trans (congrArg Real.toEReal (low_at (tile a t) r j 2 x1 (by simpa using hx1)))
    · obtain ⟨x0, x1, rfl⟩ : ∃ x0 x1, x = ix2 x0 x1 := ⟨x 0, x 1, (ix2_eta x).symm⟩
      obtain rfl : r = x0 := Fin.ext (by simpa using hx0)
      exact (du1 d1 C1 zero_word r x1).trans (congrArg Real.toEReal (high_at (tile a t) r j 1 x1 (by simpa using hx1)))
    · obtain ⟨x0, x1, rfl⟩ : ∃ x0 x1, x = ix2 x0 x1 := ⟨x 0, x 1, (ix2_eta x).symm⟩
      obtain rfl : r = x0 := Fin.ext (by simpa using hx0)
      exact (dg1 d1 C1 zero_word r x1).trans (congrArg Real.toEReal (low_at (tile a t) r j 1 x1 (by simpa using hx1)))
    · obtain ⟨x0, x1, rfl⟩ : ∃ x0 x1, x = ix2 x0 x1 := ⟨x 0, x 1, (ix2_eta x).symm⟩
      obtain rfl : r = x0 := Fin.ext (by simpa using hx0)
      exact (du0 d0 C0 r x1).trans (congrArg Real.toEReal (high_at (tile a t) r j 0 x1 (by simpa using hx1)))
    · obtain ⟨x0, x1, rfl⟩ : ∃ x0 x1, x = ix2 x0 x1 := ⟨x 0, x 1, (ix2_eta x).symm⟩
      obtain rfl : r = x0 := Fin.ext (by simpa using hx0)
      exact (dg0 d0 C0 r x1).trans (congrArg Real.toEReal (low_at (tile a t) r j 0 x1 (by simpa using hx1)))

/-- After the run the result is the gradient of the rows. -/
theorem final7 (R : Given m c a) : (dats m 0 c).arrAt 7 cfg0.N = fun i => ((dx a (i 0) (i 1) : ℝ) : EReal) := by
  refine (dats m 0 c).arrAt_eq_of_covers 7 _ (by decide +kernel) fun t hf y => ?_
  blk_simp
  rw [after0_7]
  idx_vars y
  refine (out7 m c a t R y0 y1).trans ?_
  have e1 : ∀ (n k : Fin 16384) (i j : Fin 1024), n = k → i = j → ((dx a n i : ℝ) : EReal) = ((dx a k j : ℝ) : EReal) := by
    rintro n _ i _ rfl rfl; rfl
  refine e1 ⟨t.val * 256 + y0.val, row_lt t y0⟩ _ _ _ (Fin.ext ?_) (Fin.ext ?_)
  · blk_ext [idx t]
  · blk_ext [idx t]

/-- After the run the result is the gradient of the gate and of the other factor. -/
theorem final8 (R : Given m c a) : (dats m 0 c).arrAt 8 cfg0.N = fun i => ((dgu a (i 0) (i 1) : ℝ) : EReal) := by
  refine (dats m 0 c).arrAt_eq_of_covers 8 _ (by decide +kernel) fun t hf y => ?_
  blk_simp
  rw [after0_8]
  idx_vars y
  refine (out8 m c a t R y0 y1).trans ?_
  have e1 : ∀ (n k : Fin 16384) (i j : Fin 5632), n = k → i = j → ((dgu a n i : ℝ) : EReal) = ((dgu a k j : ℝ) : EReal) := by
    rintro n _ i _ rfl rfl; rfl
  refine e1 ⟨t.val * 256 + y0.val, row_lt t y0⟩ _ _ _ (Fin.ext ?_) (Fin.ext ?_)
  · blk_ext [idx t]
  · blk_ext [idx t]

/-- After the run the result is the gradient before the second matrix. -/
theorem final9 (R : Given m c a) : (dats m 0 c).arrAt 9 cfg0.N = fun i => ((df a (i 0) (i 1) : ℝ) : EReal) := by
  refine (dats m 0 c).arrAt_eq_of_covers 9 _ (by decide +kernel) fun t hf y => ?_
  blk_simp
  rw [after0_9]
  idx_vars y
  refine (out9 m c a t R y0 y1).trans ?_
  have e1 : ∀ (n k : Fin 16384) (i j : Fin 1024), n = k → i = j → ((df a n i : ℝ) : EReal) = ((df a k j : ℝ) : EReal) := by
    rintro n _ i _ rfl rfl; rfl
  refine e1 ⟨t.val * 256 + y0.val, row_lt t y0⟩ _ _ _ (Fin.ext ?_) (Fin.ext ?_)
  · blk_ext [idx t]
  · blk_ext [idx t]

/-- The numbers the gradient of the norm's scale adds up, per row. -/
def per10 (j : Fin 1024) : Fin 16384 → ℝ := fun n => a.d n j * xh (r a n) j
theorem tot10 (j : Fin 1024) : ∑ n, per10 a j n = dg a j := rfl
theorem part10 (j : Fin 1024) : ((dg (tile a t) j : ℝ) : EReal) = share (per10 a j) 256 t.val := by
  rw [← share_eq _ _ _ (row_lt t)]
  rfl
/-- The first point's rows, added to zero. -/
theorem out10_A (R : Given m c a) (h : t.val % 64 = 0) (j : Fin 1024) : (outsAt0 m c t.val t.isLt).2.2.2.1 (ix2 0 j) = share (per10 a j) 256 t.val := by
  rw [outsAt0_A m c t h]
  frame_out
  refine (dg_at _ _ _ _ (tile_at m c a t R) _ j).trans ((congrArg₂ (· + ·) (zero6 j) (part10 a t j)).trans (zero_add _))
/-- A later point adds its rows to what the point before left. -/
theorem out10_B (R : Given m c a) (h : ¬ t.val % 64 = 0) (j : Fin 1024) : (outsAt0 m c t.val t.isLt).2.2.2.1 (ix2 0 j)
    = (outsAt0 m c (t.val - 1) (by omega)).2.2.2.1 (ix2 0 j) + share (per10 a j) 256 t.val := by
  rw [outsAt0_B m c t h]
  frame_out
  refine (dg_at _ _ _ _ (tile_at m c a t R) _ j).trans ?_
  exact congrArg (_ + ·) (part10 a t j)
/-- After a point the gradient of the norm's scale is the sum over the rows so far. -/
theorem out10 (R : Given m c a) (j : Fin 1024) : ∀ n (h : n < cfg0.N), (outsAt0 m c n h).2.2.2.1 (ix2 0 j) = ∑ i ∈ Finset.range (n + 1), share (per10 a j) 256 i :=
  carried (fun n h => (outsAt0 m c n h).2.2.2.1 (ix2 0 j)) (share (per10 a j) 256)
    (fun h => out10_A m c a ⟨0, h⟩ R rfl j)
    (fun n h => out10_B m c a ⟨n + 1, h⟩ R (by have := lt64 ⟨n + 1, h⟩; simp only at this ⊢; omega) j)
/-- After the run the result is the gradient of the norm's scale. -/
theorem final10 (R : Given m c a) : (dats m 0 c).arrAt 10 cfg0.N = fun i => ((dg a (i 1) : ℝ) : EReal) := by
  refine (dats m 0 c).arrAt_eq_of_covers 10 _ (by decide +kernel) fun t hf y => ?_
  have ht : t.val = 63 := by
    have := (flush0_10 t).mp hf
    have := lt64 t
    omega
  blk_simp
  rw [after0_10]
  idx_vars y
  obtain rfl : y0 = 0 := Subsingleton.elim _ _
  refine (out10 m c a R y1 t.val t.isLt).trans ?_
  rw [ht, share_sum _ 64 256 rfl, tot10]
  have e1 : ∀ (i j : Fin 1024), i = j → ((dg a i : ℝ) : EReal) = ((dg a j : ℝ) : EReal) := by
    rintro i _ rfl; rfl
  refine e1 _ _ (Fin.ext ?_)
  blk_ext [idx t]

/-- The numbers the gradient of the norm's bias adds up, per row. -/
def per11 (j : Fin 1024) : Fin 16384 → ℝ := fun n => a.d n j
theorem tot11 (j : Fin 1024) : ∑ n, per11 a j n = dl a j := rfl
theorem part11 (j : Fin 1024) : ((dl (tile a t) j : ℝ) : EReal) = share (per11 a j) 256 t.val := by
  rw [← share_eq _ _ _ (row_lt t)]
  rfl
/-- The first point's rows, added to zero. -/
theorem out11_A (R : Given m c a) (h : t.val % 64 = 0) (j : Fin 1024) : (outsAt0 m c t.val t.isLt).2.2.2.2 (ix2 0 j) = share (per11 a j) 256 t.val := by
  rw [outsAt0_A m c t h]
  frame_out
  refine (dl_at _ _ _ _ (tile_at m c a t R) _ j).trans ((congrArg₂ (· + ·) (zero7 j) (part11 a t j)).trans (zero_add _))
/-- A later point adds its rows to what the point before left. -/
theorem out11_B (R : Given m c a) (h : ¬ t.val % 64 = 0) (j : Fin 1024) : (outsAt0 m c t.val t.isLt).2.2.2.2 (ix2 0 j)
    = (outsAt0 m c (t.val - 1) (by omega)).2.2.2.2 (ix2 0 j) + share (per11 a j) 256 t.val := by
  rw [outsAt0_B m c t h]
  frame_out
  refine (dl_at _ _ _ _ (tile_at m c a t R) _ j).trans ?_
  exact congrArg (_ + ·) (part11 a t j)
/-- After a point the gradient of the norm's bias is the sum over the rows so far. -/
theorem out11 (R : Given m c a) (j : Fin 1024) : ∀ n (h : n < cfg0.N), (outsAt0 m c n h).2.2.2.2 (ix2 0 j) = ∑ i ∈ Finset.range (n + 1), share (per11 a j) 256 i :=
  carried (fun n h => (outsAt0 m c n h).2.2.2.2 (ix2 0 j)) (share (per11 a j) 256)
    (fun h => out11_A m c a ⟨0, h⟩ R rfl j)
    (fun n h => out11_B m c a ⟨n + 1, h⟩ R (by have := lt64 ⟨n + 1, h⟩; simp only at this ⊢; omega) j)
/-- After the run the result is the gradient of the norm's bias. -/
theorem final11 (R : Given m c a) : (dats m 0 c).arrAt 11 cfg0.N = fun i => ((dl a (i 1) : ℝ) : EReal) := by
  refine (dats m 0 c).arrAt_eq_of_covers 11 _ (by decide +kernel) fun t hf y => ?_
  have ht : t.val = 63 := by
    have := (flush0_11 t).mp hf
    have := lt64 t
    omega
  blk_simp
  rw [after0_11]
  idx_vars y
  obtain rfl : y0 = 0 := Subsingleton.elim _ _
  refine (out11 m c a R y1 t.val t.isLt).trans ?_
  rw [ht, share_sum _ 64 256 rfl, tot11]
  have e1 : ∀ (i j : Fin 1024), i = j → ((dl a i : ℝ) : EReal) = ((dl a j : ℝ) : EReal) := by
    rintro i _ rfl; rfl
  refine e1 _ _ (Fin.ext ?_)
  blk_ext [idx t]

end Cert.FfnIdeal.Sem
end
-- ==== Proof.Ffn.Ref.lean ====
/- What the reference of the feed-forward layer computes, one step at a time. -/
module
public import proofs.«01_k».proof.Proof.Gen.FfnRefIdeal.Read
public import proofs.«01_k».proof.Proof.Ffn.Spec
public import Idealize.ShloMosaic.Lib.Pointwise
@[expose] public section
set_option maxRecDepth 16384

noncomputable section

namespace Cert.FfnRefIdeal.Sem

open Cert.FfnRefIdeal Cert.FfnRefIdeal.Gen Cert.FfnRefIdeal.Read Idealize.ShloMosaic
open Cert.Attend Cert.Layer Cert.Step.Ffn

variable (X : FVec Ideal S16384x1024 .f32) (W : FVec Ideal S1024x5632 .f32) (V : FVec Ideal S2816x1024 .f32)
variable (G : FVec Ideal S1x1024 .f32) (D : FVec Ideal S16384x1024 .f32) (a : Args 16384)

/-- The arguments are these reals. -/
structure Given : Prop where
  x : ∀ n j, X (ix2 n j) = ((a.x n j : ℝ) : EReal)
  w : ∀ n j, W (ix2 n j) = ((a.wi n j : ℝ) : EReal)
  v : ∀ n j, V (ix2 n j) = ((a.wo n j : ℝ) : EReal)
  g : ∀ j, G (ix2 0 j) = ((a.g j : ℝ) : EReal)
  d : ∀ n j, D (ix2 n j) = ((a.d n j : ℝ) : EReal)

theorem gu_at (R : Given X W V G D a) (n : Fin 16384) (q : Fin 5632) : val_main_v3 (F := Ideal) X W (ix2 n q) = ((gu a n q : ℝ) : EReal) := by
  pointwise [val_main_v3, val_main_v2, val_main_v0, val_main_call0_cst, val_main_call0_cst_0, val_main_call0_cst_1, val_main_cst, val_main_cst_0, val_main_cst_1, val_main_cst_10, val_main_cst_11, val_main_cst_12, val_main_cst_13, val_main_cst_14, val_main_cst_15, val_main_cst_16, val_main_cst_17, val_main_cst_18, val_main_cst_2, val_main_cst_3, val_main_cst_4, val_main_cst_5, val_main_cst_6, val_main_cst_7, val_main_cst_8, val_main_cst_9]
  exact sum_eq _ _ fun k => by rw [R.x, R.w, EReal.coe_mul]

theorem gt_at (R : Given X W V G D a) (n : Fin 16384) (k : Fin 2816) : val_main_v4 (F := Ideal) X W (ix2 n k) = ((gt a n k : ℝ) : EReal) := by
  pointwise [val_main_v4, val_main_call0_cst, val_main_call0_cst_0, val_main_call0_cst_1, val_main_cst, val_main_cst_0, val_main_cst_1, val_main_cst_10, val_main_cst_11, val_main_cst_12, val_main_cst_13, val_main_cst_14, val_main_cst_15, val_main_cst_16, val_main_cst_17, val_main_cst_18, val_main_cst_2, val_main_cst_3, val_main_cst_4, val_main_cst_5, val_main_cst_6, val_main_cst_7, val_main_cst_8, val_main_cst_9]
  exact gu_at X W V G D a R n _

theorem up_at (R : Given X W V G D a) (n : Fin 16384) (k : Fin 2816) : val_main_v5 (F := Ideal) X W (ix2 n k) = ((up a n k : ℝ) : EReal) := by
  pointwise [val_main_v5, val_main_call0_cst, val_main_call0_cst_0, val_main_call0_cst_1, val_main_cst, val_main_cst_0, val_main_cst_1, val_main_cst_10, val_main_cst_11, val_main_cst_12, val_main_cst_13, val_main_cst_14, val_main_cst_15, val_main_cst_16, val_main_cst_17, val_main_cst_18, val_main_cst_2, val_main_cst_3, val_main_cst_4, val_main_cst_5, val_main_cst_6, val_main_cst_7, val_main_cst_8, val_main_cst_9]
  exact gu_at X W V G D a R n _

theorem sm_at (R : Given X W V G D a) (n : Fin 16384) (k : Fin 2816) : val_main_v6_2 (F := Ideal) X W (ix2 n k) = ((sm a n k : ℝ) : EReal) := by
  pointwise [val_main_v6_2, val_main_call0_v4, val_main_call0_v3, val_main_call0_v2, val_main_call0_v1, val_main_call0_v0, val_main_call0_cst, val_main_call0_cst_0, val_main_call0_cst_1, val_main_cst, val_main_cst_0, val_main_cst_1, val_main_cst_10, val_main_cst_11, val_main_cst_12, val_main_cst_13, val_main_cst_14, val_main_cst_15, val_main_cst_16, val_main_cst_17, val_main_cst_18, val_main_cst_2, val_main_cst_3, val_main_cst_4, val_main_cst_5, val_main_cst_6, val_main_cst_7, val_main_cst_8, val_main_cst_9]
  rw [gt_at X W V G D a R]
  exact sg_coe _

theorem act_at (R : Given X W V G D a) (n : Fin 16384) (k : Fin 2816) : val_main_v6_0 (F := Ideal) X W (ix2 n k) = ((gt a n k * sm a n k : ℝ) : EReal) := by
  pointwise [val_main_v6_0, val_main_call0_cst, val_main_call0_cst_0, val_main_call0_cst_1, val_main_cst, val_main_cst_0, val_main_cst_1, val_main_cst_10, val_main_cst_11, val_main_cst_12, val_main_cst_13, val_main_cst_14, val_main_cst_15, val_main_cst_16, val_main_cst_17, val_main_cst_18, val_main_cst_2, val_main_cst_3, val_main_cst_4, val_main_cst_5, val_main_cst_6, val_main_cst_7, val_main_cst_8, val_main_cst_9]
  rw [gt_at X W V G D a R, sm_at X W V G D a R, EReal.coe_mul]

theorem slope_at (R : Given X W V G D a) (n : Fin 16384) (k : Fin 2816) : val_main_v6_1 (F := Ideal) X W (ix2 n k) = ((sm a n k * (1 - sm a n k) : ℝ) : EReal) := by
  pointwise [val_main_v6_1, val_main_call0_v7, val_main_call0_v6, val_main_call0_cst, val_main_call0_cst_0, val_main_call0_cst_1, val_main_cst, val_main_cst_0, val_main_cst_1, val_main_cst_10, val_main_cst_11, val_main_cst_12, val_main_cst_13, val_main_cst_14, val_main_cst_15, val_main_cst_16, val_main_cst_17, val_main_cst_18, val_main_cst_2, val_main_cst_3, val_main_cst_4, val_main_cst_5, val_main_cst_6, val_main_cst_7, val_main_cst_8, val_main_cst_9]
  rw [sm_at X W V G D a R, one_w]
  simp only [← EReal.coe_mul, ← EReal.coe_sub]

theorem h_at (R : Given X W V G D a) (n : Fin 16384) (k : Fin 2816) : val_main_v7 (F := Ideal) X W (ix2 n k) = ((h a n k : ℝ) : EReal) := by
  pointwise [val_main_v7, val_main_call0_cst, val_main_call0_cst_0, val_main_call0_cst_1, val_main_cst, val_main_cst_0, val_main_cst_1, val_main_cst_10, val_main_cst_11, val_main_cst_12, val_main_cst_13, val_main_cst_14, val_main_cst_15, val_main_cst_16, val_main_cst_17, val_main_cst_18, val_main_cst_2, val_main_cst_3, val_main_cst_4, val_main_cst_5, val_main_cst_6, val_main_cst_7, val_main_cst_8, val_main_cst_9]
  rw [act_at X W V G D a R, up_at X W V G D a R, ← EReal.coe_mul]
  rfl

theorem f_at (R : Given X W V G D a) (n : Fin 16384) (j : Fin 1024) : val_main_v9 (F := Ideal) X W V (ix2 n j) = ((∑ k, h a n k * a.wo k j : ℝ) : EReal) := by
  pointwise [val_main_v9, val_main_v8, val_main_v1, val_main_call0_cst, val_main_call0_cst_0, val_main_call0_cst_1, val_main_cst, val_main_cst_0, val_main_cst_1, val_main_cst_10, val_main_cst_11, val_main_cst_12, val_main_cst_13, val_main_cst_14, val_main_cst_15, val_main_cst_16, val_main_cst_17, val_main_cst_18, val_main_cst_2, val_main_cst_3, val_main_cst_4, val_main_cst_5, val_main_cst_6, val_main_cst_7, val_main_cst_8, val_main_cst_9]
  exact sum_eq _ _ fun k => by rw [h_at X W V G D a R, R.v, EReal.coe_mul]

theorem r_at (R : Given X W V G D a) (n : Fin 16384) (j : Fin 1024) : val_main_v14 (F := Ideal) X W V (ix2 n j) = ((r a n j : ℝ) : EReal) := by
  pointwise [val_main_v14, val_main_v13, val_main_v12, val_main_v11, val_main_v10, val_main_call0_cst, val_main_call0_cst_0, val_main_call0_cst_1, val_main_cst, val_main_cst_0, val_main_cst_1, val_main_cst_10, val_main_cst_11, val_main_cst_12, val_main_cst_13, val_main_cst_14, val_main_cst_15, val_main_cst_16, val_main_cst_17, val_main_cst_18, val_main_cst_2, val_main_cst_3, val_main_cst_4, val_main_cst_5, val_main_cst_6, val_main_cst_7, val_main_cst_8, val_main_cst_9]
  rw [f_at X W V G D a R, R.x, alpha_w, half_w]
  simp only [← EReal.coe_mul, ← EReal.coe_add]
  rfl

theorem xc_at (R : Given X W V G D a) (n : Fin 16384) (j : Fin 1024) : val_main_v20 (F := Ideal) X W V (ix2 n j) = ((xc (r a n) j : ℝ) : EReal) := by
  pointwise [val_main_v20, val_main_v19, val_main_v18, val_main_v17, val_main_v16, val_main_v15, val_main_call0_cst, val_main_call0_cst_0, val_main_call0_cst_1, val_main_cst, val_main_cst_0, val_main_cst_1, val_main_cst_10, val_main_cst_11, val_main_cst_12, val_main_cst_13, val_main_cst_14, val_main_cst_15, val_main_cst_16, val_main_cst_17, val_main_cst_18, val_main_cst_2, val_main_cst_3, val_main_cst_4, val_main_cst_5, val_main_cst_6, val_main_cst_7, val_main_cst_8, val_main_cst_9]
  rw [r_at X W V G D a R, sum_eq _ (fun k => r a n k) (fun k => r_at X W V G D a R n k)]
  rw [div_width, ← EReal.coe_sub]
  rfl

theorem var_at (R : Given X W V G D a) (n : Fin 16384) : val_main_v27 (F := Ideal) X W V (ix2 n 0) = ((var (r a n) + eps : ℝ) : EReal) := by
  pointwise [val_main_v27, val_main_v26, val_main_v25, val_main_v24, val_main_v23, val_main_v22, val_main_v21, val_main_call0_cst, val_main_call0_cst_0, val_main_call0_cst_1, val_main_cst, val_main_cst_0, val_main_cst_1, val_main_cst_10, val_main_cst_11, val_main_cst_12, val_main_cst_13, val_main_cst_14, val_main_cst_15, val_main_cst_16, val_main_cst_17, val_main_cst_18, val_main_cst_2, val_main_cst_3, val_main_cst_4, val_main_cst_5, val_main_cst_6, val_main_cst_7, val_main_cst_8, val_main_cst_9]
  rw [sum_eq _ (fun k => xc (r a n) k * xc (r a n) k) (fun k => by rw [xc_at X W V G D a R, EReal.coe_mul])]
  rw [div_width, eps_w, ← EReal.coe_add]
  rfl

theorem rs_at (R : Given X W V G D a) (n : Fin 16384) : val_main_v28 (F := Ideal) X W V (ix2 n 0) = ((rs (r a n) : ℝ) : EReal) := by
  pointwise [val_main_v28, val_main_call0_cst, val_main_call0_cst_0, val_main_call0_cst_1, val_main_cst, val_main_cst_0, val_main_cst_1, val_main_cst_10, val_main_cst_11, val_main_cst_12, val_main_cst_13, val_main_cst_14, val_main_cst_15, val_main_cst_16, val_main_cst_17, val_main_cst_18, val_main_cst_2, val_main_cst_3, val_main_cst_4, val_main_cst_5, val_main_cst_6, val_main_cst_7, val_main_cst_8, val_main_cst_9]
  rw [var_at X W V G D a R, rsqrt_real _ (vpos _)]
  rfl

theorem xh_at (R : Given X W V G D a) (n : Fin 16384) (j : Fin 1024) : val_main_v33 (F := Ideal) X W V (ix2 n j) = ((xh (r a n) j : ℝ) : EReal) := by
  pointwise [val_main_v33, val_main_v32, val_main_call0_cst, val_main_call0_cst_0, val_main_call0_cst_1, val_main_cst, val_main_cst_0, val_main_cst_1, val_main_cst_10, val_main_cst_11, val_main_cst_12, val_main_cst_13, val_main_cst_14, val_main_cst_15, val_main_cst_16, val_main_cst_17, val_main_cst_18, val_main_cst_2, val_main_cst_3, val_main_cst_4, val_main_cst_5, val_main_cst_6, val_main_cst_7, val_main_cst_8, val_main_cst_9]
  rw [xc_at X W V G D a R, rs_at X W V G D a R, ← EReal.coe_mul]
  rfl

theorem dl_at (R : Given X W V G D a) (j : Fin 1024) : val_main_v40 (F := Ideal) D (ix2 0 j) = ((dl a j : ℝ) : EReal) := by
  pointwise [val_main_v40, val_main_v39, val_main_v38, val_main_call0_cst, val_main_call0_cst_0, val_main_call0_cst_1, val_main_cst, val_main_cst_0, val_main_cst_1, val_main_cst_10, val_main_cst_11, val_main_cst_12, val_main_cst_13, val_main_cst_14, val_main_cst_15, val_main_cst_16, val_main_cst_17, val_main_cst_18, val_main_cst_2, val_main_cst_3, val_main_cst_4, val_main_cst_5, val_main_cst_6, val_main_cst_7, val_main_cst_8, val_main_cst_9]
  exact sum_eq _ _ fun n => R.d n j

theorem dg_at (R : Given X W V G D a) (j : Fin 1024) : val_main_v43 (F := Ideal) X W V D (ix2 0 j) = ((dg a j : ℝ) : EReal) := by
  pointwise [val_main_v43, val_main_v42, val_main_v41, val_main_v38, val_main_call0_cst, val_main_call0_cst_0, val_main_call0_cst_1, val_main_cst, val_main_cst_0, val_main_cst_1, val_main_cst_10, val_main_cst_11, val_main_cst_12, val_main_cst_13, val_main_cst_14, val_main_cst_15, val_main_cst_16, val_main_cst_17, val_main_cst_18, val_main_cst_2, val_main_cst_3, val_main_cst_4, val_main_cst_5, val_main_cst_6, val_main_cst_7, val_main_cst_8, val_main_cst_9]
  refine sum_eq _ _ fun n => ?_
  rw [xh_at X W V G D a R, R.d, ← EReal.coe_mul, mul_comm]

theorem dy_at (R : Given X W V G D a) (n : Fin 16384) (j : Fin 1024) : val_main_v45 (F := Ideal) G D (ix2 n j) = ((dy a n j : ℝ) : EReal) := by
  pointwise [val_main_v45, val_main_v44, val_main_v38, val_main_call0_cst, val_main_call0_cst_0, val_main_call0_cst_1, val_main_cst, val_main_cst_0, val_main_cst_1, val_main_cst_10, val_main_cst_11, val_main_cst_12, val_main_cst_13, val_main_cst_14, val_main_cst_15, val_main_cst_16, val_main_cst_17, val_main_cst_18, val_main_cst_2, val_main_cst_3, val_main_cst_4, val_main_cst_5, val_main_cst_6, val_main_cst_7, val_main_cst_8, val_main_cst_9]
  rw [R.d, R.g, ← EReal.coe_mul]
  rfl

/-- What the gradient takes through the variance, per unit. -/
def wt (a : Args 16384) (n : Fin 16384) : ℝ := (∑ k, xc (r a n) k * dy a n k) * (-(1 / 2) * (rs (r a n) / (var (r a n) + eps))) / 1024

theorem wt_at (R : Given X W V G D a) (n : Fin 16384) (j : Fin 1024) : val_main_v55 (F := Ideal) X W V G D (ix2 n j) = ((wt a n : ℝ) : EReal) := by
  pointwise [val_main_v55, val_main_v54, val_main_v53, val_main_v52, val_main_v51, val_main_v48, val_main_v47, val_main_v46, val_main_v31, val_main_v30, val_main_v29, val_main_call0_cst, val_main_call0_cst_0, val_main_call0_cst_1, val_main_cst, val_main_cst_0, val_main_cst_1, val_main_cst_10, val_main_cst_11, val_main_cst_12, val_main_cst_13, val_main_cst_14, val_main_cst_15, val_main_cst_16, val_main_cst_17, val_main_cst_18, val_main_cst_2, val_main_cst_3, val_main_cst_4, val_main_cst_5, val_main_cst_6, val_main_cst_7, val_main_cst_8, val_main_cst_9]
  rw [Fin.sum_univ_one, var_at X W V G D a R, rs_at X W V G D a R, div_real _ _ (vpos _).ne', neg_half_w, ← EReal.coe_mul]
  rw [sum_eq _ (fun k => xc (r a n) k * dy a n k) (fun k => by rw [xc_at X W V G D a R, dy_at X W V G D a R, EReal.coe_mul])]
  rw [← EReal.coe_mul, div_width]
  rfl

theorem step_at (R : Given X W V G D a) (n : Fin 16384) (j : Fin 1024) : val_main_v59 (F := Ideal) X W V G D (ix2 n j) = ((step (r a n) (dy a n) (wt a n) j : ℝ) : EReal) := by
  pointwise [val_main_v59, val_main_v58, val_main_v57, val_main_v56, val_main_v50, val_main_v49, val_main_call0_cst, val_main_call0_cst_0, val_main_call0_cst_1, val_main_cst, val_main_cst_0, val_main_cst_1, val_main_cst_10, val_main_cst_11, val_main_cst_12, val_main_cst_13, val_main_cst_14, val_main_cst_15, val_main_cst_16, val_main_cst_17, val_main_cst_18, val_main_cst_2, val_main_cst_3, val_main_cst_4, val_main_cst_5, val_main_cst_6, val_main_cst_7, val_main_cst_8, val_main_cst_9]
  rw [wt_at X W V G D a R, xc_at X W V G D a R, rs_at X W V G D a R, dy_at X W V G D a R]
  simp only [← EReal.coe_mul, ← EReal.coe_add]
  rfl

theorem dr_at (R : Given X W V G D a) (n : Fin 16384) (j : Fin 1024) : val_main_v67 (F := Ideal) X W V G D (ix2 n j) = ((dr a n j : ℝ) : EReal) := by
  pointwise [val_main_v67, val_main_v66, val_main_v65, val_main_v64, val_main_v63, val_main_v62, val_main_v61, val_main_v60, val_main_call0_cst, val_main_call0_cst_0, val_main_call0_cst_1, val_main_cst, val_main_cst_0, val_main_cst_1, val_main_cst_10, val_main_cst_11, val_main_cst_12, val_main_cst_13, val_main_cst_14, val_main_cst_15, val_main_cst_16, val_main_cst_17, val_main_cst_18, val_main_cst_2, val_main_cst_3, val_main_cst_4, val_main_cst_5, val_main_cst_6, val_main_cst_7, val_main_cst_8, val_main_cst_9]
  rw [step_at X W V G D a R]
  rw [sum_eq _ (fun k => -step (r a n) (dy a n) (wt a n) k) (fun k => by rw [step_at X W V G D a R, EReal.coe_neg])]
  rw [div_width, Fin.sum_univ_one, ← EReal.coe_add]
  exact congrArg Real.toEReal (bk_eq _ _ _ rfl j)

theorem df_at (R : Given X W V G D a) (n : Fin 16384) (j : Fin 1024) : val_main_v69 (F := Ideal) X W V G D (ix2 n j) = ((df a n j : ℝ) : EReal) := by
  pointwise [val_main_v69, val_main_v68, val_main_call0_cst, val_main_call0_cst_0, val_main_call0_cst_1, val_main_cst, val_main_cst_0, val_main_cst_1, val_main_cst_10, val_main_cst_11, val_main_cst_12, val_main_cst_13, val_main_cst_14, val_main_cst_15, val_main_cst_16, val_main_cst_17, val_main_cst_18, val_main_cst_2, val_main_cst_3, val_main_cst_4, val_main_cst_5, val_main_cst_6, val_main_cst_7, val_main_cst_8, val_main_cst_9]
  rw [dr_at X W V G D a R, half_w, ← EReal.coe_mul]
  rfl

theorem dfb_at (R : Given X W V G D a) (n : Fin 16384) (j : Fin 1024) : val_main_v80 (F := Ideal) X W V G D (ix2 n j) = ((df a n j : ℝ) : EReal) := by
  pointwise [val_main_v80, val_main_call0_cst, val_main_call0_cst_0, val_main_call0_cst_1, val_main_cst, val_main_cst_0, val_main_cst_1, val_main_cst_10, val_main_cst_11, val_main_cst_12, val_main_cst_13, val_main_cst_14, val_main_cst_15, val_main_cst_16, val_main_cst_17, val_main_cst_18, val_main_cst_2, val_main_cst_3, val_main_cst_4, val_main_cst_5, val_main_cst_6, val_main_cst_7, val_main_cst_8, val_main_cst_9]
  exact df_at X W V G D a R n j

theorem dh_at (R : Given X W V G D a) (n : Fin 16384) (k : Fin 2816) : val_main_v72 (F := Ideal) X W V G D (ix2 n k) = ((dh a n k : ℝ) : EReal) := by
  pointwise [val_main_v72, val_main_call0_cst, val_main_call0_cst_0, val_main_call0_cst_1, val_main_cst, val_main_cst_0, val_main_cst_1, val_main_cst_10, val_main_cst_11, val_main_cst_12, val_main_cst_13, val_main_cst_14, val_main_cst_15, val_main_cst_16, val_main_cst_17, val_main_cst_18, val_main_cst_2, val_main_cst_3, val_main_cst_4, val_main_cst_5, val_main_cst_6, val_main_cst_7, val_main_cst_8, val_main_cst_9]
  exact sum_eq _ _ fun j => by rw [df_at X W V G D a R, R.v, EReal.coe_mul]

theorem dup_at (R : Given X W V G D a) (n : Fin 16384) (k : Fin 2816) : val_main_v73 (F := Ideal) X W V G D (ix2 n k) = ((dup a n k : ℝ) : EReal) := by
  pointwise [val_main_v73, val_main_call0_cst, val_main_call0_cst_0, val_main_call0_cst_1, val_main_cst, val_main_cst_0, val_main_cst_1, val_main_cst_10, val_main_cst_11, val_main_cst_12, val_main_cst_13, val_main_cst_14, val_main_cst_15, val_main_cst_16, val_main_cst_17, val_main_cst_18, val_main_cst_2, val_main_cst_3, val_main_cst_4, val_main_cst_5, val_main_cst_6, val_main_cst_7, val_main_cst_8, val_main_cst_9]
  rw [act_at X W V G D a R, dh_at X W V G D a R, ← EReal.coe_mul]
  refine congrArg Real.toEReal ?_
  unfold dup
  ring

theorem dgt_at (R : Given X W V G D a) (n : Fin 16384) (k : Fin 2816) : val_main_v75 (F := Ideal) X W V G D (ix2 n k) = ((dgt a n k : ℝ) : EReal) := by
  pointwise [val_main_v75, val_main_call1_v2, val_main_call1_v1, val_main_call1_v0, val_main_v74, val_main_call0_cst, val_main_call0_cst_0, val_main_call0_cst_1, val_main_cst, val_main_cst_0, val_main_cst_1, val_main_cst_10, val_main_cst_11, val_main_cst_12, val_main_cst_13, val_main_cst_14, val_main_cst_15, val_main_cst_16, val_main_cst_17, val_main_cst_18, val_main_cst_2, val_main_cst_3, val_main_cst_4, val_main_cst_5, val_main_cst_6, val_main_cst_7, val_main_cst_8, val_main_cst_9]
  rw [slope_at X W V G D a R, sm_at X W V G D a R, gt_at X W V G D a R, dh_at X W V G D a R, up_at X W V G D a R]
  simp only [← EReal.coe_mul, ← EReal.coe_add]
  refine congrArg Real.toEReal ?_
  unfold dgt
  ring

theorem dgu_at (R : Given X W V G D a) (n : Fin 16384) (q : Fin 5632) : val_main_v76 (F := Ideal) X W V G D (ix2 n q) = ((dgu a n q : ℝ) : EReal) := by
  pointwise [val_main_v76, val_main_call0_cst, val_main_call0_cst_0, val_main_call0_cst_1, val_main_cst, val_main_cst_0, val_main_cst_1, val_main_cst_10, val_main_cst_11, val_main_cst_12, val_main_cst_13, val_main_cst_14, val_main_cst_15, val_main_cst_16, val_main_cst_17, val_main_cst_18, val_main_cst_2, val_main_cst_3, val_main_cst_4, val_main_cst_5, val_main_cst_6, val_main_cst_7, val_main_cst_8, val_main_cst_9]
  unfold dgu
  split_ifs with h
  · exact dgt_at X W V G D a R n _
  · exact dup_at X W V G D a R n _
  · exact dup_at X W V G D a R n _

theorem dgub_at (R : Given X W V G D a) (n : Fin 16384) (q : Fin 5632) : val_main_v79 (F := Ideal) X W V G D (ix2 n q) = ((dgu a n q : ℝ) : EReal) := by
  pointwise [val_main_v79, val_main_call0_cst, val_main_call0_cst_0, val_main_call0_cst_1, val_main_cst, val_main_cst_0, val_main_cst_1, val_main_cst_10, val_main_cst_11, val_main_cst_12, val_main_cst_13, val_main_cst_14, val_main_cst_15, val_main_cst_16, val_main_cst_17, val_main_cst_18, val_main_cst_2, val_main_cst_3, val_main_cst_4, val_main_cst_5, val_main_cst_6, val_main_cst_7, val_main_cst_8, val_main_cst_9]
  exact dgu_at X W V G D a R n q

theorem dx_at (R : Given X W V G D a) (n : Fin 16384) (j : Fin 1024) : val_main_v78 (F := Ideal) X W V G D (ix2 n j) = ((dx a n j : ℝ) : EReal) := by
  pointwise [val_main_v78, val_main_v77, val_main_v71, val_main_v70, val_main_call0_cst, val_main_call0_cst_0, val_main_call0_cst_1, val_main_cst, val_main_cst_0, val_main_cst_1, val_main_cst_10, val_main_cst_11, val_main_cst_12, val_main_cst_13, val_main_cst_14, val_main_cst_15, val_main_cst_16, val_main_cst_17, val_main_cst_18, val_main_cst_2, val_main_cst_3, val_main_cst_4, val_main_cst_5, val_main_cst_6, val_main_cst_7, val_main_cst_8, val_main_cst_9]
  rw [dr_at X W V G D a R, alpha_w, ← EReal.coe_mul, sum_eq _ (fun q => dgu a n q * a.wi j q) (fun q => by rw [dgu_at X W V G D a R, R.w, EReal.coe_mul]), ← EReal.coe_add]
  rfl

end Cert.FfnRefIdeal.Sem
end
-- ==== Proof.Ffn.Claim.lean ====
/- The claim of the feed-forward layer's gradients: of finite arguments (the norm's bias may be infinite) both programs leave the same five results. -/
module
public import proofs.«01_k».proof.Defs
public import proofs.«01_k».proof.Proof.Ffn.Kern
public import proofs.«01_k».proof.Proof.Ffn.Ref
public import proofs.«01_k».proof.Proof.Layer.Finite
public import proofs.«01_k».proof.Proof.Gen.FfnRefIdeal.Run
public import Idealize.ShloMosaic.Lib.Claim
@[expose] public section
set_option maxRecDepth 16384

noncomputable section

namespace Cert.Step.Ffn

open Cert.FfnIdeal Cert.FfnIdeal.Gen Cert.FfnIdeal.Sem Idealize.ShloMosaic Idealize.ShloMosaic.TcCoe Idealize.SL.Sem
open Cert.Layer

theorem prefacts : Cert.Pre_finite_ffn.Facts := ⟨by decide, by decide, by decide, by decide⟩

section
variable (m : (ℓ : Loc nD τ sig) → Buf (Elt Ideal) ℓ) (c : Dev nD)

/-- The arguments' numbers. -/
def reals : Args 16384 where
  x n j := (m ((c : Thread nD τ).loc main_arg0) (ix2 n j) : EReal).toReal
  wi n j := (m ((c : Thread nD τ).loc main_arg1) (ix2 n j) : EReal).toReal
  wo n j := (m ((c : Thread nD τ).loc main_arg2) (ix2 n j) : EReal).toReal
  g j := (m ((c : Thread nD τ).loc main_arg3) (ix2 (0 : Fin 1) j) : EReal).toReal
  d n j := (m ((c : Thread nD τ).loc main_arg5) (ix2 n j) : EReal).toReal

theorem given (hpre : Cert.Pre_FfnIdeal_finite_ffn (hPre_finite_ffn := prefacts) m) : Given m c (reals m c) := by
  obtain ⟨h0, h1, h2, h3, h5⟩ := hpre c
  exact ⟨fun n j => real_of _ (congrFun h0 (ix2 n j)), fun n j => real_of _ (congrFun h1 (ix2 n j)), fun n j => real_of _ (congrFun h2 (ix2 n j)),
    fun j => real_of _ (congrFun h3 (ix2 0 j)), fun n j => real_of _ (congrFun h5 (ix2 n j))⟩

variable (a : Args 16384) (R : Given m c a)
include R

theorem ref_given : Cert.FfnRefIdeal.Sem.Given (m ((c : Thread nD τ).loc main_arg0)) (m ((c : Thread nD τ).loc main_arg1)) (m ((c : Thread nD τ).loc main_arg2)) (m ((c : Thread nD τ).loc main_arg3)) (m ((c : Thread nD τ).loc main_arg5)) a :=
  ⟨R.x, R.w, R.v, R.g, R.d⟩

theorem ref7 : Cert.FfnRefIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = (dats m 0 c).arrAt 7 cfg0.N := by
  rw [final7 m c a R]
  exact ext2 _ _ fun i j => Cert.FfnRefIdeal.Sem.dx_at _ _ _ _ _ _ (ref_given m c a R) i j

theorem ref8 : Cert.FfnRefIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = (dats m 0 c).arrAt 8 cfg0.N := by
  rw [final8 m c a R]
  exact ext2 _ _ fun i j => Cert.FfnRefIdeal.Sem.dgub_at _ _ _ _ _ _ (ref_given m c a R) i j

theorem ref9 : Cert.FfnRefIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = (dats m 0 c).arrAt 9 cfg0.N := by
  rw [final9 m c a R]
  exact ext2 _ _ fun i j => Cert.FfnRefIdeal.Sem.dfb_at _ _ _ _ _ _ (ref_given m c a R) i j

theorem ref10 : Cert.FfnRefIdeal.Read.val_main_v43 (F := Ideal) (m ((c : Thread nD τ).loc main_arg0)) (m ((c : Thread nD τ).loc main_arg1)) (m ((c : Thread nD τ).loc main_arg2)) (m ((c : Thread nD τ).loc main_arg5)) = (dats m 0 c).arrAt 10 cfg0.N := by
  rw [final10 m c a R]
  exact ext2 _ _ fun i j => by obtain rfl : i = 0 := Subsingleton.elim _ _; exact Cert.FfnRefIdeal.Sem.dg_at _ _ _ _ _ _ (ref_given m c a R) j

theorem ref11 : Cert.FfnRefIdeal.Read.val_main_v40 (F := Ideal) (m ((c : Thread nD τ).loc main_arg5)) = (dats m 0 c).arrAt 11 cfg0.N := by
  rw [final11 m c a R]
  exact ext2 _ _ fun i j => by obtain rfl : i = 0 := Subsingleton.elim _ _; exact Cert.FfnRefIdeal.Sem.dl_at _ _ _ _ _ _ (ref_given m c a R) j

end

set_option maxHeartbeats 1600000 in
theorem algebraic : Cert.algebraic_FfnIdeal_FfnRefIdeal_pre_finite_ffn (hFfnIdeal := Cert.FfnIdeal.Gen.facts)
    (hFfnRefIdeal := Cert.FfnRefIdeal.Gen.facts) (hPre_finite_ffn := prefacts) := by
  pair_intro
  · exact Cert.FfnIdeal.Value.run_blocks m g
  · refine Idealize.ShloMosaic.θ_run_mono (Cert.FfnRefIdeal.Value.run m' g') fun r h c => ?_
    obtain ⟨h0, h1, h2, h3, h4, k⟩ := h c
    have R := given m c hpre
    obtain ⟨a0, a1, a2, a3, a4, a5⟩ := hagree c
    have b : ∀ (r : Ref Cert.FfnRefIdeal.sig .tc), StableHlo.launchContents m' c (Proc.devRef .tc r) = m' ((c : Thread Cert.FfnRefIdeal.nD Cert.FfnRefIdeal.τ).loc r) := fun _ => rfl
    refine ⟨h0.trans ?_, h1.trans ?_, h2.trans ?_, h3.trans ?_, h4.trans ?_, k⟩
    · rw [Cert.FfnRefIdeal.Read.val_main_v78_eq, b, b, b, b, b, a0, a1, a2, a3, a5]
      exact ref7 m c _ R
    · rw [Cert.FfnRefIdeal.Read.val_main_v79_eq, b, b, b, b, b, a0, a1, a2, a3, a5]
      exact ref8 m c _ R
    · rw [Cert.FfnRefIdeal.Read.val_main_v80_eq, b, b, b, b, b, a0, a1, a2, a3, a5]
      exact ref9 m c _ R
    · rw [Cert.FfnRefIdeal.Read.val_main_v43_eq, b, b, b, b, a0, a1, a2, a5]
      exact ref10 m c _ R
    · rw [Cert.FfnRefIdeal.Read.val_main_v40_eq, b, a5]
      exact ref11 m c _ R

end Cert.Step.Ffn
end
-- ==== Proof.FwdIdeal.Blocks.lean ====
/-
  The attention forward kernel, a block of 512 keys at a time: the running maximum, the running sum of the weights and
  the running weighted sum of the values of each head, as functions of what is loaded; a list of blocks as one program
  (which loads the keys of all of them before it takes in the first), and what that program does to the running sums.
-/
module

public import proofs.«01_k».proof.Proof.Gen.FwdIdeal.Frame.Runs
public import proofs.«01_k».proof.Proof.Cells

@[expose] public section

set_option maxRecDepth 16384

noncomputable section

namespace Cert.FwdIdeal.Body

open Cert.FwdIdeal Cert.FwdIdeal.Gen Cert.Cells
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The running quantities of both heads, by query: the greatest score so far, the sum of the weights below it, and the
    values' sum under those weights. -/
@[ext] structure St (F : FTy → Type) where
  m : Vec F S2x1x512 .f32
  l : Vec F S2x1x512 .f32
  a : Vec F S2x128x512 .f32

/-! ### One head of one block -/

/-- The scores of 512 queries (columns) on 512 keys (rows). -/
def score (k : Vec F S512x128 .bf16) (q : FVec F S128x512 .bf16) : FVec F S512x512 .f32 :=
  matmul dot_S512x128_S128x512_S512x512_1_0_0_1_n_n none (shapeCast S512x128 k shapeCasts_S512x128_S512x128) q (constant S512x512 .f32 0x00000000#32)

/-- The scores of a block on itself: those of the keys after a query masked. -/
def below (z : FVec F S512x512 .f32) : FVec F S512x512 .f32 :=
  select (cmpi .sge (iota .tc S512x512 32 [1] iota_S512x512_d1_w32) (iota .tc S512x512 32 [0] iota_S512x512_d0_w32)) z
    (broadcast S512x512 (Named.named κ "mask" 0xF149F2CA#32))

/-- The new maximum. -/
def top (z : FVec F S512x512 .f32) (mo : Vec F S1x1x512 .f32) : FVec F S1x512 .f32 :=
  maximumf (shapeCast S1x512 mo shapeCasts_S1x1x512_S1x512)
    (shapeCast S1x512 (multiReduction .maximumf [0] S512 z 0xFF800000#32 reduces_S512x512_S512 (.inl rfl) rfl) shapeCasts_S512_S1x512)

/-- The weights below it. -/
def wts (z : FVec F S512x512 .f32) (mo : Vec F S1x1x512 .f32) : FVec F S512x512 .f32 :=
  exp2 (subf z (broadcastTo S512x512 (top z mo) broadcasts_S1x512_S512x512))

/-- What the sums so far are scaled by. -/
def fade (z : FVec F S512x512 .f32) (mo : Vec F S1x1x512 .f32) : FVec F S1x512 .f32 :=
  exp2 (subf (shapeCast S1x512 mo shapeCasts_S1x1x512_S1x512) (top z mo))

def newL (z : FVec F S512x512 .f32) (mo l : Vec F S1x1x512 .f32) : Vec F S1x1x512 .f32 :=
  shapeCast S1x1x512 (addf (mulf (fade z mo) (shapeCast S1x512 l shapeCasts_S1x1x512_S1x512))
    (shapeCast S1x512 (multiReduction .add [0] S512 (wts z mo) 0x00000000#32 reduces_S512x512_S512 (.inl rfl) rfl) shapeCasts_S512_S1x512)) shapeCasts_S1x512_S1x1x512

def newA (z : FVec F S512x512 .f32) (mo : Vec F S1x1x512 .f32) (v : Vec F S128x512 .bf16) (a : Vec F S1x128x512 .f32) : Vec F S1x128x512 .f32 :=
  shapeCast S1x128x512 (addf (mulf (broadcastTo S128x512 (fade z mo) broadcasts_S1x512_S128x512) (shapeCast S128x512 a shapeCasts_S1x128x512_S128x512))
    (matmul dot_S128x512_S512x512_S128x512_1_0_0_1_n_n none (shapeCast S128x512 v shapeCasts_S128x512_S128x512) (truncf .bf16 (wts z mo) bitsLt_bf16_f32)
      (constant S128x512 .f32 0x00000000#32))) shapeCasts_S128x512_S1x128x512

def newM (z : FVec F S512x512 .f32) (mo : Vec F S1x1x512 .f32) : Vec F S1x1x512 .f32 :=
  shapeCast S1x1x512 (top z mo) shapeCasts_S1x512_S1x1x512

section
variable {o : Fin 3 → ℕ} (i1 : ∀ a, o a + S1x1x512.size a ≤ S2x1x512.size a) (i2 : ∀ a, o a + S1x128x512.size a ≤ S2x128x512.size a)
  (z : FVec F S512x512 .f32) (v : Vec F S128x512 .bf16)
  (m3 m4 : Memref sig .tc .vmem S16384x128 .bf16) (m5 : Memref sig .tc .vmem S128x16384 .bf16)
  (m8 m9 : Memref sig .tc .vmem S2x1x512 .f32) (m10 : Memref sig .tc .vmem S2x128x512 .f32)
  (x3 x4 : Vec F S16384x128 .bf16) (x5 : Vec F S128x16384 .bf16)

/-- One head of a block, as a program. -/
def head : Prog (TpuEff nD τ sig (Elt F) Λ₀ .tc) PUnit := do
  let mo ← ld (p := .tc) m8 o S1x1x512.size i1 (View.loadsAt_vmem h_S1x1x512)
  upd (p := .tc) m9 o S1x1x512.size i1 (View.loadsAt_vmem h_S1x1x512) (View.stores_vmem_bits_univ h_S1x1x512 rfl) (newL z mo)
  upd (p := .tc) m10 o S1x128x512.size i2 (View.loadsAt_vmem h_S1x128x512) (View.stores_vmem_bits_univ h_S1x128x512 rfl) (newA z mo v)
  ovw (p := .tc) m8 o S1x1x512.size i1 (View.loadsAt_vmem h_S1x1x512) (View.stores_vmem_bits_univ h_S1x1x512 rfl) (newM z mo)

/-- What it does to the running quantities. -/
def step (σ : St F) : St F where
  m := VecWindow.put σ.m o S1x1x512.size (newM z (VecWindow.window σ.m o S1x1x512.size i1))
  l := VecWindow.put σ.l o S1x1x512.size (newL z (VecWindow.window σ.m o S1x1x512.size i1) (VecWindow.window σ.l o S1x1x512.size i1))
  a := VecWindow.put σ.a o S1x128x512.size (newA z (VecWindow.window σ.m o S1x1x512.size i1) v (VecWindow.window σ.a o S1x128x512.size i2))

/-- The buffers read and accumulated into, at the whole arrays and the running quantities. -/
def Own (c : Dev nD) (σ : St F) : sProp 𝕄 :=
  iprop(owns (c : Thread nD τ) m3 fullShare x3 ∗ owns (c : Thread nD τ) m4 fullShare x4 ∗ owns (c : Thread nD τ) m5 fullShare x5
    ∗ owns (c : Thread nD τ) m8 fullShare σ.m ∗ owns (c : Thread nD τ) m9 fullShare σ.l ∗ owns (c : Thread nD τ) m10 fullShare σ.a)

theorem head_spec (c : Dev nD) (σ : St F) (Q : PUnit → sProp 𝕄) :
    Own m3 m4 m5 m8 m9 m10 x3 x4 x5 c σ
      ⊢ iprop((Own m3 m4 m5 m8 m9 m10 x3 x4 x5 c (step i1 i2 z v σ) -∗ Q ⟨⟩)
        -∗ wp frame (wpE (defs₀ (F := F)) Variants.none c none) Set.univ (head i1 i2 z v m8 m9 m10) Q) := by
  unfold Own head
  iintro ⟨H3, H4, H5, H8, H9, H10⟩ HQ
  rw [wp_bind]
  iapply (ld_spec Variants.none (c : Thread nD τ) none Set.univ) $$ H8
  iintro H8
  rw [wp_bind]
  iapply (upd_spec Variants.none (c : Thread nD τ) none Set.univ) $$ H9
  iintro H9
  rw [wp_bind]
  iapply (upd_spec Variants.none (c : Thread nD τ) none Set.univ) $$ H10
  iintro H10
  unfold ovw
  rw [wp_bind]
  iapply (ld_spec Variants.none (c : Thread nD τ) none Set.univ) $$ H8
  iintro H8
  iapply (st_spec Variants.none (c : Thread nD τ) none Set.univ) $$ H8
  iintro H8
  iapply HQ
  isplitl [H3]; · iexact H3
  isplitl [H4]; · iexact H4
  isplitl [H5]; · iexact H5
  isplitl [H8]; · iexact H8
  isplitl [H9]; · iexact H9
  iexact H10
end

/-! ### A list of blocks -/

/-- Where a block's keys and values lie. -/
structure Blk where
  oK : Fin 2 → ℕ
  iK : ∀ a, oK a + S512x128.size a ≤ S16384x128.size a
  oV : Fin 2 → ℕ
  iV : ∀ a, oV a + S128x512.size a ≤ S128x16384.size a

/-- Scores masked if they are the block's own. -/
def own (d : Bool) (z : FVec F S512x512 .f32) : FVec F S512x512 .f32 := match d with
  | true => below z
  | false => z

section
variable (q0 q1 : FVec F S128x512 .bf16)
  (m3 m4 : Memref sig .tc .vmem S16384x128 .bf16) (m5 : Memref sig .tc .vmem S128x16384 .bf16)
  (m8 m9 : Memref sig .tc .vmem S2x1x512 .f32) (m10 : Memref sig .tc .vmem S2x128x512 .f32)
  (x3 x4 : Vec F S16384x128 .bf16) (x5 : Vec F S128x16384 .bf16)

/-- A block taken in, given the scores of both heads. -/
def absorb (d : Bool) (b : Blk) (z0 z1 : FVec F S512x512 .f32) : Prog (TpuEff nD τ sig (Elt F) Λ₀ .tc) PUnit := do
  let v ← ld (p := .tc) m5 b.oV S128x512.size b.iV (View.loadsAt_vmem h_S128x512)
  head inb_S2x1x512_S1x1x512_0_0_0 inb_S2x128x512_S1x128x512_0_0_0 (own d z0) v m8 m9 m10
  head inb_S2x1x512_S1x1x512_1_0_0 inb_S2x128x512_S1x128x512_1_0_0 (own d z1) v m8 m9 m10

/-- The keys of all the blocks of a list loaded, then `done`, then the blocks taken in one by one. -/
def meet : List (Bool × Blk) → Prog (TpuEff nD τ sig (Elt F) Λ₀ .tc) PUnit → Prog (TpuEff nD τ sig (Elt F) Λ₀ .tc) PUnit
  | [], done => done
  | (d, b) :: bs, done => do
    let k0 ← ld (p := .tc) m3 b.oK S512x128.size b.iK (View.loadsAt_vmem h_S512x128)
    let k1 ← ld (p := .tc) m4 b.oK S512x128.size b.iK (View.loadsAt_vmem h_S512x128)
    meet bs (do
      done
      absorb m5 m8 m9 m10 d b (score k0 q0) (score k1 q1))

/-- What taking in a block does. -/
def taken (σ : St F) (db : Bool × Blk) : St F :=
  step inb_S2x1x512_S1x1x512_1_0_0 inb_S2x128x512_S1x128x512_1_0_0 (own db.1 (score (VecWindow.window x4 db.2.oK S512x128.size db.2.iK) q1)) (VecWindow.window x5 db.2.oV S128x512.size db.2.iV)
    (step inb_S2x1x512_S1x1x512_0_0_0 inb_S2x128x512_S1x128x512_0_0_0 (own db.1 (score (VecWindow.window x3 db.2.oK S512x128.size db.2.iK) q0)) (VecWindow.window x5 db.2.oV S128x512.size db.2.iV) σ)

theorem absorb_spec (c : Dev nD) (d : Bool) (b : Blk) (σ : St F) (Q : PUnit → sProp 𝕄) :
    Own m3 m4 m5 m8 m9 m10 x3 x4 x5 c σ
      ⊢ iprop((Own m3 m4 m5 m8 m9 m10 x3 x4 x5 c (taken q0 q1 x3 x4 x5 σ (d, b)) -∗ Q ⟨⟩)
        -∗ wp frame (wpE (defs₀ (F := F)) Variants.none c none) Set.univ (absorb m5 m8 m9 m10 d b
          (score (VecWindow.window x3 b.oK S512x128.size b.iK) q0) (score (VecWindow.window x4 b.oK S512x128.size b.iK) q1)) Q) := by
  unfold absorb
  iintro H HQ
  unfold Own at *
  icases H with ⟨H3, H4, H5, H⟩
  rw [wp_bind]
  iapply (ld_spec Variants.none (c : Thread nD τ) none Set.univ) $$ H5
  iintro H5
  rw [wp_bind]
  iapply (head_spec _ _ _ _ m3 m4 m5 m8 m9 m10 x3 x4 x5 c σ _) $$ [H3 H4 H5 H]
  · unfold Own
    isplitl [H3]; · iexact H3
    isplitl [H4]; · iexact H4
    isplitl [H5]; · iexact H5
    iexact H
  iintro H
  iapply (head_spec _ _ _ _ m3 m4 m5 m8 m9 m10 x3 x4 x5 c _ _) $$ H
  iintro H
  iapply HQ
  unfold taken Own
  iexact H

theorem then_spec (c : Dev nD) (done : Prog (TpuEff nD τ sig (Elt F) Λ₀ .tc) PUnit) (σ σ' : St F)
    (hd : ∀ Q : PUnit → sProp 𝕄, Own m3 m4 m5 m8 m9 m10 x3 x4 x5 c σ ⊢ iprop((Own m3 m4 m5 m8 m9 m10 x3 x4 x5 c σ' -∗ Q ⟨⟩)
      -∗ wp frame (wpE (defs₀ (F := F)) Variants.none c none) Set.univ done Q)) (d : Bool) (b : Blk) (Q : PUnit → sProp 𝕄) :
    Own m3 m4 m5 m8 m9 m10 x3 x4 x5 c σ
      ⊢ iprop((Own m3 m4 m5 m8 m9 m10 x3 x4 x5 c (taken q0 q1 x3 x4 x5 σ' (d, b)) -∗ Q ⟨⟩)
        -∗ wp frame (wpE (defs₀ (F := F)) Variants.none c none) Set.univ (do
            done
            absorb m5 m8 m9 m10 d b (score (VecWindow.window x3 b.oK S512x128.size b.iK) q0) (score (VecWindow.window x4 b.oK S512x128.size b.iK) q1)) Q) := by
  iintro H HQ
  rw [wp_bind]
  iapply (hd _) $$ H
  iintro H
  iapply (absorb_spec q0 q1 m3 m4 m5 m8 m9 m10 x3 x4 x5 c d b σ' Q) $$ H
  iexact HQ

theorem meet_spec (c : Dev nD) (bs : List (Bool × Blk)) : ∀ (done : Prog (TpuEff nD τ sig (Elt F) Λ₀ .tc) PUnit) (σ σ' : St F)
    (hd : ∀ Q : PUnit → sProp 𝕄, Own m3 m4 m5 m8 m9 m10 x3 x4 x5 c σ ⊢ iprop((Own m3 m4 m5 m8 m9 m10 x3 x4 x5 c σ' -∗ Q ⟨⟩)
      -∗ wp frame (wpE (defs₀ (F := F)) Variants.none c none) Set.univ done Q)) (Q : PUnit → sProp 𝕄),
    Own m3 m4 m5 m8 m9 m10 x3 x4 x5 c σ
      ⊢ iprop((Own m3 m4 m5 m8 m9 m10 x3 x4 x5 c (bs.foldl (taken q0 q1 x3 x4 x5) σ') -∗ Q ⟨⟩)
        -∗ wp frame (wpE (defs₀ (F := F)) Variants.none c none) Set.univ (meet q0 q1 m3 m4 m5 m8 m9 m10 bs done) Q) := by
  induction bs with
  | nil => intro done σ σ' hd Q; exact hd Q
  | cons db bs ih =>
    intro done σ σ' hd Q
    obtain ⟨d, b⟩ := db
    unfold meet
    iintro H HQ
    ihave H : iprop(owns (c : Thread nD τ) m3 fullShare x3 ∗ owns (c : Thread nD τ) m4 fullShare x4 ∗ owns (c : Thread nD τ) m5 fullShare x5
      ∗ owns (c : Thread nD τ) m8 fullShare σ.m ∗ owns (c : Thread nD τ) m9 fullShare σ.l ∗ owns (c : Thread nD τ) m10 fullShare σ.a) $$ [H]
    · unfold Own
      iexact H
    icases H with ⟨H3, H4, H⟩
    rw [wp_bind]
    iapply (ld_spec Variants.none (c : Thread nD τ) none Set.univ) $$ H3
    iintro H3
    rw [wp_bind]
    iapply (ld_spec Variants.none (c : Thread nD τ) none Set.univ) $$ H4
    iintro H4
    iapply (ih _ σ (taken q0 q1 x3 x4 x5 σ' (d, b)) (then_spec q0 q1 m3 m4 m5 m8 m9 m10 x3 x4 x5 c done σ σ' hd d b) Q) $$ [H3 H4 H]
    · unfold Own
      isplitl [H3]; · iexact H3
      isplitl [H4]; · iexact H4
      iexact H
    iexact HQ
end

end Cert.FwdIdeal.Body
-- ==== Proof.FwdIdeal.Sched.lean ====
/-
  The order in which a block of queries meets the blocks of keys before it and itself: eight at a time in a loop, then
  the rest, of which the last is its own, in one of eight ways; where each of them lies.
-/
module

public import proofs.«01_k».proof.Proof.FwdIdeal.Blocks

@[expose] public section

set_option maxRecDepth 16384

noncomputable section

namespace Cert.FwdIdeal.Body

open Cert.FwdIdeal Cert.FwdIdeal.Gen Cert.Cells
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ### Where the blocks lie -/

theorem off1_eq : ∀ (t : Fin grid0.N) (k : Fin (k0_t1_loop (grid0.coords t)).trips) (r : Fin 8), k0_off1 (grid0.coords t) k (BitVec.ofNat 32 r.val) = ![512 * ((8 * k.val + r.val) % 32), 0] := by decide +kernel
theorem off2_eq : ∀ (t : Fin grid0.N) (k : Fin (k0_t1_loop (grid0.coords t)).trips) (r : Fin 8), k0_off2 (grid0.coords t) k (BitVec.ofNat 32 r.val) = ![0, 512 * ((8 * k.val + r.val) % 32)] := by decide +kernel
theorem off5_eq : ∀ (t : Fin grid0.N), k0_off5 (grid0.coords t) = ![512 * ((t.val % 32) % 32), 0] := by decide +kernel
theorem off6_eq : ∀ (t : Fin grid0.N), k0_off6 (grid0.coords t) = ![0, 512 * ((t.val % 32) % 32)] := by decide +kernel
theorem off7_eq : ∀ (t : Fin grid0.N) (r : Fin 2), t.val % 32 % 8 = 1 → k0_off7 (grid0.coords t) (BitVec.ofNat 32 r.val) = ![512 * ((t.val % 32 - 1 + r.val) % 32), 0] := by decide +kernel
theorem off8_eq : ∀ (t : Fin grid0.N) (r : Fin 2), t.val % 32 % 8 = 1 → k0_off8 (grid0.coords t) (BitVec.ofNat 32 r.val) = ![0, 512 * ((t.val % 32 - 1 + r.val) % 32)] := by decide +kernel
theorem off9_eq : ∀ (t : Fin grid0.N) (r : Fin 3), t.val % 32 % 8 = 2 → k0_off9 (grid0.coords t) (BitVec.ofNat 32 r.val) = ![512 * ((t.val % 32 - 2 + r.val) % 32), 0] := by decide +kernel
theorem off10_eq : ∀ (t : Fin grid0.N) (r : Fin 3), t.val % 32 % 8 = 2 → k0_off10 (grid0.coords t) (BitVec.ofNat 32 r.val) = ![0, 512 * ((t.val % 32 - 2 + r.val) % 32)] := by decide +kernel
theorem off11_eq : ∀ (t : Fin grid0.N) (r : Fin 4), t.val % 32 % 8 = 3 → k0_off11 (grid0.coords t) (BitVec.ofNat 32 r.val) = ![512 * ((t.val % 32 - 3 + r.val) % 32), 0] := by decide +kernel
theorem off12_eq : ∀ (t : Fin grid0.N) (r : Fin 4), t.val % 32 % 8 = 3 → k0_off12 (grid0.coords t) (BitVec.ofNat 32 r.val) = ![0, 512 * ((t.val % 32 - 3 + r.val) % 32)] := by decide +kernel
theorem off13_eq : ∀ (t : Fin grid0.N) (r : Fin 5), t.val % 32 % 8 = 4 → k0_off13 (grid0.coords t) (BitVec.ofNat 32 r.val) = ![512 * ((t.val % 32 - 4 + r.val) % 32), 0] := by decide +kernel
theorem off14_eq : ∀ (t : Fin grid0.N) (r : Fin 5), t.val % 32 % 8 = 4 → k0_off14 (grid0.coords t) (BitVec.ofNat 32 r.val) = ![0, 512 * ((t.val % 32 - 4 + r.val) % 32)] := by decide +kernel
theorem off15_eq : ∀ (t : Fin grid0.N) (r : Fin 6), t.val % 32 % 8 = 5 → k0_off15 (grid0.coords t) (BitVec.ofNat 32 r.val) = ![512 * ((t.val % 32 - 5 + r.val) % 32), 0] := by decide +kernel
theorem off16_eq : ∀ (t : Fin grid0.N) (r : Fin 6), t.val % 32 % 8 = 5 → k0_off16 (grid0.coords t) (BitVec.ofNat 32 r.val) = ![0, 512 * ((t.val % 32 - 5 + r.val) % 32)] := by decide +kernel
theorem off17_eq : ∀ (t : Fin grid0.N) (r : Fin 7), t.val % 32 % 8 = 6 → k0_off17 (grid0.coords t) (BitVec.ofNat 32 r.val) = ![512 * ((t.val % 32 - 6 + r.val) % 32), 0] := by decide +kernel
theorem off18_eq : ∀ (t : Fin grid0.N) (r : Fin 7), t.val % 32 % 8 = 6 → k0_off18 (grid0.coords t) (BitVec.ofNat 32 r.val) = ![0, 512 * ((t.val % 32 - 6 + r.val) % 32)] := by decide +kernel
theorem off19_eq : ∀ (t : Fin grid0.N) (r : Fin 8), t.val % 32 % 8 = 7 → k0_off19 (grid0.coords t) (BitVec.ofNat 32 r.val) = ![512 * ((t.val % 32 - 7 + r.val) % 32), 0] := by decide +kernel
theorem off20_eq : ∀ (t : Fin grid0.N) (r : Fin 8), t.val % 32 % 8 = 7 → k0_off20 (grid0.coords t) (BitVec.ofNat 32 r.val) = ![0, 512 * ((t.val % 32 - 7 + r.val) % 32)] := by decide +kernel
theorem cond1_iff : ∀ (t : Fin grid0.N), k0_cond1 (grid0.coords t) = 1#1 ↔ t.val % 32 % 8 = 0 := by decide +kernel
theorem cond2_iff : ∀ (t : Fin grid0.N), k0_cond2 (grid0.coords t) = 1#1 ↔ t.val % 32 % 8 = 1 := by decide +kernel
theorem cond3_iff : ∀ (t : Fin grid0.N), k0_cond3 (grid0.coords t) = 1#1 ↔ t.val % 32 % 8 = 2 := by decide +kernel
theorem cond4_iff : ∀ (t : Fin grid0.N), k0_cond4 (grid0.coords t) = 1#1 ↔ t.val % 32 % 8 = 3 := by decide +kernel
theorem cond5_iff : ∀ (t : Fin grid0.N), k0_cond5 (grid0.coords t) = 1#1 ↔ t.val % 32 % 8 = 4 := by decide +kernel
theorem cond6_iff : ∀ (t : Fin grid0.N), k0_cond6 (grid0.coords t) = 1#1 ↔ t.val % 32 % 8 = 5 := by decide +kernel
theorem cond7_iff : ∀ (t : Fin grid0.N), k0_cond7 (grid0.coords t) = 1#1 ↔ t.val % 32 % 8 = 6 := by decide +kernel
theorem cond8_iff : ∀ (t : Fin grid0.N), k0_cond8 (grid0.coords t) = 1#1 ↔ t.val % 32 % 8 = 7 := by decide +kernel
theorem t1_trips : ∀ t : Fin grid0.N, (k0_t1_loop (grid0.coords t)).trips = t.val % 32 / 8 := by decide +kernel
theorem t2_trips : ∀ t : Fin grid0.N, (k0_t2_loop (grid0.coords t)).trips = 0 := by decide +kernel

/-! ### Lists of blocks -/

/-- `n` blocks, none of them the queries' own. -/
def tiles : (n : ℕ) → (Fin n → Blk) → List (Bool × Blk)
  | 0, _ => []
  | n + 1, f => (false, f 0) :: tiles n fun r => f r.succ

/-- `n + 1` blocks, the last of them the queries' own. -/
def upTo : (n : ℕ) → (Fin (n + 1) → Blk) → List (Bool × Blk)
  | 0, f => [(true, f 0)]
  | n + 1, f => (false, f 0) :: upTo n fun r => f r.succ

/-- The `n`th block of keys. -/
def at_ (n : ℕ) : Blk where
  oK := ![512 * (n % 32), 0]
  iK := by
    have := Nat.mod_lt n (show 0 < 32 by decide)
    refine Fin.forall_fin_two.2 ⟨?_, ?_⟩ <;> simp [S512x128, S16384x128] <;> omega
  oV := ![0, 512 * (n % 32)]
  iV := by
    have := Nat.mod_lt n (show 0 < 32 by decide)
    refine Fin.forall_fin_two.2 ⟨?_, ?_⟩ <;> simp [S128x512, S128x16384] <;> omega

theorem eq_at (b : Blk) (n : ℕ) (hK : b.oK = ![512 * (n % 32), 0]) (hV : b.oV = ![0, 512 * (n % 32)]) : b = at_ n := by
  obtain ⟨oK, iK, oV, iV⟩ := b
  dsimp only at hK hV
  subst hK hV
  rfl

section
variable (q0 q1 : FVec F S128x512 .bf16) (x3 x4 : Vec F S16384x128 .bf16) (x5 : Vec F S128x16384 .bf16) (σ0 : St F)

/-- The running quantities after `n` whole blocks. -/
def upto : ℕ → St F
  | 0 => σ0
  | n + 1 => taken q0 q1 x3 x4 x5 (upto n) (false, at_ n)

/-- The running quantities after `n` whole blocks and the queries' own. -/
def full (n : ℕ) : St F := taken q0 q1 x3 x4 x5 (upto q0 q1 x3 x4 x5 σ0 n) (true, at_ n)

theorem fold_tiles (n : ℕ) : ∀ (f : Fin n → Blk) (b : ℕ), (∀ r, f r = at_ (b + r.val)) →
    (tiles n f).foldl (taken q0 q1 x3 x4 x5) (upto q0 q1 x3 x4 x5 σ0 b) = upto q0 q1 x3 x4 x5 σ0 (b + n) := by
  induction n with
  | zero => intro f b h; rfl
  | succ n ih =>
    intro f b h
    have h' : ∀ r : Fin n, f r.succ = at_ (b + 1 + r.val) := fun r => by rw [h, Fin.val_succ, Nat.add_assoc, Nat.add_comm 1]
    rw [tiles, List.foldl_cons, h 0]
    exact (ih _ (b + 1) h').trans (by rw [Nat.add_assoc, Nat.add_comm 1])

theorem fold_upTo (n : ℕ) : ∀ (f : Fin (n + 1) → Blk) (b : ℕ), (∀ r, f r = at_ (b + r.val)) →
    (upTo n f).foldl (taken q0 q1 x3 x4 x5) (upto q0 q1 x3 x4 x5 σ0 b) = full q0 q1 x3 x4 x5 σ0 (b + n) := by
  induction n with
  | zero => intro f b h; rw [upTo, List.foldl_cons, List.foldl_nil, h 0]; rfl
  | succ n ih =>
    intro f b h
    have h' : ∀ r : Fin (n + 1), f r.succ = at_ (b + 1 + r.val) := fun r => by rw [h, Fin.val_succ, Nat.add_assoc, Nat.add_comm 1]
    rw [upTo, List.foldl_cons, h 0]
    exact (ih _ (b + 1) h').trans (by rw [Nat.add_assoc, Nat.add_comm 1])

/-- The running quantities before the `j`th way is asked, for the queries' block `g`. -/
def stage (g j : ℕ) : St F :=
  if g % 8 < j then full q0 q1 x3 x4 x5 σ0 g else upto q0 q1 x3 x4 x5 σ0 (g - g % 8)

variable (m3 m4 : Memref sig .tc .vmem S16384x128 .bf16) (m5 : Memref sig .tc .vmem S128x16384 .bf16)
  (m8 m9 : Memref sig .tc .vmem S2x1x512 .f32) (m10 : Memref sig .tc .vmem S2x128x512 .f32)

/-- One way: `n + 1` blocks if it is the one, and then the rest. -/
def way (n : ℕ) {P : Prop} [Decidable P] (f : P → Fin (n + 1) → Blk) {α : Type} (rest : Prog (TpuEff nD τ sig (Elt F) Λ₀ .tc) α) : Prog (TpuEff nD τ sig (Elt F) Λ₀ .tc) α :=
  if h : P then do
    meet q0 q1 m3 m4 m5 m8 m9 m10 (upTo n (f h)) (pure ⟨⟩)
    rest
  else rest

theorem way_spec (c : Dev nD) (g n : ℕ) {P : Prop} [Decidable P] (f : P → Fin (n + 1) → Blk) (hP : P ↔ g % 8 = n)
    (hf : ∀ h r, f h r = at_ (g - n + r.val)) {α : Type} (rest : Prog (TpuEff nD τ sig (Elt F) Λ₀ .tc) α) (Q : α → sProp 𝕄) :
    Own m3 m4 m5 m8 m9 m10 x3 x4 x5 c (stage q0 q1 x3 x4 x5 σ0 g n)
      ⊢ iprop((Own m3 m4 m5 m8 m9 m10 x3 x4 x5 c (stage q0 q1 x3 x4 x5 σ0 g (n + 1)) -∗ wp frame (wpE (defs₀ (F := F)) Variants.none c none) Set.univ rest Q)
        -∗ wp frame (wpE (defs₀ (F := F)) Variants.none c none) Set.univ (way q0 q1 m3 m4 m5 m8 m9 m10 n f rest) Q) := by
  have hg := Nat.mod_le g 8
  by_cases h : P
  · have e := hP.1 h
    rw [show stage q0 q1 x3 x4 x5 σ0 g n = upto q0 q1 x3 x4 x5 σ0 (g - n) by rw [stage, if_neg (by omega), e],
      show stage q0 q1 x3 x4 x5 σ0 g (n + 1) = (upTo n (f h)).foldl (taken q0 q1 x3 x4 x5) (upto q0 q1 x3 x4 x5 σ0 (g - n)) by
        rw [stage, if_pos (by omega), fold_upTo q0 q1 x3 x4 x5 σ0 n (f h) (g - n) (hf h), Nat.sub_add_cancel (by omega)]]
    unfold way
    rw [dif_pos h]
    iintro H HQ
    rw [wp_bind]
    iapply (meet_spec q0 q1 m3 m4 m5 m8 m9 m10 x3 x4 x5 c (upTo n (f h)) (pure ⟨⟩) _ _ (fun Q => by
      iintro H HQ
      rw [wp_pure]
      imodintro
      iapply HQ
      iexact H) _) $$ H
    iexact HQ
  · have e : ¬ g % 8 = n := fun e => h (hP.2 e)
    rw [show stage q0 q1 x3 x4 x5 σ0 g (n + 1) = stage q0 q1 x3 x4 x5 σ0 g n by
      unfold stage
      exact if_congr (by omega) rfl rfl]
    unfold way
    rw [dif_neg h]
    iintro H HQ
    iapply HQ
    iexact H
end

end Cert.FwdIdeal.Body
-- ==== Proof.FwdIdeal.Body.lean ====
/-
  The attention forward kernel's program at a grid point, as its printed pieces and as what they come to: the queries
  of each head set apart, the running quantities cleared, the blocks of keys taken in, and the two results written.
-/
module

public import proofs.«01_k».proof.Proof.FwdIdeal.Sched

@[expose] public section

set_option maxRecDepth 16384

noncomputable section

namespace Cert.FwdIdeal.Body

open Cert.FwdIdeal Cert.FwdIdeal.Gen Cert.Cells
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ### The ends of the program -/

/-- The lanes below 64, which hold the first head's part. -/
def low : IVec S128x512 1 :=
  broadcastTo S128x512 (shapeCast S128x1 (cmpi .slt (iota .tc S128x1 32 [0] iota_S128x1_d0_w32) (broadcast S128x1 64#32)) shapeCasts_S128x1_S128x1) broadcasts_S128x1_S128x512

/-- The three lanes from `b` on, which the bias takes. -/
def band (b e : BitVec 32) : IVec S128x512 1 :=
  broadcastTo S128x512 (shapeCast S128x1 (andi (cmpi .sge (iota .tc S128x1 32 [0] iota_S128x1_d0_w32) (broadcast S128x1 b))
    (cmpi .slt (iota .tc S128x1 32 [0] iota_S128x1_d0_w32) (broadcast S128x1 e))) shapeCasts_S128x1_S128x1) broadcasts_S128x1_S128x512

/-- Minus one, at every lane. -/
def minus : FVec F S128x512 .bf16 := broadcast S128x512 (Scalar.truncf .bf16 bitsLt_bf16_f32 (Scalar.ofBits .f32 0xBF800000#32))

/-- Zero, at every lane. -/
def none0 : FVec F S128x512 .bf16 := broadcast S128x512 (Scalar.ofBits .bf16 0x0000#16)

/-- The queries of the first head, with minus one where the bias lies. -/
def head0 (q : Vec F S128x512 .bf16) : FVec F S128x512 .bf16 :=
  select (band 64#32 67#32) minus (select low (shapeCast S128x512 q shapeCasts_S128x512_S128x512) none0)

/-- The queries of the second head, with minus one where the bias lies. -/
def head1 (q : Vec F S128x512 .bf16) : FVec F S128x512 .bf16 :=
  select (band 0#32 3#32) minus (select low none0 (shapeCast S128x512 q shapeCasts_S128x512_S128x512))

/-- The running quantities before any block. -/
def clear : St F where
  m := shapeCast S2x1x512 (broadcast S2x1x512 (Named.named κ "mask" 0xF149F2CA#32)) shapeCasts_S2x1x512_S2x1x512
  l := shapeCast S2x1x512 (broadcast S2x1x512 (Scalar.ofBits .f32 0x00000000#32)) shapeCasts_S2x1x512_S2x1x512
  a := shapeCast S2x128x512 (broadcast S2x128x512 (Scalar.ofBits .f32 0x00000000#32)) shapeCasts_S2x128x512_S2x128x512

/-- Minus the logarithm to base two of a query's sum of powers of two. -/
def logRow (m l : Vec F S1x1x512 .f32) : Vec F S1x1x512 .f32 :=
  shapeCast S1x1x512 (subf (broadcast S1x512 (Scalar.ofBits .f32 0x00000000#32)) (addf (shapeCast S1x512 m shapeCasts_S1x1x512_S1x512)
    (mulf (log (shapeCast S1x512 l shapeCasts_S1x1x512_S1x512)) (broadcast S1x512 (Named.named κ "log2e" 0x3FB8AA3B#32))))) shapeCasts_S1x512_S1x1x512

/-- The values' sum over the weights' sum. -/
def mean (l : Vec F S1x1x512 .f32) (a : Vec F S1x128x512 .f32) : FVec F S128x512 .f32 :=
  mulf (shapeCast S128x512 a shapeCasts_S1x128x512_S128x512)
    (broadcastTo S128x512 (divf (broadcast S1x512 (Scalar.ofBits .f32 0x3F800000#32)) (shapeCast S1x512 l shapeCasts_S1x1x512_S1x512)) broadcasts_S1x512_S128x512)

/-- The two heads' means beside each other, by query. -/
def both (u v : FVec F S128x512 .f32) : Vec F S512x128 .f32 :=
  transpose S512x128 [1, 0] (select low u v) transposes_S128x512_p1_0_S512x128

section
variable (arg2 : Memref sig .tc .vmem S128x512 .bf16) (arg3 : Memref sig .tc .vmem S16384x128 .bf16) (arg4 : Memref sig .tc .vmem S16384x128 .bf16) (arg5 : Memref sig .tc .vmem S128x16384 .bf16) (arg6 : Memref sig .tc .vmem S512x128 .f32) (arg7 : Memref sig .tc .vmem S1x8x512 .f32) (arg8 : Memref sig .tc .vmem S2x1x512 .f32) (arg9 : Memref sig .tc .vmem S2x1x512 .f32) (arg10 : Memref sig .tc .vmem S2x128x512 .f32) (i : grid0.Coords)

def opens {α : Type} (k : Vec F S128x512 .bf16 → α) : Prog (TpuEff nD τ sig (Elt F) Λ₀ .tc) α := do
  let q ← ld (p := .tc) arg2 ![0, 0] S128x512.size inb_S128x512_S128x512_0_0 (View.loadsAt_vmem h_S128x512)
  ovw (p := .tc) arg8 ![0, 0, 0] S2x1x512.size inb_S2x1x512_S2x1x512_0_0_0 (View.loadsAt_vmem h_S2x1x512) (View.stores_vmem_bits_univ h_S2x1x512 rfl) (clear (F := F)).m
  let _ ← ld (p := .tc) arg9 ![0, 0, 0] S2x1x512.size inb_S2x1x512_S2x1x512_0_0_0 (View.loadsAt_vmem h_S2x1x512)
  pure (k q)

def loops (q0 q1 : FVec F S128x512 .bf16) {α : Type} (r : α) : Prog (TpuEff nD τ sig (Elt F) Λ₀ .tc) α := do
  st (p := .tc) arg9 ![0, 0, 0] S2x1x512.size inb_S2x1x512_S2x1x512_0_0_0 (clear (F := F)).l (View.stores_vmem_bits_univ h_S2x1x512 rfl)
  ovw (p := .tc) arg10 ![0, 0, 0] S2x128x512.size inb_S2x128x512_S2x128x512_0_0_0 (View.loadsAt_vmem h_S2x128x512) (View.stores_vmem_bits_univ h_S2x128x512 rfl) (clear (F := F)).a
  Scf.Loop.for (k0_t1_loop i) (k0_t1_ok i) ⟨⟩ fun k _ =>
    meet q0 q1 arg3 arg4 arg5 arg8 arg9 arg10 (tiles 8 fun r => ⟨_, k0_off1_inb i k r, _, k0_off2_inb i k r⟩) (pure ⟨⟩)
  Scf.Loop.for (k0_t2_loop i) (k0_t2_ok i) ⟨⟩ fun k _ =>
    meet q0 q1 arg3 arg4 arg5 arg8 arg9 arg10 (tiles 8 fun r => ⟨_, k0_off3_inb i k r, _, k0_off4_inb i k r⟩) (pure ⟨⟩)
  pure r

def meanOf {α : Type} (k : Vec F S1x1x512 .f32 → Vec F S1x128x512 .f32 → α) : Prog (TpuEff nD τ sig (Elt F) Λ₀ .tc) α := do
  let l ← ld (p := .tc) arg9 ![0, 0, 0] S1x1x512.size inb_S2x1x512_S1x1x512_0_0_0 (View.loadsAt_vmem h_S1x1x512)
  let a ← ld (p := .tc) arg10 ![0, 0, 0] S1x128x512.size inb_S2x128x512_S1x128x512_0_0_0 (View.loadsAt_vmem h_S1x128x512)
  pure (k l a)

def rows {α : Type} (l0 : Vec F S1x1x512 .f32) (k : Vec F S1x1x512 .f32 → Vec F S1x128x512 .f32 → α) : Prog (TpuEff nD τ sig (Elt F) Λ₀ .tc) α := do
  let m0 ← ld (p := .tc) arg8 ![0, 0, 0] S1x1x512.size inb_S2x1x512_S1x1x512_0_0_0 (View.loadsAt_vmem h_S1x1x512)
  ovw (p := .tc) arg7 ![0, 0, 0] S1x1x512.size inb_S1x8x512_S1x1x512_0_0_0 (View.loadsAt_vmem h_S1x1x512) (View.stores_vmem_bits_univ h_S1x1x512 rfl) (logRow m0 l0)
  let l1 ← ld (p := .tc) arg9 ![1, 0, 0] S1x1x512.size inb_S2x1x512_S1x1x512_1_0_0 (View.loadsAt_vmem h_S1x1x512)
  let a1 ← ld (p := .tc) arg10 ![1, 0, 0] S1x128x512.size inb_S2x128x512_S1x128x512_1_0_0 (View.loadsAt_vmem h_S1x128x512)
  let m1 ← ld (p := .tc) arg8 ![1, 0, 0] S1x1x512.size inb_S2x1x512_S1x1x512_1_0_0 (View.loadsAt_vmem h_S1x1x512)
  ovw (p := .tc) arg7 ![0, 1, 0] S1x1x512.size inb_S1x8x512_S1x1x512_0_1_0 (View.loadsAt_vmem h_S1x1x512) (View.stores_vmem_bits_univ h_S1x1x512 rfl) (logRow m1 l1)
  let _ ← ld (p := .tc) arg7 ![0, 2, 0] S1x6x512.size inb_S1x8x512_S1x6x512_0_2_0 (View.loadsAt_vmem h_S1x6x512)
  pure (k l1 a1)

def ends (u v : FVec F S128x512 .f32) (z : FVec F S6x512 .f32) : Prog (TpuEff nD τ sig (Elt F) Λ₀ .tc) PUnit := do
  st (p := .tc) arg7 ![0, 2, 0] S1x6x512.size inb_S1x8x512_S1x6x512_0_2_0 (shapeCast S1x6x512 z shapeCasts_S6x512_S1x6x512) (View.stores_vmem_bits_univ h_S1x6x512 rfl)
  ovw (p := .tc) arg6 ![0, 0] S512x128.size inb_S512x128_S512x128_0_0 (View.loadsAt_vmem h_S512x128) (View.stores_vmem_bits_univ h_S512x128 rfl) (both u v)
end

/-! ### The printed pieces -/

section
variable (i : grid0.Coords) (arg2 : Memref sig .tc .vmem S128x512 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x16384 .bf16) (harg5 : arg5.IsWhole) (arg6 : Memref sig .tc .vmem S512x128 .f32) (harg6 : arg6.IsWhole) (arg7 : Memref sig .tc .vmem S1x8x512 .f32) (harg7 : arg7.IsWhole) (arg8 : Memref sig .tc .vmem S2x1x512 .f32) (harg8 : arg8.IsWhole) (arg9 : Memref sig .tc .vmem S2x1x512 .f32) (harg9 : arg9.IsWhole) (arg10 : Memref sig .tc .vmem S2x128x512 .f32) (harg10 : arg10.IsWhole) (q0 q1 : FVec F S128x512 .bf16)

theorem part118_eq : k0_part118 i arg2 harg2 arg3 harg3 arg4 harg4 arg5 harg5 arg6 harg6 arg7 harg7 arg8 harg8 arg9 harg9 arg10 harg10
    = opens (F := F) arg2 arg8 arg9 fun q => ⟨BitVec.ofNat 32 (i 1).val, head0 q, head1 q, broadcast S2x1x512 (Scalar.ofBits .f32 0x00000000#32)⟩ := rfl

set_option maxHeartbeats 4000000 in
theorem part119_eq (a : BitVec 32) : ∃ r, k0_part119 i arg2 harg2 arg3 harg3 arg4 harg4 arg5 harg5 arg6 harg6 arg7 harg7 arg8 harg8 arg9 harg9 arg10 harg10 a q0 q1 (broadcast S2x1x512 (Scalar.ofBits .f32 0x00000000#32))
    = loops arg3 arg4 arg5 arg8 arg9 arg10 i q0 q1 r := ⟨_, rfl⟩

set_option maxHeartbeats 4000000 in
theorem part120_eq (a b c : BitVec 32) (d e : BitVec 1) : ∃ r, k0_part120 i arg2 harg2 arg3 harg3 arg4 harg4 arg5 harg5 arg6 harg6 arg7 harg7 arg8 harg8 arg9 harg9 arg10 harg10 a q0 q1 b c d e
    = way q0 q1 arg3 arg4 arg5 arg8 arg9 arg10 0 (fun h r => ⟨_, k0_off5_inb i h, _, k0_off6_inb i h⟩)
      (way q0 q1 arg3 arg4 arg5 arg8 arg9 arg10 1 (fun h r => ⟨_, k0_off7_inb i h r, _, k0_off8_inb i h r⟩)
      (way q0 q1 arg3 arg4 arg5 arg8 arg9 arg10 2 (fun h r => ⟨_, k0_off9_inb i h r, _, k0_off10_inb i h r⟩) (pure r))) := ⟨_, rfl⟩

set_option maxHeartbeats 4000000 in
theorem part121_eq (a b c d : BitVec 32) : ∃ r, k0_part121 i arg2 harg2 arg3 harg3 arg4 harg4 arg5 harg5 arg6 harg6 arg7 harg7 arg8 harg8 arg9 harg9 arg10 harg10 a q0 q1 b c d
    = way q0 q1 arg3 arg4 arg5 arg8 arg9 arg10 3 (fun h r => ⟨_, k0_off11_inb i h r, _, k0_off12_inb i h r⟩)
      (way q0 q1 arg3 arg4 arg5 arg8 arg9 arg10 4 (fun h r => ⟨_, k0_off13_inb i h r, _, k0_off14_inb i h r⟩)
      (way q0 q1 arg3 arg4 arg5 arg8 arg9 arg10 5 (fun h r => ⟨_, k0_off15_inb i h r, _, k0_off16_inb i h r⟩) (pure r))) := ⟨_, rfl⟩

set_option maxHeartbeats 4000000 in
theorem part122_eq (a b : BitVec 32) : k0_part122 i arg2 harg2 arg3 harg3 arg4 harg4 arg5 harg5 arg6 harg6 arg7 harg7 arg8 harg8 arg9 harg9 arg10 harg10 a q0 q1 b
    = way q0 q1 arg3 arg4 arg5 arg8 arg9 arg10 6 (fun h r => ⟨_, k0_off17_inb i h r, _, k0_off18_inb i h r⟩)
      (way q0 q1 arg3 arg4 arg5 arg8 arg9 arg10 7 (fun h r => ⟨_, k0_off19_inb i h r, _, k0_off20_inb i h r⟩)
      (meanOf arg9 arg10 fun l a => ⟨shapeCast S1x512 l shapeCasts_S1x1x512_S1x512, mean l a⟩)) := rfl

theorem part123_eq (l : Vec F S1x1x512 .f32) : k0_part123 i arg2 harg2 arg3 harg3 arg4 harg4 arg5 harg5 arg6 harg6 arg7 harg7 arg8 harg8 arg9 harg9 arg10 harg10 (shapeCast S1x512 l shapeCasts_S1x1x512_S1x512)
    = rows arg7 arg8 arg9 arg10 l fun l a => ⟨mean l a, broadcast S6x512 (Scalar.ofBits .f32 0x00000000#32)⟩ := rfl

set_option maxHeartbeats 1600000 in
theorem body_eq : cc0_attn_fwd (F := F) i arg2 harg2 arg3 harg3 arg4 harg4 arg5 harg5 arg6 harg6 arg7 harg7 arg8 harg8 arg9 harg9 arg10 harg10 = (k0_part118 (F := F) i arg2 harg2 arg3 harg3 arg4 harg4 arg5 harg5 arg6 harg6 arg7 harg7 arg8 harg8 arg9 harg9 arg10 harg10 >>= fun r =>
    k0_part119 i arg2 harg2 arg3 harg3 arg4 harg4 arg5 harg5 arg6 harg6 arg7 harg7 arg8 harg8 arg9 harg9 arg10 harg10 r.1 r.2.1 r.2.2.1 r.2.2.2 >>= fun u =>
    k0_part120 i arg2 harg2 arg3 harg3 arg4 harg4 arg5 harg5 arg6 harg6 arg7 harg7 arg8 harg8 arg9 harg9 arg10 harg10 r.1 r.2.1 r.2.2.1 u.1 u.2.1 u.2.2.1 u.2.2.2 >>= fun w =>
    k0_part121 i arg2 harg2 arg3 harg3 arg4 harg4 arg5 harg5 arg6 harg6 arg7 harg7 arg8 harg8 arg9 harg9 arg10 harg10 r.1 r.2.1 r.2.2.1 w.1 w.2.1 w.2.2 >>= fun x =>
    k0_part122 i arg2 harg2 arg3 harg3 arg4 harg4 arg5 harg5 arg6 harg6 arg7 harg7 arg8 harg8 arg9 harg9 arg10 harg10 r.1 r.2.1 r.2.2.1 x >>= fun y =>
    k0_part123 i arg2 harg2 arg3 harg3 arg4 harg4 arg5 harg5 arg6 harg6 arg7 harg7 arg8 harg8 arg9 harg9 arg10 harg10 y.1 >>= fun z =>
    ends arg6 arg7 y.2 z.1 z.2) := by
  unfold cc0_attn_fwd
  refine congrArg (Bind.bind _) (funext fun r => ?_)
  obtain ⟨a0, a1, a2, a3⟩ := r
  dsimp only
  refine congrArg (Bind.bind _) (funext fun u => ?_)
  obtain ⟨b0, b1, b2, b3⟩ := u
  dsimp only
  refine congrArg (Bind.bind _) (funext fun w => ?_)
  obtain ⟨w0, w1, w2⟩ := w
  dsimp only
  refine congrArg (Bind.bind _) (funext fun x => ?_)
  refine congrArg (Bind.bind _) (funext fun y => ?_)
  obtain ⟨y0, y1⟩ := y
  dsimp only
  refine congrArg (Bind.bind _) (funext fun z => ?_)
  obtain ⟨z0, z1⟩ := z
  dsimp only
  rfl
end

end Cert.FwdIdeal.Body
-- ==== Proof.FwdIdeal.Whole.lean ====
/-
  The attention forward kernel's program at a grid point, whole: what it leaves in the two results, as a function of
  what it reads.
-/
module

public import proofs.«01_k».proof.Proof.FwdIdeal.Body

@[expose] public section

set_option maxRecDepth 16384

noncomputable section

namespace Cert.FwdIdeal.Body

open Cert.FwdIdeal Cert.FwdIdeal.Gen Cert.Cells
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ### What a point leaves -/

/-- The running quantities when a block of queries has met all its blocks of keys. -/
def done (t : Fin grid0.N) (x2 : Vec F S128x512 .bf16) (x3 x4 : Vec F S16384x128 .bf16) (x5 : Vec F S128x16384 .bf16) : St F :=
  full (head0 x2) (head1 x2) x3 x4 x5 clear (t.val % 32)

/-- The running quantities of one head. -/
def m0 (σ : St F) : Vec F S1x1x512 .f32 := VecWindow.window σ.m ![0, 0, 0] S1x1x512.size inb_S2x1x512_S1x1x512_0_0_0
def m1 (σ : St F) : Vec F S1x1x512 .f32 := VecWindow.window σ.m ![1, 0, 0] S1x1x512.size inb_S2x1x512_S1x1x512_1_0_0
def l0 (σ : St F) : Vec F S1x1x512 .f32 := VecWindow.window σ.l ![0, 0, 0] S1x1x512.size inb_S2x1x512_S1x1x512_0_0_0
def l1 (σ : St F) : Vec F S1x1x512 .f32 := VecWindow.window σ.l ![1, 0, 0] S1x1x512.size inb_S2x1x512_S1x1x512_1_0_0
def a0 (σ : St F) : Vec F S1x128x512 .f32 := VecWindow.window σ.a ![0, 0, 0] S1x128x512.size inb_S2x128x512_S1x128x512_0_0_0
def a1 (σ : St F) : Vec F S1x128x512 .f32 := VecWindow.window σ.a ![1, 0, 0] S1x128x512.size inb_S2x128x512_S1x128x512_1_0_0

/-- The first result's block. -/
def outO (σ : St F) : Vec F S512x128 .f32 := both (mean (l0 σ) (a0 σ)) (mean (l1 σ) (a1 σ))

/-- Eight rows: one of each head, and six of zeros. -/
def lay (y : Vec F S1x8x512 .f32) (u v : Vec F S1x1x512 .f32) : Vec F S1x8x512 .f32 :=
  VecWindow.put (VecWindow.put (VecWindow.put y ![0, 0, 0] S1x1x512.size u) ![0, 1, 0] S1x1x512.size v) ![0, 2, 0] S1x6x512.size
    (shapeCast S1x6x512 (broadcast S6x512 (Scalar.ofBits (F := F) .f32 0x00000000#32)) shapeCasts_S6x512_S1x6x512)

/-- They cover the block. -/
theorem lay_any (y y' : Vec F S1x8x512 .f32) (u v : Vec F S1x1x512 .f32) : lay y u v = lay y' u v := by
  funext j
  unfold lay VecWindow.put
  split
  · rfl
  · rename_i h2
    split
    · rfl
    · rename_i h1
      split
      · rfl
      · rename_i h0
        exfalso
        have c0 : (j 0).val < 1 := (j 0).isLt
        have c1 : (j 1).val < 8 := (j 1).isLt
        have c2 : (j 2).val < 512 := (j 2).isLt
        have key : ∀ (o n : ℕ), o ≤ (j 1).val → (j 1).val < o + n → ∀ a, (![0, o, 0] : Fin 3 → ℕ) a ≤ (j a).val ∧ (j a).val < (![0, o, 0] : Fin 3 → ℕ) a + (![1, n, 512] : Fin 3 → ℕ) a := by
          intro o n h h' a
          match a with
          | 0 => exact ⟨Nat.zero_le _, by show (j 0).val < 0 + 1; omega⟩
          | 1 => exact ⟨h, h'⟩
          | 2 => exact ⟨Nat.zero_le _, by show (j 2).val < 0 + 512; omega⟩
        rcases (by omega : (j 1).val = 0 ∨ (j 1).val = 1 ∨ 2 ≤ (j 1).val) with e | e | e
        · exact h0 (key 0 1 (by omega) (by omega))
        · exact h1 (key 1 1 (by omega) (by omega))
        · exact h2 (key 2 6 (by omega) (by omega))

/-- The second result's block. -/
def outA (σ : St F) : Vec F S1x8x512 .f32 := lay (broadcast S1x8x512 (Scalar.ofBits .f32 0x00000000#32)) (logRow (m0 σ) (l0 σ)) (logRow (m1 σ) (l1 σ))

section
variable (t : Fin grid0.N) (arg2 : Memref sig .tc .vmem S128x512 .bf16) (arg3 : Memref sig .tc .vmem S16384x128 .bf16) (arg4 : Memref sig .tc .vmem S16384x128 .bf16) (arg5 : Memref sig .tc .vmem S128x16384 .bf16) (arg6 : Memref sig .tc .vmem S512x128 .f32) (arg7 : Memref sig .tc .vmem S1x8x512 .f32) (arg8 : Memref sig .tc .vmem S2x1x512 .f32) (arg9 : Memref sig .tc .vmem S2x1x512 .f32) (arg10 : Memref sig .tc .vmem S2x128x512 .f32) (q0 q1 : FVec F S128x512 .bf16)
  (x2 : Vec F S128x512 .bf16) (x3 x4 : Vec F S16384x128 .bf16) (x5 : Vec F S128x16384 .bf16) (y6 : Vec F S512x128 .f32) (y7 : Vec F S1x8x512 .f32) (z8 z9 : Vec F S2x1x512 .f32) (z10 : Vec F S2x128x512 .f32)

theorem opens_spec {α : Type} (k : Vec F S128x512 .bf16 → α) (c : Dev nD) (Q : α → sProp 𝕄) :
    iprop(owns (c : Thread nD τ) arg2 fullShare x2 ∗ owns (c : Thread nD τ) arg8 fullShare z8 ∗ owns (c : Thread nD τ) arg9 fullShare z9)
      ⊢ iprop((iprop(owns (c : Thread nD τ) arg2 fullShare x2 ∗ owns (c : Thread nD τ) arg8 fullShare (clear (F := F)).m ∗ owns (c : Thread nD τ) arg9 fullShare z9) -∗ Q (k x2))
        -∗ wp frame (wpE (defs₀ (F := F)) Variants.none c none) Set.univ (opens arg2 arg8 arg9 k) Q) := by
  unfold opens
  iintro ⟨H2, H8, H9⟩ HQ
  rw [wp_bind]
  iapply (ld_whole Variants.none (c : Thread nD τ) none Set.univ) $$ H2
  iintro H2
  rw [wp_bind]
  iapply (ovw_whole Variants.none (c : Thread nD τ) none Set.univ) $$ H8
  iintro H8
  rw [wp_bind]
  iapply (ld_whole Variants.none (c : Thread nD τ) none Set.univ) $$ H9
  iintro H9
  rw [wp_pure]
  imodintro
  iapply HQ
  isplitl [H2]; · iexact H2
  isplitl [H8]; · iexact H8
  iexact H9

theorem loop_step (c : Dev nD) (k : Fin (k0_t1_loop (grid0.coords t)).trips) :
    Own arg3 arg4 arg5 arg8 arg9 arg10 x3 x4 x5 c (upto q0 q1 x3 x4 x5 clear (8 * k.val)) ⊢
      wp frame (wpE (defs₀ (F := F)) Variants.none c none) Set.univ (meet q0 q1 arg3 arg4 arg5 arg8 arg9 arg10 (tiles 8 fun r => ⟨_, k0_off1_inb (grid0.coords t) k r, _, k0_off2_inb (grid0.coords t) k r⟩) (pure ⟨⟩))
        (fun _ => Own arg3 arg4 arg5 arg8 arg9 arg10 x3 x4 x5 c (upto q0 q1 x3 x4 x5 clear (8 * (k.val + 1)))) := by
  iintro H
  iapply (meet_spec q0 q1 arg3 arg4 arg5 arg8 arg9 arg10 x3 x4 x5 c _ (pure ⟨⟩) _ _ (fun Q => by
    iintro H HQ
    rw [wp_pure]
    imodintro
    iapply HQ
    iexact H) _) $$ H
  iintro H
  rw [fold_tiles q0 q1 x3 x4 x5 clear 8 _ (8 * k.val) (fun r => eq_at _ _ (off1_eq t k r) (off2_eq t k r)), ← Nat.mul_succ]
  iexact H

theorem loops_spec {α : Type} (r : α) (c : Dev nD) (Q : α → sProp 𝕄) :
    iprop(owns (c : Thread nD τ) arg3 fullShare x3 ∗ owns (c : Thread nD τ) arg4 fullShare x4 ∗ owns (c : Thread nD τ) arg5 fullShare x5 ∗ owns (c : Thread nD τ) arg8 fullShare (clear (F := F)).m ∗ owns (c : Thread nD τ) arg9 fullShare z9 ∗ owns (c : Thread nD τ) arg10 fullShare z10)
      ⊢ iprop((Own arg3 arg4 arg5 arg8 arg9 arg10 x3 x4 x5 c (stage q0 q1 x3 x4 x5 clear (t.val % 32) 0) -∗ Q r)
        -∗ wp frame (wpE (defs₀ (F := F)) Variants.none c none) Set.univ (loops arg3 arg4 arg5 arg8 arg9 arg10 (grid0.coords t) q0 q1 r) Q) := by
  unfold loops
  iintro ⟨H3, H4, H5, H8, H9, H10⟩ HQ
  rw [wp_bind]
  iapply (st_spec Variants.none (c : Thread nD τ) none Set.univ) $$ H9
  iintro H9
  rw [put_whole _ _ _ inb_S2x1x512_S2x1x512_0_0_0, wp_bind]
  iapply (ovw_whole Variants.none (c : Thread nD τ) none Set.univ) $$ H10
  iintro H10
  rw [wp_bind]
  iapply (Scf.wp_for frame (wpE (defs₀ (F := F)) Variants.none c none) Set.univ _ _ _ (k0_t1_ok (grid0.coords t)) ⟨⟩ _
    (fun n _ => Own arg3 arg4 arg5 arg8 arg9 arg10 x3 x4 x5 c (upto q0 q1 x3 x4 x5 clear (8 * n))) (fun k _ => loop_step t arg3 arg4 arg5 arg8 arg9 arg10 q0 q1 x3 x4 x5 c k))
  isplitl [H3 H4 H5 H8 H9 H10]
  · unfold Own
    isplitl [H3]; · iexact H3
    isplitl [H4]; · iexact H4
    isplitl [H5]; · iexact H5
    isplitl [H8]; · iexact H8
    isplitl [H9]; · iexact H9
    iexact H10
  iintro %_ H
  rw [show (Scf.trips (k0_t1_loop (grid0.coords t)).lb (k0_t1_loop (grid0.coords t)).ub (k0_t1_loop (grid0.coords t)).st) = t.val % 32 / 8 from t1_trips t]
  rw [wp_bind]
  iapply (Scf.wp_for frame (wpE (defs₀ (F := F)) Variants.none c none) Set.univ _ _ _ (k0_t2_ok (grid0.coords t)) ⟨⟩ _
    (fun n _ => Own arg3 arg4 arg5 arg8 arg9 arg10 x3 x4 x5 c (upto q0 q1 x3 x4 x5 clear (8 * (t.val % 32 / 8)))) (fun k _ => absurd (lt_of_lt_of_eq k.isLt (t2_trips t)) (Nat.not_lt_zero _)))
  isplitl [H]
  · iexact H
  iintro %_ H
  rw [wp_pure]
  imodintro
  iapply HQ
  rw [show stage q0 q1 x3 x4 x5 clear (t.val % 32) 0 = upto q0 q1 x3 x4 x5 clear (8 * (t.val % 32 / 8)) by
    rw [stage, if_neg (Nat.not_lt_zero _)]; exact congrArg _ (by omega)]
  iexact H

theorem few_spec {α : Type} (r : α) (c : Dev nD) (Q : α → sProp 𝕄) :
    Own arg3 arg4 arg5 arg8 arg9 arg10 x3 x4 x5 c (stage q0 q1 x3 x4 x5 clear (t.val % 32) 0)
      ⊢ iprop((Own arg3 arg4 arg5 arg8 arg9 arg10 x3 x4 x5 c (stage q0 q1 x3 x4 x5 clear (t.val % 32) 3) -∗ Q r)
        -∗ wp frame (wpE (defs₀ (F := F)) Variants.none c none) Set.univ (way q0 q1 arg3 arg4 arg5 arg8 arg9 arg10 0 (fun h r => ⟨_, k0_off5_inb (grid0.coords t) h, _, k0_off6_inb (grid0.coords t) h⟩) (way q0 q1 arg3 arg4 arg5 arg8 arg9 arg10 1 (fun h r => ⟨_, k0_off7_inb (grid0.coords t) h r, _, k0_off8_inb (grid0.coords t) h r⟩) (way q0 q1 arg3 arg4 arg5 arg8 arg9 arg10 2 (fun h r => ⟨_, k0_off9_inb (grid0.coords t) h r, _, k0_off10_inb (grid0.coords t) h r⟩) (pure r)))) Q) := by
  iintro H HQ
  iapply (way_spec q0 q1 x3 x4 x5 clear arg3 arg4 arg5 arg8 arg9 arg10 c (t.val % 32) 0 _ (cond1_iff t) (fun h r => by rw [Fin.eq_zero r]; exact eq_at _ _ (off5_eq t) (off6_eq t)) _ _) $$ H
  iintro H
  iapply (way_spec q0 q1 x3 x4 x5 clear arg3 arg4 arg5 arg8 arg9 arg10 c (t.val % 32) 1 _ (cond2_iff t) (fun h r => eq_at _ _ (off7_eq t r ((cond2_iff t).1 h)) (off8_eq t r ((cond2_iff t).1 h))) _ _) $$ H
  iintro H
  iapply (way_spec q0 q1 x3 x4 x5 clear arg3 arg4 arg5 arg8 arg9 arg10 c (t.val % 32) 2 _ (cond3_iff t) (fun h r => eq_at _ _ (off9_eq t r ((cond3_iff t).1 h)) (off10_eq t r ((cond3_iff t).1 h))) _ _) $$ H
  iintro H
  rw [wp_pure]
  imodintro
  iapply HQ
  iexact H

theorem some_spec {α : Type} (r : α) (c : Dev nD) (Q : α → sProp 𝕄) :
    Own arg3 arg4 arg5 arg8 arg9 arg10 x3 x4 x5 c (stage q0 q1 x3 x4 x5 clear (t.val % 32) 3)
      ⊢ iprop((Own arg3 arg4 arg5 arg8 arg9 arg10 x3 x4 x5 c (stage q0 q1 x3 x4 x5 clear (t.val % 32) 6) -∗ Q r)
        -∗ wp frame (wpE (defs₀ (F := F)) Variants.none c none) Set.univ (way q0 q1 arg3 arg4 arg5 arg8 arg9 arg10 3 (fun h r => ⟨_, k0_off11_inb (grid0.coords t) h r, _, k0_off12_inb (grid0.coords t) h r⟩) (way q0 q1 arg3 arg4 arg5 arg8 arg9 arg10 4 (fun h r => ⟨_, k0_off13_inb (grid0.coords t) h r, _, k0_off14_inb (grid0.coords t) h r⟩) (way q0 q1 arg3 arg4 arg5 arg8 arg9 arg10 5 (fun h r => ⟨_, k0_off15_inb (grid0.coords t) h r, _, k0_off16_inb (grid0.coords t) h r⟩) (pure r)))) Q) := by
  iintro H HQ
  iapply (way_spec q0 q1 x3 x4 x5 clear arg3 arg4 arg5 arg8 arg9 arg10 c (t.val % 32) 3 _ (cond4_iff t) (fun h r => eq_at _ _ (off11_eq t r ((cond4_iff t).1 h)) (off12_eq t r ((cond4_iff t).1 h))) _ _) $$ H
  iintro H
  iapply (way_spec q0 q1 x3 x4 x5 clear arg3 arg4 arg5 arg8 arg9 arg10 c (t.val % 32) 4 _ (cond5_iff t) (fun h r => eq_at _ _ (off13_eq t r ((cond5_iff t).1 h)) (off14_eq t r ((cond5_iff t).1 h))) _ _) $$ H
  iintro H
  iapply (way_spec q0 q1 x3 x4 x5 clear arg3 arg4 arg5 arg8 arg9 arg10 c (t.val % 32) 5 _ (cond6_iff t) (fun h r => eq_at _ _ (off15_eq t r ((cond6_iff t).1 h)) (off16_eq t r ((cond6_iff t).1 h))) _ _) $$ H
  iintro H
  rw [wp_pure]
  imodintro
  iapply HQ
  iexact H

theorem many_spec {α : Type} (rest : Prog (TpuEff nD τ sig (Elt F) Λ₀ .tc) α) (c : Dev nD) (Q : α → sProp 𝕄) :
    Own arg3 arg4 arg5 arg8 arg9 arg10 x3 x4 x5 c (stage q0 q1 x3 x4 x5 clear (t.val % 32) 6)
      ⊢ iprop((Own arg3 arg4 arg5 arg8 arg9 arg10 x3 x4 x5 c (stage q0 q1 x3 x4 x5 clear (t.val % 32) 8) -∗ wp frame (wpE (defs₀ (F := F)) Variants.none c none) Set.univ rest Q)
        -∗ wp frame (wpE (defs₀ (F := F)) Variants.none c none) Set.univ (way q0 q1 arg3 arg4 arg5 arg8 arg9 arg10 6 (fun h r => ⟨_, k0_off17_inb (grid0.coords t) h r, _, k0_off18_inb (grid0.coords t) h r⟩) (way q0 q1 arg3 arg4 arg5 arg8 arg9 arg10 7 (fun h r => ⟨_, k0_off19_inb (grid0.coords t) h r, _, k0_off20_inb (grid0.coords t) h r⟩) rest)) Q) := by
  iintro H HQ
  iapply (way_spec q0 q1 x3 x4 x5 clear arg3 arg4 arg5 arg8 arg9 arg10 c (t.val % 32) 6 _ (cond7_iff t) (fun h r => eq_at _ _ (off17_eq t r ((cond7_iff t).1 h)) (off18_eq t r ((cond7_iff t).1 h))) _ _) $$ H
  iintro H
  iapply (way_spec q0 q1 x3 x4 x5 clear arg3 arg4 arg5 arg8 arg9 arg10 c (t.val % 32) 7 _ (cond8_iff t) (fun h r => eq_at _ _ (off19_eq t r ((cond8_iff t).1 h)) (off20_eq t r ((cond8_iff t).1 h))) _ _) $$ H
  iintro H
  iapply HQ
  iexact H

theorem meanOf_spec {α : Type} (k : Vec F S1x1x512 .f32 → Vec F S1x128x512 .f32 → α) (σ : St F) (c : Dev nD) (Q : α → sProp 𝕄) :
    iprop(owns (c : Thread nD τ) arg9 fullShare σ.l ∗ owns (c : Thread nD τ) arg10 fullShare σ.a) ⊢ iprop((iprop(owns (c : Thread nD τ) arg9 fullShare σ.l ∗ owns (c : Thread nD τ) arg10 fullShare σ.a) -∗ Q (k (l0 σ) (a0 σ)))
        -∗ wp frame (wpE (defs₀ (F := F)) Variants.none c none) Set.univ (meanOf arg9 arg10 k) Q) := by
  unfold meanOf l0 a0
  iintro ⟨H9, H10⟩ HQ
  rw [wp_bind]
  iapply (ld_spec Variants.none (c : Thread nD τ) none Set.univ) $$ H9
  iintro H9
  rw [wp_bind]
  iapply (ld_spec Variants.none (c : Thread nD τ) none Set.univ) $$ H10
  iintro H10
  rw [wp_pure]
  imodintro
  iapply HQ
  isplitl [H9]; · iexact H9
  iexact H10

theorem rows_spec {α : Type} (k : Vec F S1x1x512 .f32 → Vec F S1x128x512 .f32 → α) (σ : St F) (c : Dev nD) (Q : α → sProp 𝕄) :
    iprop(owns (c : Thread nD τ) arg7 fullShare y7 ∗ owns (c : Thread nD τ) arg8 fullShare σ.m ∗ owns (c : Thread nD τ) arg9 fullShare σ.l ∗ owns (c : Thread nD τ) arg10 fullShare σ.a) ⊢ iprop((iprop(owns (c : Thread nD τ) arg7 fullShare (VecWindow.put (VecWindow.put y7 ![0, 0, 0] S1x1x512.size (logRow (m0 σ) (l0 σ))) ![0, 1, 0] S1x1x512.size (logRow (m1 σ) (l1 σ))) ∗ owns (c : Thread nD τ) arg8 fullShare σ.m ∗ owns (c : Thread nD τ) arg9 fullShare σ.l ∗ owns (c : Thread nD τ) arg10 fullShare σ.a) -∗ Q (k (l1 σ) (a1 σ)))
        -∗ wp frame (wpE (defs₀ (F := F)) Variants.none c none) Set.univ (rows arg7 arg8 arg9 arg10 (l0 σ) k) Q) := by
  unfold rows ovw m0 m1 l0 l1 a1
  iintro ⟨H7, H8, H9, H10⟩ HQ
  rw [wp_bind]
  iapply (ld_spec Variants.none (c : Thread nD τ) none Set.univ) $$ H8
  iintro H8
  rw [wp_bind, wp_bind]
  iapply (ld_spec Variants.none (c : Thread nD τ) none Set.univ) $$ H7
  iintro H7
  iapply (st_spec Variants.none (c : Thread nD τ) none Set.univ) $$ H7
  iintro H7
  rw [wp_bind]
  iapply (ld_spec Variants.none (c : Thread nD τ) none Set.univ) $$ H9
  iintro H9
  rw [wp_bind]
  iapply (ld_spec Variants.none (c : Thread nD τ) none Set.univ) $$ H10
  iintro H10
  rw [wp_bind]
  iapply (ld_spec Variants.none (c : Thread nD τ) none Set.univ) $$ H8
  iintro H8
  rw [wp_bind, wp_bind]
  iapply (ld_spec Variants.none (c : Thread nD τ) none Set.univ) $$ H7
  iintro H7
  iapply (st_spec Variants.none (c : Thread nD τ) none Set.univ) $$ H7
  iintro H7
  rw [wp_bind]
  iapply (ld_spec Variants.none (c : Thread nD τ) none Set.univ) $$ H7
  iintro H7
  rw [wp_pure]
  imodintro
  iapply HQ
  isplitl [H7]; · iexact H7
  isplitl [H8]; · iexact H8
  isplitl [H9]; · iexact H9
  iexact H10

theorem ends_spec (u v : FVec F S128x512 .f32) (z : FVec F S6x512 .f32) (c : Dev nD) (Q : PUnit → sProp 𝕄) :
    iprop(owns (c : Thread nD τ) arg6 fullShare y6 ∗ owns (c : Thread nD τ) arg7 fullShare y7) ⊢ iprop((iprop(owns (c : Thread nD τ) arg6 fullShare (both u v) ∗ owns (c : Thread nD τ) arg7 fullShare (VecWindow.put y7 ![0, 2, 0] S1x6x512.size (shapeCast S1x6x512 z shapeCasts_S6x512_S1x6x512))) -∗ Q ⟨⟩)
        -∗ wp frame (wpE (defs₀ (F := F)) Variants.none c none) Set.univ (ends arg6 arg7 u v z) Q) := by
  unfold ends
  iintro ⟨H6, H7⟩ HQ
  rw [wp_bind]
  iapply (st_spec Variants.none (c : Thread nD τ) none Set.univ) $$ H7
  iintro H7
  iapply (ovw_whole Variants.none (c : Thread nD τ) none Set.univ) $$ H6
  iintro H6
  iapply HQ
  isplitl [H6]; · iexact H6
  iexact H7
end

section
variable (t : Fin grid0.N) (arg2 : Memref sig .tc .vmem S128x512 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x16384 .bf16) (harg5 : arg5.IsWhole) (arg6 : Memref sig .tc .vmem S512x128 .f32) (harg6 : arg6.IsWhole) (arg7 : Memref sig .tc .vmem S1x8x512 .f32) (harg7 : arg7.IsWhole) (arg8 : Memref sig .tc .vmem S2x1x512 .f32) (harg8 : arg8.IsWhole) (arg9 : Memref sig .tc .vmem S2x1x512 .f32) (harg9 : arg9.IsWhole) (arg10 : Memref sig .tc .vmem S2x128x512 .f32) (harg10 : arg10.IsWhole)
  (x2 : Vec F S128x512 .bf16) (x3 x4 : Vec F S16384x128 .bf16) (x5 : Vec F S128x16384 .bf16) (y6 : Vec F S512x128 .f32) (y7 : Vec F S1x8x512 .f32) (z8 z9 : Vec F S2x1x512 .f32) (z10 : Vec F S2x128x512 .f32)

set_option maxHeartbeats 1600000 in
theorem body_spec (c : Dev nD) (Q : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare y6 ∗ owns (c : Thread nD τ) arg7 fullShare y7 ∗ owns (c : Thread nD τ) arg8 fullShare z8 ∗ owns (c : Thread nD τ) arg9 fullShare z9 ∗ owns (c : Thread nD τ) arg10 fullShare z10)
      ⊢ iprop((iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (outO (done t x2 x3 x4 x5)) ∗ owns (c : Thread nD τ) arg7 fullShare (outA (done t x2 x3 x4 x5)) ∗ owns (c : Thread nD τ) arg8 fullShare (done t x2 x3 x4 x5).m ∗ owns (c : Thread nD τ) arg9 fullShare (done t x2 x3 x4 x5).l ∗ owns (c : Thread nD τ) arg10 fullShare (done t x2 x3 x4 x5).a) -∗ Q ⟨⟩)
        -∗ wp frame (wpE (defs₀ (F := F)) Variants.none c none) Set.univ (cc0_attn_fwd (grid0.coords t) arg2 harg2 arg3 harg3 arg4 harg4 arg5 harg5 arg6 harg6 arg7 harg7 arg8 harg8 arg9 harg9 arg10 harg10) Q) := by
  iintro ⟨H2, H3, H4, H5, H6, H7, H8, H9, H10⟩ HQ
  rw [body_eq, wp_bind, part118_eq]
  iapply (opens_spec arg2 arg8 arg9 x2 z8 z9 _ c _) $$ [H2 H8 H9]
  · isplitl [H2]; · iexact H2
    isplitl [H8]; · iexact H8
    iexact H9
  iintro ⟨H2, H8, H9⟩
  dsimp only
  rw [wp_bind]
  obtain ⟨r, hr⟩ := part119_eq (grid0.coords t) arg2 harg2 arg3 harg3 arg4 harg4 arg5 harg5 arg6 harg6 arg7 harg7 arg8 harg8 arg9 harg9 arg10 harg10 (head0 x2) (head1 x2) (BitVec.ofNat 32 ((grid0.coords t) 1).val)
  erw [hr]
  iapply (loops_spec t arg3 arg4 arg5 arg8 arg9 arg10 (head0 x2) (head1 x2) x3 x4 x5 z9 z10 r c _) $$ [H3 H4 H5 H8 H9 H10]
  · isplitl [H3]; · iexact H3
    isplitl [H4]; · iexact H4
    isplitl [H5]; · iexact H5
    isplitl [H8]; · iexact H8
    isplitl [H9]; · iexact H9
    iexact H10
  iintro H
  rw [wp_bind]
  obtain ⟨s, hs⟩ := part120_eq (grid0.coords t) arg2 harg2 arg3 harg3 arg4 harg4 arg5 harg5 arg6 harg6 arg7 harg7 arg8 harg8 arg9 harg9 arg10 harg10 (head0 x2) (head1 x2) (BitVec.ofNat 32 ((grid0.coords t) 1).val) r.1 r.2.1 r.2.2.1 r.2.2.2
  erw [hs]
  iapply (few_spec t arg3 arg4 arg5 arg8 arg9 arg10 (head0 x2) (head1 x2) x3 x4 x5 s c _) $$ H
  iintro H
  rw [wp_bind]
  obtain ⟨u, hu⟩ := part121_eq (grid0.coords t) arg2 harg2 arg3 harg3 arg4 harg4 arg5 harg5 arg6 harg6 arg7 harg7 arg8 harg8 arg9 harg9 arg10 harg10 (head0 x2) (head1 x2) (BitVec.ofNat 32 ((grid0.coords t) 1).val) s.1 s.2.1 s.2.2
  erw [hu]
  iapply (some_spec t arg3 arg4 arg5 arg8 arg9 arg10 (head0 x2) (head1 x2) x3 x4 x5 u c _) $$ H
  iintro H
  rw [wp_bind]
  erw [part122_eq]
  iapply (many_spec t arg3 arg4 arg5 arg8 arg9 arg10 (head0 x2) (head1 x2) x3 x4 x5 _ c _) $$ H
  iintro H
  rw [show stage (head0 x2) (head1 x2) x3 x4 x5 clear (t.val % 32) 8 = done t x2 x3 x4 x5 from if_pos (Nat.mod_lt _ (by decide))]
  generalize done t x2 x3 x4 x5 = σ
  ihave H : iprop(owns (c : Thread nD τ) arg3 fullShare x3 ∗ owns (c : Thread nD τ) arg4 fullShare x4 ∗ owns (c : Thread nD τ) arg5 fullShare x5 ∗ owns (c : Thread nD τ) arg8 fullShare σ.m ∗ owns (c : Thread nD τ) arg9 fullShare σ.l ∗ owns (c : Thread nD τ) arg10 fullShare σ.a) $$ [H]
  · unfold Own
    iexact H
  icases H with ⟨H3, H4, H5, H8, H9, H10⟩
  iapply (meanOf_spec arg9 arg10 _ σ c _) $$ [H9 H10]
  · isplitl [H9]; · iexact H9
    iexact H10
  iintro ⟨H9, H10⟩
  dsimp only
  rw [wp_bind, part123_eq]
  iapply (rows_spec arg7 arg8 arg9 arg10 y7 _ σ c _) $$ [H7 H8 H9 H10]
  · isplitl [H7]; · iexact H7
    isplitl [H8]; · iexact H8
    isplitl [H9]; · iexact H9
    iexact H10
  iintro ⟨H7, H8, H9, H10⟩
  dsimp only
  iapply (ends_spec arg6 arg7 y6 _ _ _ _ c Q) $$ [H6 H7]
  · isplitl [H6]; · iexact H6
    iexact H7
  iintro ⟨H6, H7⟩
  iapply HQ
  rw [show outA σ = lay y7 (logRow (m0 σ) (l0 σ)) (logRow (m1 σ) (l1 σ)) from lay_any _ _ _ _]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
end

end Cert.FwdIdeal.Body
-- ==== Proof.FwdIdeal.Run.lean ====
/-
  The attention forward kernel's run: what each point of its grid leaves in the two results, and that the arguments end
  unchanged.
-/
module

public import proofs.«01_k».proof.Proof.FwdIdeal.Whole
public import Idealize.ShloMosaic.Lib.Claim

@[expose] public section

set_option maxRecDepth 16384

noncomputable section

namespace Cert.FwdIdeal.Body

open Cert.FwdIdeal Cert.FwdIdeal.Gen Cert.Cells
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The running quantities at a point's end. -/
def doneAt (c : Dev nD) (t : Fin cfg0.N) : St F := done t (iblk m c 0 t) (iblk m c 1 t) (iblk m c 2 t) (iblk m c 3 t)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outO (doneAt m c t)
    | ⟨5, _⟩ => outA (doneAt m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outO (doneAt m c t) := by dsimp only [dats]
theorem after_5 (c : Dev nD) (t : Fin cfg0.N) : (dats m 0 c).after 5 t = outA (doneAt m c t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
abbrev ms_0 (t : Fin cfg0.N) : Memref sig .tc .vmem S128x512 .bf16 := win0_0.stage (cfg0.slots t 0)
abbrev ms_1 (t : Fin cfg0.N) : Memref sig .tc .vmem S16384x128 .bf16 := win0_1.stage (cfg0.slots t 1)
abbrev ms_2 (t : Fin cfg0.N) : Memref sig .tc .vmem S16384x128 .bf16 := win0_2.stage (cfg0.slots t 2)
abbrev ms_3 (t : Fin cfg0.N) : Memref sig .tc .vmem S128x16384 .bf16 := win0_3.stage (cfg0.slots t 3)
abbrev ms_4 (t : Fin cfg0.N) : Memref sig .tc .vmem S512x128 .f32 := win0_4.stage (cfg0.slots t 4)
abbrev ms_5 (t : Fin cfg0.N) : Memref sig .tc .vmem S1x8x512 .f32 := win0_5.stage (cfg0.slots t 5)
abbrev sc_0 : Memref sig .tc .vmem S2x1x512 .f32 := Memref.whole cc0_scratch0
abbrev sc_1 : Memref sig .tc .vmem S2x1x512 .f32 := Memref.whole cc0_scratch1
abbrev sc_2 : Memref sig .tc .vmem S2x128x512 .f32 := Memref.whole cc0_scratch2

theorem PhiA_eq (c : Dev nD) :
    (Pipeline.ΦA spec0 c : sProp 𝕄)
      = iprop(iprop((∃ d, owns (c : Thread nD τ) sc_0 fullShare d) ∗ (∃ d, owns (c : Thread nD τ) sc_1 fullShare d) ∗ (∃ d, owns (c : Thread nD τ) sc_2 fullShare d)) ∗ (∃ r, prngReg c r)) := by
  unfold Pipeline.ΦA; rw [scopedRest0_eq]; simp only [sc_0, sc_1, sc_2, owns_whole]; try rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.castSucc = Pipeline.ΦA spec0 c from rfl, show (dats m 0 c).owesAt () t.succ = (dats m 0 c).owesAt () t.castSucc from rfl,
    show (dats m 0 c).Φ t.succ = Pipeline.ΦA spec0 c from rfl, PhiA_eq, after_0, after_1, after_2, after_3, after_4, after_5]
  simp only [before_0 m c t, before_1 m c t, before_2 m c t, before_3 m c t]
  iintro ⟨⟨⟨⟨%z0, Z0⟩, ⟨%z1, Z1⟩, ⟨%z2, Z2⟩⟩, Hg⟩, Ho, ⟨%d0, H0⟩, ⟨%d1, H1⟩, ⟨%d2, H2⟩, ⟨%d3, H3⟩, ⟨%d4, H4⟩, ⟨%d5, H5⟩⟩
  iapply (body_spec t (ms_0 t) (hstage0_0 ((cfg0.slots t 0).cast nbuf0_0)) (ms_1 t) (hstage0_1 ((cfg0.slots t 1).cast nbuf0_1)) (ms_2 t) (hstage0_2 ((cfg0.slots t 2).cast nbuf0_2)) (ms_3 t) (hstage0_3 ((cfg0.slots t 3).cast nbuf0_3)) (ms_4 t) (hstage0_4 ((cfg0.slots t 4).cast nbuf0_4)) (ms_5 t) (hstage0_5 ((cfg0.slots t 5).cast nbuf0_5))
    sc_0 (Memref.isWhole_whole _) sc_1 (Memref.isWhole_whole _) sc_2 (Memref.isWhole_whole _)
    (iblk m c 0 t) (iblk m c 1 t) (iblk m c 2 t) (iblk m c 3 t) _ _ z0 z1 z2 c _) $$ [H0 H1 H2 H3 H4 H5 Z0 Z1 Z2]
  · isplitl [H0]; · iexact H0
    isplitl [H1]; · iexact H1
    isplitl [H2]; · iexact H2
    isplitl [H3]; · iexact H3
    isplitl [H4]; · iexact H4
    isplitl [H5]; · iexact H5
    isplitl [Z0]; · iexact Z0
    isplitl [Z1]; · iexact Z1
    iexact Z2
  iintro ⟨H0, H1, H2, H3, H4, H5, Z0, Z1, Z2⟩
  isplitl [Z0 Z1 Z2 Hg]
  · isplitl [Z0 Z1 Z2]
    · isplitl [Z0]; · iexists _; iexact Z0
      isplitl [Z1]; · iexists _; iexact Z1
      iexists _; iexact Z2
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.FwdIdeal.Body
-- ==== Proof.Fwd.Run.lean ====
/-
  The attention forward kernel as it is written: the same program as its ideal reading, a named constant standing for
  the pattern that it was printed with. So what is proved of the reading over every float type is true of it.
-/
module

public import proofs.«01_k».proof.Proof.FwdIdeal.Run
public import proofs.«01_k».proof.Proof.Gen.Fwd

@[expose] public section

set_option maxRecDepth 65536
set_option maxHeartbeats 4000000

noncomputable section

namespace Cert.Fwd.Body

open Cert.Fwd Cert.Fwd.Gen Cert.FwdIdeal.Gen
open Idealize.ShloMosaic Idealize.ShloMosaic.TcCoe
open Idealize.SL.Sem

variable {F : FTy → Type} [FloatOps F]

/-- A named constant read as the pattern that it was printed with. -/
@[instance_reducible] def literal : Named F := ⟨fun _ _ {_} w => Scalar.ofBits _ w⟩

/-- The launch, its body, and @main are the reading's, every definition of the one unfolding as that of the other. -/
theorem pcfgs_eq : pcfgs (F := F) = (letI := literal (F := F); Cert.FwdIdeal.pcfgs (F := F)) := rfl

theorem defs₀_eq : defs₀ (F := F) = (letI := literal (F := F); Cert.FwdIdeal.defs₀ (F := F)) :=
  congrArg Defs.onTc (funext fun l => funext fun a => match l, a with
    | 0, (t, s) => rfl
    | ⟨_ + 1, h⟩, _ => absurd h (Nat.not_lt.2 (Nat.le_add_left _ _)))

theorem main_eq : main (F := F) = (letI := literal (F := F); Cert.FwdIdeal.main (F := F)) := rfl

theorem defs_eq : defs (F := F) = (letI := literal (F := F); Cert.FwdIdeal.defs (F := F)) :=
  congrArg (Pipeline.defs pcfgs) defs₀_eq

/-- The arguments end unchanged, and every counter at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  by
  rw [main_eq, defs_eq]
  letI := literal (F := F)
  exact Cert.FwdIdeal.Body.frame (F := F) m ρ

end Cert.Fwd.Body

end
-- ==== Proof.FwdIdeal.Heads.lean ====
/- One head meeting one block of keys, read at one query: the maximum, the weights' sum and the values' sum before and
   after. -/
module
public import proofs.«01_k».proof.Proof.FwdIdeal.Run
public import proofs.«01_k».proof.Proof.Attend.Spec
public import proofs.«01_k».proof.Proof.Words
public import proofs.«01_k».proof.Proof.Win
public import Idealize.ShloMosaic.Lib.Pipeline.ValueKit
public import Idealize.ShloMosaic.Lib.Pointwise
@[expose] public section
set_option maxRecDepth 16384

noncomputable section

namespace Cert.FwdIdeal.Sem

open Cert.FwdIdeal Cert.FwdIdeal.Gen Cert.FwdIdeal.Body Idealize.ShloMosaic Idealize.ShloMosaic.TcCoe Idealize.SL.Sem
open Cert.Step Cert.Attend Cert.Win

/-- The greater of a number and a column's greatest. -/
def peak (z : Fin 512 → EReal) (μ : EReal) : EReal := max μ (Finset.univ.fold max (⊥ : EReal) z)

/-- What a block of scores `z` and of values `w` does to a head's running quantities at a query. -/
structure Met (z : Fin 512 → EReal) (w : Fin 128 → Fin 512 → EReal) (σ σ' : St Ideal) (h : Fin 2) (x : Fin 512) : Prop where
  m : σ'.m (ix3 h 0 x) = peak z (σ.m (ix3 h 0 x))
  l : σ'.l (ix3 h 0 x) = Ideal.exp2 (σ.m (ix3 h 0 x) - peak z (σ.m (ix3 h 0 x))) * σ.l (ix3 h 0 x)
    + ∑ s, Ideal.exp2 (z s - peak z (σ.m (ix3 h 0 x)))
  a : ∀ d, σ'.a (ix3 h d x) = Ideal.exp2 (σ.m (ix3 h 0 x) - peak z (σ.m (ix3 h 0 x))) * σ.a (ix3 h d x)
    + ∑ s, w d s * Ideal.exp2 (z s - peak z (σ.m (ix3 h 0 x)))

theorem Met.from {z : Fin 512 → EReal} {w : Fin 128 → Fin 512 → EReal} {σ σ' σ0 : St Ideal} {h : Fin 2} {x : Fin 512} (A : Met z w σ σ' h x)
    (em : σ.m (ix3 h 0 x) = σ0.m (ix3 h 0 x)) (el : σ.l (ix3 h 0 x) = σ0.l (ix3 h 0 x)) (ea : ∀ d, σ.a (ix3 h d x) = σ0.a (ix3 h d x)) :
    Met z w σ0 σ' h x :=
  ⟨by rw [← em]; exact A.m, by rw [← em, ← el]; exact A.l, fun d => by rw [← em, ← ea]; exact A.a d⟩

section
variable (z : FVec Ideal S512x512 .f32) (mo l : Vec Ideal S1x1x512 .f32) (v : Vec Ideal S128x512 .bf16) (a : Vec Ideal S1x128x512 .f32) (x : Fin 512)

theorem top_at : top z mo (ix2 0 x) = peak (fun s => z (ix2 s x)) (mo (ix3 0 0 x)) := by
  pointwise [top]
  rfl

theorem newM_at : newM z mo (ix3 0 0 x) = peak (fun s => z (ix2 s x)) (mo (ix3 0 0 x)) := by
  rw [← top_at]
  pointwise [newM]

theorem wts_at (s : Fin 512) : wts z mo (ix2 s x) = Ideal.exp2 (z (ix2 s x) - peak (fun s => z (ix2 s x)) (mo (ix3 0 0 x))) := by
  rw [← top_at]
  pointwise [wts]
  rfl

theorem fade_at : fade z mo (ix2 0 x) = Ideal.exp2 (mo (ix3 0 0 x) - peak (fun s => z (ix2 s x)) (mo (ix3 0 0 x))) := by
  rw [← top_at]
  pointwise [fade]
  rfl

theorem newL_at : newL z mo l (ix3 0 0 x) = Ideal.exp2 (mo (ix3 0 0 x) - peak (fun s => z (ix2 s x)) (mo (ix3 0 0 x))) * l (ix3 0 0 x)
    + ∑ s, Ideal.exp2 (z (ix2 s x) - peak (fun s => z (ix2 s x)) (mo (ix3 0 0 x))) := by
  rw [← fade_at]
  simp only [← wts_at]
  pointwise [newL]

theorem newA_at (d : Fin 128) : newA z mo v a (ix3 0 d x) = Ideal.exp2 (mo (ix3 0 0 x) - peak (fun s => z (ix2 s x)) (mo (ix3 0 0 x))) * a (ix3 0 d x)
    + ∑ s, v (ix2 d s) * Ideal.exp2 (z (ix2 s x) - peak (fun s => z (ix2 s x)) (mo (ix3 0 0 x))) := by
  rw [← fade_at]
  simp only [← wts_at]
  pointwise [newA]
end

section
variable (h g : Fin 2) (i1 : ∀ a, (![h.val, 0, 0] : Fin 3 → ℕ) a + S1x1x512.size a ≤ S2x1x512.size a)
  (i2 : ∀ a, (![h.val, 0, 0] : Fin 3 → ℕ) a + S1x128x512.size a ≤ S2x128x512.size a)
  (z : FVec Ideal S512x512 .f32) (v : Vec Ideal S128x512 .bf16) (σ : St Ideal) (x : Fin 512)

/-- The head that meets the block. -/
theorem step_same : Met (fun s => z (ix2 s x)) (fun d s => v (ix2 d s)) σ (step i1 i2 z v σ) h x := by
  have em : VecWindow.window σ.m ![h.val, 0, 0] S1x1x512.size i1 (ix3 0 0 x) = σ.m (ix3 h 0 x) := window3 _ _ _ _ _ _ _ _ _ _ _ rfl rfl (by simp)
  have el : VecWindow.window σ.l ![h.val, 0, 0] S1x1x512.size i1 (ix3 0 0 x) = σ.l (ix3 h 0 x) := window3 _ _ _ _ _ _ _ _ _ _ _ rfl rfl (by simp)
  have ea : ∀ d, VecWindow.window σ.a ![h.val, 0, 0] S1x128x512.size i2 (ix3 0 d x) = σ.a (ix3 h d x) := fun d => window3 _ _ _ _ _ _ _ _ _ _ _ rfl (by simp) (by simp)
  refine ⟨?_, ?_, fun d => ?_⟩
  · refine (put3_in σ.m _ _ _ _ _ _ _ 0 0 x rfl rfl (by simp)).trans ?_
    rw [newM_at, em]
  · refine (put3_in σ.l _ _ _ _ _ _ _ 0 0 x rfl rfl (by simp)).trans ?_
    rw [newL_at, em, el]
  · refine (put3_in σ.a _ _ _ _ _ _ _ 0 d x rfl (by simp) (by simp)).trans ?_
    rw [newA_at, em, ea]

/-- The other. -/
theorem step_other (hg : g ≠ h) : (step i1 i2 z v σ).m (ix3 g 0 x) = σ.m (ix3 g 0 x) ∧ (step i1 i2 z v σ).l (ix3 g 0 x) = σ.l (ix3 g 0 x)
    ∧ ∀ d, (step i1 i2 z v σ).a (ix3 g d x) = σ.a (ix3 g d x) := by
  have hn : ¬ (h.val ≤ g.val ∧ g.val < h.val + 1) := fun e => hg (Fin.ext (by omega))
  exact ⟨put3_out _ _ _ _ _ _ _ _ fun e => hn e.1, put3_out _ _ _ _ _ _ _ _ fun e => hn e.1, fun d => put3_out _ _ _ _ _ _ _ _ fun e => hn e.1⟩
end

/-- A block's keys or values, of the whole array's. -/
def keys (x3 x4 : Vec Ideal S16384x128 .bf16) (B : Blk) (h : Fin 2) : Vec Ideal S512x128 .bf16 :=
  VecWindow.window (![x3, x4] h) B.oK S512x128.size B.iK
def vals (x5 : Vec Ideal S128x16384 .bf16) (B : Blk) : Vec Ideal S128x512 .bf16 := VecWindow.window x5 B.oV S128x512.size B.iV

theorem taken_at (q0 q1 : FVec Ideal S128x512 .bf16) (x3 x4 : Vec Ideal S16384x128 .bf16) (x5 : Vec Ideal S128x16384 .bf16) (σ : St Ideal)
    (d : Bool) (B : Blk) (h : Fin 2) (x : Fin 512) :
    Met (fun s => own d (score (keys x3 x4 B h) (![q0, q1] h)) (ix2 s x)) (fun e s => vals x5 B (ix2 e s)) σ (taken q0 q1 x3 x4 x5 σ (d, B)) h x := by
  fin_cases h
  · have A := step_same 0 inb_S2x1x512_S1x1x512_0_0_0 inb_S2x128x512_S1x128x512_0_0_0 (own d (score (keys x3 x4 B 0) q0)) (vals x5 B) σ x
    obtain ⟨e1, e2, e3⟩ := step_other 1 0 inb_S2x1x512_S1x1x512_1_0_0 inb_S2x128x512_S1x128x512_1_0_0 (own d (score (keys x3 x4 B 1) q1)) (vals x5 B)
      (step (o := ![0, 0, 0]) inb_S2x1x512_S1x1x512_0_0_0 inb_S2x128x512_S1x128x512_0_0_0 (own d (score (keys x3 x4 B 0) q0)) (vals x5 B) σ) x (by decide)
    exact ⟨e1.trans A.m, e2.trans A.l, fun e => (e3 e).trans (A.a e)⟩
  · have A := step_same 1 inb_S2x1x512_S1x1x512_1_0_0 inb_S2x128x512_S1x128x512_1_0_0 (own d (score (keys x3 x4 B 1) q1)) (vals x5 B)
      (step (o := ![0, 0, 0]) inb_S2x1x512_S1x1x512_0_0_0 inb_S2x128x512_S1x128x512_0_0_0 (own d (score (keys x3 x4 B 0) q0)) (vals x5 B) σ) x
    obtain ⟨e1, e2, e3⟩ := step_other 0 1 inb_S2x1x512_S1x1x512_0_0_0 inb_S2x128x512_S1x128x512_0_0_0 (own d (score (keys x3 x4 B 0) q0)) (vals x5 B) σ x (by decide)
    exact A.from e1 e2 e3

end Cert.FwdIdeal.Sem
end
-- ==== Proof.FwdIdeal.Kern.lean ====
/- What the kernel is given: the values the host works out before the call. -/
module
public import proofs.«01_k».proof.Proof.FwdIdeal.Heads
public import Idealize.ShloMosaic.Lib.WritesUnit
public import Idealize.ShloMosaic.Lib.Pipeline.ReadBack
@[expose] public section
set_option maxRecDepth 16384

noncomputable section

namespace Cert.FwdIdeal.Sem

open Cert.FwdIdeal Cert.FwdIdeal.Gen Cert.FwdIdeal.Body Idealize.ShloMosaic Idealize.ShloMosaic.TcCoe Idealize.SL.Sem
open Cert.Step Cert.Attend Cert.Win

variable (m : (ℓ : Loc nD τ sig) → Buf (Elt Ideal) ℓ) (dev : Dev nD)

abbrev X0 : FVec Ideal S16384x512 .f32 := m ((dev : Thread nD τ).loc main_arg0)
abbrev X1 : FVec Ideal S16384x512 .f32 := m ((dev : Thread nD τ).loc main_arg1)
abbrev X2 : FVec Ideal S16384x512 .f32 := m ((dev : Thread nD τ).loc main_arg2)
abbrev X3 : FVec Ideal S16384x8 .f32 := m ((dev : Thread nD τ).loc main_arg3)
abbrev A0 : FVec Ideal S_ .f32 := V m dev main_v0
abbrev A9 : FVec Ideal S16384x1536 .bf16 := V m dev main_v9
abbrev A10 : FVec Ideal S1536x16384 .bf16 := V m dev main_v10
abbrev A14 : FVec Ideal S16384x8 .bf16 := V m dev main_v14
abbrev A17 : FVec Ideal S16384x8 .bf16 := V m dev main_v17
abbrev A20 : FVec Ideal S16384x8 .bf16 := V m dev main_v20
abbrev A46 : FVec Ideal S16384x1024 .bf16 := V m dev main_v46

/-- The lane a head's bias begins at. -/
def laneOf : IVec S16384x4x2x128 32 :=
  muli (subi (broadcastInDim S16384x4x2x128 ![] bcast_S_S16384x4x2x128 (constantI S_ 32 1#32)) (iotaInDim S16384x4x2x128 32 2))
    (broadcastInDim S16384x4x2x128 ![] bcast_S_S16384x4x2x128 (constantI S_ 32 64#32))

/-- A part of the bias put into its lane of the keys. -/
def into (n : BitVec 32) (p : FVec Ideal S16384x8 .bf16) (x : FVec Ideal S16384x4x2x128 .bf16) : FVec Ideal S16384x4x2x128 .bf16 :=
  select (cmpi .eq (iotaInDim S16384x4x2x128 32 3) (addi laneOf (broadcastInDim S16384x4x2x128 ![] bcast_S_S16384x4x2x128 (constantI S_ 32 n))))
    (broadcastInDim S16384x4x2x128 ![0, 1, 2, 3] bcast_S16384x4x2x1_S16384x4x2x128_0_1_2_3 (shapeCast S16384x4x2x1 p shapeCasts_S16384x8_S16384x4x2x1)) x

/-- The keys of each pair of heads, once for each of the two. -/
def twice (x : FVec Ideal S16384x1536 .bf16) : FVec Ideal S16384x4x2x128 .bf16 :=
  broadcastInDim S16384x4x2x128 ![0, 1, 2, 3] bcast_S16384x4x1x128_S16384x4x2x128_0_1_2_3
    (shapeCast S16384x4x1x128 (extractStridedSlice S16384x512 ![0, 512] x slices_S16384x1536_S16384x512_0_512) shapeCasts_S16384x512_S16384x4x1x128)

/-- What a part leaves of a number. -/
def rest (x : FVec Ideal S16384x8 .f32) (p : FVec Ideal S16384x8 .bf16) : FVec Ideal S16384x8 .f32 := subf x (extf .f32 p bitsLt_bf16_f32)
/-- The bias over the logarithm of two. -/
def bias (x : FVec Ideal S16384x8 .f32) (l : FVec Ideal S_ .f32) : FVec Ideal S16384x8 .f32 := Host.divf x (broadcastInDim S16384x8 ![] bcast_S_S16384x8 l)
/-- A number's first part. -/
def part (x : FVec Ideal S16384x8 .f32) : FVec Ideal S16384x8 .bf16 := truncf .bf16 x bitsLt_bf16_f32

set_option maxHeartbeats 4000000 in
theorem A0_eq : A0 m dev = Host.log (constant S_ .f32 0x40000000#32) := by
  simp only [A0, A9, A10, A14, A17, A20, A46]
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  entry_read
  try simp -implicitDefEqProofs only [StableHlo.TRef.toBuf, StableHlo.TRef.ofBuf, cast_cast, cast_eq]
  all_goals rfl

set_option maxHeartbeats 4000000 in
theorem A9_eq : A9 m dev = truncf .bf16 (addf (addf (pad S16384x1536 ![0, 0] ![0, 1024] ![0, 0] (mulf (X0 m dev) (broadcastInDim S16384x512 ![] bcast_S_S16384x512 (Host.divf (constant S_ .f32 0x3E000000#32) (A0 m dev)))) (sitofp .f32 (constantI S_ 32 0#32)) pads_S16384x512_S16384x1536_000_010240 h_S_)
    (pad S16384x1536 ![0, 512] ![0, 512] ![0, 0] (X1 m dev) (sitofp .f32 (constantI S_ 32 0#32)) pads_S16384x512_S16384x1536_000_5125120 h_S_))
    (pad S16384x1536 ![0, 1024] ![0, 0] ![0, 0] (X2 m dev) (sitofp .f32 (constantI S_ 32 0#32)) pads_S16384x512_S16384x1536_000_102400 h_S_)) bitsLt_bf16_f32 := by
  simp only [A0, A9, A10, A14, A17, A20, A46]
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  entry_read
  try simp -implicitDefEqProofs only [StableHlo.TRef.toBuf, StableHlo.TRef.ofBuf, cast_cast, cast_eq]
  all_goals rfl

set_option maxHeartbeats 4000000 in
theorem A10_eq : A10 m dev = transpose S1536x16384 [1, 0] (A9 m dev) transposes_S16384x1536_S1536x16384_1_0 := by
  simp only [A0, A9, A10, A14, A17, A20, A46]
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  entry_read
  try simp -implicitDefEqProofs only [StableHlo.TRef.toBuf, StableHlo.TRef.ofBuf, cast_cast, cast_eq]
  all_goals rfl

set_option maxHeartbeats 4000000 in
theorem A14_eq : A14 m dev = part (bias (X3 m dev) (A0 m dev)) := by
  simp only [A0, A9, A10, A14, A17, A20, A46]
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  entry_read
  try simp -implicitDefEqProofs only [StableHlo.TRef.toBuf, StableHlo.TRef.ofBuf, cast_cast, cast_eq]
  all_goals rfl

set_option maxHeartbeats 4000000 in
theorem A17_eq : A17 m dev = part (rest (bias (X3 m dev) (A0 m dev)) (A14 m dev)) := by
  simp only [A0, A9, A10, A14, A17, A20, A46]
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  entry_read
  try simp -implicitDefEqProofs only [StableHlo.TRef.toBuf, StableHlo.TRef.ofBuf, cast_cast, cast_eq]
  all_goals rfl

set_option maxHeartbeats 4000000 in
theorem A20_eq : A20 m dev = part (rest (rest (bias (X3 m dev) (A0 m dev)) (A14 m dev)) (A17 m dev)) := by
  simp only [A0, A9, A10, A14, A17, A20, A46]
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  entry_read
  try simp -implicitDefEqProofs only [StableHlo.TRef.toBuf, StableHlo.TRef.ofBuf, cast_cast, cast_eq]
  all_goals rfl

set_option maxHeartbeats 4000000 in
theorem A46_eq : A46 m dev = shapeCast S16384x1024 (into 2#32 (A20 m dev) (into 1#32 (A17 m dev) (into 0#32 (A14 m dev) (twice (A9 m dev))))) shapeCasts_S16384x4x2x128_S16384x1024 := by
  simp only [A0, A9, A10, A14, A17, A20, A46]
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  entry_read
  try simp -implicitDefEqProofs only [StableHlo.TRef.toBuf, StableHlo.TRef.ofBuf, cast_cast, cast_eq]
  all_goals rfl

end Cert.FwdIdeal.Sem
end
-- ==== Proof.FwdIdeal.Given.lean ====
/- The kernel's operands at reals, and the scores it works out of them. -/
module
public import proofs.«01_k».proof.Proof.FwdIdeal.Kern
@[expose] public section
set_option maxRecDepth 16384

noncomputable section

namespace Cert.FwdIdeal.Sem

open Cert.FwdIdeal Cert.FwdIdeal.Gen Cert.FwdIdeal.Body Idealize.ShloMosaic Idealize.ShloMosaic.TcCoe Idealize.SL.Sem
open Cert.Step Cert.Attend Cert.Win

variable (m : (ℓ : Loc nD τ sig) → Buf (Elt Ideal) ℓ) (dev : Dev nD)
variable (q k : Fin 16384 → Fin 512 → ℝ) (c : Fin 16384 → Fin 8 → ℝ)

/-- The queries, the keys and the bias are these reals; the values may be anything. -/
structure Reals : Prop where
  q : ∀ t i, X0 m dev (ix2 t i) = ((q t i : ℝ) : EReal)
  k : ∀ t i, X1 m dev (ix2 t i) = ((k t i : ℝ) : EReal)
  c : ∀ t i, X3 m dev (ix2 t i) = ((c t i : ℝ) : EReal)

theorem ln_at : A0 m dev ix0 = ((Real.log 2 : ℝ) : EReal) := by
  rw [A0_eq]
  show Ideal.log (Ideal.ofBits .f32 0x40000000#32) = _
  rw [two_f32, Ideal.log_coe, if_neg (by norm_num)]

theorem no_int : FloatOps.sitofp (F := Ideal) .f32 (0#32) = (0 : EReal) := by
  show ((((0#32 : BitVec 32).toInt : ℝ)) : EReal) = 0
  simp

/-- Queries, keys and values beside each other, each zero in the others' columns. -/
theorem row_at (t : Fin 16384) (l : Fin 1536) :
    A9 m dev (ix2 t l)
      = ((if h : l.val < 512 then X0 m dev (ix2 t ⟨l.val, h⟩) * ((1 / 8 / Real.log 2 : ℝ) : EReal) else 0)
        + (if h : 512 ≤ l.val ∧ l.val - 512 < 512 then X1 m dev (ix2 t ⟨l.val - 512, h.2⟩) else 0))
        + (if h : 1024 ≤ l.val ∧ l.val - 1024 < 512 then X2 m dev (ix2 t ⟨l.val - 1024, h.2⟩) else 0) := by
  rw [A9_eq]
  pointwise [no_int]
  rw [ln_at, eighth, div_real _ _ ln_ne]

theorem v_at (t : Fin 16384) (i : Fin 512) : A9 m dev (ix2 t ⟨1024 + i.val, by omega⟩) = X2 m dev (ix2 t i) := by
  have h := i.isLt
  rw [row_at, dif_neg (by dsimp only; omega), dif_neg (by dsimp only; omega), dif_pos (by dsimp only; omega), add_zero, zero_add]
  exact congrArg (fun l => X2 m dev (ix2 t l)) (Fin.ext (by dsimp only; omega))

theorem tr_at (i : Fin 1536) (x : Fin 16384) : A10 m dev (ix2 i x) = A9 m dev (ix2 x i) := by
  rw [A10_eq]
  pointwise []

theorem lane_is (n : Fin 3) (h : Fin 2) (l : Fin 128) :
    IntOp.cmpi .eq (BitVec.ofNat 32 l.val) (IntOp.addi (IntOp.muli (IntOp.subi 1#32 (BitVec.ofNat 32 h.val)) 64#32) (BitVec.ofNat 32 n.val))
      = if l.val = 64 * (1 - h.val) + n.val then 1#1 else 0#1 := by
  revert n h l; decide +kernel

theorem into_at (n : Fin 3) (p : FVec Ideal S16384x8 .bf16) (x : FVec Ideal S16384x4x2x128 .bf16) (s : Fin 16384) (j : Fin 4) (h : Fin 2) (l : Fin 128) :
    into (BitVec.ofNat 32 n.val) p x (ix4 s j h l) = if l.val = 64 * (1 - h.val) + n.val then p (ix2 s (ph j h)) else x (ix4 s j h l) := by
  pointwise [into, laneOf]
  rw [lane_is]
  split_ifs
  · exact congrArg (fun H => p (ix2 s H)) (Fin.ext (show j.val * 2 + h.val = 2 * j.val + h.val by omega))
  · rfl

theorem twice_at (x : FVec Ideal S16384x1536 .bf16) (s : Fin 16384) (j : Fin 4) (h : Fin 2) (l : Fin 128) :
    twice x (ix4 s j h l) = x (ix2 s ⟨512 + (dcol j l).val, by omega⟩) := by
  pointwise [twice]
  rfl

variable {m dev q k c} (R : Reals m dev q k c)
include R

theorem q_at (t : Fin 16384) (i : Fin 512) : A9 m dev (ix2 t ⟨i.val, by omega⟩) = ((q t i * (1 / 8 / Real.log 2) : ℝ) : EReal) := by
  have h := i.isLt
  rw [row_at, dif_pos (show i.val < 512 by omega), dif_neg (by dsimp only; omega), dif_neg (by dsimp only; omega), add_zero, add_zero, R.q, ← EReal.coe_mul]

theorem k_at (t : Fin 16384) (i : Fin 512) : A9 m dev (ix2 t ⟨512 + i.val, by omega⟩) = ((k t i : ℝ) : EReal) := by
  have h := i.isLt
  rw [row_at, dif_neg (by dsimp only; omega), dif_pos (by dsimp only; omega), dif_neg (by dsimp only; omega), add_zero, zero_add, ← R.k]
  exact congrArg (fun l => X1 m dev (ix2 t l)) (Fin.ext (by dsimp only; omega))

theorem bias_at (s : Fin 16384) (H : Fin 8) : bias (X3 m dev) (A0 m dev) (ix2 s H) = ((c s H / Real.log 2 : ℝ) : EReal) := by
  pointwise [bias]
  rw [ln_at, R.c, div_real _ _ ln_ne]

theorem p0_at (s : Fin 16384) (H : Fin 8) : A14 m dev (ix2 s H) = ((c s H / Real.log 2 : ℝ) : EReal) := by
  rw [A14_eq, ← bias_at R]
  pointwise [part]

theorem p1_at (s : Fin 16384) (H : Fin 8) : A17 m dev (ix2 s H) = 0 := by
  rw [A17_eq]
  pointwise [part, rest]
  rw [bias_at R, p0_at R, ← EReal.coe_sub, sub_self, EReal.coe_zero]

theorem p2_at (s : Fin 16384) (H : Fin 8) : A20 m dev (ix2 s H) = 0 := by
  rw [A20_eq]
  pointwise [part, rest]
  rw [bias_at R, p0_at R, p1_at R, ← EReal.coe_sub, sub_self, EReal.coe_zero, sub_zero]

omit R in
/-- A head's keys with its bias in the first of three lanes of the other head. -/
def lane (k : Fin 16384 → Fin 512 → ℝ) (c : Fin 16384 → Fin 8 → ℝ) (j : Fin 4) (h : Fin 2) (s : Fin 16384) (l : Fin 128) : ℝ :=
  if l.val = 64 * (1 - h.val) + 2 then 0 else if l.val = 64 * (1 - h.val) + 1 then 0
  else if l.val = 64 * (1 - h.val) then c s (ph j h) / Real.log 2 else k s (dcol j l)

theorem lane_at (j : Fin 4) (h : Fin 2) (s : Fin 16384) (l : Fin 128) (hl : 256 * j.val + 128 * h.val + l.val < 1024) :
    A46 m dev (ix2 s ⟨256 * j.val + 128 * h.val + l.val, hl⟩) = ((lane k c j h s l : ℝ) : EReal) := by
  have e : A46 m dev (ix2 s ⟨256 * j.val + 128 * h.val + l.val, hl⟩)
      = into 2#32 (A20 m dev) (into 1#32 (A17 m dev) (into 0#32 (A14 m dev) (twice (A9 m dev)))) (ix4 s j h l) := by
    rw [A46_eq]
    generalize into 2#32 (A20 m dev) (into 1#32 (A17 m dev) (into 0#32 (A14 m dev) (twice (A9 m dev)))) = y
    pointwise []
  rw [e]
  refine (into_at 2 _ _ s j h l).trans ?_
  rw [show (into 1#32 (A17 m dev) (into 0#32 (A14 m dev) (twice (A9 m dev)))) (ix4 s j h l) = _ from into_at 1 _ _ s j h l,
    show (into 0#32 (A14 m dev) (twice (A9 m dev))) (ix4 s j h l) = _ from into_at 0 _ _ s j h l, twice_at, p0_at R, p1_at R, p2_at R]
  rw [show A9 m dev (ix2 s ⟨512 + (dcol j l).val, by omega⟩) = _ from k_at R s (dcol j l)]
  unfold lane
  show (if l.val = 64 * (1 - h.val) + 2 then (0 : EReal) else if l.val = 64 * (1 - h.val) + 1 then 0 else if l.val = 64 * (1 - h.val) then _ else _) = _
  split_ifs <;> first | rfl | exact EReal.coe_zero.symm

end Cert.FwdIdeal.Sem
end
-- ==== Proof.FwdIdeal.Score.lean ====
/- The scores a block of queries has on a block of keys, over the reals. -/
module
public import proofs.«01_k».proof.Proof.FwdIdeal.Given
@[expose] public section
set_option maxRecDepth 16384

noncomputable section

namespace Cert.FwdIdeal.Sem

open Cert.FwdIdeal Cert.FwdIdeal.Gen Cert.FwdIdeal.Body Idealize.ShloMosaic Idealize.ShloMosaic.TcCoe Idealize.SL.Sem
open Cert.Step Cert.Attend Cert.Win

variable (m : (ℓ : Loc nD τ sig) → Buf (Elt Ideal) ℓ) (dev : Dev nD)
variable {q k : Fin 16384 → Fin 512 → ℝ} {c : Fin 16384 → Fin 8 → ℝ}

/-- The pair of heads and the block of queries of a point. -/
def pj (t : Fin cfg0.N) : Fin 4 := ⟨t.val / 32, by have := lt_of_lt_of_eq t.isLt (show cfg0.N = 128 from N_0); omega⟩
def pi (t : Fin cfg0.N) : Fin 32 := ⟨t.val % 32, by omega⟩
/-- A block of keys, by its number. -/
def kb (n : ℕ) : Fin 32 := ⟨n % 32, by omega⟩

theorem idx : ∀ t : Fin cfg0.N, win0_0.index t = ![t.val / 32, t.val % 32] ∧ win0_1.index t = ![0, 2 * (t.val / 32)] ∧ win0_2.index t = ![0, 2 * (t.val / 32) + 1]
    ∧ win0_3.index t = ![8 + t.val / 32, 0] ∧ win0_4.index t = ![t.val % 32, t.val / 32] ∧ win0_5.index t = ![t.val / 32, 0, t.val % 32] :=
  (by decide +kernel : ∀ t : Fin grid0.N, _)

variable (t : Fin cfg0.N)

theorem b0_at (d : Fin 128) (x : Fin 512) : iblk m dev 0 t (ix2 d x) = A10 m dev (ix2 ⟨(dcol (pj t) d).val, by omega⟩ (key (pi t) x)) := by
  unfold dcol pj key pi
  blk_point [iblk, idx t]
theorem b1_at (s : Fin 16384) (d : Fin 128) : iblk m dev 1 t (ix2 s d) = A46 m dev (ix2 s ⟨256 * (pj t).val + 128 * (0 : Fin 2).val + d.val, by have := (pj t).isLt; simp; omega⟩) := by
  unfold pj
  blk_point [iblk, idx t]
theorem b2_at (s : Fin 16384) (d : Fin 128) : iblk m dev 2 t (ix2 s d) = A46 m dev (ix2 s ⟨256 * (pj t).val + 128 * (1 : Fin 2).val + d.val, by have := (pj t).isLt; simp; omega⟩) := by
  unfold pj
  blk_point [iblk, idx t]
theorem b3_at (d : Fin 128) (s : Fin 16384) : iblk m dev 3 t (ix2 d s) = A10 m dev (ix2 ⟨1024 + (dcol (pj t) d).val, by omega⟩ s) := by
  unfold dcol pj
  blk_point [iblk, idx t]

section
variable (x3 x4 : Vec Ideal S16384x128 .bf16) (x5 : Vec Ideal S128x16384 .bf16) (n : ℕ) (h : Fin 2)

theorem keys_at (s : Fin 512) (d : Fin 128) : keys x3 x4 (at_ n) h (ix2 s d) = (![x3, x4] h) (ix2 (key (kb n) s) d) :=
  window2 _ _ _ _ _ _ _ _ (by show n % 32 * 512 + s.val = 512 * (n % 32) + s.val; omega) (by simp)
theorem vals_at (d : Fin 128) (s : Fin 512) : vals x5 (at_ n) (ix2 d s) = x5 (ix2 d (key (kb n) s)) :=
  window2 _ _ _ _ _ _ _ _ (by simp) (by show n % 32 * 512 + s.val = 512 * (n % 32) + s.val; omega)
end

theorem score_at (a : Vec Ideal S512x128 .bf16) (b : FVec Ideal S128x512 .bf16) (s x : Fin 512) :
    score a b (ix2 s x) = ∑ d : Fin 128, a (ix2 s d) * b (ix2 d x) := by
  pointwise [score]

theorem minus_one : Ideal.ofBits .f32 0xBF800000#32 = ((-1 : ℝ) : EReal) := by
  simp [Ideal.ofBits, Ideal.ieee]
  rw [← EReal.coe_mul, ← EReal.coe_one]
  congr 1
  norm_num

theorem head0_at (a : Vec Ideal S128x512 .bf16) (d : Fin 128) (x : Fin 512) :
    head0 (F := Ideal) a (ix2 d x) = if 64 ≤ d.val ∧ d.val < 67 then ((-1 : ℝ) : EReal) else if d.val < 64 then a (ix2 d x) else 0 := by
  pointwise [head0, band, minus, low, none0]
  rw [sel_and, sel_sge _ _ (by omega) (by omega), sel_slt _ _ (by omega) (by omega), sel_slt _ _ (by omega) (by omega), ← minus_one]
  by_cases h1 : 64 ≤ d.val <;> by_cases h2 : d.val < 67 <;> simp only [h1, h2, if_true, if_false, and_true, and_false, and_self, false_and] <;> rfl

theorem head1_at (a : Vec Ideal S128x512 .bf16) (d : Fin 128) (x : Fin 512) :
    head1 (F := Ideal) a (ix2 d x) = if d.val < 3 then ((-1 : ℝ) : EReal) else if d.val < 64 then 0 else a (ix2 d x) := by
  pointwise [head1, band, minus, low, none0]
  rw [sel_and, sel_sge _ _ (by omega) (by omega), sel_slt _ _ (by omega) (by omega), sel_slt _ _ (by omega) (by omega), ← minus_one, if_pos (Nat.zero_le _)]

/-- A pair's queries as one head takes them: scaled, minus one in the three lanes of the bias, zero in the other head's. -/
def query (q : Fin 16384 → Fin 512 → ℝ) (j : Fin 4) (h : Fin 2) (x : Fin 16384) (d : Fin 128) : ℝ :=
  if 64 * (1 - h.val) ≤ d.val ∧ d.val < 64 * (1 - h.val) + 3 then -1
  else if d.val / 64 = h.val then q x (dcol j d) * (1 / 8 / Real.log 2) else 0

/-- The bias's three lanes take the bias off the product. -/
theorem lanes_dot (j : Fin 4) (h : Fin 2) (s x : Fin 16384) :
    ∑ d : Fin 128, lane k c j h s d * query q j h x d = sc q k c (ph j h) x s / Real.log 2 := by
  have hb : 64 * (1 - h.val) < 128 := by omega
  have e : ∀ d : Fin 128, lane k c j h s d * query q j h x d
      = (if d.val / 64 = h.val then k s (dcol j d) * (q x (dcol j d) * (1 / 8 / Real.log 2)) else 0)
        + (if d = ⟨64 * (1 - h.val), hb⟩ then -(c s (ph j h) / Real.log 2) else 0) := by
    intro d
    have hh := h.isLt
    have hd' := d.isLt
    have i1 : (d = ⟨64 * (1 - h.val), hb⟩) ↔ d.val = 64 * (1 - h.val) := Fin.ext_iff
    unfold lane query
    simp only [i1]
    split_ifs <;> first | omega | ring
  have hs := congrArg EReal.toReal (head_sum h fun d => ((k s (dcol j d) * (q x (dcol j d) * (1 / 8 / Real.log 2)) : ℝ) : EReal))
  have c1 : ∑ d : Fin 128, (if d.val / 64 = h.val then ((k s (dcol j d) * (q x (dcol j d) * (1 / 8 / Real.log 2)) : ℝ) : EReal) else 0)
      = ((∑ d : Fin 128, (if d.val / 64 = h.val then k s (dcol j d) * (q x (dcol j d) * (1 / 8 / Real.log 2)) else 0) : ℝ) : EReal) :=
    sum_eq _ _ fun d => by split_ifs <;> rfl
  rw [c1, coe_sum, EReal.toReal_coe, EReal.toReal_coe] at hs
  rw [Finset.sum_congr rfl fun d _ => e d, Finset.sum_add_distrib, hs, Finset.sum_ite_eq' Finset.univ, if_pos (Finset.mem_univ _)]
  unfold sc
  rw [sub_div, ← sub_eq_add_neg, Finset.sum_div, Finset.sum_div]
  refine congrArg (· - _) (Finset.sum_congr rfl fun e _ => ?_)
  rw [dcol_head]
  ring

variable {m dev} (R : Reals m dev q k c)
include R

theorem q_blk (h : Fin 2) (d : Fin 128) (x : Fin 512) :
    (![head0 (F := Ideal) (iblk m dev 0 t), head1 (F := Ideal) (iblk m dev 0 t)] h) (ix2 d x) = ((query q (pj t) h (key (pi t) x) d : ℝ) : EReal) := by
  have hd' := d.isLt
  have e : iblk m dev 0 t (ix2 d x) = ((q (key (pi t) x) (dcol (pj t) d) * (1 / 8 / Real.log 2) : ℝ) : EReal) := by
    rw [b0_at, tr_at]
    exact q_at R _ _
  unfold query
  fin_cases h
  · refine (head0_at _ d x).trans ?_
    rw [e]
    show (if 64 ≤ d.val ∧ d.val < 67 then _ else if d.val < 64 then _ else _) = (((if 64 ≤ d.val ∧ d.val < 67 then _ else if d.val / 64 = 0 then _ else _) : ℝ) : EReal)
    split_ifs <;> first | omega | rfl
  · refine (head1_at _ d x).trans ?_
    rw [e]
    show (if d.val < 3 then _ else if d.val < 64 then _ else _) = (((if 0 ≤ d.val ∧ d.val < 3 then _ else if d.val / 64 = 1 then _ else _) : ℝ) : EReal)
    split_ifs <;> first | omega | rfl

theorem k_blk (h : Fin 2) (s : Fin 16384) (d : Fin 128) :
    (![iblk m dev 1 t, iblk m dev 2 t] h) (ix2 s d) = ((lane k c (pj t) h s d : ℝ) : EReal) := by
  fin_cases h
  · exact (b1_at m dev t s d).trans (lane_at R (pj t) 0 s d _)
  · exact (b2_at m dev t s d).trans (lane_at R (pj t) 1 s d _)

/-- A score, in powers of two. -/
theorem score_real (h : Fin 2) (n : ℕ) (s x : Fin 512) :
    score (keys (iblk m dev 1 t) (iblk m dev 2 t) (at_ n) h) (![head0 (iblk m dev 0 t), head1 (iblk m dev 0 t)] h) (ix2 s x)
      = ((sc q k c (ph (pj t) h) (key (pi t) x) (key (kb n) s) / Real.log 2 : ℝ) : EReal) := by
  rw [score_at, ← lanes_dot (pj t) h]
  refine sum_eq _ _ fun d => ?_
  rw [keys_at, k_blk t R, q_blk t R, ← EReal.coe_mul]

omit R in
theorem v_blk (n : ℕ) (d : Fin 128) (s : Fin 512) :
    vals (iblk m dev 3 t) (at_ n) (ix2 d s) = X2 m dev (ix2 (key (kb n) s) (dcol (pj t) d)) := by
  rw [vals_at, b3_at, tr_at]
  exact v_at m dev _ _

/-- A block's scores as its head takes them: minus infinity at the keys after the query. -/
theorem own_real (d : Bool) (h : Fin 2) (n : ℕ) (s x : Fin 512) (hn : if d then n % 32 = t.val % 32 else n % 32 < t.val % 32) :
    own d (score (keys (iblk m dev 1 t) (iblk m dev 2 t) (at_ n) h) (![head0 (iblk m dev 0 t), head1 (iblk m dev 0 t)] h)) (ix2 s x)
      = if (key (kb n) s).val ≤ (key (pi t) x).val then ((sc q k c (ph (pj t) h) (key (pi t) x) (key (kb n) s) / Real.log 2 : ℝ) : EReal) else ⊥ := by
  have hs := s.isLt
  have hx := x.isLt
  rw [← score_real t R]
  generalize score (keys (iblk m dev 1 t) (iblk m dev 2 t) (at_ n) h) (![head0 (iblk m dev 0 t), head1 (iblk m dev 0 t)] h) = z
  show _ = if n % 32 * 512 + s.val ≤ t.val % 32 * 512 + x.val then _ else _
  cases d
  · have hn' : n % 32 < t.val % 32 := by simpa using hn
    rw [if_pos (by omega)]
    rfl
  · have hn' : n % 32 = t.val % 32 := by simpa using hn
    show below z (ix2 s x) = _
    pointwise [below]
    rw [sel_sge _ _ (by omega) (by omega)]
    refine if_congr (by omega) rfl ?_
    exact IdealRules.named_const.ideal_named_scalar _ _ _ _ rfl

end Cert.FwdIdeal.Sem
end
-- ==== Proof.FwdIdeal.Meet.lean ====
/- The running quantities after some blocks of keys: a maximum, and the sums of the weights and of the values so far, each
   off by the maximum's power of two. -/
module
public import proofs.«01_k».proof.Proof.FwdIdeal.Score
@[expose] public section
set_option maxRecDepth 16384

noncomputable section

namespace Cert.FwdIdeal.Sem

open Cert.FwdIdeal Cert.FwdIdeal.Gen Cert.FwdIdeal.Body Idealize.ShloMosaic Idealize.ShloMosaic.TcCoe Idealize.SL.Sem
open Cert.Step Cert.Attend Cert.Win

/-- Two to minus a real. -/
def off (μ : ℝ) : ℝ := Real.exp (-(μ * Real.log 2))

theorem off_pos (μ : ℝ) : 0 < off μ := Real.exp_pos _

/-- A real that is not negative goes into a sum. -/
theorem mul_sum_real {ι : Type*} (I : Finset ι) (x : ℝ) (hx : 0 ≤ x) (f : ι → EReal) : (x : EReal) * ∑ i ∈ I, f i = ∑ i ∈ I, (x : EReal) * f i := by
  classical
  induction I using Finset.induction_on with
  | empty => simp
  | insert a s h ih =>
    rw [Finset.sum_insert h, Finset.sum_insert h, EReal.left_distrib_of_nonneg_of_ne_top (by exact_mod_cast hx) (EReal.coe_ne_top x), ih]

section
variable (σ σ' : St Ideal) (h : Fin 2) (x : Fin 512) (L : ℝ) (A : Fin 128 → EReal)

/-- Some keys have been met: their weights sum to `L`, their values under them to `A`. -/
def Holds : Prop := ∃ μ : ℝ, σ.m (ix3 h 0 x) = (μ : EReal) ∧ σ.l (ix3 h 0 x) = ((L * off μ : ℝ) : EReal)
  ∧ ∀ d, σ.a (ix3 h d x) = ((off μ : ℝ) : EReal) * A d

/-- None has. -/
def Bare : Prop := (σ.m (ix3 h 0 x) = ⊥ ∧ σ.l (ix3 h 0 x) = 0 ∧ ∀ d, σ.a (ix3 h d x) = 0) ∧ L = 0 ∧ ∀ d, A d = 0
end

section
variable {z : Fin 512 → EReal} {P : Fin 512 → Prop} [DecidablePred P] {r : Fin 512 → ℝ} (hz : ∀ s, z s = if P s then ((r s / Real.log 2 : ℝ) : EReal) else ⊥)
include hz

theorem wt_real (T : ℝ) (s : Fin 512) : Ideal.exp2 (z s - (T : EReal)) = (((if P s then Real.exp (r s) else 0) * off T : ℝ) : EReal) := by
  rw [hz]
  split_ifs
  · rw [← EReal.coe_sub, Ideal.exp2_coe]
    refine congrArg Real.toEReal ?_
    have hl := ln_ne
    refine (congrArg (Real.rpow 2) (show r s / Real.log 2 - T = (r s + -(T * Real.log 2)) / Real.log 2 by field_simp; ring)).trans ?_
    rw [rpow_log, Real.exp_add]
    rfl
  · rw [EReal.bot_sub, Ideal.exp2_bot, zero_mul, EReal.coe_zero]

theorem peak_real (hP : ∃ s, P s) (μ : EReal) (hμ : μ ≠ ⊤) : ∃ T : ℝ, peak z μ = (T : EReal) := by
  obtain ⟨s, hs⟩ := hP
  obtain ⟨M, hM⟩ := fold_real z s (by rw [hz, if_pos hs]; exact EReal.coe_ne_bot _) (fun s => by rw [hz]; split_ifs; exacts [EReal.coe_ne_top _, bot_ne_top])
  unfold peak
  rw [hM]
  refine ⟨(max μ (M : EReal)).toReal, (EReal.coe_toReal ?_ ?_).symm⟩
  · exact (max_lt (lt_top_iff_ne_top.mpr hμ) (lt_top_iff_ne_top.mpr (EReal.coe_ne_top _))).ne
  · exact fun e => EReal.coe_ne_bot M (le_bot_iff.mp (e ▸ le_max_right μ (M : EReal)))

theorem fade_real (μ T : ℝ) : Ideal.exp2 ((μ : EReal) - (T : EReal)) * ((off μ : ℝ) : EReal) = ((off T : ℝ) : EReal) := by
  rw [← EReal.coe_sub, Ideal.exp2_coe, ← EReal.coe_mul]
  refine congrArg Real.toEReal ?_
  have hl := ln_ne
  refine (congrArg (fun y => Real.rpow 2 y * off μ) (show μ - T = ((μ - T) * Real.log 2) / Real.log 2 by field_simp)).trans ?_
  rw [rpow_log]
  unfold off
  rw [← Real.exp_add]
  exact congrArg Real.exp (by ring)

/-- One block more. -/
theorem met (hP : ∃ s, P s) {w : Fin 128 → Fin 512 → EReal} {σ σ' : St Ideal} {h : Fin 2} {x : Fin 512} {L : ℝ} {A : Fin 128 → EReal}
    (B : Met z w σ σ' h x) (I : Bare σ h x L A ∨ Holds σ h x L A) :
    Holds σ' h x (L + ∑ s, if P s then Real.exp (r s) else 0)
      (fun d => A d + ∑ s, w d s * (((if P s then Real.exp (r s) else 0 : ℝ)) : EReal)) := by
  have hμ : σ.m (ix3 h 0 x) ≠ ⊤ := by
    rcases I with ⟨⟨e, _⟩, _⟩ | ⟨μ, e, _⟩
    · rw [e]; exact bot_ne_top
    · rw [e]; exact EReal.coe_ne_top _
  obtain ⟨T, hT⟩ := peak_real hz hP _ hμ
  have sl : ∑ s, Ideal.exp2 (z s - (T : EReal)) = (((∑ s, if P s then Real.exp (r s) else 0) * off T : ℝ) : EReal) := by
    rw [Finset.sum_mul]
    exact sum_eq _ _ fun s => wt_real hz T s
  have sa : ∀ d, ∑ s, w d s * Ideal.exp2 (z s - (T : EReal))
      = ((off T : ℝ) : EReal) * ∑ s, w d s * (((if P s then Real.exp (r s) else 0 : ℝ)) : EReal) := by
    intro d
    rw [mul_sum_real _ _ (off_pos T).le]
    refine Finset.sum_congr rfl fun s _ => ?_
    rw [wt_real hz, EReal.coe_mul, ← mul_assoc, mul_comm]
  refine ⟨T, B.m.trans hT, B.l.trans ?_, fun d => (B.a d).trans ?_⟩
  · rw [hT, sl]
    rcases I with ⟨⟨e, el, _⟩, hL, _⟩ | ⟨μ, e, el, _⟩
    · rw [el, mul_zero, zero_add, hL, zero_add]
    · rw [e, el, mul_comm L, EReal.coe_mul, ← mul_assoc, fade_real hz, ← EReal.coe_mul, ← EReal.coe_add]
      exact congrArg Real.toEReal (by ring)
  · rw [hT, sa]
    show _ = _ * (A d + _)
    rcases I with ⟨⟨e, _, ea⟩, _, hA⟩ | ⟨μ, e, _, ea⟩
    · rw [ea, mul_zero, zero_add, hA, zero_add]
    · rw [e, ea, ← mul_assoc, fade_real hz, EReal.left_distrib_of_nonneg_of_ne_top (by exact_mod_cast (off_pos T).le) (EReal.coe_ne_top _)]
end

/-- A sum over the keys, by blocks. -/
theorem sum_keys {α : Type*} [AddCommMonoid α] (f : Fin 16384 → α) : ∑ s, f s = ∑ b ∈ Finset.range 32, ∑ s : Fin 512, f (key (kb b) s) := by
  rw [Finset.sum_range]
  refine ((finProdFinEquiv (m := 32) (n := 512)).sum_comp f).symm.trans ?_
  rw [Fintype.sum_prod_type]
  refine Finset.sum_congr rfl fun b _ => Finset.sum_congr rfl fun s _ => congrArg f (Fin.ext ?_)
  show s.val + 512 * b.val = b.val % 32 * 512 + s.val
  have := b.isLt
  omega

/-- The blocks of a causal sum end with the query's own. -/
theorem sum_upto {α : Type*} [AddCommMonoid α] (f : Fin 16384 → α) (T : Fin 16384) (i : ℕ) (hi : i < 32) (hT : T.val < 512 * i + 512)
    (hf : ∀ s : Fin 16384, ¬ s.val ≤ T.val → f s = 0) : ∑ s, f s = ∑ b ∈ Finset.range (i + 1), ∑ s : Fin 512, f (key (kb b) s) := by
  rw [sum_keys]
  refine (Finset.sum_subset (fun b hb => by rw [Finset.mem_range] at hb ⊢; omega) fun b hb hn => Finset.sum_eq_zero fun s _ => hf _ ?_).symm
  rw [Finset.mem_range] at hb hn
  show ¬ b % 32 * 512 + s.val ≤ T.val
  omega

section
variable {m : (ℓ : Loc nD τ sig) → Buf (Elt Ideal) ℓ} {dev : Dev nD}
variable {q k : Fin 16384 → Fin 512 → ℝ} {c : Fin 16384 → Fin 8 → ℝ} (R : Reals m dev q k c) (t : Fin cfg0.N) (h : Fin 2) (x : Fin 512)

/-- A key's value under its weight. -/
def wv (m : (ℓ : Loc nD τ sig) → Buf (Elt Ideal) ℓ) (dev : Dev nD) (q k : Fin 16384 → Fin 512 → ℝ) (c : Fin 16384 → Fin 8 → ℝ) (H : Fin 8) (T : Fin 16384)
    (i : Fin 512) (s : Fin 16384) : EReal := X2 m dev (ix2 s i) * ((ex q k c H T s : ℝ) : EReal)

abbrev L_ (n : ℕ) : ℝ := ∑ b ∈ Finset.range n, ∑ s : Fin 512, ex q k c (ph (pj t) h) (key (pi t) x) (key (kb b) s)
abbrev A_ (n : ℕ) (d : Fin 128) : EReal := ∑ b ∈ Finset.range n, ∑ s : Fin 512, wv m dev q k c (ph (pj t) h) (key (pi t) x) (dcol (pj t) d) (key (kb b) s)

/-- The running quantities after `n` whole blocks. -/
abbrev st (m : (ℓ : Loc nD τ sig) → Buf (Elt Ideal) ℓ) (dev : Dev nD) (t : Fin cfg0.N) (n : ℕ) : St Ideal :=
  upto (head0 (iblk m dev 0 t)) (head1 (iblk m dev 0 t)) (iblk m dev 1 t) (iblk m dev 2 t) (iblk m dev 3 t) clear n

theorem clear_bare : Bare (clear (F := Ideal)) h x 0 fun _ => 0 := by
  refine ⟨⟨?_, ?_, fun d => ?_⟩, rfl, fun _ => rfl⟩
  · refine Eq.trans ?_ (IdealRules.named_const.ideal_named_scalar (φ := .f32) Cert.FwdIdeal.κ "mask" 0xF149F2CA#32 ⊥ rfl)
    pointwise [clear]
  · pointwise [clear]
  · pointwise [clear]

include R in
/-- One block more, of the kernel's own operands. -/
theorem next (d : Bool) (n : ℕ) (hn : if d then n % 32 = t.val % 32 else n % 32 < t.val % 32) (σ : St Ideal)
    (I : Bare σ h x (L_ (q := q) (k := k) (c := c) t h x n) (A_ (m := m) (dev := dev) (q := q) (k := k) (c := c) t h x n)
      ∨ Holds σ h x (L_ (q := q) (k := k) (c := c) t h x n) (A_ (m := m) (dev := dev) (q := q) (k := k) (c := c) t h x n)) :
    Holds (taken (head0 (iblk m dev 0 t)) (head1 (iblk m dev 0 t)) (iblk m dev 1 t) (iblk m dev 2 t) (iblk m dev 3 t) σ (d, at_ n)) h x
      (L_ (q := q) (k := k) (c := c) t h x (n + 1)) (A_ (m := m) (dev := dev) (q := q) (k := k) (c := c) t h x (n + 1)) := by
  have B := met (fun s => own_real t R d h n s x hn) ⟨0, (by
    show n % 32 * 512 + 0 ≤ t.val % 32 * 512 + x.val
    cases d <;> simp at hn <;> omega)⟩ (taken_at (head0 (iblk m dev 0 t)) (head1 (iblk m dev 0 t)) (iblk m dev 1 t) (iblk m dev 2 t) (iblk m dev 3 t) σ d (at_ n) h x) I
  have e1 : L_ (q := q) (k := k) (c := c) t h x (n + 1) = _ := Finset.sum_range_succ _ _
  have e2 : A_ (m := m) (dev := dev) (q := q) (k := k) (c := c) t h x (n + 1) = _ := funext fun d => Finset.sum_range_succ _ _
  rw [e1, e2]
  refine cast (congrArg _ (funext fun d => ?_)) B
  refine congrArg (_ + ·) (Finset.sum_congr rfl fun s _ => ?_)
  rw [v_blk]
  rfl

include R in
theorem whole (n : ℕ) (hn : n ≤ t.val % 32) :
    Bare (st m dev t n) h x (L_ (q := q) (k := k) (c := c) t h x n) (A_ (m := m) (dev := dev) (q := q) (k := k) (c := c) t h x n)
      ∨ Holds (st m dev t n) h x (L_ (q := q) (k := k) (c := c) t h x n) (A_ (m := m) (dev := dev) (q := q) (k := k) (c := c) t h x n) := by
  induction n with
  | zero =>
    refine Or.inl ?_
    have e1 : L_ (q := q) (k := k) (c := c) t h x 0 = 0 := Finset.sum_range_zero _
    have e2 : A_ (m := m) (dev := dev) (q := q) (k := k) (c := c) t h x 0 = fun _ => 0 := funext fun d => Finset.sum_range_zero _
    rw [e1, e2]
    exact clear_bare h x
  | succ n ih => exact Or.inr (next R t h x false n (by simp only [Bool.false_eq_true, if_false]; omega) _ (ih (by omega)))

include R in
/-- When a block of queries has met all its blocks of keys. -/
theorem ends : Holds (doneAt m dev t) h x (norm q k c (ph (pj t) h) (key (pi t) x))
    (fun d => ∑ s, wv m dev q k c (ph (pj t) h) (key (pi t) x) (dcol (pj t) d) s) := by
  have hx := x.isLt
  have hT : (key (pi t) x).val < 512 * (t.val % 32) + 512 := by show t.val % 32 * 512 + x.val < _; omega
  have late : ∀ s : Fin 16384, ¬ s.val ≤ (key (pi t) x).val → ex q k c (ph (pj t) h) (key (pi t) x) s = 0 := fun s hs => if_neg hs
  have B := next R t h x true (t.val % 32) (by simp) _ (whole R t h x _ le_rfl)
  rw [show norm q k c (ph (pj t) h) (key (pi t) x) = L_ (q := q) (k := k) (c := c) t h x (t.val % 32 + 1) from sum_upto _ _ _ (by omega) hT late,
    show (fun d => ∑ s, wv m dev q k c (ph (pj t) h) (key (pi t) x) (dcol (pj t) d) s) = A_ (m := m) (dev := dev) (q := q) (k := k) (c := c) t h x (t.val % 32 + 1) from
      funext fun d => sum_upto _ _ _ (by omega) hT fun s hs => by unfold wv; rw [late s hs, EReal.coe_zero, mul_zero]]
  exact B
end

end Cert.FwdIdeal.Sem
end
-- ==== Proof.FwdIdeal.Out.lean ====
/- The two results as arrays: the values' means, and the logarithms of the weights' sums laid out in rows. -/
module
public import proofs.«01_k».proof.Proof.FwdIdeal.Meet
@[expose] public section
set_option maxRecDepth 16384

noncomputable section

namespace Cert.FwdIdeal.Sem

open Cert.FwdIdeal Cert.FwdIdeal.Gen Cert.FwdIdeal.Body Idealize.ShloMosaic Idealize.ShloMosaic.TcCoe Idealize.SL.Sem
open Idealize.ShloMosaic.Pipeline (Dat)
open Cert.Step Cert.Attend Cert.Win

section
variable (σ : St Ideal) (d : Fin 128) (x : Fin 512)

theorem m_at (h : Fin 2) : (![m0 σ, m1 σ] h) (ix3 0 0 x) = σ.m (ix3 h 0 x) := by
  fin_cases h
  · exact window3 _ _ _ _ _ _ _ _ _ _ _ rfl rfl (by simp)
  · exact window3 _ _ _ _ _ _ _ _ _ _ _ rfl rfl (by simp)
theorem l_at (h : Fin 2) : (![l0 σ, l1 σ] h) (ix3 0 0 x) = σ.l (ix3 h 0 x) := by
  fin_cases h
  · exact window3 _ _ _ _ _ _ _ _ _ _ _ rfl rfl (by simp)
  · exact window3 _ _ _ _ _ _ _ _ _ _ _ rfl rfl (by simp)
theorem a_at (h : Fin 2) : (![a0 σ, a1 σ] h) (ix3 0 d x) = σ.a (ix3 h d x) := by
  fin_cases h
  · exact window3 _ _ _ _ _ _ _ _ _ _ _ rfl (by simp) (by simp)
  · exact window3 _ _ _ _ _ _ _ _ _ _ _ rfl (by simp) (by simp)

theorem mean_at (l : Vec Ideal S1x1x512 .f32) (a : Vec Ideal S1x128x512 .f32) :
    mean l a (ix2 d x) = a (ix3 0 d x) * Ideal.div 1 (l (ix3 0 0 x)) := by
  pointwise [mean]

theorem both_at (u v : FVec Ideal S128x512 .f32) : both u v (ix2 x d) = if d.val < 64 then u (ix2 d x) else v (ix2 d x) := by
  pointwise [both, low]
  rw [sel_slt _ _ (by omega) (by omega)]

theorem logRow_at (a l : Vec Ideal S1x1x512 .f32) :
    logRow a l (ix3 0 0 x) = 0 - (a (ix3 0 0 x) + Ideal.log (l (ix3 0 0 x)) * (((Real.log 2)⁻¹ : ℝ) : EReal)) := by
  rw [← (IdealRules.named_const.ideal_named_scalar (φ := .f32) Cert.FwdIdeal.κ "log2e" 0x3FB8AA3B#32 _ rfl : _ = (((Real.log 2)⁻¹ : ℝ) : EReal))]
  pointwise [logRow]

theorem lay_at (y : Vec Ideal S1x8x512 .f32) (u v : Vec Ideal S1x1x512 .f32) (r : Fin 8) :
    lay y u v (ix3 0 r x) = if r.val = 0 then u (ix3 0 0 x) else if r.val = 1 then v (ix3 0 0 x) else 0 := by
  have hr := r.isLt
  unfold lay
  by_cases h0 : r.val = 0
  · rw [if_pos h0]
    refine (put3_out _ 0 2 0 0 r x _ (by omega)).trans ((put3_out _ 0 1 0 0 r x _ (by omega)).trans ?_)
    exact put3_in _ 0 0 0 0 r x _ 0 0 x rfl (by simp [h0]) (by simp)
  · rw [if_neg h0]
    by_cases h1 : r.val = 1
    · rw [if_pos h1]
      refine (put3_out _ 0 2 0 0 r x _ (by omega)).trans ?_
      exact put3_in _ 0 1 0 0 r x _ 0 0 x rfl (by simp [h1]) (by simp)
    · rw [if_neg h1]
      refine (put3_in _ 0 2 0 0 r x _ 0 ⟨r.val - 2, by omega⟩ x rfl (by dsimp only; omega) (by simp)).trans ?_
      pointwise []

variable {σ d x} {h : Fin 2} {L : ℝ} {A : Fin 128 → EReal} (K : Holds σ h x L A) (hL : 0 < L)
include K hL

theorem mean_holds : (![mean (l0 σ) (a0 σ), mean (l1 σ) (a1 σ)] h) (ix2 d x) = A d * ((1 / L : ℝ) : EReal) := by
  obtain ⟨μ, _, el, ea⟩ := K
  have e : (![mean (l0 σ) (a0 σ), mean (l1 σ) (a1 σ)] h) (ix2 d x) = σ.a (ix3 h d x) * Ideal.div 1 (σ.l (ix3 h 0 x)) := by
    rw [← l_at, ← a_at]
    fin_cases h
    · exact mean_at d x _ _
    · exact mean_at d x _ _
  have ho := off_pos μ
  rw [e, el, ea, ← EReal.coe_one, div_real _ _ (mul_pos hL ho).ne', mul_right_comm, ← EReal.coe_mul, mul_comm]
  refine congrArg (A d * ·) (congrArg Real.toEReal ?_)
  have h1 := ho.ne'
  have h2 := hL.ne'
  field_simp

theorem log_holds : (![logRow (m0 σ) (l0 σ), logRow (m1 σ) (l1 σ)] h) (ix3 0 0 x) = ((-(Real.log L / Real.log 2) : ℝ) : EReal) := by
  obtain ⟨μ, em, el, _⟩ := K
  have e : (![logRow (m0 σ) (l0 σ), logRow (m1 σ) (l1 σ)] h) (ix3 0 0 x)
      = 0 - (σ.m (ix3 h 0 x) + Ideal.log (σ.l (ix3 h 0 x)) * (((Real.log 2)⁻¹ : ℝ) : EReal)) := by
    rw [← l_at, ← m_at]
    fin_cases h
    · exact logRow_at x _ _
    · exact logRow_at x _ _
  have ho := off_pos μ
  rw [e, el, em, Ideal.log_coe, if_neg (not_le.mpr (mul_pos hL ho)), ← EReal.coe_mul, ← EReal.coe_add, ← EReal.coe_zero, ← EReal.coe_sub]
  refine congrArg Real.toEReal ?_
  rw [Real.log_mul hL.ne' ho.ne']
  unfold off
  rw [Real.log_exp]
  have hl := ln_ne
  field_simp
  ring
end

variable {m : (ℓ : Loc nD τ sig) → Buf (Elt Ideal) ℓ} {dev : Dev nD}
variable {q k : Fin 16384 → Fin 512 → ℝ} {c : Fin 16384 → Fin 8 → ℝ}

/-- A query's mean of the values, and the logarithm of its weights' sum. -/
def oo (m : (ℓ : Loc nD τ sig) → Buf (Elt Ideal) ℓ) (dev : Dev nD) (q k : Fin 16384 → Fin 512 → ℝ) (c : Fin 16384 → Fin 8 → ℝ) (T : Fin 16384) (i : Fin 512) : EReal :=
  (∑ s, wv m dev q k c (hd i) T i s) * ((1 / norm q k c (hd i) T : ℝ) : EReal)
def aa (q k : Fin 16384 → Fin 512 → ℝ) (c : Fin 16384 → Fin 8 → ℝ) (j : Fin 4) (r : Fin 8) (T : Fin 16384) : EReal :=
  if h : r.val < 2 then ((-(Real.log (norm q k c ⟨2 * j.val + r.val, by omega⟩ T) / Real.log 2) : ℝ) : EReal) else 0

variable (R : Reals m dev q k c) (t : Fin cfg0.N)
include R

theorem outO_at (x : Fin 512) (d : Fin 128) : outO (doneAt m dev t) (ix2 x d) = oo m dev q k c (key (pi t) x) (dcol (pj t) d) := by
  have E : ∀ h : Fin 2, d.val / 64 = h.val → (![mean (l0 (doneAt m dev t)) (a0 (doneAt m dev t)), mean (l1 (doneAt m dev t)) (a1 (doneAt m dev t))] h) (ix2 d x)
      = oo m dev q k c (key (pi t) x) (dcol (pj t) d) := fun h hh => by
    unfold oo
    have e := mean_holds (d := d) (ends R t h x) (norm_pos q k c _ _)
    rw [← hd_dcol (pj t) h d hh] at e
    exact e
  have hd' := d.isLt
  refine (both_at d x _ _).trans ?_
  split_ifs with h
  · exact E 0 (show d.val / 64 = 0 by omega)
  · exact E 1 (show d.val / 64 = 1 by omega)

theorem outA_at (r : Fin 8) (x : Fin 512) : outA (doneAt m dev t) (ix3 0 r x) = aa q k c (pj t) r (key (pi t) x) := by
  refine (lay_at x _ _ _ r).trans ?_
  have E : ∀ h : Fin 2, r.val = h.val → (![logRow (m0 (doneAt m dev t)) (l0 (doneAt m dev t)), logRow (m1 (doneAt m dev t)) (l1 (doneAt m dev t))] h) (ix3 0 0 x)
      = aa q k c (pj t) r (key (pi t) x) := fun h hh => by
    have hh' := h.isLt
    unfold aa
    rw [dif_pos (by omega)]
    have eh : ph (pj t) h = ⟨2 * (pj t).val + r.val, by have := (pj t).isLt; omega⟩ := by
      refine Fin.ext ?_
      show 2 * (pj t).val + h.val = 2 * (pj t).val + r.val
      omega
    rw [← eh]
    exact log_holds (ends R t h x) (norm_pos q k c _ _)
  split_ifs with h0 h1
  · exact E 0 h0
  · exact E 1 h1
  · unfold aa
    rw [dif_neg (by omega)]

theorem final4 : (dats m 0 dev).arrAt 4 cfg0.N = fun i => oo m dev q k c (i 0) (i 1) := by
  refine (dats m 0 dev).arrAt_eq_of_covers 4 _ (by decide +kernel) fun t hf y => ?_
  blk_simp
  rw [after_4]
  idx_vars y
  refine (outO_at R t y0 y1).trans ?_
  have e1 : ∀ (a b : Fin 16384) (i j : Fin 512), a = b → i = j → oo m dev q k c a i = oo m dev q k c b j := by
    rintro a _ i _ rfl rfl; rfl
  unfold dcol pj key pi
  refine e1 _ _ _ _ (Fin.ext ?_) (Fin.ext ?_)
  · blk_ext [idx t]
  · blk_ext [idx t]

theorem final5 : (dats m 0 dev).arrAt 5 cfg0.N = fun i => aa q k c (i 0) (i 1) (i 2) := by
  refine (dats m 0 dev).arrAt_eq_of_covers 5 _ (by decide +kernel) fun t hf y => ?_
  blk_simp
  rw [after_5]
  idx_vars y
  have y00 : y0 = 0 := Fin.ext (by have := y0.isLt; omega)
  subst y00
  refine (outA_at R t y1 y2).trans ?_
  have e1 : ∀ (a b : Fin 4) (i j : Fin 8) (u v : Fin 16384), a = b → i = j → u = v → aa q k c a i u = aa q k c b j v := by
    rintro a _ i _ u _ rfl rfl rfl; rfl
  unfold pj key pi
  refine e1 _ _ _ _ _ _ (Fin.ext (show t.val / 32 = _ from ?_)) (Fin.ext ?_) (Fin.ext ?_)
  · refine Eq.trans ?_ (show t.val / 32 * 1 + (0 : Fin 1).val = _ by blk_ext [idx t])
    simp
  · blk_ext [idx t]
  · blk_ext [idx t]

end Cert.FwdIdeal.Sem
end
-- ==== Proof.Attend.FwdRef.lean ====
/- The reference of the forward pass, read over the real numbers. -/
module
public import proofs.«01_k».proof.Proof.Gen.FwdRefIdeal.Read
public import proofs.«01_k».proof.Proof.Attend.Spec
public import proofs.«01_k».proof.Proof.Words
@[expose] public section
set_option maxRecDepth 16384

noncomputable section

namespace Cert.FwdRefIdeal.Sem

open Cert.FwdRefIdeal Cert.FwdRefIdeal.Gen Cert.FwdRefIdeal.Read Idealize.ShloMosaic
open Cert.Attend Cert.Step

variable (X Y Z : FVec Ideal S16384x512 .f32) (C : FVec Ideal S16384x8 .f32)
variable (q k : Fin 16384 → Fin 512 → ℝ) (c : Fin 16384 → Fin 8 → ℝ)
variable (hq : ∀ t i, X (ix2 t i) = ((q t i : ℝ) : EReal)) (hk : ∀ t i, Y (ix2 t i) = ((k t i : ℝ) : EReal))
variable (hc : ∀ t i, C (ix2 t i) = ((c t i : ℝ) : EReal))

/-- The heads of an array of 512 columns. -/
theorem heads_at (A : FVec Ideal S16384x512 .f32) (H : Fin 8) (t : Fin 16384) (e : Fin 64) : val_main_v1 (F := Ideal) A (ix3 H t e) = A (ix2 t (col H e)) := by
  pointwise [val_main_v1, val_main_v0]; rfl

include hq hk in
theorem dot_at (H : Fin 8) (t s : Fin 16384) :
    val_main_v4 (F := Ideal) X Y (ix3 H t s) = ((∑ e : Fin 64, q t (col H e) * k s (col H e) : ℝ) : EReal) := by
  pointwise [val_main_v4]
  refine sum_eq _ _ fun e => ?_
  rw [EReal.coe_mul, ← hq, ← hk]
  exact congrArg₂ (· * ·) (heads_at X H t e) (heads_at Y H s e)

/-- Scores, masked: any that differ from a key's own by a number of the query's row. -/
theorem mask_at (z : FVec Ideal S8x16384x16384 .f32) (H : Fin 8) (t s : Fin 16384) :
    select (val_main_call0_v1 (F := Ideal)) z (val_main_call0_v2 (F := Ideal)) (ix3 H t s) = if s.val ≤ t.val then z (ix3 H t s) else ⊥ := by
  pointwise [val_main_call0_v1, val_main_call0_v2, val_main_call0_v0, val_main_cst_0, val_main_v12, val_main_v11, val_main_v10, val_main_v9, val_main_v8, val_main_v7]
  rw [sel_sge _ _ (by omega) (by omega)]
  exact congrArg (fun b => if s.val ≤ t.val then _ else b) minus_inf

include hq hk hc in
theorem z_at (H : Fin 8) (t s : Fin 16384) :
    val_main_v17 (F := Ideal) X Y C (ix3 H t s) = if s.val ≤ t.val then ((sc q k c H t s : ℝ) : EReal) else ⊥ := by
  refine (mask_at (val_main_v16 (F := Ideal) X Y C) H t s).trans ?_
  have e : val_main_v16 (F := Ideal) X Y C (ix3 H t s) = ((sc q k c H t s : ℝ) : EReal) := by
    pointwise [val_main_v16, val_main_v15, val_main_v14, val_main_v13, val_main_v6, val_main_v5, val_main_cst]
    rw [dot_at X Y q k hq hk, hc, eighth, ← EReal.coe_mul, ← EReal.coe_sub]
    congr 1
    unfold sc
    ring
  rw [e]

include hq hk hc in
theorem z_at' (H : Fin 8) (t s : Fin 16384) :
    val_main_v54 (F := Ideal) X Y C (ix3 H t s) = if s.val ≤ t.val then ((sc q k c H t s + c t H : ℝ) : EReal) else ⊥ := by
  refine (mask_at (val_main_v47 (F := Ideal) X Y C) H t s).trans ?_
  have e : val_main_v47 (F := Ideal) X Y C (ix3 H t s) = ((sc q k c H t s + c t H : ℝ) : EReal) := by
    pointwise [val_main_v47, val_main_v46, val_main_v45, val_main_v44, val_main_v43, val_main_v42, val_main_v41, val_main_v40, val_main_v39, val_main_v38, val_main_cst_4]
    rw [show val_main_v37 (F := Ideal) X Y (ix3 H t s) = _ from dot_at X Y q k hq hk H t s, hc, hc, eighth, ← EReal.coe_mul, ← EReal.coe_add, ← EReal.coe_sub]
    congr 1
    unfold sc
    ring
  rw [e]

section
variable {q k c}
variable (z : FVec Ideal S8x16384x16384 .f32) (H : Fin 8) (t : Fin 16384) (r : ℝ)
  (hz : ∀ s, z (ix3 H t s) = if s.val ≤ t.val then ((sc q k c H t s + r : ℝ) : EReal) else ⊥)
include hz

/-- A masked row's greatest is a real. -/
theorem top_real : ∃ a : ℝ, Host.reduce (FloatOps.maximumf (F := Ideal)) z (val_main_cst_1 (F := Ideal)) reducesTo_S8x16384x16384_S8x16384_d2 h_S_ (ix2 H t) = (a : EReal) := by
  obtain ⟨a, ha⟩ := fold_real (fun s : Fin 16384 => z (ix3 H t s)) t
    (by rw [hz, if_pos le_rfl]; exact EReal.coe_ne_bot _)
    (fun s => by rw [hz]; split_ifs; exacts [EReal.coe_ne_top _, bot_ne_top])
  refine ⟨a, (max_row (φ := .f32) z (val_main_cst_1 (F := Ideal)) reducesTo_S8x16384x16384_S8x16384_d2 h_S_ H t).trans ?_⟩
  rw [show val_main_cst_1 (F := Ideal) (Shape.Idx.first h_S_) = (⊥ : EReal) from minus_inf]
  exact ha

/-- Its exponentials, off by one factor. -/
theorem exp_real (a : ℝ) (s : Fin 16384) : Ideal.exp (z (ix3 H t s) - (a : EReal)) = ((ex q k c H t s * Real.exp (-(a - r)) : ℝ) : EReal) := by
  rw [hz, ← ex_shift q k c H t s (a - r) _ rfl]
  split_ifs with h
  · rw [← EReal.coe_sub, Ideal.exp_coe]
    exact congrArg (fun x : ℝ => ((Real.exp x : ℝ) : EReal)) (by ring)
  · rw [EReal.bot_sub, Ideal.exp_bot, EReal.coe_zero]
end

include hq hk hc

theorem sum_at (H : Fin 8) (t : Fin 16384) :
    ∃ a : ℝ, val_main_v18 (F := Ideal) X Y C (ix2 H t) = (a : EReal)
      ∧ val_main_v23 (F := Ideal) X Y C (ix2 H t) = ((norm q k c H t * Real.exp (-a) : ℝ) : EReal) := by
  obtain ⟨r, hr, hz⟩ : ∃ r : ℝ, r = 0 ∧ ∀ s, val_main_v17 (F := Ideal) X Y C (ix3 H t s) = if s.val ≤ t.val then ((sc q k c H t s + r : ℝ) : EReal) else ⊥ :=
    ⟨0, rfl, fun s => by rw [add_zero]; exact z_at X Y C q k c hq hk hc H t s⟩
  obtain ⟨a, ha⟩ := top_real _ H t r hz
  have hm : val_main_v18 (F := Ideal) X Y C (ix2 H t) = (a : EReal) := ha
  refine ⟨a, hm, ?_⟩
  have hs : val_main_v23 (F := Ideal) X Y C (ix2 H t) = ((norm q k c H t * Real.exp (-(a - r)) : ℝ) : EReal) := by
    pointwise [val_main_v23, val_main_cst_2]
    rw [← norm_shift]
    refine sum_eq _ _ fun s => ?_
    rw [← exp_real _ H t r hz, ← hm]
    pointwise [val_main_v22, val_main_v21, val_main_v20, val_main_v19]
  rw [hs, hr, sub_zero]

omit hq hk hc in
theorem log_two : val_main_v28 (F := Ideal) ix0 = ((Real.log 2 : ℝ) : EReal) := by
  rw [val_main_v28_apply, val_main_cst_3_apply]
  exact (congrArg Ideal.log two_f32).trans ((Ideal.log_coe 2).trans (if_neg (by norm_num)))

omit hq hk hc in
theorem row_log (a n : ℝ) (hn : 0 < n) (u w l : EReal) (hu : u = (a : EReal)) (hw : w = ((n * Real.exp (-a) : ℝ) : EReal)) (hl : l = ((Real.log 2 : ℝ) : EReal)) :
    Ideal.div (-(u + Ideal.log w)) l = ((-(Real.log n / Real.log 2) : ℝ) : EReal) := by
  have hp : 0 < n * Real.exp (-a) := mul_pos hn (Real.exp_pos _)
  rw [hu, hw, hl, Ideal.log_coe, if_neg (not_le.mpr hp), ← EReal.coe_add, ← EReal.coe_neg, div_real _ _ ln_ne]
  refine congrArg Real.toEReal ?_
  rw [Real.log_mul hn.ne' (Real.exp_pos _).ne', Real.log_exp]
  have h := ln_ne
  field_simp
  ring

/-- The second result before it is laid out: less the logarithm of a query's sum, in powers of two. -/
theorem log_at (H : Fin 8) (t : Fin 16384) :
    val_main_v30 (F := Ideal) X Y C (ix3 H t 0) = ((-(Real.log (norm q k c H t) / Real.log 2) : ℝ) : EReal) := by
  obtain ⟨a, hm, hs⟩ := sum_at X Y C q k c hq hk hc H t
  have e := row_log a _ (norm_pos q k c H t) _ _ _ hm hs log_two
  have h24 : val_main_v24 (F := Ideal) X Y C (ix3 H t 0) = val_main_v23 (F := Ideal) X Y C (ix2 H t) := by pointwise [val_main_v24]
  have h19 : val_main_v19 (F := Ideal) X Y C (ix3 H t 0) = val_main_v18 (F := Ideal) X Y C (ix2 H t) := by pointwise [val_main_v19]
  have h29 : val_main_v29 (F := Ideal) (ix3 H t 0) = val_main_v28 (F := Ideal) ix0 := by pointwise [val_main_v29]
  refine Eq.trans ?_ e
  rw [val_main_v30_apply, val_main_v27_apply, val_main_v26_apply, val_main_v25_apply, h24, h19, h29]
  generalize val_main_v18 (F := Ideal) X Y C (ix2 H t) = u
  generalize val_main_v23 (F := Ideal) X Y C (ix2 H t) = w
  generalize val_main_v28 (F := Ideal) ix0 = l
  rfl

theorem rows_at (j : Fin 4) (r : Fin 8) (t : Fin 16384) :
    val_main_v32 (F := Ideal) X Y C (ix3 j r t)
      = if h : r.val < 2 then ((-(Real.log (norm q k c ⟨2 * j.val + r.val, by omega⟩ t) / Real.log 2) : ℝ) : EReal) else 0 := by
  pointwise [val_main_v32, val_main_v31]
  have z : val_main_call1_v0 (F := Ideal) (Shape.Idx.first h_S_) = 0 := by
    show ((((0#32 : BitVec 32).toInt : ℝ)) : EReal) = 0
    simp
  split_ifs with h
  · rw [← log_at X Y C q k c hq hk hc]
    exact congrArg (fun H => val_main_v30 (F := Ideal) X Y C (ix3 H t 0)) (Fin.ext (show j.val * 2 + r.val = 2 * j.val + r.val by omega))
  · exact z

theorem pr_at (H : Fin 8) (t s : Fin 16384) : val_main_v65 (F := Ideal) X Y C (ix3 H t s) = ((pr q k c H t s : ℝ) : EReal) := by
  have hz := z_at' X Y C q k c hq hk hc H t
  obtain ⟨a, ha⟩ := top_real _ H t (c t H) hz
  have hm : val_main_v57 (F := Ideal) X Y C (ix2 H t) = (a : EReal) := by
    rw [val_main_v57_apply, show val_main_v55 (F := Ideal) X Y C (ix2 H t) = (a : EReal) from ha, val_main_v56_apply, val_main_cst_7_apply]
    show max (Ideal.ofBits .f32 0xFF800000#32) (a : EReal) = a
    rw [minus_inf]
    exact max_eq_right bot_le
  have he : ∀ s, val_main_v61 (F := Ideal) X Y C (ix3 H t s) = ((ex q k c H t s * Real.exp (-(a - c t H)) : ℝ) : EReal) := fun s => by
    rw [← exp_real _ H t (c t H) hz, ← hm]
    pointwise [val_main_v61, val_main_v60, val_main_v59, val_main_v58]
  pointwise [val_main_v65, val_main_v64, val_main_v63, val_main_v62, val_main_cst_8]
  rw [he, sum_eq _ _ he, norm_shift, div_real _ _ (mul_ne_zero (norm_ne q k c H t) (Real.exp_pos _).ne')]
  refine congrArg Real.toEReal ?_
  rw [pr, mul_div_mul_right _ _ (Real.exp_pos _).ne']

/-- The first result: a query's values under their weights. -/
theorem mean_at (t : Fin 16384) (i : Fin 512) :
    val_main_v70 (F := Ideal) X Y Z C (ix2 t i) = ∑ s, ((pr q k c (hd i) t s : ℝ) : EReal) * Z (ix2 s i) := by
  have e : val_main_v68 (F := Ideal) X Y Z C (ix3 (hd i) t ⟨i.val % 64, by omega⟩) = ∑ s, ((pr q k c (hd i) t s : ℝ) : EReal) * Z (ix2 s i) := by
    pointwise [val_main_v68]
    refine Finset.sum_congr rfl fun s _ => congrArg₂ (· * ·) (pr_at X Y C q k c hq hk hc (hd i) t s) ((heads_at Z (hd i) s _).trans ?_)
    refine congrArg (fun l => Z (ix2 s l)) (Fin.ext ?_)
    show i.val / 64 * 64 + i.val % 64 = i.val
    omega
  rw [← e]
  pointwise [val_main_v70, val_main_v69]
  rfl

end Cert.FwdRefIdeal.Sem
end
-- ==== Proof.FwdIdeal.Claim.lean ====
/- The claim of the attention's forward pass: of finite queries, keys and biases both programs leave the same two results. -/
module
public import proofs.«01_k».proof.Defs
public import proofs.«01_k».proof.Proof.FwdIdeal.Out
public import proofs.«01_k».proof.Proof.FwdIdeal.Run
public import proofs.«01_k».proof.Proof.Attend.FwdRef
public import proofs.«01_k».proof.Proof.Gen.FwdRefIdeal.Run
public import Idealize.ShloMosaic.Lib.Claim
@[expose] public section
set_option maxRecDepth 16384

noncomputable section

namespace Cert.FwdIdeal.Sem

open Cert.FwdIdeal Cert.FwdIdeal.Gen Cert.FwdIdeal.Body Idealize.ShloMosaic Idealize.ShloMosaic.TcCoe Idealize.SL.Sem
open Cert.Attend

theorem prefacts : Cert.Pre_finite_attn_fwd.Facts := ⟨by decide, by decide⟩

section
variable {F : FTy → Type} [FloatOps F] [Named F] (m : (ℓ : Loc nD τ sig) → Buf (Elt F) ℓ) (ρ : Dev nD → PrngReg)

/-- A run's two results are the two output windows; its four arguments stand. -/
theorem run_blocks : θ_run defs (onTc (τ := τ) (main (F := F))) ⟨m, fun _ => 0, ρ⟩ fun r => ∀ c : Dev nD,
      r.2.mem ((c : Thread nD τ).loc main_v47_0) = (dats m 0 c).arrAt 4 cfg0.N
      ∧ r.2.mem ((c : Thread nD τ).loc main_v47_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4, (h c).1 5,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end

theorem reals (m : (ℓ : Loc nD τ sig) → Buf (Elt Ideal) ℓ) (hpre : Cert.Pre_FwdIdeal_finite_attn_fwd (hPre_finite_attn_fwd := prefacts) m) (c : Dev nD) :
    Reals m c (fun t i => (X0 m c (ix2 t i)).toReal) (fun t i => (X1 m c (ix2 t i)).toReal) (fun t i => (X3 m c (ix2 t i)).toReal) := by
  obtain ⟨h0, h1, h3⟩ := hpre c
  exact ⟨fun t i => real_of _ (congrFun h0 (ix2 t i)), fun t i => real_of _ (congrFun h1 (ix2 t i)), fun t i => real_of _ (congrFun h3 (ix2 t i))⟩

section
variable {m : (ℓ : Loc nD τ sig) → Buf (Elt Ideal) ℓ} {dev : Dev nD}
variable {q k : Fin 16384 → Fin 512 → ℝ} {c : Fin 16384 → Fin 8 → ℝ} (R : Reals m dev q k c)
include R

/-- Weights divided by their sum before the values are met, or after: the same mean. -/
theorem mean_eq (t : Fin 16384) (i : Fin 512) :
    ∑ s, ((pr q k c (hd i) t s : ℝ) : EReal) * X2 m dev (ix2 s i) = oo m dev q k c t i := by
  unfold oo
  rw [mul_comm, mul_sum_real _ _ (one_div_pos.mpr (norm_pos q k c (hd i) t)).le]
  refine Finset.sum_congr rfl fun s _ => ?_
  unfold wv
  rw [mul_left_comm, ← EReal.coe_mul, mul_comm, pr, one_div_mul_eq_div]

theorem ref_o : (Cert.FwdRefIdeal.Read.val_main_v70 (F := Ideal) (X0 m dev) (X1 m dev) (X2 m dev) (X3 m dev)) = (dats m 0 dev).arrAt 4 cfg0.N := by
  rw [final4 R]
  exact ext2 _ _ fun i j => (Cert.FwdRefIdeal.Sem.mean_at _ _ _ _ q k c R.q R.k R.c i j).trans (mean_eq R i j)

theorem ref_rows : (Cert.FwdRefIdeal.Read.val_main_v32 (F := Ideal) (X0 m dev) (X1 m dev) (X3 m dev)) = (dats m 0 dev).arrAt 5 cfg0.N := by
  rw [final5 R]
  exact ext3 _ _ fun i j l => Cert.FwdRefIdeal.Sem.rows_at _ _ _ q k c R.q R.k R.c i j l

end

theorem algebraic : Cert.algebraic_FwdIdeal_FwdRefIdeal_pre_finite_attn_fwd (hFwdIdeal := Cert.FwdIdeal.Gen.facts)
    (hFwdRefIdeal := Cert.FwdRefIdeal.Gen.facts) (hPre_finite_attn_fwd := prefacts) := by
  pair_intro
  · exact run_blocks m g
  · refine Idealize.ShloMosaic.θ_run_mono (Cert.FwdRefIdeal.Value.run m' g') fun r h c => ?_
    obtain ⟨h0, h1, k⟩ := h c
    have R := reals m hpre c
    obtain ⟨a0, a1, a2, a3⟩ := hagree c
    refine ⟨h0.trans ?_, h1.trans ?_, k⟩
    · rw [Cert.FwdRefIdeal.Read.val_main_v70_eq, a0, a1, a2, a3]
      exact ref_o R
    · rw [Cert.FwdRefIdeal.Read.val_main_v32_eq, a0, a1, a3]
      exact ref_rows R

end Cert.FwdIdeal.Sem
end
-- ==== Proof.Mix.Spec.lean ====
/- The gradient of the mixer's input: the gradient so far, and that through each of the projection's parts. -/
module
public import Idealize.ShloMosaic.PureOps
public import Idealize.ShloMosaic.Lib.Pointwise
@[expose] public section

noncomputable section

namespace Cert.Step.Mix

open Idealize.ShloMosaic

/-- A token's gradient in one column: of the convolution's factors, the forget gate's logits, the queries, the keys and the values. -/
def grad (X : FVec Ideal ⟨2, ![16384, 1024]⟩ .f32) (D : Fin 3 → FVec Ideal ⟨2, ![16384, 512]⟩ .f32) (L : FVec Ideal ⟨2, ![16384, 8]⟩ .f32)
    (E : FVec Ideal ⟨2, ![16384, 1536]⟩ .f32) (W : FVec Ideal ⟨2, ![1024, 3080]⟩ .f32) (t : Fin 16384) (i : Fin 1024) : EReal :=
  let part (n : Fin 3) : EReal := ∑ e : Fin 512, D n (ix2 t e) * W (ix2 i ⟨n.val * 512 + e.val, by omega⟩)
  X (ix2 t i) + (∑ j : Fin 1536, E (ix2 t j) * W (ix2 i ⟨1544 + j.val, by omega⟩))
    + (∑ l : Fin 8, L (ix2 t l) * W (ix2 i ⟨1536 + l.val, by omega⟩)) + part 0 + part 1 + part 2

/-- A sum over 128 lanes of which all but eight are zero. -/
theorem sum_lanes (f g : Fin 8 → EReal) :
    ∑ l : Fin 128, (if h : l.val < 8 then f ⟨l.val, h⟩ else 0) * (if h : l.val < 8 then g ⟨l.val, h⟩ else 0) = ∑ l, f l * g l := by
  show ∑ l : Fin (8 + 120), _ = _
  rw [Fin.sum_univ_add]
  have z : ∀ i : Fin 120, ¬ (Fin.natAdd 8 i).val < 8 := fun i => by simp
  simp only [z, dite_false, mul_zero, Finset.sum_const_zero, add_zero]
  refine Finset.sum_congr rfl fun l _ => ?_
  have h : (Fin.castAdd 120 l).val < 8 := l.isLt
  rw [dif_pos h, dif_pos h]
  rfl

/-- A sum over the projection's columns, by its parts. -/
theorem sum_columns (f : Fin 3080 → EReal) :
    ∑ j, f j = ((∑ e : Fin 512, f ⟨0 * 512 + e.val, by omega⟩) + (∑ e : Fin 512, f ⟨1 * 512 + e.val, by omega⟩) + ∑ e : Fin 512, f ⟨2 * 512 + e.val, by omega⟩)
      + (∑ l : Fin 8, f ⟨1536 + l.val, by omega⟩) + ∑ j : Fin 1536, f ⟨1544 + j.val, by omega⟩ := by
  show ∑ j : Fin (512 + 512 + 512 + 8 + 1536), f j = _
  rw [Fin.sum_univ_add, Fin.sum_univ_add, Fin.sum_univ_add, Fin.sum_univ_add]
  refine congrArg₂ (· + ·) (congrArg₂ (· + ·) (congrArg₂ (· + ·) (congrArg₂ (· + ·) ?_ ?_) ?_) ?_) ?_ <;>
    exact Finset.sum_congr rfl fun e _ => congrArg f (Fin.ext (by simp; try omega))

end Cert.Step.Mix
end
-- ==== Proof.Mix.Kern.lean ====
/- The kernel of the mixer's input gradient: what it leaves in its result. -/
module
public import proofs.«01_k».proof.Proof.Gen.MixIdeal.Value
public import proofs.«01_k».proof.Proof.Mix.Spec
public import proofs.«01_k».proof.Proof.Pieces
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384

noncomputable section

namespace Cert.MixIdeal.Sem

open Cert.MixIdeal Cert.MixIdeal.Gen Idealize.ShloMosaic Idealize.ShloMosaic.TcCoe Idealize.SL.Sem
open Cert.Step.Mix

variable (m : (ℓ : Loc nD τ sig) → Buf (Elt Ideal) ℓ) (c : Dev nD)

/-- The gradient so far. -/
def X : FVec Ideal S16384x1024 .f32 := m ((c : Thread nD τ).loc main_arg0)
/-- The gradients of the queries, the keys and the values. -/
def D (n : Fin 3) : FVec Ideal S16384x512 .f32 :=
  ![m ((c : Thread nD τ).loc main_arg1), m ((c : Thread nD τ).loc main_arg2), m ((c : Thread nD τ).loc main_arg3)] n
/-- The gradient of the forget gate's logits. -/
def L : FVec Ideal S16384x8 .f32 := m ((c : Thread nD τ).loc main_arg4)
/-- The gradient of the convolution's three factors. -/
def E : FVec Ideal S16384x1536 .f32 := m ((c : Thread nD τ).loc main_arg5)
/-- The projection. -/
def W : FVec Ideal S1024x3080 .f32 := m ((c : Thread nD τ).loc main_arg6)

theorem pad_zero : FloatOps.sitofp (F := Ideal) .f32 (0#32) = (0 : EReal) := by
  show ((((0#32 : BitVec 32).toInt : ℝ)) : EReal) = 0
  simp

theorem qt_at (e : Fin 512) (t : Fin 16384) : V m c main_v9 (ix2 e t) = D m c 0 (ix2 t e) := by
  simp only [V, hostOps0, hostOps0_1, hostOps0_2, hostOps0_3, hostOps0_4, List.flatten_cons, List.flatten_nil, List.cons_append, List.nil_append, List.append_nil]
  entry_read
  pointwise
  rfl
theorem kt_at (e : Fin 512) (t : Fin 16384) : V m c main_v10 (ix2 e t) = D m c 1 (ix2 t e) := by
  simp only [V, hostOps0, hostOps0_1, hostOps0_2, hostOps0_3, hostOps0_4, List.flatten_cons, List.flatten_nil, List.cons_append, List.nil_append, List.append_nil]
  entry_read
  pointwise
  rfl
theorem vt_at (e : Fin 512) (t : Fin 16384) : V m c main_v11 (ix2 e t) = D m c 2 (ix2 t e) := by
  simp only [V, hostOps0, hostOps0_1, hostOps0_2, hostOps0_3, hostOps0_4, List.flatten_cons, List.flatten_nil, List.cons_append, List.nil_append, List.append_nil]
  entry_read
  pointwise
  rfl
theorem bch_at (t : Fin 16384) (j : Fin 1536) : V m c main_v12 (ix2 t j) = E m c (ix2 t j) := by
  simp only [V, hostOps0, hostOps0_1, hostOps0_2, hostOps0_3, hostOps0_4, List.flatten_cons, List.flatten_nil, List.cons_append, List.nil_append, List.append_nil]
  entry_read
  pointwise
  rfl
theorem f_at (t : Fin 16384) (l : Fin 128) : V m c main_v8 (ix2 t l) = if h : l.val < 8 then L m c (ix2 t ⟨l.val, h⟩) else 0 := by
  simp only [V, hostOps0, hostOps0_1, hostOps0_2, hostOps0_3, hostOps0_4, List.flatten_cons, List.flatten_nil, List.cons_append, List.nil_append, List.append_nil]
  entry_read
  simp -implicitDefEqProofs only [StableHlo.TRef.toBuf, StableHlo.TRef.ofBuf, cast_cast, cast_eq]
  pointwise [pad_zero]
  rfl
theorem wq_at (e : Fin 1536) (i : Fin 1024) : V m c main_v13 (ix2 e i) = W m c (ix2 i ⟨e.val, by omega⟩) := by
  simp only [V, hostOps0, hostOps0_1, hostOps0_2, hostOps0_3, hostOps0_4, List.flatten_cons, List.flatten_nil, List.cons_append, List.nil_append, List.append_nil]
  entry_read
  pointwise
  rfl
theorem wb_at (i : Fin 1024) (j : Fin 1536) : V m c main_v6 (ix2 i j) = W m c (ix2 i ⟨1544 + j.val, by omega⟩) := by
  simp only [V, hostOps0, hostOps0_1, hostOps0_2, hostOps0_3, hostOps0_4, List.flatten_cons, List.flatten_nil, List.cons_append, List.nil_append, List.append_nil]
  entry_read
  pointwise
  rfl
theorem wf_at (i : Fin 1024) (l : Fin 128) : V m c main_v4 (ix2 i l) = if h : l.val < 8 then W m c (ix2 i ⟨1536 + l.val, by omega⟩) else 0 := by
  simp only [V, hostOps0, hostOps0_1, hostOps0_2, hostOps0_3, hostOps0_4, List.flatten_cons, List.flatten_nil, List.cons_append, List.nil_append, List.append_nil]
  entry_read
  simp -implicitDefEqProofs only [StableHlo.TRef.toBuf, StableHlo.TRef.ofBuf, cast_cast, cast_eq]
  pointwise [pad_zero]
  rfl

theorem lt32 (t : Fin cfg0.N) : t.val < 32 := lt_of_lt_of_eq t.isLt (by decide +kernel)

theorem idx : ∀ t : Fin cfg0.N, win0_0.index t = ![t.val, 0] ∧ win0_1.index t = ![0, t.val] ∧ win0_2.index t = ![0, t.val] ∧ win0_3.index t = ![0, t.val]
    ∧ win0_4.index t = ![t.val, 0] ∧ win0_5.index t = ![t.val, 0] ∧ win0_6.index t = ![0, 0] ∧ win0_7.index t = ![0, 0] ∧ win0_8.index t = ![0, 0] ∧ win0_9.index t = ![t.val, 0] :=
  (by decide +kernel : ∀ t : Fin grid0.N, _)

variable (t : Fin cfg0.N) (r : Fin 512)

/-- The token of a point's row. -/
def row : Fin 16384 := ⟨t.val * 512 + r.val, by have := lt32 t; omega⟩

theorem X0_at (i : Fin 1024) : iblk m c 0 t (ix2 r i) = X m c (ix2 (row t r) i) := by
  unfold row
  refine Eq.trans ?_ (congrFun (V_main_arg0 m c) _)
  blk_point [iblk, idx t]
theorem X1_at (e : Fin 512) : iblk m c 1 t (ix2 e r) = V m c main_v9 (ix2 e (row t r)) := by
  unfold row
  blk_point [iblk, idx t]
theorem X2_at (e : Fin 512) : iblk m c 2 t (ix2 e r) = V m c main_v10 (ix2 e (row t r)) := by
  unfold row
  blk_point [iblk, idx t]
theorem X3_at (e : Fin 512) : iblk m c 3 t (ix2 e r) = V m c main_v11 (ix2 e (row t r)) := by
  unfold row
  blk_point [iblk, idx t]
theorem X4_at (j : Fin 1536) : iblk m c 4 t (ix2 r j) = V m c main_v12 (ix2 (row t r) j) := by
  unfold row
  blk_point [iblk, idx t]
theorem X5_at (l : Fin 128) : iblk m c 5 t (ix2 r l) = V m c main_v8 (ix2 (row t r) l) := by
  unfold row
  blk_point [iblk, idx t]
theorem X6_at (e : Fin 1536) (i : Fin 1024) : iblk m c 6 t (ix2 e i) = V m c main_v13 (ix2 e i) := by
  blk_point [iblk, idx t]
theorem X7_at (i : Fin 1024) (j : Fin 1536) : iblk m c 7 t (ix2 i j) = V m c main_v6 (ix2 i j) := by
  blk_point [iblk, idx t]
theorem X8_at (i : Fin 1024) (l : Fin 128) : iblk m c 8 t (ix2 i l) = V m c main_v4 (ix2 i l) := by
  blk_point [iblk, idx t]

theorem out_at (i : Fin 1024) :
    out0_9 (F := Ideal) (iblk m c 0 t) (iblk m c 1 t) (iblk m c 2 t) (iblk m c 3 t) (iblk m c 4 t) (iblk m c 5 t) (iblk m c 6 t) (iblk m c 7 t) (iblk m c 8 t) (ix2 r i)
      = grad (X m c) (D m c) (L m c) (E m c) (W m c) (row t r) i := by
  frame_out
  pointwise [k0_pay1, k0_pay2, k0_pay3, k0_pay4]
  have part (n : Fin 3) (x : FVec Ideal S512x512 .f32) (hx : ∀ e, x (ix2 e r) = D m c n (ix2 (row t r) e)) (o : Fin 512 → Fin 1536)
      (ho : ∀ e, (o e).val = n.val * 512 + e.val) :
      ∑ e, (x (ix2 e r) : EReal) * iblk m c 6 t (ix2 (o e) i) = ∑ e : Fin 512, D m c n (ix2 (row t r) e) * W m c (ix2 i ⟨n.val * 512 + e.val, by omega⟩) :=
    Finset.sum_congr rfl fun e _ => congrArg₂ (· * ·) (hx e)
      (((X6_at m c t _ i).trans (wq_at m c _ i)).trans (congrArg (fun z => W m c (ix2 i z)) (Fin.ext (ho e))))
  refine congrArg₂ (· + ·) (congrArg₂ (· + ·) (congrArg₂ (· + ·) (congrArg₂ (· + ·) (congrArg₂ (· + ·) (X0_at m c t r i) ?_) ?_)
    (part 0 _ (fun e => (X1_at m c t r e).trans (qt_at m c e _)) _ fun e => by simp))
    (part 1 _ (fun e => (X2_at m c t r e).trans (kt_at m c e _)) _ fun e => by simp))
    (part 2 _ (fun e => (X3_at m c t r e).trans (vt_at m c e _)) _ fun e => by simp)
  · exact Finset.sum_congr rfl fun j _ => congrArg₂ (· * ·) ((X4_at m c t r j).trans (bch_at m c _ j)) ((X7_at m c t i j).trans (wb_at m c i j))
  · refine Eq.trans (Finset.sum_congr rfl fun l _ => ?_) (sum_lanes (fun l => L m c (ix2 (row t r) l)) (fun l => W m c (ix2 i ⟨1536 + l.val, by omega⟩)))
    exact congrArg₂ (· * ·) ((X5_at m c t r l).trans (f_at m c _ l)) ((X8_at m c t i l).trans (wf_at m c i l))

/-- After the run the result is the gradient. -/
theorem final9 : (dats m 0 c).arrAt 9 cfg0.N = fun i => grad (X m c) (D m c) (L m c) (E m c) (W m c) (i 0) (i 1) := by
  refine (dats m 0 c).arrAt_eq_of_covers 9 _ (by decide +kernel) fun t hf y => ?_
  blk_simp
  rw [after0_9]
  idx_vars y
  refine (out_at m c t y0 y1).trans ?_
  refine congrArg₂ (grad (X m c) (D m c) (L m c) (E m c) (W m c)) (Fin.ext ?_) (Fin.ext ?_)
  · unfold row
    blk_ext [idx t]
  · blk_ext [idx t]

end Cert.MixIdeal.Sem
end
-- ==== Proof.Mix.Ref.lean ====
/- The reference of the mixer's input gradient: what it leaves in its result. -/
module
public import proofs.«01_k».proof.Proof.Gen.MixRefIdeal.Read
public import proofs.«01_k».proof.Proof.Mix.Spec
public import Idealize.ShloMosaic.Lib.Pointwise
public import Idealize.ShloMosaic.Lib.KernelVsHost
@[expose] public section

noncomputable section

namespace Cert.MixRefIdeal.Sem

open Cert.MixRefIdeal Cert.MixRefIdeal.Gen Cert.MixRefIdeal.Read Idealize.ShloMosaic
open Cert.Step.Mix

/-- An array laid among the columns of a wider one, read there. -/
theorem pad_cols {n w w' : ℕ} {α : Type} (lo hi : ℕ) (x : (⟨2, ![n, w]⟩ : Shape).Idx → α) (v : S_.Idx → α)
    (h : (⟨2, ![n, w]⟩ : Shape).Pads ![0, lo] ![0, hi] ![0, 0] ⟨2, ![n, w']⟩) (t : Fin n) (j : Fin w') :
    pad ⟨2, ![n, w']⟩ ![0, lo] ![0, hi] ![0, 0] x v h h_S_ (ix2 t j)
      = if h : lo ≤ j.val ∧ j.val < lo + w then x (ix2 t ⟨j.val - lo, by omega⟩) else v (Shape.Idx.first h_S_) := by
  split_ifs with hj
  · refine pad_apply_of_inside _ _ _ x v h h_S_ _ _ fun a => ?_
    fin_cases a
    · show t.val = 0 + t.val * (0 + 1)
      omega
    · show j.val = lo + (j.val - lo) * (0 + 1)
      omega
  · refine pad_apply_of_not_inside _ _ _ x v h h_S_ _ 1 fun hh => hj ?_
    have h1 : lo ≤ j.val := hh.1
    have h2 : (j.val - lo) / (0 + 1) < w := hh.2.2
    omega

variable (X : FVec Ideal S16384x1024 .f32) (Q K V : FVec Ideal S16384x512 .f32) (L : FVec Ideal S16384x8 .f32)
  (E : FVec Ideal S16384x1536 .f32) (W : FVec Ideal S1024x3080 .f32) (t : Fin 16384)

/-- The projection's gradient, by its columns. -/
theorem column (j : Fin 3080) :
    val_main_v15 (F := Ideal) Q K V L E (ix2 t j) = (if h0 : j.val < 512 then Q (ix2 t ⟨j.val, h0⟩) else if h1 : j.val < 1024 then K (ix2 t ⟨j.val - 512, by omega⟩)
      else if h2 : j.val < 1536 then V (ix2 t ⟨j.val - 1024, by omega⟩) else if h3 : j.val < 1544 then L (ix2 t ⟨j.val - 1536, by omega⟩)
      else E (ix2 t ⟨j.val - 1544, by omega⟩)) := by
  have := j.isLt
  have e : val_main_v15 (F := Ideal) Q K V L E (ix2 t j) = val_main_v7 (F := Ideal) E (ix2 t j) + val_main_v8 (F := Ideal) L (ix2 t j)
      + val_main_v10 (F := Ideal) V (ix2 t j) + val_main_v12 (F := Ideal) K (ix2 t j) + val_main_v14 (F := Ideal) Q (ix2 t j) := by
    rw [val_main_v15_apply, val_main_v13_apply, val_main_v11_apply, val_main_v9_apply]
    rfl
  have z : ∀ v : FVec Ideal S_ .f32, v = constant S_ .f32 0x00000000#32 → v (Shape.Idx.first h_S_) = (0 : EReal) := by
    rintro v rfl
    exact Ideal.ofBits_zero_f32
  rw [e, val_main_v7, val_main_v8, val_main_v10, val_main_v12, val_main_v14, pad_cols, pad_cols, pad_cols, pad_cols, pad_cols]
  rw [z (val_main_cst_0 (F := Ideal)) rfl, z (val_main_cst_1 (F := Ideal)) rfl, z (val_main_cst_2 (F := Ideal)) rfl,
    z (val_main_cst_3 (F := Ideal)) rfl, z (val_main_cst_4 (F := Ideal)) rfl]
  have out : ∀ (lo w : ℕ) (f : lo ≤ j.val ∧ j.val < lo + w → EReal), ¬ (lo ≤ j.val ∧ j.val < lo + w) → (if h : lo ≤ j.val ∧ j.val < lo + w then f h else 0) = 0 :=
    fun _ _ _ h => dif_neg h
  have hit : ∀ (lo w : ℕ) (f : lo ≤ j.val ∧ j.val < lo + w → EReal) (h : lo ≤ j.val ∧ j.val < lo + w), (if h : lo ≤ j.val ∧ j.val < lo + w then f h else 0) = f h :=
    fun _ _ _ h => dif_pos h
  by_cases h0 : j.val < 512
  · rw [out 1544 _ _ (by omega), out 1536 _ _ (by omega), out 1024 _ _ (by omega), out 512 _ _ (by omega), hit 0 _ _ (by omega), dif_pos h0]
    simp only [zero_add]
    rfl
  rw [dif_neg h0, out 0 _ _ (by omega), add_zero]
  by_cases h1 : j.val < 1024
  · rw [out 1544 _ _ (by omega), out 1536 _ _ (by omega), out 1024 _ _ (by omega), hit 512 _ _ (by omega), dif_pos h1]
    simp only [zero_add]
  rw [dif_neg h1, out 512 _ _ (by omega), add_zero]
  by_cases h2 : j.val < 1536
  · rw [out 1544 _ _ (by omega), out 1536 _ _ (by omega), hit 1024 _ _ (by omega), dif_pos h2]
    simp only [zero_add]
  rw [dif_neg h2, out 1024 _ _ (by omega), add_zero]
  by_cases h3 : j.val < 1544
  · rw [out 1544 _ _ (by omega), hit 1536 _ _ (by omega), dif_pos h3, zero_add]
  rw [dif_neg h3, out 1536 _ _ (by omega), add_zero, hit 1544 _ _ (by omega)]

theorem queries (j : Fin 3080) (e : Fin 512) (h : j.val = 0 * 512 + e.val) : val_main_v15 (F := Ideal) Q K V L E (ix2 t j) = Q (ix2 t e) := by
  rw [column, dif_pos (by omega)]
  exact congrArg (fun z => Q (ix2 t z)) (Fin.ext (by dsimp only; omega))

theorem keys (j : Fin 3080) (e : Fin 512) (h : j.val = 1 * 512 + e.val) : val_main_v15 (F := Ideal) Q K V L E (ix2 t j) = K (ix2 t e) := by
  rw [column, dif_neg (by omega), dif_pos (by omega)]
  exact congrArg (fun z => K (ix2 t z)) (Fin.ext (by dsimp only; omega))

theorem values (j : Fin 3080) (e : Fin 512) (h : j.val = 2 * 512 + e.val) : val_main_v15 (F := Ideal) Q K V L E (ix2 t j) = V (ix2 t e) := by
  rw [column, dif_neg (by omega), dif_neg (by omega), dif_pos (by omega)]
  exact congrArg (fun z => V (ix2 t z)) (Fin.ext (by dsimp only; omega))

theorem logits (j : Fin 3080) (l : Fin 8) (h : j.val = 1536 + l.val) : val_main_v15 (F := Ideal) Q K V L E (ix2 t j) = L (ix2 t l) := by
  rw [column, dif_neg (by omega), dif_neg (by omega), dif_neg (by omega), dif_pos (by omega)]
  exact congrArg (fun z => L (ix2 t z)) (Fin.ext (by dsimp only; omega))

theorem factors (j : Fin 3080) (f : Fin 1536) (h : j.val = 1544 + f.val) : val_main_v15 (F := Ideal) Q K V L E (ix2 t j) = E (ix2 t f) := by
  rw [column, dif_neg (by omega), dif_neg (by omega), dif_neg (by omega), dif_neg (by omega)]
  exact congrArg (fun z => E (ix2 t z)) (Fin.ext (by dsimp only; omega))

theorem out_at (i : Fin 1024) : val_main_v17 (F := Ideal) X Q K V L E W (ix2 t i) = grad X ![Q, K, V] L E W t i := by
  have e : val_main_v16 (F := Ideal) Q K V L E W (ix2 t i) = ∑ j, val_main_v15 (F := Ideal) Q K V L E (ix2 t j) * W (ix2 i j) := by
    rw [val_main_v16_apply]
    refine Finset.sum_congr rfl fun k _ => congrArg₂ (· * ·) (congrArg (val_main_v15 (F := Ideal) Q K V L E) (funext fun a => ?_)) (congrArg W (funext fun a => ?_)) <;>
      exact match a with | ⟨0, _⟩ => rfl | ⟨1, _⟩ => rfl
  rw [val_main_v17_apply, e, sum_columns]
  refine Eq.trans (congrArg (X (ix2 t i) + ·) (congrArg₂ (· + ·) (congrArg₂ (· + ·) (congrArg₂ (· + ·) (congrArg₂ (· + ·)
    (Finset.sum_congr rfl fun e _ => congrArg (· * _) (queries Q K V L E t _ e rfl))
    (Finset.sum_congr rfl fun e _ => congrArg (· * _) (keys Q K V L E t _ e rfl)))
    (Finset.sum_congr rfl fun e _ => congrArg (· * _) (values Q K V L E t _ e rfl)))
    (Finset.sum_congr rfl fun l _ => congrArg (· * _) (logits Q K V L E t _ l rfl)))
    (Finset.sum_congr rfl fun f _ => congrArg (· * _) (factors Q K V L E t _ f rfl)))) ?_
  show _ = X (ix2 t i) + (∑ f : Fin 1536, E (ix2 t f) * W (ix2 i ⟨1544 + f.val, by omega⟩))
    + (∑ l : Fin 8, L (ix2 t l) * W (ix2 i ⟨1536 + l.val, by omega⟩)) + (∑ e : Fin 512, Q (ix2 t e) * W (ix2 i ⟨0 * 512 + e.val, by omega⟩))
    + (∑ e : Fin 512, K (ix2 t e) * W (ix2 i ⟨1 * 512 + e.val, by omega⟩)) + ∑ e : Fin 512, V (ix2 t e) * W (ix2 i ⟨2 * 512 + e.val, by omega⟩)
  generalize (∑ f : Fin 1536, E (ix2 t f) * W (ix2 i ⟨1544 + f.val, by omega⟩)) = s1
  generalize (∑ l : Fin 8, L (ix2 t l) * W (ix2 i ⟨1536 + l.val, by omega⟩)) = s2
  generalize (∑ e : Fin 512, Q (ix2 t e) * W (ix2 i ⟨0 * 512 + e.val, by omega⟩)) = s3
  generalize (∑ e : Fin 512, K (ix2 t e) * W (ix2 i ⟨1 * 512 + e.val, by omega⟩)) = s4
  generalize (∑ e : Fin 512, V (ix2 t e) * W (ix2 i ⟨2 * 512 + e.val, by omega⟩)) = s5
  show X (ix2 t i) + (s3 + s4 + s5 + s2 + s1) = X (ix2 t i) + s1 + s2 + s3 + s4 + s5
  abel

end Cert.MixRefIdeal.Sem
end
-- ==== Proof.Mix.Claim.lean ====
/- The claim of the mixer's input gradient: both programs leave the same gradient, of any arguments. -/
module
public import proofs.«01_k».proof.Defs
public import proofs.«01_k».proof.Proof.Gen.Mix
public import proofs.«01_k».proof.Proof.Gen.Mix.Frame
public import proofs.«01_k».proof.Proof.Gen.MixIdeal
public import proofs.«01_k».proof.Proof.Gen.MixRefIdeal
public import proofs.«01_k».proof.Proof.Gen.MixRefIdeal.Run
public import proofs.«01_k».proof.Proof.Mix.Kern
public import proofs.«01_k».proof.Proof.Mix.Ref
@[expose] public section

noncomputable section

namespace Cert.Step.Mix

open Idealize.ShloMosaic Idealize.SL.Sem

theorem algebraic : Cert.algebraic_MixIdeal_MixRefIdeal (hMixIdeal := Cert.MixIdeal.Gen.facts)
    (hMixRefIdeal := Cert.MixRefIdeal.Gen.facts) := by
  pair_intro
  · run_from Cert.MixIdeal.Value.run_blocks m g
  · run_from Cert.MixRefIdeal.Value.run m' g'
    rw [Cert.MixIdeal.Sem.final9, Cert.MixRefIdeal.Read.val_main_v17_eq]
    funext i
    exact (congrArg _ (ix2_eta i).symm).trans (Cert.MixRefIdeal.Sem.out_at _ _ _ _ _ _ _ (i 0) (i 1))

end Cert.Step.Mix
end
-- ==== Proof.Cum.Spec.lean ====
/- The forget gate's cumulative log: the sum of the gate's log-sigmoids up to a row, in units of log 2. -/
module
public import proofs.«01_k».proof.Proof.Softplus
public import proofs.«01_k».proof.Proof.Windows
public import proofs.«01_k».proof.Proof.Words
@[expose] public section

noncomputable section

namespace Cert.Step.Cum

open Idealize.ShloMosaic

/-- The log-sigmoid as the kernel computes it. -/
def logsig (x : EReal) : EReal := min x 0 - Ideal.log1p (Ideal.exp (0 - max x (-x)))

/-- The logarithm's part is a real number. -/
theorem tail_real (x : EReal) : ∃ r : ℝ, Ideal.log1p (Ideal.exp (-(max x (-x)))) = (r : EReal) := by
  have z : ∃ r : ℝ, Ideal.log1p (Ideal.exp ⊥) = (r : EReal) := by
    refine ⟨Real.log 1, ?_⟩
    rw [Ideal.exp_bot, Ideal.log1p, add_zero, ← EReal.coe_one, Ideal.log_coe, if_neg (by norm_num)]
  induction x using EReal.rec with
  | bot => rw [EReal.neg_bot, max_eq_right bot_le, EReal.neg_top]; exact z
  | top => rw [EReal.neg_top, max_eq_left bot_le, EReal.neg_top]; exact z
  | coe r =>
    have h : 0 < 1 + Real.exp (-(max r (-r))) := by positivity
    refine ⟨Real.log (1 + Real.exp (-(max r (-r)))), ?_⟩
    rw [show (max (r : EReal) (-(r : EReal))) = ((max r (-r) : ℝ) : EReal) by
      rw [← EReal.coe_neg, ← EReal.coe_strictMono.monotone.map_max], ← EReal.coe_neg, Ideal.exp_coe, Ideal.log1p,
      ← EReal.coe_one, ← EReal.coe_add, Ideal.log_coe, if_neg (not_le.mpr h)]

/-- The negated softplus of the negated argument is the log-sigmoid. -/
theorem neg_softplus (x : EReal) : -(softplus (-x)) = logsig x := by
  obtain ⟨r, hr⟩ := tail_real x
  rw [softplus, logsig, neg_neg, max_comm (-x) x, zero_sub, hr, EReal.neg_add (Or.inr (EReal.coe_ne_top r)) (Or.inr (EReal.coe_ne_bot r))]
  refine congrArg (· - (r : EReal)) ?_
  rcases le_total x 0 with h | h
  · rw [min_eq_left h, max_eq_left (by simpa using EReal.neg_le_neg_iff.mpr h), neg_neg]
  · rw [min_eq_right h, max_eq_right (by simpa using EReal.neg_le_neg_iff.mpr h), neg_zero]

/-- The gate of a head's lane at a row, with its bias; zero past the eight heads. -/
def gate (P : Fin 16384 → Fin 3080 → EReal) (B : Fin 8 → EReal) (l : Fin 128) (n : ℕ) : EReal :=
  if h : n < 16384 ∧ l.val < 8 then P ⟨n, h.1⟩ ⟨1536 + l.val, by omega⟩ + B ⟨l.val, h.2⟩ else 0

/-- The sum of the log-sigmoids of the rows before `n`. -/
def before (f : ℕ → EReal) (n : ℕ) : EReal := ∑ i ∈ Finset.range n, logsig (f i)

/-- The cumulative log, in units of log 2. -/
def bias (f : ℕ → EReal) (n : ℕ) : EReal := before f (n + 1) * (((Real.log 2)⁻¹ : ℝ) : EReal)

/-- The rows of a block up to its `r`-th, picked by a mask, over the rows before the block. -/
theorem before_block (f : ℕ → EReal) (s : ℕ) (r : Fin 512) :
    (∑ k : Fin 512, if k.val ≤ r.val then logsig (f (s + k.val)) else 0) + before f s = before f (s + r.val + 1) := by
  rw [before, before, add_assoc s, Finset.sum_range_add, add_comm]
  refine congrArg (_ + ·) ?_
  rw [Fin.sum_univ_eq_sum_range (fun k => if k ≤ r.val then logsig (f (s + k)) else 0) 512, ← Finset.sum_filter]
  refine Finset.sum_congr (Finset.ext fun k => ?_) fun _ _ => rfl
  have := r.isLt
  simp only [Finset.mem_filter, Finset.mem_range]
  omega

/-- A choice by one small word being at most another. -/
theorem sel_sle {α : Type} (a b : ℕ) (ha : a < 2 ^ 31) (hb : b < 2 ^ 31) (x y : α) :
    Scalar.select (IntOp.cmpi .sle (BitVec.ofNat 32 a) (BitVec.ofNat 32 b)) x y = if a ≤ b then x else y := by
  have e : (IntOp.cmpi .sle (BitVec.ofNat 32 a) (BitVec.ofNat 32 b) = 1) = (a ≤ b) := by
    rw [show (1 : BitVec 1) = 1#1 from rfl, IntOp.cmpi_sle, toInt_ofNat ha, toInt_ofNat hb]; simp
  simp only [Scalar.select, e]

/-- Rows up to a row: the window padded above. -/
theorem sum_above (N : ℕ) (g : ℕ → EReal) (j : ℕ) (hj : j < N) :
    (∑ a : Fin N, if N - 1 ≤ j + a.val then g (j + a.val - (N - 1)) else 0) = ∑ i ∈ Finset.range (j + 1), g i := by
  rw [Fin.sum_univ_eq_sum_range (fun a => if N - 1 ≤ j + a then g (j + a - (N - 1)) else 0) N, ← Finset.sum_filter]
  refine Finset.sum_bij' (fun a _ => j + a - (N - 1)) (fun i _ => i + (N - 1) - j) ?_ ?_ ?_ ?_ ?_ <;> intro a ha <;>
    simp only [Finset.mem_filter, Finset.mem_range] at ha ⊢ <;> omega

/-- The host's sum over windows of `N` rows and one lane, the array padded with zeros above. -/
theorem window_above {N L : ℕ} (lo : ℕ) (hN : lo + 1 = N) (x : (⟨2, ![N, L]⟩ : Shape).Idx → EReal)
    (h : (⟨2, ![N, L]⟩ : Shape).ReduceWindows ![N, 1] ![1, 1] ![lo, 0] ![0, 0] ⟨2, ![N, L]⟩) (g : ℕ → EReal) (j : Fin N) (l : Fin L)
    (hg : ∀ n : Fin N, x (ix2 n l) = g n.val) :
    Ideal.hostReduceWindowAdd ![N, 1] ![1, 1] ![lo, 0] ![0, 0] h x 0 (ix2 j l) = ∑ i ∈ Finset.range (j.val + 1), g i := by
  unfold Ideal.hostReduceWindowAdd Host.reduceWindow
  rw [foldl_add, zero_add, ← sum_above N g j.val j.isLt,
    ← Equiv.sum_comp ((⟨2, ![N, 1]⟩ : Shape).rowMajor), sum_idx2]
  simp only [Equiv.symm_apply_apply, Fin.sum_univ_one]
  refine Finset.sum_congr rfl fun a _ => ?_
  have hj := j.isLt
  have ha := a.isLt
  by_cases hlt : N - 1 ≤ j.val + a.val
  · rw [if_pos hlt, dif_pos ?_]
    · refine Eq.trans (congrArg x ?_) (hg ⟨j.val + a.val - (N - 1), by omega⟩)
      funext b
      apply Fin.ext
      match b with
      | ⟨0, _⟩ => show j.val * 1 + a.val - lo = j.val + a.val - (N - 1); omega
      | ⟨1, _⟩ => show l.val * 1 + 0 - 0 = l.val; omega
    · intro b
      match b with
      | ⟨0, _⟩ => show lo ≤ j.val * 1 + a.val ∧ j.val * 1 + a.val - lo < N; omega
      | ⟨1, _⟩ => show 0 ≤ l.val * 1 + 0 ∧ l.val * 1 + 0 - 0 < L; have := l.isLt; omega
  · rw [if_neg hlt, dif_neg ?_]
    intro hin
    have h0 : lo ≤ j.val * 1 + a.val ∧ j.val * 1 + a.val - lo < N := hin 0
    omega

end Cert.Step.Cum
end
-- ==== Proof.Cum.Kern.lean ====
/- The kernel of the forget gate's cumulative log: what each point leaves, and the result after the run. -/
module
public import proofs.«01_k».proof.Proof.Gen.CumIdeal.Value
public import proofs.«01_k».proof.Proof.Cum.Spec
public import Idealize.ShloMosaic.Lib.WritesUnit
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384

noncomputable section

namespace Cert.CumIdeal.Sem

open Cert.CumIdeal Cert.CumIdeal.Gen Idealize.ShloMosaic Idealize.ShloMosaic.TcCoe Idealize.SL.Sem
open Idealize.ShloMosaic.Pipeline (Dat)
open Cert.Step Cert.Step.Cum

variable (m : (ℓ : Loc nD τ sig) → Buf (Elt Ideal) ℓ) (c : Dev nD)

/-- The projection. -/
def P (n : Fin 16384) (j : Fin 3080) : EReal := m ((c : Thread nD τ).loc main_arg0) (ix2 n j)
/-- The gate's bias. -/
def B (j : Fin 8) : EReal := m ((c : Thread nD τ).loc main_arg1) (ix2 0 j)
/-- The gate of a lane, by its rows. -/
def G (l : Fin 128) : ℕ → EReal := gate (P m c) (B m c) l

theorem N32 : cfg0.N = 32 := by decide +kernel

theorem lt32 (t : Fin cfg0.N) : t.val < 32 := lt_of_lt_of_eq t.isLt N32

theorem idx : ∀ t : Fin cfg0.N, win0_0.index t = ![t.val, 12] ∧ win0_1.index t = ![0, 0] ∧ win0_2.index t = ![t.val, 0] :=
  (by decide +kernel : ∀ t : Fin grid0.N, _)

theorem zero32 : FloatOps.sitofp (F := Ideal) .f32 (0#32) = (0 : EReal) := by
  show ((((0#32 : BitVec 32).toInt : ℝ)) : EReal) = 0
  simp

theorem gate_at (n : Fin 16384) (l : Fin 128) :
    V m c main_v3 (ix2 n ⟨1536 + l.val, by omega⟩) = if h : l.val < 8 then P m c n ⟨1536 + l.val, by omega⟩ else 0 := by
  simp only [V, hostOps0, hostOps0_1, hostOps0_2, hostOps0_3, List.flatten_cons, List.flatten_nil, List.cons_append, List.nil_append, List.append_nil]
  entry_read
  simp -implicitDefEqProofs only [StableHlo.TRef.toBuf, StableHlo.TRef.ofBuf, cast_cast, cast_eq]
  pointwise [zero32]
  rfl

theorem bias_at (l : Fin 128) :
    V m c main_v4 (ix2 0 l) = if h : l.val < 8 then B m c ⟨l.val, h⟩ else 0 := by
  simp only [V, hostOps0, hostOps0_1, hostOps0_2, hostOps0_3, List.flatten_cons, List.flatten_nil, List.cons_append, List.nil_append, List.append_nil]
  entry_read
  simp -implicitDefEqProofs only [StableHlo.TRef.toBuf, StableHlo.TRef.ofBuf, cast_cast, cast_eq]
  pointwise [zero32]
  rfl

variable (t : Fin cfg0.N) (r : Fin 512) (l : Fin 128)

theorem row_lt : t.val * 512 + r.val < 16384 := by have := lt32 t; omega

theorem X0_at : iblk m c 0 t (ix2 r l) = V m c main_v3 (ix2 ⟨t.val * 512 + r.val, row_lt t r⟩ ⟨1536 + l.val, by omega⟩) := by
  blk_point [iblk, idx t]
theorem X1_at : iblk m c 1 t (ix2 0 l) = V m c main_v4 (ix2 0 l) := by
  blk_point [iblk, idx t]

/-- A row's gate: the block's row and the bias. -/
theorem row_at (a b : EReal) (ha : iblk m c 0 t (ix2 r l) = a) (hb : iblk m c 1 t (ix2 0 l) = b) :
    a + b = G m c l (t.val * 512 + r.val) := by
  rw [X0_at, gate_at] at ha
  rw [X1_at, bias_at] at hb
  subst ha hb
  rw [G, gate]
  have h := row_lt t r
  by_cases hl : l.val < 8
  · simp only [h, hl, and_self, dite_true]
  · simp only [hl, and_false, dite_false, add_zero]

/-- The sums up to a row of the block, over what the block before left. -/
theorem pay2_at (b : FVec Ideal S1x128 .f32) (hb : b (ix2 0 l) = before (G m c l) (t.val * 512)) :
    k0_pay2 (F := Ideal) (iblk m c 0 t) (iblk m c 1 t) b (ix2 r l) = before (G m c l) (t.val * 512 + r.val + 1) := by
  rw [← before_block, ← hb]
  pointwise [k0_pay2]
  refine congrArg (· + _) (Finset.sum_congr rfl fun k _ => ?_)
  rw [sel_sle _ _ (by omega) (by omega)]
  rw [row_at m c t k l _ _ rfl rfl]
  split_ifs <;> rfl

/-- What a point leaves in its block. -/
theorem block_at (b : FVec Ideal S1x128 .f32) (hb : b (ix2 0 l) = before (G m c l) (t.val * 512)) :
    k0_pay3 (F := Ideal) (iblk m c 0 t) (iblk m c 1 t) b (ix2 r l) = bias (G m c l) (t.val * 512 + r.val) := by
  unfold k0_pay3 bias
  have e := pay2_at m c t r l b hb
  generalize k0_pay2 (F := Ideal) (iblk m c 0 t) (iblk m c 1 t) b = z at e
  rw [← e, ← (IdealRules.named_const.ideal_named_scalar _ _ _ _ rfl : Named.named (F := Ideal) Cert.CumIdeal.κ "log2e" (φ := .f32) 0x3FB8AA3B#32 = (((Real.log 2)⁻¹ : ℝ) : EReal))]
  pointwise

/-- What a point carries out. -/
theorem carry_at (b : FVec Ideal S1x128 .f32) (hb : b (ix2 0 l) = before (G m c l) (t.val * 512)) :
    k0_pay4 (F := Ideal) (iblk m c 0 t) (iblk m c 1 t) b (ix2 0 l) = before (G m c l) (t.val * 512 + 512) := by
  refine Eq.trans ?_ (pay2_at m c t 511 l b hb)
  unfold k0_pay4
  generalize k0_pay2 (F := Ideal) (iblk m c 0 t) (iblk m c 1 t) b = z
  pointwise

/-- The first block begins with nothing. -/
theorem start (h : t.val % 32 = 0) : (k0_pay1 (F := Ideal)) (ix2 0 l) = before (G m c l) (t.val * 512) := by
  have ht := lt32 t
  have e : t.val * 512 = 0 := by omega
  rw [e, before, Finset.sum_range_zero]
  pointwise [k0_pay1]

/-- After a point the carry holds the sum over the rows so far. -/
theorem carry : ∀ n (h : n < cfg0.N), (outsAt0 m c n h).2 (ix2 0 l) = before (G m c l) (n * 512 + 512)
  | 0, h => by
    rw [outsAt0_A m c ⟨0, h⟩ rfl]
    frame_out
    exact carry_at m c ⟨0, h⟩ l _ (start m c _ l rfl)
  | n + 1, h => by
    have ht := lt32 ⟨n + 1, h⟩
    rw [outsAt0_B m c ⟨n + 1, h⟩ (by simp only at ht ⊢; omega)]
    frame_out
    refine carry_at m c ⟨n + 1, h⟩ l _ ((congrFun (Memref.IsWhole.read_unread _ _) _).trans <| (carry n (Nat.lt_of_succ_lt h)).trans (congrArg _ ?_))
    simp only at ht ⊢
    omega

/-- What a later point carries in. -/
theorem carried_in (h : ¬ t.val % 32 = 0) (h' : t.val - 1 < cfg0.N) :
    (outsAt0 m c (t.val - 1) h').2 (ix2 0 l) = before (G m c l) (t.val * 512) := by
  have ht := lt32 t
  refine (carry m c l _ h').trans (congrArg _ ?_)
  omega

/-- What a point leaves in its block of the result. -/
theorem out2 : (outsAt0 m c t.val t.isLt).1 (ix2 r l) = bias (G m c l) (t.val * 512 + r.val) := by
  by_cases h : t.val % 32 = 0
  · rw [outsAt0_A m c t h]
    frame_out
    exact block_at m c t r l _ (start m c t l h)
  · rw [outsAt0_B m c t h]
    frame_out
    exact block_at m c t r l _ ((congrFun (Memref.IsWhole.read_unread _ _) _).trans (carried_in m c t l h _))

/-- After the run the result is the cumulative log. -/
theorem final2 : (dats m 0 c).arrAt 2 cfg0.N = fun i => bias (G m c (i 1)) (i 0).val := by
  refine (dats m 0 c).arrAt_eq_of_covers 2 _ (by decide +kernel) fun t hf y => ?_
  blk_simp
  rw [after0_2]
  idx_vars y
  refine (out2 m c t y0 y1).trans ?_
  have e1 : ∀ (a b : Fin 128) (n k : ℕ), a = b → n = k → bias (G m c a) n = bias (G m c b) k := by
    rintro a _ n _ rfl rfl; rfl
  refine e1 _ _ _ _ (Fin.ext ?_) ?_
  · blk_ext [idx t]
  · blk_ext [idx t]

end Cert.CumIdeal.Sem
end
-- ==== Proof.Cum.Ref.lean ====
/- The reference of the forget gate's cumulative log: what it leaves in its result. -/
module
public import proofs.«01_k».proof.Proof.Gen.CumRefIdeal.Read
public import proofs.«01_k».proof.Proof.Cum.Spec
public import Idealize.ShloMosaic.Lib.Pointwise
@[expose] public section
set_option maxRecDepth 16384

noncomputable section

namespace Cert.CumRefIdeal.Sem

open Cert.CumRefIdeal Cert.CumRefIdeal.Gen Cert.CumRefIdeal.Read Idealize.ShloMosaic
open Cert.Step.Cum

variable (P : FVec Ideal S16384x3080 .f32) (B : FVec Ideal S1x8 .f32)

/-- The gate at a row. -/
theorem gate_at (n : Fin 16384) (l : Fin 128) :
    val_main_v4 (F := Ideal) P B (ix2 n l) = gate (fun i j => P (ix2 i j)) (fun j => B (ix2 0 j)) l n.val := by
  have z : val_main_call0_v0 (F := Ideal) (Shape.Idx.first h_S_) = 0 := by
    show ((((0#32 : BitVec 32).toInt : ℝ)) : EReal) = 0
    simp
  have z' : val_main_call1_v0 (F := Ideal) (Shape.Idx.first h_S_) = 0 := by
    show ((((0#32 : BitVec 32).toInt : ℝ)) : EReal) = 0
    simp
  pointwise [val_main_v4, val_main_v3, val_main_v2, val_main_v1, val_main_v0]
  rw [z, z', gate]
  by_cases h : l.val < 8
  · simp only [n.isLt, h, and_self, dite_true]
  · simp only [h, and_false, dite_false, add_zero]

/-- Its log-sigmoid. -/
theorem log_at (n : Fin 16384) (l : Fin 128) (x : EReal) (hx : val_main_v4 (F := Ideal) P B (ix2 n l) = x) :
    val_main_v5 (F := Ideal) P B (ix2 n l) = logsig x := by
  subst hx
  pointwise [val_main_v5, val_main_call2_v1, val_main_call2_call0_v11, val_main_call2_call0_v10, val_main_call2_call0_v9, val_main_call2_call0_v8, val_main_call2_call0_v7, val_main_call2_call0_v6, val_main_call2_call0_v5, val_main_call2_call0_v4, val_main_call2_call0_v3, val_main_call2_call0_v2, val_main_call2_call0_v1, val_main_call2_call0_v0, val_main_call2_v0, val_main_call2_call0_cst]
  simp only [ne_eq, not_true_eq_false, if_false, Ideal.absf_def]
  exact neg_softplus _

/-- The factor: the inverse of log 2. -/
theorem factor (i : S16384x128.Idx) : val_main_v9 (F := Ideal) i = (((Real.log 2)⁻¹ : ℝ) : EReal) := by
  have two : Ideal.ofBits .f32 0x40000000#32 = ((2 : ℝ) : EReal) := by
    simp [Ideal.ofBits, Ideal.ieee]
    rw [← EReal.coe_mul]
    exact congrArg Real.toEReal (by norm_num)
  rw [val_main_v9_apply, val_main_v8_apply, val_main_v7_apply, val_main_cst_apply, val_main_cst_1_apply]
  show Ideal.div (Ideal.ofBits .f32 0x3F800000#32) (Ideal.log (Ideal.ofBits .f32 0x40000000#32)) = _
  rw [two, Ideal.ofBits_one_f32, Ideal.log_coe, if_neg (by norm_num), ← EReal.coe_one, Ideal.div_coe, ← EReal.coe_mul, one_mul]
  · exact congrArg Real.toEReal (one_div _)
  · exact (Real.log_pos one_lt_two).ne'

theorem out_at (n : Fin 16384) (l : Fin 128) :
    val_main_v10 (F := Ideal) P B (ix2 n l) = bias (gate (fun i j => P (ix2 i j)) (fun j => B (ix2 0 j)) l) n.val := by
  rw [val_main_v10_apply, factor]
  refine congrArg (fun z : EReal => z * (((Real.log 2)⁻¹ : ℝ) : EReal)) ?_
  refine Eq.trans ?_ (window_above 16383 rfl (val_main_v5 (F := Ideal) P B) reduceWindows_S16384x128_S16384x128_w16384s1p16383_0_w1s1p0_0
    (fun i => logsig (gate (fun i j => P (ix2 i j)) (fun j => B (ix2 0 j)) l i)) n l fun i => log_at P B i l _ (gate_at P B i l))
  have e : val_main_call3_call0_v0 (F := Ideal) (Shape.Idx.first h_S_) = 0 := by
    rw [val_main_call3_call0_v0_apply, val_main_call3_call0_cst_apply]; exact Ideal.ofBits_zero_f32
  unfold val_main_v6 Host.reduceWindowAdd
  rw [Ideal.hostReduceWindowAdd_def, e]

end Cert.CumRefIdeal.Sem
end
-- ==== Proof.Cum.Claim.lean ====
/- The claim of the forget gate's cumulative log: both programs leave the same sums, of any arguments. -/
module
public import proofs.«01_k».proof.Defs
public import proofs.«01_k».proof.Proof.Gen.Cum
public import proofs.«01_k».proof.Proof.Gen.Cum.Frame
public import proofs.«01_k».proof.Proof.Gen.CumIdeal
public import proofs.«01_k».proof.Proof.Gen.CumRefIdeal
public import proofs.«01_k».proof.Proof.Gen.CumRefIdeal.Run
public import proofs.«01_k».proof.Proof.Cum.Kern
public import proofs.«01_k».proof.Proof.Cum.Ref
@[expose] public section
set_option maxRecDepth 16384

noncomputable section

namespace Cert.Step.Cum

open Idealize.ShloMosaic Idealize.SL.Sem

theorem algebraic : Cert.algebraic_CumIdeal_CumRefIdeal (hCumIdeal := Cert.CumIdeal.Gen.facts)
    (hCumRefIdeal := Cert.CumRefIdeal.Gen.facts) := by
  pair_intro
  · run_from Cert.CumIdeal.Value.run_blocks m g
  · refine (θ_run Cert.CumRefIdeal.defs _ _).mono (fun r h c => ⟨((h c).1.trans (Cert.CumRefIdeal.Read.val_main_v10_eq _ _)).trans ?_, (h c).2⟩) (Cert.CumRefIdeal.Value.run m' g')
    refine Eq.trans ?_ (Cert.CumIdeal.Sem.final2 m c).symm
    rw [(hagree c).1, (hagree c).2]
    funext i
    exact (congrArg _ (ix2_eta i).symm).trans (Cert.CumRefIdeal.Sem.out_at _ _ (i 0) (i 1))

end Cert.Step.Cum
end
-- ==== Proof.Adam.Spec.lean ====
/- The optimiser's step at one entry: the two averages and the change of the weight. -/
module
public import proofs.«01_k».proof.Proof.Words
public import Idealize.ShloMosaic.Lib.Pointwise
@[expose] public section

noncomputable section

namespace Cert.Step.Adam

open Idealize.ShloMosaic

/-- The average of the gradients, with the step's gradient in it. -/
def mean (g m : EReal) : EReal := Ideal.ofBits .f32 0x3F666666#32 * m + Ideal.ofBits .f32 0x3DCCCCCD#32 * g

/-- The average of their squares, with the step's in it. -/
def square (g v : EReal) : EReal := Ideal.ofBits .f32 0x3F7FBE77#32 * v + Ideal.ofBits .f32 0x3A83126F#32 * (g * g)

/-- The change of the weight: minus the rate, times the corrected mean over the corrected root, and the decay. -/
def change (w g m v : EReal) : EReal :=
  Ideal.ofBits .f32 0xBA83126F#32 *
    (Ideal.div (Ideal.div (mean g m) (Ideal.ofBits .f32 0x3F26BD02#32))
        (Ideal.sqrt (Ideal.div (square g v) (Ideal.ofBits .f32 0x3C231ACC#32)) + Ideal.ofBits .f32 0x322BCC77#32)
      + Ideal.ofBits .f32 0x3C23D70A#32 * w)

/-- The half of the rows a point of the grid stands in, as the words of the program count it. -/
def halfOf (a : BitVec 32) : BitVec 32 :=
  Scalar.select
    (Scalar.andi
      (Scalar.cmpi .ne (Scalar.subi (Scalar.extui (Scalar.cmpi .sgt a 0#32)) (Scalar.extui (Scalar.cmpi .slt a 0#32)))
        (Scalar.subi (Scalar.extui (Scalar.cmpi .sgt 4#32 0#32)) (Scalar.extui (Scalar.cmpi .slt 4#32 0#32))))
      (Scalar.cmpi .ne (Scalar.remsi a 4#32) 0#32))
    (Scalar.subi (Scalar.divsi a 4#32) 1#32) (Scalar.divsi a 4#32)

theorem halfOf_eq : ∀ t : Fin 8, halfOf (BitVec.ofNat 32 t.val) = if t.val < 4 then 0#32 else 1#32 := by decide +kernel

/-- A word's last bit is zero or one. -/
theorem bit (d : BitVec 32) : IntOp.andi d 1#32 = 0#32 ∨ IntOp.andi d 1#32 = 1#32 := by
  show d &&& 1#32 = 0#32 ∨ d &&& 1#32 = 1#32
  have h : (d &&& 1#32).toNat = d.toNat % 2 := by
    rw [BitVec.toNat_and]
    exact Nat.and_one_is_mod _
  rcases Nat.mod_two_eq_zero_or_one d.toNat with e | e
  · exact .inl (BitVec.eq_of_toNat_eq (h.trans e))
  · exact .inr (BitVec.eq_of_toNat_eq (h.trans e))

/-- A selection by whether two words are the same. -/
theorem sel_same {α : Type} (a b : BitVec 32) (x y : α) :
    Scalar.select (Scalar.cmpi .eq a b) x y = if a = b then x else y := by
  by_cases h : a = b
  · subst h
    rw [if_pos rfl]
    simp [Scalar.select, Scalar.cmpi, IntOp.cmpi]
  · rw [if_neg h]
    have e : (a == b) = false := by simpa using h
    simp [Scalar.select, Scalar.cmpi, IntOp.cmpi, e]

end Cert.Step.Adam
end
-- ==== Proof.Adam.Kern.lean ====
/- The kernel of the optimiser: what each point leaves, and the results after the run. -/
module
public import proofs.«01_k».proof.Proof.Gen.AdamIdeal.Value
public import proofs.«01_k».proof.Proof.Adam.Spec
public import Idealize.ShloMosaic.Lib.WritesUnit
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384

noncomputable section

namespace Cert.AdamIdeal.Sem

open Cert.AdamIdeal Cert.AdamIdeal.Gen Idealize.ShloMosaic Idealize.ShloMosaic.TcCoe Idealize.SL.Sem
open Idealize.ShloMosaic.Pipeline (Dat)
open Cert.Step Cert.Step.Adam

variable (m : (ℓ : Loc nD τ sig) → Buf (Elt Ideal) ℓ) (c : Dev nD)

def G (n : Fin 1024) (j : Fin 1408) : EReal := m ((c : Thread nD τ).loc main_arg1) (ix2 n j)
def W (n : Fin 1024) (j : Fin 1408) : EReal := m ((c : Thread nD τ).loc main_arg0) (ix2 n j)
def M (n : Fin 1024) (j : Fin 1408) : EReal := m ((c : Thread nD τ).loc main_arg2) (ix2 n j)
def S (n : Fin 1024) (j : Fin 1408) : EReal := m ((c : Thread nD τ).loc main_arg3) (ix2 n j)
def core : BitVec 32 := IntOp.andi (m ((c : Thread nD τ).loc main_arg4) (ix1 0)) 1#32

theorem N8 : cfg0.N = 8 := by decide +kernel
theorem lt8 (t : Fin cfg0.N) : t.val < 8 := t.isLt.trans_eq N8

theorem idx : ∀ t : Fin cfg0.N, win0_0.index t = ![0] ∧ win0_1.index t = ![t.val, 0] ∧ win0_2.index t = ![t.val % 4, 0] ∧ win0_3.index t = ![t.val % 4, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] :=
  (by decide +kernel : ∀ t : Fin grid0.N, _)

/-- The core's bit, in its argument. -/
theorem core_at : V m c main_v1 (ix1 0) = core m c := by
  simp only [V, hostOps0, hostOps0_1, hostOps0_2, hostOps0_3, List.flatten_cons, List.flatten_nil, List.cons_append, List.nil_append, List.append_nil]
  entry_read
  pointwise
  rfl

/-- The core's own half of the gradient. -/
theorem mine_at (n : Fin 512) (l : Fin 1408) :
    V m c main_v9 (ix2 n l) = if core m c = 0#32 then G m c ⟨n.val, by omega⟩ l else G m c ⟨512 + n.val, by omega⟩ l := by
  simp only [V, hostOps0, hostOps0_1, hostOps0_2, hostOps0_3, List.flatten_cons, List.flatten_nil, List.cons_append, List.nil_append, List.append_nil]
  entry_read
  simp -implicitDefEqProofs only [StableHlo.TRef.toBuf, StableHlo.TRef.ofBuf, cast_cast, cast_eq]
  pointwise
  exact sel_same _ _ _ _

/-- The other core's. -/
theorem sib_at (n : Fin 512) (l : Fin 1408) :
    V m c main_v16 (ix2 n l) = if core m c = 0#32 then G m c ⟨512 + n.val, by omega⟩ l else G m c ⟨n.val, by omega⟩ l := by
  simp only [V, hostOps0, hostOps0_1, hostOps0_2, hostOps0_3, List.flatten_cons, List.flatten_nil, List.cons_append, List.nil_append, List.append_nil]
  entry_read
  simp -implicitDefEqProofs only [StableHlo.TRef.toBuf, StableHlo.TRef.ofBuf, cast_cast, cast_eq]
  pointwise
  exact sel_same _ _ _ _

variable (t : Fin cfg0.N) (r : Fin 128) (l : Fin 1408)

theorem row_lt : t.val * 128 + r.val < 1024 := by have := lt8 t; omega

theorem X0_at : iblk m c 0 t (ix1 0) = V m c main_v1 (ix1 0) := by
  blk_point [iblk, idx t]
theorem X1_at : iblk m c 1 t (ix2 r l) = W m c ⟨t.val * 128 + r.val, row_lt t r⟩ l := by
  blk_point [iblk, idx t]
theorem X2_at : iblk m c 2 t (ix2 r l) = V m c main_v9 (ix2 ⟨(t.val % 4) * 128 + r.val, by omega⟩ l) := by
  blk_point [iblk, idx t]
theorem X3_at : iblk m c 3 t (ix2 r l) = V m c main_v16 (ix2 ⟨(t.val % 4) * 128 + r.val, by omega⟩ l) := by
  blk_point [iblk, idx t]
theorem X4_at : iblk m c 4 t (ix2 r l) = M m c ⟨t.val * 128 + r.val, row_lt t r⟩ l := by
  blk_point [iblk, idx t]
theorem X5_at : iblk m c 5 t (ix2 r l) = S m c ⟨t.val * 128 + r.val, row_lt t r⟩ l := by
  blk_point [iblk, idx t]

/-- Whichever half the core holds, the block chosen is the gradient's at the point's rows. -/
theorem grad_at (b : BitVec 32) (hb : b = core m c) :
    k0_pay3 (F := Ideal) (grid0.coords t) b (iblk m c 2 t) (iblk m c 3 t) (ix2 r l) = G m c ⟨t.val * 128 + r.val, row_lt t r⟩ l := by
  have h8 := lt8 t
  have hc : ((grid0.coords t) 0).val = t.val := (by decide +kernel : ∀ t : Fin grid0.N, ((grid0.coords t) 0).val = t.val) t
  have e : k0_pay3 (F := Ideal) (grid0.coords t) b (iblk m c 2 t) (iblk m c 3 t) (ix2 r l)
      = if halfOf (BitVec.ofNat 32 ((grid0.coords t) 0).val) = b then iblk m c 2 t (ix2 r l) else iblk m c 3 t (ix2 r l) := by
    rw [← sel_same]
    unfold halfOf
    pointwise [k0_pay3]
  rw [e, hc, halfOf_eq ⟨t.val, h8⟩, X2_at, X3_at, mine_at, sib_at, hb]
  have g : ∀ (x y : Fin 1024), x = y → G m c x l = G m c y l := by rintro x _ rfl; rfl
  have ht := row_lt t r
  rcases bit (m ((c : Thread nD τ).loc main_arg4) (ix1 0)) with h | h <;>
  · rw [show core m c = _ from h]
    by_cases h4 : t.val < 4
    · simp only [h4, if_true, BitVec.reduceEq, if_false]
      exact g _ _ (Fin.ext (by dsimp only; omega))
    · simp only [h4, if_true, BitVec.reduceEq, if_false]
      exact g _ _ (Fin.ext (by dsimp only; omega))

theorem one_index (i j : S1.Idx) : i = j := by
  funext k
  have h : k = 0 := Subsingleton.elim _ _
  subst h
  exact Subsingleton.elim (α := Fin 1) _ _

theorem bit_at (i : (Rect.unit (s := S1) ![0] ![1] inb_S1_S1_0).shape.Idx) :
    View.ld (iblk m c 0 t) (Rect.unit (s := S1) ![0] ![1] inb_S1_S1_0) i = core m c := by
  rw [← core_at, ← X0_at m c t]
  exact congrArg (iblk m c 0 t) (one_index _ _)

/-- The four blocks a point leaves. -/
theorem out6 : (outsAt0 m c t).1 (ix2 r l) = G m c ⟨t.val * 128 + r.val, row_lt t r⟩ l := by
  unfold outsAt0
  frame_out
  exact grad_at m c t r l _ (bit_at m c t _)

theorem mean_at (b : BitVec 32) (hb : b = core m c) :
    k0_pay4 (F := Ideal) (grid0.coords t) b (iblk m c 2 t) (iblk m c 3 t) (iblk m c 4 t) (ix2 r l)
      = mean (G m c ⟨t.val * 128 + r.val, row_lt t r⟩ l) (M m c ⟨t.val * 128 + r.val, row_lt t r⟩ l) := by
  have e := grad_at m c t r l b hb
  unfold k0_pay4 mean
  rw [← e, ← X4_at]
  generalize k0_pay3 (F := Ideal) (grid0.coords t) b (iblk m c 2 t) (iblk m c 3 t) = z
  pointwise

theorem square_at (b : BitVec 32) (hb : b = core m c) :
    k0_pay1 (F := Ideal) (k0_pay3 (grid0.coords t) b (iblk m c 2 t) (iblk m c 3 t)) (k0_pay5 (iblk m c 5 t)) (ix2 r l)
      = square (G m c ⟨t.val * 128 + r.val, row_lt t r⟩ l) (S m c ⟨t.val * 128 + r.val, row_lt t r⟩ l) := by
  have e := grad_at m c t r l b hb
  unfold k0_pay1 k0_pay5 square
  rw [← e, ← X5_at]
  generalize k0_pay3 (F := Ideal) (grid0.coords t) b (iblk m c 2 t) (iblk m c 3 t) = z
  pointwise

theorem change_at (b : BitVec 32) (hb : b = core m c) :
    k0_pay2 (F := Ideal) (k0_pay3 (grid0.coords t) b (iblk m c 2 t) (iblk m c 3 t)) (iblk m c 1 t)
        (k0_pay4 (grid0.coords t) b (iblk m c 2 t) (iblk m c 3 t) (iblk m c 4 t)) (k0_pay5 (iblk m c 5 t)) (ix2 r l)
      = change (W m c ⟨t.val * 128 + r.val, row_lt t r⟩ l) (G m c ⟨t.val * 128 + r.val, row_lt t r⟩ l)
        (M m c ⟨t.val * 128 + r.val, row_lt t r⟩ l) (S m c ⟨t.val * 128 + r.val, row_lt t r⟩ l) := by
  have e := mean_at m c t r l b hb
  have f := square_at m c t r l b hb
  unfold change k0_pay2
  rw [← e, ← f, ← X1_at]
  generalize k0_pay4 (F := Ideal) (grid0.coords t) b (iblk m c 2 t) (iblk m c 3 t) (iblk m c 4 t) = y
  generalize k0_pay1 (F := Ideal) (k0_pay3 (grid0.coords t) b (iblk m c 2 t) (iblk m c 3 t)) (k0_pay5 (iblk m c 5 t)) = z
  pointwise

theorem out8 : (outsAt0 m c t).2.2.1 (ix2 r l)
    = mean (G m c ⟨t.val * 128 + r.val, row_lt t r⟩ l) (M m c ⟨t.val * 128 + r.val, row_lt t r⟩ l) := by
  unfold outsAt0
  frame_out
  exact mean_at m c t r l _ (bit_at m c t _)

theorem out9 : (outsAt0 m c t).2.2.2 (ix2 r l)
    = square (G m c ⟨t.val * 128 + r.val, row_lt t r⟩ l) (S m c ⟨t.val * 128 + r.val, row_lt t r⟩ l) := by
  unfold outsAt0
  frame_out
  exact square_at m c t r l _ (bit_at m c t _)

theorem out7 : (outsAt0 m c t).2.1 (ix2 r l)
    = change (W m c ⟨t.val * 128 + r.val, row_lt t r⟩ l) (G m c ⟨t.val * 128 + r.val, row_lt t r⟩ l)
        (M m c ⟨t.val * 128 + r.val, row_lt t r⟩ l) (S m c ⟨t.val * 128 + r.val, row_lt t r⟩ l) := by
  unfold outsAt0
  frame_out
  exact change_at m c t r l _ (bit_at m c t _)

theorem at_place (f : Fin 1024 → Fin 1408 → EReal) {a b : Fin 1024} {x y : Fin 1408} (h : a = b) (k : x = y) : f a x = f b y := by
  rw [h, k]

theorem final6 : (dats m 0 c).arrAt 6 cfg0.N = fun i => G m c (i 0) (i 1) := by
  refine (dats m 0 c).arrAt_eq_of_covers 6 _ (by decide +kernel) fun t hf y => ?_
  blk_simp
  rw [after0_6]
  idx_vars y
  refine (out6 m c t y0 y1).trans ?_
  refine at_place (fun n l => G m c n l) (Fin.ext ?_) (Fin.ext ?_)
  · blk_ext [idx t]
  · blk_ext [idx t]

theorem final7 : (dats m 0 c).arrAt 7 cfg0.N = fun i => change (W m c (i 0) (i 1)) (G m c (i 0) (i 1)) (M m c (i 0) (i 1)) (S m c (i 0) (i 1)) := by
  refine (dats m 0 c).arrAt_eq_of_covers 7 _ (by decide +kernel) fun t hf y => ?_
  blk_simp
  rw [after0_7]
  idx_vars y
  refine (out7 m c t y0 y1).trans ?_
  refine at_place (fun n l => change (W m c n l) (G m c n l) (M m c n l) (S m c n l)) (Fin.ext ?_) (Fin.ext ?_)
  · blk_ext [idx t]
  · blk_ext [idx t]

theorem final8 : (dats m 0 c).arrAt 8 cfg0.N = fun i => mean (G m c (i 0) (i 1)) (M m c (i 0) (i 1)) := by
  refine (dats m 0 c).arrAt_eq_of_covers 8 _ (by decide +kernel) fun t hf y => ?_
  blk_simp
  rw [after0_8]
  idx_vars y
  refine (out8 m c t y0 y1).trans ?_
  refine at_place (fun n l => mean (G m c n l) (M m c n l)) (Fin.ext ?_) (Fin.ext ?_)
  · blk_ext [idx t]
  · blk_ext [idx t]

theorem final9 : (dats m 0 c).arrAt 9 cfg0.N = fun i => square (G m c (i 0) (i 1)) (S m c (i 0) (i 1)) := by
  refine (dats m 0 c).arrAt_eq_of_covers 9 _ (by decide +kernel) fun t hf y => ?_
  blk_simp
  rw [after0_9]
  idx_vars y
  refine (out9 m c t y0 y1).trans ?_
  refine at_place (fun n l => square (G m c n l) (S m c n l)) (Fin.ext ?_) (Fin.ext ?_)
  · blk_ext [idx t]
  · blk_ext [idx t]

end Cert.AdamIdeal.Sem
end
-- ==== Proof.Adam.Ref.lean ====
/- The reference of the optimiser: what it leaves in its results. -/
module
public import proofs.«01_k».proof.Proof.Gen.AdamRefIdeal.Read
public import proofs.«01_k».proof.Proof.Adam.Spec
public import Idealize.ShloMosaic.Lib.Pointwise
@[expose] public section
set_option maxRecDepth 16384

noncomputable section

namespace Cert.AdamRefIdeal.Sem

open Cert.AdamRefIdeal Cert.AdamRefIdeal.Gen Cert.AdamRefIdeal.Read Idealize.ShloMosaic
open Cert.Step.Adam

variable (w g m v : FVec Ideal S1024x1408 .f32) (n : Fin 1024) (l : Fin 1408)

theorem grad_at : val_main_v1 (F := Ideal) g (ix2 n l) = g (ix2 n l) := by
  pointwise [val_main_v1, val_main_v0, val_main_cst]

theorem mean_at : val_main_v6 (F := Ideal) g m (ix2 n l) = mean (g (ix2 n l)) (m (ix2 n l)) := by
  unfold mean
  pointwise [val_main_v6, val_main_v5, val_main_v4, val_main_v3, val_main_v2, val_main_cst_0, val_main_cst_1]

theorem square_at : val_main_v12 (F := Ideal) g v (ix2 n l) = square (g (ix2 n l)) (v (ix2 n l)) := by
  unfold square
  pointwise [val_main_v12, val_main_v11, val_main_v10, val_main_v9, val_main_v8, val_main_v7, val_main_cst_2, val_main_cst_3]

theorem change_at : val_main_v25 (F := Ideal) w g m v (ix2 n l) = change (w (ix2 n l)) (g (ix2 n l)) (m (ix2 n l)) (v (ix2 n l)) := by
  have e := mean_at g m n l
  have f := square_at g v n l
  unfold change
  rw [← e, ← f]
  rw [val_main_v25_apply, val_main_v23_apply, val_main_v20_apply, val_main_v14_apply, val_main_v19_apply, val_main_v17_apply, val_main_v16_apply, val_main_v22_apply,
    val_main_v24_apply, val_main_v21_apply, val_main_v18_apply, val_main_v15_apply, val_main_v13_apply]
  rfl

end Cert.AdamRefIdeal.Sem
end
-- ==== Proof.Adam.Claim.lean ====
/- The claim of the optimiser: both programs leave the same gradient, change and averages, of any arguments. -/
module
public import proofs.«01_k».proof.Defs
public import proofs.«01_k».proof.Proof.Gen.Adam
public import proofs.«01_k».proof.Proof.Gen.Adam.Frame
public import proofs.«01_k».proof.Proof.Gen.AdamIdeal
public import proofs.«01_k».proof.Proof.Gen.AdamRefIdeal
public import proofs.«01_k».proof.Proof.Gen.AdamRefIdeal.Run
public import proofs.«01_k».proof.Proof.Adam.Kern
public import proofs.«01_k».proof.Proof.Adam.Ref
@[expose] public section
set_option maxRecDepth 16384

noncomputable section

namespace Cert.Step.Adam

open Idealize.ShloMosaic Idealize.SL.Sem

theorem algebraic : Cert.algebraic_AdamIdeal_AdamRefIdeal (hAdamIdeal := Cert.AdamIdeal.Gen.facts)
    (hAdamRefIdeal := Cert.AdamRefIdeal.Gen.facts) := by
  pair_intro
  · run_from Cert.AdamIdeal.Value.run_blocks m g
  · run_from Cert.AdamRefIdeal.Value.run m' g'
    · refine (Cert.AdamRefIdeal.Read.val_main_v1_eq _).trans (Eq.trans ?_ (Cert.AdamIdeal.Sem.final6 m c).symm)
      funext i
      exact (congrArg _ (ix2_eta i).symm).trans (Cert.AdamRefIdeal.Sem.grad_at _ (i 0) (i 1))
    · refine (Cert.AdamRefIdeal.Read.val_main_v25_eq _ _ _ _).trans (Eq.trans ?_ (Cert.AdamIdeal.Sem.final7 m c).symm)
      funext i
      exact (congrArg _ (ix2_eta i).symm).trans (Cert.AdamRefIdeal.Sem.change_at _ _ _ _ (i 0) (i 1))
    · refine (Cert.AdamRefIdeal.Read.val_main_v6_eq _ _).trans (Eq.trans ?_ (Cert.AdamIdeal.Sem.final8 m c).symm)
      funext i
      exact (congrArg _ (ix2_eta i).symm).trans (Cert.AdamRefIdeal.Sem.mean_at _ _ (i 0) (i 1))
    · refine (Cert.AdamRefIdeal.Read.val_main_v12_eq _ _).trans (Eq.trans ?_ (Cert.AdamIdeal.Sem.final9 m c).symm)
      funext i
      exact (congrArg _ (ix2_eta i).symm).trans (Cert.AdamRefIdeal.Sem.square_at _ _ (i 0) (i 1))

end Cert.Step.Adam
end
-- ==== Proof.Ffw.Spec.lean ====
/- A half-step feed-forward layer and its norm, over the extended reals. -/
module
public import proofs.«01_k».proof.Proof.Ffn.Spec
public import Idealize.ShloMosaic.Lib.Pointwise
@[expose] public section

noncomputable section

namespace Cert.Step.Ffw

open Idealize.ShloMosaic Cert.Step.Ffn

variable {L : ℕ} (x : Fin L → Fin 1024 → EReal) (wi : Fin 1024 → Fin 5632 → EReal) (wo : Fin 2816 → Fin 1024 → EReal)

/-- The product with the first matrix: the gate's columns and the other factor's. -/
def gu (n : Fin L) (q : Fin 5632) : EReal := ∑ k, x n k * wi k q

/-- The gate times its sigmoid, times the other factor. -/
def gated (g u : EReal) : EReal := g * Ideal.div 1 (1 + Ideal.exp (-g)) * u

def act (n : Fin L) (k : Fin 2816) : EReal := gated (gu x wi n (lo k)) (gu x wi n (hi k))

/-- The scaled input and half of the layer. -/
def res (n : Fin L) (j : Fin 1024) : EReal :=
  Ideal.ofBits .f32 0x3F9837F0#32 * x n j + Ideal.ofBits .f32 0x3F000000#32 * ∑ k, act x wi n k * wo k j

/-- A row less its mean. -/
def cen (r : Fin 1024 → EReal) (j : Fin 1024) : EReal := r j - Ideal.div (∑ k, r k) (Ideal.ofBits .f32 0x44800000#32)

/-- A row's norm, scaled and shifted. -/
def nrm (r : Fin 1024 → EReal) (g b : EReal) (j : Fin 1024) : EReal :=
  cen r j * Ideal.rsqrt (Ideal.div (∑ k, cen r k * cen r k) (Ideal.ofBits .f32 0x44800000#32) + Ideal.ofBits .f32 0x3727C5AC#32) * g + b

/-- The product with the second matrix, over the chunks before one. -/
def upto (n : Fin L) (j : Fin 1024) (c : ℕ) : EReal :=
  ∑ e ∈ Finset.range c, if h : e < 11 then ∑ k, act x wi n (col ⟨e, h⟩ k) * wo (col ⟨e, h⟩ k) j else 0

theorem upto_succ (n : Fin L) (j : Fin 1024) (e : Fin 11) :
    upto x wi wo n j (e.val + 1) = upto x wi wo n j e.val + ∑ k, act x wi n (col e k) * wo (col e k) j := by
  unfold upto
  rw [Finset.sum_range_succ, dif_pos e.isLt]

theorem upto_all (n : Fin L) (j : Fin 1024) : upto x wi wo n j 11 = ∑ k, act x wi n k * wo k j := by
  unfold upto
  rw [Finset.sum_range]
  refine (Finset.sum_congr rfl fun e _ => dif_pos e.isLt).trans ?_
  exact ((Equiv.sum_comp (finProdFinEquiv (m := 11) (n := 256)) (fun k => act x wi n k * wo k j)).symm.trans (Fintype.sum_prod_type _)).symm

end Cert.Step.Ffw
end
-- ==== Proof.Ffw.Kern.lean ====
/- The kernel of the feed-forward layer: what each point leaves, and the results after the run. -/
module
public import proofs.«01_k».proof.Proof.Gen.FfwIdeal.Value
public import proofs.«01_k».proof.Proof.Ffw.Spec
public import Idealize.ShloMosaic.Lib.WritesUnit
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384

noncomputable section

namespace Cert.FfwIdeal.Sem

open Cert.FfwIdeal Cert.FfwIdeal.Gen Idealize.ShloMosaic Idealize.ShloMosaic.TcCoe Idealize.SL.Sem
open Idealize.ShloMosaic.Pipeline (Dat)
open Cert.Step.Ffn (lo hi col)
open Cert.Step.Ffw

variable (m : (ℓ : Loc nD τ sig) → Buf (Elt Ideal) ℓ) (c : Dev nD)

def x (n : Fin 16384) (k : Fin 1024) : EReal := m ((c : Thread nD τ).loc main_arg0) (ix2 n k)
def wi (k : Fin 1024) (q : Fin 5632) : EReal := m ((c : Thread nD τ).loc main_arg1) (ix2 k q)
def wo (k : Fin 2816) (j : Fin 1024) : EReal := m ((c : Thread nD τ).loc main_arg2) (ix2 k j)
def lg (j : Fin 1024) : EReal := m ((c : Thread nD τ).loc main_arg3) (ix2 0 j)
def lb (j : Fin 1024) : EReal := m ((c : Thread nD τ).loc main_arg4) (ix2 0 j)

theorem lt32 (t : Fin cfg0.N) : t.val < 32 := t.isLt.trans_eq (by decide +kernel : cfg0.N = 32)

theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![t.val, 0] ∧ win0_8.index t = ![t.val, 0] ∧ win0_9.index t = ![t.val, 0] :=
  (by decide +kernel : ∀ t : Fin grid0.N, _)

theorem wi_at (k : Fin 1024) (q : Fin 5632) : V m c main_v0 (ix2 k q) = wi m c k q := by
  simp only [V, hostOps0, List.flatten_cons, List.flatten_nil, List.cons_append, List.nil_append, List.append_nil]
  entry_read
  pointwise []
  rfl
theorem wo_at (k : Fin 2816) (j : Fin 1024) : V m c main_v1 (ix2 k j) = wo m c k j := by
  simp only [V, hostOps0, List.flatten_cons, List.flatten_nil, List.cons_append, List.nil_append, List.append_nil]
  entry_read
  pointwise []
  rfl

variable (t : Fin cfg0.N) (r : Fin 512)

/-- The row of the input that a point's row is. -/
def row : Fin 16384 := ⟨t.val * 512 + r.val, by have := lt32 t; omega⟩

theorem x_blk (k : Fin 1024) : iblk m c 0 t (ix2 r k) = x m c (row t r) k := by
  unfold row
  blk_point [iblk, idx t]
theorem wi_blk (k : Fin 1024) (q : Fin 5632) : iblk m c 1 t (ix2 k q) = wi m c k q := by
  have h : iblk m c 1 t (ix2 k q) = V m c main_v0 (ix2 k q) := by blk_point [iblk, idx t]
  exact h.trans (wi_at m c k q)
theorem wo_blk (k : Fin 2816) (j : Fin 1024) : iblk m c 2 t (ix2 k j) = wo m c k j := by
  have h : iblk m c 2 t (ix2 k j) = V m c main_v1 (ix2 k j) := by blk_point [iblk, idx t]
  exact h.trans (wo_at m c k j)
theorem lg_blk (j : Fin 1024) : iblk m c 3 t (ix2 0 j) = lg m c j := by
  blk_point [iblk, idx t]
theorem lb_blk (j : Fin 1024) : iblk m c 4 t (ix2 0 j) = lb m c j := by
  blk_point [iblk, idx t]

theorem x_whole : View.ld (iblk m c 0 t) (Rect.unit (s := S512x1024) ![0, 0] S512x1024.size inb_S512x1024_S512x1024_0_0) = iblk m c 0 t := by
  funext y
  refine View.ld_unit_apply_of (S := S512x1024) (iblk m c 0 t) ![0, 0] S512x1024.size inb_S512x1024_S512x1024_0_0 y y fun d => ?_
  match d with
  | ⟨0, _⟩ => exact (Nat.zero_add _).symm
  | ⟨1, _⟩ => exact (Nat.zero_add _).symm

/-- A chunk of the columns of the first matrix. -/
theorem wi_part (e : Fin 11) (f g : ℕ) (inb) (hg : f = g + 256 * e.val) (i : Fin 1024) (k : Fin 256) (q : Fin 5632) (hq : q.val = g + (col e k).val) :
    View.ld (iblk m c 1 t) (Rect.unit (s := S1024x5632) ![0, f] S1024x256.size inb) (ix2 i k) = wi m c i q := by
  refine (View.ld_unit_apply_of (S := S1024x5632) (iblk m c 1 t) ![0, f] S1024x256.size inb (ix2 i k) (ix2 i q) fun d => ?_).trans (wi_blk m c t i q)
  match d with
  | ⟨0, _⟩ => exact (Nat.zero_add _).symm
  | ⟨1, _⟩ =>
    have hc : (col e k).val = k.val + 256 * e.val := rfl
    show q.val = f + k.val
    omega

/-- A chunk of the rows of the second matrix. -/
theorem wo_part (e : Fin 11) (f : ℕ) (inb) (hf : f = 256 * e.val) (k : Fin 256) (j : Fin 1024) :
    View.ld (iblk m c 2 t) (Rect.unit (s := S2816x1024) ![f, 0] S256x1024.size inb) (ix2 k j) = wo m c (col e k) j := by
  refine (View.ld_unit_apply_of (S := S2816x1024) (iblk m c 2 t) ![f, 0] S256x1024.size inb (ix2 k j) (ix2 (col e k) j) fun d => ?_).trans (wo_blk m c t _ j)
  match d with
  | ⟨0, _⟩ =>
    have hc : (col e k).val = k.val + 256 * e.val := rfl
    show (col e k).val = f + k.val
    omega
  | ⟨1, _⟩ => exact (Nat.zero_add _).symm

theorem dot_at (X : Vec Ideal S512x1024 .f32) (w : Vec Ideal S1024x256 .bf16) (k : Fin 256) :
    k0_pay3 (F := Ideal) X w (ix2 r k) = ∑ i, (X (ix2 r i) : EReal) * w (ix2 i k) := by
  pointwise [k0_pay3, k0_pay2]

theorem gated_at (X : Vec Ideal S512x1024 .f32) (w u : Vec Ideal S1024x256 .bf16) (k : Fin 256) :
    k0_pay5 (F := Ideal) X w u (ix2 r k) = gated (k0_pay3 (F := Ideal) X w (ix2 r k)) (k0_pay3 (F := Ideal) X u (ix2 r k)) := by
  pointwise [k0_pay5]
  rw [sub_eq_add_neg, zero_add]
  rfl

/-- A chunk's columns of the product with the first matrix. -/
theorem gu_piece (k : Fin 256) (e : Fin 11) (f g : ℕ) (inb) (hg : f = g + 256 * e.val) (q : Fin 5632) (hq : q.val = g + (col e k).val) :
    k0_pay3 (F := Ideal) (iblk m c 0 t) (View.ld (iblk m c 1 t) (Rect.unit (s := S1024x5632) ![0, f] S1024x256.size inb)) (ix2 r k)
      = gu (x m c) (wi m c) (row t r) q :=
  (dot_at r _ _ k).trans (Finset.sum_congr rfl fun i _ => congrArg₂ (· * ·) (x_blk m c t r i) (wi_part m c t e f g inb hg i k q hq))

theorem act_piece (k : Fin 256) (e : Fin 11) (f f' : ℕ) (i1) (i2) (hf : f = 256 * e.val) (hf' : f' = 2816 + 256 * e.val) {X : Vec Ideal S512x1024 .f32} (hX : X = iblk m c 0 t) :
    k0_pay5 (F := Ideal) X (View.ld (iblk m c 1 t) (Rect.unit (s := S1024x5632) ![0, f] S1024x256.size i1))
        (View.ld (iblk m c 1 t) (Rect.unit (s := S1024x5632) ![0, f'] S1024x256.size i2)) (ix2 r k)
      = act (x m c) (wi m c) (row t r) (col e k) := by
  subst hX
  exact (gated_at r _ _ _ k).trans (congrArg₂ gated (gu_piece m c t r k e f 0 i1 (by omega) _ (Nat.zero_add _).symm) (gu_piece m c t r k e f' 2816 i2 hf' _ rfl))

theorem add_at (A : FVec Ideal S512x1024 .f32) (H : FVec Ideal S512x256 .bf16) (O : Vec Ideal S256x1024 .bf16) (j : Fin 1024) :
    k0_pay52 (F := Ideal) A H O (ix2 r j) = A (ix2 r j) + ∑ k, (H (ix2 r k) : EReal) * O (ix2 k j) := by
  pointwise [k0_pay52]

/-- One chunk more of the product with the second matrix. -/
theorem next_at (j : Fin 1024) (e : Fin 11) (f : ℕ) (inb) (hf : f = 256 * e.val) {A : FVec Ideal S512x1024 .f32} {H : FVec Ideal S512x256 .bf16}
    (hA : A (ix2 r j) = upto (x m c) (wi m c) (wo m c) (row t r) j e.val) (hH : ∀ k, H (ix2 r k) = act (x m c) (wi m c) (row t r) (col e k)) :
    k0_pay52 (F := Ideal) A H (View.ld (iblk m c 2 t) (Rect.unit (s := S2816x1024) ![f, 0] S256x1024.size inb)) (ix2 r j)
      = upto (x m c) (wi m c) (wo m c) (row t r) j (e.val + 1) :=
  (add_at r _ _ _ j).trans ((congrArg₂ (· + ·) hA (Finset.sum_congr rfl fun k _ => congrArg₂ (· * ·) (hH k) (wo_part m c t e f inb hf k j))).trans
    (upto_succ _ _ _ _ _ e).symm)

/-- The word of zeros the sum starts from. -/
def nil : FVec Ideal S512x1024 .f32 := broadcast S512x1024 (Scalar.ofBits .f32 0x00000000#32)

theorem nil_at (j : Fin 1024) : nil (ix2 r j) = 0 := by
  pointwise [nil]

theorem first_at (j : Fin 1024) (inb) {H : FVec Ideal S512x256 .bf16} (hH : ∀ k, H (ix2 r k) = act (x m c) (wi m c) (row t r) (col 0 k)) :
    k0_pay52 (F := Ideal) nil H (View.ld (iblk m c 2 t) (Rect.unit (s := S2816x1024) ![0, 0] S256x1024.size inb)) (ix2 r j)
      = upto (x m c) (wi m c) (wo m c) (row t r) j 1 :=
  next_at m c t r j 0 0 inb rfl (nil_at r j) hH

/-- The scaled input and half of a sum. -/
def half (X A : FVec Ideal S512x1024 .f32) : FVec Ideal S512x1024 .f32 :=
  addf (mulf (broadcast S512x1024 (Scalar.ofBits .f32 0x3F9837F0#32)) X) (mulf (broadcast S512x1024 (Scalar.ofBits .f32 0x3F000000#32)) A)

theorem half_at (X A : FVec Ideal S512x1024 .f32) (j : Fin 1024) :
    half X A (ix2 r j) = Ideal.ofBits .f32 0x3F9837F0#32 * X (ix2 r j) + Ideal.ofBits .f32 0x3F000000#32 * A (ix2 r j) := by
  pointwise [half]

/-- The last chunk's sum, scaled and added to the input. -/
theorem half_last {A : FVec Ideal S512x1024 .f32} (j : Fin 1024) (hA : A (ix2 r j) = upto (x m c) (wi m c) (wo m c) (row t r) j 11) :
    half (iblk m c 0 t) A (ix2 r j) = res (x m c) (wi m c) (wo m c) (row t r) j :=
  (half_at r _ _ j).trans (congrArg₂ (fun a b => Ideal.ofBits .f32 0x3F9837F0#32 * a + Ideal.ofBits .f32 0x3F000000#32 * b) (x_blk m c t r j)
    (hA.trans (upto_all _ _ _ _ _)))

/-! The body writes its chunks in several shapes; each is the same product, gate and sum. -/

section
variable (X Y : Vec Ideal S512x1024 .f32) (A : FVec Ideal S512x1024 .f32) (w u w' u' : Vec Ideal S1024x256 .bf16) (o o' : Vec Ideal S256x1024 .bf16)

theorem pay8_eq : k0_pay8 (F := Ideal) X w u o = k0_pay52 nil (k0_pay5 X w u) o := rfl
theorem pay14_eq : k0_pay14 (F := Ideal) (k0_pay2 X) A (k0_pay9 X w) u o = k0_pay52 A (k0_pay5 X w u) o := rfl
theorem pay22_eq : k0_pay22 (F := Ideal) A (k0_pay15 (k0_pay2 X) w) (k0_pay16 (k0_pay2 X) u) (k0_pay17 (k0_pay2 X) w) k0_pay18 o = k0_pay52 A (k0_pay5 X w u) o := rfl
theorem pay33_eq : k0_pay33 (F := Ideal) (k0_pay2 X) A (k0_pay25 (k0_pay2 X) w u) o w' u' o' = k0_pay52 (k0_pay52 A (k0_pay5 X w u) o) (k0_pay5 X w' u') o' := rfl
theorem pay39_eq : k0_pay39 (F := Ideal) (k0_pay2 X) A w u o = k0_pay52 A (k0_pay5 X w u) o := rfl
theorem pay46_eq : k0_pay46 (F := Ideal) A (k0_pay40 (k0_pay2 X) w) (k0_pay41 (k0_pay2 X) u) (k0_pay42 (k0_pay2 X) w) (Scalar.ofBits .f32 0x3F800000#32) o = k0_pay52 A (k0_pay5 X w u) o := rfl
theorem pay49_eq : k0_pay49 (F := Ideal) (k0_pay2 X) w u = k0_pay5 X w u := rfl
theorem pay64_eq : k0_pay64 (F := Ideal) (k0_pay2 X) A (k0_pay58 (k0_pay2 X) w u o) w' u' o' = k0_pay52 (k0_pay52 A (k0_pay5 X w u) o) (k0_pay5 X w' u') o' := rfl
theorem pay70_eq : k0_pay70 (F := Ideal) Y A (k0_pay65 (k0_pay2 X) w) (k0_pay66 (k0_pay2 X) u) (Scalar.ofBits .f32 0x00000000#32) o = half Y (k0_pay52 A (k0_pay5 X w u) o) := rfl
end

/-- The sum before the norm, as a point computes it. -/
abbrev before : FVec Ideal S512x1024 .f32 :=
  k0_pay70 (F := Ideal) (iblk m c 0 t) (k0_pay84 (iblk m c 0 t) (iblk m c 1 t) (iblk m c 2 t) (iblk m c 3 t) (iblk m c 4 t))
    (k0_pay85 (iblk m c 0 t) (iblk m c 1 t) (iblk m c 2 t) (iblk m c 3 t) (iblk m c 4 t)) (k0_pay86 (iblk m c 0 t) (iblk m c 1 t) (iblk m c 2 t) (iblk m c 3 t) (iblk m c 4 t))
    (Scalar.ofBits .f32 0x00000000#32) (View.ld (iblk m c 2 t) (Rect.unit (s := S2816x1024) ![2560, 0] S256x1024.size inb_S2816x1024_S256x1024_2560_0))

theorem before_at (j : Fin 1024) : before m c t (ix2 r j) = res (x m c) (wi m c) (wo m c) (row t r) j := by
  unfold before
  unfold k0_pay84 k0_pay85 k0_pay86 k0_pay83 k0_pay82 k0_pay81 k0_pay80 k0_pay79 k0_pay78 k0_pay77 k0_pay76 k0_pay75 k0_pay74 k0_pay73
  rw [pay70_eq, pay64_eq, pay49_eq, pay46_eq, pay39_eq, pay33_eq, pay22_eq, pay14_eq, pay8_eq]
  have s0 := first_at m c t r j inb_S2816x1024_S256x1024_0_0 (fun k => act_piece m c t r k 0 0 2816 inb_S1024x5632_S1024x256_0_0 inb_S1024x5632_S1024x256_0_2816 rfl rfl (x_whole m c t))
  have s1 := next_at m c t r j 1 256 inb_S2816x1024_S256x1024_256_0 rfl s0 (fun k => act_piece m c t r k 1 256 3072 inb_S1024x5632_S1024x256_0_256 inb_S1024x5632_S1024x256_0_3072 rfl rfl (x_whole m c t))
  have s2 := next_at m c t r j 2 512 inb_S2816x1024_S256x1024_512_0 rfl s1 (fun k => act_piece m c t r k 2 512 3328 inb_S1024x5632_S1024x256_0_512 inb_S1024x5632_S1024x256_0_3328 rfl rfl (x_whole m c t))
  have s3 := next_at m c t r j 3 768 inb_S2816x1024_S256x1024_768_0 rfl s2 (fun k => act_piece m c t r k 3 768 3584 inb_S1024x5632_S1024x256_0_768 inb_S1024x5632_S1024x256_0_3584 rfl rfl (x_whole m c t))
  have s4 := next_at m c t r j 4 1024 inb_S2816x1024_S256x1024_1024_0 rfl s3 (fun k => act_piece m c t r k 4 1024 3840 inb_S1024x5632_S1024x256_0_1024 inb_S1024x5632_S1024x256_0_3840 rfl rfl (x_whole m c t))
  have s5 := next_at m c t r j 5 1280 inb_S2816x1024_S256x1024_1280_0 rfl s4 (fun k => act_piece m c t r k 5 1280 4096 inb_S1024x5632_S1024x256_0_1280 inb_S1024x5632_S1024x256_0_4096 rfl rfl (x_whole m c t))
  have s6 := next_at m c t r j 6 1536 inb_S2816x1024_S256x1024_1536_0 rfl s5 (fun k => act_piece m c t r k 6 1536 4352 inb_S1024x5632_S1024x256_0_1536 inb_S1024x5632_S1024x256_0_4352 rfl rfl (x_whole m c t))
  have s7 := next_at m c t r j 7 1792 inb_S2816x1024_S256x1024_1792_0 rfl s6 (fun k => act_piece m c t r k 7 1792 4608 inb_S1024x5632_S1024x256_0_1792 inb_S1024x5632_S1024x256_0_4608 rfl rfl (x_whole m c t))
  have s8 := next_at m c t r j 8 2048 inb_S2816x1024_S256x1024_2048_0 rfl s7 (fun k => act_piece m c t r k 8 2048 4864 inb_S1024x5632_S1024x256_0_2048 inb_S1024x5632_S1024x256_0_4864 rfl rfl (x_whole m c t))
  have s9 := next_at m c t r j 9 2304 inb_S2816x1024_S256x1024_2304_0 rfl s8 (fun k => act_piece m c t r k 9 2304 5120 inb_S1024x5632_S1024x256_0_2304 inb_S1024x5632_S1024x256_0_5120 rfl rfl (x_whole m c t))
  have s10 := next_at m c t r j 10 2560 inb_S2816x1024_S256x1024_2560_0 rfl s9 (fun k => act_piece m c t r k 10 2560 5376 inb_S1024x5632_S1024x256_0_2560 inb_S1024x5632_S1024x256_0_5376 rfl rfl (x_whole m c t))
  exact half_last m c t r j s10

theorem out6 (j : Fin 1024) :
    out0_6 (F := Ideal) (iblk m c 0 t) (iblk m c 1 t) (iblk m c 2 t) (iblk m c 3 t) (iblk m c 4 t) (ix2 r j) = res (x m c) (wi m c) (wo m c) (row t r) j := by
  frame_out
  exact before_at m c t r j

theorem norm_at (R : FVec Ideal S512x1024 .f32) (X : FVec Ideal S512x1024 .f32) (A : FVec Ideal S512x1024 .f32) (u v : FVec Ideal S512x256 .f32) (z : Elt Ideal .f32) (O : Vec Ideal S256x1024 .bf16)
    (hR : k0_pay70 (F := Ideal) X A u v z O = R) (G B : Vec Ideal S1x1024 .f32) (j : Fin 1024) :
    k0_pay1 (F := Ideal) (k0_pay71 X A u v z O) (k0_pay72 X A u v z O) (Scalar.ofBits .f32 0x3727C5AC#32) G B (ix2 r j)
      = nrm (fun j => R (ix2 r j)) (G (ix2 0 j)) (B (ix2 0 j)) j := by
  pointwise [k0_pay1, k0_pay72, k0_pay71]
  rw [hR]
  rfl

theorem out5 (j : Fin 1024) :
    out0_5 (F := Ideal) (iblk m c 0 t) (iblk m c 1 t) (iblk m c 2 t) (iblk m c 3 t) (iblk m c 4 t) (ix2 r j)
      = nrm (res (x m c) (wi m c) (wo m c) (row t r)) (lg m c j) (lb m c j) j := by
  frame_out
  refine (norm_at r (before m c t) _ _ _ _ _ _ rfl _ _ j).trans ?_
  rw [lg_blk m c t j, lb_blk m c t j, funext (before_at m c t r)]

variable (q : Fin 2816)

theorem col_of (y : Fin 256) (e : Fin 11) (h : q.val = 256 * e.val + y.val) : col e y = q :=
  Fin.ext (show y.val + 256 * e.val = q.val by omega)

theorem gate_tile (y : S512x256.Idx) (e : Fin 11) (f : ℕ) (inb) (hf : f = 256 * e.val) {X : Vec Ideal S512x1024 .f32} (hX : X = iblk m c 0 t) (h0 : r.val = (y 0).val) (h1 : q.val = 256 * e.val + (y 1).val) :
    k0_pay6 (F := Ideal) X (View.ld (iblk m c 1 t) (Rect.unit (s := S1024x5632) ![0, f] S1024x256.size inb)) y
      = gu (x m c) (wi m c) (row t r) (lo q) := by
  subst hX
  obtain ⟨y0, y1, rfl⟩ : ∃ y0 y1, y = ix2 y0 y1 := ⟨y 0, y 1, (ix2_eta y).symm⟩
  obtain rfl : r = y0 := Fin.ext h0
  obtain rfl := col_of q y1 e h1
  exact gu_piece m c t r y1 e f 0 inb (by omega) _ (Nat.zero_add _).symm

theorem up_tile (y : S512x256.Idx) (e : Fin 11) (f : ℕ) (inb) (hf : f = 2816 + 256 * e.val) {X : Vec Ideal S512x1024 .f32} (hX : X = iblk m c 0 t) (h0 : r.val = (y 0).val) (h1 : q.val = 256 * e.val + (y 1).val) :
    k0_pay7 (F := Ideal) X (View.ld (iblk m c 1 t) (Rect.unit (s := S1024x5632) ![0, f] S1024x256.size inb)) y
      = gu (x m c) (wi m c) (row t r) (hi q) := by
  subst hX
  obtain ⟨y0, y1, rfl⟩ : ∃ y0 y1, y = ix2 y0 y1 := ⟨y 0, y 1, (ix2_eta y).symm⟩
  obtain rfl : r = y0 := Fin.ext h0
  obtain rfl := col_of q y1 e h1
  exact gu_piece m c t r y1 e f 2816 inb hf _ rfl

theorem act_tile (y : S512x256.Idx) (e : Fin 11) (f f' : ℕ) (i1) (i2) (hf : f = 256 * e.val) (hf' : f' = 2816 + 256 * e.val) {X : Vec Ideal S512x1024 .f32} (hX : X = iblk m c 0 t) (h0 : r.val = (y 0).val) (h1 : q.val = 256 * e.val + (y 1).val) :
    k0_pay5 (F := Ideal) X (View.ld (iblk m c 1 t) (Rect.unit (s := S1024x5632) ![0, f] S1024x256.size i1))
        (View.ld (iblk m c 1 t) (Rect.unit (s := S1024x5632) ![0, f'] S1024x256.size i2)) y
      = act (x m c) (wi m c) (row t r) q := by
  subst hX
  obtain ⟨y0, y1, rfl⟩ : ∃ y0 y1, y = ix2 y0 y1 := ⟨y 0, y 1, (ix2_eta y).symm⟩
  obtain rfl : r = y0 := Fin.ext h0
  obtain rfl := col_of q y1 e h1
  exact act_piece m c t r y1 e f f' i1 i2 hf hf' rfl

theorem out7 : out0_7 (F := Ideal) (iblk m c 0 t) (iblk m c 1 t) (iblk m c 2 t) (iblk m c 3 t) (iblk m c 4 t) (ix2 r q) = gu (x m c) (wi m c) (row t r) (lo q) := by
  frame_out
  canon_tiles x hx
  · have h := gate_tile m c t r q x 10 2560 inb_S1024x5632_S1024x256_0_2560 rfl (x_whole m c t) (by simpa using hx0) (by simpa using hx1)
    exact h
  · have h := gate_tile m c t r q x 9 2304 inb_S1024x5632_S1024x256_0_2304 rfl (x_whole m c t) (by simpa using hx0) (by simpa using hx1)
    exact h
  · have h := gate_tile m c t r q x 8 2048 inb_S1024x5632_S1024x256_0_2048 rfl (x_whole m c t) (by simpa using hx0) (by simpa using hx1)
    exact h
  · have h := gate_tile m c t r q x 7 1792 inb_S1024x5632_S1024x256_0_1792 rfl (x_whole m c t) (by simpa using hx0) (by simpa using hx1)
    exact h
  · have h := gate_tile m c t r q x 6 1536 inb_S1024x5632_S1024x256_0_1536 rfl (x_whole m c t) (by simpa using hx0) (by simpa using hx1)
    exact h
  · have h := gate_tile m c t r q x 5 1280 inb_S1024x5632_S1024x256_0_1280 rfl (x_whole m c t) (by simpa using hx0) (by simpa using hx1)
    exact h
  · have h := gate_tile m c t r q x 4 1024 inb_S1024x5632_S1024x256_0_1024 rfl (x_whole m c t) (by simpa using hx0) (by simpa using hx1)
    exact h
  · have h := gate_tile m c t r q x 3 768 inb_S1024x5632_S1024x256_0_768 rfl (x_whole m c t) (by simpa using hx0) (by simpa using hx1)
    exact h
  · have h := gate_tile m c t r q x 2 512 inb_S1024x5632_S1024x256_0_512 rfl (x_whole m c t) (by simpa using hx0) (by simpa using hx1)
    exact h
  · have h := gate_tile m c t r q x 1 256 inb_S1024x5632_S1024x256_0_256 rfl (x_whole m c t) (by simpa using hx0) (by simpa using hx1)
    exact h
  · have h := gate_tile m c t r q x 0 0 inb_S1024x5632_S1024x256_0_0 rfl rfl (by simpa using hx0) (by simpa using hx1)
    exact h

theorem out8 : out0_8 (F := Ideal) (iblk m c 0 t) (iblk m c 1 t) (iblk m c 2 t) (iblk m c 3 t) (iblk m c 4 t) (ix2 r q) = gu (x m c) (wi m c) (row t r) (hi q) := by
  frame_out
  canon_tiles x hx
  · have h := up_tile m c t r q x 10 5376 inb_S1024x5632_S1024x256_0_5376 rfl (x_whole m c t) (by simpa using hx0) (by simpa using hx1)
    exact h
  · have h := up_tile m c t r q x 9 5120 inb_S1024x5632_S1024x256_0_5120 rfl (x_whole m c t) (by simpa using hx0) (by simpa using hx1)
    exact h
  · have h := up_tile m c t r q x 8 4864 inb_S1024x5632_S1024x256_0_4864 rfl (x_whole m c t) (by simpa using hx0) (by simpa using hx1)
    exact h
  · have h := up_tile m c t r q x 7 4608 inb_S1024x5632_S1024x256_0_4608 rfl (x_whole m c t) (by simpa using hx0) (by simpa using hx1)
    exact h
  · have h := up_tile m c t r q x 6 4352 inb_S1024x5632_S1024x256_0_4352 rfl (x_whole m c t) (by simpa using hx0) (by simpa using hx1)
    exact h
  · have h := up_tile m c t r q x 5 4096 inb_S1024x5632_S1024x256_0_4096 rfl (x_whole m c t) (by simpa using hx0) (by simpa using hx1)
    exact h
  · have h := up_tile m c t r q x 4 3840 inb_S1024x5632_S1024x256_0_3840 rfl (x_whole m c t) (by simpa using hx0) (by simpa using hx1)
    exact h
  · have h := up_tile m c t r q x 3 3584 inb_S1024x5632_S1024x256_0_3584 rfl (x_whole m c t) (by simpa using hx0) (by simpa using hx1)
    exact h
  · have h := up_tile m c t r q x 2 3328 inb_S1024x5632_S1024x256_0_3328 rfl (x_whole m c t) (by simpa using hx0) (by simpa using hx1)
    exact h
  · have h := up_tile m c t r q x 1 3072 inb_S1024x5632_S1024x256_0_3072 rfl (x_whole m c t) (by simpa using hx0) (by simpa using hx1)
    exact h
  · have h := up_tile m c t r q x 0 2816 inb_S1024x5632_S1024x256_0_2816 rfl rfl (by simpa using hx0) (by simpa using hx1)
    exact h

theorem out9 : out0_9 (F := Ideal) (iblk m c 0 t) (iblk m c 1 t) (iblk m c 2 t) (iblk m c 3 t) (iblk m c 4 t) (ix2 r q) = act (x m c) (wi m c) (row t r) q := by
  frame_out
  canon_tiles x hx
  · have h := act_tile m c t r q x 10 2560 5376 inb_S1024x5632_S1024x256_0_2560 inb_S1024x5632_S1024x256_0_5376 rfl rfl (x_whole m c t) (by simpa using hx0) (by simpa using hx1)
    exact h
  · have h := act_tile m c t r q x 9 2304 5120 inb_S1024x5632_S1024x256_0_2304 inb_S1024x5632_S1024x256_0_5120 rfl rfl (x_whole m c t) (by simpa using hx0) (by simpa using hx1)
    exact h
  · have h := act_tile m c t r q x 8 2048 4864 inb_S1024x5632_S1024x256_0_2048 inb_S1024x5632_S1024x256_0_4864 rfl rfl (x_whole m c t) (by simpa using hx0) (by simpa using hx1)
    exact h
  · have h := act_tile m c t r q x 7 1792 4608 inb_S1024x5632_S1024x256_0_1792 inb_S1024x5632_S1024x256_0_4608 rfl rfl (x_whole m c t) (by simpa using hx0) (by simpa using hx1)
    exact h
  · have h := act_tile m c t r q x 6 1536 4352 inb_S1024x5632_S1024x256_0_1536 inb_S1024x5632_S1024x256_0_4352 rfl rfl (x_whole m c t) (by simpa using hx0) (by simpa using hx1)
    exact h
  · have h := act_tile m c t r q x 5 1280 4096 inb_S1024x5632_S1024x256_0_1280 inb_S1024x5632_S1024x256_0_4096 rfl rfl (x_whole m c t) (by simpa using hx0) (by simpa using hx1)
    exact h
  · have h := act_tile m c t r q x 4 1024 3840 inb_S1024x5632_S1024x256_0_1024 inb_S1024x5632_S1024x256_0_3840 rfl rfl (x_whole m c t) (by simpa using hx0) (by simpa using hx1)
    exact h
  · have h := act_tile m c t r q x 3 768 3584 inb_S1024x5632_S1024x256_0_768 inb_S1024x5632_S1024x256_0_3584 rfl rfl (x_whole m c t) (by simpa using hx0) (by simpa using hx1)
    exact h
  · have h := act_tile m c t r q x 2 512 3328 inb_S1024x5632_S1024x256_0_512 inb_S1024x5632_S1024x256_0_3328 rfl rfl (x_whole m c t) (by simpa using hx0) (by simpa using hx1)
    exact h
  · have h := act_tile m c t r q x 1 256 3072 inb_S1024x5632_S1024x256_0_256 inb_S1024x5632_S1024x256_0_3072 rfl rfl (x_whole m c t) (by simpa using hx0) (by simpa using hx1)
    exact h
  · have h := act_tile m c t r q x 0 0 2816 inb_S1024x5632_S1024x256_0_0 inb_S1024x5632_S1024x256_0_2816 rfl rfl rfl (by simpa using hx0) (by simpa using hx1)
    exact h

/-! The results after the run. -/

theorem final5 : (dats m 0 c).arrAt 5 cfg0.N = fun i => nrm (res (x m c) (wi m c) (wo m c) (i 0)) (lg m c (i 1)) (lb m c (i 1)) (i 1) := by
  refine (dats m 0 c).arrAt_eq_of_covers 5 _ (by decide +kernel) fun t hf y => ?_
  blk_simp
  rw [after0_5]
  idx_vars y
  refine (out5 m c t y0 y1).trans ?_
  refine congrArg₂ (fun n j => nrm (res (x m c) (wi m c) (wo m c) n) (lg m c j) (lb m c j) j) (Fin.ext ?_) (Fin.ext ?_)
  · unfold row
    blk_ext [idx t]
  · blk_ext [idx t]

theorem final6 : (dats m 0 c).arrAt 6 cfg0.N = fun i => res (x m c) (wi m c) (wo m c) (i 0) (i 1) := by
  refine (dats m 0 c).arrAt_eq_of_covers 6 _ (by decide +kernel) fun t hf y => ?_
  blk_simp
  rw [after0_6]
  idx_vars y
  refine (out6 m c t y0 y1).trans ?_
  refine congrArg₂ (res (x m c) (wi m c) (wo m c)) (Fin.ext ?_) (Fin.ext ?_)
  · unfold row
    blk_ext [idx t]
  · blk_ext [idx t]

theorem final7 : (dats m 0 c).arrAt 7 cfg0.N = fun i => gu (x m c) (wi m c) (i 0) (lo (i 1)) := by
  refine (dats m 0 c).arrAt_eq_of_covers 7 _ (by decide +kernel) fun t hf y => ?_
  blk_simp
  rw [after0_7]
  idx_vars y
  refine (out7 m c t y0 y1).trans ?_
  refine congrArg₂ (fun n k => gu (x m c) (wi m c) n (lo k)) (Fin.ext ?_) (Fin.ext ?_)
  · unfold row
    blk_ext [idx t]
  · blk_ext [idx t]

theorem final8 : (dats m 0 c).arrAt 8 cfg0.N = fun i => gu (x m c) (wi m c) (i 0) (hi (i 1)) := by
  refine (dats m 0 c).arrAt_eq_of_covers 8 _ (by decide +kernel) fun t hf y => ?_
  blk_simp
  rw [after0_8]
  idx_vars y
  refine (out8 m c t y0 y1).trans ?_
  refine congrArg₂ (fun n k => gu (x m c) (wi m c) n (hi k)) (Fin.ext ?_) (Fin.ext ?_)
  · unfold row
    blk_ext [idx t]
  · blk_ext [idx t]

theorem final9 : (dats m 0 c).arrAt 9 cfg0.N = fun i => act (x m c) (wi m c) (i 0) (i 1) := by
  refine (dats m 0 c).arrAt_eq_of_covers 9 _ (by decide +kernel) fun t hf y => ?_
  blk_simp
  rw [after0_9]
  idx_vars y
  refine (out9 m c t y0 y1).trans ?_
  refine congrArg₂ (act (x m c) (wi m c)) (Fin.ext ?_) (Fin.ext ?_)
  · unfold row
    blk_ext [idx t]
  · blk_ext [idx t]

end Cert.FfwIdeal.Sem
end
-- ==== Proof.Ffw.Ref.lean ====
/- The reference of the feed-forward layer: what it leaves in its results. -/
module
public import proofs.«01_k».proof.Proof.Gen.FfwRefIdeal.Read
public import proofs.«01_k».proof.Proof.Ffw.Spec
@[expose] public section
set_option maxRecDepth 16384

noncomputable section

namespace Cert.FfwRefIdeal.Sem

open Cert.FfwRefIdeal Cert.FfwRefIdeal.Gen Cert.FfwRefIdeal.Read Idealize.ShloMosaic
open Cert.Step.Ffn (lo hi col)
open Cert.Step.Ffw

variable (X : FVec Ideal S16384x1024 .f32) (W : FVec Ideal S1024x5632 .f32) (V : FVec Ideal S2816x1024 .f32)
variable (G B : FVec Ideal S1x1024 .f32)

def x (n : Fin 16384) (k : Fin 1024) : EReal := X (ix2 n k)
def wi (k : Fin 1024) (q : Fin 5632) : EReal := W (ix2 k q)
def wo (k : Fin 2816) (j : Fin 1024) : EReal := V (ix2 k j)

theorem gu_at (n : Fin 16384) (q : Fin 5632) : val_main_v0 (F := Ideal) X W (ix2 n q) = gu (x X) (wi W) n q := by
  pointwise [val_main_v0]
  rfl

theorem gate_at (n : Fin 16384) (k : Fin 2816) : val_main_v1 (F := Ideal) X W (ix2 n k) = gu (x X) (wi W) n (lo k) := by
  pointwise [val_main_v1]
  exact gu_at X W n _

theorem up_at (n : Fin 16384) (k : Fin 2816) : val_main_v2 (F := Ideal) X W (ix2 n k) = gu (x X) (wi W) n (hi k) := by
  pointwise [val_main_v2]
  exact gu_at X W n _

theorem act_at (n : Fin 16384) (k : Fin 2816) : val_main_v4 (F := Ideal) X W (ix2 n k) = act (x X) (wi W) n k := by
  pointwise [val_main_v4, val_main_v3, val_main_call0_v5, val_main_call0_v4, val_main_call0_v3, val_main_call0_v2, val_main_call0_v1, val_main_call0_v0, val_main_call0_cst, val_main_call0_cst_0]
  rw [gate_at, up_at]
  rfl

theorem res_at (n : Fin 16384) (j : Fin 1024) : val_main_v10 (F := Ideal) X W V (ix2 n j) = res (x X) (wi W) (wo V) n j := by
  pointwise [val_main_v10, val_main_v9, val_main_v8, val_main_v7, val_main_v6, val_main_v5, val_main_cst, val_main_cst_0]
  unfold res
  refine congrArg (_ + ·) (congrArg (_ * ·) (Finset.sum_congr rfl fun k _ => ?_))
  rw [act_at]
  rfl

theorem cen_at (n : Fin 16384) (j : Fin 1024) : val_main_v16 (F := Ideal) X W V (ix2 n j) = cen (res (x X) (wi W) (wo V) n) j := by
  pointwise [val_main_v16, val_main_v15, val_main_v14, val_main_v13, val_main_v12, val_main_v11, val_main_cst_1, val_main_cst_2]
  simp only [res_at]
  rfl

theorem nrm_at (n : Fin 16384) (j : Fin 1024) :
    val_main_v30 (F := Ideal) X W V G B (ix2 n j) = nrm (res (x X) (wi W) (wo V) n) (G (ix2 0 j)) (B (ix2 0 j)) j := by
  pointwise [val_main_v30, val_main_v29, val_main_v28, val_main_v27, val_main_v26, val_main_v25, val_main_v24, val_main_v23, val_main_v22, val_main_v21, val_main_v20, val_main_v19, val_main_v18, val_main_v17, val_main_cst_3, val_main_cst_4, val_main_cst_5]
  simp only [cen_at]
  rfl

theorem gateb_at (n : Fin 16384) (k : Fin 2816) : val_main_v31 (F := Ideal) X W (ix2 n k) = gu (x X) (wi W) n (lo k) := by
  pointwise [val_main_v31]
  exact gate_at X W n k

theorem upb_at (n : Fin 16384) (k : Fin 2816) : val_main_v32 (F := Ideal) X W (ix2 n k) = gu (x X) (wi W) n (hi k) := by
  pointwise [val_main_v32]
  exact up_at X W n k

theorem actb_at (n : Fin 16384) (k : Fin 2816) : val_main_v33 (F := Ideal) X W (ix2 n k) = act (x X) (wi W) n k := by
  pointwise [val_main_v33]
  exact act_at X W n k

end Cert.FfwRefIdeal.Sem
end
-- ==== Proof.Ffw.Claim.lean ====
/- The claim of the feed-forward layer: both programs leave the same five results, of any arguments. -/
module
public import proofs.«01_k».proof.Defs
public import proofs.«01_k».proof.Proof.Gen.Ffw
public import proofs.«01_k».proof.Proof.Gen.Ffw.Frame
public import proofs.«01_k».proof.Proof.Gen.FfwIdeal
public import proofs.«01_k».proof.Proof.Gen.FfwRefIdeal
public import proofs.«01_k».proof.Proof.Gen.FfwRefIdeal.Run
public import proofs.«01_k».proof.Proof.Ffw.Kern
public import proofs.«01_k».proof.Proof.Ffw.Ref
@[expose] public section
set_option maxRecDepth 16384

noncomputable section

namespace Cert.Step.Ffw

open Idealize.ShloMosaic Idealize.SL.Sem

theorem algebraic : Cert.algebraic_FfwIdeal_FfwRefIdeal (hFfwIdeal := Cert.FfwIdeal.Gen.facts)
    (hFfwRefIdeal := Cert.FfwRefIdeal.Gen.facts) := by
  pair_intro
  · run_from Cert.FfwIdeal.Value.run_blocks m g
  · run_from Cert.FfwRefIdeal.Value.run m' g'
    · refine (Cert.FfwRefIdeal.Read.val_main_v30_eq ..).trans (Eq.trans ?_ (Cert.FfwIdeal.Sem.final5 m c).symm)
      obtain ⟨h0, h1, h2, h3, h4⟩ := hagree c
      rw [h0, h1, h2, h3, h4]
      funext i
      exact (congrArg _ (ix2_eta i).symm).trans (Cert.FfwRefIdeal.Sem.nrm_at _ _ _ _ _ (i 0) (i 1))
    · refine (Cert.FfwRefIdeal.Read.val_main_v10_eq ..).trans (Eq.trans ?_ (Cert.FfwIdeal.Sem.final6 m c).symm)
      funext i
      exact (congrArg _ (ix2_eta i).symm).trans (Cert.FfwRefIdeal.Sem.res_at _ _ _ (i 0) (i 1))
    · refine (Cert.FfwRefIdeal.Read.val_main_v31_eq ..).trans (Eq.trans ?_ (Cert.FfwIdeal.Sem.final7 m c).symm)
      funext i
      exact (congrArg _ (ix2_eta i).symm).trans (Cert.FfwRefIdeal.Sem.gateb_at _ _ (i 0) (i 1))
    · refine (Cert.FfwRefIdeal.Read.val_main_v32_eq ..).trans (Eq.trans ?_ (Cert.FfwIdeal.Sem.final8 m c).symm)
      funext i
      exact (congrArg _ (ix2_eta i).symm).trans (Cert.FfwRefIdeal.Sem.upb_at _ _ (i 0) (i 1))
    · refine (Cert.FfwRefIdeal.Read.val_main_v33_eq ..).trans (Eq.trans ?_ (Cert.FfwIdeal.Sem.final9 m c).symm)
      funext i
      exact (congrArg _ (ix2_eta i).symm).trans (Cert.FfwRefIdeal.Sem.actb_at _ _ (i 0) (i 1))

end Cert.Step.Ffw
end
-- ==== Proof.Mtf.Spec.lean ====
/- The end of the mixer, over the extended reals: the attention's result and the gated convolution's, each scaled to
   unit mean square, side by side through the projection, onto the scaled input; then the norm of the sum. -/
module
public import proofs.«01_k».proof.Proof.Conv.Spec
public import proofs.«01_k».proof.Proof.Ffw.Spec
public import Idealize.ShloMosaic.Lib.Pointwise
@[expose] public section

noncomputable section

namespace Cert.Step.Mtf

open Idealize.ShloMosaic Cert.Step.Conv

/-- A row over the root of its mean square, scaled. -/
def rms (x : Fin 512 → EReal) (g : EReal) (l : Fin 512) : EReal :=
  x l * Ideal.rsqrt (Ideal.div (∑ k, x k * x k) (Ideal.ofBits .f32 0x44000000#32) + Ideal.ofBits .f32 0x358637BD#32) * g

variable (O : Fin 16384 → Fin 512 → EReal) (P : Fin 16384 → Fin 3080 → EReal) (W : Fin 3 → Fin 512 → EReal)
variable (ga gc : Fin 512 → EReal) (M : Fin 1024 → Fin 1024 → EReal) (x : Fin 16384 → Fin 1024 → EReal)

/-- The convolution behind its output gate. -/
def gate (n : Fin 16384) (l : Fin 512) : EReal := P n ⟨1544 + l.val, by omega⟩ * conv P W n.val l

/-- The two scaled results side by side. -/
def merged (n : Fin 16384) (k : Fin 1024) : EReal :=
  if h : k.val < 512 then rms (O n) (ga ⟨k.val, h⟩) ⟨k.val, h⟩
  else rms (gate P W n) (gc ⟨k.val - 512, by omega⟩) ⟨k.val - 512, by omega⟩

/-- The sum before the norm. -/
def res (n : Fin 16384) (j : Fin 1024) : EReal :=
  Ideal.ofBits .f32 0x3F9837F0#32 * x n j + ∑ k, merged O P W ga gc n k * M k j

/-- The two halves of the merged columns. -/
abbrev left (l : Fin 512) : Fin 1024 := ⟨l.val, by omega⟩
abbrev right (l : Fin 512) : Fin 1024 := ⟨512 + l.val, by omega⟩

theorem merged_left (n : Fin 16384) (l : Fin 512) : merged O P W ga gc n (left l) = rms (O n) (ga l) l := by
  rw [merged, dif_pos l.isLt]

theorem merged_right (n : Fin 16384) (l : Fin 512) : merged O P W ga gc n (right l) = rms (gate P W n) (gc l) l := by
  rw [merged, dif_neg (by show ¬ 512 + l.val < 512; omega)]
  simp only [Nat.add_sub_cancel_left]

/-- The projection, a half of the columns at a time. -/
theorem res_halves (n : Fin 16384) (j : Fin 1024) :
    res O P W ga gc M x n j = Ideal.ofBits .f32 0x3F9837F0#32 * x n j + (∑ l, rms (O n) (ga l) l * M (left l) j)
      + ∑ l, rms (gate P W n) (gc l) l * M (right l) j := by
  rw [res, add_assoc]
  refine congrArg _ ((Fin.sum_univ_add (a := 512) (b := 512) fun k => merged O P W ga gc n k * M k j).trans ?_)
  refine congrArg₂ (· + ·) (Finset.sum_congr rfl fun l _ => ?_) (Finset.sum_congr rfl fun l _ => ?_)
  · exact congrArg (· * M (left l) j) (merged_left O P W ga gc n l)
  · exact congrArg (· * M (right l) j) (merged_right O P W ga gc n l)

end Cert.Step.Mtf
end
-- ==== Proof.Mtf.Kern.lean ====
/- The kernel of the end of the mixer: what each point leaves, and the results after the run. -/
module
public import proofs.«01_k».proof.Proof.Gen.MtfIdeal.Value
public import proofs.«01_k».proof.Proof.Mtf.Spec
public import proofs.«01_k».proof.Proof.Words
public import Idealize.ShloMosaic.Lib.WritesUnit
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384

noncomputable section

namespace Cert.MtfIdeal.Sem

open Cert.MtfIdeal Cert.MtfIdeal.Gen Idealize.ShloMosaic Idealize.ShloMosaic.TcCoe Idealize.SL.Sem
open Idealize.ShloMosaic.Pipeline (Dat)
open Cert.Step
open Cert.Step.Conv (u back conv)
open Cert.Step.Ffw (cen nrm)
open Cert.Step.Mtf

variable (m : (ℓ : Loc nD τ sig) → Buf (Elt Ideal) ℓ) (c : Dev nD)

def o (n : Fin 16384) (l : Fin 512) : EReal := m ((c : Thread nD τ).loc main_arg0) (ix2 n l)
def p (n : Fin 16384) (j : Fin 3080) : EReal := m ((c : Thread nD τ).loc main_arg1) (ix2 n j)
def w (k : Fin 3) (l : Fin 512) : EReal := m ((c : Thread nD τ).loc main_arg2) (ix2 k l)
def ga (l : Fin 512) : EReal := m ((c : Thread nD τ).loc main_arg3) (ix2 0 l)
def gc (l : Fin 512) : EReal := m ((c : Thread nD τ).loc main_arg4) (ix2 0 l)
def mo (k j : Fin 1024) : EReal := m ((c : Thread nD τ).loc main_arg5) (ix2 k j)
def x (n : Fin 16384) (j : Fin 1024) : EReal := m ((c : Thread nD τ).loc main_arg6) (ix2 n j)
def lg (j : Fin 1024) : EReal := m ((c : Thread nD τ).loc main_arg7) (ix2 0 j)
def lb (j : Fin 1024) : EReal := m ((c : Thread nD τ).loc main_arg8) (ix2 0 j)

theorem lt32 (t : Fin cfg0.N) : t.val < 32 := t.isLt.trans_eq (by decide +kernel : cfg0.N = 32)

theorem idx : ∀ t : Fin cfg0.N, win0_0.index t = ![t.val, 0] ∧ win0_1.index t = ![t.val, 0] ∧ win0_2.index t = ![t.val, 1] ∧ win0_3.index t = ![t.val, 2] ∧ win0_4.index t = ![t.val * 64 - 1, 1] ∧ win0_5.index t = ![t.val * 64 - 1, 2] ∧ win0_6.index t = ![0, 0] ∧ win0_7.index t = ![0, 0] ∧ win0_8.index t = ![0, 0] ∧ win0_9.index t = ![0, 0] ∧ win0_10.index t = ![t.val, 0] ∧ win0_11.index t = ![0, 0] ∧ win0_12.index t = ![0, 0] ∧ win0_13.index t = ![t.val, 0] ∧ win0_14.index t = ![t.val, 0] ∧ win0_15.index t = ![t.val, 0] :=
  (by decide +kernel : ∀ t : Fin grid0.N, _)

theorem crd (t : Fin cfg0.N) : (grid0.coords t 0).val = t.val :=
  (by decide +kernel : ∀ t : Fin grid0.N, (grid0.coords t 0).val = t.val) t

/-- The buffer of the convolution's columns: the projection's from column 1544 on. -/
theorem cols_at (n : Fin 16384) (j : Fin 1664) (q : Fin 3080) (hj : j.val < 1536) (hq : q.val = 1544 + j.val) :
    V m c main_v3 (ix2 n j) = p m c n q := by
  have hb : 1544 + j.val < 3080 := by clear hq; omega
  obtain rfl : q = ⟨1544 + j.val, hb⟩ := Fin.ext hq
  simp only [V, hostOps0, hostOps0_1, hostOps0_2, List.flatten_cons, List.flatten_nil, List.cons_append, List.nil_append, List.append_nil]
  entry_read
  pointwise
  rw [dif_pos hj]
  rfl

theorem mo_at (k j : Fin 1024) : V m c main_v4 (ix2 k j) = mo m c k j := by
  simp only [V, hostOps0, hostOps0_1, hostOps0_2, List.flatten_cons, List.flatten_nil, List.cons_append, List.nil_append, List.append_nil]
  entry_read
  pointwise []
  rfl

variable (t : Fin cfg0.N) (r : Fin 512) (l : Fin 512)

/-- The row of the sequence that a point's row is. -/
def row : Fin 16384 := ⟨t.val * 512 + r.val, by have := lt32 t; omega⟩

theorem o_blk : iblk m c 0 t (ix2 r l) = o m c (row t r) l := by
  unfold row o
  blk_point [iblk, V, idx t]
theorem w_blk (k : Fin 3) : iblk m c 6 t (ix2 k l) = w m c k l := by
  unfold w
  blk_point [iblk, V, idx t]
theorem ga_blk : iblk m c 7 t (ix2 0 l) = ga m c l := by
  unfold ga
  blk_point [iblk, V, idx t]
theorem gc_blk : iblk m c 8 t (ix2 0 l) = gc m c l := by
  unfold gc
  blk_point [iblk, V, idx t]
theorem mo_blk (k j : Fin 1024) : iblk m c 9 t (ix2 k j) = mo m c k j := by
  have h : iblk m c 9 t (ix2 k j) = V m c main_v4 (ix2 k j) := by blk_point [iblk, idx t]
  exact h.trans (mo_at m c k j)
theorem x_blk (j : Fin 1024) : iblk m c 10 t (ix2 r j) = x m c (row t r) j := by
  unfold row x
  blk_point [iblk, V, idx t]
theorem lg_blk (j : Fin 1024) : iblk m c 11 t (ix2 0 j) = lg m c j := by
  unfold lg
  blk_point [iblk, V, idx t]
theorem lb_blk (j : Fin 1024) : iblk m c 12 t (ix2 0 j) = lb m c j := by
  unfold lb
  blk_point [iblk, V, idx t]

/-- The tile of the output gate. -/
theorem b_blk : X0_1 m c t (ix2 r l) = p m c (row t r) ⟨1544 + l.val, by omega⟩ := by
  have ht := lt32 t
  unfold X0_1 Pipeline.Window.fill
  rw [dif_pos (moved0_1 t _)]
  blk_simp [iblk]
  refine (congrArg _ (show _ = (ix2 (row t r) ⟨l.val, by omega⟩ : S16384x1664.Idx) from ?_)).trans (cols_at m c _ _ _ (by show l.val < 1536; omega) rfl)
  unfold row
  blk_ext [idx t]
/-- The tile of the input gate. -/
theorem c_blk : X0_2 m c t (ix2 r l) = p m c (row t r) ⟨2056 + l.val, by omega⟩ := by
  have ht := lt32 t
  unfold X0_2 Pipeline.Window.fill
  rw [dif_pos (moved0_2 t _)]
  blk_simp [iblk]
  refine (congrArg _ (show _ = (ix2 (row t r) ⟨512 + l.val, by omega⟩ : S16384x1664.Idx) from ?_)).trans (cols_at m c _ _ _ (by show 512 + l.val < 1536; omega) (by show 2056 + l.val = 1544 + (512 + l.val); omega))
  unfold row
  blk_ext [idx t]
/-- The tile of the value. -/
theorem h_blk : X0_3 m c t (ix2 r l) = p m c (row t r) ⟨2568 + l.val, by omega⟩ := by
  have ht := lt32 t
  unfold X0_3 Pipeline.Window.fill
  rw [dif_pos (moved0_3 t _)]
  blk_simp [iblk]
  refine (congrArg _ (show _ = (ix2 (row t r) ⟨1024 + l.val, by omega⟩ : S16384x1664.Idx) from ?_)).trans (cols_at m c _ _ _ (by show 1024 + l.val < 1536; omega) (by show 2568 + l.val = 1544 + (1024 + l.val); omega))
  unfold row
  blk_ext [idx t]
/-- The eight rows before the tile: the input gate. -/
theorem cp_blk (k : Fin 8) : X0_4 m c t (ix2 k l) = p m c ⟨(t.val * 64 - 1) * 8 + k.val, by have := lt32 t; omega⟩ ⟨2056 + l.val, by omega⟩ := by
  have ht := lt32 t
  unfold X0_4 Pipeline.Window.fill
  rw [dif_pos (moved0_4 t _)]
  blk_simp [iblk]
  refine (congrArg _ (show _ = (ix2 ⟨(t.val * 64 - 1) * 8 + k.val, by omega⟩ ⟨512 + l.val, by omega⟩ : S16384x1664.Idx) from ?_)).trans (cols_at m c _ _ _ (by show 512 + l.val < 1536; omega) (by show 2056 + l.val = 1544 + (512 + l.val); omega))
  blk_ext [idx t]
/-- The eight rows before the tile: the value. -/
theorem hp_blk (k : Fin 8) : X0_5 m c t (ix2 k l) = p m c ⟨(t.val * 64 - 1) * 8 + k.val, by have := lt32 t; omega⟩ ⟨2568 + l.val, by omega⟩ := by
  have ht := lt32 t
  unfold X0_5 Pipeline.Window.fill
  rw [dif_pos (moved0_5 t _)]
  blk_simp [iblk]
  refine (congrArg _ (show _ = (ix2 ⟨(t.val * 64 - 1) * 8 + k.val, by omega⟩ ⟨1024 + l.val, by omega⟩ : S16384x1664.Idx) from ?_)).trans (cols_at m c _ _ _ (by show 1024 + l.val < 1536; omega) (by show 2568 + l.val = 1544 + (1024 + l.val); omega))
  blk_ext [idx t]

/-- An eight-row tile over and over down a tile, at a row. -/
theorem stack (v : FVec Ideal S8x512 .f32)
    (h : Shape.Concatenates ((List.replicate 64 (⟨S8x512, v⟩ : (s : Shape) × (s.Idx → Ideal .f32))).map (·.1)) S512x512 0) :
    concatenate S512x512 0 (List.replicate 64 (⟨S8x512, v⟩ : (s : Shape) × (s.Idx → Ideal .f32))) h (ix2 r l)
      = v (ix2 ⟨r.val % 8, by omega⟩ l) :=
  concatenate_replicate_apply (t := S512x512) (s₁ := S8x512) 0 64 v h rfl (ix2 r l) (ix2 ⟨r.val % 8, by omega⟩ l) rfl
    (fun b hb => by fin_cases b; · exact absurd rfl hb
                    · rfl)

theorem fills : Shape.Concatenates (List.replicate 64 S8x512) S512x512 0 := by decide

/-- A tile some rows back, its first rows from the eight-row tile before it. -/
def shifted (a : BitVec 32) (A : FVec Ideal S512x512 .f32) (C : FVec Ideal S8x512 .f32) : FVec Ideal S512x512 .f32 :=
  select (broadcastTo S512x512 (shapeCast S512x1 (cmpi .slt (iota .tc S512x1 32 [0] iota_S512x1_d0_w32) (broadcast S512x1 a)) shapeCasts_S512x1_S512x1) broadcasts_S512x1_S512x512)
    (concatenate S512x512 0 (List.replicate 64 (⟨S8x512, dynamicRotate 0 a none C rotates_S8x512_d0⟩ : (s : Shape) × (s.Idx → Ideal .f32))) fills)
    (dynamicRotate 0 a none A rotates_S512x512_d0)

theorem shifted1_at (A : FVec Ideal S512x512 .f32) (C : FVec Ideal S8x512 .f32) :
    shifted 1#32 A C (ix2 r l) = if r.val < 1 then C (ix2 ⟨(r.val % 8 + 8 - 1) % 8, by omega⟩ l) else A (ix2 ⟨(r.val + 512 - 1) % 512, by omega⟩ l) := by
  rw [shifted]
  pointwise [stack]
  rw [sel_slt _ _ (by omega) (by omega)]
theorem shifted2_at (A : FVec Ideal S512x512 .f32) (C : FVec Ideal S8x512 .f32) :
    shifted 2#32 A C (ix2 r l) = if r.val < 2 then C (ix2 ⟨(r.val % 8 + 8 - 2) % 8, by omega⟩ l) else A (ix2 ⟨(r.val + 512 - 2) % 512, by omega⟩ l) := by
  rw [shifted]
  pointwise [stack]
  rw [sel_slt _ _ (by omega) (by omega)]

/-- The convolution's input in the eight rows before a tile, zero before the first. -/
def halo (i : grid0.Coords) (C D : Vec Ideal S8x512 .f32) : FVec Ideal S8x512 .f32 :=
  Scalar.select (Scalar.cmpi .eq (BitVec.ofNat 32 (i 0).val) 0#32) (broadcast S8x512 (Scalar.ofBits .f32 0x00000000#32))
    (mulf (shapeCast S8x512 C shapeCasts_S8x512_S8x512) (shapeCast S8x512 D shapeCasts_S8x512_S8x512))

theorem pay2_eq (i : grid0.Coords) (A B : Vec Ideal S512x512 .f32) (C D : Vec Ideal S8x512 .f32) (w0 w1 : Vec Ideal S1x512 .f32) :
    k0_pay2 (F := Ideal) i A B C D w0 w1
      = addf (mulf (broadcastTo S512x512 w0 broadcasts_S1x512_S512x512) (shifted 2#32 (k0_pay1 A B) (halo i C D)))
          (mulf (broadcastTo S512x512 w1 broadcasts_S1x512_S512x512) (shifted 1#32 (k0_pay1 A B) (halo i C D))) := rfl

theorem u_at : k0_pay1 (F := Ideal) (X0_2 m c t) (X0_3 m c t) (ix2 r l) = u (p m c) (t.val * 512 + r.val) l := by
  have ht := lt32 t
  have hr : t.val * 512 + r.val < 16384 := by omega
  pointwise [k0_pay1, c_blk, h_blk]
  simp only [u, hr, dite_true]
  rfl

theorem halo_at (k : Fin 8) : halo (grid0.coords t) (X0_4 m c t) (X0_5 m c t) (ix2 k l)
    = if t.val = 0 then 0 else u (p m c) (t.val * 512 + k.val - 8) l := by
  have ht := lt32 t
  pointwise [halo, cp_blk, hp_blk]
  rw [crd t, sel_eq' _ _ (by omega) (by omega)]
  split_ifs with h
  · rfl
  · have hr : t.val * 512 + k.val - 8 < 16384 := by omega
    have e : (t.val * 64 - 1) * 8 + k.val = t.val * 512 + k.val - 8 := by omega
    simp only [u, hr, e, dite_true]

theorem back1_at : shifted 1#32 (k0_pay1 (F := Ideal) (X0_2 m c t) (X0_3 m c t)) (halo (grid0.coords t) (X0_4 m c t) (X0_5 m c t)) (ix2 r l)
    = back (p m c) 1 (t.val * 512 + r.val) l := by
  have ht := lt32 t
  rw [shifted1_at, halo_at, u_at, back]
  split_ifs <;> first | rfl | omega | (congr 1; dsimp only; omega)
theorem back2_at : shifted 2#32 (k0_pay1 (F := Ideal) (X0_2 m c t) (X0_3 m c t)) (halo (grid0.coords t) (X0_4 m c t) (X0_5 m c t)) (ix2 r l)
    = back (p m c) 2 (t.val * 512 + r.val) l := by
  have ht := lt32 t
  rw [shifted2_at, halo_at, u_at, back]
  split_ifs <;> first | rfl | omega | (congr 1; dsimp only; omega)

/-- The tile of the gated convolution, as a point computes it, from the three taps' rows. -/
def tile (w0 w1 w2 : Vec Ideal S1x512 .f32) : FVec Ideal S512x512 .f32 :=
  mulf (shapeCast S512x512 (X0_1 m c t) shapeCasts_S512x512_S512x512)
    (addf (k0_pay2 (grid0.coords t) (X0_2 m c t) (X0_3 m c t) (X0_4 m c t) (X0_5 m c t) w0 w1)
      (mulf (broadcastTo S512x512 w2 broadcasts_S1x512_S512x512) (k0_pay1 (X0_2 m c t) (X0_3 m c t))))

theorem tile_at (w0 w1 w2 : Vec Ideal S1x512 .f32) (h0 : ∀ l, w0 (ix2 0 l) = w m c 0 l) (h1 : ∀ l, w1 (ix2 0 l) = w m c 1 l) (h2 : ∀ l, w2 (ix2 0 l) = w m c 2 l) :
    tile m c t w0 w1 w2 (ix2 r l) = gate (p m c) (w m c) (row t r) l := by
  unfold tile
  rw [pay2_eq]
  pointwise [back1_at, back2_at, u_at, b_blk]
  rw [h0, h1, h2]
  rfl

theorem rms_at (X : Vec Ideal S512x512 .f32) (g : Vec Ideal S1x512 .f32) :
    k0_pay3 (F := Ideal) X g (ix2 r l) = rms (fun k => X (ix2 r k)) (g (ix2 0 l)) l := by
  pointwise [k0_pay3]
  rfl

theorem pay4_eq (A v w2 b g) : k0_pay4 (F := Ideal) A v w2 b g
    = k0_pay3 (mulf (shapeCast S512x512 b shapeCasts_S512x512_S512x512) (addf v (mulf (broadcastTo S512x512 w2 broadcasts_S1x512_S512x512) A))) g := rfl

theorem sum_at (a b : FVec Ideal S512x512 .bf16) (X : Vec Ideal S512x1024 .f32) (A B : Vec Ideal S512x1024 .bf16) (j : Fin 1024) :
    k0_pay5 (F := Ideal) a b X A B (ix2 r j)
      = Ideal.ofBits .f32 0x3F9837F0#32 * X (ix2 r j) + (∑ l, (a (ix2 r l) : EReal) * A (ix2 l j)) + ∑ l, (b (ix2 r l) : EReal) * B (ix2 l j) := by
  pointwise [k0_pay5]

theorem norm_at (a b : FVec Ideal S512x512 .bf16) (X : Vec Ideal S512x1024 .f32) (A B : Vec Ideal S512x1024 .bf16) (G H : Vec Ideal S1x1024 .f32) (R : FVec Ideal S512x1024 .f32)
    (hR : k0_pay5 (F := Ideal) a b X A B = R) (j : Fin 1024) :
    k0_pay6 (F := Ideal) a b X A B G H (ix2 r j) = nrm (fun j => R (ix2 r j)) (G (ix2 0 j)) (H (ix2 0 j)) j := by
  pointwise [k0_pay6]
  rw [hR]
  rfl

/-- One tap's row of the taps. -/
theorem tap_at (k : Fin 3) (f : ℕ) (inb) (hf : f = k.val) (l : Fin 512) :
    View.ld (iblk m c 6 t) (Rect.unit (s := S3x512) ![f, 0] S1x512.size inb) (ix2 0 l) = w m c k l := by
  refine (View.ld_unit_apply_of (S := S3x512) (iblk m c 6 t) ![f, 0] S1x512.size inb (ix2 0 l) (ix2 k l) fun d => ?_).trans (w_blk m c t l k)
  match d with
  | ⟨0, _⟩ => exact hf.symm
  | ⟨1, _⟩ => exact (Nat.zero_add _).symm

/-- A half of the rows of the projection's matrix. -/
theorem half_at (f : ℕ) (inb) (q : Fin 1024) (j : Fin 1024) (hq : q.val = f + l.val) :
    View.ld (iblk m c 9 t) (Rect.unit (s := S1024x1024) ![f, 0] S512x1024.size inb) (ix2 l j) = mo m c q j := by
  refine (View.ld_unit_apply_of (S := S1024x1024) (iblk m c 9 t) ![f, 0] S512x1024.size inb (ix2 l j) (ix2 q j) fun d => ?_).trans (mo_blk m c t q j)
  match d with
  | ⟨0, _⟩ => exact hq
  | ⟨1, _⟩ => exact (Nat.zero_add _).symm

/-- The left half of the merged tile, and the right. -/
abbrev A : FVec Ideal S512x512 .bf16 := k0_pay3 (F := Ideal) (iblk m c 0 t) (iblk m c 7 t)
abbrev B : FVec Ideal S512x512 .bf16 :=
  k0_pay4 (F := Ideal) (k0_pay1 (X0_2 m c t) (X0_3 m c t))
    (k0_pay2 (grid0.coords t) (X0_2 m c t) (X0_3 m c t) (X0_4 m c t) (X0_5 m c t)
      (View.ld (iblk m c 6 t) (Rect.unit (s := S3x512) ![0, 0] S1x512.size inb_S3x512_S1x512_0_0))
      (View.ld (iblk m c 6 t) (Rect.unit (s := S3x512) ![1, 0] S1x512.size inb_S3x512_S1x512_1_0)))
    (View.ld (iblk m c 6 t) (Rect.unit (s := S3x512) ![2, 0] S1x512.size inb_S3x512_S1x512_2_0)) (X0_1 m c t) (iblk m c 8 t)

theorem A_at : A m c t (ix2 r l) = rms (o m c (row t r)) (ga m c l) l := by
  refine (rms_at r l _ _).trans ?_
  rw [ga_blk, funext (o_blk m c t r)]

theorem B_at : B m c t (ix2 r l) = rms (gate (p m c) (w m c) (row t r)) (gc m c l) l := by
  unfold B
  rw [pay4_eq]
  refine (rms_at r l (tile m c t _ _ _) _).trans ?_
  rw [gc_blk, funext fun k => tile_at m c t r k _ _ _ (tap_at m c t 0 0 _ rfl) (tap_at m c t 1 1 _ rfl) (tap_at m c t 2 2 _ rfl)]

/-- The sum before the norm, as a point computes it. -/
abbrev sum : FVec Ideal S512x1024 .f32 :=
  k0_pay5 (F := Ideal) (A m c t) (B m c t) (iblk m c 10 t)
    (View.ld (iblk m c 9 t) (Rect.unit (s := S1024x1024) ![0, 0] S512x1024.size inb_S1024x1024_S512x1024_0_0))
    (View.ld (iblk m c 9 t) (Rect.unit (s := S1024x1024) ![512, 0] S512x1024.size inb_S1024x1024_S512x1024_512_0))

theorem res_at (j : Fin 1024) :
    sum m c t (ix2 r j) = res (o m c) (p m c) (w m c) (ga m c) (gc m c) (mo m c) (x m c) (row t r) j := by
  refine (sum_at r _ _ _ _ _ j).trans (Eq.trans ?_ (res_halves ..).symm)
  refine congrArg₂ (· + ·) (congrArg₂ (· + ·) (congrArg _ (x_blk m c t r j)) (Finset.sum_congr rfl fun l _ => ?_)) (Finset.sum_congr rfl fun l _ => ?_)
  · exact congrArg₂ (· * ·) (A_at m c t r l) (half_at m c t l 0 _ (left l) j (Nat.zero_add _).symm)
  · exact congrArg₂ (· * ·) (B_at m c t r l) (half_at m c t l 512 _ (right l) j rfl)

theorem out13 (j : Fin 1024) : (outsAt0 m c t).1 (ix2 r j)
    = nrm (res (o m c) (p m c) (w m c) (ga m c) (gc m c) (mo m c) (x m c) (row t r)) (lg m c j) (lb m c j) j := by
  unfold outsAt0
  frame_out
  refine (norm_at r _ _ _ _ _ _ _ (sum m c t) rfl j).trans ?_
  rw [lg_blk m c t j, lb_blk m c t j, funext (res_at m c t r)]

theorem out14 (j : Fin 1024) : (outsAt0 m c t).2.1 (ix2 r j)
    = res (o m c) (p m c) (w m c) (ga m c) (gc m c) (mo m c) (x m c) (row t r) j := by
  unfold outsAt0
  frame_out
  exact res_at m c t r j

theorem out15 (j : Fin 1024) : (outsAt0 m c t).2.2 (ix2 r j) = merged (o m c) (p m c) (w m c) (ga m c) (gc m c) (row t r) j := by
  unfold outsAt0
  frame_out
  canon_tiles y hy
  all_goals idx_vars y
  case piece0 =>
    obtain rfl : r = y0 := Fin.ext hy0
    obtain rfl : j = right y1 := Fin.ext hy1
    exact (B_at m c t r y1).trans (merged_right ..).symm
  case piece1 =>
    obtain rfl : r = y0 := Fin.ext hy0
    obtain rfl : j = left y1 := Fin.ext hy1
    exact (A_at m c t r y1).trans (merged_left ..).symm

/-! The results after the run. -/

theorem final13 : (dats m 0 c).arrAt 13 cfg0.N = fun i =>
    nrm (res (o m c) (p m c) (w m c) (ga m c) (gc m c) (mo m c) (x m c) (i 0)) (lg m c (i 1)) (lb m c (i 1)) (i 1) := by
  refine (dats m 0 c).arrAt_eq_of_covers 13 _ (by decide +kernel) fun t hf y => ?_
  blk_simp
  rw [after0_13]
  idx_vars y
  refine (out13 m c t y0 y1).trans ?_
  refine congrArg₂ (fun n j => nrm (res (o m c) (p m c) (w m c) (ga m c) (gc m c) (mo m c) (x m c) n) (lg m c j) (lb m c j) j) (Fin.ext ?_) (Fin.ext ?_)
  · unfold row
    blk_ext [idx t]
  · blk_ext [idx t]

theorem final14 : (dats m 0 c).arrAt 14 cfg0.N = fun i =>
    res (o m c) (p m c) (w m c) (ga m c) (gc m c) (mo m c) (x m c) (i 0) (i 1) := by
  refine (dats m 0 c).arrAt_eq_of_covers 14 _ (by decide +kernel) fun t hf y => ?_
  blk_simp
  rw [after0_14]
  idx_vars y
  refine (out14 m c t y0 y1).trans ?_
  refine congrArg₂ (res (o m c) (p m c) (w m c) (ga m c) (gc m c) (mo m c) (x m c)) (Fin.ext ?_) (Fin.ext ?_)
  · unfold row
    blk_ext [idx t]
  · blk_ext [idx t]

theorem final15 : (dats m 0 c).arrAt 15 cfg0.N = fun i => merged (o m c) (p m c) (w m c) (ga m c) (gc m c) (i 0) (i 1) := by
  refine (dats m 0 c).arrAt_eq_of_covers 15 _ (by decide +kernel) fun t hf y => ?_
  blk_simp
  rw [after0_15]
  idx_vars y
  refine (out15 m c t y0 y1).trans ?_
  refine congrArg₂ (merged (o m c) (p m c) (w m c) (ga m c) (gc m c)) (Fin.ext ?_) (Fin.ext ?_)
  · unfold row
    blk_ext [idx t]
  · blk_ext [idx t]

end Cert.MtfIdeal.Sem
end
-- ==== Proof.Mtf.Ref.lean ====
/- The reference of the end of the mixer: what it leaves in its three results. -/
module
public import proofs.«01_k».proof.Proof.Gen.MtfRefIdeal.Read
public import proofs.«01_k».proof.Proof.Mtf.Spec
@[expose] public section
set_option maxRecDepth 16384

noncomputable section

namespace Cert.MtfRefIdeal.Sem

open Cert.MtfRefIdeal Cert.MtfRefIdeal.Gen Cert.MtfRefIdeal.Read Idealize.ShloMosaic
open Cert.Step.Conv (u back conv)
open Cert.Step.Ffw (cen nrm)
open Cert.Step.Mtf

variable (O : FVec Ideal S16384x512 .f32) (P : FVec Ideal S16384x3080 .f32) (W : FVec Ideal S3x512 .f32)
variable (ga gc : FVec Ideal S1x512 .f32) (M : FVec Ideal S1024x1024 .f32) (X : FVec Ideal S16384x1024 .f32)
variable (G B : FVec Ideal S1x1024 .f32)

def o (n : Fin 16384) (l : Fin 512) : EReal := O (ix2 n l)
def p (n : Fin 16384) (j : Fin 3080) : EReal := P (ix2 n j)
def w (k : Fin 3) (l : Fin 512) : EReal := W (ix2 k l)
def row512 (g : FVec Ideal S1x512 .f32) (l : Fin 512) : EReal := g (ix2 0 l)
def mo (k j : Fin 1024) : EReal := M (ix2 k j)
def x (n : Fin 16384) (j : Fin 1024) : EReal := X (ix2 n j)

/-- The convolution's input two rows back. -/
theorem v8_at (n : Fin 16384) (l : Fin 512) : val_main_v8 (F := Ideal) P (ix2 n l) = back (p P) 2 n l := by
  pointwise [val_main_v8, val_main_v5, val_main_v4, val_main_cst, val_main_v3, val_main_v2, val_main_v1]
  rcases n with ⟨n, hn⟩
  have l2 : n - 2 < 16384 := by omega
  simp only [back, u, l2, dite_true]
  rfl
/-- One row back. -/
theorem v14_at (n : Fin 16384) (l : Fin 512) : val_main_v14 (F := Ideal) P (ix2 n l) = back (p P) 1 n l := by
  pointwise [val_main_v14, val_main_v5, val_main_v4, val_main_cst, val_main_v3, val_main_v2, val_main_v1]
  rcases n with ⟨n, hn⟩
  have e : 1 + n - 2 = n - 1 := by omega
  have l1 : n - 1 < 16384 := by omega
  have g : (1 + n < 2) = (n < 1) := propext (by omega)
  simp only [back, u, e, g, l1, dite_true]
  rfl
/-- The input itself. -/
theorem v21_at (n : Fin 16384) (l : Fin 512) : val_main_v21 (F := Ideal) P (ix2 n l) = u (p P) n l := by
  pointwise [val_main_v21, val_main_v5, val_main_v4, val_main_cst, val_main_v3, val_main_v2, val_main_v1]
  rcases n with ⟨n, hn⟩
  simp only [u, hn, dite_true]
  rfl

/-- The gated convolution. -/
theorem gate_at (n : Fin 16384) (l : Fin 512) : val_main_v26 (F := Ideal) P W (ix2 n l) = gate (p P) (w W) n l := by
  pointwise [val_main_v26, val_main_v25, val_main_v24, val_main_v23, val_main_v22, val_main_v20, val_main_v19, val_main_v18, val_main_v17, val_main_v16, val_main_v15, val_main_v13, val_main_v12, val_main_v11, val_main_v10, val_main_v9, val_main_v7, val_main_v6, val_main_v0]
  rw [v8_at, v14_at, v21_at]
  rfl

theorem left_at (n : Fin 16384) (l : Fin 512) : val_main_v38 (F := Ideal) O ga (ix2 n l) = rms (o O n) (row512 ga l) l := by
  pointwise [val_main_v38, val_main_v37, val_main_v36, val_main_v35, val_main_v34, val_main_v33, val_main_v32, val_main_v31, val_main_v30, val_main_v29, val_main_v28, val_main_v27, val_main_cst_0, val_main_cst_1, val_main_cst_2]
  rfl

theorem right_at (n : Fin 16384) (l : Fin 512) : val_main_v50 (F := Ideal) P W gc (ix2 n l) = rms (gate (p P) (w W) n) (row512 gc l) l := by
  pointwise [val_main_v50, val_main_v49, val_main_v48, val_main_v47, val_main_v46, val_main_v45, val_main_v44, val_main_v43, val_main_v42, val_main_v41, val_main_v40, val_main_v39, val_main_cst_3, val_main_cst_4, val_main_cst_5]
  simp only [gate_at]
  rfl

theorem merged_at (n : Fin 16384) (k : Fin 1024) :
    val_main_v51 (F := Ideal) O P W ga gc (ix2 n k) = merged (o O) (p P) (w W) (row512 ga) (row512 gc) n k := by
  pointwise [val_main_v51]
  unfold merged
  split_ifs with h
  all_goals first | exact left_at O ga n _ | exact right_at P W gc n _

theorem res_at (n : Fin 16384) (j : Fin 1024) :
    val_main_v55 (F := Ideal) O P W ga gc M X (ix2 n j) = res (o O) (p P) (w W) (row512 ga) (row512 gc) (mo M) (x X) n j := by
  pointwise [val_main_v55, val_main_v54, val_main_v53, val_main_v52, val_main_cst_6]
  unfold res
  refine congrArg (_ + ·) (Finset.sum_congr rfl fun k _ => ?_)
  rw [merged_at]
  rfl

theorem cen_at (n : Fin 16384) (j : Fin 1024) :
    val_main_v61 (F := Ideal) O P W ga gc M X (ix2 n j) = cen (res (o O) (p P) (w W) (row512 ga) (row512 gc) (mo M) (x X) n) j := by
  pointwise [val_main_v61, val_main_v60, val_main_v59, val_main_v58, val_main_v57, val_main_v56, val_main_cst_7, val_main_cst_8]
  simp only [res_at]
  rfl

theorem nrm_at (n : Fin 16384) (j : Fin 1024) :
    val_main_v75 (F := Ideal) O P W ga gc M X G B (ix2 n j)
      = nrm (res (o O) (p P) (w W) (row512 ga) (row512 gc) (mo M) (x X) n) (G (ix2 0 j)) (B (ix2 0 j)) j := by
  pointwise [val_main_v75, val_main_v74, val_main_v73, val_main_v72, val_main_v71, val_main_v70, val_main_v69, val_main_v68, val_main_v67, val_main_v66, val_main_v65, val_main_v64, val_main_v63, val_main_v62, val_main_cst_9, val_main_cst_10, val_main_cst_11]
  simp only [cen_at]
  rfl

theorem mergedb_at (n : Fin 16384) (k : Fin 1024) :
    val_main_v76 (F := Ideal) O P W ga gc (ix2 n k) = merged (o O) (p P) (w W) (row512 ga) (row512 gc) n k := by
  pointwise [val_main_v76]
  exact merged_at O P W ga gc n k

end Cert.MtfRefIdeal.Sem
end
-- ==== Proof.Mtf.Claim.lean ====
/- The claim of the end of the mixer: both programs leave the same three results, of any arguments. -/
module
public import proofs.«01_k».proof.Defs
public import proofs.«01_k».proof.Proof.Gen.Mtf
public import proofs.«01_k».proof.Proof.Gen.Mtf.Frame
public import proofs.«01_k».proof.Proof.Gen.MtfIdeal
public import proofs.«01_k».proof.Proof.Gen.MtfRefIdeal
public import proofs.«01_k».proof.Proof.Gen.MtfRefIdeal.Run
public import proofs.«01_k».proof.Proof.Mtf.Kern
public import proofs.«01_k».proof.Proof.Mtf.Ref
@[expose] public section
set_option maxRecDepth 16384

noncomputable section

namespace Cert.Step.Mtf

open Idealize.ShloMosaic Idealize.SL.Sem

theorem algebraic : Cert.algebraic_MtfIdeal_MtfRefIdeal (hMtfIdeal := Cert.MtfIdeal.Gen.facts)
    (hMtfRefIdeal := Cert.MtfRefIdeal.Gen.facts) := by
  pair_intro
  · run_from Cert.MtfIdeal.Value.run_blocks m g
  · run_from Cert.MtfRefIdeal.Value.run m' g'
    · refine (Cert.MtfRefIdeal.Read.val_main_v75_eq ..).trans (Eq.trans ?_ (Cert.MtfIdeal.Sem.final13 m c).symm)
      obtain ⟨h0, h1, h2, h3, h4, h5, h6, h7, h8⟩ := hagree c
      rw [h0, h1, h2, h3, h4, h5, h6, h7, h8]
      funext i
      exact (congrArg _ (ix2_eta i).symm).trans (Cert.MtfRefIdeal.Sem.nrm_at _ _ _ _ _ _ _ _ _ (i 0) (i 1))
    · refine (Cert.MtfRefIdeal.Read.val_main_v55_eq ..).trans (Eq.trans ?_ (Cert.MtfIdeal.Sem.final14 m c).symm)
      obtain ⟨h0, h1, h2, h3, h4, h5, h6, h7, h8⟩ := hagree c
      rw [h0, h1, h2, h3, h4, h5, h6]
      funext i
      exact (congrArg _ (ix2_eta i).symm).trans (Cert.MtfRefIdeal.Sem.res_at _ _ _ _ _ _ _ (i 0) (i 1))
    · refine (Cert.MtfRefIdeal.Read.val_main_v76_eq ..).trans (Eq.trans ?_ (Cert.MtfIdeal.Sem.final15 m c).symm)
      obtain ⟨h0, h1, h2, h3, h4, h5, h6, h7, h8⟩ := hagree c
      rw [h0, h1, h2, h3, h4]
      funext i
      exact (congrArg _ (ix2_eta i).symm).trans (Cert.MtfRefIdeal.Sem.mergedb_at _ _ _ _ _ (i 0) (i 1))

end Cert.Step.Mtf
end
-- ==== Proof.Prod.Spec.lean ====
/- Plain products, over the extended reals. -/
module
public import Idealize.ShloMosaic.Lib.Pointwise
@[expose] public section

noncomputable section

namespace Cert.Step.Prod

open Idealize.ShloMosaic

/-- The columns that the convolution and the forget gate read: the projection's from 1544 on, then the eight before
    those, then zeros. -/
def col (w : Fin 1024 → Fin 3080 → EReal) (k : Fin 1024) (j : Fin 1664) : EReal :=
  if h : j.val < 1536 then w k ⟨1544 + j.val, by omega⟩ else if h : j.val < 1544 then w k ⟨j.val, by omega⟩ else 0

/-- A token's share of an entry of a product over the tokens; none past the last token. -/
def share (a b : Fin 16384 → EReal) (n : ℕ) : EReal := if h : n < 16384 then a ⟨n, h⟩ * b ⟨n, h⟩ else 0

theorem share_fin (a b : Fin 16384 → EReal) (n : Fin 16384) : share a b n.val = a n * b n := by
  rw [share, dif_pos n.isLt]

end Cert.Step.Prod
end
-- ==== Proof.Proj.Kern.lean ====
/- The kernel of a projection: what each point leaves, and the result after the run. -/
module
public import proofs.«01_k».proof.Proof.Gen.ProjIdeal.Value
public import proofs.«01_k».proof.Proof.Prod.Spec
public import Idealize.ShloMosaic.Lib.WritesUnit
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384

noncomputable section

namespace Cert.ProjIdeal.Sem

open Cert.ProjIdeal Cert.ProjIdeal.Gen Idealize.ShloMosaic Idealize.ShloMosaic.TcCoe Idealize.SL.Sem
open Idealize.ShloMosaic.Pipeline (Dat)
open Cert.Step.Prod

variable (m : (ℓ : Loc nD τ sig) → Buf (Elt Ideal) ℓ) (c : Dev nD)

theorem zero32 : FloatOps.sitofp (F := Ideal) .f32 (0#32) = (0 : EReal) := by
  show ((((0#32 : BitVec 32).toInt : ℝ)) : EReal) = 0
  simp

def x (n : Fin 16384) (k : Fin 1024) : EReal := m ((c : Thread nD τ).loc main_arg0) (ix2 n k)
def w (k : Fin 1024) (q : Fin 3080) : EReal := m ((c : Thread nD τ).loc main_arg1) (ix2 k q)

theorem lt32 (t : Fin cfg0.N) : t.val < 32 := t.isLt.trans_eq (by decide +kernel : cfg0.N = 32)

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

theorem w_at (k : Fin 1024) (j : Fin 1664) : V m c main_v4 (ix2 k j) = col (w m c) k j := by
  simp only [V, hostOps0, hostOps0_1, hostOps0_2, List.flatten_cons, List.flatten_nil, List.cons_append, List.nil_append, List.append_nil]
  entry_read
  pointwise
  unfold col
  by_cases h1 : j.val < 1536
  · rw [dif_pos h1, dif_pos h1]
    rfl
  · rw [dif_neg h1, dif_neg h1]
    change pad S1024x128 ![0, 0] ![0, 120] ![0, 0] (extractStridedSlice S1024x8 ![0, 1536] (m (c, Proc.tc.devRef main_arg1)) slices_S1024x3080_S1024x8_0_1536) (sitofp (F := Ideal) FTy.f32 (constantI S_ 32 0#32)) pads_S1024x8_S1024x128_000_01200 h_S_ (ix2 k ⟨j.val - 1536, by omega⟩) = _
    pointwise [zero32]
    by_cases h2 : j.val < 1544
    · rw [dif_pos (by omega), dif_pos h2]
      exact congrArg (w m c k) (Fin.ext (by simp only; omega))
    · rw [dif_neg (by omega), dif_neg h2]

theorem one_at (j : Fin 1664) : V m c main_v5 (ix2 0 j) = (1 : EReal) := by
  simp only [V, hostOps0, hostOps0_1, hostOps0_2, List.flatten_cons, List.flatten_nil, List.cons_append, List.nil_append, List.append_nil]
  entry_read
  pointwise

variable (t : Fin cfg0.N)

theorem x_blk (r : Fin 512) (k : Fin 1024) : iblk m c 0 t (ix2 r k) = x m c ⟨t.val * 512 + r.val, by have := lt32 t; omega⟩ k := by
  unfold x
  blk_point [iblk, V, idx t]
theorem w_blk (k : Fin 1024) (j : Fin 1664) : iblk m c 1 t (ix2 k j) = col (w m c) k j := by
  have h : iblk m c 1 t (ix2 k j) = V m c main_v4 (ix2 k j) := by blk_point [iblk, idx t]
  exact h.trans (w_at m c k j)
theorem one_blk (j : Fin 1664) : iblk m c 2 t (ix2 0 j) = (1 : EReal) := by
  have h : iblk m c 2 t (ix2 0 j) = V m c main_v5 (ix2 0 j) := by blk_point [iblk, idx t]
  exact h.trans (one_at m c j)

theorem out3 (r : Fin 512) (j : Fin 1664) : out0_3 (F := Ideal) (iblk m c 0 t) (iblk m c 1 t) (iblk m c 2 t) (ix2 r j)
    = ∑ k, x m c ⟨t.val * 512 + r.val, by have := lt32 t; omega⟩ k * col (w m c) k j := by
  frame_out
  pointwise [k0_pay1, x_blk, w_blk, one_blk]

theorem final3 : (dats m 0 c).arrAt 3 cfg0.N = fun i => ∑ k, x m c (i 0) k * col (w m c) k (i 1) := by
  refine (dats m 0 c).arrAt_eq_of_covers 3 _ (by decide +kernel) fun t hf y => ?_
  blk_simp
  rw [after0_3]
  idx_vars y
  refine (out3 m c t y0 y1).trans ?_
  refine congrArg₂ (fun n j => ∑ k, x m c n k * col (w m c) k j) (Fin.ext ?_) (Fin.ext ?_)
  · blk_ext [idx t]
  · blk_ext [idx t]

end Cert.ProjIdeal.Sem
end
-- ==== Proof.Proj.Ref.lean ====
/- The reference of a projection: the product's columns in the order of the kernel's result. -/
module
public import proofs.«01_k».proof.Proof.Gen.ProjRefIdeal.Read
public import proofs.«01_k».proof.Proof.Prod.Spec
public import Idealize.ShloMosaic.Lib.Pointwise
@[expose] public section
set_option maxRecDepth 16384

noncomputable section

namespace Cert.ProjRefIdeal.Sem

open Cert.ProjRefIdeal Cert.ProjRefIdeal.Gen Cert.ProjRefIdeal.Read Idealize.ShloMosaic
open Cert.Step.Prod

variable (x : FVec Ideal S16384x1024 .f32) (w : FVec Ideal S1024x3080 .f32) (n : Fin 16384)

theorem zero32 : FloatOps.sitofp (F := Ideal) .f32 (0#32) = (0 : EReal) := by
  show ((((0#32 : BitVec 32).toInt : ℝ)) : EReal) = 0
  simp

theorem dot_at (q : Fin 3080) : val_main_v0 (F := Ideal) x w (ix2 n q) = ∑ k, x (ix2 n k) * w (ix2 k q) := by
  pointwise [val_main_v0]

theorem out_at (j : Fin 1664) : val_main_v4 (F := Ideal) x w (ix2 n j)
    = ∑ k, x (ix2 n k) * col (fun k q => w (ix2 k q)) k j := by
  have h : val_main_v4 (F := Ideal) x w (ix2 n j) = if h : j.val < 1536 then val_main_v0 (F := Ideal) x w (ix2 n ⟨1544 + j.val, by omega⟩)
      else if h : j.val < 1544 then val_main_v0 (F := Ideal) x w (ix2 n ⟨j.val, by omega⟩) else 0 := by
    unfold val_main_v4 val_main_v3 val_main_v2 val_main_v1
    generalize val_main_v0 (F := Ideal) x w = y
    pointwise [val_main_call0_v0, val_main_c, zero32]
    by_cases h1 : j.val < 1536
    · rw [dif_pos (by omega), dif_pos h1, dif_pos h1]
    · rw [dif_neg h1]
      by_cases h2 : j.val < 1544
      · rw [dif_pos h2, dif_neg h1, dif_pos h2]
        exact congrArg (fun q => y (ix2 n q)) (Fin.ext (by simp only; omega))
      · rw [dif_neg h2, dif_neg h2]
  rw [h]
  unfold col
  split_ifs with h1 h2
  · exact dot_at x w n _
  · exact dot_at x w n _
  · exact (Finset.sum_eq_zero fun k _ => mul_zero _).symm

end Cert.ProjRefIdeal.Sem
end
-- ==== Proof.Proj.Claim.lean ====
/- The claim of a projection: both programs leave the same array, of any arguments. -/
module
public import proofs.«01_k».proof.Defs
public import proofs.«01_k».proof.Proof.Gen.Proj
public import proofs.«01_k».proof.Proof.Gen.Proj.Frame
public import proofs.«01_k».proof.Proof.Gen.ProjIdeal
public import proofs.«01_k».proof.Proof.Gen.ProjRefIdeal
public import proofs.«01_k».proof.Proof.Gen.ProjRefIdeal.Run
public import proofs.«01_k».proof.Proof.Proj.Kern
public import proofs.«01_k».proof.Proof.Proj.Ref
@[expose] public section
set_option maxRecDepth 16384

noncomputable section

namespace Cert.Step.Proj

open Idealize.ShloMosaic Idealize.SL.Sem

theorem algebraic : Cert.algebraic_ProjIdeal_ProjRefIdeal (hProjIdeal := Cert.ProjIdeal.Gen.facts)
    (hProjRefIdeal := Cert.ProjRefIdeal.Gen.facts) := by
  pair_intro
  · run_from Cert.ProjIdeal.Value.run_blocks m g
  · run_from Cert.ProjRefIdeal.Value.run m' g'
    · refine (Cert.ProjRefIdeal.Read.val_main_v4_eq _ _).trans (Eq.trans ?_ (Cert.ProjIdeal.Sem.final3 m c).symm)
      funext i
      exact (congrArg _ (ix2_eta i).symm).trans (Cert.ProjRefIdeal.Sem.out_at _ _ (i 0) (i 1))

end Cert.Step.Proj
end
-- ==== Proof.Tok.Kern.lean ====
/- The kernel of a product over the tokens, one factor's rows turned to columns: the sum of the steps so far, and the
   result after the run. -/
module
public import proofs.«01_k».proof.Proof.Gen.TokIdeal.Value
public import proofs.«01_k».proof.Proof.Prod.Spec
public import proofs.«01_k».proof.Proof.Steps
public import Idealize.ShloMosaic.Lib.WritesUnit
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384

noncomputable section

namespace Cert.TokIdeal.Sem

open Cert.TokIdeal Cert.TokIdeal.Gen Idealize.ShloMosaic Idealize.ShloMosaic.TcCoe Idealize.SL.Sem
open Idealize.ShloMosaic.Pipeline (Dat)
open Cert.Step Cert.Step.Prod

variable (m : (ℓ : Loc nD τ sig) → Buf (Elt Ideal) ℓ) (c : Dev nD)

def dq (n : Fin 16384) (i : Fin 512) : EReal := m ((c : Thread nD τ).loc main_arg0) (ix2 n i)
def x (n : Fin 16384) (j : Fin 1024) : EReal := m ((c : Thread nD τ).loc main_arg1) (ix2 n j)

theorem lt16 (t : Fin cfg0.N) : t.val < 16 := t.isLt.trans_eq (by decide +kernel : cfg0.N = 16)

theorem idx : ∀ t : Fin cfg0.N, win0_0.index t = ![0, t.val] ∧ win0_1.index t = ![t.val, 0] ∧ win0_2.index t = ![0, 0] :=
  (by decide +kernel : ∀ t : Fin grid0.N, _)

theorem dq_at (i : Fin 512) (n : Fin 16384) : V m c main_v0 (ix2 i n) = dq m c n i := by
  simp only [V, hostOps0, List.flatten_cons, List.flatten_nil, List.cons_append, List.nil_append, List.append_nil]
  entry_read
  pointwise
  rfl

variable (t : Fin cfg0.N) (i : Fin 512) (j : Fin 1024)

theorem dq_blk (r : Fin 1024) : iblk m c 0 t (ix2 i r) = dq m c ⟨t.val * 1024 + r.val, by have := lt16 t; omega⟩ i := by
  have ht := lt16 t
  have h : iblk m c 0 t (ix2 i r) = V m c main_v0 (ix2 i ⟨t.val * 1024 + r.val, by omega⟩) := by blk_point [iblk, idx t]
  exact h.trans (dq_at m c i _)
theorem x_blk (r : Fin 1024) : iblk m c 1 t (ix2 r j) = x m c ⟨t.val * 1024 + r.val, by have := lt16 t; omega⟩ j := by
  unfold x
  blk_point [iblk, V, idx t]

/-- A step's share of the product. -/
def step (n : ℕ) : EReal := ∑ r : Fin 1024, share (dq m c · i) (x m c · j) (n * 1024 + r.val)

theorem step_at : (∑ r : Fin 1024, dq m c ⟨t.val * 1024 + r.val, by have := lt16 t; omega⟩ i * x m c ⟨t.val * 1024 + r.val, by have := lt16 t; omega⟩ j)
    = step m c i j t.val :=
  Finset.sum_congr rfl fun r _ => (share_fin (dq m c · i) (x m c · j) ⟨t.val * 1024 + r.val, by have := lt16 t; omega⟩).symm

theorem out_A (h : t.val % 16 = 0) : outsAt0 m c t.val t.isLt (ix2 i j) = step m c i j t.val := by
  rw [outsAt0_A m c t h, ← step_at]
  frame_out
  pointwise [k0_pay2, k0_pay1, dq_blk, x_blk]

theorem out_B (h : ¬ t.val % 16 = 0) : outsAt0 m c t.val t.isLt (ix2 i j)
    = outsAt0 m c (t.val - 1) (by omega) (ix2 i j) + step m c i j t.val := by
  rw [outsAt0_B m c t h, ← step_at]
  frame_out
  pointwise [k0_pay2, dq_blk, x_blk]

theorem out2 : ∀ n (h : n < cfg0.N), outsAt0 m c n h (ix2 i j) = ∑ s ∈ Finset.range (n + 1), step m c i j s :=
  carried (fun n h => outsAt0 m c n h (ix2 i j)) (step m c i j)
    (fun h => out_A m c ⟨0, h⟩ i j rfl)
    (fun n h => out_B m c ⟨n + 1, h⟩ i j (by have := lt16 ⟨n + 1, h⟩; simp only at this ⊢; omega))

theorem final2 : (dats m 0 c).arrAt 2 cfg0.N = fun y => ∑ n, dq m c n (y 0) * x m c n (y 1) := by
  refine (dats m 0 c).arrAt_eq_of_covers 2 _ (by decide +kernel) fun t hf y => ?_
  have ht : t.val = 15 := by
    have := (flush0_2 t).mp hf
    have := lt16 t
    omega
  blk_simp
  rw [after0_2]
  idx_vars y
  refine (out2 m c y0 y1 t.val t.isLt).trans ?_
  unfold step
  rw [ht, sum_steps (L := 16384) 16 1024 (share (dq m c · y0) (x m c · y1)) rfl]
  refine (Finset.sum_congr rfl fun n _ => share_fin _ _ n).trans ?_
  refine congrArg₂ (fun i j => ∑ n, dq m c n i * x m c n j) (Fin.ext ?_) (Fin.ext ?_)
  · blk_ext [idx t]
  · blk_ext [idx t]

end Cert.TokIdeal.Sem
end
-- ==== Proof.Tok.Ref.lean ====
/- The reference of a product over the tokens: the derivative of a product in its second factor, turned. -/
module
public import proofs.«01_k».proof.Proof.Gen.TokRefIdeal.Read
public import proofs.«01_k».proof.Proof.Prod.Spec
public import Idealize.ShloMosaic.Lib.Pointwise
@[expose] public section
set_option maxRecDepth 16384

noncomputable section

namespace Cert.TokRefIdeal.Sem

open Cert.TokRefIdeal Cert.TokRefIdeal.Gen Cert.TokRefIdeal.Read Idealize.ShloMosaic
open Cert.Step.Prod

theorem out_at (dq : FVec Ideal S16384x512 .f32) (x : FVec Ideal S16384x1024 .f32) (i : Fin 512) (j : Fin 1024) :
    val_main_v4 (F := Ideal) dq x (ix2 i j) = ∑ n, dq (ix2 n i) * x (ix2 n j) := by
  pointwise [val_main_v4, val_main_v3, val_main_v2]

end Cert.TokRefIdeal.Sem
end
-- ==== Proof.Tok.Claim.lean ====
/- The claim of a product over the tokens: both programs leave the same array, of any arguments. -/
module
public import proofs.«01_k».proof.Defs
public import proofs.«01_k».proof.Proof.Gen.Tok
public import proofs.«01_k».proof.Proof.Gen.Tok.Frame
public import proofs.«01_k».proof.Proof.Gen.TokIdeal
public import proofs.«01_k».proof.Proof.Gen.TokRefIdeal
public import proofs.«01_k».proof.Proof.Gen.TokRefIdeal.Run
public import proofs.«01_k».proof.Proof.Tok.Kern
public import proofs.«01_k».proof.Proof.Tok.Ref
@[expose] public section
set_option maxRecDepth 1000000

noncomputable section

namespace Cert.Step.Tok

open Idealize.ShloMosaic Idealize.SL.Sem

theorem algebraic : Cert.algebraic_TokIdeal_TokRefIdeal (hTokIdeal := Cert.TokIdeal.Gen.facts)
    (hTokRefIdeal := Cert.TokRefIdeal.Gen.facts) := by
  pair_intro
  · run_from Cert.TokIdeal.Value.run_blocks m g
  · run_from Cert.TokRefIdeal.Value.run m' g'
    · refine (Cert.TokRefIdeal.Read.val_main_v4_eq _ _).trans (Eq.trans ?_ (Cert.TokIdeal.Sem.final2 m c).symm)
      funext i
      exact (congrArg _ (ix2_eta i).symm).trans (Cert.TokRefIdeal.Sem.out_at _ _ (i 0) (i 1))

end Cert.Step.Tok
end
-- ==== Proof.Wgt.Kern.lean ====
/- The kernel of a weight's gradient, its columns in four parts, one for each chip: the sum of a part's steps so far, and
   the result after the run. -/
module
public import proofs.«01_k».proof.Proof.Gen.WgtIdeal.Value
public import proofs.«01_k».proof.Proof.Prod.Spec
public import proofs.«01_k».proof.Proof.Steps
public import Idealize.ShloMosaic.Lib.WritesUnit
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384

noncomputable section

namespace Cert.WgtIdeal.Sem

open Cert.WgtIdeal Cert.WgtIdeal.Gen Idealize.ShloMosaic Idealize.ShloMosaic.TcCoe Idealize.SL.Sem
open Idealize.ShloMosaic.Pipeline (Dat)
open Cert.Step Cert.Step.Prod

variable (m : (ℓ : Loc nD τ sig) → Buf (Elt Ideal) ℓ) (c : Dev nD)

def x (n : Fin 16384) (i : Fin 1024) : EReal := m ((c : Thread nD τ).loc main_arg0) (ix2 n i)
def d (n : Fin 16384) (q : Fin 5632) : EReal := m ((c : Thread nD τ).loc main_arg1) (ix2 n q)

theorem lt32 (t : Fin cfg0.N) : t.val < 32 := t.isLt.trans_eq (by decide +kernel : cfg0.N = 32)

theorem idx : ∀ t : Fin cfg0.N, win0_0.index t = ![t.val % 8, 0] ∧ win0_1.index t = ![t.val % 8, t.val / 8] ∧ win0_2.index t = ![t.val / 8, 0, 0] :=
  (by decide +kernel : ∀ t : Fin grid0.N, _)

theorem d_at (n : Fin 16384) (q : Fin 5632) : V m c main_v0 (ix2 n q) = d m c n q := by
  simp only [V, hostOps0, List.flatten_cons, List.flatten_nil, List.cons_append, List.nil_append, List.append_nil]
  entry_read
  pointwise
  rfl

/-- A part's column. -/
def part (e : ℕ) (j : Fin 1408) : Fin 5632 := if h : e < 4 then ⟨e * 1408 + j.val, by omega⟩ else ⟨j.val, by omega⟩

variable (t : Fin cfg0.N) (i : Fin 1024) (j : Fin 1408)

theorem x_blk (r : Fin 2048) : iblk m c 0 t (ix2 r i) = x m c ⟨t.val % 8 * 2048 + r.val, by omega⟩ i := by
  unfold x
  blk_point [iblk, V, idx t]
theorem d_blk (r : Fin 2048) : iblk m c 1 t (ix2 r j) = d m c ⟨t.val % 8 * 2048 + r.val, by omega⟩ (part (t.val / 8) j) := by
  have ht : t.val / 8 < 4 := by have := lt32 t; omega
  have h : iblk m c 1 t (ix2 r j) = V m c main_v0 (ix2 ⟨t.val % 8 * 2048 + r.val, by omega⟩ ⟨t.val / 8 * 1408 + j.val, by omega⟩) := by blk_point [iblk, idx t]
  rw [part, dif_pos ht]
  exact h.trans (d_at m c _ _)

/-- A step's share of a part of the product. -/
def step (e n : ℕ) : EReal := ∑ r : Fin 2048, share (x m c · i) (d m c · (part e j)) (n * 2048 + r.val)

theorem step_at : (∑ r : Fin 2048, x m c ⟨t.val % 8 * 2048 + r.val, by omega⟩ i * d m c ⟨t.val % 8 * 2048 + r.val, by omega⟩ (part (t.val / 8) j))
    = step m c i j (t.val / 8) (t.val % 8) :=
  Finset.sum_congr rfl fun r _ => (share_fin (x m c · i) (d m c · (part (t.val / 8) j)) ⟨t.val % 8 * 2048 + r.val, by omega⟩).symm

theorem out_A (h : t.val % 8 = 0) : outsAt0 m c t.val t.isLt (ix3 0 i j) = step m c i j (t.val / 8) (t.val % 8) := by
  rw [outsAt0_A m c t h, ← step_at]
  frame_out
  pointwise [k0_pay2, k0_pay1, x_blk, d_blk]

theorem out_B (h : ¬ t.val % 8 = 0) : outsAt0 m c t.val t.isLt (ix3 0 i j)
    = outsAt0 m c (t.val - 1) (by omega) (ix3 0 i j) + step m c i j (t.val / 8) (t.val % 8) := by
  rw [outsAt0_B m c t h, ← step_at]
  frame_out
  pointwise [k0_pay2, x_blk, d_blk]

theorem out2 : ∀ n (h : n < cfg0.N), outsAt0 m c n h (ix3 0 i j) = ∑ s ∈ Finset.range (n % 8 + 1), step m c i j (n / 8) s
  | 0, h => by
    rw [Finset.sum_range_one]
    exact out_A m c ⟨0, h⟩ i j rfl
  | n + 1, h => by
    by_cases h0 : (n + 1) % 8 = 0
    · refine (out_A m c ⟨n + 1, h⟩ i j h0).trans ?_
      simp only [h0, zero_add, Finset.sum_range_one]
    · refine (out_B m c ⟨n + 1, h⟩ i j h0).trans ?_
      have e : (n + 1) % 8 = n % 8 + 1 := by omega
      have f : (n + 1) / 8 = n / 8 := by omega
      simp only [e, f]
      rw [Finset.sum_range_succ _ (n % 8 + 1), ← out2 n (by omega)]
      rfl

theorem final2 : (dats m 0 c).arrAt 2 cfg0.N = fun y => ∑ n, x m c n (y 1) * d m c n (part (y 0).val (y 2)) := by
  refine (dats m 0 c).arrAt_eq_of_covers 2 _ (by decide +kernel) fun t hf y => ?_
  have ht : t.val % 8 = 7 := (flush0_2 t).mp hf
  blk_simp
  rw [after0_2]
  idx_vars y
  obtain rfl : y0 = 0 := Subsingleton.elim _ _
  refine (out2 m c y1 y2 t.val t.isLt).trans ?_
  unfold step
  rw [ht, sum_steps (L := 16384) 8 2048 (share (x m c · y1) (d m c · (part (t.val / 8) y2))) rfl]
  refine (Finset.sum_congr rfl fun n _ => share_fin _ _ n).trans ?_
  have ht4 : t.val / 8 < 4 := by have := lt32 t; omega
  refine congrArg₂ (fun i q => ∑ n, x m c n i * d m c n q) (Fin.ext ?_) ?_
  · blk_ext [idx t]
  · refine congrArg₂ part ?_ (Fin.ext ?_)
    · blk_ext [idx t]
    · blk_ext [idx t]

end Cert.WgtIdeal.Sem
end
-- ==== Proof.Wgt.Ref.lean ====
/- The reference of a weight's gradient: the derivative of a product in its second factor, its columns in four parts. -/
module
public import proofs.«01_k».proof.Proof.Gen.WgtRefIdeal.Read
public import proofs.«01_k».proof.Proof.Prod.Spec
public import Idealize.ShloMosaic.Lib.Pointwise
@[expose] public section
set_option maxRecDepth 16384

noncomputable section

namespace Cert.WgtRefIdeal.Sem

open Cert.WgtRefIdeal Cert.WgtRefIdeal.Gen Cert.WgtRefIdeal.Read Idealize.ShloMosaic
open Cert.Step.Prod

variable (x : FVec Ideal S16384x1024 .f32) (d : FVec Ideal S16384x5632 .f32) (k : Fin 1024)

theorem grad_at (q : Fin 5632) : val_main_v3 (F := Ideal) x d (ix2 k q) = ∑ n, x (ix2 n k) * d (ix2 n q) := by
  pointwise [val_main_v3, val_main_v2]
  exact Finset.sum_congr rfl fun n _ => mul_comm _ _

theorem out_at (e : Fin 4) (j : Fin 1408) : val_main_v5 (F := Ideal) x d (ix3 e k j)
    = ∑ n, x (ix2 n k) * d (ix2 n ⟨e.val * 1408 + j.val, by omega⟩) := by
  rw [val_main_v5_apply, val_main_v4_apply]
  refine Eq.trans (congrArg _ ?_) (grad_at x d k _)
  funext a
  match a with
  | ⟨0, _⟩ =>
    apply Fin.ext
    change ((k.val * 4 + e.val) * 1408 + j.val) / 5632 = k.val
    omega
  | ⟨1, _⟩ =>
    apply Fin.ext
    change ((k.val * 4 + e.val) * 1408 + j.val) % 5632 = e.val * 1408 + j.val
    omega

end Cert.WgtRefIdeal.Sem
end
-- ==== Proof.Wgt.Claim.lean ====
/- The claim of a weight's gradient: both programs leave the same array, of any arguments. -/
module
public import proofs.«01_k».proof.Defs
public import proofs.«01_k».proof.Proof.Gen.Wgt
public import proofs.«01_k».proof.Proof.Gen.Wgt.Frame
public import proofs.«01_k».proof.Proof.Gen.WgtIdeal
public import proofs.«01_k».proof.Proof.Gen.WgtRefIdeal
public import proofs.«01_k».proof.Proof.Gen.WgtRefIdeal.Run
public import proofs.«01_k».proof.Proof.Wgt.Kern
public import proofs.«01_k».proof.Proof.Wgt.Ref
@[expose] public section
set_option maxRecDepth 1000000

noncomputable section

namespace Cert.Step.Wgt

open Idealize.ShloMosaic Idealize.SL.Sem

theorem algebraic : Cert.algebraic_WgtIdeal_WgtRefIdeal (hWgtIdeal := Cert.WgtIdeal.Gen.facts)
    (hWgtRefIdeal := Cert.WgtRefIdeal.Gen.facts) := by
  pair_intro
  · run_from Cert.WgtIdeal.Value.run_blocks m g
  · run_from Cert.WgtRefIdeal.Value.run m' g'
    · refine (Cert.WgtRefIdeal.Read.val_main_v5_eq _ _).trans (Eq.trans ?_ (Cert.WgtIdeal.Sem.final2 m c).symm)
      funext i
      refine ((congrArg _ (ix3_eta i).symm).trans (Cert.WgtRefIdeal.Sem.out_at _ _ (i 1) (i 0) (i 2))).trans ?_
      have e : Cert.WgtIdeal.Sem.part (i 0).val (i 2) = ⟨(i 0).val * 1408 + (i 2).val, by have := (i 0).isLt; have := (i 2).isLt; simp at *; omega⟩ := dif_pos (i 0).isLt
      simp only [e]
      rfl

end Cert.Step.Wgt
end
-- ==== Proof.lean ====
module

public import proofs.«01_k».proof.Defs
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Conv.Claim
public import proofs.«01_k».proof.Proof.Gen.Forget
public import proofs.«01_k».proof.Proof.Gen.Forget.Frame
public import proofs.«01_k».proof.Proof.Gen.ForgetIdeal
public import proofs.«01_k».proof.Proof.Gen.ForgetIdeal.Frame
public import proofs.«01_k».proof.Proof.Gen.ForgetIdeal.Value
public import proofs.«01_k».proof.Proof.Gen.ForgetRefIdeal
public import proofs.«01_k».proof.Proof.Gen.ForgetRefIdeal.Run
public import proofs.«01_k».proof.Proof.Gen.ForgetRefIdeal.Read
public import proofs.«01_k».proof.Proof.Forget.Claim
public import proofs.«01_k».proof.Proof.Gen.Attn
public import proofs.«01_k».proof.Proof.Gen.AttnIdeal
public import proofs.«01_k».proof.Proof.Gen.AttnRefIdeal
public import proofs.«01_k».proof.Proof.Gen.AttnRefIdeal.Run
public import proofs.«01_k».proof.Proof.Gen.AttnRefIdeal.Read
public import proofs.«01_k».proof.Proof.Attn.Run
public import proofs.«01_k».proof.Proof.AttnIdeal.Run
public import proofs.«01_k».proof.Proof.AttnIdeal.Claim
public import proofs.«01_k».proof.Proof.Gen.Ple
public import proofs.«01_k».proof.Proof.Gen.Ple.Frame
public import proofs.«01_k».proof.Proof.Gen.PleIdeal
public import proofs.«01_k».proof.Proof.Gen.PleIdeal.Frame
public import proofs.«01_k».proof.Proof.Gen.PleIdeal.Value
public import proofs.«01_k».proof.Proof.Gen.PleRefIdeal
public import proofs.«01_k».proof.Proof.Gen.PleRefIdeal.Run
public import proofs.«01_k».proof.Proof.Gen.PleRefIdeal.Read
public import proofs.«01_k».proof.Proof.Ple.Claim
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Ffn.Claim
public import proofs.«01_k».proof.Proof.Gen.Fwd
public import proofs.«01_k».proof.Proof.Gen.FwdIdeal
public import proofs.«01_k».proof.Proof.Gen.FwdRefIdeal
public import proofs.«01_k».proof.Proof.Gen.FwdRefIdeal.Run
public import proofs.«01_k».proof.Proof.Gen.FwdRefIdeal.Read
public import proofs.«01_k».proof.Proof.Fwd.Run
public import proofs.«01_k».proof.Proof.FwdIdeal.Run
public import proofs.«01_k».proof.Proof.FwdIdeal.Claim
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Mix.Claim
public import proofs.«01_k».proof.Proof.Gen.Cum
public import proofs.«01_k».proof.Proof.Gen.Cum.Frame
public import proofs.«01_k».proof.Proof.Gen.CumIdeal
public import proofs.«01_k».proof.Proof.Gen.CumIdeal.Frame
public import proofs.«01_k».proof.Proof.Gen.CumIdeal.Value
public import proofs.«01_k».proof.Proof.Gen.CumRefIdeal
public import proofs.«01_k».proof.Proof.Gen.CumRefIdeal.Run
public import proofs.«01_k».proof.Proof.Gen.CumRefIdeal.Read
public import proofs.«01_k».proof.Proof.Cum.Claim
public import proofs.«01_k».proof.Proof.Gen.Adam
public import proofs.«01_k».proof.Proof.Gen.Adam.Frame
public import proofs.«01_k».proof.Proof.Gen.AdamIdeal
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.Gen.AdamRefIdeal.Read
public import proofs.«01_k».proof.Proof.Adam.Claim
public import proofs.«01_k».proof.Proof.Gen.Ffw
public import proofs.«01_k».proof.Proof.Gen.Ffw.Frame
public import proofs.«01_k».proof.Proof.Gen.FfwIdeal
public import proofs.«01_k».proof.Proof.Gen.FfwIdeal.Frame
public import proofs.«01_k».proof.Proof.Gen.FfwIdeal.Value
public import proofs.«01_k».proof.Proof.Gen.FfwRefIdeal
public import proofs.«01_k».proof.Proof.Gen.FfwRefIdeal.Run
public import proofs.«01_k».proof.Proof.Gen.FfwRefIdeal.Read
public import proofs.«01_k».proof.Proof.Ffw.Claim
public import proofs.«01_k».proof.Proof.Gen.Mtf
public import proofs.«01_k».proof.Proof.Gen.Mtf.Frame
public import proofs.«01_k».proof.Proof.Gen.MtfIdeal
public import proofs.«01_k».proof.Proof.Gen.MtfIdeal.Frame
public import proofs.«01_k».proof.Proof.Gen.MtfIdeal.Value
public import proofs.«01_k».proof.Proof.Gen.MtfRefIdeal
public import proofs.«01_k».proof.Proof.Gen.MtfRefIdeal.Run
public import proofs.«01_k».proof.Proof.Gen.MtfRefIdeal.Read
public import proofs.«01_k».proof.Proof.Mtf.Claim
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Proj.Claim
public import proofs.«01_k».proof.Proof.Gen.Tok
public import proofs.«01_k».proof.Proof.Gen.Tok.Frame
public import proofs.«01_k».proof.Proof.Gen.TokIdeal
public import proofs.«01_k».proof.Proof.Gen.TokIdeal.Frame
public import proofs.«01_k».proof.Proof.Gen.TokIdeal.Value
public import proofs.«01_k».proof.Proof.Gen.TokRefIdeal
public import proofs.«01_k».proof.Proof.Gen.TokRefIdeal.Run
public import proofs.«01_k».proof.Proof.Gen.TokRefIdeal.Read
public import proofs.«01_k».proof.Proof.Tok.Claim
public import proofs.«01_k».proof.Proof.Gen.Wgt
public import proofs.«01_k».proof.Proof.Gen.Wgt.Frame
public import proofs.«01_k».proof.Proof.Gen.WgtIdeal
public import proofs.«01_k».proof.Proof.Gen.WgtIdeal.Frame
public import proofs.«01_k».proof.Proof.Gen.WgtIdeal.Value
public import proofs.«01_k».proof.Proof.Gen.WgtRefIdeal
public import proofs.«01_k».proof.Proof.Gen.WgtRefIdeal.Run
public import proofs.«01_k».proof.Proof.Gen.WgtRefIdeal.Read
public import proofs.«01_k».proof.Proof.Wgt.Claim
public import Idealize.ShloMosaic.Adequacy
public import Idealize.ShloMosaic.Init

@[expose] public section

noncomputable section

namespace Cert.Proof

open Idealize.ShloMosaic Idealize.SL.Sem

theorem claim : Cert.Claim :=
  ⟨Cert.Conv.Gen.facts, Cert.ConvIdeal.Gen.facts, Cert.ConvRefIdeal.Gen.facts, Cert.Forget.Gen.facts, Cert.ForgetIdeal.Gen.facts, Cert.ForgetRefIdeal.Gen.facts, Cert.Attn.Gen.facts, Cert.AttnIdeal.Gen.facts, Cert.AttnRefIdeal.Gen.facts, Cert.Ple.Gen.facts, Cert.PleIdeal.Gen.facts, Cert.PleRefIdeal.Gen.facts, Cert.Ffn.Gen.facts, Cert.FfnIdeal.Gen.facts, Cert.FfnRefIdeal.Gen.facts, Cert.Fwd.Gen.facts, Cert.FwdIdeal.Gen.facts, Cert.FwdRefIdeal.Gen.facts, Cert.Mix.Gen.facts, Cert.MixIdeal.Gen.facts, Cert.MixRefIdeal.Gen.facts, Cert.Cum.Gen.facts, Cert.CumIdeal.Gen.facts, Cert.CumRefIdeal.Gen.facts, Cert.Adam.Gen.facts, Cert.AdamIdeal.Gen.facts, Cert.AdamRefIdeal.Gen.facts, Cert.Ffw.Gen.facts, Cert.FfwIdeal.Gen.facts, Cert.FfwRefIdeal.Gen.facts, Cert.Mtf.Gen.facts, Cert.MtfIdeal.Gen.facts, Cert.MtfRefIdeal.Gen.facts, Cert.Proj.Gen.facts, Cert.ProjIdeal.Gen.facts, Cert.ProjRefIdeal.Gen.facts, Cert.Tok.Gen.facts, Cert.TokIdeal.Gen.facts, Cert.TokRefIdeal.Gen.facts, Cert.Wgt.Gen.facts, Cert.WgtIdeal.Gen.facts, Cert.WgtRefIdeal.Gen.facts, Cert.AttnIdeal.Sem.prefacts, Cert.Step.Ple.prefacts, Cert.Step.Ffn.prefacts, Cert.FwdIdeal.Sem.prefacts,
  fun m ρ _ => Cert.Conv.Gen.frame m ρ,
  fun m ρ _ => Cert.ConvIdeal.Gen.frame m ρ,
  fun m ρ _ => (θ_run Cert.ConvRefIdeal.defs _ _).mono (fun r h => ⟨fun c => (h c).2.2, Idealize.ShloMosaic.sem_eq_zero_of_no_sems (by decide) r.2⟩)
    (Cert.ConvRefIdeal.Value.run m ρ),
  fun m ρ _ => Cert.Forget.Gen.frame m ρ,
  fun m ρ _ => Cert.ForgetIdeal.Gen.frame m ρ,
  fun m ρ _ => (θ_run Cert.ForgetRefIdeal.defs _ _).mono (fun r h => ⟨fun c => (h c).2.2, Idealize.ShloMosaic.sem_eq_zero_of_no_sems (by decide) r.2⟩)
    (Cert.ForgetRefIdeal.Value.run m ρ),
  fun m ρ _ => Cert.Attn.Body.frame m ρ,
  fun m ρ _ => Cert.AttnIdeal.Body.frame m ρ,
  fun m ρ _ => Cert.AttnIdeal.Body.frame m ρ,
  fun m ρ _ => (θ_run Cert.AttnRefIdeal.defs _ _).mono (fun r h => ⟨fun c => (h c).2.2.2.2.2, Idealize.ShloMosaic.sem_eq_zero_of_no_sems (by decide) r.2⟩)
    (Cert.AttnRefIdeal.Value.run m ρ),
  fun m ρ _ => (θ_run Cert.AttnRefIdeal.defs _ _).mono (fun r h => ⟨fun c => (h c).2.2.2.2.2, Idealize.ShloMosaic.sem_eq_zero_of_no_sems (by decide) r.2⟩)
    (Cert.AttnRefIdeal.Value.run m ρ),
  fun m ρ _ => Cert.Ple.Gen.frame m ρ,
  fun m ρ _ => Cert.PleIdeal.Gen.frame m ρ,
  fun m ρ _ => Cert.PleIdeal.Gen.frame m ρ,
  fun m ρ _ => (θ_run Cert.PleRefIdeal.defs _ _).mono (fun r h => ⟨fun c => (h c).2.2.2.2.2.2.2, Idealize.ShloMosaic.sem_eq_zero_of_no_sems (by decide) r.2⟩)
    (Cert.PleRefIdeal.Value.run m ρ),
  fun m ρ _ => (θ_run Cert.PleRefIdeal.defs _ _).mono (fun r h => ⟨fun c => (h c).2.2.2.2.2.2.2, Idealize.ShloMosaic.sem_eq_zero_of_no_sems (by decide) r.2⟩)
    (Cert.PleRefIdeal.Value.run m ρ),
  fun m ρ _ => Cert.Ffn.Gen.frame m ρ,
  fun m ρ _ => Cert.FfnIdeal.Gen.frame m ρ,
  fun m ρ _ => Cert.FfnIdeal.Gen.frame m ρ,
  fun m ρ _ => (θ_run Cert.FfnRefIdeal.defs _ _).mono (fun r h => ⟨fun c => (h c).2.2.2.2.2, Idealize.ShloMosaic.sem_eq_zero_of_no_sems (by decide) r.2⟩)
    (Cert.FfnRefIdeal.Value.run m ρ),
  fun m ρ _ => (θ_run Cert.FfnRefIdeal.defs _ _).mono (fun r h => ⟨fun c => (h c).2.2.2.2.2, Idealize.ShloMosaic.sem_eq_zero_of_no_sems (by decide) r.2⟩)
    (Cert.FfnRefIdeal.Value.run m ρ),
  fun m ρ _ => Cert.Fwd.Body.frame m ρ,
  fun m ρ _ => Cert.FwdIdeal.Body.frame m ρ,
  fun m ρ _ => Cert.FwdIdeal.Body.frame m ρ,
  fun m ρ _ => (θ_run Cert.FwdRefIdeal.defs _ _).mono (fun r h => ⟨fun c => (h c).2.2, Idealize.ShloMosaic.sem_eq_zero_of_no_sems (by decide) r.2⟩)
    (Cert.FwdRefIdeal.Value.run m ρ),
  fun m ρ _ => (θ_run Cert.FwdRefIdeal.defs _ _).mono (fun r h => ⟨fun c => (h c).2.2, Idealize.ShloMosaic.sem_eq_zero_of_no_sems (by decide) r.2⟩)
    (Cert.FwdRefIdeal.Value.run m ρ),
  fun m ρ _ => Cert.Mix.Gen.frame m ρ,
  fun m ρ _ => Cert.MixIdeal.Gen.frame m ρ,
  fun m ρ _ => (θ_run Cert.MixRefIdeal.defs _ _).mono (fun r h => ⟨fun c => (h c).2, Idealize.ShloMosaic.sem_eq_zero_of_no_sems (by decide) r.2⟩)
    (Cert.MixRefIdeal.Value.run m ρ),
  fun m ρ _ => Cert.Cum.Gen.frame m ρ,
  fun m ρ _ => Cert.CumIdeal.Gen.frame m ρ,
  fun m ρ _ => (θ_run Cert.CumRefIdeal.defs _ _).mono (fun r h => ⟨fun c => (h c).2, Idealize.ShloMosaic.sem_eq_zero_of_no_sems (by decide) r.2⟩)
    (Cert.CumRefIdeal.Value.run m ρ),
  fun m ρ _ => Cert.Adam.Gen.frame m ρ,
  fun m ρ _ => Cert.AdamIdeal.Gen.frame m ρ,
  fun m ρ _ => (θ_run Cert.AdamRefIdeal.defs _ _).mono (fun r h => ⟨fun c => (h c).2.2.2.2, Idealize.ShloMosaic.sem_eq_zero_of_no_sems (by decide) r.2⟩)
    (Cert.AdamRefIdeal.Value.run m ρ),
  fun m ρ _ => Cert.Ffw.Gen.frame m ρ,
  fun m ρ _ => Cert.FfwIdeal.Gen.frame m ρ,
  fun m ρ _ => (θ_run Cert.FfwRefIdeal.defs _ _).mono (fun r h => ⟨fun c => (h c).2.2.2.2.2, Idealize.ShloMosaic.sem_eq_zero_of_no_sems (by decide) r.2⟩)
    (Cert.FfwRefIdeal.Value.run m ρ),
  fun m ρ _ => Cert.Mtf.Gen.frame m ρ,
  fun m ρ _ => Cert.MtfIdeal.Gen.frame m ρ,
  fun m ρ _ => (θ_run Cert.MtfRefIdeal.defs _ _).mono (fun r h => ⟨fun c => (h c).2.2.2, Idealize.ShloMosaic.sem_eq_zero_of_no_sems (by decide) r.2⟩)
    (Cert.MtfRefIdeal.Value.run m ρ),
  fun m ρ _ => Cert.Proj.Gen.frame m ρ,
  fun m ρ _ => Cert.ProjIdeal.Gen.frame m ρ,
  fun m ρ _ => (θ_run Cert.ProjRefIdeal.defs _ _).mono (fun r h => ⟨fun c => (h c).2, Idealize.ShloMosaic.sem_eq_zero_of_no_sems (by decide) r.2⟩)
    (Cert.ProjRefIdeal.Value.run m ρ),
  fun m ρ _ => Cert.Tok.Gen.frame m ρ,
  fun m ρ _ => Cert.TokIdeal.Gen.frame m ρ,
  fun m ρ _ => (θ_run Cert.TokRefIdeal.defs _ _).mono (fun r h => ⟨fun c => (h c).2, Idealize.ShloMosaic.sem_eq_zero_of_no_sems (by decide) r.2⟩)
    (Cert.TokRefIdeal.Value.run m ρ),
  fun m ρ _ => Cert.Wgt.Gen.frame m ρ,
  fun m ρ _ => Cert.WgtIdeal.Gen.frame m ρ,
  fun m ρ _ => (θ_run Cert.WgtRefIdeal.defs _ _).mono (fun r h => ⟨fun c => (h c).2, Idealize.ShloMosaic.sem_eq_zero_of_no_sems (by decide) r.2⟩)
    (Cert.WgtRefIdeal.Value.run m ρ),
  trivial,
  Cert.Step.Conv.algebraic,
  trivial,
  Cert.Step.Forget.algebraic,
  ⟨IdealRules.named_const.statement _ _ _ _ _ rfl, IdealRules.named_const.statement _ _ _ _ _ rfl⟩,
  Cert.AttnIdeal.Sem.algebraic,
  trivial,
  Cert.Step.Ple.algebraic,
  trivial,
  Cert.Step.Ffn.algebraic,
  ⟨IdealRules.named_const.statement _ _ _ _ _ rfl, IdealRules.named_const.statement _ _ _ _ _ rfl⟩,
  Cert.FwdIdeal.Sem.algebraic,
  trivial,
  Cert.Step.Mix.algebraic,
  IdealRules.named_const.statement _ _ _ _ _ rfl,
  Cert.Step.Cum.algebraic,
  trivial,
  Cert.Step.Adam.algebraic,
  trivial,
  Cert.Step.Ffw.algebraic,
  trivial,
  Cert.Step.Mtf.algebraic,
  trivial,
  Cert.Step.Proj.algebraic,
  trivial,
  Cert.Step.Tok.algebraic,
  trivial,
  Cert.Step.Wgt.algebraic⟩

end Cert.Proof

end
